-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_DownGrad (m : (ℓ : Loc Cert.DownGrad.nD Cert.DownGrad.τ Cert.DownGrad.sig) → Buf (Elt Bits) ℓ) : Prop :=
  True

def Pre_DownGradIdeal (m : (ℓ : Loc Cert.DownGradIdeal.nD Cert.DownGradIdeal.τ Cert.DownGradIdeal.sig) → Buf (Elt Ideal) ℓ) : Prop :=
  True

def Pre_DownGradReferenceIdeal (m : (ℓ : Loc Cert.DownGradReferenceIdeal.nD Cert.DownGradReferenceIdeal.τ Cert.DownGradReferenceIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradReferenceIdeal (m : (ℓ : Loc Cert.OutGradReferenceIdeal.nD Cert.OutGradReferenceIdeal.τ Cert.OutGradReferenceIdeal.sig) → Buf (Elt Ideal) ℓ) : Prop :=
  True

def Pre_MixGrad (m : (ℓ : Loc Cert.MixGrad.nD Cert.MixGrad.τ Cert.MixGrad.sig) → Buf (Elt Bits) ℓ) : Prop :=
  True

def Pre_MixGradIdeal (m : (ℓ : Loc Cert.MixGradIdeal.nD Cert.MixGradIdeal.τ Cert.MixGradIdeal.sig) → Buf (Elt Ideal) ℓ) : Prop :=
  True

def Pre_MixGradReferenceIdeal (m : (ℓ : Loc Cert.MixGradReferenceIdeal.nD Cert.MixGradReferenceIdeal.τ Cert.MixGradReferenceIdeal.sig) → Buf (Elt Ideal) ℓ) : Prop :=
  True

def Pre_RnnProjGrad (m : (ℓ : Loc Cert.RnnProjGrad.nD Cert.RnnProjGrad.τ Cert.RnnProjGrad.sig) → Buf (Elt Bits) ℓ) : Prop :=
  True

def Pre_RnnProjGradIdeal (m : (ℓ : Loc Cert.RnnProjGradIdeal.nD Cert.RnnProjGradIdeal.τ Cert.RnnProjGradIdeal.sig) → Buf (Elt Ideal) ℓ) : Prop :=
  True

def Pre_RnnProjGradReferenceIdeal (m : (ℓ : Loc Cert.RnnProjGradReferenceIdeal.nD Cert.RnnProjGradReferenceIdeal.τ Cert.RnnProjGradReferenceIdeal.sig) → Buf (Elt Ideal) ℓ) : Prop :=
  True

def Pre_AttnOutGrad (m : (ℓ : Loc Cert.AttnOutGrad.nD Cert.AttnOutGrad.τ Cert.AttnOutGrad.sig) → Buf (Elt Bits) ℓ) : Prop :=
  True

def Pre_AttnOutGradIdeal (m : (ℓ : Loc Cert.AttnOutGradIdeal.nD Cert.AttnOutGradIdeal.τ Cert.AttnOutGradIdeal.sig) → Buf (Elt Ideal) ℓ) : Prop :=
  True

def Pre_AttnOutGradReferenceIdeal (m : (ℓ : Loc Cert.AttnOutGradReferenceIdeal.nD Cert.AttnOutGradReferenceIdeal.τ Cert.AttnOutGradReferenceIdeal.sig) → Buf (Elt Ideal) ℓ) : Prop :=
  True

def Pre_RnnOutGrad (m : (ℓ : Loc Cert.RnnOutGrad.nD Cert.RnnOutGrad.τ Cert.RnnOutGrad.sig) → Buf (Elt Bits) ℓ) : Prop :=
  True

def Pre_RnnOutGradIdeal (m : (ℓ : Loc Cert.RnnOutGradIdeal.nD Cert.RnnOutGradIdeal.τ Cert.RnnOutGradIdeal.sig) → Buf (Elt Ideal) ℓ) : Prop :=
  True

def Pre_RnnOutGradReferenceIdeal (m : (ℓ : Loc Cert.RnnOutGradReferenceIdeal.nD Cert.RnnOutGradReferenceIdeal.τ Cert.RnnOutGradReferenceIdeal.sig) → Buf (Elt Ideal) ℓ) : Prop :=
  True

def Pre_GateWGrad (m : (ℓ : Loc Cert.GateWGrad.nD Cert.GateWGrad.τ Cert.GateWGrad.sig) → Buf (Elt Bits) ℓ) : Prop :=
  True

def Pre_GateWGradIdeal (m : (ℓ : Loc Cert.GateWGradIdeal.nD Cert.GateWGradIdeal.τ Cert.GateWGradIdeal.sig) → Buf (Elt Ideal) ℓ) : Prop :=
  True

def Pre_GateWGradReferenceIdeal (m : (ℓ : Loc Cert.GateWGradReferenceIdeal.nD Cert.GateWGradReferenceIdeal.τ Cert.GateWGradReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutReferenceIdeal (m : (ℓ : Loc Cert.AttnOutReferenceIdeal.nD Cert.AttnOutReferenceIdeal.τ Cert.AttnOutReferenceIdeal.sig) → Buf (Elt Ideal) ℓ) : Prop :=
  True

def Pre_RnnOut (m : (ℓ : Loc Cert.RnnOut.nD Cert.RnnOut.τ Cert.RnnOut.sig) → Buf (Elt Bits) ℓ) : Prop :=
  True

def Pre_RnnOutIdeal (m : (ℓ : Loc Cert.RnnOutIdeal.nD Cert.RnnOutIdeal.τ Cert.RnnOutIdeal.sig) → Buf (Elt Ideal) ℓ) : Prop :=
  True

def Pre_RnnOutReferenceIdeal (m : (ℓ : Loc Cert.RnnOutReferenceIdeal.nD Cert.RnnOutReferenceIdeal.τ Cert.RnnOutReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_FinGrad (m : (ℓ : Loc Cert.FinGrad.nD Cert.FinGrad.τ Cert.FinGrad.sig) → Buf (Elt Bits) ℓ) : Prop :=
  True

def Pre_FinGradIdeal (m : (ℓ : Loc Cert.FinGradIdeal.nD Cert.FinGradIdeal.τ Cert.FinGradIdeal.sig) → Buf (Elt Ideal) ℓ) : Prop :=
  True

def Pre_FinGradReferenceIdeal (m : (ℓ : Loc Cert.FinGradReferenceIdeal.nD Cert.FinGradReferenceIdeal.τ Cert.FinGradReferenceIdeal.sig) → Buf (Elt Ideal) ℓ) : Prop :=
  True

def Pre_UpGrad (m : (ℓ : Loc Cert.UpGrad.nD Cert.UpGrad.τ Cert.UpGrad.sig) → Buf (Elt Bits) ℓ) : Prop :=
  True

def Pre_UpGradIdeal (m : (ℓ : Loc Cert.UpGradIdeal.nD Cert.UpGradIdeal.τ Cert.UpGradIdeal.sig) → Buf (Elt Ideal) ℓ) : Prop :=
  True

def Pre_UpGradReferenceIdeal (m : (ℓ : Loc Cert.UpGradReferenceIdeal.nD Cert.UpGradReferenceIdeal.τ Cert.UpGradReferenceIdeal.sig) → Buf (Elt Ideal) ℓ) : Prop :=
  True

def Pre_AttnProjGrad (m : (ℓ : Loc Cert.AttnProjGrad.nD Cert.AttnProjGrad.τ Cert.AttnProjGrad.sig) → Buf (Elt Bits) ℓ) : Prop :=
  True

def Pre_AttnProjGradIdeal (m : (ℓ : Loc Cert.AttnProjGradIdeal.nD Cert.AttnProjGradIdeal.τ Cert.AttnProjGradIdeal.sig) → Buf (Elt Ideal) ℓ) : Prop :=
  True

def Pre_AttnProjGradReferenceIdeal (m : (ℓ : Loc Cert.AttnProjGradReferenceIdeal.nD Cert.AttnProjGradReferenceIdeal.τ Cert.AttnProjGradReferenceIdeal.sig) → Buf (Elt Ideal) ℓ) : Prop :=
  True

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradReferenceIdeal (m : (ℓ : Loc Cert.InGradReferenceIdeal.nD Cert.InGradReferenceIdeal.τ Cert.InGradReferenceIdeal.sig) → Buf (Elt Ideal) ℓ) : Prop :=
  True

def Pre_UpInGrad (m : (ℓ : Loc Cert.UpInGrad.nD Cert.UpInGrad.τ Cert.UpInGrad.sig) → Buf (Elt Bits) ℓ) : Prop :=
  True

def Pre_UpInGradIdeal (m : (ℓ : Loc Cert.UpInGradIdeal.nD Cert.UpInGradIdeal.τ Cert.UpInGradIdeal.sig) → Buf (Elt Ideal) ℓ) : Prop :=
  True

def Pre_UpInGradReferenceIdeal (m : (ℓ : Loc Cert.UpInGradReferenceIdeal.nD Cert.UpInGradReferenceIdeal.τ Cert.UpInGradReferenceIdeal.sig) → Buf (Elt Ideal) ℓ) : Prop :=
  True

def Pre_GateInGrad (m : (ℓ : Loc Cert.GateInGrad.nD Cert.GateInGrad.τ Cert.GateInGrad.sig) → Buf (Elt Bits) ℓ) : Prop :=
  True

def Pre_GateInGradIdeal (m : (ℓ : Loc Cert.GateInGradIdeal.nD Cert.GateInGradIdeal.τ Cert.GateInGradIdeal.sig) → Buf (Elt Ideal) ℓ) : Prop :=
  True

def Pre_GateInGradReferenceIdeal (m : (ℓ : Loc Cert.GateInGradReferenceIdeal.nD Cert.GateInGradReferenceIdeal.τ Cert.GateInGradReferenceIdeal.sig) → Buf (Elt Ideal) ℓ) : Prop :=
  True

def Pre_XGrad (m : (ℓ : Loc Cert.XGrad.nD Cert.XGrad.τ Cert.XGrad.sig) → Buf (Elt Bits) ℓ) : Prop :=
  True

def Pre_XGradIdeal (m : (ℓ : Loc Cert.XGradIdeal.nD Cert.XGradIdeal.τ Cert.XGradIdeal.sig) → Buf (Elt Ideal) ℓ) : Prop :=
  True

def Pre_XGradReferenceIdeal (m : (ℓ : Loc Cert.XGradReferenceIdeal.nD Cert.XGradReferenceIdeal.τ Cert.XGradReferenceIdeal.sig) → Buf (Elt Ideal) ℓ) : Prop :=
  True

def Pre_NormGrad (m : (ℓ : Loc Cert.NormGrad.nD Cert.NormGrad.τ Cert.NormGrad.sig) → Buf (Elt Bits) ℓ) : Prop :=
  True

def Pre_NormGradIdeal (m : (ℓ : Loc Cert.NormGradIdeal.nD Cert.NormGradIdeal.τ Cert.NormGradIdeal.sig) → Buf (Elt Ideal) ℓ) : Prop :=
  True

def Pre_NormGradIdeal_finite_norm [hPre_finite_norm : Cert.Pre_finite_norm.Facts] (m : (ℓ : Loc Cert.NormGradIdeal.nD Cert.NormGradIdeal.τ Cert.NormGradIdeal.sig) → Buf (Elt Ideal) ℓ) : Prop :=
  ∀ c : Dev Cert.NormGradIdeal.nD,
    (Cert.Pre_finite_norm.fn (F := Ideal) (m ((c.tc : Thread Cert.NormGradIdeal.nD Cert.NormGradIdeal.τ).loc Cert.NormGradIdeal.main_arg0)) (m ((c.tc : Thread Cert.NormGradIdeal.nD Cert.NormGradIdeal.τ).loc Cert.NormGradIdeal.main_arg1)) (m ((c.tc : Thread Cert.NormGradIdeal.nD Cert.NormGradIdeal.τ).loc Cert.NormGradIdeal.main_arg2)) (m ((c.tc : Thread Cert.NormGradIdeal.nD Cert.NormGradIdeal.τ).loc Cert.NormGradIdeal.main_arg3)) (m ((c.tc : Thread Cert.NormGradIdeal.nD Cert.NormGradIdeal.τ).loc Cert.NormGradIdeal.main_arg4))) = (fun _ => 1#1)

def Pre_NormGradReferenceIdeal (m : (ℓ : Loc Cert.NormGradReferenceIdeal.nD Cert.NormGradReferenceIdeal.τ Cert.NormGradReferenceIdeal.sig) → Buf (Elt Ideal) ℓ) : Prop :=
  True

def Pre_NormGradReferenceIdeal_finite_norm [hPre_finite_norm : Cert.Pre_finite_norm.Facts] (m : (ℓ : Loc Cert.NormGradReferenceIdeal.nD Cert.NormGradReferenceIdeal.τ Cert.NormGradReferenceIdeal.sig) → Buf (Elt Ideal) ℓ) : Prop :=
  ∀ c : Dev Cert.NormGradReferenceIdeal.nD,
    (Cert.Pre_finite_norm.fn (F := Ideal) (m ((c.tc : Thread Cert.NormGradReferenceIdeal.nD Cert.NormGradReferenceIdeal.τ).loc Cert.NormGradReferenceIdeal.main_arg0)) (m ((c.tc : Thread Cert.NormGradReferenceIdeal.nD Cert.NormGradReferenceIdeal.τ).loc Cert.NormGradReferenceIdeal.main_arg1)) (m ((c.tc : Thread Cert.NormGradReferenceIdeal.nD Cert.NormGradReferenceIdeal.τ).loc Cert.NormGradReferenceIdeal.main_arg2)) (m ((c.tc : Thread Cert.NormGradReferenceIdeal.nD Cert.NormGradReferenceIdeal.τ).loc Cert.NormGradReferenceIdeal.main_arg3)) (m ((c.tc : Thread Cert.NormGradReferenceIdeal.nD Cert.NormGradReferenceIdeal.τ).loc Cert.NormGradReferenceIdeal.main_arg4))) = (fun _ => 1#1)

def Pre_GateGrad (m : (ℓ : Loc Cert.GateGrad.nD Cert.GateGrad.τ Cert.GateGrad.sig) → Buf (Elt Bits) ℓ) : Prop :=
  True

def Pre_GateGradIdeal (m : (ℓ : Loc Cert.GateGradIdeal.nD Cert.GateGradIdeal.τ Cert.GateGradIdeal.sig) → Buf (Elt Ideal) ℓ) : Prop :=
  True

def Pre_GateGradReferenceIdeal (m : (ℓ : Loc Cert.GateGradReferenceIdeal.nD Cert.GateGradReferenceIdeal.τ Cert.GateGradReferenceIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdReferenceIdeal (m : (ℓ : Loc Cert.NormFwdReferenceIdeal.nD Cert.NormFwdReferenceIdeal.τ Cert.NormFwdReferenceIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdIdeal_finite_inner [hPre_finite_inner : Cert.Pre_finite_inner.Facts] (m : (ℓ : Loc Cert.NormBwdIdeal.nD Cert.NormBwdIdeal.τ Cert.NormBwdIdeal.sig) → Buf (Elt Ideal) ℓ) : Prop :=
  ∀ c : Dev Cert.NormBwdIdeal.nD,
    (Cert.Pre_finite_inner.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5))) = (fun _ => 1#1)

def Pre_NormBwdReferenceIdeal (m : (ℓ : Loc Cert.NormBwdReferenceIdeal.nD Cert.NormBwdReferenceIdeal.τ Cert.NormBwdReferenceIdeal.sig) → Buf (Elt Ideal) ℓ) : Prop :=
  True

def Pre_NormBwdReferenceIdeal_finite_inner [hPre_finite_inner : Cert.Pre_finite_inner.Facts] (m : (ℓ : Loc Cert.NormBwdReferenceIdeal.nD Cert.NormBwdReferenceIdeal.τ Cert.NormBwdReferenceIdeal.sig) → Buf (Elt Ideal) ℓ) : Prop :=
  ∀ c : Dev Cert.NormBwdReferenceIdeal.nD,
    (Cert.Pre_finite_inner.fn (F := Ideal) (m ((c.tc : Thread Cert.NormBwdReferenceIdeal.nD Cert.NormBwdReferenceIdeal.τ).loc Cert.NormBwdReferenceIdeal.main_arg0)) (m ((c.tc : Thread Cert.NormBwdReferenceIdeal.nD Cert.NormBwdReferenceIdeal.τ).loc Cert.NormBwdReferenceIdeal.main_arg1)) (m ((c.tc : Thread Cert.NormBwdReferenceIdeal.nD Cert.NormBwdReferenceIdeal.τ).loc Cert.NormBwdReferenceIdeal.main_arg2)) (m ((c.tc : Thread Cert.NormBwdReferenceIdeal.nD Cert.NormBwdReferenceIdeal.τ).loc Cert.NormBwdReferenceIdeal.main_arg3)) (m ((c.tc : Thread Cert.NormBwdReferenceIdeal.nD Cert.NormBwdReferenceIdeal.τ).loc Cert.NormBwdReferenceIdeal.main_arg4)) (m ((c.tc : Thread Cert.NormBwdReferenceIdeal.nD Cert.NormBwdReferenceIdeal.τ).loc Cert.NormBwdReferenceIdeal.main_arg5))) = (fun _ => 1#1)

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdReferenceIdeal (m : (ℓ : Loc Cert.GateFwdReferenceIdeal.nD Cert.GateFwdReferenceIdeal.τ Cert.GateFwdReferenceIdeal.sig) → Buf (Elt Ideal) ℓ) : Prop :=
  True

def Pre_GateXGrad (m : (ℓ : Loc Cert.GateXGrad.nD Cert.GateXGrad.τ Cert.GateXGrad.sig) → Buf (Elt Bits) ℓ) : Prop :=
  True

def Pre_GateXGradIdeal (m : (ℓ : Loc Cert.GateXGradIdeal.nD Cert.GateXGradIdeal.τ Cert.GateXGradIdeal.sig) → Buf (Elt Ideal) ℓ) : Prop :=
  True

def Pre_GateXGradReferenceIdeal (m : (ℓ : Loc Cert.GateXGradReferenceIdeal.nD Cert.GateXGradReferenceIdeal.τ Cert.GateXGradReferenceIdeal.sig) → Buf (Elt Ideal) ℓ) : Prop :=
  True

def Pre_LruGates (m : (ℓ : Loc Cert.LruGates.nD Cert.LruGates.τ Cert.LruGates.sig) → Buf (Elt Bits) ℓ) : Prop :=
  True

def Pre_LruGatesIdeal (m : (ℓ : Loc Cert.LruGatesIdeal.nD Cert.LruGatesIdeal.τ Cert.LruGatesIdeal.sig) → Buf (Elt Ideal) ℓ) : Prop :=
  True

def Pre_LruGatesReferenceIdeal (m : (ℓ : Loc Cert.LruGatesReferenceIdeal.nD Cert.LruGatesReferenceIdeal.τ Cert.LruGatesReferenceIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWReferenceIdeal (m : (ℓ : Loc Cert.AdamWReferenceIdeal.nD Cert.AdamWReferenceIdeal.τ Cert.AdamWReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_DownGrad [hDownGrad : Cert.DownGrad.Facts] : Prop :=
  ∀ (m : (ℓ : Loc Cert.DownGrad.nD Cert.DownGrad.τ Cert.DownGrad.sig) → Buf (Elt Bits) ℓ) (g : Dev Cert.DownGrad.nD → PrngReg), Pre_DownGrad m →
    θ_run (Cert.DownGrad.defs (F := Bits)) (onTc (τ := Cert.DownGrad.τ) (Cert.DownGrad.main (F := Bits))) ⟨m, fun _ => 0, g⟩ (fun r => (∀ c : Dev Cert.DownGrad.nD,
      r.2.mem ((c.tc : Thread Cert.DownGrad.nD Cert.DownGrad.τ).loc Cert.DownGrad.main_arg0) = m ((c.tc : Thread Cert.DownGrad.nD Cert.DownGrad.τ).loc Cert.DownGrad.main_arg0)
      ∧ r.2.mem ((c.tc : Thread Cert.DownGrad.nD Cert.DownGrad.τ).loc Cert.DownGrad.main_arg1) = m ((c.tc : Thread Cert.DownGrad.nD Cert.DownGrad.τ).loc Cert.DownGrad.main_arg1))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ r.2.sem = fun _ => 0)

def quiescent_DownGradReferenceIdeal [hDownGradReferenceIdeal : Cert.DownGradReferenceIdeal.Facts] : Prop :=
  ∀ (m : (ℓ : Loc Cert.DownGradReferenceIdeal.nD Cert.DownGradReferenceIdeal.τ Cert.DownGradReferenceIdeal.sig) → Buf (Elt Ideal) ℓ) (g : Dev Cert.DownGradReferenceIdeal.nD → PrngReg), Pre_DownGradReferenceIdeal m →
    θ_run (Cert.DownGradReferenceIdeal.defs (F := Ideal)) (onTc (τ := Cert.DownGradReferenceIdeal.τ) (Cert.DownGradReferenceIdeal.main (F := Ideal))) ⟨m, fun _ => 0, g⟩ (fun r => (∀ c : Dev Cert.DownGradReferenceIdeal.nD,
      r.2.mem ((c.tc : Thread Cert.DownGradReferenceIdeal.nD Cert.DownGradReferenceIdeal.τ).loc Cert.DownGradReferenceIdeal.main_arg0) = m ((c.tc : Thread Cert.DownGradReferenceIdeal.nD Cert.DownGradReferenceIdeal.τ).loc Cert.DownGradReferenceIdeal.main_arg0)
      ∧ r.2.mem ((c.tc : Thread Cert.DownGradReferenceIdeal.nD Cert.DownGradReferenceIdeal.τ).loc Cert.DownGradReferenceIdeal.main_arg1) = m ((c.tc : Thread Cert.DownGradReferenceIdeal.nD Cert.DownGradReferenceIdeal.τ).loc Cert.DownGradReferenceIdeal.main_arg1))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ r.2.sem = fun _ => 0)

def quiescent_OutGradReferenceIdeal [hOutGradReferenceIdeal : Cert.OutGradReferenceIdeal.Facts] : Prop :=
  ∀ (m : (ℓ : Loc Cert.OutGradReferenceIdeal.nD Cert.OutGradReferenceIdeal.τ Cert.OutGradReferenceIdeal.sig) → Buf (Elt Ideal) ℓ) (g : Dev Cert.OutGradReferenceIdeal.nD → PrngReg), Pre_OutGradReferenceIdeal m →
    θ_run (Cert.OutGradReferenceIdeal.defs (F := Ideal)) (onTc (τ := Cert.OutGradReferenceIdeal.τ) (Cert.OutGradReferenceIdeal.main (F := Ideal))) ⟨m, fun _ => 0, g⟩ (fun r => (∀ c : Dev Cert.OutGradReferenceIdeal.nD,
      r.2.mem ((c.tc : Thread Cert.OutGradReferenceIdeal.nD Cert.OutGradReferenceIdeal.τ).loc Cert.OutGradReferenceIdeal.main_arg0) = m ((c.tc : Thread Cert.OutGradReferenceIdeal.nD Cert.OutGradReferenceIdeal.τ).loc Cert.OutGradReferenceIdeal.main_arg0)
      ∧ r.2.mem ((c.tc : Thread Cert.OutGradReferenceIdeal.nD Cert.OutGradReferenceIdeal.τ).loc Cert.OutGradReferenceIdeal.main_arg1) = m ((c.tc : Thread Cert.OutGradReferenceIdeal.nD Cert.OutGradReferenceIdeal.τ).loc Cert.OutGradReferenceIdeal.main_arg1))
      ∧ r.2.sem = fun _ => 0)

def quiescent_MixGrad [hMixGrad : Cert.MixGrad.Facts] : Prop :=
  ∀ (m : (ℓ : Loc Cert.MixGrad.nD Cert.MixGrad.τ Cert.MixGrad.sig) → Buf (Elt Bits) ℓ) (g : Dev Cert.MixGrad.nD → PrngReg), Pre_MixGrad m →
    θ_run (Cert.MixGrad.defs (F := Bits)) (onTc (τ := Cert.MixGrad.τ) (Cert.MixGrad.main (F := Bits))) ⟨m, fun _ => 0, g⟩ (fun r => (∀ c : Dev Cert.MixGrad.nD,
      r.2.mem ((c.tc : Thread Cert.MixGrad.nD Cert.MixGrad.τ).loc Cert.MixGrad.main_arg0) = m ((c.tc : Thread Cert.MixGrad.nD Cert.MixGrad.τ).loc Cert.MixGrad.main_arg0)
      ∧ r.2.mem ((c.tc : Thread Cert.MixGrad.nD Cert.MixGrad.τ).loc Cert.MixGrad.main_arg1) = m ((c.tc : Thread Cert.MixGrad.nD Cert.MixGrad.τ).loc Cert.MixGrad.main_arg1))
      ∧ r.2.sem = fun _ => 0)

def quiescent_MixGradIdeal [hMixGradIdeal : Cert.MixGradIdeal.Facts] : Prop :=
  ∀ (m : (ℓ : Loc Cert.MixGradIdeal.nD Cert.MixGradIdeal.τ Cert.MixGradIdeal.sig) → Buf (Elt Ideal) ℓ) (g : Dev Cert.MixGradIdeal.nD → PrngReg), Pre_MixGradIdeal m →
    θ_run (Cert.MixGradIdeal.defs (F := Ideal)) (onTc (τ := Cert.MixGradIdeal.τ) (Cert.MixGradIdeal.main (F := Ideal))) ⟨m, fun _ => 0, g⟩ (fun r => (∀ c : Dev Cert.MixGradIdeal.nD,
      r.2.mem ((c.tc : Thread Cert.MixGradIdeal.nD Cert.MixGradIdeal.τ).loc Cert.MixGradIdeal.main_arg0) = m ((c.tc : Thread Cert.MixGradIdeal.nD Cert.MixGradIdeal.τ).loc Cert.MixGradIdeal.main_arg0)
      ∧ r.2.mem ((c.tc : Thread Cert.MixGradIdeal.nD Cert.MixGradIdeal.τ).loc Cert.MixGradIdeal.main_arg1) = m ((c.tc : Thread Cert.MixGradIdeal.nD Cert.MixGradIdeal.τ).loc Cert.MixGradIdeal.main_arg1))
      ∧ r.2.sem = fun _ => 0)

def quiescent_MixGradReferenceIdeal [hMixGradReferenceIdeal : Cert.MixGradReferenceIdeal.Facts] : Prop :=
  ∀ (m : (ℓ : Loc Cert.MixGradReferenceIdeal.nD Cert.MixGradReferenceIdeal.τ Cert.MixGradReferenceIdeal.sig) → Buf (Elt Ideal) ℓ) (g : Dev Cert.MixGradReferenceIdeal.nD → PrngReg), Pre_MixGradReferenceIdeal m →
    θ_run (Cert.MixGradReferenceIdeal.defs (F := Ideal)) (onTc (τ := Cert.MixGradReferenceIdeal.τ) (Cert.MixGradReferenceIdeal.main (F := Ideal))) ⟨m, fun _ => 0, g⟩ (fun r => (∀ c : Dev Cert.MixGradReferenceIdeal.nD,
      r.2.mem ((c.tc : Thread Cert.MixGradReferenceIdeal.nD Cert.MixGradReferenceIdeal.τ).loc Cert.MixGradReferenceIdeal.main_arg0) = m ((c.tc : Thread Cert.MixGradReferenceIdeal.nD Cert.MixGradReferenceIdeal.τ).loc Cert.MixGradReferenceIdeal.main_arg0)
      ∧ r.2.mem ((c.tc : Thread Cert.MixGradReferenceIdeal.nD Cert.MixGradReferenceIdeal.τ).loc Cert.MixGradReferenceIdeal.main_arg1) = m ((c.tc : Thread Cert.MixGradReferenceIdeal.nD Cert.MixGradReferenceIdeal.τ).loc Cert.MixGradReferenceIdeal.main_arg1))
      ∧ r.2.sem = fun _ => 0)

def quiescent_RnnProjGrad [hRnnProjGrad : Cert.RnnProjGrad.Facts] : Prop :=
  ∀ (m : (ℓ : Loc Cert.RnnProjGrad.nD Cert.RnnProjGrad.τ Cert.RnnProjGrad.sig) → Buf (Elt Bits) ℓ) (g : Dev Cert.RnnProjGrad.nD → PrngReg), Pre_RnnProjGrad m →
    θ_run (Cert.RnnProjGrad.defs (F := Bits)) (onTc (τ := Cert.RnnProjGrad.τ) (Cert.RnnProjGrad.main (F := Bits))) ⟨m, fun _ => 0, g⟩ (fun r => (∀ c : Dev Cert.RnnProjGrad.nD,
      r.2.mem ((c.tc : Thread Cert.RnnProjGrad.nD Cert.RnnProjGrad.τ).loc Cert.RnnProjGrad.main_arg0) = m ((c.tc : Thread Cert.RnnProjGrad.nD Cert.RnnProjGrad.τ).loc Cert.RnnProjGrad.main_arg0)
      ∧ r.2.mem ((c.tc : Thread Cert.RnnProjGrad.nD Cert.RnnProjGrad.τ).loc Cert.RnnProjGrad.main_arg1) = m ((c.tc : Thread Cert.RnnProjGrad.nD Cert.RnnProjGrad.τ).loc Cert.RnnProjGrad.main_arg1))
      ∧ r.2.sem = fun _ => 0)

def quiescent_RnnProjGradIdeal [hRnnProjGradIdeal : Cert.RnnProjGradIdeal.Facts] : Prop :=
  ∀ (m : (ℓ : Loc Cert.RnnProjGradIdeal.nD Cert.RnnProjGradIdeal.τ Cert.RnnProjGradIdeal.sig) → Buf (Elt Ideal) ℓ) (g : Dev Cert.RnnProjGradIdeal.nD → PrngReg), Pre_RnnProjGradIdeal m →
    θ_run (Cert.RnnProjGradIdeal.defs (F := Ideal)) (onTc (τ := Cert.RnnProjGradIdeal.τ) (Cert.RnnProjGradIdeal.main (F := Ideal))) ⟨m, fun _ => 0, g⟩ (fun r => (∀ c : Dev Cert.RnnProjGradIdeal.nD,
      r.2.mem ((c.tc : Thread Cert.RnnProjGradIdeal.nD Cert.RnnProjGradIdeal.τ).loc Cert.RnnProjGradIdeal.main_arg0) = m ((c.tc : Thread Cert.RnnProjGradIdeal.nD Cert.RnnProjGradIdeal.τ).loc Cert.RnnProjGradIdeal.main_arg0)
      ∧ r.2.mem ((c.tc : Thread Cert.RnnProjGradIdeal.nD Cert.RnnProjGradIdeal.τ).loc Cert.RnnProjGradIdeal.main_arg1) = m ((c.tc : Thread Cert.RnnProjGradIdeal.nD Cert.RnnProjGradIdeal.τ).loc Cert.RnnProjGradIdeal.main_arg1))
      ∧ r.2.sem = fun _ => 0)

def quiescent_RnnProjGradReferenceIdeal [hRnnProjGradReferenceIdeal : Cert.RnnProjGradReferenceIdeal.Facts] : Prop :=
  ∀ (m : (ℓ : Loc Cert.RnnProjGradReferenceIdeal.nD Cert.RnnProjGradReferenceIdeal.τ Cert.RnnProjGradReferenceIdeal.sig) → Buf (Elt Ideal) ℓ) (g : Dev Cert.RnnProjGradReferenceIdeal.nD → PrngReg), Pre_RnnProjGradReferenceIdeal m →
    θ_run (Cert.RnnProjGradReferenceIdeal.defs (F := Ideal)) (onTc (τ := Cert.RnnProjGradReferenceIdeal.τ) (Cert.RnnProjGradReferenceIdeal.main (F := Ideal))) ⟨m, fun _ => 0, g⟩ (fun r => (∀ c : Dev Cert.RnnProjGradReferenceIdeal.nD,
      r.2.mem ((c.tc : Thread Cert.RnnProjGradReferenceIdeal.nD Cert.RnnProjGradReferenceIdeal.τ).loc Cert.RnnProjGradReferenceIdeal.main_arg0) = m ((c.tc : Thread Cert.RnnProjGradReferenceIdeal.nD Cert.RnnProjGradReferenceIdeal.τ).loc Cert.RnnProjGradReferenceIdeal.main_arg0)
      ∧ r.2.mem ((c.tc : Thread Cert.RnnProjGradReferenceIdeal.nD Cert.RnnProjGradReferenceIdeal.τ).loc Cert.RnnProjGradReferenceIdeal.main_arg1) = m ((c.tc : Thread Cert.RnnProjGradReferenceIdeal.nD Cert.RnnProjGradReferenceIdeal.τ).loc Cert.RnnProjGradReferenceIdeal.main_arg1))
      ∧ r.2.sem = fun _ => 0)

def quiescent_AttnOutGrad [hAttnOutGrad : Cert.AttnOutGrad.Facts] : Prop :=
  ∀ (m : (ℓ : Loc Cert.AttnOutGrad.nD Cert.AttnOutGrad.τ Cert.AttnOutGrad.sig) → Buf (Elt Bits) ℓ) (g : Dev Cert.AttnOutGrad.nD → PrngReg), Pre_AttnOutGrad m →
    θ_run (Cert.AttnOutGrad.defs (F := Bits)) (onTc (τ := Cert.AttnOutGrad.τ) (Cert.AttnOutGrad.main (F := Bits))) ⟨m, fun _ => 0, g⟩ (fun r => (∀ c : Dev Cert.AttnOutGrad.nD,
      r.2.mem ((c.tc : Thread Cert.AttnOutGrad.nD Cert.AttnOutGrad.τ).loc Cert.AttnOutGrad.main_arg0) = m ((c.tc : Thread Cert.AttnOutGrad.nD Cert.AttnOutGrad.τ).loc Cert.AttnOutGrad.main_arg0)
      ∧ r.2.mem ((c.tc : Thread Cert.AttnOutGrad.nD Cert.AttnOutGrad.τ).loc Cert.AttnOutGrad.main_arg1) = m ((c.tc : Thread Cert.AttnOutGrad.nD Cert.AttnOutGrad.τ).loc Cert.AttnOutGrad.main_arg1))
      ∧ r.2.sem = fun _ => 0)

def quiescent_AttnOutGradIdeal [hAttnOutGradIdeal : Cert.AttnOutGradIdeal.Facts] : Prop :=
  ∀ (m : (ℓ : Loc Cert.AttnOutGradIdeal.nD Cert.AttnOutGradIdeal.τ Cert.AttnOutGradIdeal.sig) → Buf (Elt Ideal) ℓ) (g : Dev Cert.AttnOutGradIdeal.nD → PrngReg), Pre_AttnOutGradIdeal m →
    θ_run (Cert.AttnOutGradIdeal.defs (F := Ideal)) (onTc (τ := Cert.AttnOutGradIdeal.τ) (Cert.AttnOutGradIdeal.main (F := Ideal))) ⟨m, fun _ => 0, g⟩ (fun r => (∀ c : Dev Cert.AttnOutGradIdeal.nD,
      r.2.mem ((c.tc : Thread Cert.AttnOutGradIdeal.nD Cert.AttnOutGradIdeal.τ).loc Cert.AttnOutGradIdeal.main_arg0) = m ((c.tc : Thread Cert.AttnOutGradIdeal.nD Cert.AttnOutGradIdeal.τ).loc Cert.AttnOutGradIdeal.main_arg0)
      ∧ r.2.mem ((c.tc : Thread Cert.AttnOutGradIdeal.nD Cert.AttnOutGradIdeal.τ).loc Cert.AttnOutGradIdeal.main_arg1) = m ((c.tc : Thread Cert.AttnOutGradIdeal.nD Cert.AttnOutGradIdeal.τ).loc Cert.AttnOutGradIdeal.main_arg1))
      ∧ r.2.sem = fun _ => 0)

def quiescent_AttnOutGradReferenceIdeal [hAttnOutGradReferenceIdeal : Cert.AttnOutGradReferenceIdeal.Facts] : Prop :=
  ∀ (m : (ℓ : Loc Cert.AttnOutGradReferenceIdeal.nD Cert.AttnOutGradReferenceIdeal.τ Cert.AttnOutGradReferenceIdeal.sig) → Buf (Elt Ideal) ℓ) (g : Dev Cert.AttnOutGradReferenceIdeal.nD → PrngReg), Pre_AttnOutGradReferenceIdeal m →
    θ_run (Cert.AttnOutGradReferenceIdeal.defs (F := Ideal)) (onTc (τ := Cert.AttnOutGradReferenceIdeal.τ) (Cert.AttnOutGradReferenceIdeal.main (F := Ideal))) ⟨m, fun _ => 0, g⟩ (fun r => (∀ c : Dev Cert.AttnOutGradReferenceIdeal.nD,
      r.2.mem ((c.tc : Thread Cert.AttnOutGradReferenceIdeal.nD Cert.AttnOutGradReferenceIdeal.τ).loc Cert.AttnOutGradReferenceIdeal.main_arg0) = m ((c.tc : Thread Cert.AttnOutGradReferenceIdeal.nD Cert.AttnOutGradReferenceIdeal.τ).loc Cert.AttnOutGradReferenceIdeal.main_arg0)
      ∧ r.2.mem ((c.tc : Thread Cert.AttnOutGradReferenceIdeal.nD Cert.AttnOutGradReferenceIdeal.τ).loc Cert.AttnOutGradReferenceIdeal.main_arg1) = m ((c.tc : Thread Cert.AttnOutGradReferenceIdeal.nD Cert.AttnOutGradReferenceIdeal.τ).loc Cert.AttnOutGradReferenceIdeal.main_arg1))
      ∧ r.2.sem = fun _ => 0)

def quiescent_RnnOutGrad [hRnnOutGrad : Cert.RnnOutGrad.Facts] : Prop :=
  ∀ (m : (ℓ : Loc Cert.RnnOutGrad.nD Cert.RnnOutGrad.τ Cert.RnnOutGrad.sig) → Buf (Elt Bits) ℓ) (g : Dev Cert.RnnOutGrad.nD → PrngReg), Pre_RnnOutGrad m →
    θ_run (Cert.RnnOutGrad.defs (F := Bits)) (onTc (τ := Cert.RnnOutGrad.τ) (Cert.RnnOutGrad.main (F := Bits))) ⟨m, fun _ => 0, g⟩ (fun r => (∀ c : Dev Cert.RnnOutGrad.nD,
      r.2.mem ((c.tc : Thread Cert.RnnOutGrad.nD Cert.RnnOutGrad.τ).loc Cert.RnnOutGrad.main_arg0) = m ((c.tc : Thread Cert.RnnOutGrad.nD Cert.RnnOutGrad.τ).loc Cert.RnnOutGrad.main_arg0)
      ∧ r.2.mem ((c.tc : Thread Cert.RnnOutGrad.nD Cert.RnnOutGrad.τ).loc Cert.RnnOutGrad.main_arg1) = m ((c.tc : Thread Cert.RnnOutGrad.nD Cert.RnnOutGrad.τ).loc Cert.RnnOutGrad.main_arg1))
      ∧ r.2.sem = fun _ => 0)

def quiescent_RnnOutGradIdeal [hRnnOutGradIdeal : Cert.RnnOutGradIdeal.Facts] : Prop :=
  ∀ (m : (ℓ : Loc Cert.RnnOutGradIdeal.nD Cert.RnnOutGradIdeal.τ Cert.RnnOutGradIdeal.sig) → Buf (Elt Ideal) ℓ) (g : Dev Cert.RnnOutGradIdeal.nD → PrngReg), Pre_RnnOutGradIdeal m →
    θ_run (Cert.RnnOutGradIdeal.defs (F := Ideal)) (onTc (τ := Cert.RnnOutGradIdeal.τ) (Cert.RnnOutGradIdeal.main (F := Ideal))) ⟨m, fun _ => 0, g⟩ (fun r => (∀ c : Dev Cert.RnnOutGradIdeal.nD,
      r.2.mem ((c.tc : Thread Cert.RnnOutGradIdeal.nD Cert.RnnOutGradIdeal.τ).loc Cert.RnnOutGradIdeal.main_arg0) = m ((c.tc : Thread Cert.RnnOutGradIdeal.nD Cert.RnnOutGradIdeal.τ).loc Cert.RnnOutGradIdeal.main_arg0)
      ∧ r.2.mem ((c.tc : Thread Cert.RnnOutGradIdeal.nD Cert.RnnOutGradIdeal.τ).loc Cert.RnnOutGradIdeal.main_arg1) = m ((c.tc : Thread Cert.RnnOutGradIdeal.nD Cert.RnnOutGradIdeal.τ).loc Cert.RnnOutGradIdeal.main_arg1))
      ∧ r.2.sem = fun _ => 0)

def quiescent_RnnOutGradReferenceIdeal [hRnnOutGradReferenceIdeal : Cert.RnnOutGradReferenceIdeal.Facts] : Prop :=
  ∀ (m : (ℓ : Loc Cert.RnnOutGradReferenceIdeal.nD Cert.RnnOutGradReferenceIdeal.τ Cert.RnnOutGradReferenceIdeal.sig) → Buf (Elt Ideal) ℓ) (g : Dev Cert.RnnOutGradReferenceIdeal.nD → PrngReg), Pre_RnnOutGradReferenceIdeal m →
    θ_run (Cert.RnnOutGradReferenceIdeal.defs (F := Ideal)) (onTc (τ := Cert.RnnOutGradReferenceIdeal.τ) (Cert.RnnOutGradReferenceIdeal.main (F := Ideal))) ⟨m, fun _ => 0, g⟩ (fun r => (∀ c : Dev Cert.RnnOutGradReferenceIdeal.nD,
      r.2.mem ((c.tc : Thread Cert.RnnOutGradReferenceIdeal.nD Cert.RnnOutGradReferenceIdeal.τ).loc Cert.RnnOutGradReferenceIdeal.main_arg0) = m ((c.tc : Thread Cert.RnnOutGradReferenceIdeal.nD Cert.RnnOutGradReferenceIdeal.τ).loc Cert.RnnOutGradReferenceIdeal.main_arg0)
      ∧ r.2.mem ((c.tc : Thread Cert.RnnOutGradReferenceIdeal.nD Cert.RnnOutGradReferenceIdeal.τ).loc Cert.RnnOutGradReferenceIdeal.main_arg1) = m ((c.tc : Thread Cert.RnnOutGradReferenceIdeal.nD Cert.RnnOutGradReferenceIdeal.τ).loc Cert.RnnOutGradReferenceIdeal.main_arg1))
      ∧ r.2.sem = fun _ => 0)

def quiescent_GateWGrad [hGateWGrad : Cert.GateWGrad.Facts] : Prop :=
  ∀ (m : (ℓ : Loc Cert.GateWGrad.nD Cert.GateWGrad.τ Cert.GateWGrad.sig) → Buf (Elt Bits) ℓ) (g : Dev Cert.GateWGrad.nD → PrngReg), Pre_GateWGrad m →
    θ_run (Cert.GateWGrad.defs (F := Bits)) (onTc (τ := Cert.GateWGrad.τ) (Cert.GateWGrad.main (F := Bits))) ⟨m, fun _ => 0, g⟩ (fun r => (∀ c : Dev Cert.GateWGrad.nD,
      r.2.mem ((c.tc : Thread Cert.GateWGrad.nD Cert.GateWGrad.τ).loc Cert.GateWGrad.main_arg0) = m ((c.tc : Thread Cert.GateWGrad.nD Cert.GateWGrad.τ).loc Cert.GateWGrad.main_arg0)
      ∧ r.2.mem ((c.tc : Thread Cert.GateWGrad.nD Cert.GateWGrad.τ).loc Cert.GateWGrad.main_arg1) = m ((c.tc : Thread Cert.GateWGrad.nD Cert.GateWGrad.τ).loc Cert.GateWGrad.main_arg1)
      ∧ r.2.mem ((c.tc : Thread Cert.GateWGrad.nD Cert.GateWGrad.τ).loc Cert.GateWGrad.main_arg2) = m ((c.tc : Thread Cert.GateWGrad.nD Cert.GateWGrad.τ).loc Cert.GateWGrad.main_arg2))
      ∧ r.2.sem = fun _ => 0)

def quiescent_GateWGradIdeal [hGateWGradIdeal : Cert.GateWGradIdeal.Facts] : Prop :=
  ∀ (m : (ℓ : Loc Cert.GateWGradIdeal.nD Cert.GateWGradIdeal.τ Cert.GateWGradIdeal.sig) → Buf (Elt Ideal) ℓ) (g : Dev Cert.GateWGradIdeal.nD → PrngReg), Pre_GateWGradIdeal m →
    θ_run (Cert.GateWGradIdeal.defs (F := Ideal)) (onTc (τ := Cert.GateWGradIdeal.τ) (Cert.GateWGradIdeal.main (F := Ideal))) ⟨m, fun _ => 0, g⟩ (fun r => (∀ c : Dev Cert.GateWGradIdeal.nD,
      r.2.mem ((c.tc : Thread Cert.GateWGradIdeal.nD Cert.GateWGradIdeal.τ).loc Cert.GateWGradIdeal.main_arg0) = m ((c.tc : Thread Cert.GateWGradIdeal.nD Cert.GateWGradIdeal.τ).loc Cert.GateWGradIdeal.main_arg0)
      ∧ r.2.mem ((c.tc : Thread Cert.GateWGradIdeal.nD Cert.GateWGradIdeal.τ).loc Cert.GateWGradIdeal.main_arg1) = m ((c.tc : Thread Cert.GateWGradIdeal.nD Cert.GateWGradIdeal.τ).loc Cert.GateWGradIdeal.main_arg1)
      ∧ r.2.mem ((c.tc : Thread Cert.GateWGradIdeal.nD Cert.GateWGradIdeal.τ).loc Cert.GateWGradIdeal.main_arg2) = m ((c.tc : Thread Cert.GateWGradIdeal.nD Cert.GateWGradIdeal.τ).loc Cert.GateWGradIdeal.main_arg2))
      ∧ r.2.sem = fun _ => 0)

def quiescent_GateWGradReferenceIdeal [hGateWGradReferenceIdeal : Cert.GateWGradReferenceIdeal.Facts] : Prop :=
  ∀ (m : (ℓ : Loc Cert.GateWGradReferenceIdeal.nD Cert.GateWGradReferenceIdeal.τ Cert.GateWGradReferenceIdeal.sig) → Buf (Elt Ideal) ℓ) (g : Dev Cert.GateWGradReferenceIdeal.nD → PrngReg), Pre_GateWGradReferenceIdeal m →
    θ_run (Cert.GateWGradReferenceIdeal.defs (F := Ideal)) (onTc (τ := Cert.GateWGradReferenceIdeal.τ) (Cert.GateWGradReferenceIdeal.main (F := Ideal))) ⟨m, fun _ => 0, g⟩ (fun r => (∀ c : Dev Cert.GateWGradReferenceIdeal.nD,
      r.2.mem ((c.tc : Thread Cert.GateWGradReferenceIdeal.nD Cert.GateWGradReferenceIdeal.τ).loc Cert.GateWGradReferenceIdeal.main_arg0) = m ((c.tc : Thread Cert.GateWGradReferenceIdeal.nD Cert.GateWGradReferenceIdeal.τ).loc Cert.GateWGradReferenceIdeal.main_arg0)
      ∧ r.2.mem ((c.tc : Thread Cert.GateWGradReferenceIdeal.nD Cert.GateWGradReferenceIdeal.τ).loc Cert.GateWGradReferenceIdeal.main_arg1) = m ((c.tc : Thread Cert.GateWGradReferenceIdeal.nD Cert.GateWGradReferenceIdeal.τ).loc Cert.GateWGradReferenceIdeal.main_arg1)
      ∧ r.2.mem ((c.tc : Thread Cert.GateWGradReferenceIdeal.nD Cert.GateWGradReferenceIdeal.τ).loc Cert.GateWGradReferenceIdeal.main_arg2) = m ((c.tc : Thread Cert.GateWGradReferenceIdeal.nD Cert.GateWGradReferenceIdeal.τ).loc Cert.GateWGradReferenceIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1))
      ∧ r.2.sem = fun _ => 0)

def quiescent_AttnOutReferenceIdeal [hAttnOutReferenceIdeal : Cert.AttnOutReferenceIdeal.Facts] : Prop :=
  ∀ (m : (ℓ : Loc Cert.AttnOutReferenceIdeal.nD Cert.AttnOutReferenceIdeal.τ Cert.AttnOutReferenceIdeal.sig) → Buf (Elt Ideal) ℓ) (g : Dev Cert.AttnOutReferenceIdeal.nD → PrngReg), Pre_AttnOutReferenceIdeal m →
    θ_run (Cert.AttnOutReferenceIdeal.defs (F := Ideal)) (onTc (τ := Cert.AttnOutReferenceIdeal.τ) (Cert.AttnOutReferenceIdeal.main (F := Ideal))) ⟨m, fun _ => 0, g⟩ (fun r => (∀ c : Dev Cert.AttnOutReferenceIdeal.nD,
      r.2.mem ((c.tc : Thread Cert.AttnOutReferenceIdeal.nD Cert.AttnOutReferenceIdeal.τ).loc Cert.AttnOutReferenceIdeal.main_arg0) = m ((c.tc : Thread Cert.AttnOutReferenceIdeal.nD Cert.AttnOutReferenceIdeal.τ).loc Cert.AttnOutReferenceIdeal.main_arg0)
      ∧ r.2.mem ((c.tc : Thread Cert.AttnOutReferenceIdeal.nD Cert.AttnOutReferenceIdeal.τ).loc Cert.AttnOutReferenceIdeal.main_arg1) = m ((c.tc : Thread Cert.AttnOutReferenceIdeal.nD Cert.AttnOutReferenceIdeal.τ).loc Cert.AttnOutReferenceIdeal.main_arg1))
      ∧ r.2.sem = fun _ => 0)

def quiescent_RnnOut [hRnnOut : Cert.RnnOut.Facts] : Prop :=
  ∀ (m : (ℓ : Loc Cert.RnnOut.nD Cert.RnnOut.τ Cert.RnnOut.sig) → Buf (Elt Bits) ℓ) (g : Dev Cert.RnnOut.nD → PrngReg), Pre_RnnOut m →
    θ_run (Cert.RnnOut.defs (F := Bits)) (onTc (τ := Cert.RnnOut.τ) (Cert.RnnOut.main (F := Bits))) ⟨m, fun _ => 0, g⟩ (fun r => (∀ c : Dev Cert.RnnOut.nD,
      r.2.mem ((c.tc : Thread Cert.RnnOut.nD Cert.RnnOut.τ).loc Cert.RnnOut.main_arg0) = m ((c.tc : Thread Cert.RnnOut.nD Cert.RnnOut.τ).loc Cert.RnnOut.main_arg0)
      ∧ r.2.mem ((c.tc : Thread Cert.RnnOut.nD Cert.RnnOut.τ).loc Cert.RnnOut.main_arg1) = m ((c.tc : Thread Cert.RnnOut.nD Cert.RnnOut.τ).loc Cert.RnnOut.main_arg1))
      ∧ r.2.sem = fun _ => 0)

def quiescent_RnnOutIdeal [hRnnOutIdeal : Cert.RnnOutIdeal.Facts] : Prop :=
  ∀ (m : (ℓ : Loc Cert.RnnOutIdeal.nD Cert.RnnOutIdeal.τ Cert.RnnOutIdeal.sig) → Buf (Elt Ideal) ℓ) (g : Dev Cert.RnnOutIdeal.nD → PrngReg), Pre_RnnOutIdeal m →
    θ_run (Cert.RnnOutIdeal.defs (F := Ideal)) (onTc (τ := Cert.RnnOutIdeal.τ) (Cert.RnnOutIdeal.main (F := Ideal))) ⟨m, fun _ => 0, g⟩ (fun r => (∀ c : Dev Cert.RnnOutIdeal.nD,
      r.2.mem ((c.tc : Thread Cert.RnnOutIdeal.nD Cert.RnnOutIdeal.τ).loc Cert.RnnOutIdeal.main_arg0) = m ((c.tc : Thread Cert.RnnOutIdeal.nD Cert.RnnOutIdeal.τ).loc Cert.RnnOutIdeal.main_arg0)
      ∧ r.2.mem ((c.tc : Thread Cert.RnnOutIdeal.nD Cert.RnnOutIdeal.τ).loc Cert.RnnOutIdeal.main_arg1) = m ((c.tc : Thread Cert.RnnOutIdeal.nD Cert.RnnOutIdeal.τ).loc Cert.RnnOutIdeal.main_arg1))
      ∧ r.2.sem = fun _ => 0)

def quiescent_RnnOutReferenceIdeal [hRnnOutReferenceIdeal : Cert.RnnOutReferenceIdeal.Facts] : Prop :=
  ∀ (m : (ℓ : Loc Cert.RnnOutReferenceIdeal.nD Cert.RnnOutReferenceIdeal.τ Cert.RnnOutReferenceIdeal.sig) → Buf (Elt Ideal) ℓ) (g : Dev Cert.RnnOutReferenceIdeal.nD → PrngReg), Pre_RnnOutReferenceIdeal m →
    θ_run (Cert.RnnOutReferenceIdeal.defs (F := Ideal)) (onTc (τ := Cert.RnnOutReferenceIdeal.τ) (Cert.RnnOutReferenceIdeal.main (F := Ideal))) ⟨m, fun _ => 0, g⟩ (fun r => (∀ c : Dev Cert.RnnOutReferenceIdeal.nD,
      r.2.mem ((c.tc : Thread Cert.RnnOutReferenceIdeal.nD Cert.RnnOutReferenceIdeal.τ).loc Cert.RnnOutReferenceIdeal.main_arg0) = m ((c.tc : Thread Cert.RnnOutReferenceIdeal.nD Cert.RnnOutReferenceIdeal.τ).loc Cert.RnnOutReferenceIdeal.main_arg0)
      ∧ r.2.mem ((c.tc : Thread Cert.RnnOutReferenceIdeal.nD Cert.RnnOutReferenceIdeal.τ).loc Cert.RnnOutReferenceIdeal.main_arg1) = m ((c.tc : Thread Cert.RnnOutReferenceIdeal.nD Cert.RnnOutReferenceIdeal.τ).loc Cert.RnnOutReferenceIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_FinGrad [hFinGrad : Cert.FinGrad.Facts] : Prop :=
  ∀ (m : (ℓ : Loc Cert.FinGrad.nD Cert.FinGrad.τ Cert.FinGrad.sig) → Buf (Elt Bits) ℓ) (g : Dev Cert.FinGrad.nD → PrngReg), Pre_FinGrad m →
    θ_run (Cert.FinGrad.defs (F := Bits)) (onTc (τ := Cert.FinGrad.τ) (Cert.FinGrad.main (F := Bits))) ⟨m, fun _ => 0, g⟩ (fun r => (∀ c : Dev Cert.FinGrad.nD,
      r.2.mem ((c.tc : Thread Cert.FinGrad.nD Cert.FinGrad.τ).loc Cert.FinGrad.main_arg0) = m ((c.tc : Thread Cert.FinGrad.nD Cert.FinGrad.τ).loc Cert.FinGrad.main_arg0)
      ∧ r.2.mem ((c.tc : Thread Cert.FinGrad.nD Cert.FinGrad.τ).loc Cert.FinGrad.main_arg1) = m ((c.tc : Thread Cert.FinGrad.nD Cert.FinGrad.τ).loc Cert.FinGrad.main_arg1))
      ∧ r.2.sem = fun _ => 0)

def quiescent_FinGradIdeal [hFinGradIdeal : Cert.FinGradIdeal.Facts] : Prop :=
  ∀ (m : (ℓ : Loc Cert.FinGradIdeal.nD Cert.FinGradIdeal.τ Cert.FinGradIdeal.sig) → Buf (Elt Ideal) ℓ) (g : Dev Cert.FinGradIdeal.nD → PrngReg), Pre_FinGradIdeal m →
    θ_run (Cert.FinGradIdeal.defs (F := Ideal)) (onTc (τ := Cert.FinGradIdeal.τ) (Cert.FinGradIdeal.main (F := Ideal))) ⟨m, fun _ => 0, g⟩ (fun r => (∀ c : Dev Cert.FinGradIdeal.nD,
      r.2.mem ((c.tc : Thread Cert.FinGradIdeal.nD Cert.FinGradIdeal.τ).loc Cert.FinGradIdeal.main_arg0) = m ((c.tc : Thread Cert.FinGradIdeal.nD Cert.FinGradIdeal.τ).loc Cert.FinGradIdeal.main_arg0)
      ∧ r.2.mem ((c.tc : Thread Cert.FinGradIdeal.nD Cert.FinGradIdeal.τ).loc Cert.FinGradIdeal.main_arg1) = m ((c.tc : Thread Cert.FinGradIdeal.nD Cert.FinGradIdeal.τ).loc Cert.FinGradIdeal.main_arg1))
      ∧ r.2.sem = fun _ => 0)

def quiescent_FinGradReferenceIdeal [hFinGradReferenceIdeal : Cert.FinGradReferenceIdeal.Facts] : Prop :=
  ∀ (m : (ℓ : Loc Cert.FinGradReferenceIdeal.nD Cert.FinGradReferenceIdeal.τ Cert.FinGradReferenceIdeal.sig) → Buf (Elt Ideal) ℓ) (g : Dev Cert.FinGradReferenceIdeal.nD → PrngReg), Pre_FinGradReferenceIdeal m →
    θ_run (Cert.FinGradReferenceIdeal.defs (F := Ideal)) (onTc (τ := Cert.FinGradReferenceIdeal.τ) (Cert.FinGradReferenceIdeal.main (F := Ideal))) ⟨m, fun _ => 0, g⟩ (fun r => (∀ c : Dev Cert.FinGradReferenceIdeal.nD,
      r.2.mem ((c.tc : Thread Cert.FinGradReferenceIdeal.nD Cert.FinGradReferenceIdeal.τ).loc Cert.FinGradReferenceIdeal.main_arg0) = m ((c.tc : Thread Cert.FinGradReferenceIdeal.nD Cert.FinGradReferenceIdeal.τ).loc Cert.FinGradReferenceIdeal.main_arg0)
      ∧ r.2.mem ((c.tc : Thread Cert.FinGradReferenceIdeal.nD Cert.FinGradReferenceIdeal.τ).loc Cert.FinGradReferenceIdeal.main_arg1) = m ((c.tc : Thread Cert.FinGradReferenceIdeal.nD Cert.FinGradReferenceIdeal.τ).loc Cert.FinGradReferenceIdeal.main_arg1))
      ∧ r.2.sem = fun _ => 0)

def quiescent_UpGrad [hUpGrad : Cert.UpGrad.Facts] : Prop :=
  ∀ (m : (ℓ : Loc Cert.UpGrad.nD Cert.UpGrad.τ Cert.UpGrad.sig) → Buf (Elt Bits) ℓ) (g : Dev Cert.UpGrad.nD → PrngReg), Pre_UpGrad m →
    θ_run (Cert.UpGrad.defs (F := Bits)) (onTc (τ := Cert.UpGrad.τ) (Cert.UpGrad.main (F := Bits))) ⟨m, fun _ => 0, g⟩ (fun r => (∀ c : Dev Cert.UpGrad.nD,
      r.2.mem ((c.tc : Thread Cert.UpGrad.nD Cert.UpGrad.τ).loc Cert.UpGrad.main_arg0) = m ((c.tc : Thread Cert.UpGrad.nD Cert.UpGrad.τ).loc Cert.UpGrad.main_arg0)
      ∧ r.2.mem ((c.tc : Thread Cert.UpGrad.nD Cert.UpGrad.τ).loc Cert.UpGrad.main_arg1) = m ((c.tc : Thread Cert.UpGrad.nD Cert.UpGrad.τ).loc Cert.UpGrad.main_arg1))
      ∧ r.2.sem = fun _ => 0)

def quiescent_UpGradIdeal [hUpGradIdeal : Cert.UpGradIdeal.Facts] : Prop :=
  ∀ (m : (ℓ : Loc Cert.UpGradIdeal.nD Cert.UpGradIdeal.τ Cert.UpGradIdeal.sig) → Buf (Elt Ideal) ℓ) (g : Dev Cert.UpGradIdeal.nD → PrngReg), Pre_UpGradIdeal m →
    θ_run (Cert.UpGradIdeal.defs (F := Ideal)) (onTc (τ := Cert.UpGradIdeal.τ) (Cert.UpGradIdeal.main (F := Ideal))) ⟨m, fun _ => 0, g⟩ (fun r => (∀ c : Dev Cert.UpGradIdeal.nD,
      r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
      ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ r.2.sem = fun _ => 0)

def quiescent_UpGradReferenceIdeal [hUpGradReferenceIdeal : Cert.UpGradReferenceIdeal.Facts] : Prop :=
  ∀ (m : (ℓ : Loc Cert.UpGradReferenceIdeal.nD Cert.UpGradReferenceIdeal.τ Cert.UpGradReferenceIdeal.sig) → Buf (Elt Ideal) ℓ) (g : Dev Cert.UpGradReferenceIdeal.nD → PrngReg), Pre_UpGradReferenceIdeal m →
    θ_run (Cert.UpGradReferenceIdeal.defs (F := Ideal)) (onTc (τ := Cert.UpGradReferenceIdeal.τ) (Cert.UpGradReferenceIdeal.main (F := Ideal))) ⟨m, fun _ => 0, g⟩ (fun r => (∀ c : Dev Cert.UpGradReferenceIdeal.nD,
      r.2.mem ((c.tc : Thread Cert.UpGradReferenceIdeal.nD Cert.UpGradReferenceIdeal.τ).loc Cert.UpGradReferenceIdeal.main_arg0) = m ((c.tc : Thread Cert.UpGradReferenceIdeal.nD Cert.UpGradReferenceIdeal.τ).loc Cert.UpGradReferenceIdeal.main_arg0)
      ∧ r.2.mem ((c.tc : Thread Cert.UpGradReferenceIdeal.nD Cert.UpGradReferenceIdeal.τ).loc Cert.UpGradReferenceIdeal.main_arg1) = m ((c.tc : Thread Cert.UpGradReferenceIdeal.nD Cert.UpGradReferenceIdeal.τ).loc Cert.UpGradReferenceIdeal.main_arg1))
      ∧ r.2.sem = fun _ => 0)

def quiescent_AttnProjGrad [hAttnProjGrad : Cert.AttnProjGrad.Facts] : Prop :=
  ∀ (m : (ℓ : Loc Cert.AttnProjGrad.nD Cert.AttnProjGrad.τ Cert.AttnProjGrad.sig) → Buf (Elt Bits) ℓ) (g : Dev Cert.AttnProjGrad.nD → PrngReg), Pre_AttnProjGrad m →
    θ_run (Cert.AttnProjGrad.defs (F := Bits)) (onTc (τ := Cert.AttnProjGrad.τ) (Cert.AttnProjGrad.main (F := Bits))) ⟨m, fun _ => 0, g⟩ (fun r => (∀ c : Dev Cert.AttnProjGrad.nD,
      r.2.mem ((c.tc : Thread Cert.AttnProjGrad.nD Cert.AttnProjGrad.τ).loc Cert.AttnProjGrad.main_arg0) = m ((c.tc : Thread Cert.AttnProjGrad.nD Cert.AttnProjGrad.τ).loc Cert.AttnProjGrad.main_arg0)
      ∧ r.2.mem ((c.tc : Thread Cert.AttnProjGrad.nD Cert.AttnProjGrad.τ).loc Cert.AttnProjGrad.main_arg1) = m ((c.tc : Thread Cert.AttnProjGrad.nD Cert.AttnProjGrad.τ).loc Cert.AttnProjGrad.main_arg1))
      ∧ r.2.sem = fun _ => 0)

def quiescent_AttnProjGradIdeal [hAttnProjGradIdeal : Cert.AttnProjGradIdeal.Facts] : Prop :=
  ∀ (m : (ℓ : Loc Cert.AttnProjGradIdeal.nD Cert.AttnProjGradIdeal.τ Cert.AttnProjGradIdeal.sig) → Buf (Elt Ideal) ℓ) (g : Dev Cert.AttnProjGradIdeal.nD → PrngReg), Pre_AttnProjGradIdeal m →
    θ_run (Cert.AttnProjGradIdeal.defs (F := Ideal)) (onTc (τ := Cert.AttnProjGradIdeal.τ) (Cert.AttnProjGradIdeal.main (F := Ideal))) ⟨m, fun _ => 0, g⟩ (fun r => (∀ c : Dev Cert.AttnProjGradIdeal.nD,
      r.2.mem ((c.tc : Thread Cert.AttnProjGradIdeal.nD Cert.AttnProjGradIdeal.τ).loc Cert.AttnProjGradIdeal.main_arg0) = m ((c.tc : Thread Cert.AttnProjGradIdeal.nD Cert.AttnProjGradIdeal.τ).loc Cert.AttnProjGradIdeal.main_arg0)
      ∧ r.2.mem ((c.tc : Thread Cert.AttnProjGradIdeal.nD Cert.AttnProjGradIdeal.τ).loc Cert.AttnProjGradIdeal.main_arg1) = m ((c.tc : Thread Cert.AttnProjGradIdeal.nD Cert.AttnProjGradIdeal.τ).loc Cert.AttnProjGradIdeal.main_arg1))
      ∧ r.2.sem = fun _ => 0)

def quiescent_AttnProjGradReferenceIdeal [hAttnProjGradReferenceIdeal : Cert.AttnProjGradReferenceIdeal.Facts] : Prop :=
  ∀ (m : (ℓ : Loc Cert.AttnProjGradReferenceIdeal.nD Cert.AttnProjGradReferenceIdeal.τ Cert.AttnProjGradReferenceIdeal.sig) → Buf (Elt Ideal) ℓ) (g : Dev Cert.AttnProjGradReferenceIdeal.nD → PrngReg), Pre_AttnProjGradReferenceIdeal m →
    θ_run (Cert.AttnProjGradReferenceIdeal.defs (F := Ideal)) (onTc (τ := Cert.AttnProjGradReferenceIdeal.τ) (Cert.AttnProjGradReferenceIdeal.main (F := Ideal))) ⟨m, fun _ => 0, g⟩ (fun r => (∀ c : Dev Cert.AttnProjGradReferenceIdeal.nD,
      r.2.mem ((c.tc : Thread Cert.AttnProjGradReferenceIdeal.nD Cert.AttnProjGradReferenceIdeal.τ).loc Cert.AttnProjGradReferenceIdeal.main_arg0) = m ((c.tc : Thread Cert.AttnProjGradReferenceIdeal.nD Cert.AttnProjGradReferenceIdeal.τ).loc Cert.AttnProjGradReferenceIdeal.main_arg0)
      ∧ r.2.mem ((c.tc : Thread Cert.AttnProjGradReferenceIdeal.nD Cert.AttnProjGradReferenceIdeal.τ).loc Cert.AttnProjGradReferenceIdeal.main_arg1) = m ((c.tc : Thread Cert.AttnProjGradReferenceIdeal.nD Cert.AttnProjGradReferenceIdeal.τ).loc Cert.AttnProjGradReferenceIdeal.main_arg1))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1))
      ∧ r.2.sem = fun _ => 0)

def quiescent_InGradReferenceIdeal [hInGradReferenceIdeal : Cert.InGradReferenceIdeal.Facts] : Prop :=
  ∀ (m : (ℓ : Loc Cert.InGradReferenceIdeal.nD Cert.InGradReferenceIdeal.τ Cert.InGradReferenceIdeal.sig) → Buf (Elt Ideal) ℓ) (g : Dev Cert.InGradReferenceIdeal.nD → PrngReg), Pre_InGradReferenceIdeal m →
    θ_run (Cert.InGradReferenceIdeal.defs (F := Ideal)) (onTc (τ := Cert.InGradReferenceIdeal.τ) (Cert.InGradReferenceIdeal.main (F := Ideal))) ⟨m, fun _ => 0, g⟩ (fun r => (∀ c : Dev Cert.InGradReferenceIdeal.nD,
      r.2.mem ((c.tc : Thread Cert.InGradReferenceIdeal.nD Cert.InGradReferenceIdeal.τ).loc Cert.InGradReferenceIdeal.main_arg0) = m ((c.tc : Thread Cert.InGradReferenceIdeal.nD Cert.InGradReferenceIdeal.τ).loc Cert.InGradReferenceIdeal.main_arg0)
      ∧ r.2.mem ((c.tc : Thread Cert.InGradReferenceIdeal.nD Cert.InGradReferenceIdeal.τ).loc Cert.InGradReferenceIdeal.main_arg1) = m ((c.tc : Thread Cert.InGradReferenceIdeal.nD Cert.InGradReferenceIdeal.τ).loc Cert.InGradReferenceIdeal.main_arg1))
      ∧ r.2.sem = fun _ => 0)

def quiescent_UpInGrad [hUpInGrad : Cert.UpInGrad.Facts] : Prop :=
  ∀ (m : (ℓ : Loc Cert.UpInGrad.nD Cert.UpInGrad.τ Cert.UpInGrad.sig) → Buf (Elt Bits) ℓ) (g : Dev Cert.UpInGrad.nD → PrngReg), Pre_UpInGrad m →
    θ_run (Cert.UpInGrad.defs (F := Bits)) (onTc (τ := Cert.UpInGrad.τ) (Cert.UpInGrad.main (F := Bits))) ⟨m, fun _ => 0, g⟩ (fun r => (∀ c : Dev Cert.UpInGrad.nD,
      r.2.mem ((c.tc : Thread Cert.UpInGrad.nD Cert.UpInGrad.τ).loc Cert.UpInGrad.main_arg0) = m ((c.tc : Thread Cert.UpInGrad.nD Cert.UpInGrad.τ).loc Cert.UpInGrad.main_arg0)
      ∧ r.2.mem ((c.tc : Thread Cert.UpInGrad.nD Cert.UpInGrad.τ).loc Cert.UpInGrad.main_arg1) = m ((c.tc : Thread Cert.UpInGrad.nD Cert.UpInGrad.τ).loc Cert.UpInGrad.main_arg1))
      ∧ r.2.sem = fun _ => 0)

def quiescent_UpInGradIdeal [hUpInGradIdeal : Cert.UpInGradIdeal.Facts] : Prop :=
  ∀ (m : (ℓ : Loc Cert.UpInGradIdeal.nD Cert.UpInGradIdeal.τ Cert.UpInGradIdeal.sig) → Buf (Elt Ideal) ℓ) (g : Dev Cert.UpInGradIdeal.nD → PrngReg), Pre_UpInGradIdeal m →
    θ_run (Cert.UpInGradIdeal.defs (F := Ideal)) (onTc (τ := Cert.UpInGradIdeal.τ) (Cert.UpInGradIdeal.main (F := Ideal))) ⟨m, fun _ => 0, g⟩ (fun r => (∀ c : Dev Cert.UpInGradIdeal.nD,
      r.2.mem ((c.tc : Thread Cert.UpInGradIdeal.nD Cert.UpInGradIdeal.τ).loc Cert.UpInGradIdeal.main_arg0) = m ((c.tc : Thread Cert.UpInGradIdeal.nD Cert.UpInGradIdeal.τ).loc Cert.UpInGradIdeal.main_arg0)
      ∧ r.2.mem ((c.tc : Thread Cert.UpInGradIdeal.nD Cert.UpInGradIdeal.τ).loc Cert.UpInGradIdeal.main_arg1) = m ((c.tc : Thread Cert.UpInGradIdeal.nD Cert.UpInGradIdeal.τ).loc Cert.UpInGradIdeal.main_arg1))
      ∧ r.2.sem = fun _ => 0)

def quiescent_UpInGradReferenceIdeal [hUpInGradReferenceIdeal : Cert.UpInGradReferenceIdeal.Facts] : Prop :=
  ∀ (m : (ℓ : Loc Cert.UpInGradReferenceIdeal.nD Cert.UpInGradReferenceIdeal.τ Cert.UpInGradReferenceIdeal.sig) → Buf (Elt Ideal) ℓ) (g : Dev Cert.UpInGradReferenceIdeal.nD → PrngReg), Pre_UpInGradReferenceIdeal m →
    θ_run (Cert.UpInGradReferenceIdeal.defs (F := Ideal)) (onTc (τ := Cert.UpInGradReferenceIdeal.τ) (Cert.UpInGradReferenceIdeal.main (F := Ideal))) ⟨m, fun _ => 0, g⟩ (fun r => (∀ c : Dev Cert.UpInGradReferenceIdeal.nD,
      r.2.mem ((c.tc : Thread Cert.UpInGradReferenceIdeal.nD Cert.UpInGradReferenceIdeal.τ).loc Cert.UpInGradReferenceIdeal.main_arg0) = m ((c.tc : Thread Cert.UpInGradReferenceIdeal.nD Cert.UpInGradReferenceIdeal.τ).loc Cert.UpInGradReferenceIdeal.main_arg0)
      ∧ r.2.mem ((c.tc : Thread Cert.UpInGradReferenceIdeal.nD Cert.UpInGradReferenceIdeal.τ).loc Cert.UpInGradReferenceIdeal.main_arg1) = m ((c.tc : Thread Cert.UpInGradReferenceIdeal.nD Cert.UpInGradReferenceIdeal.τ).loc Cert.UpInGradReferenceIdeal.main_arg1))
      ∧ r.2.sem = fun _ => 0)

def quiescent_GateInGrad [hGateInGrad : Cert.GateInGrad.Facts] : Prop :=
  ∀ (m : (ℓ : Loc Cert.GateInGrad.nD Cert.GateInGrad.τ Cert.GateInGrad.sig) → Buf (Elt Bits) ℓ) (g : Dev Cert.GateInGrad.nD → PrngReg), Pre_GateInGrad m →
    θ_run (Cert.GateInGrad.defs (F := Bits)) (onTc (τ := Cert.GateInGrad.τ) (Cert.GateInGrad.main (F := Bits))) ⟨m, fun _ => 0, g⟩ (fun r => (∀ c : Dev Cert.GateInGrad.nD,
      r.2.mem ((c.tc : Thread Cert.GateInGrad.nD Cert.GateInGrad.τ).loc Cert.GateInGrad.main_arg0) = m ((c.tc : Thread Cert.GateInGrad.nD Cert.GateInGrad.τ).loc Cert.GateInGrad.main_arg0)
      ∧ r.2.mem ((c.tc : Thread Cert.GateInGrad.nD Cert.GateInGrad.τ).loc Cert.GateInGrad.main_arg1) = m ((c.tc : Thread Cert.GateInGrad.nD Cert.GateInGrad.τ).loc Cert.GateInGrad.main_arg1)
      ∧ r.2.mem ((c.tc : Thread Cert.GateInGrad.nD Cert.GateInGrad.τ).loc Cert.GateInGrad.main_arg2) = m ((c.tc : Thread Cert.GateInGrad.nD Cert.GateInGrad.τ).loc Cert.GateInGrad.main_arg2))
      ∧ r.2.sem = fun _ => 0)

def quiescent_GateInGradIdeal [hGateInGradIdeal : Cert.GateInGradIdeal.Facts] : Prop :=
  ∀ (m : (ℓ : Loc Cert.GateInGradIdeal.nD Cert.GateInGradIdeal.τ Cert.GateInGradIdeal.sig) → Buf (Elt Ideal) ℓ) (g : Dev Cert.GateInGradIdeal.nD → PrngReg), Pre_GateInGradIdeal m →
    θ_run (Cert.GateInGradIdeal.defs (F := Ideal)) (onTc (τ := Cert.GateInGradIdeal.τ) (Cert.GateInGradIdeal.main (F := Ideal))) ⟨m, fun _ => 0, g⟩ (fun r => (∀ c : Dev Cert.GateInGradIdeal.nD,
      r.2.mem ((c.tc : Thread Cert.GateInGradIdeal.nD Cert.GateInGradIdeal.τ).loc Cert.GateInGradIdeal.main_arg0) = m ((c.tc : Thread Cert.GateInGradIdeal.nD Cert.GateInGradIdeal.τ).loc Cert.GateInGradIdeal.main_arg0)
      ∧ r.2.mem ((c.tc : Thread Cert.GateInGradIdeal.nD Cert.GateInGradIdeal.τ).loc Cert.GateInGradIdeal.main_arg1) = m ((c.tc : Thread Cert.GateInGradIdeal.nD Cert.GateInGradIdeal.τ).loc Cert.GateInGradIdeal.main_arg1)
      ∧ r.2.mem ((c.tc : Thread Cert.GateInGradIdeal.nD Cert.GateInGradIdeal.τ).loc Cert.GateInGradIdeal.main_arg2) = m ((c.tc : Thread Cert.GateInGradIdeal.nD Cert.GateInGradIdeal.τ).loc Cert.GateInGradIdeal.main_arg2))
      ∧ r.2.sem = fun _ => 0)

def quiescent_GateInGradReferenceIdeal [hGateInGradReferenceIdeal : Cert.GateInGradReferenceIdeal.Facts] : Prop :=
  ∀ (m : (ℓ : Loc Cert.GateInGradReferenceIdeal.nD Cert.GateInGradReferenceIdeal.τ Cert.GateInGradReferenceIdeal.sig) → Buf (Elt Ideal) ℓ) (g : Dev Cert.GateInGradReferenceIdeal.nD → PrngReg), Pre_GateInGradReferenceIdeal m →
    θ_run (Cert.GateInGradReferenceIdeal.defs (F := Ideal)) (onTc (τ := Cert.GateInGradReferenceIdeal.τ) (Cert.GateInGradReferenceIdeal.main (F := Ideal))) ⟨m, fun _ => 0, g⟩ (fun r => (∀ c : Dev Cert.GateInGradReferenceIdeal.nD,
      r.2.mem ((c.tc : Thread Cert.GateInGradReferenceIdeal.nD Cert.GateInGradReferenceIdeal.τ).loc Cert.GateInGradReferenceIdeal.main_arg0) = m ((c.tc : Thread Cert.GateInGradReferenceIdeal.nD Cert.GateInGradReferenceIdeal.τ).loc Cert.GateInGradReferenceIdeal.main_arg0)
      ∧ r.2.mem ((c.tc : Thread Cert.GateInGradReferenceIdeal.nD Cert.GateInGradReferenceIdeal.τ).loc Cert.GateInGradReferenceIdeal.main_arg1) = m ((c.tc : Thread Cert.GateInGradReferenceIdeal.nD Cert.GateInGradReferenceIdeal.τ).loc Cert.GateInGradReferenceIdeal.main_arg1)
      ∧ r.2.mem ((c.tc : Thread Cert.GateInGradReferenceIdeal.nD Cert.GateInGradReferenceIdeal.τ).loc Cert.GateInGradReferenceIdeal.main_arg2) = m ((c.tc : Thread Cert.GateInGradReferenceIdeal.nD Cert.GateInGradReferenceIdeal.τ).loc Cert.GateInGradReferenceIdeal.main_arg2))
      ∧ r.2.sem = fun _ => 0)

def quiescent_XGrad [hXGrad : Cert.XGrad.Facts] : Prop :=
  ∀ (m : (ℓ : Loc Cert.XGrad.nD Cert.XGrad.τ Cert.XGrad.sig) → Buf (Elt Bits) ℓ) (g : Dev Cert.XGrad.nD → PrngReg), Pre_XGrad m →
    θ_run (Cert.XGrad.defs (F := Bits)) (onTc (τ := Cert.XGrad.τ) (Cert.XGrad.main (F := Bits))) ⟨m, fun _ => 0, g⟩ (fun r => (∀ c : Dev Cert.XGrad.nD,
      r.2.mem ((c.tc : Thread Cert.XGrad.nD Cert.XGrad.τ).loc Cert.XGrad.main_arg0) = m ((c.tc : Thread Cert.XGrad.nD Cert.XGrad.τ).loc Cert.XGrad.main_arg0)
      ∧ r.2.mem ((c.tc : Thread Cert.XGrad.nD Cert.XGrad.τ).loc Cert.XGrad.main_arg1) = m ((c.tc : Thread Cert.XGrad.nD Cert.XGrad.τ).loc Cert.XGrad.main_arg1)
      ∧ r.2.mem ((c.tc : Thread Cert.XGrad.nD Cert.XGrad.τ).loc Cert.XGrad.main_arg2) = m ((c.tc : Thread Cert.XGrad.nD Cert.XGrad.τ).loc Cert.XGrad.main_arg2))
      ∧ r.2.sem = fun _ => 0)

def quiescent_XGradIdeal [hXGradIdeal : Cert.XGradIdeal.Facts] : Prop :=
  ∀ (m : (ℓ : Loc Cert.XGradIdeal.nD Cert.XGradIdeal.τ Cert.XGradIdeal.sig) → Buf (Elt Ideal) ℓ) (g : Dev Cert.XGradIdeal.nD → PrngReg), Pre_XGradIdeal m →
    θ_run (Cert.XGradIdeal.defs (F := Ideal)) (onTc (τ := Cert.XGradIdeal.τ) (Cert.XGradIdeal.main (F := Ideal))) ⟨m, fun _ => 0, g⟩ (fun r => (∀ c : Dev Cert.XGradIdeal.nD,
      r.2.mem ((c.tc : Thread Cert.XGradIdeal.nD Cert.XGradIdeal.τ).loc Cert.XGradIdeal.main_arg0) = m ((c.tc : Thread Cert.XGradIdeal.nD Cert.XGradIdeal.τ).loc Cert.XGradIdeal.main_arg0)
      ∧ r.2.mem ((c.tc : Thread Cert.XGradIdeal.nD Cert.XGradIdeal.τ).loc Cert.XGradIdeal.main_arg1) = m ((c.tc : Thread Cert.XGradIdeal.nD Cert.XGradIdeal.τ).loc Cert.XGradIdeal.main_arg1)
      ∧ r.2.mem ((c.tc : Thread Cert.XGradIdeal.nD Cert.XGradIdeal.τ).loc Cert.XGradIdeal.main_arg2) = m ((c.tc : Thread Cert.XGradIdeal.nD Cert.XGradIdeal.τ).loc Cert.XGradIdeal.main_arg2))
      ∧ r.2.sem = fun _ => 0)

def quiescent_XGradReferenceIdeal [hXGradReferenceIdeal : Cert.XGradReferenceIdeal.Facts] : Prop :=
  ∀ (m : (ℓ : Loc Cert.XGradReferenceIdeal.nD Cert.XGradReferenceIdeal.τ Cert.XGradReferenceIdeal.sig) → Buf (Elt Ideal) ℓ) (g : Dev Cert.XGradReferenceIdeal.nD → PrngReg), Pre_XGradReferenceIdeal m →
    θ_run (Cert.XGradReferenceIdeal.defs (F := Ideal)) (onTc (τ := Cert.XGradReferenceIdeal.τ) (Cert.XGradReferenceIdeal.main (F := Ideal))) ⟨m, fun _ => 0, g⟩ (fun r => (∀ c : Dev Cert.XGradReferenceIdeal.nD,
      r.2.mem ((c.tc : Thread Cert.XGradReferenceIdeal.nD Cert.XGradReferenceIdeal.τ).loc Cert.XGradReferenceIdeal.main_arg0) = m ((c.tc : Thread Cert.XGradReferenceIdeal.nD Cert.XGradReferenceIdeal.τ).loc Cert.XGradReferenceIdeal.main_arg0)
      ∧ r.2.mem ((c.tc : Thread Cert.XGradReferenceIdeal.nD Cert.XGradReferenceIdeal.τ).loc Cert.XGradReferenceIdeal.main_arg1) = m ((c.tc : Thread Cert.XGradReferenceIdeal.nD Cert.XGradReferenceIdeal.τ).loc Cert.XGradReferenceIdeal.main_arg1)
      ∧ r.2.mem ((c.tc : Thread Cert.XGradReferenceIdeal.nD Cert.XGradReferenceIdeal.τ).loc Cert.XGradReferenceIdeal.main_arg2) = m ((c.tc : Thread Cert.XGradReferenceIdeal.nD Cert.XGradReferenceIdeal.τ).loc Cert.XGradReferenceIdeal.main_arg2))
      ∧ r.2.sem = fun _ => 0)

def quiescent_NormGrad [hNormGrad : Cert.NormGrad.Facts] : Prop :=
  ∀ (m : (ℓ : Loc Cert.NormGrad.nD Cert.NormGrad.τ Cert.NormGrad.sig) → Buf (Elt Bits) ℓ) (g : Dev Cert.NormGrad.nD → PrngReg), Pre_NormGrad m →
    θ_run (Cert.NormGrad.defs (F := Bits)) (onTc (τ := Cert.NormGrad.τ) (Cert.NormGrad.main (F := Bits))) ⟨m, fun _ => 0, g⟩ (fun r => (∀ c : Dev Cert.NormGrad.nD,
      r.2.mem ((c.tc : Thread Cert.NormGrad.nD Cert.NormGrad.τ).loc Cert.NormGrad.main_arg0) = m ((c.tc : Thread Cert.NormGrad.nD Cert.NormGrad.τ).loc Cert.NormGrad.main_arg0)
      ∧ r.2.mem ((c.tc : Thread Cert.NormGrad.nD Cert.NormGrad.τ).loc Cert.NormGrad.main_arg1) = m ((c.tc : Thread Cert.NormGrad.nD Cert.NormGrad.τ).loc Cert.NormGrad.main_arg1)
      ∧ r.2.mem ((c.tc : Thread Cert.NormGrad.nD Cert.NormGrad.τ).loc Cert.NormGrad.main_arg2) = m ((c.tc : Thread Cert.NormGrad.nD Cert.NormGrad.τ).loc Cert.NormGrad.main_arg2)
      ∧ r.2.mem ((c.tc : Thread Cert.NormGrad.nD Cert.NormGrad.τ).loc Cert.NormGrad.main_arg3) = m ((c.tc : Thread Cert.NormGrad.nD Cert.NormGrad.τ).loc Cert.NormGrad.main_arg3)
      ∧ r.2.mem ((c.tc : Thread Cert.NormGrad.nD Cert.NormGrad.τ).loc Cert.NormGrad.main_arg4) = m ((c.tc : Thread Cert.NormGrad.nD Cert.NormGrad.τ).loc Cert.NormGrad.main_arg4))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
      ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4))
      ∧ r.2.sem = fun _ => 0)

def quiescent_NormGradIdeal_pre_finite_norm [hNormGradIdeal : Cert.NormGradIdeal.Facts] [hPre_finite_norm : Cert.Pre_finite_norm.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal_finite_norm m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
      ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4))
      ∧ r.2.sem = fun _ => 0)

def quiescent_NormGradReferenceIdeal [hNormGradReferenceIdeal : Cert.NormGradReferenceIdeal.Facts] : Prop :=
  ∀ (m : (ℓ : Loc Cert.NormGradReferenceIdeal.nD Cert.NormGradReferenceIdeal.τ Cert.NormGradReferenceIdeal.sig) → Buf (Elt Ideal) ℓ) (g : Dev Cert.NormGradReferenceIdeal.nD → PrngReg), Pre_NormGradReferenceIdeal m →
    θ_run (Cert.NormGradReferenceIdeal.defs (F := Ideal)) (onTc (τ := Cert.NormGradReferenceIdeal.τ) (Cert.NormGradReferenceIdeal.main (F := Ideal))) ⟨m, fun _ => 0, g⟩ (fun r => (∀ c : Dev Cert.NormGradReferenceIdeal.nD,
      r.2.mem ((c.tc : Thread Cert.NormGradReferenceIdeal.nD Cert.NormGradReferenceIdeal.τ).loc Cert.NormGradReferenceIdeal.main_arg0) = m ((c.tc : Thread Cert.NormGradReferenceIdeal.nD Cert.NormGradReferenceIdeal.τ).loc Cert.NormGradReferenceIdeal.main_arg0)
      ∧ r.2.mem ((c.tc : Thread Cert.NormGradReferenceIdeal.nD Cert.NormGradReferenceIdeal.τ).loc Cert.NormGradReferenceIdeal.main_arg1) = m ((c.tc : Thread Cert.NormGradReferenceIdeal.nD Cert.NormGradReferenceIdeal.τ).loc Cert.NormGradReferenceIdeal.main_arg1)
      ∧ r.2.mem ((c.tc : Thread Cert.NormGradReferenceIdeal.nD Cert.NormGradReferenceIdeal.τ).loc Cert.NormGradReferenceIdeal.main_arg2) = m ((c.tc : Thread Cert.NormGradReferenceIdeal.nD Cert.NormGradReferenceIdeal.τ).loc Cert.NormGradReferenceIdeal.main_arg2)
      ∧ r.2.mem ((c.tc : Thread Cert.NormGradReferenceIdeal.nD Cert.NormGradReferenceIdeal.τ).loc Cert.NormGradReferenceIdeal.main_arg3) = m ((c.tc : Thread Cert.NormGradReferenceIdeal.nD Cert.NormGradReferenceIdeal.τ).loc Cert.NormGradReferenceIdeal.main_arg3)
      ∧ r.2.mem ((c.tc : Thread Cert.NormGradReferenceIdeal.nD Cert.NormGradReferenceIdeal.τ).loc Cert.NormGradReferenceIdeal.main_arg4) = m ((c.tc : Thread Cert.NormGradReferenceIdeal.nD Cert.NormGradReferenceIdeal.τ).loc Cert.NormGradReferenceIdeal.main_arg4))
      ∧ r.2.sem = fun _ => 0)

def quiescent_NormGradReferenceIdeal_pre_finite_norm [hNormGradReferenceIdeal : Cert.NormGradReferenceIdeal.Facts] [hPre_finite_norm : Cert.Pre_finite_norm.Facts] : Prop :=
  ∀ (m : (ℓ : Loc Cert.NormGradReferenceIdeal.nD Cert.NormGradReferenceIdeal.τ Cert.NormGradReferenceIdeal.sig) → Buf (Elt Ideal) ℓ) (g : Dev Cert.NormGradReferenceIdeal.nD → PrngReg), Pre_NormGradReferenceIdeal_finite_norm m →
    θ_run (Cert.NormGradReferenceIdeal.defs (F := Ideal)) (onTc (τ := Cert.NormGradReferenceIdeal.τ) (Cert.NormGradReferenceIdeal.main (F := Ideal))) ⟨m, fun _ => 0, g⟩ (fun r => (∀ c : Dev Cert.NormGradReferenceIdeal.nD,
      r.2.mem ((c.tc : Thread Cert.NormGradReferenceIdeal.nD Cert.NormGradReferenceIdeal.τ).loc Cert.NormGradReferenceIdeal.main_arg0) = m ((c.tc : Thread Cert.NormGradReferenceIdeal.nD Cert.NormGradReferenceIdeal.τ).loc Cert.NormGradReferenceIdeal.main_arg0)
      ∧ r.2.mem ((c.tc : Thread Cert.NormGradReferenceIdeal.nD Cert.NormGradReferenceIdeal.τ).loc Cert.NormGradReferenceIdeal.main_arg1) = m ((c.tc : Thread Cert.NormGradReferenceIdeal.nD Cert.NormGradReferenceIdeal.τ).loc Cert.NormGradReferenceIdeal.main_arg1)
      ∧ r.2.mem ((c.tc : Thread Cert.NormGradReferenceIdeal.nD Cert.NormGradReferenceIdeal.τ).loc Cert.NormGradReferenceIdeal.main_arg2) = m ((c.tc : Thread Cert.NormGradReferenceIdeal.nD Cert.NormGradReferenceIdeal.τ).loc Cert.NormGradReferenceIdeal.main_arg2)
      ∧ r.2.mem ((c.tc : Thread Cert.NormGradReferenceIdeal.nD Cert.NormGradReferenceIdeal.τ).loc Cert.NormGradReferenceIdeal.main_arg3) = m ((c.tc : Thread Cert.NormGradReferenceIdeal.nD Cert.NormGradReferenceIdeal.τ).loc Cert.NormGradReferenceIdeal.main_arg3)
      ∧ r.2.mem ((c.tc : Thread Cert.NormGradReferenceIdeal.nD Cert.NormGradReferenceIdeal.τ).loc Cert.NormGradReferenceIdeal.main_arg4) = m ((c.tc : Thread Cert.NormGradReferenceIdeal.nD Cert.NormGradReferenceIdeal.τ).loc Cert.NormGradReferenceIdeal.main_arg4))
      ∧ r.2.sem = fun _ => 0)

def quiescent_GateGrad [hGateGrad : Cert.GateGrad.Facts] : Prop :=
  ∀ (m : (ℓ : Loc Cert.GateGrad.nD Cert.GateGrad.τ Cert.GateGrad.sig) → Buf (Elt Bits) ℓ) (g : Dev Cert.GateGrad.nD → PrngReg), Pre_GateGrad m →
    θ_run (Cert.GateGrad.defs (F := Bits)) (onTc (τ := Cert.GateGrad.τ) (Cert.GateGrad.main (F := Bits))) ⟨m, fun _ => 0, g⟩ (fun r => (∀ c : Dev Cert.GateGrad.nD,
      r.2.mem ((c.tc : Thread Cert.GateGrad.nD Cert.GateGrad.τ).loc Cert.GateGrad.main_arg0) = m ((c.tc : Thread Cert.GateGrad.nD Cert.GateGrad.τ).loc Cert.GateGrad.main_arg0)
      ∧ r.2.mem ((c.tc : Thread Cert.GateGrad.nD Cert.GateGrad.τ).loc Cert.GateGrad.main_arg1) = m ((c.tc : Thread Cert.GateGrad.nD Cert.GateGrad.τ).loc Cert.GateGrad.main_arg1)
      ∧ r.2.mem ((c.tc : Thread Cert.GateGrad.nD Cert.GateGrad.τ).loc Cert.GateGrad.main_arg2) = m ((c.tc : Thread Cert.GateGrad.nD Cert.GateGrad.τ).loc Cert.GateGrad.main_arg2)
      ∧ r.2.mem ((c.tc : Thread Cert.GateGrad.nD Cert.GateGrad.τ).loc Cert.GateGrad.main_arg3) = m ((c.tc : Thread Cert.GateGrad.nD Cert.GateGrad.τ).loc Cert.GateGrad.main_arg3)
      ∧ r.2.mem ((c.tc : Thread Cert.GateGrad.nD Cert.GateGrad.τ).loc Cert.GateGrad.main_arg4) = m ((c.tc : Thread Cert.GateGrad.nD Cert.GateGrad.τ).loc Cert.GateGrad.main_arg4))
      ∧ r.2.sem = fun _ => 0)

def quiescent_GateGradIdeal [hGateGradIdeal : Cert.GateGradIdeal.Facts] : Prop :=
  ∀ (m : (ℓ : Loc Cert.GateGradIdeal.nD Cert.GateGradIdeal.τ Cert.GateGradIdeal.sig) → Buf (Elt Ideal) ℓ) (g : Dev Cert.GateGradIdeal.nD → PrngReg), Pre_GateGradIdeal m →
    θ_run (Cert.GateGradIdeal.defs (F := Ideal)) (onTc (τ := Cert.GateGradIdeal.τ) (Cert.GateGradIdeal.main (F := Ideal))) ⟨m, fun _ => 0, g⟩ (fun r => (∀ c : Dev Cert.GateGradIdeal.nD,
      r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
      ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
      ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2)
      ∧ r.2.mem ((c.tc : Thread Cert.GateGradIdeal.nD Cert.GateGradIdeal.τ).loc Cert.GateGradIdeal.main_arg3) = m ((c.tc : Thread Cert.GateGradIdeal.nD Cert.GateGradIdeal.τ).loc Cert.GateGradIdeal.main_arg3)
      ∧ r.2.mem ((c.tc : Thread Cert.GateGradIdeal.nD Cert.GateGradIdeal.τ).loc Cert.GateGradIdeal.main_arg4) = m ((c.tc : Thread Cert.GateGradIdeal.nD Cert.GateGradIdeal.τ).loc Cert.GateGradIdeal.main_arg4))
      ∧ r.2.sem = fun _ => 0)

def quiescent_GateGradReferenceIdeal [hGateGradReferenceIdeal : Cert.GateGradReferenceIdeal.Facts] : Prop :=
  ∀ (m : (ℓ : Loc Cert.GateGradReferenceIdeal.nD Cert.GateGradReferenceIdeal.τ Cert.GateGradReferenceIdeal.sig) → Buf (Elt Ideal) ℓ) (g : Dev Cert.GateGradReferenceIdeal.nD → PrngReg), Pre_GateGradReferenceIdeal m →
    θ_run (Cert.GateGradReferenceIdeal.defs (F := Ideal)) (onTc (τ := Cert.GateGradReferenceIdeal.τ) (Cert.GateGradReferenceIdeal.main (F := Ideal))) ⟨m, fun _ => 0, g⟩ (fun r => (∀ c : Dev Cert.GateGradReferenceIdeal.nD,
      r.2.mem ((c.tc : Thread Cert.GateGradReferenceIdeal.nD Cert.GateGradReferenceIdeal.τ).loc Cert.GateGradReferenceIdeal.main_arg0) = m ((c.tc : Thread Cert.GateGradReferenceIdeal.nD Cert.GateGradReferenceIdeal.τ).loc Cert.GateGradReferenceIdeal.main_arg0)
      ∧ r.2.mem ((c.tc : Thread Cert.GateGradReferenceIdeal.nD Cert.GateGradReferenceIdeal.τ).loc Cert.GateGradReferenceIdeal.main_arg1) = m ((c.tc : Thread Cert.GateGradReferenceIdeal.nD Cert.GateGradReferenceIdeal.τ).loc Cert.GateGradReferenceIdeal.main_arg1)
      ∧ r.2.mem ((c.tc : Thread Cert.GateGradReferenceIdeal.nD Cert.GateGradReferenceIdeal.τ).loc Cert.GateGradReferenceIdeal.main_arg2) = m ((c.tc : Thread Cert.GateGradReferenceIdeal.nD Cert.GateGradReferenceIdeal.τ).loc Cert.GateGradReferenceIdeal.main_arg2)
      ∧ r.2.mem ((c.tc : Thread Cert.GateGradReferenceIdeal.nD Cert.GateGradReferenceIdeal.τ).loc Cert.GateGradReferenceIdeal.main_arg3) = m ((c.tc : Thread Cert.GateGradReferenceIdeal.nD Cert.GateGradReferenceIdeal.τ).loc Cert.GateGradReferenceIdeal.main_arg3)
      ∧ r.2.mem ((c.tc : Thread Cert.GateGradReferenceIdeal.nD Cert.GateGradReferenceIdeal.τ).loc Cert.GateGradReferenceIdeal.main_arg4) = m ((c.tc : Thread Cert.GateGradReferenceIdeal.nD Cert.GateGradReferenceIdeal.τ).loc Cert.GateGradReferenceIdeal.main_arg4))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1)
      ∧ r.2.mem ((c.tc : Thread Cert.NormFwd.nD Cert.NormFwd.τ).loc Cert.NormFwd.main_arg2) = m ((c.tc : Thread Cert.NormFwd.nD Cert.NormFwd.τ).loc Cert.NormFwd.main_arg2)
      ∧ r.2.mem ((c.tc : Thread Cert.NormFwd.nD Cert.NormFwd.τ).loc Cert.NormFwd.main_arg3) = m ((c.tc : Thread Cert.NormFwd.nD Cert.NormFwd.τ).loc Cert.NormFwd.main_arg3))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
      ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
      ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ r.2.sem = fun _ => 0)

def quiescent_NormFwdReferenceIdeal [hNormFwdReferenceIdeal : Cert.NormFwdReferenceIdeal.Facts] : Prop :=
  ∀ (m : (ℓ : Loc Cert.NormFwdReferenceIdeal.nD Cert.NormFwdReferenceIdeal.τ Cert.NormFwdReferenceIdeal.sig) → Buf (Elt Ideal) ℓ) (g : Dev Cert.NormFwdReferenceIdeal.nD → PrngReg), Pre_NormFwdReferenceIdeal m →
    θ_run (Cert.NormFwdReferenceIdeal.defs (F := Ideal)) (onTc (τ := Cert.NormFwdReferenceIdeal.τ) (Cert.NormFwdReferenceIdeal.main (F := Ideal))) ⟨m, fun _ => 0, g⟩ (fun r => (∀ c : Dev Cert.NormFwdReferenceIdeal.nD,
      r.2.mem ((c.tc : Thread Cert.NormFwdReferenceIdeal.nD Cert.NormFwdReferenceIdeal.τ).loc Cert.NormFwdReferenceIdeal.main_arg0) = m ((c.tc : Thread Cert.NormFwdReferenceIdeal.nD Cert.NormFwdReferenceIdeal.τ).loc Cert.NormFwdReferenceIdeal.main_arg0)
      ∧ r.2.mem ((c.tc : Thread Cert.NormFwdReferenceIdeal.nD Cert.NormFwdReferenceIdeal.τ).loc Cert.NormFwdReferenceIdeal.main_arg1) = m ((c.tc : Thread Cert.NormFwdReferenceIdeal.nD Cert.NormFwdReferenceIdeal.τ).loc Cert.NormFwdReferenceIdeal.main_arg1)
      ∧ r.2.mem ((c.tc : Thread Cert.NormFwdReferenceIdeal.nD Cert.NormFwdReferenceIdeal.τ).loc Cert.NormFwdReferenceIdeal.main_arg2) = m ((c.tc : Thread Cert.NormFwdReferenceIdeal.nD Cert.NormFwdReferenceIdeal.τ).loc Cert.NormFwdReferenceIdeal.main_arg2)
      ∧ r.2.mem ((c.tc : Thread Cert.NormFwdReferenceIdeal.nD Cert.NormFwdReferenceIdeal.τ).loc Cert.NormFwdReferenceIdeal.main_arg3) = m ((c.tc : Thread Cert.NormFwdReferenceIdeal.nD Cert.NormFwdReferenceIdeal.τ).loc Cert.NormFwdReferenceIdeal.main_arg3))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4)
      ∧ r.2.mem ((c.tc : Thread Cert.NormBwd.nD Cert.NormBwd.τ).loc Cert.NormBwd.main_arg5) = m ((c.tc : Thread Cert.NormBwd.nD Cert.NormBwd.τ).loc Cert.NormBwd.main_arg5))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ r.2.sem = fun _ => 0)

def quiescent_NormBwdIdeal_pre_finite_inner [hNormBwdIdeal : Cert.NormBwdIdeal.Facts] [hPre_finite_inner : Cert.Pre_finite_inner.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal_finite_inner m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ r.2.sem = fun _ => 0)

def quiescent_NormBwdReferenceIdeal [hNormBwdReferenceIdeal : Cert.NormBwdReferenceIdeal.Facts] : Prop :=
  ∀ (m : (ℓ : Loc Cert.NormBwdReferenceIdeal.nD Cert.NormBwdReferenceIdeal.τ Cert.NormBwdReferenceIdeal.sig) → Buf (Elt Ideal) ℓ) (g : Dev Cert.NormBwdReferenceIdeal.nD → PrngReg), Pre_NormBwdReferenceIdeal m →
    θ_run (Cert.NormBwdReferenceIdeal.defs (F := Ideal)) (onTc (τ := Cert.NormBwdReferenceIdeal.τ) (Cert.NormBwdReferenceIdeal.main (F := Ideal))) ⟨m, fun _ => 0, g⟩ (fun r => (∀ c : Dev Cert.NormBwdReferenceIdeal.nD,
      r.2.mem ((c.tc : Thread Cert.NormBwdReferenceIdeal.nD Cert.NormBwdReferenceIdeal.τ).loc Cert.NormBwdReferenceIdeal.main_arg0) = m ((c.tc : Thread Cert.NormBwdReferenceIdeal.nD Cert.NormBwdReferenceIdeal.τ).loc Cert.NormBwdReferenceIdeal.main_arg0)
      ∧ r.2.mem ((c.tc : Thread Cert.NormBwdReferenceIdeal.nD Cert.NormBwdReferenceIdeal.τ).loc Cert.NormBwdReferenceIdeal.main_arg1) = m ((c.tc : Thread Cert.NormBwdReferenceIdeal.nD Cert.NormBwdReferenceIdeal.τ).loc Cert.NormBwdReferenceIdeal.main_arg1)
      ∧ r.2.mem ((c.tc : Thread Cert.NormBwdReferenceIdeal.nD Cert.NormBwdReferenceIdeal.τ).loc Cert.NormBwdReferenceIdeal.main_arg2) = m ((c.tc : Thread Cert.NormBwdReferenceIdeal.nD Cert.NormBwdReferenceIdeal.τ).loc Cert.NormBwdReferenceIdeal.main_arg2)
      ∧ r.2.mem ((c.tc : Thread Cert.NormBwdReferenceIdeal.nD Cert.NormBwdReferenceIdeal.τ).loc Cert.NormBwdReferenceIdeal.main_arg3) = m ((c.tc : Thread Cert.NormBwdReferenceIdeal.nD Cert.NormBwdReferenceIdeal.τ).loc Cert.NormBwdReferenceIdeal.main_arg3)
      ∧ r.2.mem ((c.tc : Thread Cert.NormBwdReferenceIdeal.nD Cert.NormBwdReferenceIdeal.τ).loc Cert.NormBwdReferenceIdeal.main_arg4) = m ((c.tc : Thread Cert.NormBwdReferenceIdeal.nD Cert.NormBwdReferenceIdeal.τ).loc Cert.NormBwdReferenceIdeal.main_arg4)
      ∧ r.2.mem ((c.tc : Thread Cert.NormBwdReferenceIdeal.nD Cert.NormBwdReferenceIdeal.τ).loc Cert.NormBwdReferenceIdeal.main_arg5) = m ((c.tc : Thread Cert.NormBwdReferenceIdeal.nD Cert.NormBwdReferenceIdeal.τ).loc Cert.NormBwdReferenceIdeal.main_arg5))
      ∧ r.2.sem = fun _ => 0)

def quiescent_NormBwdReferenceIdeal_pre_finite_inner [hNormBwdReferenceIdeal : Cert.NormBwdReferenceIdeal.Facts] [hPre_finite_inner : Cert.Pre_finite_inner.Facts] : Prop :=
  ∀ (m : (ℓ : Loc Cert.NormBwdReferenceIdeal.nD Cert.NormBwdReferenceIdeal.τ Cert.NormBwdReferenceIdeal.sig) → Buf (Elt Ideal) ℓ) (g : Dev Cert.NormBwdReferenceIdeal.nD → PrngReg), Pre_NormBwdReferenceIdeal_finite_inner m →
    θ_run (Cert.NormBwdReferenceIdeal.defs (F := Ideal)) (onTc (τ := Cert.NormBwdReferenceIdeal.τ) (Cert.NormBwdReferenceIdeal.main (F := Ideal))) ⟨m, fun _ => 0, g⟩ (fun r => (∀ c : Dev Cert.NormBwdReferenceIdeal.nD,
      r.2.mem ((c.tc : Thread Cert.NormBwdReferenceIdeal.nD Cert.NormBwdReferenceIdeal.τ).loc Cert.NormBwdReferenceIdeal.main_arg0) = m ((c.tc : Thread Cert.NormBwdReferenceIdeal.nD Cert.NormBwdReferenceIdeal.τ).loc Cert.NormBwdReferenceIdeal.main_arg0)
      ∧ r.2.mem ((c.tc : Thread Cert.NormBwdReferenceIdeal.nD Cert.NormBwdReferenceIdeal.τ).loc Cert.NormBwdReferenceIdeal.main_arg1) = m ((c.tc : Thread Cert.NormBwdReferenceIdeal.nD Cert.NormBwdReferenceIdeal.τ).loc Cert.NormBwdReferenceIdeal.main_arg1)
      ∧ r.2.mem ((c.tc : Thread Cert.NormBwdReferenceIdeal.nD Cert.NormBwdReferenceIdeal.τ).loc Cert.NormBwdReferenceIdeal.main_arg2) = m ((c.tc : Thread Cert.NormBwdReferenceIdeal.nD Cert.NormBwdReferenceIdeal.τ).loc Cert.NormBwdReferenceIdeal.main_arg2)
      ∧ r.2.mem ((c.tc : Thread Cert.NormBwdReferenceIdeal.nD Cert.NormBwdReferenceIdeal.τ).loc Cert.NormBwdReferenceIdeal.main_arg3) = m ((c.tc : Thread Cert.NormBwdReferenceIdeal.nD Cert.NormBwdReferenceIdeal.τ).loc Cert.NormBwdReferenceIdeal.main_arg3)
      ∧ r.2.mem ((c.tc : Thread Cert.NormBwdReferenceIdeal.nD Cert.NormBwdReferenceIdeal.τ).loc Cert.NormBwdReferenceIdeal.main_arg4) = m ((c.tc : Thread Cert.NormBwdReferenceIdeal.nD Cert.NormBwdReferenceIdeal.τ).loc Cert.NormBwdReferenceIdeal.main_arg4)
      ∧ r.2.mem ((c.tc : Thread Cert.NormBwdReferenceIdeal.nD Cert.NormBwdReferenceIdeal.τ).loc Cert.NormBwdReferenceIdeal.main_arg5) = m ((c.tc : Thread Cert.NormBwdReferenceIdeal.nD Cert.NormBwdReferenceIdeal.τ).loc Cert.NormBwdReferenceIdeal.main_arg5))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2)
      ∧ r.2.mem ((c.tc : Thread Cert.GateFwd.nD Cert.GateFwd.τ).loc Cert.GateFwd.main_arg3) = m ((c.tc : Thread Cert.GateFwd.nD Cert.GateFwd.τ).loc Cert.GateFwd.main_arg3))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
      ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3))
      ∧ r.2.sem = fun _ => 0)

def quiescent_GateFwdReferenceIdeal [hGateFwdReferenceIdeal : Cert.GateFwdReferenceIdeal.Facts] : Prop :=
  ∀ (m : (ℓ : Loc Cert.GateFwdReferenceIdeal.nD Cert.GateFwdReferenceIdeal.τ Cert.GateFwdReferenceIdeal.sig) → Buf (Elt Ideal) ℓ) (g : Dev Cert.GateFwdReferenceIdeal.nD → PrngReg), Pre_GateFwdReferenceIdeal m →
    θ_run (Cert.GateFwdReferenceIdeal.defs (F := Ideal)) (onTc (τ := Cert.GateFwdReferenceIdeal.τ) (Cert.GateFwdReferenceIdeal.main (F := Ideal))) ⟨m, fun _ => 0, g⟩ (fun r => (∀ c : Dev Cert.GateFwdReferenceIdeal.nD,
      r.2.mem ((c.tc : Thread Cert.GateFwdReferenceIdeal.nD Cert.GateFwdReferenceIdeal.τ).loc Cert.GateFwdReferenceIdeal.main_arg0) = m ((c.tc : Thread Cert.GateFwdReferenceIdeal.nD Cert.GateFwdReferenceIdeal.τ).loc Cert.GateFwdReferenceIdeal.main_arg0)
      ∧ r.2.mem ((c.tc : Thread Cert.GateFwdReferenceIdeal.nD Cert.GateFwdReferenceIdeal.τ).loc Cert.GateFwdReferenceIdeal.main_arg1) = m ((c.tc : Thread Cert.GateFwdReferenceIdeal.nD Cert.GateFwdReferenceIdeal.τ).loc Cert.GateFwdReferenceIdeal.main_arg1)
      ∧ r.2.mem ((c.tc : Thread Cert.GateFwdReferenceIdeal.nD Cert.GateFwdReferenceIdeal.τ).loc Cert.GateFwdReferenceIdeal.main_arg2) = m ((c.tc : Thread Cert.GateFwdReferenceIdeal.nD Cert.GateFwdReferenceIdeal.τ).loc Cert.GateFwdReferenceIdeal.main_arg2)
      ∧ r.2.mem ((c.tc : Thread Cert.GateFwdReferenceIdeal.nD Cert.GateFwdReferenceIdeal.τ).loc Cert.GateFwdReferenceIdeal.main_arg3) = m ((c.tc : Thread Cert.GateFwdReferenceIdeal.nD Cert.GateFwdReferenceIdeal.τ).loc Cert.GateFwdReferenceIdeal.main_arg3))
      ∧ r.2.sem = fun _ => 0)

def quiescent_GateXGrad [hGateXGrad : Cert.GateXGrad.Facts] : Prop :=
  ∀ (m : (ℓ : Loc Cert.GateXGrad.nD Cert.GateXGrad.τ Cert.GateXGrad.sig) → Buf (Elt Bits) ℓ) (g : Dev Cert.GateXGrad.nD → PrngReg), Pre_GateXGrad m →
    θ_run (Cert.GateXGrad.defs (F := Bits)) (onTc (τ := Cert.GateXGrad.τ) (Cert.GateXGrad.main (F := Bits))) ⟨m, fun _ => 0, g⟩ (fun r => (∀ c : Dev Cert.GateXGrad.nD,
      r.2.mem ((c.tc : Thread Cert.GateXGrad.nD Cert.GateXGrad.τ).loc Cert.GateXGrad.main_arg0) = m ((c.tc : Thread Cert.GateXGrad.nD Cert.GateXGrad.τ).loc Cert.GateXGrad.main_arg0)
      ∧ r.2.mem ((c.tc : Thread Cert.GateXGrad.nD Cert.GateXGrad.τ).loc Cert.GateXGrad.main_arg1) = m ((c.tc : Thread Cert.GateXGrad.nD Cert.GateXGrad.τ).loc Cert.GateXGrad.main_arg1)
      ∧ r.2.mem ((c.tc : Thread Cert.GateXGrad.nD Cert.GateXGrad.τ).loc Cert.GateXGrad.main_arg2) = m ((c.tc : Thread Cert.GateXGrad.nD Cert.GateXGrad.τ).loc Cert.GateXGrad.main_arg2)
      ∧ r.2.mem ((c.tc : Thread Cert.GateXGrad.nD Cert.GateXGrad.τ).loc Cert.GateXGrad.main_arg3) = m ((c.tc : Thread Cert.GateXGrad.nD Cert.GateXGrad.τ).loc Cert.GateXGrad.main_arg3)
      ∧ r.2.mem ((c.tc : Thread Cert.GateXGrad.nD Cert.GateXGrad.τ).loc Cert.GateXGrad.main_arg4) = m ((c.tc : Thread Cert.GateXGrad.nD Cert.GateXGrad.τ).loc Cert.GateXGrad.main_arg4))
      ∧ r.2.sem = fun _ => 0)

def quiescent_GateXGradIdeal [hGateXGradIdeal : Cert.GateXGradIdeal.Facts] : Prop :=
  ∀ (m : (ℓ : Loc Cert.GateXGradIdeal.nD Cert.GateXGradIdeal.τ Cert.GateXGradIdeal.sig) → Buf (Elt Ideal) ℓ) (g : Dev Cert.GateXGradIdeal.nD → PrngReg), Pre_GateXGradIdeal m →
    θ_run (Cert.GateXGradIdeal.defs (F := Ideal)) (onTc (τ := Cert.GateXGradIdeal.τ) (Cert.GateXGradIdeal.main (F := Ideal))) ⟨m, fun _ => 0, g⟩ (fun r => (∀ c : Dev Cert.GateXGradIdeal.nD,
      r.2.mem ((c.tc : Thread Cert.GateXGradIdeal.nD Cert.GateXGradIdeal.τ).loc Cert.GateXGradIdeal.main_arg0) = m ((c.tc : Thread Cert.GateXGradIdeal.nD Cert.GateXGradIdeal.τ).loc Cert.GateXGradIdeal.main_arg0)
      ∧ r.2.mem ((c.tc : Thread Cert.GateXGradIdeal.nD Cert.GateXGradIdeal.τ).loc Cert.GateXGradIdeal.main_arg1) = m ((c.tc : Thread Cert.GateXGradIdeal.nD Cert.GateXGradIdeal.τ).loc Cert.GateXGradIdeal.main_arg1)
      ∧ r.2.mem ((c.tc : Thread Cert.GateXGradIdeal.nD Cert.GateXGradIdeal.τ).loc Cert.GateXGradIdeal.main_arg2) = m ((c.tc : Thread Cert.GateXGradIdeal.nD Cert.GateXGradIdeal.τ).loc Cert.GateXGradIdeal.main_arg2)
      ∧ r.2.mem ((c.tc : Thread Cert.GateXGradIdeal.nD Cert.GateXGradIdeal.τ).loc Cert.GateXGradIdeal.main_arg3) = m ((c.tc : Thread Cert.GateXGradIdeal.nD Cert.GateXGradIdeal.τ).loc Cert.GateXGradIdeal.main_arg3)
      ∧ r.2.mem ((c.tc : Thread Cert.GateXGradIdeal.nD Cert.GateXGradIdeal.τ).loc Cert.GateXGradIdeal.main_arg4) = m ((c.tc : Thread Cert.GateXGradIdeal.nD Cert.GateXGradIdeal.τ).loc Cert.GateXGradIdeal.main_arg4))
      ∧ r.2.sem = fun _ => 0)

def quiescent_GateXGradReferenceIdeal [hGateXGradReferenceIdeal : Cert.GateXGradReferenceIdeal.Facts] : Prop :=
  ∀ (m : (ℓ : Loc Cert.GateXGradReferenceIdeal.nD Cert.GateXGradReferenceIdeal.τ Cert.GateXGradReferenceIdeal.sig) → Buf (Elt Ideal) ℓ) (g : Dev Cert.GateXGradReferenceIdeal.nD → PrngReg), Pre_GateXGradReferenceIdeal m →
    θ_run (Cert.GateXGradReferenceIdeal.defs (F := Ideal)) (onTc (τ := Cert.GateXGradReferenceIdeal.τ) (Cert.GateXGradReferenceIdeal.main (F := Ideal))) ⟨m, fun _ => 0, g⟩ (fun r => (∀ c : Dev Cert.GateXGradReferenceIdeal.nD,
      r.2.mem ((c.tc : Thread Cert.GateXGradReferenceIdeal.nD Cert.GateXGradReferenceIdeal.τ).loc Cert.GateXGradReferenceIdeal.main_arg0) = m ((c.tc : Thread Cert.GateXGradReferenceIdeal.nD Cert.GateXGradReferenceIdeal.τ).loc Cert.GateXGradReferenceIdeal.main_arg0)
      ∧ r.2.mem ((c.tc : Thread Cert.GateXGradReferenceIdeal.nD Cert.GateXGradReferenceIdeal.τ).loc Cert.GateXGradReferenceIdeal.main_arg1) = m ((c.tc : Thread Cert.GateXGradReferenceIdeal.nD Cert.GateXGradReferenceIdeal.τ).loc Cert.GateXGradReferenceIdeal.main_arg1)
      ∧ r.2.mem ((c.tc : Thread Cert.GateXGradReferenceIdeal.nD Cert.GateXGradReferenceIdeal.τ).loc Cert.GateXGradReferenceIdeal.main_arg2) = m ((c.tc : Thread Cert.GateXGradReferenceIdeal.nD Cert.GateXGradReferenceIdeal.τ).loc Cert.GateXGradReferenceIdeal.main_arg2)
      ∧ r.2.mem ((c.tc : Thread Cert.GateXGradReferenceIdeal.nD Cert.GateXGradReferenceIdeal.τ).loc Cert.GateXGradReferenceIdeal.main_arg3) = m ((c.tc : Thread Cert.GateXGradReferenceIdeal.nD Cert.GateXGradReferenceIdeal.τ).loc Cert.GateXGradReferenceIdeal.main_arg3)
      ∧ r.2.mem ((c.tc : Thread Cert.GateXGradReferenceIdeal.nD Cert.GateXGradReferenceIdeal.τ).loc Cert.GateXGradReferenceIdeal.main_arg4) = m ((c.tc : Thread Cert.GateXGradReferenceIdeal.nD Cert.GateXGradReferenceIdeal.τ).loc Cert.GateXGradReferenceIdeal.main_arg4))
      ∧ r.2.sem = fun _ => 0)

def quiescent_LruGates [hLruGates : Cert.LruGates.Facts] : Prop :=
  ∀ (m : (ℓ : Loc Cert.LruGates.nD Cert.LruGates.τ Cert.LruGates.sig) → Buf (Elt Bits) ℓ) (g : Dev Cert.LruGates.nD → PrngReg), Pre_LruGates m →
    θ_run (Cert.LruGates.defs (F := Bits)) (onTc (τ := Cert.LruGates.τ) (Cert.LruGates.main (F := Bits))) ⟨m, fun _ => 0, g⟩ (fun r => (∀ c : Dev Cert.LruGates.nD,
      r.2.mem ((c.tc : Thread Cert.LruGates.nD Cert.LruGates.τ).loc Cert.LruGates.main_arg0) = m ((c.tc : Thread Cert.LruGates.nD Cert.LruGates.τ).loc Cert.LruGates.main_arg0)
      ∧ r.2.mem ((c.tc : Thread Cert.LruGates.nD Cert.LruGates.τ).loc Cert.LruGates.main_arg1) = m ((c.tc : Thread Cert.LruGates.nD Cert.LruGates.τ).loc Cert.LruGates.main_arg1)
      ∧ r.2.mem ((c.tc : Thread Cert.LruGates.nD Cert.LruGates.τ).loc Cert.LruGates.main_arg2) = m ((c.tc : Thread Cert.LruGates.nD Cert.LruGates.τ).loc Cert.LruGates.main_arg2)
      ∧ r.2.mem ((c.tc : Thread Cert.LruGates.nD Cert.LruGates.τ).loc Cert.LruGates.main_arg3) = m ((c.tc : Thread Cert.LruGates.nD Cert.LruGates.τ).loc Cert.LruGates.main_arg3)
      ∧ r.2.mem ((c.tc : Thread Cert.LruGates.nD Cert.LruGates.τ).loc Cert.LruGates.main_arg4) = m ((c.tc : Thread Cert.LruGates.nD Cert.LruGates.τ).loc Cert.LruGates.main_arg4))
      ∧ r.2.sem = fun _ => 0)

def quiescent_LruGatesIdeal [hLruGatesIdeal : Cert.LruGatesIdeal.Facts] : Prop :=
  ∀ (m : (ℓ : Loc Cert.LruGatesIdeal.nD Cert.LruGatesIdeal.τ Cert.LruGatesIdeal.sig) → Buf (Elt Ideal) ℓ) (g : Dev Cert.LruGatesIdeal.nD → PrngReg), Pre_LruGatesIdeal m →
    θ_run (Cert.LruGatesIdeal.defs (F := Ideal)) (onTc (τ := Cert.LruGatesIdeal.τ) (Cert.LruGatesIdeal.main (F := Ideal))) ⟨m, fun _ => 0, g⟩ (fun r => (∀ c : Dev Cert.LruGatesIdeal.nD,
      r.2.mem ((c.tc : Thread Cert.LruGatesIdeal.nD Cert.LruGatesIdeal.τ).loc Cert.LruGatesIdeal.main_arg0) = m ((c.tc : Thread Cert.LruGatesIdeal.nD Cert.LruGatesIdeal.τ).loc Cert.LruGatesIdeal.main_arg0)
      ∧ r.2.mem ((c.tc : Thread Cert.LruGatesIdeal.nD Cert.LruGatesIdeal.τ).loc Cert.LruGatesIdeal.main_arg1) = m ((c.tc : Thread Cert.LruGatesIdeal.nD Cert.LruGatesIdeal.τ).loc Cert.LruGatesIdeal.main_arg1)
      ∧ r.2.mem ((c.tc : Thread Cert.LruGatesIdeal.nD Cert.LruGatesIdeal.τ).loc Cert.LruGatesIdeal.main_arg2) = m ((c.tc : Thread Cert.LruGatesIdeal.nD Cert.LruGatesIdeal.τ).loc Cert.LruGatesIdeal.main_arg2)
      ∧ r.2.mem ((c.tc : Thread Cert.LruGatesIdeal.nD Cert.LruGatesIdeal.τ).loc Cert.LruGatesIdeal.main_arg3) = m ((c.tc : Thread Cert.LruGatesIdeal.nD Cert.LruGatesIdeal.τ).loc Cert.LruGatesIdeal.main_arg3)
      ∧ r.2.mem ((c.tc : Thread Cert.LruGatesIdeal.nD Cert.LruGatesIdeal.τ).loc Cert.LruGatesIdeal.main_arg4) = m ((c.tc : Thread Cert.LruGatesIdeal.nD Cert.LruGatesIdeal.τ).loc Cert.LruGatesIdeal.main_arg4))
      ∧ r.2.sem = fun _ => 0)

def quiescent_LruGatesReferenceIdeal [hLruGatesReferenceIdeal : Cert.LruGatesReferenceIdeal.Facts] : Prop :=
  ∀ (m : (ℓ : Loc Cert.LruGatesReferenceIdeal.nD Cert.LruGatesReferenceIdeal.τ Cert.LruGatesReferenceIdeal.sig) → Buf (Elt Ideal) ℓ) (g : Dev Cert.LruGatesReferenceIdeal.nD → PrngReg), Pre_LruGatesReferenceIdeal m →
    θ_run (Cert.LruGatesReferenceIdeal.defs (F := Ideal)) (onTc (τ := Cert.LruGatesReferenceIdeal.τ) (Cert.LruGatesReferenceIdeal.main (F := Ideal))) ⟨m, fun _ => 0, g⟩ (fun r => (∀ c : Dev Cert.LruGatesReferenceIdeal.nD,
      r.2.mem ((c.tc : Thread Cert.LruGatesReferenceIdeal.nD Cert.LruGatesReferenceIdeal.τ).loc Cert.LruGatesReferenceIdeal.main_arg0) = m ((c.tc : Thread Cert.LruGatesReferenceIdeal.nD Cert.LruGatesReferenceIdeal.τ).loc Cert.LruGatesReferenceIdeal.main_arg0)
      ∧ r.2.mem ((c.tc : Thread Cert.LruGatesReferenceIdeal.nD Cert.LruGatesReferenceIdeal.τ).loc Cert.LruGatesReferenceIdeal.main_arg1) = m ((c.tc : Thread Cert.LruGatesReferenceIdeal.nD Cert.LruGatesReferenceIdeal.τ).loc Cert.LruGatesReferenceIdeal.main_arg1)
      ∧ r.2.mem ((c.tc : Thread Cert.LruGatesReferenceIdeal.nD Cert.LruGatesReferenceIdeal.τ).loc Cert.LruGatesReferenceIdeal.main_arg2) = m ((c.tc : Thread Cert.LruGatesReferenceIdeal.nD Cert.LruGatesReferenceIdeal.τ).loc Cert.LruGatesReferenceIdeal.main_arg2)
      ∧ r.2.mem ((c.tc : Thread Cert.LruGatesReferenceIdeal.nD Cert.LruGatesReferenceIdeal.τ).loc Cert.LruGatesReferenceIdeal.main_arg3) = m ((c.tc : Thread Cert.LruGatesReferenceIdeal.nD Cert.LruGatesReferenceIdeal.τ).loc Cert.LruGatesReferenceIdeal.main_arg3)
      ∧ r.2.mem ((c.tc : Thread Cert.LruGatesReferenceIdeal.nD Cert.LruGatesReferenceIdeal.τ).loc Cert.LruGatesReferenceIdeal.main_arg4) = m ((c.tc : Thread Cert.LruGatesReferenceIdeal.nD Cert.LruGatesReferenceIdeal.τ).loc Cert.LruGatesReferenceIdeal.main_arg4))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWReferenceIdeal [hAdamWReferenceIdeal : Cert.AdamWReferenceIdeal.Facts] : Prop :=
  ∀ (m : (ℓ : Loc Cert.AdamWReferenceIdeal.nD Cert.AdamWReferenceIdeal.τ Cert.AdamWReferenceIdeal.sig) → Buf (Elt Ideal) ℓ) (g : Dev Cert.AdamWReferenceIdeal.nD → PrngReg), Pre_AdamWReferenceIdeal m →
    θ_run (Cert.AdamWReferenceIdeal.defs (F := Ideal)) (onTc (τ := Cert.AdamWReferenceIdeal.τ) (Cert.AdamWReferenceIdeal.main (F := Ideal))) ⟨m, fun _ => 0, g⟩ (fun r => (∀ c : Dev Cert.AdamWReferenceIdeal.nD,
      r.2.mem ((c.tc : Thread Cert.AdamWReferenceIdeal.nD Cert.AdamWReferenceIdeal.τ).loc Cert.AdamWReferenceIdeal.main_arg0) = m ((c.tc : Thread Cert.AdamWReferenceIdeal.nD Cert.AdamWReferenceIdeal.τ).loc Cert.AdamWReferenceIdeal.main_arg0)
      ∧ r.2.mem ((c.tc : Thread Cert.AdamWReferenceIdeal.nD Cert.AdamWReferenceIdeal.τ).loc Cert.AdamWReferenceIdeal.main_arg1) = m ((c.tc : Thread Cert.AdamWReferenceIdeal.nD Cert.AdamWReferenceIdeal.τ).loc Cert.AdamWReferenceIdeal.main_arg1)
      ∧ r.2.mem ((c.tc : Thread Cert.AdamWReferenceIdeal.nD Cert.AdamWReferenceIdeal.τ).loc Cert.AdamWReferenceIdeal.main_arg2) = m ((c.tc : Thread Cert.AdamWReferenceIdeal.nD Cert.AdamWReferenceIdeal.τ).loc Cert.AdamWReferenceIdeal.main_arg2)
      ∧ r.2.mem ((c.tc : Thread Cert.AdamWReferenceIdeal.nD Cert.AdamWReferenceIdeal.τ).loc Cert.AdamWReferenceIdeal.main_arg3) = m ((c.tc : Thread Cert.AdamWReferenceIdeal.nD Cert.AdamWReferenceIdeal.τ).loc Cert.AdamWReferenceIdeal.main_arg3))
      ∧ r.2.sem = fun _ => 0)

def preserves_Kernel_KernelIdeal : Prop :=
  IdealRules.named_const.Statement Cert.KernelIdeal.κ "neg_quarter_log2" .f32 0xBE317218#32 (((-(4⁻¹)) * (Real.log 2) : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)) (v3 : (c : Dev Cert.KernelIdeal.nD) → Buf (Elt Ideal) ((c.tc : Thread Cert.KernelIdeal.nD Cert.KernelIdeal.τ).loc Cert.KernelIdeal.main_v24_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_v24_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_v191) = v1 c
          ∧ r.2.mem ((c.tc : Thread Cert.ReferenceIdeal.nD Cert.ReferenceIdeal.τ).loc Cert.ReferenceIdeal.main_v194) = v2 c
          ∧ r.2.mem ((c.tc : Thread Cert.ReferenceIdeal.nD Cert.ReferenceIdeal.τ).loc Cert.ReferenceIdeal.main_v196) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v0) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_DownGrad_DownGradIdeal : Prop :=
  True

def algebraic_DownGradIdeal_DownGradReferenceIdeal [hDownGradIdeal : Cert.DownGradIdeal.Facts] [hDownGradReferenceIdeal : Cert.DownGradReferenceIdeal.Facts] : Prop :=
  ∀ (m : (ℓ : Loc Cert.DownGradIdeal.nD Cert.DownGradIdeal.τ Cert.DownGradIdeal.sig) → Buf (Elt Ideal) ℓ) (g : Dev Cert.DownGradIdeal.nD → PrngReg)
    (m' : (ℓ : Loc Cert.DownGradReferenceIdeal.nD Cert.DownGradReferenceIdeal.τ Cert.DownGradReferenceIdeal.sig) → Buf (Elt Ideal) ℓ) (g' : Dev Cert.DownGradReferenceIdeal.nD → PrngReg), Pre_DownGradIdeal m →
    (∀ c : Dev Cert.DownGradIdeal.nD,
      m' ((c.tc : Thread Cert.DownGradReferenceIdeal.nD Cert.DownGradReferenceIdeal.τ).loc Cert.DownGradReferenceIdeal.main_arg0) = m ((c.tc : Thread Cert.DownGradIdeal.nD Cert.DownGradIdeal.τ).loc Cert.DownGradIdeal.main_arg0)
      ∧ m' ((c.tc : Thread Cert.DownGradReferenceIdeal.nD Cert.DownGradReferenceIdeal.τ).loc Cert.DownGradReferenceIdeal.main_arg1) = m ((c.tc : Thread Cert.DownGradIdeal.nD Cert.DownGradIdeal.τ).loc Cert.DownGradIdeal.main_arg1)) →
    ∃ (v0 : (c : Dev Cert.DownGradIdeal.nD) → Buf (Elt Ideal) ((c.tc : Thread Cert.DownGradIdeal.nD Cert.DownGradIdeal.τ).loc Cert.DownGradIdeal.main_v2_0)) (v1 : (c : Dev Cert.DownGradIdeal.nD) → Buf (Elt Ideal) ((c.tc : Thread Cert.DownGradIdeal.nD Cert.DownGradIdeal.τ).loc Cert.DownGradIdeal.main_v2_1)),
      θ_run (Cert.DownGradIdeal.defs (F := Ideal)) (onTc (τ := Cert.DownGradIdeal.τ) (Cert.DownGradIdeal.main (F := Ideal))) ⟨m, fun _ => 0, g⟩ (fun r => ∀ c : Dev Cert.DownGradIdeal.nD,
          r.2.mem ((c.tc : Thread Cert.DownGradIdeal.nD Cert.DownGradIdeal.τ).loc Cert.DownGradIdeal.main_v2_0) = v0 c
          ∧ r.2.mem ((c.tc : Thread Cert.DownGradIdeal.nD Cert.DownGradIdeal.τ).loc Cert.DownGradIdeal.main_v2_1) = v1 c
          ∧ r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ θ_run (Cert.DownGradReferenceIdeal.defs (F := Ideal)) (onTc (τ := Cert.DownGradReferenceIdeal.τ) (Cert.DownGradReferenceIdeal.main (F := Ideal))) ⟨m', fun _ => 0, g'⟩ (fun r => ∀ c : Dev Cert.DownGradReferenceIdeal.nD,
          r.2.mem ((c.tc : Thread Cert.DownGradReferenceIdeal.nD Cert.DownGradReferenceIdeal.τ).loc Cert.DownGradReferenceIdeal.main_v3) = v0 c
          ∧ r.2.mem ((c.tc : Thread Cert.DownGradReferenceIdeal.nD Cert.DownGradReferenceIdeal.τ).loc Cert.DownGradReferenceIdeal.main_v4) = v1 c
          ∧ r.2.mem ((c.tc : Thread Cert.DownGradReferenceIdeal.nD Cert.DownGradReferenceIdeal.τ).loc Cert.DownGradReferenceIdeal.main_arg0) = m' ((c.tc : Thread Cert.DownGradReferenceIdeal.nD Cert.DownGradReferenceIdeal.τ).loc Cert.DownGradReferenceIdeal.main_arg0)
          ∧ r.2.mem ((c.tc : Thread Cert.DownGradReferenceIdeal.nD Cert.DownGradReferenceIdeal.τ).loc Cert.DownGradReferenceIdeal.main_arg1) = m' ((c.tc : Thread Cert.DownGradReferenceIdeal.nD Cert.DownGradReferenceIdeal.τ).loc Cert.DownGradReferenceIdeal.main_arg1))

def preserves_OutGrad_OutGradIdeal : Prop :=
  True

def algebraic_OutGradIdeal_OutGradReferenceIdeal [hOutGradIdeal : Cert.OutGradIdeal.Facts] [hOutGradReferenceIdeal : Cert.OutGradReferenceIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradReferenceIdeal.nD Cert.OutGradReferenceIdeal.τ Cert.OutGradReferenceIdeal.sig) → Buf (Elt Ideal) ℓ) (g' : Dev Cert.OutGradReferenceIdeal.nD → PrngReg), Pre_OutGradIdeal m →
    (∀ c : Dev Cert.OutGradIdeal.nD,
      m' ((c.tc : Thread Cert.OutGradReferenceIdeal.nD Cert.OutGradReferenceIdeal.τ).loc Cert.OutGradReferenceIdeal.main_arg0) = m ((c.tc : Thread Cert.OutGradIdeal.nD Cert.OutGradIdeal.τ).loc Cert.OutGradIdeal.main_arg0)
      ∧ m' ((c.tc : Thread Cert.OutGradReferenceIdeal.nD Cert.OutGradReferenceIdeal.τ).loc Cert.OutGradReferenceIdeal.main_arg1) = m ((c.tc : Thread Cert.OutGradIdeal.nD Cert.OutGradIdeal.τ).loc Cert.OutGradIdeal.main_arg1)) →
    ∃ (v0 : (c : Dev Cert.OutGradIdeal.nD) → Buf (Elt Ideal) ((c.tc : Thread Cert.OutGradIdeal.nD Cert.OutGradIdeal.τ).loc Cert.OutGradIdeal.main_v2_0)) (v1 : (c : Dev Cert.OutGradIdeal.nD) → Buf (Elt Ideal) ((c.tc : Thread Cert.OutGradIdeal.nD Cert.OutGradIdeal.τ).loc Cert.OutGradIdeal.main_v2_1)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v2_0) = v0 c
          ∧ r.2.mem ((c.tc : Thread Cert.OutGradIdeal.nD Cert.OutGradIdeal.τ).loc Cert.OutGradIdeal.main_v2_1) = v1 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ θ_run (Cert.OutGradReferenceIdeal.defs (F := Ideal)) (onTc (τ := Cert.OutGradReferenceIdeal.τ) (Cert.OutGradReferenceIdeal.main (F := Ideal))) ⟨m', fun _ => 0, g'⟩ (fun r => ∀ c : Dev Cert.OutGradReferenceIdeal.nD,
          r.2.mem ((c.tc : Thread Cert.OutGradReferenceIdeal.nD Cert.OutGradReferenceIdeal.τ).loc Cert.OutGradReferenceIdeal.main_v3) = v0 c
          ∧ r.2.mem ((c.tc : Thread Cert.OutGradReferenceIdeal.nD Cert.OutGradReferenceIdeal.τ).loc Cert.OutGradReferenceIdeal.main_v4) = v1 c
          ∧ r.2.mem ((c.tc : Thread Cert.OutGradReferenceIdeal.nD Cert.OutGradReferenceIdeal.τ).loc Cert.OutGradReferenceIdeal.main_arg0) = m' ((c.tc : Thread Cert.OutGradReferenceIdeal.nD Cert.OutGradReferenceIdeal.τ).loc Cert.OutGradReferenceIdeal.main_arg0)
          ∧ r.2.mem ((c.tc : Thread Cert.OutGradReferenceIdeal.nD Cert.OutGradReferenceIdeal.τ).loc Cert.OutGradReferenceIdeal.main_arg1) = m' ((c.tc : Thread Cert.OutGradReferenceIdeal.nD Cert.OutGradReferenceIdeal.τ).loc Cert.OutGradReferenceIdeal.main_arg1))

def preserves_MixGrad_MixGradIdeal : Prop :=
  True

def algebraic_MixGradIdeal_MixGradReferenceIdeal [hMixGradIdeal : Cert.MixGradIdeal.Facts] [hMixGradReferenceIdeal : Cert.MixGradReferenceIdeal.Facts] : Prop :=
  ∀ (m : (ℓ : Loc Cert.MixGradIdeal.nD Cert.MixGradIdeal.τ Cert.MixGradIdeal.sig) → Buf (Elt Ideal) ℓ) (g : Dev Cert.MixGradIdeal.nD → PrngReg)
    (m' : (ℓ : Loc Cert.MixGradReferenceIdeal.nD Cert.MixGradReferenceIdeal.τ Cert.MixGradReferenceIdeal.sig) → Buf (Elt Ideal) ℓ) (g' : Dev Cert.MixGradReferenceIdeal.nD → PrngReg), Pre_MixGradIdeal m →
    (∀ c : Dev Cert.MixGradIdeal.nD,
      m' ((c.tc : Thread Cert.MixGradReferenceIdeal.nD Cert.MixGradReferenceIdeal.τ).loc Cert.MixGradReferenceIdeal.main_arg0) = m ((c.tc : Thread Cert.MixGradIdeal.nD Cert.MixGradIdeal.τ).loc Cert.MixGradIdeal.main_arg0)
      ∧ m' ((c.tc : Thread Cert.MixGradReferenceIdeal.nD Cert.MixGradReferenceIdeal.τ).loc Cert.MixGradReferenceIdeal.main_arg1) = m ((c.tc : Thread Cert.MixGradIdeal.nD Cert.MixGradIdeal.τ).loc Cert.MixGradIdeal.main_arg1)) →
    ∃ (v0 : (c : Dev Cert.MixGradIdeal.nD) → Buf (Elt Ideal) ((c.tc : Thread Cert.MixGradIdeal.nD Cert.MixGradIdeal.τ).loc Cert.MixGradIdeal.main_v2)),
      θ_run (Cert.MixGradIdeal.defs (F := Ideal)) (onTc (τ := Cert.MixGradIdeal.τ) (Cert.MixGradIdeal.main (F := Ideal))) ⟨m, fun _ => 0, g⟩ (fun r => ∀ c : Dev Cert.MixGradIdeal.nD,
          r.2.mem ((c.tc : Thread Cert.MixGradIdeal.nD Cert.MixGradIdeal.τ).loc Cert.MixGradIdeal.main_v2) = v0 c
          ∧ r.2.mem ((c.tc : Thread Cert.MixGradIdeal.nD Cert.MixGradIdeal.τ).loc Cert.MixGradIdeal.main_arg0) = m ((c.tc : Thread Cert.MixGradIdeal.nD Cert.MixGradIdeal.τ).loc Cert.MixGradIdeal.main_arg0)
          ∧ r.2.mem ((c.tc : Thread Cert.MixGradIdeal.nD Cert.MixGradIdeal.τ).loc Cert.MixGradIdeal.main_arg1) = m ((c.tc : Thread Cert.MixGradIdeal.nD Cert.MixGradIdeal.τ).loc Cert.MixGradIdeal.main_arg1))
      ∧ θ_run (Cert.MixGradReferenceIdeal.defs (F := Ideal)) (onTc (τ := Cert.MixGradReferenceIdeal.τ) (Cert.MixGradReferenceIdeal.main (F := Ideal))) ⟨m', fun _ => 0, g'⟩ (fun r => ∀ c : Dev Cert.MixGradReferenceIdeal.nD,
          r.2.mem ((c.tc : Thread Cert.MixGradReferenceIdeal.nD Cert.MixGradReferenceIdeal.τ).loc Cert.MixGradReferenceIdeal.main_v2) = v0 c
          ∧ r.2.mem ((c.tc : Thread Cert.MixGradReferenceIdeal.nD Cert.MixGradReferenceIdeal.τ).loc Cert.MixGradReferenceIdeal.main_arg0) = m' ((c.tc : Thread Cert.MixGradReferenceIdeal.nD Cert.MixGradReferenceIdeal.τ).loc Cert.MixGradReferenceIdeal.main_arg0)
          ∧ r.2.mem ((c.tc : Thread Cert.MixGradReferenceIdeal.nD Cert.MixGradReferenceIdeal.τ).loc Cert.MixGradReferenceIdeal.main_arg1) = m' ((c.tc : Thread Cert.MixGradReferenceIdeal.nD Cert.MixGradReferenceIdeal.τ).loc Cert.MixGradReferenceIdeal.main_arg1))

def preserves_RnnProjGrad_RnnProjGradIdeal : Prop :=
  True

def algebraic_RnnProjGradIdeal_RnnProjGradReferenceIdeal [hRnnProjGradIdeal : Cert.RnnProjGradIdeal.Facts] [hRnnProjGradReferenceIdeal : Cert.RnnProjGradReferenceIdeal.Facts] : Prop :=
  ∀ (m : (ℓ : Loc Cert.RnnProjGradIdeal.nD Cert.RnnProjGradIdeal.τ Cert.RnnProjGradIdeal.sig) → Buf (Elt Ideal) ℓ) (g : Dev Cert.RnnProjGradIdeal.nD → PrngReg)
    (m' : (ℓ : Loc Cert.RnnProjGradReferenceIdeal.nD Cert.RnnProjGradReferenceIdeal.τ Cert.RnnProjGradReferenceIdeal.sig) → Buf (Elt Ideal) ℓ) (g' : Dev Cert.RnnProjGradReferenceIdeal.nD → PrngReg), Pre_RnnProjGradIdeal m →
    (∀ c : Dev Cert.RnnProjGradIdeal.nD,
      m' ((c.tc : Thread Cert.RnnProjGradReferenceIdeal.nD Cert.RnnProjGradReferenceIdeal.τ).loc Cert.RnnProjGradReferenceIdeal.main_arg0) = m ((c.tc : Thread Cert.RnnProjGradIdeal.nD Cert.RnnProjGradIdeal.τ).loc Cert.RnnProjGradIdeal.main_arg0)
      ∧ m' ((c.tc : Thread Cert.RnnProjGradReferenceIdeal.nD Cert.RnnProjGradReferenceIdeal.τ).loc Cert.RnnProjGradReferenceIdeal.main_arg1) = m ((c.tc : Thread Cert.RnnProjGradIdeal.nD Cert.RnnProjGradIdeal.τ).loc Cert.RnnProjGradIdeal.main_arg1)) →
    ∃ (v0 : (c : Dev Cert.RnnProjGradIdeal.nD) → Buf (Elt Ideal) ((c.tc : Thread Cert.RnnProjGradIdeal.nD Cert.RnnProjGradIdeal.τ).loc Cert.RnnProjGradIdeal.main_v2_0)) (v1 : (c : Dev Cert.RnnProjGradIdeal.nD) → Buf (Elt Ideal) ((c.tc : Thread Cert.RnnProjGradIdeal.nD Cert.RnnProjGradIdeal.τ).loc Cert.RnnProjGradIdeal.main_v2_1)),
      θ_run (Cert.RnnProjGradIdeal.defs (F := Ideal)) (onTc (τ := Cert.RnnProjGradIdeal.τ) (Cert.RnnProjGradIdeal.main (F := Ideal))) ⟨m, fun _ => 0, g⟩ (fun r => ∀ c : Dev Cert.RnnProjGradIdeal.nD,
          r.2.mem ((c.tc : Thread Cert.RnnProjGradIdeal.nD Cert.RnnProjGradIdeal.τ).loc Cert.RnnProjGradIdeal.main_v2_0) = v0 c
          ∧ r.2.mem ((c.tc : Thread Cert.RnnProjGradIdeal.nD Cert.RnnProjGradIdeal.τ).loc Cert.RnnProjGradIdeal.main_v2_1) = v1 c
          ∧ r.2.mem ((c.tc : Thread Cert.RnnProjGradIdeal.nD Cert.RnnProjGradIdeal.τ).loc Cert.RnnProjGradIdeal.main_arg0) = m ((c.tc : Thread Cert.RnnProjGradIdeal.nD Cert.RnnProjGradIdeal.τ).loc Cert.RnnProjGradIdeal.main_arg0)
          ∧ r.2.mem ((c.tc : Thread Cert.RnnProjGradIdeal.nD Cert.RnnProjGradIdeal.τ).loc Cert.RnnProjGradIdeal.main_arg1) = m ((c.tc : Thread Cert.RnnProjGradIdeal.nD Cert.RnnProjGradIdeal.τ).loc Cert.RnnProjGradIdeal.main_arg1))
      ∧ θ_run (Cert.RnnProjGradReferenceIdeal.defs (F := Ideal)) (onTc (τ := Cert.RnnProjGradReferenceIdeal.τ) (Cert.RnnProjGradReferenceIdeal.main (F := Ideal))) ⟨m', fun _ => 0, g'⟩ (fun r => ∀ c : Dev Cert.RnnProjGradReferenceIdeal.nD,
          r.2.mem ((c.tc : Thread Cert.RnnProjGradReferenceIdeal.nD Cert.RnnProjGradReferenceIdeal.τ).loc Cert.RnnProjGradReferenceIdeal.main_v3) = v0 c
          ∧ r.2.mem ((c.tc : Thread Cert.RnnProjGradReferenceIdeal.nD Cert.RnnProjGradReferenceIdeal.τ).loc Cert.RnnProjGradReferenceIdeal.main_v4) = v1 c
          ∧ r.2.mem ((c.tc : Thread Cert.RnnProjGradReferenceIdeal.nD Cert.RnnProjGradReferenceIdeal.τ).loc Cert.RnnProjGradReferenceIdeal.main_arg0) = m' ((c.tc : Thread Cert.RnnProjGradReferenceIdeal.nD Cert.RnnProjGradReferenceIdeal.τ).loc Cert.RnnProjGradReferenceIdeal.main_arg0)
          ∧ r.2.mem ((c.tc : Thread Cert.RnnProjGradReferenceIdeal.nD Cert.RnnProjGradReferenceIdeal.τ).loc Cert.RnnProjGradReferenceIdeal.main_arg1) = m' ((c.tc : Thread Cert.RnnProjGradReferenceIdeal.nD Cert.RnnProjGradReferenceIdeal.τ).loc Cert.RnnProjGradReferenceIdeal.main_arg1))

def preserves_AttnOutGrad_AttnOutGradIdeal : Prop :=
  True

def algebraic_AttnOutGradIdeal_AttnOutGradReferenceIdeal [hAttnOutGradIdeal : Cert.AttnOutGradIdeal.Facts] [hAttnOutGradReferenceIdeal : Cert.AttnOutGradReferenceIdeal.Facts] : Prop :=
  ∀ (m : (ℓ : Loc Cert.AttnOutGradIdeal.nD Cert.AttnOutGradIdeal.τ Cert.AttnOutGradIdeal.sig) → Buf (Elt Ideal) ℓ) (g : Dev Cert.AttnOutGradIdeal.nD → PrngReg)
    (m' : (ℓ : Loc Cert.AttnOutGradReferenceIdeal.nD Cert.AttnOutGradReferenceIdeal.τ Cert.AttnOutGradReferenceIdeal.sig) → Buf (Elt Ideal) ℓ) (g' : Dev Cert.AttnOutGradReferenceIdeal.nD → PrngReg), Pre_AttnOutGradIdeal m →
    (∀ c : Dev Cert.AttnOutGradIdeal.nD,
      m' ((c.tc : Thread Cert.AttnOutGradReferenceIdeal.nD Cert.AttnOutGradReferenceIdeal.τ).loc Cert.AttnOutGradReferenceIdeal.main_arg0) = m ((c.tc : Thread Cert.AttnOutGradIdeal.nD Cert.AttnOutGradIdeal.τ).loc Cert.AttnOutGradIdeal.main_arg0)
      ∧ m' ((c.tc : Thread Cert.AttnOutGradReferenceIdeal.nD Cert.AttnOutGradReferenceIdeal.τ).loc Cert.AttnOutGradReferenceIdeal.main_arg1) = m ((c.tc : Thread Cert.AttnOutGradIdeal.nD Cert.AttnOutGradIdeal.τ).loc Cert.AttnOutGradIdeal.main_arg1)) →
    ∃ (v0 : (c : Dev Cert.AttnOutGradIdeal.nD) → Buf (Elt Ideal) ((c.tc : Thread Cert.AttnOutGradIdeal.nD Cert.AttnOutGradIdeal.τ).loc Cert.AttnOutGradIdeal.main_v2)),
      θ_run (Cert.AttnOutGradIdeal.defs (F := Ideal)) (onTc (τ := Cert.AttnOutGradIdeal.τ) (Cert.AttnOutGradIdeal.main (F := Ideal))) ⟨m, fun _ => 0, g⟩ (fun r => ∀ c : Dev Cert.AttnOutGradIdeal.nD,
          r.2.mem ((c.tc : Thread Cert.AttnOutGradIdeal.nD Cert.AttnOutGradIdeal.τ).loc Cert.AttnOutGradIdeal.main_v2) = v0 c
          ∧ r.2.mem ((c.tc : Thread Cert.AttnOutGradIdeal.nD Cert.AttnOutGradIdeal.τ).loc Cert.AttnOutGradIdeal.main_arg0) = m ((c.tc : Thread Cert.AttnOutGradIdeal.nD Cert.AttnOutGradIdeal.τ).loc Cert.AttnOutGradIdeal.main_arg0)
          ∧ r.2.mem ((c.tc : Thread Cert.AttnOutGradIdeal.nD Cert.AttnOutGradIdeal.τ).loc Cert.AttnOutGradIdeal.main_arg1) = m ((c.tc : Thread Cert.AttnOutGradIdeal.nD Cert.AttnOutGradIdeal.τ).loc Cert.AttnOutGradIdeal.main_arg1))
      ∧ θ_run (Cert.AttnOutGradReferenceIdeal.defs (F := Ideal)) (onTc (τ := Cert.AttnOutGradReferenceIdeal.τ) (Cert.AttnOutGradReferenceIdeal.main (F := Ideal))) ⟨m', fun _ => 0, g'⟩ (fun r => ∀ c : Dev Cert.AttnOutGradReferenceIdeal.nD,
          r.2.mem ((c.tc : Thread Cert.AttnOutGradReferenceIdeal.nD Cert.AttnOutGradReferenceIdeal.τ).loc Cert.AttnOutGradReferenceIdeal.main_v4) = v0 c
          ∧ r.2.mem ((c.tc : Thread Cert.AttnOutGradReferenceIdeal.nD Cert.AttnOutGradReferenceIdeal.τ).loc Cert.AttnOutGradReferenceIdeal.main_arg0) = m' ((c.tc : Thread Cert.AttnOutGradReferenceIdeal.nD Cert.AttnOutGradReferenceIdeal.τ).loc Cert.AttnOutGradReferenceIdeal.main_arg0)
          ∧ r.2.mem ((c.tc : Thread Cert.AttnOutGradReferenceIdeal.nD Cert.AttnOutGradReferenceIdeal.τ).loc Cert.AttnOutGradReferenceIdeal.main_arg1) = m' ((c.tc : Thread Cert.AttnOutGradReferenceIdeal.nD Cert.AttnOutGradReferenceIdeal.τ).loc Cert.AttnOutGradReferenceIdeal.main_arg1))

def preserves_RnnOutGrad_RnnOutGradIdeal : Prop :=
  True

def algebraic_RnnOutGradIdeal_RnnOutGradReferenceIdeal [hRnnOutGradIdeal : Cert.RnnOutGradIdeal.Facts] [hRnnOutGradReferenceIdeal : Cert.RnnOutGradReferenceIdeal.Facts] : Prop :=
  ∀ (m : (ℓ : Loc Cert.RnnOutGradIdeal.nD Cert.RnnOutGradIdeal.τ Cert.RnnOutGradIdeal.sig) → Buf (Elt Ideal) ℓ) (g : Dev Cert.RnnOutGradIdeal.nD → PrngReg)
    (m' : (ℓ : Loc Cert.RnnOutGradReferenceIdeal.nD Cert.RnnOutGradReferenceIdeal.τ Cert.RnnOutGradReferenceIdeal.sig) → Buf (Elt Ideal) ℓ) (g' : Dev Cert.RnnOutGradReferenceIdeal.nD → PrngReg), Pre_RnnOutGradIdeal m →
    (∀ c : Dev Cert.RnnOutGradIdeal.nD,
      m' ((c.tc : Thread Cert.RnnOutGradReferenceIdeal.nD Cert.RnnOutGradReferenceIdeal.τ).loc Cert.RnnOutGradReferenceIdeal.main_arg0) = m ((c.tc : Thread Cert.RnnOutGradIdeal.nD Cert.RnnOutGradIdeal.τ).loc Cert.RnnOutGradIdeal.main_arg0)
      ∧ m' ((c.tc : Thread Cert.RnnOutGradReferenceIdeal.nD Cert.RnnOutGradReferenceIdeal.τ).loc Cert.RnnOutGradReferenceIdeal.main_arg1) = m ((c.tc : Thread Cert.RnnOutGradIdeal.nD Cert.RnnOutGradIdeal.τ).loc Cert.RnnOutGradIdeal.main_arg1)) →
    ∃ (v0 : (c : Dev Cert.RnnOutGradIdeal.nD) → Buf (Elt Ideal) ((c.tc : Thread Cert.RnnOutGradIdeal.nD Cert.RnnOutGradIdeal.τ).loc Cert.RnnOutGradIdeal.main_v2)),
      θ_run (Cert.RnnOutGradIdeal.defs (F := Ideal)) (onTc (τ := Cert.RnnOutGradIdeal.τ) (Cert.RnnOutGradIdeal.main (F := Ideal))) ⟨m, fun _ => 0, g⟩ (fun r => ∀ c : Dev Cert.RnnOutGradIdeal.nD,
          r.2.mem ((c.tc : Thread Cert.RnnOutGradIdeal.nD Cert.RnnOutGradIdeal.τ).loc Cert.RnnOutGradIdeal.main_v2) = v0 c
          ∧ r.2.mem ((c.tc : Thread Cert.RnnOutGradIdeal.nD Cert.RnnOutGradIdeal.τ).loc Cert.RnnOutGradIdeal.main_arg0) = m ((c.tc : Thread Cert.RnnOutGradIdeal.nD Cert.RnnOutGradIdeal.τ).loc Cert.RnnOutGradIdeal.main_arg0)
          ∧ r.2.mem ((c.tc : Thread Cert.RnnOutGradIdeal.nD Cert.RnnOutGradIdeal.τ).loc Cert.RnnOutGradIdeal.main_arg1) = m ((c.tc : Thread Cert.RnnOutGradIdeal.nD Cert.RnnOutGradIdeal.τ).loc Cert.RnnOutGradIdeal.main_arg1))
      ∧ θ_run (Cert.RnnOutGradReferenceIdeal.defs (F := Ideal)) (onTc (τ := Cert.RnnOutGradReferenceIdeal.τ) (Cert.RnnOutGradReferenceIdeal.main (F := Ideal))) ⟨m', fun _ => 0, g'⟩ (fun r => ∀ c : Dev Cert.RnnOutGradReferenceIdeal.nD,
          r.2.mem ((c.tc : Thread Cert.RnnOutGradReferenceIdeal.nD Cert.RnnOutGradReferenceIdeal.τ).loc Cert.RnnOutGradReferenceIdeal.main_v2) = v0 c
          ∧ r.2.mem ((c.tc : Thread Cert.RnnOutGradReferenceIdeal.nD Cert.RnnOutGradReferenceIdeal.τ).loc Cert.RnnOutGradReferenceIdeal.main_arg0) = m' ((c.tc : Thread Cert.RnnOutGradReferenceIdeal.nD Cert.RnnOutGradReferenceIdeal.τ).loc Cert.RnnOutGradReferenceIdeal.main_arg0)
          ∧ r.2.mem ((c.tc : Thread Cert.RnnOutGradReferenceIdeal.nD Cert.RnnOutGradReferenceIdeal.τ).loc Cert.RnnOutGradReferenceIdeal.main_arg1) = m' ((c.tc : Thread Cert.RnnOutGradReferenceIdeal.nD Cert.RnnOutGradReferenceIdeal.τ).loc Cert.RnnOutGradReferenceIdeal.main_arg1))

def preserves_GateWGrad_GateWGradIdeal : Prop :=
  True

def algebraic_GateWGradIdeal_GateWGradReferenceIdeal [hGateWGradIdeal : Cert.GateWGradIdeal.Facts] [hGateWGradReferenceIdeal : Cert.GateWGradReferenceIdeal.Facts] : Prop :=
  ∀ (m : (ℓ : Loc Cert.GateWGradIdeal.nD Cert.GateWGradIdeal.τ Cert.GateWGradIdeal.sig) → Buf (Elt Ideal) ℓ) (g : Dev Cert.GateWGradIdeal.nD → PrngReg)
    (m' : (ℓ : Loc Cert.GateWGradReferenceIdeal.nD Cert.GateWGradReferenceIdeal.τ Cert.GateWGradReferenceIdeal.sig) → Buf (Elt Ideal) ℓ) (g' : Dev Cert.GateWGradReferenceIdeal.nD → PrngReg), Pre_GateWGradIdeal m →
    (∀ c : Dev Cert.GateWGradIdeal.nD,
      m' ((c.tc : Thread Cert.GateWGradReferenceIdeal.nD Cert.GateWGradReferenceIdeal.τ).loc Cert.GateWGradReferenceIdeal.main_arg0) = m ((c.tc : Thread Cert.GateWGradIdeal.nD Cert.GateWGradIdeal.τ).loc Cert.GateWGradIdeal.main_arg0)
      ∧ m' ((c.tc : Thread Cert.GateWGradReferenceIdeal.nD Cert.GateWGradReferenceIdeal.τ).loc Cert.GateWGradReferenceIdeal.main_arg1) = m ((c.tc : Thread Cert.GateWGradIdeal.nD Cert.GateWGradIdeal.τ).loc Cert.GateWGradIdeal.main_arg1)
      ∧ m' ((c.tc : Thread Cert.GateWGradReferenceIdeal.nD Cert.GateWGradReferenceIdeal.τ).loc Cert.GateWGradReferenceIdeal.main_arg2) = m ((c.tc : Thread Cert.GateWGradIdeal.nD Cert.GateWGradIdeal.τ).loc Cert.GateWGradIdeal.main_arg2)) →
    ∃ (v0 : (c : Dev Cert.GateWGradIdeal.nD) → Buf (Elt Ideal) ((c.tc : Thread Cert.GateWGradIdeal.nD Cert.GateWGradIdeal.τ).loc Cert.GateWGradIdeal.main_v51)) (v1 : (c : Dev Cert.GateWGradIdeal.nD) → Buf (Elt Ideal) ((c.tc : Thread Cert.GateWGradIdeal.nD Cert.GateWGradIdeal.τ).loc Cert.GateWGradIdeal.main_v100)),
      θ_run (Cert.GateWGradIdeal.defs (F := Ideal)) (onTc (τ := Cert.GateWGradIdeal.τ) (Cert.GateWGradIdeal.main (F := Ideal))) ⟨m, fun _ => 0, g⟩ (fun r => ∀ c : Dev Cert.GateWGradIdeal.nD,
          r.2.mem ((c.tc : Thread Cert.GateWGradIdeal.nD Cert.GateWGradIdeal.τ).loc Cert.GateWGradIdeal.main_v51) = v0 c
          ∧ r.2.mem ((c.tc : Thread Cert.GateWGradIdeal.nD Cert.GateWGradIdeal.τ).loc Cert.GateWGradIdeal.main_v100) = v1 c
          ∧ r.2.mem ((c.tc : Thread Cert.GateWGradIdeal.nD Cert.GateWGradIdeal.τ).loc Cert.GateWGradIdeal.main_arg0) = m ((c.tc : Thread Cert.GateWGradIdeal.nD Cert.GateWGradIdeal.τ).loc Cert.GateWGradIdeal.main_arg0)
          ∧ r.2.mem ((c.tc : Thread Cert.GateWGradIdeal.nD Cert.GateWGradIdeal.τ).loc Cert.GateWGradIdeal.main_arg1) = m ((c.tc : Thread Cert.GateWGradIdeal.nD Cert.GateWGradIdeal.τ).loc Cert.GateWGradIdeal.main_arg1)
          ∧ r.2.mem ((c.tc : Thread Cert.GateWGradIdeal.nD Cert.GateWGradIdeal.τ).loc Cert.GateWGradIdeal.main_arg2) = m ((c.tc : Thread Cert.GateWGradIdeal.nD Cert.GateWGradIdeal.τ).loc Cert.GateWGradIdeal.main_arg2))
      ∧ θ_run (Cert.GateWGradReferenceIdeal.defs (F := Ideal)) (onTc (τ := Cert.GateWGradReferenceIdeal.τ) (Cert.GateWGradReferenceIdeal.main (F := Ideal))) ⟨m', fun _ => 0, g'⟩ (fun r => ∀ c : Dev Cert.GateWGradReferenceIdeal.nD,
          r.2.mem ((c.tc : Thread Cert.GateWGradReferenceIdeal.nD Cert.GateWGradReferenceIdeal.τ).loc Cert.GateWGradReferenceIdeal.main_v8) = v0 c
          ∧ r.2.mem ((c.tc : Thread Cert.GateWGradReferenceIdeal.nD Cert.GateWGradReferenceIdeal.τ).loc Cert.GateWGradReferenceIdeal.main_v16) = v1 c
          ∧ r.2.mem ((c.tc : Thread Cert.GateWGradReferenceIdeal.nD Cert.GateWGradReferenceIdeal.τ).loc Cert.GateWGradReferenceIdeal.main_arg0) = m' ((c.tc : Thread Cert.GateWGradReferenceIdeal.nD Cert.GateWGradReferenceIdeal.τ).loc Cert.GateWGradReferenceIdeal.main_arg0)
          ∧ r.2.mem ((c.tc : Thread Cert.GateWGradReferenceIdeal.nD Cert.GateWGradReferenceIdeal.τ).loc Cert.GateWGradReferenceIdeal.main_arg1) = m' ((c.tc : Thread Cert.GateWGradReferenceIdeal.nD Cert.GateWGradReferenceIdeal.τ).loc Cert.GateWGradReferenceIdeal.main_arg1)
          ∧ r.2.mem ((c.tc : Thread Cert.GateWGradReferenceIdeal.nD Cert.GateWGradReferenceIdeal.τ).loc Cert.GateWGradReferenceIdeal.main_arg2) = m' ((c.tc : Thread Cert.GateWGradReferenceIdeal.nD Cert.GateWGradReferenceIdeal.τ).loc Cert.GateWGradReferenceIdeal.main_arg2))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v3_0)) (v1 : (c : Dev Cert.ProjIdeal.nD) → Buf (Elt Ideal) ((c.tc : Thread Cert.ProjIdeal.nD Cert.ProjIdeal.τ).loc Cert.ProjIdeal.main_v3_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3_0) = v0 c
          ∧ r.2.mem ((c.tc : Thread Cert.ProjIdeal.nD Cert.ProjIdeal.τ).loc Cert.ProjIdeal.main_v3_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v0) = v0 c
          ∧ r.2.mem ((c.tc : Thread Cert.ProjReferenceIdeal.nD Cert.ProjReferenceIdeal.τ).loc Cert.ProjReferenceIdeal.main_v1) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_AttnOut_AttnOutIdeal : Prop :=
  True

def algebraic_AttnOutIdeal_AttnOutReferenceIdeal [hAttnOutIdeal : Cert.AttnOutIdeal.Facts] [hAttnOutReferenceIdeal : Cert.AttnOutReferenceIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutReferenceIdeal.nD Cert.AttnOutReferenceIdeal.τ Cert.AttnOutReferenceIdeal.sig) → Buf (Elt Ideal) ℓ) (g' : Dev Cert.AttnOutReferenceIdeal.nD → PrngReg), Pre_AttnOutIdeal m →
    (∀ c : Dev Cert.AttnOutIdeal.nD,
      m' ((c.tc : Thread Cert.AttnOutReferenceIdeal.nD Cert.AttnOutReferenceIdeal.τ).loc Cert.AttnOutReferenceIdeal.main_arg0) = m ((c.tc : Thread Cert.AttnOutIdeal.nD Cert.AttnOutIdeal.τ).loc Cert.AttnOutIdeal.main_arg0)
      ∧ m' ((c.tc : Thread Cert.AttnOutReferenceIdeal.nD Cert.AttnOutReferenceIdeal.τ).loc Cert.AttnOutReferenceIdeal.main_arg1) = m ((c.tc : Thread Cert.AttnOutIdeal.nD Cert.AttnOutIdeal.τ).loc Cert.AttnOutIdeal.main_arg1)) →
    ∃ (v0 : (c : Dev Cert.AttnOutIdeal.nD) → Buf (Elt Ideal) ((c.tc : Thread Cert.AttnOutIdeal.nD Cert.AttnOutIdeal.τ).loc Cert.AttnOutIdeal.main_v3)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v3) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1))
      ∧ θ_run (Cert.AttnOutReferenceIdeal.defs (F := Ideal)) (onTc (τ := Cert.AttnOutReferenceIdeal.τ) (Cert.AttnOutReferenceIdeal.main (F := Ideal))) ⟨m', fun _ => 0, g'⟩ (fun r => ∀ c : Dev Cert.AttnOutReferenceIdeal.nD,
          r.2.mem ((c.tc : Thread Cert.AttnOutReferenceIdeal.nD Cert.AttnOutReferenceIdeal.τ).loc Cert.AttnOutReferenceIdeal.main_v0) = v0 c
          ∧ r.2.mem ((c.tc : Thread Cert.AttnOutReferenceIdeal.nD Cert.AttnOutReferenceIdeal.τ).loc Cert.AttnOutReferenceIdeal.main_arg0) = m' ((c.tc : Thread Cert.AttnOutReferenceIdeal.nD Cert.AttnOutReferenceIdeal.τ).loc Cert.AttnOutReferenceIdeal.main_arg0)
          ∧ r.2.mem ((c.tc : Thread Cert.AttnOutReferenceIdeal.nD Cert.AttnOutReferenceIdeal.τ).loc Cert.AttnOutReferenceIdeal.main_arg1) = m' ((c.tc : Thread Cert.AttnOutReferenceIdeal.nD Cert.AttnOutReferenceIdeal.τ).loc Cert.AttnOutReferenceIdeal.main_arg1))

def preserves_RnnOut_RnnOutIdeal : Prop :=
  True

def algebraic_RnnOutIdeal_RnnOutReferenceIdeal [hRnnOutIdeal : Cert.RnnOutIdeal.Facts] [hRnnOutReferenceIdeal : Cert.RnnOutReferenceIdeal.Facts] : Prop :=
  ∀ (m : (ℓ : Loc Cert.RnnOutIdeal.nD Cert.RnnOutIdeal.τ Cert.RnnOutIdeal.sig) → Buf (Elt Ideal) ℓ) (g : Dev Cert.RnnOutIdeal.nD → PrngReg)
    (m' : (ℓ : Loc Cert.RnnOutReferenceIdeal.nD Cert.RnnOutReferenceIdeal.τ Cert.RnnOutReferenceIdeal.sig) → Buf (Elt Ideal) ℓ) (g' : Dev Cert.RnnOutReferenceIdeal.nD → PrngReg), Pre_RnnOutIdeal m →
    (∀ c : Dev Cert.RnnOutIdeal.nD,
      m' ((c.tc : Thread Cert.RnnOutReferenceIdeal.nD Cert.RnnOutReferenceIdeal.τ).loc Cert.RnnOutReferenceIdeal.main_arg0) = m ((c.tc : Thread Cert.RnnOutIdeal.nD Cert.RnnOutIdeal.τ).loc Cert.RnnOutIdeal.main_arg0)
      ∧ m' ((c.tc : Thread Cert.RnnOutReferenceIdeal.nD Cert.RnnOutReferenceIdeal.τ).loc Cert.RnnOutReferenceIdeal.main_arg1) = m ((c.tc : Thread Cert.RnnOutIdeal.nD Cert.RnnOutIdeal.τ).loc Cert.RnnOutIdeal.main_arg1)) →
    ∃ (v0 : (c : Dev Cert.RnnOutIdeal.nD) → Buf (Elt Ideal) ((c.tc : Thread Cert.RnnOutIdeal.nD Cert.RnnOutIdeal.τ).loc Cert.RnnOutIdeal.main_v2)),
      θ_run (Cert.RnnOutIdeal.defs (F := Ideal)) (onTc (τ := Cert.RnnOutIdeal.τ) (Cert.RnnOutIdeal.main (F := Ideal))) ⟨m, fun _ => 0, g⟩ (fun r => ∀ c : Dev Cert.RnnOutIdeal.nD,
          r.2.mem ((c.tc : Thread Cert.RnnOutIdeal.nD Cert.RnnOutIdeal.τ).loc Cert.RnnOutIdeal.main_v2) = v0 c
          ∧ r.2.mem ((c.tc : Thread Cert.RnnOutIdeal.nD Cert.RnnOutIdeal.τ).loc Cert.RnnOutIdeal.main_arg0) = m ((c.tc : Thread Cert.RnnOutIdeal.nD Cert.RnnOutIdeal.τ).loc Cert.RnnOutIdeal.main_arg0)
          ∧ r.2.mem ((c.tc : Thread Cert.RnnOutIdeal.nD Cert.RnnOutIdeal.τ).loc Cert.RnnOutIdeal.main_arg1) = m ((c.tc : Thread Cert.RnnOutIdeal.nD Cert.RnnOutIdeal.τ).loc Cert.RnnOutIdeal.main_arg1))
      ∧ θ_run (Cert.RnnOutReferenceIdeal.defs (F := Ideal)) (onTc (τ := Cert.RnnOutReferenceIdeal.τ) (Cert.RnnOutReferenceIdeal.main (F := Ideal))) ⟨m', fun _ => 0, g'⟩ (fun r => ∀ c : Dev Cert.RnnOutReferenceIdeal.nD,
          r.2.mem ((c.tc : Thread Cert.RnnOutReferenceIdeal.nD Cert.RnnOutReferenceIdeal.τ).loc Cert.RnnOutReferenceIdeal.main_v0) = v0 c
          ∧ r.2.mem ((c.tc : Thread Cert.RnnOutReferenceIdeal.nD Cert.RnnOutReferenceIdeal.τ).loc Cert.RnnOutReferenceIdeal.main_arg0) = m' ((c.tc : Thread Cert.RnnOutReferenceIdeal.nD Cert.RnnOutReferenceIdeal.τ).loc Cert.RnnOutReferenceIdeal.main_arg0)
          ∧ r.2.mem ((c.tc : Thread Cert.RnnOutReferenceIdeal.nD Cert.RnnOutReferenceIdeal.τ).loc Cert.RnnOutReferenceIdeal.main_arg1) = m' ((c.tc : Thread Cert.RnnOutReferenceIdeal.nD Cert.RnnOutReferenceIdeal.τ).loc Cert.RnnOutReferenceIdeal.main_arg1))

def preserves_MixOut_MixOutIdeal : Prop :=
  True

def algebraic_MixOutIdeal_MixOutReferenceIdeal [hMixOutIdeal : Cert.MixOutIdeal.Facts] [hMixOutReferenceIdeal : Cert.MixOutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v2) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v0) = v0 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v4)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v0) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_FinGrad_FinGradIdeal : Prop :=
  True

def algebraic_FinGradIdeal_FinGradReferenceIdeal [hFinGradIdeal : Cert.FinGradIdeal.Facts] [hFinGradReferenceIdeal : Cert.FinGradReferenceIdeal.Facts] : Prop :=
  ∀ (m : (ℓ : Loc Cert.FinGradIdeal.nD Cert.FinGradIdeal.τ Cert.FinGradIdeal.sig) → Buf (Elt Ideal) ℓ) (g : Dev Cert.FinGradIdeal.nD → PrngReg)
    (m' : (ℓ : Loc Cert.FinGradReferenceIdeal.nD Cert.FinGradReferenceIdeal.τ Cert.FinGradReferenceIdeal.sig) → Buf (Elt Ideal) ℓ) (g' : Dev Cert.FinGradReferenceIdeal.nD → PrngReg), Pre_FinGradIdeal m →
    (∀ c : Dev Cert.FinGradIdeal.nD,
      m' ((c.tc : Thread Cert.FinGradReferenceIdeal.nD Cert.FinGradReferenceIdeal.τ).loc Cert.FinGradReferenceIdeal.main_arg0) = m ((c.tc : Thread Cert.FinGradIdeal.nD Cert.FinGradIdeal.τ).loc Cert.FinGradIdeal.main_arg0)
      ∧ m' ((c.tc : Thread Cert.FinGradReferenceIdeal.nD Cert.FinGradReferenceIdeal.τ).loc Cert.FinGradReferenceIdeal.main_arg1) = m ((c.tc : Thread Cert.FinGradIdeal.nD Cert.FinGradIdeal.τ).loc Cert.FinGradIdeal.main_arg1)) →
    ∃ (v0 : (c : Dev Cert.FinGradIdeal.nD) → Buf (Elt Ideal) ((c.tc : Thread Cert.FinGradIdeal.nD Cert.FinGradIdeal.τ).loc Cert.FinGradIdeal.main_v2)),
      θ_run (Cert.FinGradIdeal.defs (F := Ideal)) (onTc (τ := Cert.FinGradIdeal.τ) (Cert.FinGradIdeal.main (F := Ideal))) ⟨m, fun _ => 0, g⟩ (fun r => ∀ c : Dev Cert.FinGradIdeal.nD,
          r.2.mem ((c.tc : Thread Cert.FinGradIdeal.nD Cert.FinGradIdeal.τ).loc Cert.FinGradIdeal.main_v2) = v0 c
          ∧ r.2.mem ((c.tc : Thread Cert.FinGradIdeal.nD Cert.FinGradIdeal.τ).loc Cert.FinGradIdeal.main_arg0) = m ((c.tc : Thread Cert.FinGradIdeal.nD Cert.FinGradIdeal.τ).loc Cert.FinGradIdeal.main_arg0)
          ∧ r.2.mem ((c.tc : Thread Cert.FinGradIdeal.nD Cert.FinGradIdeal.τ).loc Cert.FinGradIdeal.main_arg1) = m ((c.tc : Thread Cert.FinGradIdeal.nD Cert.FinGradIdeal.τ).loc Cert.FinGradIdeal.main_arg1))
      ∧ θ_run (Cert.FinGradReferenceIdeal.defs (F := Ideal)) (onTc (τ := Cert.FinGradReferenceIdeal.τ) (Cert.FinGradReferenceIdeal.main (F := Ideal))) ⟨m', fun _ => 0, g'⟩ (fun r => ∀ c : Dev Cert.FinGradReferenceIdeal.nD,
          r.2.mem ((c.tc : Thread Cert.FinGradReferenceIdeal.nD Cert.FinGradReferenceIdeal.τ).loc Cert.FinGradReferenceIdeal.main_v2) = v0 c
          ∧ r.2.mem ((c.tc : Thread Cert.FinGradReferenceIdeal.nD Cert.FinGradReferenceIdeal.τ).loc Cert.FinGradReferenceIdeal.main_arg0) = m' ((c.tc : Thread Cert.FinGradReferenceIdeal.nD Cert.FinGradReferenceIdeal.τ).loc Cert.FinGradReferenceIdeal.main_arg0)
          ∧ r.2.mem ((c.tc : Thread Cert.FinGradReferenceIdeal.nD Cert.FinGradReferenceIdeal.τ).loc Cert.FinGradReferenceIdeal.main_arg1) = m' ((c.tc : Thread Cert.FinGradReferenceIdeal.nD Cert.FinGradReferenceIdeal.τ).loc Cert.FinGradReferenceIdeal.main_arg1))

def preserves_UpGrad_UpGradIdeal : Prop :=
  True

def algebraic_UpGradIdeal_UpGradReferenceIdeal [hUpGradIdeal : Cert.UpGradIdeal.Facts] [hUpGradReferenceIdeal : Cert.UpGradReferenceIdeal.Facts] : Prop :=
  ∀ (m : (ℓ : Loc Cert.UpGradIdeal.nD Cert.UpGradIdeal.τ Cert.UpGradIdeal.sig) → Buf (Elt Ideal) ℓ) (g : Dev Cert.UpGradIdeal.nD → PrngReg)
    (m' : (ℓ : Loc Cert.UpGradReferenceIdeal.nD Cert.UpGradReferenceIdeal.τ Cert.UpGradReferenceIdeal.sig) → Buf (Elt Ideal) ℓ) (g' : Dev Cert.UpGradReferenceIdeal.nD → PrngReg), Pre_UpGradIdeal m →
    (∀ c : Dev Cert.UpGradIdeal.nD,
      m' ((c.tc : Thread Cert.UpGradReferenceIdeal.nD Cert.UpGradReferenceIdeal.τ).loc Cert.UpGradReferenceIdeal.main_arg0) = m ((c.tc : Thread Cert.UpGradIdeal.nD Cert.UpGradIdeal.τ).loc Cert.UpGradIdeal.main_arg0)
      ∧ m' ((c.tc : Thread Cert.UpGradReferenceIdeal.nD Cert.UpGradReferenceIdeal.τ).loc Cert.UpGradReferenceIdeal.main_arg1) = m ((c.tc : Thread Cert.UpGradIdeal.nD Cert.UpGradIdeal.τ).loc Cert.UpGradIdeal.main_arg1)) →
    ∃ (v0 : (c : Dev Cert.UpGradIdeal.nD) → Buf (Elt Ideal) ((c.tc : Thread Cert.UpGradIdeal.nD Cert.UpGradIdeal.τ).loc Cert.UpGradIdeal.main_v2_0)) (v1 : (c : Dev Cert.UpGradIdeal.nD) → Buf (Elt Ideal) ((c.tc : Thread Cert.UpGradIdeal.nD Cert.UpGradIdeal.τ).loc Cert.UpGradIdeal.main_v2_1)),
      θ_run (Cert.UpGradIdeal.defs (F := Ideal)) (onTc (τ := Cert.UpGradIdeal.τ) (Cert.UpGradIdeal.main (F := Ideal))) ⟨m, fun _ => 0, g⟩ (fun r => ∀ c : Dev Cert.UpGradIdeal.nD,
          r.2.mem ((c.tc : Thread Cert.UpGradIdeal.nD Cert.UpGradIdeal.τ).loc Cert.UpGradIdeal.main_v2_0) = v0 c
          ∧ r.2.mem ((c.tc : Thread Cert.UpGradIdeal.nD Cert.UpGradIdeal.τ).loc Cert.UpGradIdeal.main_v2_1) = v1 c
          ∧ r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
          ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ θ_run (Cert.UpGradReferenceIdeal.defs (F := Ideal)) (onTc (τ := Cert.UpGradReferenceIdeal.τ) (Cert.UpGradReferenceIdeal.main (F := Ideal))) ⟨m', fun _ => 0, g'⟩ (fun r => ∀ c : Dev Cert.UpGradReferenceIdeal.nD,
          r.2.mem ((c.tc : Thread Cert.UpGradReferenceIdeal.nD Cert.UpGradReferenceIdeal.τ).loc Cert.UpGradReferenceIdeal.main_v6) = v0 c
          ∧ r.2.mem ((c.tc : Thread Cert.UpGradReferenceIdeal.nD Cert.UpGradReferenceIdeal.τ).loc Cert.UpGradReferenceIdeal.main_v7) = v1 c
          ∧ r.2.mem ((c.tc : Thread Cert.UpGradReferenceIdeal.nD Cert.UpGradReferenceIdeal.τ).loc Cert.UpGradReferenceIdeal.main_arg0) = m' ((c.tc : Thread Cert.UpGradReferenceIdeal.nD Cert.UpGradReferenceIdeal.τ).loc Cert.UpGradReferenceIdeal.main_arg0)
          ∧ r.2.mem ((c.tc : Thread Cert.UpGradReferenceIdeal.nD Cert.UpGradReferenceIdeal.τ).loc Cert.UpGradReferenceIdeal.main_arg1) = m' ((c.tc : Thread Cert.UpGradReferenceIdeal.nD Cert.UpGradReferenceIdeal.τ).loc Cert.UpGradReferenceIdeal.main_arg1))

def preserves_AttnProjGrad_AttnProjGradIdeal : Prop :=
  True

def algebraic_AttnProjGradIdeal_AttnProjGradReferenceIdeal [hAttnProjGradIdeal : Cert.AttnProjGradIdeal.Facts] [hAttnProjGradReferenceIdeal : Cert.AttnProjGradReferenceIdeal.Facts] : Prop :=
  ∀ (m : (ℓ : Loc Cert.AttnProjGradIdeal.nD Cert.AttnProjGradIdeal.τ Cert.AttnProjGradIdeal.sig) → Buf (Elt Ideal) ℓ) (g : Dev Cert.AttnProjGradIdeal.nD → PrngReg)
    (m' : (ℓ : Loc Cert.AttnProjGradReferenceIdeal.nD Cert.AttnProjGradReferenceIdeal.τ Cert.AttnProjGradReferenceIdeal.sig) → Buf (Elt Ideal) ℓ) (g' : Dev Cert.AttnProjGradReferenceIdeal.nD → PrngReg), Pre_AttnProjGradIdeal m →
    (∀ c : Dev Cert.AttnProjGradIdeal.nD,
      m' ((c.tc : Thread Cert.AttnProjGradReferenceIdeal.nD Cert.AttnProjGradReferenceIdeal.τ).loc Cert.AttnProjGradReferenceIdeal.main_arg0) = m ((c.tc : Thread Cert.AttnProjGradIdeal.nD Cert.AttnProjGradIdeal.τ).loc Cert.AttnProjGradIdeal.main_arg0)
      ∧ m' ((c.tc : Thread Cert.AttnProjGradReferenceIdeal.nD Cert.AttnProjGradReferenceIdeal.τ).loc Cert.AttnProjGradReferenceIdeal.main_arg1) = m ((c.tc : Thread Cert.AttnProjGradIdeal.nD Cert.AttnProjGradIdeal.τ).loc Cert.AttnProjGradIdeal.main_arg1)) →
    ∃ (v0 : (c : Dev Cert.AttnProjGradIdeal.nD) → Buf (Elt Ideal) ((c.tc : Thread Cert.AttnProjGradIdeal.nD Cert.AttnProjGradIdeal.τ).loc Cert.AttnProjGradIdeal.main_v3_0)) (v1 : (c : Dev Cert.AttnProjGradIdeal.nD) → Buf (Elt Ideal) ((c.tc : Thread Cert.AttnProjGradIdeal.nD Cert.AttnProjGradIdeal.τ).loc Cert.AttnProjGradIdeal.main_v3_1)),
      θ_run (Cert.AttnProjGradIdeal.defs (F := Ideal)) (onTc (τ := Cert.AttnProjGradIdeal.τ) (Cert.AttnProjGradIdeal.main (F := Ideal))) ⟨m, fun _ => 0, g⟩ (fun r => ∀ c : Dev Cert.AttnProjGradIdeal.nD,
          r.2.mem ((c.tc : Thread Cert.AttnProjGradIdeal.nD Cert.AttnProjGradIdeal.τ).loc Cert.AttnProjGradIdeal.main_v3_0) = v0 c
          ∧ r.2.mem ((c.tc : Thread Cert.AttnProjGradIdeal.nD Cert.AttnProjGradIdeal.τ).loc Cert.AttnProjGradIdeal.main_v3_1) = v1 c
          ∧ r.2.mem ((c.tc : Thread Cert.AttnProjGradIdeal.nD Cert.AttnProjGradIdeal.τ).loc Cert.AttnProjGradIdeal.main_arg0) = m ((c.tc : Thread Cert.AttnProjGradIdeal.nD Cert.AttnProjGradIdeal.τ).loc Cert.AttnProjGradIdeal.main_arg0)
          ∧ r.2.mem ((c.tc : Thread Cert.AttnProjGradIdeal.nD Cert.AttnProjGradIdeal.τ).loc Cert.AttnProjGradIdeal.main_arg1) = m ((c.tc : Thread Cert.AttnProjGradIdeal.nD Cert.AttnProjGradIdeal.τ).loc Cert.AttnProjGradIdeal.main_arg1))
      ∧ θ_run (Cert.AttnProjGradReferenceIdeal.defs (F := Ideal)) (onTc (τ := Cert.AttnProjGradReferenceIdeal.τ) (Cert.AttnProjGradReferenceIdeal.main (F := Ideal))) ⟨m', fun _ => 0, g'⟩ (fun r => ∀ c : Dev Cert.AttnProjGradReferenceIdeal.nD,
          r.2.mem ((c.tc : Thread Cert.AttnProjGradReferenceIdeal.nD Cert.AttnProjGradReferenceIdeal.τ).loc Cert.AttnProjGradReferenceIdeal.main_v3) = v0 c
          ∧ r.2.mem ((c.tc : Thread Cert.AttnProjGradReferenceIdeal.nD Cert.AttnProjGradReferenceIdeal.τ).loc Cert.AttnProjGradReferenceIdeal.main_v4) = v1 c
          ∧ r.2.mem ((c.tc : Thread Cert.AttnProjGradReferenceIdeal.nD Cert.AttnProjGradReferenceIdeal.τ).loc Cert.AttnProjGradReferenceIdeal.main_arg0) = m' ((c.tc : Thread Cert.AttnProjGradReferenceIdeal.nD Cert.AttnProjGradReferenceIdeal.τ).loc Cert.AttnProjGradReferenceIdeal.main_arg0)
          ∧ r.2.mem ((c.tc : Thread Cert.AttnProjGradReferenceIdeal.nD Cert.AttnProjGradReferenceIdeal.τ).loc Cert.AttnProjGradReferenceIdeal.main_arg1) = m' ((c.tc : Thread Cert.AttnProjGradReferenceIdeal.nD Cert.AttnProjGradReferenceIdeal.τ).loc Cert.AttnProjGradReferenceIdeal.main_arg1))

def preserves_InGrad_InGradIdeal : Prop :=
  True

def algebraic_InGradIdeal_InGradReferenceIdeal [hInGradIdeal : Cert.InGradIdeal.Facts] [hInGradReferenceIdeal : Cert.InGradReferenceIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradReferenceIdeal.nD Cert.InGradReferenceIdeal.τ Cert.InGradReferenceIdeal.sig) → Buf (Elt Ideal) ℓ) (g' : Dev Cert.InGradReferenceIdeal.nD → PrngReg), Pre_InGradIdeal m →
    (∀ c : Dev Cert.InGradIdeal.nD,
      m' ((c.tc : Thread Cert.InGradReferenceIdeal.nD Cert.InGradReferenceIdeal.τ).loc Cert.InGradReferenceIdeal.main_arg0) = m ((c.tc : Thread Cert.InGradIdeal.nD Cert.InGradIdeal.τ).loc Cert.InGradIdeal.main_arg0)
      ∧ m' ((c.tc : Thread Cert.InGradReferenceIdeal.nD Cert.InGradReferenceIdeal.τ).loc Cert.InGradReferenceIdeal.main_arg1) = m ((c.tc : Thread Cert.InGradIdeal.nD Cert.InGradIdeal.τ).loc Cert.InGradIdeal.main_arg1)) →
    ∃ (v0 : (c : Dev Cert.InGradIdeal.nD) → Buf (Elt Ideal) ((c.tc : Thread Cert.InGradIdeal.nD Cert.InGradIdeal.τ).loc Cert.InGradIdeal.main_v2_0)) (v1 : (c : Dev Cert.InGradIdeal.nD) → Buf (Elt Ideal) ((c.tc : Thread Cert.InGradIdeal.nD Cert.InGradIdeal.τ).loc Cert.InGradIdeal.main_v2_1)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v2_0) = v0 c
          ∧ r.2.mem ((c.tc : Thread Cert.InGradIdeal.nD Cert.InGradIdeal.τ).loc Cert.InGradIdeal.main_v2_1) = v1 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1))
      ∧ θ_run (Cert.InGradReferenceIdeal.defs (F := Ideal)) (onTc (τ := Cert.InGradReferenceIdeal.τ) (Cert.InGradReferenceIdeal.main (F := Ideal))) ⟨m', fun _ => 0, g'⟩ (fun r => ∀ c : Dev Cert.InGradReferenceIdeal.nD,
          r.2.mem ((c.tc : Thread Cert.InGradReferenceIdeal.nD Cert.InGradReferenceIdeal.τ).loc Cert.InGradReferenceIdeal.main_v5) = v0 c
          ∧ r.2.mem ((c.tc : Thread Cert.InGradReferenceIdeal.nD Cert.InGradReferenceIdeal.τ).loc Cert.InGradReferenceIdeal.main_v7) = v1 c
          ∧ r.2.mem ((c.tc : Thread Cert.InGradReferenceIdeal.nD Cert.InGradReferenceIdeal.τ).loc Cert.InGradReferenceIdeal.main_arg0) = m' ((c.tc : Thread Cert.InGradReferenceIdeal.nD Cert.InGradReferenceIdeal.τ).loc Cert.InGradReferenceIdeal.main_arg0)
          ∧ r.2.mem ((c.tc : Thread Cert.InGradReferenceIdeal.nD Cert.InGradReferenceIdeal.τ).loc Cert.InGradReferenceIdeal.main_arg1) = m' ((c.tc : Thread Cert.InGradReferenceIdeal.nD Cert.InGradReferenceIdeal.τ).loc Cert.InGradReferenceIdeal.main_arg1))

def preserves_UpInGrad_UpInGradIdeal : Prop :=
  True

def algebraic_UpInGradIdeal_UpInGradReferenceIdeal [hUpInGradIdeal : Cert.UpInGradIdeal.Facts] [hUpInGradReferenceIdeal : Cert.UpInGradReferenceIdeal.Facts] : Prop :=
  ∀ (m : (ℓ : Loc Cert.UpInGradIdeal.nD Cert.UpInGradIdeal.τ Cert.UpInGradIdeal.sig) → Buf (Elt Ideal) ℓ) (g : Dev Cert.UpInGradIdeal.nD → PrngReg)
    (m' : (ℓ : Loc Cert.UpInGradReferenceIdeal.nD Cert.UpInGradReferenceIdeal.τ Cert.UpInGradReferenceIdeal.sig) → Buf (Elt Ideal) ℓ) (g' : Dev Cert.UpInGradReferenceIdeal.nD → PrngReg), Pre_UpInGradIdeal m →
    (∀ c : Dev Cert.UpInGradIdeal.nD,
      m' ((c.tc : Thread Cert.UpInGradReferenceIdeal.nD Cert.UpInGradReferenceIdeal.τ).loc Cert.UpInGradReferenceIdeal.main_arg0) = m ((c.tc : Thread Cert.UpInGradIdeal.nD Cert.UpInGradIdeal.τ).loc Cert.UpInGradIdeal.main_arg0)
      ∧ m' ((c.tc : Thread Cert.UpInGradReferenceIdeal.nD Cert.UpInGradReferenceIdeal.τ).loc Cert.UpInGradReferenceIdeal.main_arg1) = m ((c.tc : Thread Cert.UpInGradIdeal.nD Cert.UpInGradIdeal.τ).loc Cert.UpInGradIdeal.main_arg1)) →
    ∃ (v0 : (c : Dev Cert.UpInGradIdeal.nD) → Buf (Elt Ideal) ((c.tc : Thread Cert.UpInGradIdeal.nD Cert.UpInGradIdeal.τ).loc Cert.UpInGradIdeal.main_v4)),
      θ_run (Cert.UpInGradIdeal.defs (F := Ideal)) (onTc (τ := Cert.UpInGradIdeal.τ) (Cert.UpInGradIdeal.main (F := Ideal))) ⟨m, fun _ => 0, g⟩ (fun r => ∀ c : Dev Cert.UpInGradIdeal.nD,
          r.2.mem ((c.tc : Thread Cert.UpInGradIdeal.nD Cert.UpInGradIdeal.τ).loc Cert.UpInGradIdeal.main_v4) = v0 c
          ∧ r.2.mem ((c.tc : Thread Cert.UpInGradIdeal.nD Cert.UpInGradIdeal.τ).loc Cert.UpInGradIdeal.main_arg0) = m ((c.tc : Thread Cert.UpInGradIdeal.nD Cert.UpInGradIdeal.τ).loc Cert.UpInGradIdeal.main_arg0)
          ∧ r.2.mem ((c.tc : Thread Cert.UpInGradIdeal.nD Cert.UpInGradIdeal.τ).loc Cert.UpInGradIdeal.main_arg1) = m ((c.tc : Thread Cert.UpInGradIdeal.nD Cert.UpInGradIdeal.τ).loc Cert.UpInGradIdeal.main_arg1))
      ∧ θ_run (Cert.UpInGradReferenceIdeal.defs (F := Ideal)) (onTc (τ := Cert.UpInGradReferenceIdeal.τ) (Cert.UpInGradReferenceIdeal.main (F := Ideal))) ⟨m', fun _ => 0, g'⟩ (fun r => ∀ c : Dev Cert.UpInGradReferenceIdeal.nD,
          r.2.mem ((c.tc : Thread Cert.UpInGradReferenceIdeal.nD Cert.UpInGradReferenceIdeal.τ).loc Cert.UpInGradReferenceIdeal.main_v2) = v0 c
          ∧ r.2.mem ((c.tc : Thread Cert.UpInGradReferenceIdeal.nD Cert.UpInGradReferenceIdeal.τ).loc Cert.UpInGradReferenceIdeal.main_arg0) = m' ((c.tc : Thread Cert.UpInGradReferenceIdeal.nD Cert.UpInGradReferenceIdeal.τ).loc Cert.UpInGradReferenceIdeal.main_arg0)
          ∧ r.2.mem ((c.tc : Thread Cert.UpInGradReferenceIdeal.nD Cert.UpInGradReferenceIdeal.τ).loc Cert.UpInGradReferenceIdeal.main_arg1) = m' ((c.tc : Thread Cert.UpInGradReferenceIdeal.nD Cert.UpInGradReferenceIdeal.τ).loc Cert.UpInGradReferenceIdeal.main_arg1))

def preserves_GateInGrad_GateInGradIdeal : Prop :=
  True

def algebraic_GateInGradIdeal_GateInGradReferenceIdeal [hGateInGradIdeal : Cert.GateInGradIdeal.Facts] [hGateInGradReferenceIdeal : Cert.GateInGradReferenceIdeal.Facts] : Prop :=
  ∀ (m : (ℓ : Loc Cert.GateInGradIdeal.nD Cert.GateInGradIdeal.τ Cert.GateInGradIdeal.sig) → Buf (Elt Ideal) ℓ) (g : Dev Cert.GateInGradIdeal.nD → PrngReg)
    (m' : (ℓ : Loc Cert.GateInGradReferenceIdeal.nD Cert.GateInGradReferenceIdeal.τ Cert.GateInGradReferenceIdeal.sig) → Buf (Elt Ideal) ℓ) (g' : Dev Cert.GateInGradReferenceIdeal.nD → PrngReg), Pre_GateInGradIdeal m →
    (∀ c : Dev Cert.GateInGradIdeal.nD,
      m' ((c.tc : Thread Cert.GateInGradReferenceIdeal.nD Cert.GateInGradReferenceIdeal.τ).loc Cert.GateInGradReferenceIdeal.main_arg0) = m ((c.tc : Thread Cert.GateInGradIdeal.nD Cert.GateInGradIdeal.τ).loc Cert.GateInGradIdeal.main_arg0)
      ∧ m' ((c.tc : Thread Cert.GateInGradReferenceIdeal.nD Cert.GateInGradReferenceIdeal.τ).loc Cert.GateInGradReferenceIdeal.main_arg1) = m ((c.tc : Thread Cert.GateInGradIdeal.nD Cert.GateInGradIdeal.τ).loc Cert.GateInGradIdeal.main_arg1)
      ∧ m' ((c.tc : Thread Cert.GateInGradReferenceIdeal.nD Cert.GateInGradReferenceIdeal.τ).loc Cert.GateInGradReferenceIdeal.main_arg2) = m ((c.tc : Thread Cert.GateInGradIdeal.nD Cert.GateInGradIdeal.τ).loc Cert.GateInGradIdeal.main_arg2)) →
    ∃ (v0 : (c : Dev Cert.GateInGradIdeal.nD) → Buf (Elt Ideal) ((c.tc : Thread Cert.GateInGradIdeal.nD Cert.GateInGradIdeal.τ).loc Cert.GateInGradIdeal.main_v4)),
      θ_run (Cert.GateInGradIdeal.defs (F := Ideal)) (onTc (τ := Cert.GateInGradIdeal.τ) (Cert.GateInGradIdeal.main (F := Ideal))) ⟨m, fun _ => 0, g⟩ (fun r => ∀ c : Dev Cert.GateInGradIdeal.nD,
          r.2.mem ((c.tc : Thread Cert.GateInGradIdeal.nD Cert.GateInGradIdeal.τ).loc Cert.GateInGradIdeal.main_v4) = v0 c
          ∧ r.2.mem ((c.tc : Thread Cert.GateInGradIdeal.nD Cert.GateInGradIdeal.τ).loc Cert.GateInGradIdeal.main_arg0) = m ((c.tc : Thread Cert.GateInGradIdeal.nD Cert.GateInGradIdeal.τ).loc Cert.GateInGradIdeal.main_arg0)
          ∧ r.2.mem ((c.tc : Thread Cert.GateInGradIdeal.nD Cert.GateInGradIdeal.τ).loc Cert.GateInGradIdeal.main_arg1) = m ((c.tc : Thread Cert.GateInGradIdeal.nD Cert.GateInGradIdeal.τ).loc Cert.GateInGradIdeal.main_arg1)
          ∧ r.2.mem ((c.tc : Thread Cert.GateInGradIdeal.nD Cert.GateInGradIdeal.τ).loc Cert.GateInGradIdeal.main_arg2) = m ((c.tc : Thread Cert.GateInGradIdeal.nD Cert.GateInGradIdeal.τ).loc Cert.GateInGradIdeal.main_arg2))
      ∧ θ_run (Cert.GateInGradReferenceIdeal.defs (F := Ideal)) (onTc (τ := Cert.GateInGradReferenceIdeal.τ) (Cert.GateInGradReferenceIdeal.main (F := Ideal))) ⟨m', fun _ => 0, g'⟩ (fun r => ∀ c : Dev Cert.GateInGradReferenceIdeal.nD,
          r.2.mem ((c.tc : Thread Cert.GateInGradReferenceIdeal.nD Cert.GateInGradReferenceIdeal.τ).loc Cert.GateInGradReferenceIdeal.main_v3) = v0 c
          ∧ r.2.mem ((c.tc : Thread Cert.GateInGradReferenceIdeal.nD Cert.GateInGradReferenceIdeal.τ).loc Cert.GateInGradReferenceIdeal.main_arg0) = m' ((c.tc : Thread Cert.GateInGradReferenceIdeal.nD Cert.GateInGradReferenceIdeal.τ).loc Cert.GateInGradReferenceIdeal.main_arg0)
          ∧ r.2.mem ((c.tc : Thread Cert.GateInGradReferenceIdeal.nD Cert.GateInGradReferenceIdeal.τ).loc Cert.GateInGradReferenceIdeal.main_arg1) = m' ((c.tc : Thread Cert.GateInGradReferenceIdeal.nD Cert.GateInGradReferenceIdeal.τ).loc Cert.GateInGradReferenceIdeal.main_arg1)
          ∧ r.2.mem ((c.tc : Thread Cert.GateInGradReferenceIdeal.nD Cert.GateInGradReferenceIdeal.τ).loc Cert.GateInGradReferenceIdeal.main_arg2) = m' ((c.tc : Thread Cert.GateInGradReferenceIdeal.nD Cert.GateInGradReferenceIdeal.τ).loc Cert.GateInGradReferenceIdeal.main_arg2))

def preserves_XGrad_XGradIdeal : Prop :=
  True

def algebraic_XGradIdeal_XGradReferenceIdeal [hXGradIdeal : Cert.XGradIdeal.Facts] [hXGradReferenceIdeal : Cert.XGradReferenceIdeal.Facts] : Prop :=
  ∀ (m : (ℓ : Loc Cert.XGradIdeal.nD Cert.XGradIdeal.τ Cert.XGradIdeal.sig) → Buf (Elt Ideal) ℓ) (g : Dev Cert.XGradIdeal.nD → PrngReg)
    (m' : (ℓ : Loc Cert.XGradReferenceIdeal.nD Cert.XGradReferenceIdeal.τ Cert.XGradReferenceIdeal.sig) → Buf (Elt Ideal) ℓ) (g' : Dev Cert.XGradReferenceIdeal.nD → PrngReg), Pre_XGradIdeal m →
    (∀ c : Dev Cert.XGradIdeal.nD,
      m' ((c.tc : Thread Cert.XGradReferenceIdeal.nD Cert.XGradReferenceIdeal.τ).loc Cert.XGradReferenceIdeal.main_arg0) = m ((c.tc : Thread Cert.XGradIdeal.nD Cert.XGradIdeal.τ).loc Cert.XGradIdeal.main_arg0)
      ∧ m' ((c.tc : Thread Cert.XGradReferenceIdeal.nD Cert.XGradReferenceIdeal.τ).loc Cert.XGradReferenceIdeal.main_arg1) = m ((c.tc : Thread Cert.XGradIdeal.nD Cert.XGradIdeal.τ).loc Cert.XGradIdeal.main_arg1)
      ∧ m' ((c.tc : Thread Cert.XGradReferenceIdeal.nD Cert.XGradReferenceIdeal.τ).loc Cert.XGradReferenceIdeal.main_arg2) = m ((c.tc : Thread Cert.XGradIdeal.nD Cert.XGradIdeal.τ).loc Cert.XGradIdeal.main_arg2)) →
    ∃ (v0 : (c : Dev Cert.XGradIdeal.nD) → Buf (Elt Ideal) ((c.tc : Thread Cert.XGradIdeal.nD Cert.XGradIdeal.τ).loc Cert.XGradIdeal.main_v3)),
      θ_run (Cert.XGradIdeal.defs (F := Ideal)) (onTc (τ := Cert.XGradIdeal.τ) (Cert.XGradIdeal.main (F := Ideal))) ⟨m, fun _ => 0, g⟩ (fun r => ∀ c : Dev Cert.XGradIdeal.nD,
          r.2.mem ((c.tc : Thread Cert.XGradIdeal.nD Cert.XGradIdeal.τ).loc Cert.XGradIdeal.main_v3) = v0 c
          ∧ r.2.mem ((c.tc : Thread Cert.XGradIdeal.nD Cert.XGradIdeal.τ).loc Cert.XGradIdeal.main_arg0) = m ((c.tc : Thread Cert.XGradIdeal.nD Cert.XGradIdeal.τ).loc Cert.XGradIdeal.main_arg0)
          ∧ r.2.mem ((c.tc : Thread Cert.XGradIdeal.nD Cert.XGradIdeal.τ).loc Cert.XGradIdeal.main_arg1) = m ((c.tc : Thread Cert.XGradIdeal.nD Cert.XGradIdeal.τ).loc Cert.XGradIdeal.main_arg1)
          ∧ r.2.mem ((c.tc : Thread Cert.XGradIdeal.nD Cert.XGradIdeal.τ).loc Cert.XGradIdeal.main_arg2) = m ((c.tc : Thread Cert.XGradIdeal.nD Cert.XGradIdeal.τ).loc Cert.XGradIdeal.main_arg2))
      ∧ θ_run (Cert.XGradReferenceIdeal.defs (F := Ideal)) (onTc (τ := Cert.XGradReferenceIdeal.τ) (Cert.XGradReferenceIdeal.main (F := Ideal))) ⟨m', fun _ => 0, g'⟩ (fun r => ∀ c : Dev Cert.XGradReferenceIdeal.nD,
          r.2.mem ((c.tc : Thread Cert.XGradReferenceIdeal.nD Cert.XGradReferenceIdeal.τ).loc Cert.XGradReferenceIdeal.main_v5) = v0 c
          ∧ r.2.mem ((c.tc : Thread Cert.XGradReferenceIdeal.nD Cert.XGradReferenceIdeal.τ).loc Cert.XGradReferenceIdeal.main_arg0) = m' ((c.tc : Thread Cert.XGradReferenceIdeal.nD Cert.XGradReferenceIdeal.τ).loc Cert.XGradReferenceIdeal.main_arg0)
          ∧ r.2.mem ((c.tc : Thread Cert.XGradReferenceIdeal.nD Cert.XGradReferenceIdeal.τ).loc Cert.XGradReferenceIdeal.main_arg1) = m' ((c.tc : Thread Cert.XGradReferenceIdeal.nD Cert.XGradReferenceIdeal.τ).loc Cert.XGradReferenceIdeal.main_arg1)
          ∧ r.2.mem ((c.tc : Thread Cert.XGradReferenceIdeal.nD Cert.XGradReferenceIdeal.τ).loc Cert.XGradReferenceIdeal.main_arg2) = m' ((c.tc : Thread Cert.XGradReferenceIdeal.nD Cert.XGradReferenceIdeal.τ).loc Cert.XGradReferenceIdeal.main_arg2))

def preserves_NormGrad_NormGradIdeal : Prop :=
  True

def algebraic_NormGradIdeal_NormGradReferenceIdeal_pre_finite_norm [hNormGradIdeal : Cert.NormGradIdeal.Facts] [hNormGradReferenceIdeal : Cert.NormGradReferenceIdeal.Facts] [hPre_finite_norm : Cert.Pre_finite_norm.Facts] : Prop :=
  ∀ (m : (ℓ : Loc Cert.NormGradIdeal.nD Cert.NormGradIdeal.τ Cert.NormGradIdeal.sig) → Buf (Elt Ideal) ℓ) (g : Dev Cert.NormGradIdeal.nD → PrngReg)
    (m' : (ℓ : Loc Cert.NormGradReferenceIdeal.nD Cert.NormGradReferenceIdeal.τ Cert.NormGradReferenceIdeal.sig) → Buf (Elt Ideal) ℓ) (g' : Dev Cert.NormGradReferenceIdeal.nD → PrngReg), Pre_NormGradIdeal_finite_norm m →
    (∀ c : Dev Cert.NormGradIdeal.nD,
      m' ((c.tc : Thread Cert.NormGradReferenceIdeal.nD Cert.NormGradReferenceIdeal.τ).loc Cert.NormGradReferenceIdeal.main_arg0) = m ((c.tc : Thread Cert.NormGradIdeal.nD Cert.NormGradIdeal.τ).loc Cert.NormGradIdeal.main_arg0)
      ∧ m' ((c.tc : Thread Cert.NormGradReferenceIdeal.nD Cert.NormGradReferenceIdeal.τ).loc Cert.NormGradReferenceIdeal.main_arg1) = m ((c.tc : Thread Cert.NormGradIdeal.nD Cert.NormGradIdeal.τ).loc Cert.NormGradIdeal.main_arg1)
      ∧ m' ((c.tc : Thread Cert.NormGradReferenceIdeal.nD Cert.NormGradReferenceIdeal.τ).loc Cert.NormGradReferenceIdeal.main_arg2) = m ((c.tc : Thread Cert.NormGradIdeal.nD Cert.NormGradIdeal.τ).loc Cert.NormGradIdeal.main_arg2)
      ∧ m' ((c.tc : Thread Cert.NormGradReferenceIdeal.nD Cert.NormGradReferenceIdeal.τ).loc Cert.NormGradReferenceIdeal.main_arg3) = m ((c.tc : Thread Cert.NormGradIdeal.nD Cert.NormGradIdeal.τ).loc Cert.NormGradIdeal.main_arg3)
      ∧ m' ((c.tc : Thread Cert.NormGradReferenceIdeal.nD Cert.NormGradReferenceIdeal.τ).loc Cert.NormGradReferenceIdeal.main_arg4) = m ((c.tc : Thread Cert.NormGradIdeal.nD Cert.NormGradIdeal.τ).loc Cert.NormGradIdeal.main_arg4)) →
    ∃ (v0 : (c : Dev Cert.NormGradIdeal.nD) → Buf (Elt Ideal) ((c.tc : Thread Cert.NormGradIdeal.nD Cert.NormGradIdeal.τ).loc Cert.NormGradIdeal.main_v0_0)) (v1 : (c : Dev Cert.NormGradIdeal.nD) → Buf (Elt Ideal) ((c.tc : Thread Cert.NormGradIdeal.nD Cert.NormGradIdeal.τ).loc Cert.NormGradIdeal.main_v0_1)) (v2 : (c : Dev Cert.NormGradIdeal.nD) → Buf (Elt Ideal) ((c.tc : Thread Cert.NormGradIdeal.nD Cert.NormGradIdeal.τ).loc Cert.NormGradIdeal.main_v0_2)) (v3 : (c : Dev Cert.NormGradIdeal.nD) → Buf (Elt Ideal) ((c.tc : Thread Cert.NormGradIdeal.nD Cert.NormGradIdeal.τ).loc Cert.NormGradIdeal.main_v0_3)) (v4 : (c : Dev Cert.NormGradIdeal.nD) → Buf (Elt Ideal) ((c.tc : Thread Cert.NormGradIdeal.nD Cert.NormGradIdeal.τ).loc Cert.NormGradIdeal.main_v0_4)),
      θ_run (Cert.NormGradIdeal.defs (F := Ideal)) (onTc (τ := Cert.NormGradIdeal.τ) (Cert.NormGradIdeal.main (F := Ideal))) ⟨m, fun _ => 0, g⟩ (fun r => ∀ c : Dev Cert.NormGradIdeal.nD,
          r.2.mem ((c.tc : Thread Cert.NormGradIdeal.nD Cert.NormGradIdeal.τ).loc Cert.NormGradIdeal.main_v0_0) = v0 c
          ∧ r.2.mem ((c.tc : Thread Cert.NormGradIdeal.nD Cert.NormGradIdeal.τ).loc Cert.NormGradIdeal.main_v0_1) = v1 c
          ∧ r.2.mem ((c.tc : Thread Cert.NormGradIdeal.nD Cert.NormGradIdeal.τ).loc Cert.NormGradIdeal.main_v0_2) = v2 c
          ∧ r.2.mem ((c.tc : Thread Cert.NormGradIdeal.nD Cert.NormGradIdeal.τ).loc Cert.NormGradIdeal.main_v0_3) = v3 c
          ∧ r.2.mem ((c.tc : Thread Cert.NormGradIdeal.nD Cert.NormGradIdeal.τ).loc Cert.NormGradIdeal.main_v0_4) = v4 c
          ∧ r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
          ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4))
      ∧ θ_run (Cert.NormGradReferenceIdeal.defs (F := Ideal)) (onTc (τ := Cert.NormGradReferenceIdeal.τ) (Cert.NormGradReferenceIdeal.main (F := Ideal))) ⟨m', fun _ => 0, g'⟩ (fun r => ∀ c : Dev Cert.NormGradReferenceIdeal.nD,
          r.2.mem ((c.tc : Thread Cert.NormGradReferenceIdeal.nD Cert.NormGradReferenceIdeal.τ).loc Cert.NormGradReferenceIdeal.main_v84) = v0 c
          ∧ r.2.mem ((c.tc : Thread Cert.NormGradReferenceIdeal.nD Cert.NormGradReferenceIdeal.τ).loc Cert.NormGradReferenceIdeal.main_v81) = v1 c
          ∧ r.2.mem ((c.tc : Thread Cert.NormGradReferenceIdeal.nD Cert.NormGradReferenceIdeal.τ).loc Cert.NormGradReferenceIdeal.main_v85) = v2 c
          ∧ r.2.mem ((c.tc : Thread Cert.NormGradReferenceIdeal.nD Cert.NormGradReferenceIdeal.τ).loc Cert.NormGradReferenceIdeal.main_v83) = v3 c
          ∧ r.2.mem ((c.tc : Thread Cert.NormGradReferenceIdeal.nD Cert.NormGradReferenceIdeal.τ).loc Cert.NormGradReferenceIdeal.main_v82) = v4 c
          ∧ r.2.mem ((c.tc : Thread Cert.NormGradReferenceIdeal.nD Cert.NormGradReferenceIdeal.τ).loc Cert.NormGradReferenceIdeal.main_arg0) = m' ((c.tc : Thread Cert.NormGradReferenceIdeal.nD Cert.NormGradReferenceIdeal.τ).loc Cert.NormGradReferenceIdeal.main_arg0)
          ∧ r.2.mem ((c.tc : Thread Cert.NormGradReferenceIdeal.nD Cert.NormGradReferenceIdeal.τ).loc Cert.NormGradReferenceIdeal.main_arg1) = m' ((c.tc : Thread Cert.NormGradReferenceIdeal.nD Cert.NormGradReferenceIdeal.τ).loc Cert.NormGradReferenceIdeal.main_arg1)
          ∧ r.2.mem ((c.tc : Thread Cert.NormGradReferenceIdeal.nD Cert.NormGradReferenceIdeal.τ).loc Cert.NormGradReferenceIdeal.main_arg2) = m' ((c.tc : Thread Cert.NormGradReferenceIdeal.nD Cert.NormGradReferenceIdeal.τ).loc Cert.NormGradReferenceIdeal.main_arg2)
          ∧ r.2.mem ((c.tc : Thread Cert.NormGradReferenceIdeal.nD Cert.NormGradReferenceIdeal.τ).loc Cert.NormGradReferenceIdeal.main_arg3) = m' ((c.tc : Thread Cert.NormGradReferenceIdeal.nD Cert.NormGradReferenceIdeal.τ).loc Cert.NormGradReferenceIdeal.main_arg3)
          ∧ r.2.mem ((c.tc : Thread Cert.NormGradReferenceIdeal.nD Cert.NormGradReferenceIdeal.τ).loc Cert.NormGradReferenceIdeal.main_arg4) = m' ((c.tc : Thread Cert.NormGradReferenceIdeal.nD Cert.NormGradReferenceIdeal.τ).loc Cert.NormGradReferenceIdeal.main_arg4))

def preserves_GateGrad_GateGradIdeal : Prop :=
  True

def algebraic_GateGradIdeal_GateGradReferenceIdeal [hGateGradIdeal : Cert.GateGradIdeal.Facts] [hGateGradReferenceIdeal : Cert.GateGradReferenceIdeal.Facts] : Prop :=
  ∀ (m : (ℓ : Loc Cert.GateGradIdeal.nD Cert.GateGradIdeal.τ Cert.GateGradIdeal.sig) → Buf (Elt Ideal) ℓ) (g : Dev Cert.GateGradIdeal.nD → PrngReg)
    (m' : (ℓ : Loc Cert.GateGradReferenceIdeal.nD Cert.GateGradReferenceIdeal.τ Cert.GateGradReferenceIdeal.sig) → Buf (Elt Ideal) ℓ) (g' : Dev Cert.GateGradReferenceIdeal.nD → PrngReg), Pre_GateGradIdeal m →
    (∀ c : Dev Cert.GateGradIdeal.nD,
      m' ((c.tc : Thread Cert.GateGradReferenceIdeal.nD Cert.GateGradReferenceIdeal.τ).loc Cert.GateGradReferenceIdeal.main_arg0) = m ((c.tc : Thread Cert.GateGradIdeal.nD Cert.GateGradIdeal.τ).loc Cert.GateGradIdeal.main_arg0)
      ∧ m' ((c.tc : Thread Cert.GateGradReferenceIdeal.nD Cert.GateGradReferenceIdeal.τ).loc Cert.GateGradReferenceIdeal.main_arg1) = m ((c.tc : Thread Cert.GateGradIdeal.nD Cert.GateGradIdeal.τ).loc Cert.GateGradIdeal.main_arg1)
      ∧ m' ((c.tc : Thread Cert.GateGradReferenceIdeal.nD Cert.GateGradReferenceIdeal.τ).loc Cert.GateGradReferenceIdeal.main_arg2) = m ((c.tc : Thread Cert.GateGradIdeal.nD Cert.GateGradIdeal.τ).loc Cert.GateGradIdeal.main_arg2)
      ∧ m' ((c.tc : Thread Cert.GateGradReferenceIdeal.nD Cert.GateGradReferenceIdeal.τ).loc Cert.GateGradReferenceIdeal.main_arg3) = m ((c.tc : Thread Cert.GateGradIdeal.nD Cert.GateGradIdeal.τ).loc Cert.GateGradIdeal.main_arg3)
      ∧ m' ((c.tc : Thread Cert.GateGradReferenceIdeal.nD Cert.GateGradReferenceIdeal.τ).loc Cert.GateGradReferenceIdeal.main_arg4) = m ((c.tc : Thread Cert.GateGradIdeal.nD Cert.GateGradIdeal.τ).loc Cert.GateGradIdeal.main_arg4)) →
    ∃ (v0 : (c : Dev Cert.GateGradIdeal.nD) → Buf (Elt Ideal) ((c.tc : Thread Cert.GateGradIdeal.nD Cert.GateGradIdeal.τ).loc Cert.GateGradIdeal.main_v0_0)) (v1 : (c : Dev Cert.GateGradIdeal.nD) → Buf (Elt Ideal) ((c.tc : Thread Cert.GateGradIdeal.nD Cert.GateGradIdeal.τ).loc Cert.GateGradIdeal.main_v0_1)) (v2 : (c : Dev Cert.GateGradIdeal.nD) → Buf (Elt Ideal) ((c.tc : Thread Cert.GateGradIdeal.nD Cert.GateGradIdeal.τ).loc Cert.GateGradIdeal.main_v0_2)) (v3 : (c : Dev Cert.GateGradIdeal.nD) → Buf (Elt Ideal) ((c.tc : Thread Cert.GateGradIdeal.nD Cert.GateGradIdeal.τ).loc Cert.GateGradIdeal.main_v0_3)) (v4 : (c : Dev Cert.GateGradIdeal.nD) → Buf (Elt Ideal) ((c.tc : Thread Cert.GateGradIdeal.nD Cert.GateGradIdeal.τ).loc Cert.GateGradIdeal.main_v0_4)) (v5 : (c : Dev Cert.GateGradIdeal.nD) → Buf (Elt Ideal) ((c.tc : Thread Cert.GateGradIdeal.nD Cert.GateGradIdeal.τ).loc Cert.GateGradIdeal.main_v0_5)),
      θ_run (Cert.GateGradIdeal.defs (F := Ideal)) (onTc (τ := Cert.GateGradIdeal.τ) (Cert.GateGradIdeal.main (F := Ideal))) ⟨m, fun _ => 0, g⟩ (fun r => ∀ c : Dev Cert.GateGradIdeal.nD,
          r.2.mem ((c.tc : Thread Cert.GateGradIdeal.nD Cert.GateGradIdeal.τ).loc Cert.GateGradIdeal.main_v0_0) = v0 c
          ∧ r.2.mem ((c.tc : Thread Cert.GateGradIdeal.nD Cert.GateGradIdeal.τ).loc Cert.GateGradIdeal.main_v0_1) = v1 c
          ∧ r.2.mem ((c.tc : Thread Cert.GateGradIdeal.nD Cert.GateGradIdeal.τ).loc Cert.GateGradIdeal.main_v0_2) = v2 c
          ∧ r.2.mem ((c.tc : Thread Cert.GateGradIdeal.nD Cert.GateGradIdeal.τ).loc Cert.GateGradIdeal.main_v0_3) = v3 c
          ∧ r.2.mem ((c.tc : Thread Cert.GateGradIdeal.nD Cert.GateGradIdeal.τ).loc Cert.GateGradIdeal.main_v0_4) = v4 c
          ∧ r.2.mem ((c.tc : Thread Cert.GateGradIdeal.nD Cert.GateGradIdeal.τ).loc Cert.GateGradIdeal.main_v0_5) = v5 c
          ∧ r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
          ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
          ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2)
          ∧ r.2.mem ((c.tc : Thread Cert.GateGradIdeal.nD Cert.GateGradIdeal.τ).loc Cert.GateGradIdeal.main_arg3) = m ((c.tc : Thread Cert.GateGradIdeal.nD Cert.GateGradIdeal.τ).loc Cert.GateGradIdeal.main_arg3)
          ∧ r.2.mem ((c.tc : Thread Cert.GateGradIdeal.nD Cert.GateGradIdeal.τ).loc Cert.GateGradIdeal.main_arg4) = m ((c.tc : Thread Cert.GateGradIdeal.nD Cert.GateGradIdeal.τ).loc Cert.GateGradIdeal.main_arg4))
      ∧ θ_run (Cert.GateGradReferenceIdeal.defs (F := Ideal)) (onTc (τ := Cert.GateGradReferenceIdeal.τ) (Cert.GateGradReferenceIdeal.main (F := Ideal))) ⟨m', fun _ => 0, g'⟩ (fun r => ∀ c : Dev Cert.GateGradReferenceIdeal.nD,
          r.2.mem ((c.tc : Thread Cert.GateGradReferenceIdeal.nD Cert.GateGradReferenceIdeal.τ).loc Cert.GateGradReferenceIdeal.main_v32) = v0 c
          ∧ r.2.mem ((c.tc : Thread Cert.GateGradReferenceIdeal.nD Cert.GateGradReferenceIdeal.τ).loc Cert.GateGradReferenceIdeal.main_v36) = v1 c
          ∧ r.2.mem ((c.tc : Thread Cert.GateGradReferenceIdeal.nD Cert.GateGradReferenceIdeal.τ).loc Cert.GateGradReferenceIdeal.main_v37) = v2 c
          ∧ r.2.mem ((c.tc : Thread Cert.GateGradReferenceIdeal.nD Cert.GateGradReferenceIdeal.τ).loc Cert.GateGradReferenceIdeal.main_v33) = v3 c
          ∧ r.2.mem ((c.tc : Thread Cert.GateGradReferenceIdeal.nD Cert.GateGradReferenceIdeal.τ).loc Cert.GateGradReferenceIdeal.main_v34) = v4 c
          ∧ r.2.mem ((c.tc : Thread Cert.GateGradReferenceIdeal.nD Cert.GateGradReferenceIdeal.τ).loc Cert.GateGradReferenceIdeal.main_v35) = v5 c
          ∧ r.2.mem ((c.tc : Thread Cert.GateGradReferenceIdeal.nD Cert.GateGradReferenceIdeal.τ).loc Cert.GateGradReferenceIdeal.main_arg0) = m' ((c.tc : Thread Cert.GateGradReferenceIdeal.nD Cert.GateGradReferenceIdeal.τ).loc Cert.GateGradReferenceIdeal.main_arg0)
          ∧ r.2.mem ((c.tc : Thread Cert.GateGradReferenceIdeal.nD Cert.GateGradReferenceIdeal.τ).loc Cert.GateGradReferenceIdeal.main_arg1) = m' ((c.tc : Thread Cert.GateGradReferenceIdeal.nD Cert.GateGradReferenceIdeal.τ).loc Cert.GateGradReferenceIdeal.main_arg1)
          ∧ r.2.mem ((c.tc : Thread Cert.GateGradReferenceIdeal.nD Cert.GateGradReferenceIdeal.τ).loc Cert.GateGradReferenceIdeal.main_arg2) = m' ((c.tc : Thread Cert.GateGradReferenceIdeal.nD Cert.GateGradReferenceIdeal.τ).loc Cert.GateGradReferenceIdeal.main_arg2)
          ∧ r.2.mem ((c.tc : Thread Cert.GateGradReferenceIdeal.nD Cert.GateGradReferenceIdeal.τ).loc Cert.GateGradReferenceIdeal.main_arg3) = m' ((c.tc : Thread Cert.GateGradReferenceIdeal.nD Cert.GateGradReferenceIdeal.τ).loc Cert.GateGradReferenceIdeal.main_arg3)
          ∧ r.2.mem ((c.tc : Thread Cert.GateGradReferenceIdeal.nD Cert.GateGradReferenceIdeal.τ).loc Cert.GateGradReferenceIdeal.main_arg4) = m' ((c.tc : Thread Cert.GateGradReferenceIdeal.nD Cert.GateGradReferenceIdeal.τ).loc Cert.GateGradReferenceIdeal.main_arg4))

def preserves_NormFwd_NormFwdIdeal : Prop :=
  True

def algebraic_NormFwdIdeal_NormFwdReferenceIdeal [hNormFwdIdeal : Cert.NormFwdIdeal.Facts] [hNormFwdReferenceIdeal : Cert.NormFwdReferenceIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdReferenceIdeal.nD Cert.NormFwdReferenceIdeal.τ Cert.NormFwdReferenceIdeal.sig) → Buf (Elt Ideal) ℓ) (g' : Dev Cert.NormFwdReferenceIdeal.nD → PrngReg), Pre_NormFwdIdeal m →
    (∀ c : Dev Cert.NormFwdIdeal.nD,
      m' ((c.tc : Thread Cert.NormFwdReferenceIdeal.nD Cert.NormFwdReferenceIdeal.τ).loc Cert.NormFwdReferenceIdeal.main_arg0) = m ((c.tc : Thread Cert.NormFwdIdeal.nD Cert.NormFwdIdeal.τ).loc Cert.NormFwdIdeal.main_arg0)
      ∧ m' ((c.tc : Thread Cert.NormFwdReferenceIdeal.nD Cert.NormFwdReferenceIdeal.τ).loc Cert.NormFwdReferenceIdeal.main_arg1) = m ((c.tc : Thread Cert.NormFwdIdeal.nD Cert.NormFwdIdeal.τ).loc Cert.NormFwdIdeal.main_arg1)
      ∧ m' ((c.tc : Thread Cert.NormFwdReferenceIdeal.nD Cert.NormFwdReferenceIdeal.τ).loc Cert.NormFwdReferenceIdeal.main_arg2) = m ((c.tc : Thread Cert.NormFwdIdeal.nD Cert.NormFwdIdeal.τ).loc Cert.NormFwdIdeal.main_arg2)
      ∧ m' ((c.tc : Thread Cert.NormFwdReferenceIdeal.nD Cert.NormFwdReferenceIdeal.τ).loc Cert.NormFwdReferenceIdeal.main_arg3) = m ((c.tc : Thread Cert.NormFwdIdeal.nD Cert.NormFwdIdeal.τ).loc Cert.NormFwdIdeal.main_arg3)) →
    ∃ (v0 : (c : Dev Cert.NormFwdIdeal.nD) → Buf (Elt Ideal) ((c.tc : Thread Cert.NormFwdIdeal.nD Cert.NormFwdIdeal.τ).loc Cert.NormFwdIdeal.main_v0_0)) (v1 : (c : Dev Cert.NormFwdIdeal.nD) → Buf (Elt Ideal) ((c.tc : Thread Cert.NormFwdIdeal.nD Cert.NormFwdIdeal.τ).loc Cert.NormFwdIdeal.main_v0_1)) (v2 : (c : Dev Cert.NormFwdIdeal.nD) → Buf (Elt Ideal) ((c.tc : Thread Cert.NormFwdIdeal.nD Cert.NormFwdIdeal.τ).loc Cert.NormFwdIdeal.main_v0_2)) (v3 : (c : Dev Cert.NormFwdIdeal.nD) → Buf (Elt Ideal) ((c.tc : Thread Cert.NormFwdIdeal.nD Cert.NormFwdIdeal.τ).loc Cert.NormFwdIdeal.main_v0_3)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0_0) = v0 c
          ∧ r.2.mem ((c.tc : Thread Cert.NormFwdIdeal.nD Cert.NormFwdIdeal.τ).loc Cert.NormFwdIdeal.main_v0_1) = v1 c
          ∧ r.2.mem ((c.tc : Thread Cert.NormFwdIdeal.nD Cert.NormFwdIdeal.τ).loc Cert.NormFwdIdeal.main_v0_2) = v2 c
          ∧ r.2.mem ((c.tc : Thread Cert.NormFwdIdeal.nD Cert.NormFwdIdeal.τ).loc Cert.NormFwdIdeal.main_v0_3) = v3 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
          ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
          ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ θ_run (Cert.NormFwdReferenceIdeal.defs (F := Ideal)) (onTc (τ := Cert.NormFwdReferenceIdeal.τ) (Cert.NormFwdReferenceIdeal.main (F := Ideal))) ⟨m', fun _ => 0, g'⟩ (fun r => ∀ c : Dev Cert.NormFwdReferenceIdeal.nD,
          r.2.mem ((c.tc : Thread Cert.NormFwdReferenceIdeal.nD Cert.NormFwdReferenceIdeal.τ).loc Cert.NormFwdReferenceIdeal.main_v42) = v0 c
          ∧ r.2.mem ((c.tc : Thread Cert.NormFwdReferenceIdeal.nD Cert.NormFwdReferenceIdeal.τ).loc Cert.NormFwdReferenceIdeal.main_v43) = v1 c
          ∧ r.2.mem ((c.tc : Thread Cert.NormFwdReferenceIdeal.nD Cert.NormFwdReferenceIdeal.τ).loc Cert.NormFwdReferenceIdeal.main_v47) = v2 c
          ∧ r.2.mem ((c.tc : Thread Cert.NormFwdReferenceIdeal.nD Cert.NormFwdReferenceIdeal.τ).loc Cert.NormFwdReferenceIdeal.main_v16) = v3 c
          ∧ r.2.mem ((c.tc : Thread Cert.NormFwdReferenceIdeal.nD Cert.NormFwdReferenceIdeal.τ).loc Cert.NormFwdReferenceIdeal.main_arg0) = m' ((c.tc : Thread Cert.NormFwdReferenceIdeal.nD Cert.NormFwdReferenceIdeal.τ).loc Cert.NormFwdReferenceIdeal.main_arg0)
          ∧ r.2.mem ((c.tc : Thread Cert.NormFwdReferenceIdeal.nD Cert.NormFwdReferenceIdeal.τ).loc Cert.NormFwdReferenceIdeal.main_arg1) = m' ((c.tc : Thread Cert.NormFwdReferenceIdeal.nD Cert.NormFwdReferenceIdeal.τ).loc Cert.NormFwdReferenceIdeal.main_arg1)
          ∧ r.2.mem ((c.tc : Thread Cert.NormFwdReferenceIdeal.nD Cert.NormFwdReferenceIdeal.τ).loc Cert.NormFwdReferenceIdeal.main_arg2) = m' ((c.tc : Thread Cert.NormFwdReferenceIdeal.nD Cert.NormFwdReferenceIdeal.τ).loc Cert.NormFwdReferenceIdeal.main_arg2)
          ∧ r.2.mem ((c.tc : Thread Cert.NormFwdReferenceIdeal.nD Cert.NormFwdReferenceIdeal.τ).loc Cert.NormFwdReferenceIdeal.main_arg3) = m' ((c.tc : Thread Cert.NormFwdReferenceIdeal.nD Cert.NormFwdReferenceIdeal.τ).loc Cert.NormFwdReferenceIdeal.main_arg3))

def preserves_NormBwd_NormBwdIdeal : Prop :=
  True

def algebraic_NormBwdIdeal_NormBwdReferenceIdeal_pre_finite_inner [hNormBwdIdeal : Cert.NormBwdIdeal.Facts] [hNormBwdReferenceIdeal : Cert.NormBwdReferenceIdeal.Facts] [hPre_finite_inner : Cert.Pre_finite_inner.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdReferenceIdeal.nD Cert.NormBwdReferenceIdeal.τ Cert.NormBwdReferenceIdeal.sig) → Buf (Elt Ideal) ℓ) (g' : Dev Cert.NormBwdReferenceIdeal.nD → PrngReg), Pre_NormBwdIdeal_finite_inner m →
    (∀ c : Dev Cert.NormBwdIdeal.nD,
      m' ((c.tc : Thread Cert.NormBwdReferenceIdeal.nD Cert.NormBwdReferenceIdeal.τ).loc Cert.NormBwdReferenceIdeal.main_arg0) = m ((c.tc : Thread Cert.NormBwdIdeal.nD Cert.NormBwdIdeal.τ).loc Cert.NormBwdIdeal.main_arg0)
      ∧ m' ((c.tc : Thread Cert.NormBwdReferenceIdeal.nD Cert.NormBwdReferenceIdeal.τ).loc Cert.NormBwdReferenceIdeal.main_arg1) = m ((c.tc : Thread Cert.NormBwdIdeal.nD Cert.NormBwdIdeal.τ).loc Cert.NormBwdIdeal.main_arg1)
      ∧ m' ((c.tc : Thread Cert.NormBwdReferenceIdeal.nD Cert.NormBwdReferenceIdeal.τ).loc Cert.NormBwdReferenceIdeal.main_arg2) = m ((c.tc : Thread Cert.NormBwdIdeal.nD Cert.NormBwdIdeal.τ).loc Cert.NormBwdIdeal.main_arg2)
      ∧ m' ((c.tc : Thread Cert.NormBwdReferenceIdeal.nD Cert.NormBwdReferenceIdeal.τ).loc Cert.NormBwdReferenceIdeal.main_arg3) = m ((c.tc : Thread Cert.NormBwdIdeal.nD Cert.NormBwdIdeal.τ).loc Cert.NormBwdIdeal.main_arg3)
      ∧ m' ((c.tc : Thread Cert.NormBwdReferenceIdeal.nD Cert.NormBwdReferenceIdeal.τ).loc Cert.NormBwdReferenceIdeal.main_arg4) = m ((c.tc : Thread Cert.NormBwdIdeal.nD Cert.NormBwdIdeal.τ).loc Cert.NormBwdIdeal.main_arg4)
      ∧ m' ((c.tc : Thread Cert.NormBwdReferenceIdeal.nD Cert.NormBwdReferenceIdeal.τ).loc Cert.NormBwdReferenceIdeal.main_arg5) = m ((c.tc : Thread Cert.NormBwdIdeal.nD Cert.NormBwdIdeal.τ).loc Cert.NormBwdIdeal.main_arg5)) →
    ∃ (v0 : (c : Dev Cert.NormBwdIdeal.nD) → Buf (Elt Ideal) ((c.tc : Thread Cert.NormBwdIdeal.nD Cert.NormBwdIdeal.τ).loc Cert.NormBwdIdeal.main_v19_0)) (v1 : (c : Dev Cert.NormBwdIdeal.nD) → Buf (Elt Ideal) ((c.tc : Thread Cert.NormBwdIdeal.nD Cert.NormBwdIdeal.τ).loc Cert.NormBwdIdeal.main_v19_1)) (v2 : (c : Dev Cert.NormBwdIdeal.nD) → Buf (Elt Ideal) ((c.tc : Thread Cert.NormBwdIdeal.nD Cert.NormBwdIdeal.τ).loc Cert.NormBwdIdeal.main_v19_2)) (v3 : (c : Dev Cert.NormBwdIdeal.nD) → Buf (Elt Ideal) ((c.tc : Thread Cert.NormBwdIdeal.nD Cert.NormBwdIdeal.τ).loc Cert.NormBwdIdeal.main_v19_3)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v19_0) = v0 c
          ∧ r.2.mem ((c.tc : Thread Cert.NormBwdIdeal.nD Cert.NormBwdIdeal.τ).loc Cert.NormBwdIdeal.main_v19_1) = v1 c
          ∧ r.2.mem ((c.tc : Thread Cert.NormBwdIdeal.nD Cert.NormBwdIdeal.τ).loc Cert.NormBwdIdeal.main_v19_2) = v2 c
          ∧ r.2.mem ((c.tc : Thread Cert.NormBwdIdeal.nD Cert.NormBwdIdeal.τ).loc Cert.NormBwdIdeal.main_v19_3) = v3 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
          ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ θ_run (Cert.NormBwdReferenceIdeal.defs (F := Ideal)) (onTc (τ := Cert.NormBwdReferenceIdeal.τ) (Cert.NormBwdReferenceIdeal.main (F := Ideal))) ⟨m', fun _ => 0, g'⟩ (fun r => ∀ c : Dev Cert.NormBwdReferenceIdeal.nD,
          r.2.mem ((c.tc : Thread Cert.NormBwdReferenceIdeal.nD Cert.NormBwdReferenceIdeal.τ).loc Cert.NormBwdReferenceIdeal.main_v69) = v0 c
          ∧ r.2.mem ((c.tc : Thread Cert.NormBwdReferenceIdeal.nD Cert.NormBwdReferenceIdeal.τ).loc Cert.NormBwdReferenceIdeal.main_v72) = v1 c
          ∧ r.2.mem ((c.tc : Thread Cert.NormBwdReferenceIdeal.nD Cert.NormBwdReferenceIdeal.τ).loc Cert.NormBwdReferenceIdeal.main_v71) = v2 c
          ∧ r.2.mem ((c.tc : Thread Cert.NormBwdReferenceIdeal.nD Cert.NormBwdReferenceIdeal.τ).loc Cert.NormBwdReferenceIdeal.main_v70) = v3 c
          ∧ r.2.mem ((c.tc : Thread Cert.NormBwdReferenceIdeal.nD Cert.NormBwdReferenceIdeal.τ).loc Cert.NormBwdReferenceIdeal.main_arg0) = m' ((c.tc : Thread Cert.NormBwdReferenceIdeal.nD Cert.NormBwdReferenceIdeal.τ).loc Cert.NormBwdReferenceIdeal.main_arg0)
          ∧ r.2.mem ((c.tc : Thread Cert.NormBwdReferenceIdeal.nD Cert.NormBwdReferenceIdeal.τ).loc Cert.NormBwdReferenceIdeal.main_arg1) = m' ((c.tc : Thread Cert.NormBwdReferenceIdeal.nD Cert.NormBwdReferenceIdeal.τ).loc Cert.NormBwdReferenceIdeal.main_arg1)
          ∧ r.2.mem ((c.tc : Thread Cert.NormBwdReferenceIdeal.nD Cert.NormBwdReferenceIdeal.τ).loc Cert.NormBwdReferenceIdeal.main_arg2) = m' ((c.tc : Thread Cert.NormBwdReferenceIdeal.nD Cert.NormBwdReferenceIdeal.τ).loc Cert.NormBwdReferenceIdeal.main_arg2)
          ∧ r.2.mem ((c.tc : Thread Cert.NormBwdReferenceIdeal.nD Cert.NormBwdReferenceIdeal.τ).loc Cert.NormBwdReferenceIdeal.main_arg3) = m' ((c.tc : Thread Cert.NormBwdReferenceIdeal.nD Cert.NormBwdReferenceIdeal.τ).loc Cert.NormBwdReferenceIdeal.main_arg3)
          ∧ r.2.mem ((c.tc : Thread Cert.NormBwdReferenceIdeal.nD Cert.NormBwdReferenceIdeal.τ).loc Cert.NormBwdReferenceIdeal.main_arg4) = m' ((c.tc : Thread Cert.NormBwdReferenceIdeal.nD Cert.NormBwdReferenceIdeal.τ).loc Cert.NormBwdReferenceIdeal.main_arg4)
          ∧ r.2.mem ((c.tc : Thread Cert.NormBwdReferenceIdeal.nD Cert.NormBwdReferenceIdeal.τ).loc Cert.NormBwdReferenceIdeal.main_arg5) = m' ((c.tc : Thread Cert.NormBwdReferenceIdeal.nD Cert.NormBwdReferenceIdeal.τ).loc Cert.NormBwdReferenceIdeal.main_arg5))

def preserves_GateFwd_GateFwdIdeal : Prop :=
  True

def algebraic_GateFwdIdeal_GateFwdReferenceIdeal [hGateFwdIdeal : Cert.GateFwdIdeal.Facts] [hGateFwdReferenceIdeal : Cert.GateFwdReferenceIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdReferenceIdeal.nD Cert.GateFwdReferenceIdeal.τ Cert.GateFwdReferenceIdeal.sig) → Buf (Elt Ideal) ℓ) (g' : Dev Cert.GateFwdReferenceIdeal.nD → PrngReg), Pre_GateFwdIdeal m →
    (∀ c : Dev Cert.GateFwdIdeal.nD,
      m' ((c.tc : Thread Cert.GateFwdReferenceIdeal.nD Cert.GateFwdReferenceIdeal.τ).loc Cert.GateFwdReferenceIdeal.main_arg0) = m ((c.tc : Thread Cert.GateFwdIdeal.nD Cert.GateFwdIdeal.τ).loc Cert.GateFwdIdeal.main_arg0)
      ∧ m' ((c.tc : Thread Cert.GateFwdReferenceIdeal.nD Cert.GateFwdReferenceIdeal.τ).loc Cert.GateFwdReferenceIdeal.main_arg1) = m ((c.tc : Thread Cert.GateFwdIdeal.nD Cert.GateFwdIdeal.τ).loc Cert.GateFwdIdeal.main_arg1)
      ∧ m' ((c.tc : Thread Cert.GateFwdReferenceIdeal.nD Cert.GateFwdReferenceIdeal.τ).loc Cert.GateFwdReferenceIdeal.main_arg2) = m ((c.tc : Thread Cert.GateFwdIdeal.nD Cert.GateFwdIdeal.τ).loc Cert.GateFwdIdeal.main_arg2)
      ∧ m' ((c.tc : Thread Cert.GateFwdReferenceIdeal.nD Cert.GateFwdReferenceIdeal.τ).loc Cert.GateFwdReferenceIdeal.main_arg3) = m ((c.tc : Thread Cert.GateFwdIdeal.nD Cert.GateFwdIdeal.τ).loc Cert.GateFwdIdeal.main_arg3)) →
    ∃ (v0 : (c : Dev Cert.GateFwdIdeal.nD) → Buf (Elt Ideal) ((c.tc : Thread Cert.GateFwdIdeal.nD Cert.GateFwdIdeal.τ).loc Cert.GateFwdIdeal.main_v0)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v0) = v0 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
          ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3))
      ∧ θ_run (Cert.GateFwdReferenceIdeal.defs (F := Ideal)) (onTc (τ := Cert.GateFwdReferenceIdeal.τ) (Cert.GateFwdReferenceIdeal.main (F := Ideal))) ⟨m', fun _ => 0, g'⟩ (fun r => ∀ c : Dev Cert.GateFwdReferenceIdeal.nD,
          r.2.mem ((c.tc : Thread Cert.GateFwdReferenceIdeal.nD Cert.GateFwdReferenceIdeal.τ).loc Cert.GateFwdReferenceIdeal.main_v16) = v0 c
          ∧ r.2.mem ((c.tc : Thread Cert.GateFwdReferenceIdeal.nD Cert.GateFwdReferenceIdeal.τ).loc Cert.GateFwdReferenceIdeal.main_arg0) = m' ((c.tc : Thread Cert.GateFwdReferenceIdeal.nD Cert.GateFwdReferenceIdeal.τ).loc Cert.GateFwdReferenceIdeal.main_arg0)
          ∧ r.2.mem ((c.tc : Thread Cert.GateFwdReferenceIdeal.nD Cert.GateFwdReferenceIdeal.τ).loc Cert.GateFwdReferenceIdeal.main_arg1) = m' ((c.tc : Thread Cert.GateFwdReferenceIdeal.nD Cert.GateFwdReferenceIdeal.τ).loc Cert.GateFwdReferenceIdeal.main_arg1)
          ∧ r.2.mem ((c.tc : Thread Cert.GateFwdReferenceIdeal.nD Cert.GateFwdReferenceIdeal.τ).loc Cert.GateFwdReferenceIdeal.main_arg2) = m' ((c.tc : Thread Cert.GateFwdReferenceIdeal.nD Cert.GateFwdReferenceIdeal.τ).loc Cert.GateFwdReferenceIdeal.main_arg2)
          ∧ r.2.mem ((c.tc : Thread Cert.GateFwdReferenceIdeal.nD Cert.GateFwdReferenceIdeal.τ).loc Cert.GateFwdReferenceIdeal.main_arg3) = m' ((c.tc : Thread Cert.GateFwdReferenceIdeal.nD Cert.GateFwdReferenceIdeal.τ).loc Cert.GateFwdReferenceIdeal.main_arg3))

def preserves_GateXGrad_GateXGradIdeal : Prop :=
  True

def algebraic_GateXGradIdeal_GateXGradReferenceIdeal [hGateXGradIdeal : Cert.GateXGradIdeal.Facts] [hGateXGradReferenceIdeal : Cert.GateXGradReferenceIdeal.Facts] : Prop :=
  ∀ (m : (ℓ : Loc Cert.GateXGradIdeal.nD Cert.GateXGradIdeal.τ Cert.GateXGradIdeal.sig) → Buf (Elt Ideal) ℓ) (g : Dev Cert.GateXGradIdeal.nD → PrngReg)
    (m' : (ℓ : Loc Cert.GateXGradReferenceIdeal.nD Cert.GateXGradReferenceIdeal.τ Cert.GateXGradReferenceIdeal.sig) → Buf (Elt Ideal) ℓ) (g' : Dev Cert.GateXGradReferenceIdeal.nD → PrngReg), Pre_GateXGradIdeal m →
    (∀ c : Dev Cert.GateXGradIdeal.nD,
      m' ((c.tc : Thread Cert.GateXGradReferenceIdeal.nD Cert.GateXGradReferenceIdeal.τ).loc Cert.GateXGradReferenceIdeal.main_arg0) = m ((c.tc : Thread Cert.GateXGradIdeal.nD Cert.GateXGradIdeal.τ).loc Cert.GateXGradIdeal.main_arg0)
      ∧ m' ((c.tc : Thread Cert.GateXGradReferenceIdeal.nD Cert.GateXGradReferenceIdeal.τ).loc Cert.GateXGradReferenceIdeal.main_arg1) = m ((c.tc : Thread Cert.GateXGradIdeal.nD Cert.GateXGradIdeal.τ).loc Cert.GateXGradIdeal.main_arg1)
      ∧ m' ((c.tc : Thread Cert.GateXGradReferenceIdeal.nD Cert.GateXGradReferenceIdeal.τ).loc Cert.GateXGradReferenceIdeal.main_arg2) = m ((c.tc : Thread Cert.GateXGradIdeal.nD Cert.GateXGradIdeal.τ).loc Cert.GateXGradIdeal.main_arg2)
      ∧ m' ((c.tc : Thread Cert.GateXGradReferenceIdeal.nD Cert.GateXGradReferenceIdeal.τ).loc Cert.GateXGradReferenceIdeal.main_arg3) = m ((c.tc : Thread Cert.GateXGradIdeal.nD Cert.GateXGradIdeal.τ).loc Cert.GateXGradIdeal.main_arg3)
      ∧ m' ((c.tc : Thread Cert.GateXGradReferenceIdeal.nD Cert.GateXGradReferenceIdeal.τ).loc Cert.GateXGradReferenceIdeal.main_arg4) = m ((c.tc : Thread Cert.GateXGradIdeal.nD Cert.GateXGradIdeal.τ).loc Cert.GateXGradIdeal.main_arg4)) →
    ∃ (v0 : (c : Dev Cert.GateXGradIdeal.nD) → Buf (Elt Ideal) ((c.tc : Thread Cert.GateXGradIdeal.nD Cert.GateXGradIdeal.τ).loc Cert.GateXGradIdeal.main_v2)),
      θ_run (Cert.GateXGradIdeal.defs (F := Ideal)) (onTc (τ := Cert.GateXGradIdeal.τ) (Cert.GateXGradIdeal.main (F := Ideal))) ⟨m, fun _ => 0, g⟩ (fun r => ∀ c : Dev Cert.GateXGradIdeal.nD,
          r.2.mem ((c.tc : Thread Cert.GateXGradIdeal.nD Cert.GateXGradIdeal.τ).loc Cert.GateXGradIdeal.main_v2) = v0 c
          ∧ r.2.mem ((c.tc : Thread Cert.GateXGradIdeal.nD Cert.GateXGradIdeal.τ).loc Cert.GateXGradIdeal.main_arg0) = m ((c.tc : Thread Cert.GateXGradIdeal.nD Cert.GateXGradIdeal.τ).loc Cert.GateXGradIdeal.main_arg0)
          ∧ r.2.mem ((c.tc : Thread Cert.GateXGradIdeal.nD Cert.GateXGradIdeal.τ).loc Cert.GateXGradIdeal.main_arg1) = m ((c.tc : Thread Cert.GateXGradIdeal.nD Cert.GateXGradIdeal.τ).loc Cert.GateXGradIdeal.main_arg1)
          ∧ r.2.mem ((c.tc : Thread Cert.GateXGradIdeal.nD Cert.GateXGradIdeal.τ).loc Cert.GateXGradIdeal.main_arg2) = m ((c.tc : Thread Cert.GateXGradIdeal.nD Cert.GateXGradIdeal.τ).loc Cert.GateXGradIdeal.main_arg2)
          ∧ r.2.mem ((c.tc : Thread Cert.GateXGradIdeal.nD Cert.GateXGradIdeal.τ).loc Cert.GateXGradIdeal.main_arg3) = m ((c.tc : Thread Cert.GateXGradIdeal.nD Cert.GateXGradIdeal.τ).loc Cert.GateXGradIdeal.main_arg3)
          ∧ r.2.mem ((c.tc : Thread Cert.GateXGradIdeal.nD Cert.GateXGradIdeal.τ).loc Cert.GateXGradIdeal.main_arg4) = m ((c.tc : Thread Cert.GateXGradIdeal.nD Cert.GateXGradIdeal.τ).loc Cert.GateXGradIdeal.main_arg4))
      ∧ θ_run (Cert.GateXGradReferenceIdeal.defs (F := Ideal)) (onTc (τ := Cert.GateXGradReferenceIdeal.τ) (Cert.GateXGradReferenceIdeal.main (F := Ideal))) ⟨m', fun _ => 0, g'⟩ (fun r => ∀ c : Dev Cert.GateXGradReferenceIdeal.nD,
          r.2.mem ((c.tc : Thread Cert.GateXGradReferenceIdeal.nD Cert.GateXGradReferenceIdeal.τ).loc Cert.GateXGradReferenceIdeal.main_v17) = v0 c
          ∧ r.2.mem ((c.tc : Thread Cert.GateXGradReferenceIdeal.nD Cert.GateXGradReferenceIdeal.τ).loc Cert.GateXGradReferenceIdeal.main_arg0) = m' ((c.tc : Thread Cert.GateXGradReferenceIdeal.nD Cert.GateXGradReferenceIdeal.τ).loc Cert.GateXGradReferenceIdeal.main_arg0)
          ∧ r.2.mem ((c.tc : Thread Cert.GateXGradReferenceIdeal.nD Cert.GateXGradReferenceIdeal.τ).loc Cert.GateXGradReferenceIdeal.main_arg1) = m' ((c.tc : Thread Cert.GateXGradReferenceIdeal.nD Cert.GateXGradReferenceIdeal.τ).loc Cert.GateXGradReferenceIdeal.main_arg1)
          ∧ r.2.mem ((c.tc : Thread Cert.GateXGradReferenceIdeal.nD Cert.GateXGradReferenceIdeal.τ).loc Cert.GateXGradReferenceIdeal.main_arg2) = m' ((c.tc : Thread Cert.GateXGradReferenceIdeal.nD Cert.GateXGradReferenceIdeal.τ).loc Cert.GateXGradReferenceIdeal.main_arg2)
          ∧ r.2.mem ((c.tc : Thread Cert.GateXGradReferenceIdeal.nD Cert.GateXGradReferenceIdeal.τ).loc Cert.GateXGradReferenceIdeal.main_arg3) = m' ((c.tc : Thread Cert.GateXGradReferenceIdeal.nD Cert.GateXGradReferenceIdeal.τ).loc Cert.GateXGradReferenceIdeal.main_arg3)
          ∧ r.2.mem ((c.tc : Thread Cert.GateXGradReferenceIdeal.nD Cert.GateXGradReferenceIdeal.τ).loc Cert.GateXGradReferenceIdeal.main_arg4) = m' ((c.tc : Thread Cert.GateXGradReferenceIdeal.nD Cert.GateXGradReferenceIdeal.τ).loc Cert.GateXGradReferenceIdeal.main_arg4))

def preserves_LruGates_LruGatesIdeal : Prop :=
  True

def algebraic_LruGatesIdeal_LruGatesReferenceIdeal [hLruGatesIdeal : Cert.LruGatesIdeal.Facts] [hLruGatesReferenceIdeal : Cert.LruGatesReferenceIdeal.Facts] : Prop :=
  ∀ (m : (ℓ : Loc Cert.LruGatesIdeal.nD Cert.LruGatesIdeal.τ Cert.LruGatesIdeal.sig) → Buf (Elt Ideal) ℓ) (g : Dev Cert.LruGatesIdeal.nD → PrngReg)
    (m' : (ℓ : Loc Cert.LruGatesReferenceIdeal.nD Cert.LruGatesReferenceIdeal.τ Cert.LruGatesReferenceIdeal.sig) → Buf (Elt Ideal) ℓ) (g' : Dev Cert.LruGatesReferenceIdeal.nD → PrngReg), Pre_LruGatesIdeal m →
    (∀ c : Dev Cert.LruGatesIdeal.nD,
      m' ((c.tc : Thread Cert.LruGatesReferenceIdeal.nD Cert.LruGatesReferenceIdeal.τ).loc Cert.LruGatesReferenceIdeal.main_arg0) = m ((c.tc : Thread Cert.LruGatesIdeal.nD Cert.LruGatesIdeal.τ).loc Cert.LruGatesIdeal.main_arg0)
      ∧ m' ((c.tc : Thread Cert.LruGatesReferenceIdeal.nD Cert.LruGatesReferenceIdeal.τ).loc Cert.LruGatesReferenceIdeal.main_arg1) = m ((c.tc : Thread Cert.LruGatesIdeal.nD Cert.LruGatesIdeal.τ).loc Cert.LruGatesIdeal.main_arg1)
      ∧ m' ((c.tc : Thread Cert.LruGatesReferenceIdeal.nD Cert.LruGatesReferenceIdeal.τ).loc Cert.LruGatesReferenceIdeal.main_arg2) = m ((c.tc : Thread Cert.LruGatesIdeal.nD Cert.LruGatesIdeal.τ).loc Cert.LruGatesIdeal.main_arg2)
      ∧ m' ((c.tc : Thread Cert.LruGatesReferenceIdeal.nD Cert.LruGatesReferenceIdeal.τ).loc Cert.LruGatesReferenceIdeal.main_arg3) = m ((c.tc : Thread Cert.LruGatesIdeal.nD Cert.LruGatesIdeal.τ).loc Cert.LruGatesIdeal.main_arg3)
      ∧ m' ((c.tc : Thread Cert.LruGatesReferenceIdeal.nD Cert.LruGatesReferenceIdeal.τ).loc Cert.LruGatesReferenceIdeal.main_arg4) = m ((c.tc : Thread Cert.LruGatesIdeal.nD Cert.LruGatesIdeal.τ).loc Cert.LruGatesIdeal.main_arg4)) →
    ∃ (v0 : (c : Dev Cert.LruGatesIdeal.nD) → Buf (Elt Ideal) ((c.tc : Thread Cert.LruGatesIdeal.nD Cert.LruGatesIdeal.τ).loc Cert.LruGatesIdeal.main_v0_0)) (v1 : (c : Dev Cert.LruGatesIdeal.nD) → Buf (Elt Ideal) ((c.tc : Thread Cert.LruGatesIdeal.nD Cert.LruGatesIdeal.τ).loc Cert.LruGatesIdeal.main_v0_1)),
      θ_run (Cert.LruGatesIdeal.defs (F := Ideal)) (onTc (τ := Cert.LruGatesIdeal.τ) (Cert.LruGatesIdeal.main (F := Ideal))) ⟨m, fun _ => 0, g⟩ (fun r => ∀ c : Dev Cert.LruGatesIdeal.nD,
          r.2.mem ((c.tc : Thread Cert.LruGatesIdeal.nD Cert.LruGatesIdeal.τ).loc Cert.LruGatesIdeal.main_v0_0) = v0 c
          ∧ r.2.mem ((c.tc : Thread Cert.LruGatesIdeal.nD Cert.LruGatesIdeal.τ).loc Cert.LruGatesIdeal.main_v0_1) = v1 c
          ∧ r.2.mem ((c.tc : Thread Cert.LruGatesIdeal.nD Cert.LruGatesIdeal.τ).loc Cert.LruGatesIdeal.main_arg0) = m ((c.tc : Thread Cert.LruGatesIdeal.nD Cert.LruGatesIdeal.τ).loc Cert.LruGatesIdeal.main_arg0)
          ∧ r.2.mem ((c.tc : Thread Cert.LruGatesIdeal.nD Cert.LruGatesIdeal.τ).loc Cert.LruGatesIdeal.main_arg1) = m ((c.tc : Thread Cert.LruGatesIdeal.nD Cert.LruGatesIdeal.τ).loc Cert.LruGatesIdeal.main_arg1)
          ∧ r.2.mem ((c.tc : Thread Cert.LruGatesIdeal.nD Cert.LruGatesIdeal.τ).loc Cert.LruGatesIdeal.main_arg2) = m ((c.tc : Thread Cert.LruGatesIdeal.nD Cert.LruGatesIdeal.τ).loc Cert.LruGatesIdeal.main_arg2)
          ∧ r.2.mem ((c.tc : Thread Cert.LruGatesIdeal.nD Cert.LruGatesIdeal.τ).loc Cert.LruGatesIdeal.main_arg3) = m ((c.tc : Thread Cert.LruGatesIdeal.nD Cert.LruGatesIdeal.τ).loc Cert.LruGatesIdeal.main_arg3)
          ∧ r.2.mem ((c.tc : Thread Cert.LruGatesIdeal.nD Cert.LruGatesIdeal.τ).loc Cert.LruGatesIdeal.main_arg4) = m ((c.tc : Thread Cert.LruGatesIdeal.nD Cert.LruGatesIdeal.τ).loc Cert.LruGatesIdeal.main_arg4))
      ∧ θ_run (Cert.LruGatesReferenceIdeal.defs (F := Ideal)) (onTc (τ := Cert.LruGatesReferenceIdeal.τ) (Cert.LruGatesReferenceIdeal.main (F := Ideal))) ⟨m', fun _ => 0, g'⟩ (fun r => ∀ c : Dev Cert.LruGatesReferenceIdeal.nD,
          r.2.mem ((c.tc : Thread Cert.LruGatesReferenceIdeal.nD Cert.LruGatesReferenceIdeal.τ).loc Cert.LruGatesReferenceIdeal.main_v14) = v0 c
          ∧ r.2.mem ((c.tc : Thread Cert.LruGatesReferenceIdeal.nD Cert.LruGatesReferenceIdeal.τ).loc Cert.LruGatesReferenceIdeal.main_v22) = v1 c
          ∧ r.2.mem ((c.tc : Thread Cert.LruGatesReferenceIdeal.nD Cert.LruGatesReferenceIdeal.τ).loc Cert.LruGatesReferenceIdeal.main_arg0) = m' ((c.tc : Thread Cert.LruGatesReferenceIdeal.nD Cert.LruGatesReferenceIdeal.τ).loc Cert.LruGatesReferenceIdeal.main_arg0)
          ∧ r.2.mem ((c.tc : Thread Cert.LruGatesReferenceIdeal.nD Cert.LruGatesReferenceIdeal.τ).loc Cert.LruGatesReferenceIdeal.main_arg1) = m' ((c.tc : Thread Cert.LruGatesReferenceIdeal.nD Cert.LruGatesReferenceIdeal.τ).loc Cert.LruGatesReferenceIdeal.main_arg1)
          ∧ r.2.mem ((c.tc : Thread Cert.LruGatesReferenceIdeal.nD Cert.LruGatesReferenceIdeal.τ).loc Cert.LruGatesReferenceIdeal.main_arg2) = m' ((c.tc : Thread Cert.LruGatesReferenceIdeal.nD Cert.LruGatesReferenceIdeal.τ).loc Cert.LruGatesReferenceIdeal.main_arg2)
          ∧ r.2.mem ((c.tc : Thread Cert.LruGatesReferenceIdeal.nD Cert.LruGatesReferenceIdeal.τ).loc Cert.LruGatesReferenceIdeal.main_arg3) = m' ((c.tc : Thread Cert.LruGatesReferenceIdeal.nD Cert.LruGatesReferenceIdeal.τ).loc Cert.LruGatesReferenceIdeal.main_arg3)
          ∧ r.2.mem ((c.tc : Thread Cert.LruGatesReferenceIdeal.nD Cert.LruGatesReferenceIdeal.τ).loc Cert.LruGatesReferenceIdeal.main_arg4) = m' ((c.tc : Thread Cert.LruGatesReferenceIdeal.nD Cert.LruGatesReferenceIdeal.τ).loc Cert.LruGatesReferenceIdeal.main_arg4))

def preserves_AdamW_AdamWIdeal : Prop :=
  True

def algebraic_AdamWIdeal_AdamWReferenceIdeal [hAdamWIdeal : Cert.AdamWIdeal.Facts] [hAdamWReferenceIdeal : Cert.AdamWReferenceIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWReferenceIdeal.nD Cert.AdamWReferenceIdeal.τ Cert.AdamWReferenceIdeal.sig) → Buf (Elt Ideal) ℓ) (g' : Dev Cert.AdamWReferenceIdeal.nD → PrngReg), Pre_AdamWIdeal m →
    (∀ c : Dev Cert.AdamWIdeal.nD,
      m' ((c.tc : Thread Cert.AdamWReferenceIdeal.nD Cert.AdamWReferenceIdeal.τ).loc Cert.AdamWReferenceIdeal.main_arg0) = m ((c.tc : Thread Cert.AdamWIdeal.nD Cert.AdamWIdeal.τ).loc Cert.AdamWIdeal.main_arg0)
      ∧ m' ((c.tc : Thread Cert.AdamWReferenceIdeal.nD Cert.AdamWReferenceIdeal.τ).loc Cert.AdamWReferenceIdeal.main_arg1) = m ((c.tc : Thread Cert.AdamWIdeal.nD Cert.AdamWIdeal.τ).loc Cert.AdamWIdeal.main_arg1)
      ∧ m' ((c.tc : Thread Cert.AdamWReferenceIdeal.nD Cert.AdamWReferenceIdeal.τ).loc Cert.AdamWReferenceIdeal.main_arg2) = m ((c.tc : Thread Cert.AdamWIdeal.nD Cert.AdamWIdeal.τ).loc Cert.AdamWIdeal.main_arg2)
      ∧ m' ((c.tc : Thread Cert.AdamWReferenceIdeal.nD Cert.AdamWReferenceIdeal.τ).loc Cert.AdamWReferenceIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v0_0)) (v1 : (c : Dev Cert.AdamWIdeal.nD) → Buf (Elt Ideal) ((c.tc : Thread Cert.AdamWIdeal.nD Cert.AdamWIdeal.τ).loc Cert.AdamWIdeal.main_v0_1)) (v2 : (c : Dev Cert.AdamWIdeal.nD) → Buf (Elt Ideal) ((c.tc : Thread Cert.AdamWIdeal.nD Cert.AdamWIdeal.τ).loc Cert.AdamWIdeal.main_v0_2)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_0) = v0 c
          ∧ r.2.mem ((c.tc : Thread Cert.AdamWIdeal.nD Cert.AdamWIdeal.τ).loc Cert.AdamWIdeal.main_v0_1) = v1 c
          ∧ r.2.mem ((c.tc : Thread Cert.AdamWIdeal.nD Cert.AdamWIdeal.τ).loc Cert.AdamWIdeal.main_v0_2) = v2 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWReferenceIdeal.defs (F := Ideal)) (onTc (τ := Cert.AdamWReferenceIdeal.τ) (Cert.AdamWReferenceIdeal.main (F := Ideal))) ⟨m', fun _ => 0, g'⟩ (fun r => ∀ c : Dev Cert.AdamWReferenceIdeal.nD,
          r.2.mem ((c.tc : Thread Cert.AdamWReferenceIdeal.nD Cert.AdamWReferenceIdeal.τ).loc Cert.AdamWReferenceIdeal.main_v23) = v0 c
          ∧ r.2.mem ((c.tc : Thread Cert.AdamWReferenceIdeal.nD Cert.AdamWReferenceIdeal.τ).loc Cert.AdamWReferenceIdeal.main_v4) = v1 c
          ∧ r.2.mem ((c.tc : Thread Cert.AdamWReferenceIdeal.nD Cert.AdamWReferenceIdeal.τ).loc Cert.AdamWReferenceIdeal.main_v10) = v2 c
          ∧ r.2.mem ((c.tc : Thread Cert.AdamWReferenceIdeal.nD Cert.AdamWReferenceIdeal.τ).loc Cert.AdamWReferenceIdeal.main_arg0) = m' ((c.tc : Thread Cert.AdamWReferenceIdeal.nD Cert.AdamWReferenceIdeal.τ).loc Cert.AdamWReferenceIdeal.main_arg0)
          ∧ r.2.mem ((c.tc : Thread Cert.AdamWReferenceIdeal.nD Cert.AdamWReferenceIdeal.τ).loc Cert.AdamWReferenceIdeal.main_arg1) = m' ((c.tc : Thread Cert.AdamWReferenceIdeal.nD Cert.AdamWReferenceIdeal.τ).loc Cert.AdamWReferenceIdeal.main_arg1)
          ∧ r.2.mem ((c.tc : Thread Cert.AdamWReferenceIdeal.nD Cert.AdamWReferenceIdeal.τ).loc Cert.AdamWReferenceIdeal.main_arg2) = m' ((c.tc : Thread Cert.AdamWReferenceIdeal.nD Cert.AdamWReferenceIdeal.τ).loc Cert.AdamWReferenceIdeal.main_arg2)
          ∧ r.2.mem ((c.tc : Thread Cert.AdamWReferenceIdeal.nD Cert.AdamWReferenceIdeal.τ).loc Cert.AdamWReferenceIdeal.main_arg3) = m' ((c.tc : Thread Cert.AdamWReferenceIdeal.nD Cert.AdamWReferenceIdeal.τ).loc Cert.AdamWReferenceIdeal.main_arg3))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownReferenceIdeal : Cert.DownReferenceIdeal.Facts) (hDownGrad : Cert.DownGrad.Facts) (hDownGradIdeal : Cert.DownGradIdeal.Facts) (hDownGradReferenceIdeal : Cert.DownGradReferenceIdeal.Facts) (hOutGrad : Cert.OutGrad.Facts) (hOutGradIdeal : Cert.OutGradIdeal.Facts) (hOutGradReferenceIdeal : Cert.OutGradReferenceIdeal.Facts) (hMixGrad : Cert.MixGrad.Facts) (hMixGradIdeal : Cert.MixGradIdeal.Facts) (hMixGradReferenceIdeal : Cert.MixGradReferenceIdeal.Facts) (hRnnProjGrad : Cert.RnnProjGrad.Facts) (hRnnProjGradIdeal : Cert.RnnProjGradIdeal.Facts) (hRnnProjGradReferenceIdeal : Cert.RnnProjGradReferenceIdeal.Facts) (hAttnOutGrad : Cert.AttnOutGrad.Facts) (hAttnOutGradIdeal : Cert.AttnOutGradIdeal.Facts) (hAttnOutGradReferenceIdeal : Cert.AttnOutGradReferenceIdeal.Facts) (hRnnOutGrad : Cert.RnnOutGrad.Facts) (hRnnOutGradIdeal : Cert.RnnOutGradIdeal.Facts) (hRnnOutGradReferenceIdeal : Cert.RnnOutGradReferenceIdeal.Facts) (hGateWGrad : Cert.GateWGrad.Facts) (hGateWGradIdeal : Cert.GateWGradIdeal.Facts) (hGateWGradReferenceIdeal : Cert.GateWGradReferenceIdeal.Facts) (hProj : Cert.Proj.Facts) (hProjIdeal : Cert.ProjIdeal.Facts) (hProjReferenceIdeal : Cert.ProjReferenceIdeal.Facts) (hAttnOut : Cert.AttnOut.Facts) (hAttnOutIdeal : Cert.AttnOutIdeal.Facts) (hAttnOutReferenceIdeal : Cert.AttnOutReferenceIdeal.Facts) (hRnnOut : Cert.RnnOut.Facts) (hRnnOutIdeal : Cert.RnnOutIdeal.Facts) (hRnnOutReferenceIdeal : Cert.RnnOutReferenceIdeal.Facts) (hMixOut : Cert.MixOut.Facts) (hMixOutIdeal : Cert.MixOutIdeal.Facts) (hMixOutReferenceIdeal : Cert.MixOutReferenceIdeal.Facts) (hUp : Cert.Up.Facts) (hUpIdeal : Cert.UpIdeal.Facts) (hUpReferenceIdeal : Cert.UpReferenceIdeal.Facts) (hFinGrad : Cert.FinGrad.Facts) (hFinGradIdeal : Cert.FinGradIdeal.Facts) (hFinGradReferenceIdeal : Cert.FinGradReferenceIdeal.Facts) (hUpGrad : Cert.UpGrad.Facts) (hUpGradIdeal : Cert.UpGradIdeal.Facts) (hUpGradReferenceIdeal : Cert.UpGradReferenceIdeal.Facts) (hAttnProjGrad : Cert.AttnProjGrad.Facts) (hAttnProjGradIdeal : Cert.AttnProjGradIdeal.Facts) (hAttnProjGradReferenceIdeal : Cert.AttnProjGradReferenceIdeal.Facts) (hInGrad : Cert.InGrad.Facts) (hInGradIdeal : Cert.InGradIdeal.Facts) (hInGradReferenceIdeal : Cert.InGradReferenceIdeal.Facts) (hUpInGrad : Cert.UpInGrad.Facts) (hUpInGradIdeal : Cert.UpInGradIdeal.Facts) (hUpInGradReferenceIdeal : Cert.UpInGradReferenceIdeal.Facts) (hGateInGrad : Cert.GateInGrad.Facts) (hGateInGradIdeal : Cert.GateInGradIdeal.Facts) (hGateInGradReferenceIdeal : Cert.GateInGradReferenceIdeal.Facts) (hXGrad : Cert.XGrad.Facts) (hXGradIdeal : Cert.XGradIdeal.Facts) (hXGradReferenceIdeal : Cert.XGradReferenceIdeal.Facts) (hNormGrad : Cert.NormGrad.Facts) (hNormGradIdeal : Cert.NormGradIdeal.Facts) (hNormGradReferenceIdeal : Cert.NormGradReferenceIdeal.Facts) (hGateGrad : Cert.GateGrad.Facts) (hGateGradIdeal : Cert.GateGradIdeal.Facts) (hGateGradReferenceIdeal : Cert.GateGradReferenceIdeal.Facts) (hNormFwd : Cert.NormFwd.Facts) (hNormFwdIdeal : Cert.NormFwdIdeal.Facts) (hNormFwdReferenceIdeal : Cert.NormFwdReferenceIdeal.Facts) (hNormBwd : Cert.NormBwd.Facts) (hNormBwdIdeal : Cert.NormBwdIdeal.Facts) (hNormBwdReferenceIdeal : Cert.NormBwdReferenceIdeal.Facts) (hGateFwd : Cert.GateFwd.Facts) (hGateFwdIdeal : Cert.GateFwdIdeal.Facts) (hGateFwdReferenceIdeal : Cert.GateFwdReferenceIdeal.Facts) (hGateXGrad : Cert.GateXGrad.Facts) (hGateXGradIdeal : Cert.GateXGradIdeal.Facts) (hGateXGradReferenceIdeal : Cert.GateXGradReferenceIdeal.Facts) (hLruGates : Cert.LruGates.Facts) (hLruGatesIdeal : Cert.LruGatesIdeal.Facts) (hLruGatesReferenceIdeal : Cert.LruGatesReferenceIdeal.Facts) (hAdamW : Cert.AdamW.Facts) (hAdamWIdeal : Cert.AdamWIdeal.Facts) (hAdamWReferenceIdeal : Cert.AdamWReferenceIdeal.Facts) (hPre_finite : Cert.Pre_finite.Facts) (hPre_finite_norm : Cert.Pre_finite_norm.Facts) (hPre_finite_inner : Cert.Pre_finite_inner.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Down (hDown := hDown)
    ∧ quiescent_DownIdeal (hDownIdeal := hDownIdeal)
    ∧ quiescent_DownReferenceIdeal (hDownReferenceIdeal := hDownReferenceIdeal)
    ∧ quiescent_DownGrad (hDownGrad := hDownGrad)
    ∧ quiescent_DownGradIdeal (hDownGradIdeal := hDownGradIdeal)
    ∧ quiescent_DownGradReferenceIdeal (hDownGradReferenceIdeal := hDownGradReferenceIdeal)
    ∧ quiescent_OutGrad (hOutGrad := hOutGrad)
    ∧ quiescent_OutGradIdeal (hOutGradIdeal := hOutGradIdeal)
    ∧ quiescent_OutGradReferenceIdeal (hOutGradReferenceIdeal := hOutGradReferenceIdeal)
    ∧ quiescent_MixGrad (hMixGrad := hMixGrad)
    ∧ quiescent_MixGradIdeal (hMixGradIdeal := hMixGradIdeal)
    ∧ quiescent_MixGradReferenceIdeal (hMixGradReferenceIdeal := hMixGradReferenceIdeal)
    ∧ quiescent_RnnProjGrad (hRnnProjGrad := hRnnProjGrad)
    ∧ quiescent_RnnProjGradIdeal (hRnnProjGradIdeal := hRnnProjGradIdeal)
    ∧ quiescent_RnnProjGradReferenceIdeal (hRnnProjGradReferenceIdeal := hRnnProjGradReferenceIdeal)
    ∧ quiescent_AttnOutGrad (hAttnOutGrad := hAttnOutGrad)
    ∧ quiescent_AttnOutGradIdeal (hAttnOutGradIdeal := hAttnOutGradIdeal)
    ∧ quiescent_AttnOutGradReferenceIdeal (hAttnOutGradReferenceIdeal := hAttnOutGradReferenceIdeal)
    ∧ quiescent_RnnOutGrad (hRnnOutGrad := hRnnOutGrad)
    ∧ quiescent_RnnOutGradIdeal (hRnnOutGradIdeal := hRnnOutGradIdeal)
    ∧ quiescent_RnnOutGradReferenceIdeal (hRnnOutGradReferenceIdeal := hRnnOutGradReferenceIdeal)
    ∧ quiescent_GateWGrad (hGateWGrad := hGateWGrad)
    ∧ quiescent_GateWGradIdeal (hGateWGradIdeal := hGateWGradIdeal)
    ∧ quiescent_GateWGradReferenceIdeal (hGateWGradReferenceIdeal := hGateWGradReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_AttnOut (hAttnOut := hAttnOut)
    ∧ quiescent_AttnOutIdeal (hAttnOutIdeal := hAttnOutIdeal)
    ∧ quiescent_AttnOutReferenceIdeal (hAttnOutReferenceIdeal := hAttnOutReferenceIdeal)
    ∧ quiescent_RnnOut (hRnnOut := hRnnOut)
    ∧ quiescent_RnnOutIdeal (hRnnOutIdeal := hRnnOutIdeal)
    ∧ quiescent_RnnOutReferenceIdeal (hRnnOutReferenceIdeal := hRnnOutReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ quiescent_Up (hUp := hUp)
    ∧ quiescent_UpIdeal (hUpIdeal := hUpIdeal)
    ∧ quiescent_UpReferenceIdeal (hUpReferenceIdeal := hUpReferenceIdeal)
    ∧ quiescent_FinGrad (hFinGrad := hFinGrad)
    ∧ quiescent_FinGradIdeal (hFinGradIdeal := hFinGradIdeal)
    ∧ quiescent_FinGradReferenceIdeal (hFinGradReferenceIdeal := hFinGradReferenceIdeal)
    ∧ quiescent_UpGrad (hUpGrad := hUpGrad)
    ∧ quiescent_UpGradIdeal (hUpGradIdeal := hUpGradIdeal)
    ∧ quiescent_UpGradReferenceIdeal (hUpGradReferenceIdeal := hUpGradReferenceIdeal)
    ∧ quiescent_AttnProjGrad (hAttnProjGrad := hAttnProjGrad)
    ∧ quiescent_AttnProjGradIdeal (hAttnProjGradIdeal := hAttnProjGradIdeal)
    ∧ quiescent_AttnProjGradReferenceIdeal (hAttnProjGradReferenceIdeal := hAttnProjGradReferenceIdeal)
    ∧ quiescent_InGrad (hInGrad := hInGrad)
    ∧ quiescent_InGradIdeal (hInGradIdeal := hInGradIdeal)
    ∧ quiescent_InGradReferenceIdeal (hInGradReferenceIdeal := hInGradReferenceIdeal)
    ∧ quiescent_UpInGrad (hUpInGrad := hUpInGrad)
    ∧ quiescent_UpInGradIdeal (hUpInGradIdeal := hUpInGradIdeal)
    ∧ quiescent_UpInGradReferenceIdeal (hUpInGradReferenceIdeal := hUpInGradReferenceIdeal)
    ∧ quiescent_GateInGrad (hGateInGrad := hGateInGrad)
    ∧ quiescent_GateInGradIdeal (hGateInGradIdeal := hGateInGradIdeal)
    ∧ quiescent_GateInGradReferenceIdeal (hGateInGradReferenceIdeal := hGateInGradReferenceIdeal)
    ∧ quiescent_XGrad (hXGrad := hXGrad)
    ∧ quiescent_XGradIdeal (hXGradIdeal := hXGradIdeal)
    ∧ quiescent_XGradReferenceIdeal (hXGradReferenceIdeal := hXGradReferenceIdeal)
    ∧ quiescent_NormGrad (hNormGrad := hNormGrad)
    ∧ quiescent_NormGradIdeal (hNormGradIdeal := hNormGradIdeal)
    ∧ quiescent_NormGradIdeal_pre_finite_norm (hNormGradIdeal := hNormGradIdeal) (hPre_finite_norm := hPre_finite_norm)
    ∧ quiescent_NormGradReferenceIdeal (hNormGradReferenceIdeal := hNormGradReferenceIdeal)
    ∧ quiescent_NormGradReferenceIdeal_pre_finite_norm (hNormGradReferenceIdeal := hNormGradReferenceIdeal) (hPre_finite_norm := hPre_finite_norm)
    ∧ quiescent_GateGrad (hGateGrad := hGateGrad)
    ∧ quiescent_GateGradIdeal (hGateGradIdeal := hGateGradIdeal)
    ∧ quiescent_GateGradReferenceIdeal (hGateGradReferenceIdeal := hGateGradReferenceIdeal)
    ∧ quiescent_NormFwd (hNormFwd := hNormFwd)
    ∧ quiescent_NormFwdIdeal (hNormFwdIdeal := hNormFwdIdeal)
    ∧ quiescent_NormFwdReferenceIdeal (hNormFwdReferenceIdeal := hNormFwdReferenceIdeal)
    ∧ quiescent_NormBwd (hNormBwd := hNormBwd)
    ∧ quiescent_NormBwdIdeal (hNormBwdIdeal := hNormBwdIdeal)
    ∧ quiescent_NormBwdIdeal_pre_finite_inner (hNormBwdIdeal := hNormBwdIdeal) (hPre_finite_inner := hPre_finite_inner)
    ∧ quiescent_NormBwdReferenceIdeal (hNormBwdReferenceIdeal := hNormBwdReferenceIdeal)
    ∧ quiescent_NormBwdReferenceIdeal_pre_finite_inner (hNormBwdReferenceIdeal := hNormBwdReferenceIdeal) (hPre_finite_inner := hPre_finite_inner)
    ∧ quiescent_GateFwd (hGateFwd := hGateFwd)
    ∧ quiescent_GateFwdIdeal (hGateFwdIdeal := hGateFwdIdeal)
    ∧ quiescent_GateFwdReferenceIdeal (hGateFwdReferenceIdeal := hGateFwdReferenceIdeal)
    ∧ quiescent_GateXGrad (hGateXGrad := hGateXGrad)
    ∧ quiescent_GateXGradIdeal (hGateXGradIdeal := hGateXGradIdeal)
    ∧ quiescent_GateXGradReferenceIdeal (hGateXGradReferenceIdeal := hGateXGradReferenceIdeal)
    ∧ quiescent_LruGates (hLruGates := hLruGates)
    ∧ quiescent_LruGatesIdeal (hLruGatesIdeal := hLruGatesIdeal)
    ∧ quiescent_LruGatesReferenceIdeal (hLruGatesReferenceIdeal := hLruGatesReferenceIdeal)
    ∧ quiescent_AdamW (hAdamW := hAdamW)
    ∧ quiescent_AdamWIdeal (hAdamWIdeal := hAdamWIdeal)
    ∧ quiescent_AdamWReferenceIdeal (hAdamWReferenceIdeal := hAdamWReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Down_DownIdeal
    ∧ algebraic_DownIdeal_DownReferenceIdeal (hDownIdeal := hDownIdeal) (hDownReferenceIdeal := hDownReferenceIdeal)
    ∧ preserves_DownGrad_DownGradIdeal
    ∧ algebraic_DownGradIdeal_DownGradReferenceIdeal (hDownGradIdeal := hDownGradIdeal) (hDownGradReferenceIdeal := hDownGradReferenceIdeal)
    ∧ preserves_OutGrad_OutGradIdeal
    ∧ algebraic_OutGradIdeal_OutGradReferenceIdeal (hOutGradIdeal := hOutGradIdeal) (hOutGradReferenceIdeal := hOutGradReferenceIdeal)
    ∧ preserves_MixGrad_MixGradIdeal
    ∧ algebraic_MixGradIdeal_MixGradReferenceIdeal (hMixGradIdeal := hMixGradIdeal) (hMixGradReferenceIdeal := hMixGradReferenceIdeal)
    ∧ preserves_RnnProjGrad_RnnProjGradIdeal
    ∧ algebraic_RnnProjGradIdeal_RnnProjGradReferenceIdeal (hRnnProjGradIdeal := hRnnProjGradIdeal) (hRnnProjGradReferenceIdeal := hRnnProjGradReferenceIdeal)
    ∧ preserves_AttnOutGrad_AttnOutGradIdeal
    ∧ algebraic_AttnOutGradIdeal_AttnOutGradReferenceIdeal (hAttnOutGradIdeal := hAttnOutGradIdeal) (hAttnOutGradReferenceIdeal := hAttnOutGradReferenceIdeal)
    ∧ preserves_RnnOutGrad_RnnOutGradIdeal
    ∧ algebraic_RnnOutGradIdeal_RnnOutGradReferenceIdeal (hRnnOutGradIdeal := hRnnOutGradIdeal) (hRnnOutGradReferenceIdeal := hRnnOutGradReferenceIdeal)
    ∧ preserves_GateWGrad_GateWGradIdeal
    ∧ algebraic_GateWGradIdeal_GateWGradReferenceIdeal (hGateWGradIdeal := hGateWGradIdeal) (hGateWGradReferenceIdeal := hGateWGradReferenceIdeal)
    ∧ preserves_Proj_ProjIdeal
    ∧ algebraic_ProjIdeal_ProjReferenceIdeal (hProjIdeal := hProjIdeal) (hProjReferenceIdeal := hProjReferenceIdeal)
    ∧ preserves_AttnOut_AttnOutIdeal
    ∧ algebraic_AttnOutIdeal_AttnOutReferenceIdeal (hAttnOutIdeal := hAttnOutIdeal) (hAttnOutReferenceIdeal := hAttnOutReferenceIdeal)
    ∧ preserves_RnnOut_RnnOutIdeal
    ∧ algebraic_RnnOutIdeal_RnnOutReferenceIdeal (hRnnOutIdeal := hRnnOutIdeal) (hRnnOutReferenceIdeal := hRnnOutReferenceIdeal)
    ∧ preserves_MixOut_MixOutIdeal
    ∧ algebraic_MixOutIdeal_MixOutReferenceIdeal (hMixOutIdeal := hMixOutIdeal) (hMixOutReferenceIdeal := hMixOutReferenceIdeal)
    ∧ preserves_Up_UpIdeal
    ∧ algebraic_UpIdeal_UpReferenceIdeal (hUpIdeal := hUpIdeal) (hUpReferenceIdeal := hUpReferenceIdeal)
    ∧ preserves_FinGrad_FinGradIdeal
    ∧ algebraic_FinGradIdeal_FinGradReferenceIdeal (hFinGradIdeal := hFinGradIdeal) (hFinGradReferenceIdeal := hFinGradReferenceIdeal)
    ∧ preserves_UpGrad_UpGradIdeal
    ∧ algebraic_UpGradIdeal_UpGradReferenceIdeal (hUpGradIdeal := hUpGradIdeal) (hUpGradReferenceIdeal := hUpGradReferenceIdeal)
    ∧ preserves_AttnProjGrad_AttnProjGradIdeal
    ∧ algebraic_AttnProjGradIdeal_AttnProjGradReferenceIdeal (hAttnProjGradIdeal := hAttnProjGradIdeal) (hAttnProjGradReferenceIdeal := hAttnProjGradReferenceIdeal)
    ∧ preserves_InGrad_InGradIdeal
    ∧ algebraic_InGradIdeal_InGradReferenceIdeal (hInGradIdeal := hInGradIdeal) (hInGradReferenceIdeal := hInGradReferenceIdeal)
    ∧ preserves_UpInGrad_UpInGradIdeal
    ∧ algebraic_UpInGradIdeal_UpInGradReferenceIdeal (hUpInGradIdeal := hUpInGradIdeal) (hUpInGradReferenceIdeal := hUpInGradReferenceIdeal)
    ∧ preserves_GateInGrad_GateInGradIdeal
    ∧ algebraic_GateInGradIdeal_GateInGradReferenceIdeal (hGateInGradIdeal := hGateInGradIdeal) (hGateInGradReferenceIdeal := hGateInGradReferenceIdeal)
    ∧ preserves_XGrad_XGradIdeal
    ∧ algebraic_XGradIdeal_XGradReferenceIdeal (hXGradIdeal := hXGradIdeal) (hXGradReferenceIdeal := hXGradReferenceIdeal)
    ∧ preserves_NormGrad_NormGradIdeal
    ∧ algebraic_NormGradIdeal_NormGradReferenceIdeal_pre_finite_norm (hNormGradIdeal := hNormGradIdeal) (hNormGradReferenceIdeal := hNormGradReferenceIdeal) (hPre_finite_norm := hPre_finite_norm)
    ∧ preserves_GateGrad_GateGradIdeal
    ∧ algebraic_GateGradIdeal_GateGradReferenceIdeal (hGateGradIdeal := hGateGradIdeal) (hGateGradReferenceIdeal := hGateGradReferenceIdeal)
    ∧ preserves_NormFwd_NormFwdIdeal
    ∧ algebraic_NormFwdIdeal_NormFwdReferenceIdeal (hNormFwdIdeal := hNormFwdIdeal) (hNormFwdReferenceIdeal := hNormFwdReferenceIdeal)
    ∧ preserves_NormBwd_NormBwdIdeal
    ∧ algebraic_NormBwdIdeal_NormBwdReferenceIdeal_pre_finite_inner (hNormBwdIdeal := hNormBwdIdeal) (hNormBwdReferenceIdeal := hNormBwdReferenceIdeal) (hPre_finite_inner := hPre_finite_inner)
    ∧ preserves_GateFwd_GateFwdIdeal
    ∧ algebraic_GateFwdIdeal_GateFwdReferenceIdeal (hGateFwdIdeal := hGateFwdIdeal) (hGateFwdReferenceIdeal := hGateFwdReferenceIdeal)
    ∧ preserves_GateXGrad_GateXGradIdeal
    ∧ algebraic_GateXGradIdeal_GateXGradReferenceIdeal (hGateXGradIdeal := hGateXGradIdeal) (hGateXGradReferenceIdeal := hGateXGradReferenceIdeal)
    ∧ preserves_LruGates_LruGatesIdeal
    ∧ algebraic_LruGatesIdeal_LruGatesReferenceIdeal (hLruGatesIdeal := hLruGatesIdeal) (hLruGatesReferenceIdeal := hLruGatesReferenceIdeal)
    ∧ preserves_AdamW_AdamWIdeal
    ∧ algebraic_AdamWIdeal_AdamWReferenceIdeal (hAdamWIdeal := hAdamWIdeal) (hAdamWReferenceIdeal := hAdamWReferenceIdeal)
-- ==== Pre_finite.lean ====
abbrev S1x2048x2048 : Shape := ⟨3, ![1, 2048, 2048]⟩
abbrev S1x2048x256 : Shape := ⟨3, ![1, 2048, 256]⟩
abbrev S1x32 : Shape := ⟨2, ![1, 32]⟩
abbrev S_ : Shape := ⟨0, ![]⟩

class Facts : Prop where
  bcast_S_S1x2048x2048 : S_.BroadcastsInDim S1x2048x2048 (![] : Fin 0 → Fin S1x2048x2048.rank)
  reducesTo_S1x2048x2048_S_d0_1_2 : S1x2048x2048.ReducesTo [0, 1, 2] S_
  h_S_ : 0 < S_.numel
  bcast_S_S1x2048x256 : S_.BroadcastsInDim S1x2048x256 (![] : Fin 0 → Fin S1x2048x256.rank)
  reducesTo_S1x2048x256_S_d0_1_2 : S1x2048x256.ReducesTo [0, 1, 2] S_
  bcast_S_S1x32 : S_.BroadcastsInDim S1x32 (![] : Fin 0 → Fin S1x32.rank)
  reducesTo_S1x32_S_d0_1 : S1x32.ReducesTo [0, 1] S_

variable [Facts]

def fn_part1 {F : FTy → Type} [FloatOps F] (main_arg4 : FVec F S1x2048x2048 .f32) (main_v13 : IVec S_ 1) (main_v16 : IVec S1x32 1) : IVec S_ 1 :=
  let main_c_5 : IVec S_ 1 := constantI S_ 1 1#1
  let main_v17 : IVec S_ 1 := (fun x v => Host.reduce IntOp.andi x v reducesTo_S1x32_S_d0_1 h_S_) main_v16 main_c_5
  let main_v18 : IVec S_ 1 := andi main_v13 main_v17
  let main_v19 : FVec F S1x2048x2048 .f32 := Host.absf main_arg4
  let main_cst_6 : FVec F S_ .f32 := constant S_ .f32 0x7F800000#32
  let main_v20 : FVec F S1x2048x2048 .f32 := broadcastInDim S1x2048x2048 ![] bcast_S_S1x2048x2048 main_cst_6
  let main_v21 : IVec S1x2048x2048 1 := cmpf .olt main_v19 main_v20
  let main_c_7 : IVec S_ 1 := constantI S_ 1 1#1
  let main_v22 : IVec S_ 1 := (fun x v => Host.reduce IntOp.andi x v reducesTo_S1x2048x2048_S_d0_1_2 h_S_) main_v21 main_c_7
  let main_v23 : IVec S_ 1 := andi main_v18 main_v22
  main_v23

def fn {F : FTy → Type} [FloatOps F] (main_arg0 : FVec F S1x2048x2048 .f32) (main_arg1 : FVec F S1x2048x256 .f32) (main_arg2 : FVec F S1x2048x256 .f32) (main_arg3 : FVec F S1x32 .f32) (main_arg4 : FVec F S1x2048x2048 .f32) : IVec S_ 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_c : IVec S_ 1 := constantI S_ 1 1#1
  let main_v3 : IVec S_ 1 := (fun x v => Host.reduce IntOp.andi x v reducesTo_S1x2048x2048_S_d0_1_2 h_S_) main_v2 main_c
  let main_v4 : FVec F S1x2048x256 .f32 := Host.absf main_arg1
  let main_cst_0 : FVec F S_ .f32 := constant S_ .f32 0x7F800000#32
  let main_v5 : FVec F S1x2048x256 .f32 := broadcastInDim S1x2048x256 ![] bcast_S_S1x2048x256 main_cst_0
  let main_v6 : IVec S1x2048x256 1 := cmpf .olt main_v4 main_v5
  let main_c_1 : IVec S_ 1 := constantI S_ 1 1#1
  let main_v7 : IVec S_ 1 := (fun x v => Host.reduce IntOp.andi x v reducesTo_S1x2048x256_S_d0_1_2 h_S_) main_v6 main_c_1
  let main_v8 : IVec S_ 1 := andi main_v3 main_v7
  let main_v9 : FVec F S1x2048x256 .f32 := Host.absf main_arg2
  let main_cst_2 : FVec F S_ .f32 := constant S_ .f32 0x7F800000#32
  let main_v10 : FVec F S1x2048x256 .f32 := broadcastInDim S1x2048x256 ![] bcast_S_S1x2048x256 main_cst_2
  let main_v11 : IVec S1x2048x256 1 := cmpf .olt main_v9 main_v10
  let main_c_3 : IVec S_ 1 := constantI S_ 1 1#1
  let main_v12 : IVec S_ 1 := (fun x v => Host.reduce IntOp.andi x v reducesTo_S1x2048x256_S_d0_1_2 h_S_) main_v11 main_c_3
  let main_v13 : IVec S_ 1 := andi main_v8 main_v12
  let main_v14 : FVec F S1x32 .f32 := Host.absf main_arg3
  let main_cst_4 : FVec F S_ .f32 := constant S_ .f32 0x7F800000#32
  let main_v15 : FVec F S1x32 .f32 := broadcastInDim S1x32 ![] bcast_S_S1x32 main_cst_4
  let main_v16 : IVec S1x32 1 := cmpf .olt main_v14 main_v15
  fn_part1 (F := F) main_arg4 main_v13 main_v16
-- ==== Pre_finite_inner.lean ====
abbrev S2048x2048 : Shape := ⟨2, ![2048, 2048]⟩
abbrev S1x2048 : Shape := ⟨2, ![1, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg5 : FVec F S2048x2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg5
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  main_v23

def fn {F : FTy → Type} [FloatOps F] (main_arg0 : FVec F S2048x2048 .f32) (main_arg1 : FVec F S2048x2048 .f32) (main_arg2 : FVec F S1x2048 .f32) (main_arg3 : FVec F S1x2048 .f32) (main_arg4 : FVec F S2048x2048 .f32) (main_arg5 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S2048x2048 .f32 := Host.absf main_arg4
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg5 main_v13 main_v16
-- ==== Pre_finite_norm.lean ====
abbrev S2048x2048 : Shape := ⟨2, ![2048, 2048]⟩
abbrev S1x2048 : Shape := ⟨2, ![1, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg4 : FVec F S2048x2048 .f32) (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  main_v23

def fn {F : FTy → Type} [FloatOps F] (main_arg0 : FVec F S2048x2048 .f32) (main_arg1 : FVec F S2048x2048 .f32) (main_arg2 : FVec F S1x2048 .f32) (main_arg3 : FVec F S1x2048 .f32) (main_arg4 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_arg4 main_v13 main_v16
-- ==== Kernel.lean ====
abbrev S1x2048x2048 : Shape := ⟨3, ![1, 2048, 2048]⟩
abbrev S1x2048x256 : Shape := ⟨3, ![1, 2048, 256]⟩
abbrev S1x32 : Shape := ⟨2, ![1, 32]⟩
abbrev S2048x2048 : Shape := ⟨2, ![2048, 2048]⟩
abbrev S2048x256 : Shape := ⟨2, ![2048, 256]⟩
abbrev S4x8x64x2048 : Shape := ⟨4, ![4, 8, 64, 2048]⟩
abbrev S2048x4x64 : Shape := ⟨3, ![2048, 4, 64]⟩
abbrev S4x2048x64 : Shape := ⟨3, ![4, 2048, 64]⟩
abbrev S_ : Shape := ⟨0, ![]⟩
abbrev S4x2176x64 : Shape := ⟨3, ![4, 2176, 64]⟩
abbrev S256x2048 : Shape := ⟨2, ![256, 2048]⟩
abbrev S4x64x2048 : Shape := ⟨3, ![4, 64, 2048]⟩
abbrev S4x64x2176 : Shape := ⟨3, ![4, 64, 2176]⟩
abbrev S4x1x8 : Shape := ⟨3, ![4, 1, 8]⟩
abbrev S4x1x8x128 : Shape := ⟨4, ![4, 1, 8, 128]⟩
abbrev S4x1x1024 : Shape := ⟨3, ![4, 1, 1024]⟩
abbrev S4x8x1 : Shape := ⟨3, ![4, 8, 1]⟩
abbrev S1x8x64x2048 : Shape := ⟨4, ![1, 8, 64, 2048]⟩
abbrev S1x2176x64 : Shape := ⟨3, ![1, 2176, 64]⟩
abbrev S1x64x2176 : Shape := ⟨3, ![1, 64, 2176]⟩
abbrev S1x1x1024 : Shape := ⟨3, ![1, 1, 1024]⟩
abbrev S1x8x1 : Shape := ⟨3, ![1, 8, 1]⟩
abbrev S2x256x1024 : Shape := ⟨3, ![2, 256, 1024]⟩
abbrev S256x1024 : Shape := ⟨2, ![256, 1024]⟩
abbrev S1x256x1024 : Shape := ⟨3, ![1, 256, 1024]⟩
abbrev S1x1024 : Shape := ⟨2, ![1, 1024]⟩
abbrev S2176x64 : Shape := ⟨2, ![2176, 64]⟩
abbrev S1x1x64x128 : Shape := ⟨4, ![1, 1, 64, 128]⟩
abbrev S64x128 : Shape := ⟨2, ![64, 128]⟩
abbrev S64x1024 : Shape := ⟨2, ![64, 1024]⟩
abbrev S1x256x64 : Shape := ⟨3, ![1, 256, 64]⟩
abbrev S256x64 : Shape := ⟨2, ![256, 64]⟩
abbrev S1024 : Shape := ⟨1, ![1024]⟩
abbrev S1x64x256 : Shape := ⟨3, ![1, 64, 256]⟩
abbrev S64x256 : Shape := ⟨2, ![64, 256]⟩
abbrev S1x128 : Shape := ⟨2, ![1, 128]⟩
abbrev S1 : Shape := ⟨1, ![1]⟩
abbrev S1x1 : Shape := ⟨2, ![1, 1]⟩
abbrev S1x1x1 : Shape := ⟨3, ![1, 1, 1]⟩

abbrev nBuf : Space → Nat
  | .hbm => 39
  | .vmem => 21
  | .smem => 0
  | _ => 0

abbrev bufTy : (tb : Table) → Fin (tcTables nBuf tb) → BufTy
  | .hbm, ⟨0, _⟩ => ⟨S1x2048x2048, .f32⟩
  | .hbm, ⟨1, _⟩ => ⟨S1x2048x256, .f32⟩
  | .hbm, ⟨2, _⟩ => ⟨S1x2048x256, .f32⟩
  | .hbm, ⟨3, _⟩ => ⟨S1x32, .f32⟩
  | .hbm, ⟨4, _⟩ => ⟨S1x2048x2048, .f32⟩
  | .hbm, ⟨5, _⟩ => ⟨S2048x2048, .f32⟩
  | .hbm, ⟨6, _⟩ => ⟨S2048x2048, .bf16⟩
  | .hbm, ⟨7, _⟩ => ⟨S2048x256, .f32⟩
  | .hbm, ⟨8, _⟩ => ⟨S2048x256, .bf16⟩
  | .hbm, ⟨9, _⟩ => ⟨S2048x256, .f32⟩
  | .hbm, ⟨10, _⟩ => ⟨S2048x256, .bf16⟩
  | .hbm, ⟨11, _⟩ => ⟨S2048x2048, .f32⟩
  | .hbm, ⟨12, _⟩ => ⟨S2048x2048, .bf16⟩
  | .hbm, ⟨13, _⟩ => ⟨S2048x2048, .bf16⟩
  | .hbm, ⟨14, _⟩ => ⟨S2048x2048, .bf16⟩
  | .hbm, ⟨15, _⟩ => ⟨S4x8x64x2048, .bf16⟩
  | .hbm, ⟨16, _⟩ => ⟨S2048x4x64, .bf16⟩
  | .hbm, ⟨17, _⟩ => ⟨S4x2048x64, .bf16⟩
  | .hbm, ⟨18, _⟩ => ⟨S_, .i32⟩
  | .hbm, ⟨19, _⟩ => ⟨S_, .bf16⟩
  | .hbm, ⟨20, _⟩ => ⟨S4x2176x64, .bf16⟩
  | .hbm, ⟨21, _⟩ => ⟨S2048x4x64, .bf16⟩
  | .hbm, ⟨22, _⟩ => ⟨S4x2048x64, .bf16⟩
  | .hbm, ⟨23, _⟩ => ⟨S_, .i32⟩
  | .hbm, ⟨24, _⟩ => ⟨S_, .bf16⟩
  | .hbm, ⟨25, _⟩ => ⟨S4x2176x64, .bf16⟩
  | .hbm, ⟨26, _⟩ => ⟨S256x2048, .bf16⟩
  | .hbm, ⟨27, _⟩ => ⟨S4x64x2048, .bf16⟩
  | .hbm, ⟨28, _⟩ => ⟨S_, .i32⟩
  | .hbm, ⟨29, _⟩ => ⟨S_, .bf16⟩
  | .hbm, ⟨30, _⟩ => ⟨S4x64x2176, .bf16⟩
  | .hbm, ⟨31, _⟩ => ⟨S4x1x8, .f32⟩
  | .hbm, ⟨32, _⟩ => ⟨S4x1x8x128, .f32⟩
  | .hbm, ⟨33, _⟩ => ⟨S4x1x1024, .f32⟩
  | .hbm, ⟨34, _⟩ => ⟨S4x8x64x2048, .bf16⟩
  | .hbm, ⟨35, _⟩ => ⟨S4x8x64x2048, .bf16⟩
  | .hbm, ⟨36, _⟩ => ⟨S4x2176x64, .f32⟩
  | .hbm, ⟨37, _⟩ => ⟨S4x2176x64, .f32⟩
  | .hbm, ⟨38, _⟩ => ⟨S4x8x1, .f32⟩
  | .local _ .vmem, ⟨0, _⟩ => ⟨S1x8x64x2048, .bf16⟩
  | .local _ .vmem, ⟨1, _⟩ => ⟨S1x8x64x2048, .bf16⟩
  | .local _ .vmem, ⟨2, _⟩ => ⟨S1x2176x64, .bf16⟩
  | .local _ .vmem, ⟨3, _⟩ => ⟨S1x2176x64, .bf16⟩
  | .local _ .vmem, ⟨4, _⟩ => ⟨S1x64x2176, .bf16⟩
  | .local _ .vmem, ⟨5, _⟩ => ⟨S1x64x2176, .bf16⟩
  | .local _ .vmem, ⟨6, _⟩ => ⟨S1x2176x64, .bf16⟩
  | .local _ .vmem, ⟨7, _⟩ => ⟨S1x2176x64, .bf16⟩
  | .local _ .vmem, ⟨8, _⟩ => ⟨S1x1x1024, .f32⟩
  | .local _ .vmem, ⟨9, _⟩ => ⟨S1x1x1024, .f32⟩
  | .local _ .vmem, ⟨10, _⟩ => ⟨S1x8x64x2048, .bf16⟩
  | .local _ .vmem, ⟨11, _⟩ => ⟨S1x8x64x2048, .bf16⟩
  | .local _ .vmem, ⟨12, _⟩ => ⟨S1x8x64x2048, .bf16⟩
  | .local _ .vmem, ⟨13, _⟩ => ⟨S1x8x64x2048, .bf16⟩
  | .local _ .vmem, ⟨14, _⟩ => ⟨S1x2176x64, .f32⟩
  | .local _ .vmem, ⟨15, _⟩ => ⟨S1x2176x64, .f32⟩
  | .local _ .vmem, ⟨16, _⟩ => ⟨S1x2176x64, .f32⟩
  | .local _ .vmem, ⟨17, _⟩ => ⟨S1x2176x64, .f32⟩
  | .local _ .vmem, ⟨18, _⟩ => ⟨S1x8x1, .f32⟩
  | .local _ .vmem, ⟨19, _⟩ => ⟨S1x8x1, .f32⟩
  | .local _ .vmem, ⟨20, _⟩ => ⟨S2x256x1024, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_0 : Ref sig .tc := ⟨.hbm, 23, rfl⟩
abbrev main_call1_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_call2_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24_0 : Ref sig .tc := ⟨.hbm, 35, rfl⟩
abbrev main_v24_1 : Ref sig .tc := ⟨.hbm, 36, rfl⟩
abbrev main_v24_2 : Ref sig .tc := ⟨.hbm, 37, rfl⟩
abbrev main_v24_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_21 : BitVec 32 := 0#32
  let c16_i32 : BitVec 32 := 16#32
  let v50 : BitVec 32 := Scalar.addi c0_i32_21 c16_i32
  let c1_i32_22 : BitVec 32 := 1#32
  ⟨c0_i32_21, v50, c1_i32_22⟩
def k0_mult1 (k0_t1 : Fin k0_t1_loop.trips) : BitVec 32 :=
  let c0_i32_21 : BitVec 32 := 0#32
  let c1_i32_22 : BitVec 32 := 1#32
  let arg12 : BitVec 32 := Scf.iv c0_i32_21 c1_i32_22 k0_t1
  let c128_i32_50 : BitVec 32 := 128#32
  let v100 : BitVec 32 := Scalar.muli arg12 c128_i32_50
  v100
def k0_off1 (k0_t1 : Fin k0_t1_loop.trips) : Fin 4 → Nat :=
  let c0_51 : Index := 0#32
  let c0_52 : Index := 0#32
  let c0_53 : Index := 0#32
  let c0_i32_21 : BitVec 32 := 0#32
  let c1_i32_22 : BitVec 32 := 1#32
  let arg12 : BitVec 32 := Scf.iv c0_i32_21 c1_i32_22 k0_t1
  let c128_i32_50 : BitVec 32 := 128#32
  let v100 : BitVec 32 := Scalar.muli arg12 c128_i32_50
  let v101 : BitVec 32 := v100
  let v102 : Index := Scalar.indexCast v101
  ![0, 0, 0, v102.toNat]
def k0_off2 (k0_t1 : Fin k0_t1_loop.trips) : Fin 4 → Nat :=
  let c0_54 : Index := 0#32
  let c1_55 : Index := 1#32
  let c0_56 : Index := 0#32
  let c0_i32_21 : BitVec 32 := 0#32
  let c1_i32_22 : BitVec 32 := 1#32
  let arg12 : BitVec 32 := Scf.iv c0_i32_21 c1_i32_22 k0_t1
  let c128_i32_50 : BitVec 32 := 128#32
  let v100 : BitVec 32 := Scalar.muli arg12 c128_i32_50
  let v101 : BitVec 32 := v100
  let v105 : Index := Scalar.indexCast v101
  ![0, 1, 0, v105.toNat]
def k0_off3 (k0_t1 : Fin k0_t1_loop.trips) : Fin 4 → Nat :=
  let c0_57 : Index := 0#32
  let c2_58 : Index := 2#32
  let c0_59 : Index := 0#32
  let c0_i32_21 : BitVec 32 := 0#32
  let c1_i32_22 : BitVec 32 := 1#32
  let arg12 : BitVec 32 := Scf.iv c0_i32_21 c1_i32_22 k0_t1
  let c128_i32_50 : BitVec 32 := 128#32
  let v100 : BitVec 32 := Scalar.muli arg12 c128_i32_50
  let v101 : BitVec 32 := v100
  let v108 : Index := Scalar.indexCast v101
  ![0, 2, 0, v108.toNat]
def k0_off4 (k0_t1 : Fin k0_t1_loop.trips) : Fin 4 → Nat :=
  let c0_60 : Index := 0#32
  let c3_61 : Index := 3#32
  let c0_62 : Index := 0#32
  let c0_i32_21 : BitVec 32 := 0#32
  let c1_i32_22 : BitVec 32 := 1#32
  let arg12 : BitVec 32 := Scf.iv c0_i32_21 c1_i32_22 k0_t1
  let c128_i32_50 : BitVec 32 := 128#32
  let v100 : BitVec 32 := Scalar.muli arg12 c128_i32_50
  let v101 : BitVec 32 := v100
  let v111 : Index := Scalar.indexCast v101
  ![0, 3, 0, v111.toNat]
def k0_off5 (k0_t1 : Fin k0_t1_loop.trips) : Fin 4 → Nat :=
  let c0_63 : Index := 0#32
  let c4_64 : Index := 4#32
  let c0_65 : Index := 0#32
  let c0_i32_21 : BitVec 32 := 0#32
  let c1_i32_22 : BitVec 32 := 1#32
  let arg12 : BitVec 32 := Scf.iv c0_i32_21 c1_i32_22 k0_t1
  let c128_i32_50 : BitVec 32 := 128#32
  let v100 : BitVec 32 := Scalar.muli arg12 c128_i32_50
  let v101 : BitVec 32 := v100
  let v114 : Index := Scalar.indexCast v101
  ![0, 4, 0, v114.toNat]
def k0_off6 (k0_t1 : Fin k0_t1_loop.trips) : Fin 4 → Nat :=
  let c0_66 : Index := 0#32
  let c5_67 : Index := 5#32
  let c0_68 : Index := 0#32
  let c0_i32_21 : BitVec 32 := 0#32
  let c1_i32_22 : BitVec 32 := 1#32
  let arg12 : BitVec 32 := Scf.iv c0_i32_21 c1_i32_22 k0_t1
  let c128_i32_50 : BitVec 32 := 128#32
  let v100 : BitVec 32 := Scalar.muli arg12 c128_i32_50
  let v101 : BitVec 32 := v100
  let v117 : Index := Scalar.indexCast v101
  ![0, 5, 0, v117.toNat]
def k0_off7 (k0_t1 : Fin k0_t1_loop.trips) : Fin 4 → Nat :=
  let c0_69 : Index := 0#32
  let c6_70 : Index := 6#32
  let c0_71 : Index := 0#32
  let c0_i32_21 : BitVec 32 := 0#32
  let c1_i32_22 : BitVec 32 := 1#32
  let arg12 : BitVec 32 := Scf.iv c0_i32_21 c1_i32_22 k0_t1
  let c128_i32_50 : BitVec 32 := 128#32
  let v100 : BitVec 32 := Scalar.muli arg12 c128_i32_50
  let v101 : BitVec 32 := v100
  let v120 : Index := Scalar.indexCast v101
  ![0, 6, 0, v120.toNat]
def k0_off8 (k0_t1 : Fin k0_t1_loop.trips) : Fin 4 → Nat :=
  let c0_72 : Index := 0#32
  let c7_73 : Index := 7#32
  let c0_74 : Index := 0#32
  let c0_i32_21 : BitVec 32 := 0#32
  let c1_i32_22 : BitVec 32 := 1#32
  let arg12 : BitVec 32 := Scf.iv c0_i32_21 c1_i32_22 k0_t1
  let c128_i32_50 : BitVec 32 := 128#32
  let v100 : BitVec 32 := Scalar.muli arg12 c128_i32_50
  let v101 : BitVec 32 := v100
  let v123 : Index := Scalar.indexCast v101
  ![0, 7, 0, v123.toNat]
def k0_off9 (k0_t1 : Fin k0_t1_loop.trips) : Fin 3 → Nat :=
  let c0_99 : Index := 0#32
  let c0_i32_21 : BitVec 32 := 0#32
  let c1_i32_22 : BitVec 32 := 1#32
  let arg12 : BitVec 32 := Scf.iv c0_i32_21 c1_i32_22 k0_t1
  let c128_i32_50 : BitVec 32 := 128#32
  let v100 : BitVec 32 := Scalar.muli arg12 c128_i32_50
  let v101 : BitVec 32 := v100
  let v152 : Index := Scalar.indexCast v101
  let c0_100 : Index := 0#32
  ![0, v152.toNat, 0]
def k0_off10 (k0_t1 : Fin k0_t1_loop.trips) : Fin 3 → Nat :=
  let c0_i32_21 : BitVec 32 := 0#32
  let c1_i32_22 : BitVec 32 := 1#32
  let arg12 : BitVec 32 := Scf.iv c0_i32_21 c1_i32_22 k0_t1
  let c1_i32_101 : BitVec 32 := 1#32
  let v155 : BitVec 32 := Scalar.minsi arg12 c1_i32_101
  let v156 : Index := Scalar.indexCast v155
  let c0_102 : Index := 0#32
  let c0_103 : Index := 0#32
  ![v156.toNat, 0, 0]
def k0_off11 (k0_t1 : Fin k0_t1_loop.trips) : Fin 3 → Nat :=
  let c0_114 : Index := 0#32
  let c0_115 : Index := 0#32
  let c0_i32_21 : BitVec 32 := 0#32
  let c1_i32_22 : BitVec 32 := 1#32
  let arg12 : BitVec 32 := Scf.iv c0_i32_21 c1_i32_22 k0_t1
  let c128_i32_50 : BitVec 32 := 128#32
  let v100 : BitVec 32 := Scalar.muli arg12 c128_i32_50
  let v101 : BitVec 32 := v100
  let v192 : Index := Scalar.indexCast v101
  ![0, 0, v192.toNat]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2176x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2176 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2176x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x64x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x64x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2176x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2176x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "mask" => some ⊥
  | "neg_quarter_log2" => some (((-(4⁻¹)) * (Real.log 2) : ℝ) : EReal)
  | _ => none
-- ==== ReferenceIdeal.lean ====
abbrev S1x2048x2048 : Shape := ⟨3, ![1, 2048, 2048]⟩
abbrev S1x2048x256 : Shape := ⟨3, ![1, 2048, 256]⟩
abbrev S1x32 : Shape := ⟨2, ![1, 32]⟩
abbrev S1x2048x32x64 : Shape := ⟨4, ![1, 2048, 32, 64]⟩
abbrev S1x2048x4x64 : Shape := ⟨4, ![1, 2048, 4, 64]⟩
abbrev S32 : Shape := ⟨1, ![32]⟩
abbrev S1x16x128x4x8x64 : Shape := ⟨6, ![1, 16, 128, 4, 8, 64]⟩
abbrev S1x16x128x4x64 : Shape := ⟨5, ![1, 16, 128, 4, 64]⟩
abbrev S_ : Shape := ⟨0, ![]⟩
abbrev S1x1x128x4x64 : Shape := ⟨5, ![1, 1, 128, 4, 64]⟩
abbrev S1x15x128x4x64 : Shape := ⟨5, ![1, 15, 128, 4, 64]⟩
abbrev S1x16x256x4x64 : Shape := ⟨5, ![1, 16, 256, 4, 64]⟩
abbrev S1x4x16x256x128x8 : Shape := ⟨6, ![1, 4, 16, 256, 128, 8]⟩
abbrev S1x4x8x16x128x256 : Shape := ⟨6, ![1, 4, 8, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S4x8x1x1x1 : Shape := ⟨5, ![4, 8, 1, 1, 1]⟩
abbrev S1x1x1x128x256 : Shape := ⟨5, ![1, 1, 1, 128, 256]⟩
abbrev S4x8x1x128x256 : Shape := ⟨5, ![4, 8, 1, 128, 256]⟩
abbrev S1x4x8x1x128x256 : Shape := ⟨6, ![1, 4, 8, 1, 128, 256]⟩
abbrev S1x4x8x16x128 : Shape := ⟨5, ![1, 4, 8, 16, 128]⟩
abbrev S1x4x8x16x128x1 : Shape := ⟨6, ![1, 4, 8, 16, 128, 1]⟩
abbrev S1x4x8x1x1x1 : Shape := ⟨6, ![1, 4, 8, 1, 1, 1]⟩
abbrev S1x16x4x64x8x128 : Shape := ⟨6, ![1, 16, 4, 64, 8, 128]⟩
abbrev S1x16x4x8x128x256 : Shape := ⟨6, ![1, 16, 4, 8, 128, 256]⟩
abbrev S1x16x4x64x256 : Shape := ⟨5, ![1, 16, 4, 64, 256]⟩
abbrev S1x4x8x1 : Shape := ⟨4, ![1, 4, 8, 1]⟩
abbrev S4x8 : Shape := ⟨2, ![4, 8]⟩
abbrev S4x8x16x128 : Shape := ⟨4, ![4, 8, 16, 128]⟩
abbrev S1x4x16x128x8x64 : Shape := ⟨6, ![1, 4, 16, 128, 8, 64]⟩
abbrev S1x4x16x256x64 : Shape := ⟨5, ![1, 4, 16, 256, 64]⟩
abbrev S2048x4x8x64 : Shape := ⟨4, ![2048, 4, 8, 64]⟩
abbrev S4x8x64x2048 : Shape := ⟨4, ![4, 8, 64, 2048]⟩
abbrev S2048x4x64 : Shape := ⟨3, ![2048, 4, 64]⟩
abbrev S4x2048x64 : Shape := ⟨3, ![4, 2048, 64]⟩
abbrev S4x2176x64 : Shape := ⟨3, ![4, 2176, 64]⟩
abbrev S4x8x1 : Shape := ⟨3, ![4, 8, 1]⟩

abbrev nBuf : Space → Nat
  | .hbm => 250
  | .vmem => 0
  | .smem => 0
  | _ => 0

abbrev hbmTy0_0 (i : Nat) : BufTy := match i % 128 with
  | 0 => ⟨S1x2048x2048, .f32⟩
  | 1 => ⟨S1x2048x256, .f32⟩
  | 2 => ⟨S1x2048x256, .f32⟩
  | 3 => ⟨S1x32, .f32⟩
  | 4 => ⟨S1x2048x2048, .f32⟩
  | 5 => ⟨S1x2048x32x64, .f32⟩
  | 6 => ⟨S1x2048x4x64, .f32⟩
  | 7 => ⟨S1x2048x4x64, .f32⟩
  | 8 => ⟨S32, .f32⟩
  | 9 => ⟨S1x16x128x4x8x64, .f32⟩
  | 10 => ⟨S1x16x128x4x64, .f32⟩
  | 11 => ⟨S_, .f32⟩
  | 12 => ⟨S1x1x128x4x64, .f32⟩
  | 13 => ⟨S1x15x128x4x64, .f32⟩
  | 14 => ⟨S1x16x128x4x64, .f32⟩
  | 15 => ⟨S_, .f32⟩
  | 16 => ⟨S1x1x128x4x64, .f32⟩
  | 17 => ⟨S1x16x256x4x64, .f32⟩
  | 18 => ⟨S1x16x128x4x64, .f32⟩
  | 19 => ⟨S_, .f32⟩
  | 20 => ⟨S1x1x128x4x64, .f32⟩
  | 21 => ⟨S1x15x128x4x64, .f32⟩
  | 22 => ⟨S1x16x128x4x64, .f32⟩
  | 23 => ⟨S_, .f32⟩
  | 24 => ⟨S1x1x128x4x64, .f32⟩
  | 25 => ⟨S1x16x256x4x64, .f32⟩
  | 26 => ⟨S1x4x16x256x128x8, .f32⟩
  | 27 => ⟨S1x4x8x16x128x256, .f32⟩
  | 28 => ⟨S_, .f32⟩
  | 29 => ⟨S1x4x8x16x128x256, .f32⟩
  | 30 => ⟨S1x4x8x16x128x256, .f32⟩
  | 31 => ⟨S128, .i32⟩
  | 32 => ⟨S128x1, .i32⟩
  | 33 => ⟨S256, .i32⟩
  | 34 => ⟨S1x256, .i32⟩
  | 35 => ⟨S_, .i32⟩
  | 36 => ⟨S128x1, .i32⟩
  | 37 => ⟨S128x1, .i32⟩
  | 38 => ⟨S128x256, .i32⟩
  | 39 => ⟨S128x256, .i32⟩
  | 40 => ⟨S128x256, .i32⟩
  | 41 => ⟨S16, .i32⟩
  | 42 => ⟨S16x1x1, .i32⟩
  | 43 => ⟨S_, .i32⟩
  | 44 => ⟨S16x1x1, .i32⟩
  | 45 => ⟨S16x1x1, .i32⟩
  | 46 => ⟨S_, .i32⟩
  | 47 => ⟨S16x1x1, .i32⟩
  | 48 => ⟨S16x1x1, .i32⟩
  | 49 => ⟨S1x1x256, .i32⟩
  | 50 => ⟨S16x1x256, .i32⟩
  | 51 => ⟨S16x1x256, .i32⟩
  | 52 => ⟨S16x1x256, .i32⟩
  | 53 => ⟨S_, .i32⟩
  | 54 => ⟨S128x256, .i32⟩
  | 55 => ⟨S128x256, .i1⟩
  | 56 => ⟨S_, .i32⟩
  | 57 => ⟨S128x256, .i32⟩
  | 58 => ⟨S128x256, .i1⟩
  | 59 => ⟨S128x256, .i1⟩
  | 60 => ⟨S_, .i32⟩
  | 61 => ⟨S16x1x256, .i32⟩
  | 62 => ⟨S16x1x256, .i1⟩
  | 63 => ⟨S1x128x256, .i1⟩
  | 64 => ⟨S16x128x256, .i1⟩
  | 65 => ⟨S16x128x256, .i1⟩
  | 66 => ⟨S16x128x256, .i1⟩
  | 67 => ⟨S32, .f32⟩
  | 68 => ⟨S_, .f32⟩
  | 69 => ⟨S32, .f32⟩
  | 70 => ⟨S32, .f32⟩
  | 71 => ⟨S_, .f32⟩
  | 72 => ⟨S32, .f32⟩
  | 73 => ⟨S32, .f32⟩
  | 74 => ⟨S_, .f32⟩
  | 75 => ⟨S32, .f32⟩
  | 76 => ⟨S32, .f32⟩
  | 77 => ⟨S_, .f32⟩
  | 78 => ⟨S32, .f32⟩
  | 79 => ⟨S32, .f32⟩
  | 80 => ⟨S4x8x1x1x1, .f32⟩
  | 81 => ⟨S128x256, .f32⟩
  | 82 => ⟨S1x1x1x128x256, .f32⟩
  | 83 => ⟨S4x8x1x128x256, .f32⟩
  | 84 => ⟨S4x8x1x128x256, .f32⟩
  | 85 => ⟨S4x8x1x128x256, .f32⟩
  | 86 => ⟨S1x4x8x1x128x256, .f32⟩
  | 87 => ⟨S1x4x8x16x128x256, .f32⟩
  | 88 => ⟨S1x4x8x16x128x256, .f32⟩
  | 89 => ⟨S_, .f32⟩
  | 90 => ⟨S_, .f32⟩
  | 91 => ⟨S1x4x8x16x128x256, .i1⟩
  | 92 => ⟨S1x4x8x16x128x256, .f32⟩
  | 93 => ⟨S1x4x8x16x128x256, .f32⟩
  | 94 => ⟨S_, .f32⟩
  | 95 => ⟨S1x4x8x16x128x256, .f32⟩
  | 96 => ⟨S4x8x1x1x1, .f32⟩
  | 97 => ⟨S_, .f32⟩
  | 98 => ⟨S1x4x8x16x128, .f32⟩
  | 99 => ⟨S1x4x8x16x128x1, .f32⟩
  | 100 => ⟨S1x4x8x16x128x256, .f32⟩
  | 101 => ⟨S1x4x8x16x128x256, .i1⟩
  | 102 => ⟨S1x4x8x16x128x256, .f32⟩
  | 103 => ⟨S_, .f32⟩
  | 104 => ⟨S1x4x8x16x128, .f32⟩
  | 105 => ⟨S1x4x8x16x128x1, .f32⟩
  | 106 => ⟨S1x4x8x1x1x1, .f32⟩
  | 107 => ⟨S1x4x8x16x128x1, .f32⟩
  | 108 => ⟨S1x4x8x16x128x1, .f32⟩
  | 109 => ⟨S1x4x8x16x128x1, .f32⟩
  | 110 => ⟨S1x4x8x16x128x1, .i1⟩
  | 111 => ⟨S1x4x8x16x128x1, .f32⟩
  | 112 => ⟨S1x4x8x16x128x1, .i1⟩
  | 113 => ⟨S_, .f32⟩
  | 114 => ⟨S1x4x8x16x128x1, .f32⟩
  | 115 => ⟨S_, .f32⟩
  | 116 => ⟨S1x4x8x16x128x1, .f32⟩
  | 117 => ⟨S_, .f32⟩
  | 118 => ⟨S1x4x8x16x128x1, .f32⟩
  | 119 => ⟨S1x4x8x16x128x1, .f32⟩
  | 120 => ⟨S1x4x8x16x128x1, .f32⟩
  | 121 => ⟨S1x4x8x16x128x1, .f32⟩
  | 122 => ⟨S1x4x8x16x128x1, .i1⟩
  | 123 => ⟨S1x4x8x16x128x1, .f32⟩
  | 124 => ⟨S1x4x8x16x128x1, .i1⟩
  | 125 => ⟨S_, .f32⟩
  | 126 => ⟨S1x4x8x16x128x1, .f32⟩
  | 127 => ⟨S_, .f32⟩
  | _ => ⟨S1x2048x2048, .f32⟩

abbrev hbmTy0_1 (i : Nat) : BufTy := match i % 128 with
  | 0 => ⟨S1x4x8x16x128x1, .f32⟩
  | 1 => ⟨S_, .f32⟩
  | 2 => ⟨S1x4x8x16x128x1, .f32⟩
  | 3 => ⟨S1x4x8x16x128x1, .f32⟩
  | 4 => ⟨S1x4x8x16x128x1, .f32⟩
  | 5 => ⟨S1x4x8x16x128x256, .f32⟩
  | 6 => ⟨S1x4x8x16x128x256, .f32⟩
  | 7 => ⟨S1x4x8x16x128x256, .f32⟩
  | 8 => ⟨S_, .f32⟩
  | 9 => ⟨S1x4x8x16x128, .f32⟩
  | 10 => ⟨S1x4x8x16x128x1, .f32⟩
  | 11 => ⟨S1x4x8x1x1x1, .f32⟩
  | 12 => ⟨S1x4x8x16x128x1, .f32⟩
  | 13 => ⟨S1x4x8x16x128x1, .f32⟩
  | 14 => ⟨S1x4x8x16x128x1, .f32⟩
  | 15 => ⟨S1x4x8x16x128x1, .f32⟩
  | 16 => ⟨S1x4x8x16x128x256, .f32⟩
  | 17 => ⟨S1x4x8x16x128x256, .f32⟩
  | 18 => ⟨S1x4x8x16x128x1, .f32⟩
  | 19 => ⟨S_, .f32⟩
  | 20 => ⟨S1x4x8x16x128x1, .f32⟩
  | 21 => ⟨S1x4x8x16x128x1, .f32⟩
  | 22 => ⟨S1x16x4x64x8x128, .f32⟩
  | 23 => ⟨S1x16x128x4x8x64, .f32⟩
  | 24 => ⟨S1x2048x2048, .f32⟩
  | 25 => ⟨S1x16x128x4x8x64, .f32⟩
  | 26 => ⟨S1x16x4x64x8x128, .f32⟩
  | 27 => ⟨S1x16x4x8x128x256, .f32⟩
  | 28 => ⟨S1x4x8x16x128x256, .f32⟩
  | 29 => ⟨S1x16x4x64x256, .f32⟩
  | 30 => ⟨S1x16x256x4x64, .f32⟩
  | 31 => ⟨S1x4x8x16x128x256, .f32⟩
  | 32 => ⟨S1x4x8x16x128x256, .f32⟩
  | 33 => ⟨S1x4x8x16x128x256, .f32⟩
  | 34 => ⟨S_, .f32⟩
  | 35 => ⟨S1x4x8x16x128, .f32⟩
  | 36 => ⟨S1x4x8x16x128x1, .f32⟩
  | 37 => ⟨S1x4x8x16x128x1, .f32⟩
  | 38 => ⟨S1x4x8x16x128x256, .f32⟩
  | 39 => ⟨S1x4x8x16x128x256, .f32⟩
  | 40 => ⟨S1x4x8x16x128x1, .f32⟩
  | 41 => ⟨S_, .f32⟩
  | 42 => ⟨S1x4x8x1, .f32⟩
  | 43 => ⟨S1x4x8x1x1x1, .f32⟩
  | 44 => ⟨S1x4x8x16x128x1, .f32⟩
  | 45 => ⟨S_, .f32⟩
  | 46 => ⟨S4x8, .f32⟩
  | 47 => ⟨S4x8x1x1x1, .f32⟩
  | 48 => ⟨S_, .f32⟩
  | 49 => ⟨S4x8x16x128, .f32⟩
  | 50 => ⟨S1x4x8x16x128, .f32⟩
  | 51 => ⟨S1x4x8x16x128x256, .f32⟩
  | 52 => ⟨S1x4x8x16x128x256, .f32⟩
  | 53 => ⟨S1x4x8x16x128x256, .f32⟩
  | 54 => ⟨S1x4x8x16x128x256, .f32⟩
  | 55 => ⟨S_, .f32⟩
  | 56 => ⟨S1x4x8x16x128, .f32⟩
  | 57 => ⟨S1x4x8x16x128x1, .f32⟩
  | 58 => ⟨S1x4x8x16x128x1, .f32⟩
  | 59 => ⟨S1x4x8x16x128x1, .f32⟩
  | 60 => ⟨S_, .f32⟩
  | 61 => ⟨S1x4x8x1, .f32⟩
  | 62 => ⟨S1x4x8x1x1x1, .f32⟩
  | 63 => ⟨S1x4x8x16x128x1, .f32⟩
  | 64 => ⟨S_, .f32⟩
  | 65 => ⟨S4x8, .f32⟩
  | 66 => ⟨S4x8x1x1x1, .f32⟩
  | 67 => ⟨S4x8x1x1x1, .f32⟩
  | 68 => ⟨S_, .f32⟩
  | 69 => ⟨S4x8x16x128, .f32⟩
  | 70 => ⟨S1x4x8x16x128, .f32⟩
  | 71 => ⟨S1x4x8x16x128, .f32⟩
  | 72 => ⟨S1x4x8x16x128x256, .f32⟩
  | 73 => ⟨S1x4x8x16x128x256, .f32⟩
  | 74 => ⟨S1x4x8x16x128x256, .f32⟩
  | 75 => ⟨S32, .f32⟩
  | 76 => ⟨S_, .f32⟩
  | 77 => ⟨S1x4x8x16x128x256, .f32⟩
  | 78 => ⟨S1x4x8x16x128x256, .f32⟩
  | 79 => ⟨S_, .f32⟩
  | 80 => ⟨S1x4x8x16x128x256, .f32⟩
  | 81 => ⟨S1x4x8x16x128x256, .f32⟩
  | 82 => ⟨S1x4x16x256x128x8, .f32⟩
  | 83 => ⟨S1x4x16x128x8x64, .f32⟩
  | 84 => ⟨S1x16x128x4x8x64, .f32⟩
  | 85 => ⟨S1x4x16x256x64, .f32⟩
  | 86 => ⟨S1x16x256x4x64, .f32⟩
  | 87 => ⟨S1x16x128x4x64, .f32⟩
  | 88 => ⟨S1x16x128x4x64, .f32⟩
  | 89 => ⟨S1x1x128x4x64, .f32⟩
  | 90 => ⟨S1x15x128x4x64, .f32⟩
  | 91 => ⟨S_, .f32⟩
  | 92 => ⟨S1x16x128x4x64, .f32⟩
  | 93 => ⟨S1x16x128x4x64, .f32⟩
  | 94 => ⟨S1x2048x4x64, .f32⟩
  | 95 => ⟨S1x16x128x4x64, .f32⟩
  | 96 => ⟨S1x16x128x4x64, .f32⟩
  | 97 => ⟨S1x1x128x4x64, .f32⟩
  | 98 => ⟨S1x15x128x4x64, .f32⟩
  | 99 => ⟨S_, .f32⟩
  | 100 => ⟨S1x16x128x4x64, .f32⟩
  | 101 => ⟨S1x16x128x4x64, .f32⟩
  | 102 => ⟨S1x2048x4x64, .f32⟩
  | 103 => ⟨S1x2048x32x64, .f32⟩
  | 104 => ⟨S1x32, .f32⟩
  | 105 => ⟨S1x2048x256, .f32⟩
  | 106 => ⟨S1x2048x256, .f32⟩
  | 107 => ⟨S1x2048x2048, .f32⟩
  | 108 => ⟨S2048x4x8x64, .f32⟩
  | 109 => ⟨S4x8x64x2048, .f32⟩
  | 110 => ⟨S2048x4x64, .f32⟩
  | 111 => ⟨S4x2048x64, .f32⟩
  | 112 => ⟨S_, .i32⟩
  | 113 => ⟨S_, .f32⟩
  | 114 => ⟨S4x2176x64, .f32⟩
  | 115 => ⟨S2048x4x64, .f32⟩
  | 116 => ⟨S4x2048x64, .f32⟩
  | 117 => ⟨S_, .i32⟩
  | 118 => ⟨S_, .f32⟩
  | 119 => ⟨S4x2176x64, .f32⟩
  | 120 => ⟨S4x8x64x2048, .bf16⟩
  | 121 => ⟨S4x8x1, .f32⟩
  | _ => ⟨S1x2048x2048, .f32⟩

abbrev hbmTy (i : Nat) : BufTy := match i / 128 with
  | 0 => hbmTy0_0 i
  | 1 => hbmTy0_1 i
  | _ => ⟨S1x2048x2048, .f32⟩

abbrev bufTy : (tb : Table) → Fin (tcTables nBuf tb) → BufTy
  | .hbm, ⟨i, _⟩ => hbmTy i
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_4 : Ref sig .tc := ⟨.hbm, 43, rfl⟩
abbrev main_v32 : Ref sig .tc := ⟨.hbm, 44, rfl⟩
abbrev main_v33 : Ref sig .tc := ⟨.hbm, 45, rfl⟩
abbrev main_c_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_6 : Ref sig .tc := ⟨.hbm, 53, rfl⟩
abbrev main_v40 : Ref sig .tc := ⟨.hbm, 54, rfl⟩
abbrev main_v41 : Ref sig .tc := ⟨.hbm, 55, rfl⟩
abbrev main_c_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_v55 : Ref sig .tc := ⟨.hbm, 73, rfl⟩
abbrev main_cst_11 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_13 : Ref sig .tc := ⟨.hbm, 89, rfl⟩
abbrev main_call0_v0 : Ref sig .tc := ⟨.hbm, 90, rfl⟩
abbrev main_v69_1 : Ref sig .tc := ⟨.hbm, 91, rfl⟩
abbrev main_call0_v2 : Ref sig .tc := ⟨.hbm, 92, rfl⟩
abbrev main_v69_0 : Ref sig .tc := ⟨.hbm, 93, rfl⟩
abbrev main_call0_cst : Ref sig .tc := ⟨.hbm, 94, rfl⟩
abbrev main_v69_2 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_16 : Ref sig .tc := ⟨.hbm, 113, rfl⟩
abbrev main_v85 : Ref sig .tc := ⟨.hbm, 114, rfl⟩
abbrev main_cst_17 : Ref sig .tc := ⟨.hbm, 115, rfl⟩
abbrev main_v86 : Ref sig .tc := ⟨.hbm, 116, rfl⟩
abbrev main_cst_18 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_19 : Ref sig .tc := ⟨.hbm, 125, rfl⟩
abbrev main_v94 : Ref sig .tc := ⟨.hbm, 126, rfl⟩
abbrev main_cst_20 : Ref sig .tc := ⟨.hbm, 127, rfl⟩
abbrev main_v95 : Ref sig .tc := ⟨.hbm, 128, rfl⟩
abbrev main_cst_21 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_22 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_cst_23 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_cst_24 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_cst_25 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_cst_26 : Ref sig .tc := ⟨.hbm, 173, rfl⟩
abbrev main_v135 : Ref sig .tc := ⟨.hbm, 174, rfl⟩
abbrev main_v136 : Ref sig .tc := ⟨.hbm, 175, rfl⟩
abbrev main_cst_27 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_cst_28 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_cst_29 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_cst_30 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_cst_31 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_call1_cst : Ref sig .tc := ⟨.hbm, 204, rfl⟩
abbrev main_call1_v0 : Ref sig .tc := ⟨.hbm, 205, rfl⟩
abbrev main_v160 : Ref sig .tc := ⟨.hbm, 206, rfl⟩
abbrev main_cst_32 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_cst_33 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_cst_34 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_c_35 : Ref sig .tc := ⟨.hbm, 240, rfl⟩
abbrev main_call2_v0 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_c_36 : Ref sig .tc := ⟨.hbm, 245, rfl⟩
abbrev main_call3_v0 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩

abbrev nD : Nat := 1
abbrev τ : Topo := Topo.v7x

variable {F : FTy → Type} [FloatOps F]
-- ==== Down.lean ====
abbrev S2048x6144 : Shape := ⟨2, ![2048, 6144]⟩
abbrev S6144x2048 : Shape := ⟨2, ![6144, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x6144, .f32⟩
  | .hbm, ⟨1, _⟩ => ⟨S6144x2048, .f32⟩
  | .hbm, ⟨2, _⟩ => ⟨S2048x6144, .bf16⟩
  | .hbm, ⟨3, _⟩ => ⟨S6144x2048, .bf16⟩
  | .hbm, ⟨4, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S2048x6144 : Shape := ⟨2, ![2048, 6144]⟩
abbrev S6144x2048 : Shape := ⟨2, ![6144, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S6144x2048, .f32⟩
  | .hbm, ⟨2, _⟩ => ⟨S2048x2048, .f32⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DownGrad.lean ====
abbrev S2048x6144 : Shape := ⟨2, ![2048, 6144]⟩
abbrev S2048x2048 : Shape := ⟨2, ![2048, 2048]⟩
abbrev S6144x2048 : Shape := ⟨2, ![6144, 2048]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S2048x6144, .f32⟩
  | .hbm, ⟨1, _⟩ => ⟨S2048x2048, .f32⟩
  | .hbm, ⟨2, _⟩ => ⟨S2048x6144, .bf16⟩
  | .hbm, ⟨3, _⟩ => ⟨S2048x2048, .bf16⟩
  | .hbm, ⟨4, _⟩ => ⟨S6144x2048, .f32⟩
  | .hbm, ⟨5, _⟩ => ⟨S6144x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![6, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownGradReferenceIdeal.lean ====
abbrev S2048x6144 : Shape := ⟨2, ![2048, 6144]⟩
abbrev S2048x2048 : Shape := ⟨2, ![2048, 2048]⟩
abbrev S_ : Shape := ⟨0, ![]⟩
abbrev S6144x2048 : Shape := ⟨2, ![6144, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S2048x2048, .f32⟩
  | .hbm, ⟨2, _⟩ => ⟨S_, .f32⟩
  | .hbm, ⟨3, _⟩ => ⟨S6144x2048, .f32⟩
  | .hbm, ⟨4, _⟩ => ⟨S2048x2048, .f32⟩
  | .hbm, ⟨5, _⟩ => ⟨S2048x6144, .f32⟩
  | .hbm, ⟨6, _⟩ => ⟨S6144x2048, .f32⟩
  | .hbm, ⟨7, _⟩ => ⟨S6144x2048, .bf16⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutGrad.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .hbm, ⟨5, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutGradReferenceIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixGrad.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixGradReferenceIdeal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== RnnProjGrad.lean ====
abbrev S2048x2560 : Shape := ⟨2, ![2048, 2560]⟩
abbrev S2048x2048 : Shape := ⟨2, ![2048, 2048]⟩
abbrev S2560x2048 : Shape := ⟨2, ![2560, 2048]⟩
abbrev S2048x1280 : Shape := ⟨2, ![2048, 1280]⟩
abbrev S2048x1024 : Shape := ⟨2, ![2048, 1024]⟩
abbrev S1280x1024 : Shape := ⟨2, ![1280, 1024]⟩

abbrev nBuf : Space → Nat
  | .hbm => 6
  | .vmem => 8
  | .smem => 0
  | _ => 0

abbrev bufTy : (tb : Table) → Fin (tcTables nBuf tb) → BufTy
  | .hbm, ⟨0, _⟩ => ⟨S2048x2560, .f32⟩
  | .hbm, ⟨1, _⟩ => ⟨S2048x2048, .f32⟩
  | .hbm, ⟨2, _⟩ => ⟨S2048x2560, .bf16⟩
  | .hbm, ⟨3, _⟩ => ⟨S2048x2048, .bf16⟩
  | .hbm, ⟨4, _⟩ => ⟨S2560x2048, .f32⟩
  | .hbm, ⟨5, _⟩ => ⟨S2560x2048, .bf16⟩
  | .local _ .vmem, ⟨0, _⟩ => ⟨S2048x1280, .bf16⟩
  | .local _ .vmem, ⟨1, _⟩ => ⟨S2048x1280, .bf16⟩
  | .local _ .vmem, ⟨2, _⟩ => ⟨S2048x1024, .bf16⟩
  | .local _ .vmem, ⟨3, _⟩ => ⟨S2048x1024, .bf16⟩
  | .local _ .vmem, ⟨4, _⟩ => ⟨S1280x1024, .f32⟩
  | .local _ .vmem, ⟨5, _⟩ => ⟨S1280x1024, .f32⟩
  | .local _ .vmem, ⟨6, _⟩ => ⟨S1280x1024, .bf16⟩
  | .local _ .vmem, ⟨7, _⟩ => ⟨S1280x1024, .bf16⟩
  | _, _ => ⟨S2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1280x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RnnProjGradReferenceIdeal.lean ====
abbrev S2048x2560 : Shape := ⟨2, ![2048, 2560]⟩
abbrev S2048x2048 : Shape := ⟨2, ![2048, 2048]⟩
abbrev S_ : Shape := ⟨0, ![]⟩
abbrev S2560x2048 : Shape := ⟨2, ![2560, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2560, .f32⟩
  | .hbm, ⟨1, _⟩ => ⟨S2048x2048, .f32⟩
  | .hbm, ⟨2, _⟩ => ⟨S_, .f32⟩
  | .hbm, ⟨3, _⟩ => ⟨S2560x2048, .f32⟩
  | .hbm, ⟨4, _⟩ => ⟨S2048x2048, .f32⟩
  | .hbm, ⟨5, _⟩ => ⟨S2048x2560, .f32⟩
  | .hbm, ⟨6, _⟩ => ⟨S2560x2048, .f32⟩
  | .hbm, ⟨7, _⟩ => ⟨S2560x2048, .bf16⟩
  | _, _ => ⟨S2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AttnOutGrad.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnOutGradReferenceIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== RnnOutGrad.lean ====
abbrev S2560x2048 : Shape := ⟨2, ![2560, 2048]⟩
abbrev S2048x2048 : Shape := ⟨2, ![2048, 2048]⟩
abbrev S2048x2560 : Shape := ⟨2, ![2048, 2560]⟩
abbrev S1024x2048 : Shape := ⟨2, ![1024, 2048]⟩
abbrev S1280x2048 : Shape := ⟨2, ![1280, 2048]⟩
abbrev S1024x1280 : Shape := ⟨2, ![1024, 1280]⟩

abbrev nBuf : Space → Nat
  | .hbm => 5
  | .vmem => 6
  | .smem => 0
  | _ => 0

abbrev bufTy : (tb : Table) → Fin (tcTables nBuf tb) → BufTy
  | .hbm, ⟨0, _⟩ => ⟨S2560x2048, .f32⟩
  | .hbm, ⟨1, _⟩ => ⟨S2048x2048, .f32⟩
  | .hbm, ⟨2, _⟩ => ⟨S2048x2048, .bf16⟩
  | .hbm, ⟨3, _⟩ => ⟨S2560x2048, .bf16⟩
  | .hbm, ⟨4, _⟩ => ⟨S2048x2560, .f32⟩
  | .local _ .vmem, ⟨0, _⟩ => ⟨S1024x2048, .bf16⟩
  | .local _ .vmem, ⟨1, _⟩ => ⟨S1024x2048, .bf16⟩
  | .local _ .vmem, ⟨2, _⟩ => ⟨S1280x2048, .bf16⟩
  | .local _ .vmem, ⟨3, _⟩ => ⟨S1280x2048, .bf16⟩
  | .local _ .vmem, ⟨4, _⟩ => ⟨S1024x1280, .f32⟩
  | .local _ .vmem, ⟨5, _⟩ => ⟨S1024x1280, .f32⟩
  | _, _ => ⟨S2560x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RnnOutGradReferenceIdeal.lean ====
abbrev S2560x2048 : Shape := ⟨2, ![2560, 2048]⟩
abbrev S2048x2048 : Shape := ⟨2, ![2048, 2048]⟩
abbrev S_ : Shape := ⟨0, ![]⟩
abbrev S2048x2560 : Shape := ⟨2, ![2048, 2560]⟩

abbrev nBuf : Space → Nat
  | .hbm => 6
  | .vmem => 0
  | .smem => 0
  | _ => 0

abbrev bufTy : (tb : Table) → Fin (tcTables nBuf tb) → BufTy
  | .hbm, ⟨0, _⟩ => ⟨S2560x2048, .f32⟩
  | .hbm, ⟨1, _⟩ => ⟨S2048x2048, .f32⟩
  | .hbm, ⟨2, _⟩ => ⟨S_, .f32⟩
  | .hbm, ⟨3, _⟩ => ⟨S2048x2560, .f32⟩
  | .hbm, ⟨4, _⟩ => ⟨S2048x2048, .f32⟩
  | .hbm, ⟨5, _⟩ => ⟨S2048x2560, .f32⟩
  | _, _ => ⟨S2560x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== GateWGrad.lean ====
abbrev S2048x2560 : Shape := ⟨2, ![2048, 2560]⟩
abbrev S4x640x640 : Shape := ⟨3, ![4, 640, 640]⟩
abbrev S2048x640 : Shape := ⟨2, ![2048, 640]⟩
abbrev S1x640x640 : Shape := ⟨3, ![1, 640, 640]⟩
abbrev S640x640 : Shape := ⟨2, ![640, 640]⟩
abbrev S1x160x160 : Shape := ⟨3, ![1, 160, 160]⟩
abbrev S160x160 : Shape := ⟨2, ![160, 160]⟩
abbrev S16x160x160 : Shape := ⟨3, ![16, 160, 160]⟩

abbrev nBuf : Space → Nat
  | .hbm => 105
  | .vmem => 10
  | .smem => 0
  | _ => 0

abbrev bufTy : (tb : Table) → Fin (tcTables nBuf tb) → BufTy
  | .hbm, ⟨0, _⟩ => ⟨S2048x2560, .f32⟩
  | .hbm, ⟨1, _⟩ => ⟨S2048x2560, .f32⟩
  | .hbm, ⟨2, _⟩ => ⟨S2048x2560, .f32⟩
  | .hbm, ⟨3, _⟩ => ⟨S2048x2560, .bf16⟩
  | .hbm, ⟨4, _⟩ => ⟨S2048x2560, .bf16⟩
  | .hbm, ⟨5, _⟩ => ⟨S4x640x640, .f32⟩
  | .hbm, ⟨6, _⟩ => ⟨S4x640x640, .f32⟩
  | .hbm, ⟨7, _⟩ => ⟨S1x160x160, .f32⟩
  | .hbm, ⟨8, _⟩ => ⟨S160x160, .f32⟩
  | .hbm, ⟨9, _⟩ => ⟨S1x160x160, .f32⟩
  | .hbm, ⟨10, _⟩ => ⟨S160x160, .f32⟩
  | .hbm, ⟨11, _⟩ => ⟨S1x160x160, .f32⟩
  | .hbm, ⟨12, _⟩ => ⟨S160x160, .f32⟩
  | .hbm, ⟨13, _⟩ => ⟨S1x160x160, .f32⟩
  | .hbm, ⟨14, _⟩ => ⟨S160x160, .f32⟩
  | .hbm, ⟨15, _⟩ => ⟨S1x160x160, .f32⟩
  | .hbm, ⟨16, _⟩ => ⟨S160x160, .f32⟩
  | .hbm, ⟨17, _⟩ => ⟨S1x160x160, .f32⟩
  | .hbm, ⟨18, _⟩ => ⟨S160x160, .f32⟩
  | .hbm, ⟨19, _⟩ => ⟨S1x160x160, .f32⟩
  | .hbm, ⟨20, _⟩ => ⟨S160x160, .f32⟩
  | .hbm, ⟨21, _⟩ => ⟨S1x160x160, .f32⟩
  | .hbm, ⟨22, _⟩ => ⟨S160x160, .f32⟩
  | .hbm, ⟨23, _⟩ => ⟨S1x160x160, .f32⟩
  | .hbm, ⟨24, _⟩ => ⟨S160x160, .f32⟩
  | .hbm, ⟨25, _⟩ => ⟨S1x160x160, .f32⟩
  | .hbm, ⟨26, _⟩ => ⟨S160x160, .f32⟩
  | .hbm, ⟨27, _⟩ => ⟨S1x160x160, .f32⟩
  | .hbm, ⟨28, _⟩ => ⟨S160x160, .f32⟩
  | .hbm, ⟨29, _⟩ => ⟨S1x160x160, .f32⟩
  | .hbm, ⟨30, _⟩ => ⟨S160x160, .f32⟩
  | .hbm, ⟨31, _⟩ => ⟨S1x160x160, .f32⟩
  | .hbm, ⟨32, _⟩ => ⟨S160x160, .f32⟩
  | .hbm, ⟨33, _⟩ => ⟨S1x160x160, .f32⟩
  | .hbm, ⟨34, _⟩ => ⟨S160x160, .f32⟩
  | .hbm, ⟨35, _⟩ => ⟨S1x160x160, .f32⟩
  | .hbm, ⟨36, _⟩ => ⟨S160x160, .f32⟩
  | .hbm, ⟨37, _⟩ => ⟨S1x160x160, .f32⟩
  | .hbm, ⟨38, _⟩ => ⟨S160x160, .f32⟩
  | .hbm, ⟨39, _⟩ => ⟨S1x160x160, .f32⟩
  | .hbm, ⟨40, _⟩ => ⟨S1x160x160, .f32⟩
  | .hbm, ⟨41, _⟩ => ⟨S1x160x160, .f32⟩
  | .hbm, ⟨42, _⟩ => ⟨S1x160x160, .f32⟩
  | .hbm, ⟨43, _⟩ => ⟨S1x160x160, .f32⟩
  | .hbm, ⟨44, _⟩ => ⟨S1x160x160, .f32⟩
  | .hbm, ⟨45, _⟩ => ⟨S1x160x160, .f32⟩
  | .hbm, ⟨46, _⟩ => ⟨S1x160x160, .f32⟩
  | .hbm, ⟨47, _⟩ => ⟨S1x160x160, .f32⟩
  | .hbm, ⟨48, _⟩ => ⟨S1x160x160, .f32⟩
  | .hbm, ⟨49, _⟩ => ⟨S1x160x160, .f32⟩
  | .hbm, ⟨50, _⟩ => ⟨S1x160x160, .f32⟩
  | .hbm, ⟨51, _⟩ => ⟨S1x160x160, .f32⟩
  | .hbm, ⟨52, _⟩ => ⟨S1x160x160, .f32⟩
  | .hbm, ⟨53, _⟩ => ⟨S1x160x160, .f32⟩
  | .hbm, ⟨54, _⟩ => ⟨S1x160x160, .f32⟩
  | .hbm, ⟨55, _⟩ => ⟨S16x160x160, .f32⟩
  | .hbm, ⟨56, _⟩ => ⟨S1x160x160, .f32⟩
  | .hbm, ⟨57, _⟩ => ⟨S160x160, .f32⟩
  | .hbm, ⟨58, _⟩ => ⟨S1x160x160, .f32⟩
  | .hbm, ⟨59, _⟩ => ⟨S160x160, .f32⟩
  | .hbm, ⟨60, _⟩ => ⟨S1x160x160, .f32⟩
  | .hbm, ⟨61, _⟩ => ⟨S160x160, .f32⟩
  | .hbm, ⟨62, _⟩ => ⟨S1x160x160, .f32⟩
  | .hbm, ⟨63, _⟩ => ⟨S160x160, .f32⟩
  | .hbm, ⟨64, _⟩ => ⟨S1x160x160, .f32⟩
  | .hbm, ⟨65, _⟩ => ⟨S160x160, .f32⟩
  | .hbm, ⟨66, _⟩ => ⟨S1x160x160, .f32⟩
  | .hbm, ⟨67, _⟩ => ⟨S160x160, .f32⟩
  | .hbm, ⟨68, _⟩ => ⟨S1x160x160, .f32⟩
  | .hbm, ⟨69, _⟩ => ⟨S160x160, .f32⟩
  | .hbm, ⟨70, _⟩ => ⟨S1x160x160, .f32⟩
  | .hbm, ⟨71, _⟩ => ⟨S160x160, .f32⟩
  | .hbm, ⟨72, _⟩ => ⟨S1x160x160, .f32⟩
  | .hbm, ⟨73, _⟩ => ⟨S160x160, .f32⟩
  | .hbm, ⟨74, _⟩ => ⟨S1x160x160, .f32⟩
  | .hbm, ⟨75, _⟩ => ⟨S160x160, .f32⟩
  | .hbm, ⟨76, _⟩ => ⟨S1x160x160, .f32⟩
  | .hbm, ⟨77, _⟩ => ⟨S160x160, .f32⟩
  | .hbm, ⟨78, _⟩ => ⟨S1x160x160, .f32⟩
  | .hbm, ⟨79, _⟩ => ⟨S160x160, .f32⟩
  | .hbm, ⟨80, _⟩ => ⟨S1x160x160, .f32⟩
  | .hbm, ⟨81, _⟩ => ⟨S160x160, .f32⟩
  | .hbm, ⟨82, _⟩ => ⟨S1x160x160, .f32⟩
  | .hbm, ⟨83, _⟩ => ⟨S160x160, .f32⟩
  | .hbm, ⟨84, _⟩ => ⟨S1x160x160, .f32⟩
  | .hbm, ⟨85, _⟩ => ⟨S160x160, .f32⟩
  | .hbm, ⟨86, _⟩ => ⟨S1x160x160, .f32⟩
  | .hbm, ⟨87, _⟩ => ⟨S160x160, .f32⟩
  | .hbm, ⟨88, _⟩ => ⟨S1x160x160, .f32⟩
  | .hbm, ⟨89, _⟩ => ⟨S1x160x160, .f32⟩
  | .hbm, ⟨90, _⟩ => ⟨S1x160x160, .f32⟩
  | .hbm, ⟨91, _⟩ => ⟨S1x160x160, .f32⟩
  | .hbm, ⟨92, _⟩ => ⟨S1x160x160, .f32⟩
  | .hbm, ⟨93, _⟩ => ⟨S1x160x160, .f32⟩
  | .hbm, ⟨94, _⟩ => ⟨S1x160x160, .f32⟩
  | .hbm, ⟨95, _⟩ => ⟨S1x160x160, .f32⟩
  | .hbm, ⟨96, _⟩ => ⟨S1x160x160, .f32⟩
  | .hbm, ⟨97, _⟩ => ⟨S1x160x160, .f32⟩
  | .hbm, ⟨98, _⟩ => ⟨S1x160x160, .f32⟩
  | .hbm, ⟨99, _⟩ => ⟨S1x160x160, .f32⟩
  | .hbm, ⟨100, _⟩ => ⟨S1x160x160, .f32⟩
  | .hbm, ⟨101, _⟩ => ⟨S1x160x160, .f32⟩
  | .hbm, ⟨102, _⟩ => ⟨S1x160x160, .f32⟩
  | .hbm, ⟨103, _⟩ => ⟨S1x160x160, .f32⟩
  | .hbm, ⟨104, _⟩ => ⟨S16x160x160, .f32⟩
  | .local _ .vmem, ⟨0, _⟩ => ⟨S2048x640, .f32⟩
  | .local _ .vmem, ⟨1, _⟩ => ⟨S2048x640, .f32⟩
  | .local _ .vmem, ⟨2, _⟩ => ⟨S2048x640, .bf16⟩
  | .local _ .vmem, ⟨3, _⟩ => ⟨S2048x640, .bf16⟩
  | .local _ .vmem, ⟨4, _⟩ => ⟨S2048x640, .bf16⟩
  | .local _ .vmem, ⟨5, _⟩ => ⟨S2048x640, .bf16⟩
  | .local _ .vmem, ⟨6, _⟩ => ⟨S1x640x640, .f32⟩
  | .local _ .vmem, ⟨7, _⟩ => ⟨S1x640x640, .f32⟩
  | .local _ .vmem, ⟨8, _⟩ => ⟨S1x640x640, .f32⟩
  | .local _ .vmem, ⟨9, _⟩ => ⟨S1x640x640, .f32⟩
  | _, _ => ⟨S2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩
abbrev main_v79 : Ref sig .tc := ⟨.hbm, 83, rfl⟩
abbrev main_v80 : Ref sig .tc := ⟨.hbm, 84, rfl⟩
abbrev main_v81 : Ref sig .tc := ⟨.hbm, 85, rfl⟩
abbrev main_v82 : Ref sig .tc := ⟨.hbm, 86, rfl⟩
abbrev main_v83 : Ref sig .tc := ⟨.hbm, 87, rfl⟩
abbrev main_v84 : Ref sig .tc := ⟨.hbm, 88, rfl⟩
abbrev main_v85 : Ref sig .tc := ⟨.hbm, 89, rfl⟩
abbrev main_v86 : Ref sig .tc := ⟨.hbm, 90, rfl⟩
abbrev main_v87 : Ref sig .tc := ⟨.hbm, 91, rfl⟩
abbrev main_v88 : Ref sig .tc := ⟨.hbm, 92, rfl⟩
abbrev main_v89 : Ref sig .tc := ⟨.hbm, 93, rfl⟩
abbrev main_v90 : Ref sig .tc := ⟨.hbm, 94, rfl⟩
abbrev main_v91 : Ref sig .tc := ⟨.hbm, 95, rfl⟩
abbrev main_v92 : Ref sig .tc := ⟨.hbm, 96, rfl⟩
abbrev main_v93 : Ref sig .tc := ⟨.hbm, 97, rfl⟩
abbrev main_v94 : Ref sig .tc := ⟨.hbm, 98, rfl⟩
abbrev main_v95 : Ref sig .tc := ⟨.hbm, 99, rfl⟩
abbrev main_v96 : Ref sig .tc := ⟨.hbm, 100, rfl⟩
abbrev main_v97 : Ref sig .tc := ⟨.hbm, 101, rfl⟩
abbrev main_v98 : Ref sig .tc := ⟨.hbm, 102, rfl⟩
abbrev main_v99 : Ref sig .tc := ⟨.hbm, 103, rfl⟩
abbrev main_v100 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x640x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x640x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateWGradReferenceIdeal.lean ====
abbrev S2048x2560 : Shape := ⟨2, ![2048, 2560]⟩
abbrev S_ : Shape := ⟨0, ![]⟩
abbrev S16x160x160 : Shape := ⟨3, ![16, 160, 160]⟩
abbrev S2048x16x160 : Shape := ⟨3, ![2048, 16, 160]⟩
abbrev S16x160x2048 : Shape := ⟨3, ![16, 160, 2048]⟩

abbrev nBuf : Space → Nat
  | .hbm => 21
  | .vmem => 0
  | .smem => 0
  | _ => 0

abbrev bufTy : (tb : Table) → Fin (tcTables nBuf tb) → BufTy
  | .hbm, ⟨0, _⟩ => ⟨S2048x2560, .f32⟩
  | .hbm, ⟨1, _⟩ => ⟨S2048x2560, .f32⟩
  | .hbm, ⟨2, _⟩ => ⟨S2048x2560, .f32⟩
  | .hbm, ⟨3, _⟩ => ⟨S_, .f32⟩
  | .hbm, ⟨4, _⟩ => ⟨S16x160x160, .f32⟩
  | .hbm, ⟨5, _⟩ => ⟨S2048x16x160, .f32⟩
  | .hbm, ⟨6, _⟩ => ⟨S16x160x2048, .f32⟩
  | .hbm, ⟨7, _⟩ => ⟨S2048x16x160, .f32⟩
  | .hbm, ⟨8, _⟩ => ⟨S2048x2560, .f32⟩
  | .hbm, ⟨9, _⟩ => ⟨S2048x16x160, .f32⟩
  | .hbm, ⟨10, _⟩ => ⟨S16x160x2048, .f32⟩
  | .hbm, ⟨11, _⟩ => ⟨S16x160x160, .f32⟩
  | .hbm, ⟨12, _⟩ => ⟨S16x160x160, .f32⟩
  | .hbm, ⟨13, _⟩ => ⟨S2048x16x160, .f32⟩
  | .hbm, ⟨14, _⟩ => ⟨S16x160x2048, .f32⟩
  | .hbm, ⟨15, _⟩ => ⟨S2048x16x160, .f32⟩
  | .hbm, ⟨16, _⟩ => ⟨S2048x2560, .f32⟩
  | .hbm, ⟨17, _⟩ => ⟨S2048x16x160, .f32⟩
  | .hbm, ⟨18, _⟩ => ⟨S16x160x2048, .f32⟩
  | .hbm, ⟨19, _⟩ => ⟨S16x160x160, .f32⟩
  | .hbm, ⟨20, _⟩ => ⟨S16x160x160, .f32⟩
  | _, _ => ⟨S2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Proj.lean ====
abbrev S2048x2048 : Shape := ⟨2, ![2048, 2048]⟩
abbrev S2048x11776 : Shape := ⟨2, ![2048, 11776]⟩
abbrev S11776x2048 : Shape := ⟨2, ![11776, 2048]⟩
abbrev S512x2048 : Shape := ⟨2, ![512, 2048]⟩
abbrev S2048x512 : Shape := ⟨2, ![2048, 512]⟩

abbrev nBuf : Space → Nat
  | .hbm => 7
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x11776, .f32⟩
  | .hbm, ⟨2, _⟩ => ⟨S2048x2048, .bf16⟩
  | .hbm, ⟨3, _⟩ => ⟨S11776x2048, .f32⟩
  | .hbm, ⟨4, _⟩ => ⟨S11776x2048, .bf16⟩
  | .hbm, ⟨5, _⟩ => ⟨S2048x11776, .f32⟩
  | .hbm, ⟨6, _⟩ => ⟨S2048x11776, .bf16⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .f32⟩
  | .local _ .vmem, ⟨4, _⟩ => ⟨S2048x512, .f32⟩
  | .local _ .vmem, ⟨5, _⟩ => ⟨S2048x512, .bf16⟩
  | .local _ .vmem, ⟨6, _⟩ => ⟨S2048x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 23, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjReferenceIdeal.lean ====
abbrev S2048x2048 : Shape := ⟨2, ![2048, 2048]⟩
abbrev S2048x11776 : Shape := ⟨2, ![2048, 11776]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x11776, .f32⟩
  | .hbm, ⟨2, _⟩ => ⟨S2048x11776, .f32⟩
  | .hbm, ⟨3, _⟩ => ⟨S2048x11776, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== AttnOut.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .bf16⟩
  | .hbm, ⟨5, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnOutReferenceIdeal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== RnnOut.lean ====
abbrev S2048x2560 : Shape := ⟨2, ![2048, 2560]⟩
abbrev S2560x2048 : Shape := ⟨2, ![2560, 2048]⟩
abbrev S2048x2048 : Shape := ⟨2, ![2048, 2048]⟩
abbrev S1024x2560 : Shape := ⟨2, ![1024, 2560]⟩
abbrev S2560x1024 : Shape := ⟨2, ![2560, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2560, .f32⟩
  | .hbm, ⟨1, _⟩ => ⟨S2560x2048, .f32⟩
  | .hbm, ⟨2, _⟩ => ⟨S2048x2560, .bf16⟩
  | .hbm, ⟨3, _⟩ => ⟨S2560x2048, .bf16⟩
  | .hbm, ⟨4, _⟩ => ⟨S2048x2048, .f32⟩
  | .local _ .vmem, ⟨0, _⟩ => ⟨S1024x2560, .bf16⟩
  | .local _ .vmem, ⟨1, _⟩ => ⟨S1024x2560, .bf16⟩
  | .local _ .vmem, ⟨2, _⟩ => ⟨S2560x1024, .bf16⟩
  | .local _ .vmem, ⟨3, _⟩ => ⟨S2560x1024, .bf16⟩
  | .local _ .vmem, ⟨4, _⟩ => ⟨S1024x1024, .f32⟩
  | .local _ .vmem, ⟨5, _⟩ => ⟨S1024x1024, .f32⟩
  | _, _ => ⟨S2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2560x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RnnOutReferenceIdeal.lean ====
abbrev S2048x2560 : Shape := ⟨2, ![2048, 2560]⟩
abbrev S2560x2048 : Shape := ⟨2, ![2560, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2560, .f32⟩
  | .hbm, ⟨1, _⟩ => ⟨S2560x2048, .f32⟩
  | .hbm, ⟨2, _⟩ => ⟨S2048x2048, .f32⟩
  | _, _ => ⟨S2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MixOut.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutReferenceIdeal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Up.lean ====
abbrev S2048x2048 : Shape := ⟨2, ![2048, 2048]⟩
abbrev S2048x6144 : Shape := ⟨2, ![2048, 6144]⟩
abbrev S2048x8x768 : Shape := ⟨3, ![2048, 8, 768]⟩
abbrev S8x2048x768 : Shape := ⟨3, ![8, 2048, 768]⟩
abbrev S1x2048x768 : Shape := ⟨3, ![1, 2048, 768]⟩
abbrev S2048x768 : Shape := ⟨2, ![2048, 768]⟩

abbrev nBuf : Space → Nat
  | .hbm => 7
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x6144, .f32⟩
  | .hbm, ⟨2, _⟩ => ⟨S2048x2048, .bf16⟩
  | .hbm, ⟨3, _⟩ => ⟨S2048x6144, .bf16⟩
  | .hbm, ⟨4, _⟩ => ⟨S2048x8x768, .bf16⟩
  | .hbm, ⟨5, _⟩ => ⟨S8x2048x768, .bf16⟩
  | .hbm, ⟨6, _⟩ => ⟨S2048x6144, .f32⟩
  | .local _ .vmem, ⟨0, _⟩ => ⟨S2048x2048, .bf16⟩
  | .local _ .vmem, ⟨1, _⟩ => ⟨S1x2048x768, .bf16⟩
  | .local _ .vmem, ⟨2, _⟩ => ⟨S1x2048x768, .bf16⟩
  | .local _ .vmem, ⟨3, _⟩ => ⟨S2048x768, .f32⟩
  | .local _ .vmem, ⟨4, _⟩ => ⟨S2048x768, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c768_i32 : BitVec 32 := 768#32
  let v0 : BitVec 32 := Scalar.muli arg1 c768_i32
  let c768_i32_0 : BitVec 32 := 768#32
  let v1 : BitVec 32 := Scalar.divsi v0 c768_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c768_i32_0 c0_i32_2
  let v8 : BitVec 32 := Scalar.extui v7
  let c0_i32_3 : BitVec 32 := 0#32
  let v9 : BitVec 1 := Scalar.cmpi .slt c768_i32_0 c0_i32_3
  let v10 : BitVec 32 := Scalar.extui v9
  let v11 : BitVec 32 := Scalar.subi v8 v10
  let v12 : BitVec 1 := Scalar.cmpi .ne v6 v11
  let v13 : BitVec 32 := Scalar.remsi v0 c768_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c768_i32_5 : BitVec 32 := 768#32
  let v18 : BitVec 32 := Scalar.muli arg1 c768_i32_5
  let c768_i32_6 : BitVec 32 := 768#32
  let c0_i32_7 : BitVec 32 := 0#32
  let v19 : BitVec 1 := Scalar.cmpi .eq c768_i32_6 c0_i32_7
  let c1_i32_8 : BitVec 32 := 1#32
  let v20 : BitVec 32 := Scalar.select v19 c1_i32_8 c768_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c768_i32_12 : BitVec 32 := 768#32
  let v29 : BitVec 32 := Scalar.divsi v28 c768_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c0_i32_15 : BitVec 32 := 0#32
  let v35 : BitVec 1 := Scalar.cmpi .sgt c768_i32_12 c0_i32_15
  let v36 : BitVec 32 := Scalar.extui v35
  let c0_i32_16 : BitVec 32 := 0#32
  let v37 : BitVec 1 := Scalar.cmpi .slt c768_i32_12 c0_i32_16
  let v38 : BitVec 32 := Scalar.extui v37
  let v39 : BitVec 32 := Scalar.subi v36 v38
  let v40 : BitVec 1 := Scalar.cmpi .ne v34 v39
  let v41 : BitVec 32 := Scalar.remsi v28 c768_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let c0_i32_19 : BitVec 32 := 0#32
  ![v17.toNat, arg2.toNat, v45.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S2048x2048 : Shape := ⟨2, ![2048, 2048]⟩
abbrev S2048x6144 : Shape := ⟨2, ![2048, 6144]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x6144, .f32⟩
  | .hbm, ⟨2, _⟩ => ⟨S2048x6144, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== FinGrad.lean ====
abbrev S6144x2048 : Shape := ⟨2, ![6144, 2048]⟩
abbrev S2048x2048 : Shape := ⟨2, ![2048, 2048]⟩
abbrev S2048x6144 : Shape := ⟨2, ![2048, 6144]⟩
abbrev S512x2048 : Shape := ⟨2, ![512, 2048]⟩
abbrev S2048x512 : Shape := ⟨2, ![2048, 512]⟩

abbrev nBuf : Space → Nat
  | .hbm => 5
  | .vmem => 5
  | .smem => 0
  | _ => 0

abbrev bufTy : (tb : Table) → Fin (tcTables nBuf tb) → BufTy
  | .hbm, ⟨0, _⟩ => ⟨S6144x2048, .f32⟩
  | .hbm, ⟨1, _⟩ => ⟨S2048x2048, .f32⟩
  | .hbm, ⟨2, _⟩ => ⟨S2048x2048, .bf16⟩
  | .hbm, ⟨3, _⟩ => ⟨S6144x2048, .bf16⟩
  | .hbm, ⟨4, _⟩ => ⟨S2048x6144, .f32⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .f32⟩
  | .local _ .vmem, ⟨4, _⟩ => ⟨S2048x512, .f32⟩
  | _, _ => ⟨S6144x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FinGradReferenceIdeal.lean ====
abbrev S6144x2048 : Shape := ⟨2, ![6144, 2048]⟩
abbrev S2048x2048 : Shape := ⟨2, ![2048, 2048]⟩
abbrev S_ : Shape := ⟨0, ![]⟩
abbrev S2048x6144 : Shape := ⟨2, ![2048, 6144]⟩

abbrev nBuf : Space → Nat
  | .hbm => 6
  | .vmem => 0
  | .smem => 0
  | _ => 0

abbrev bufTy : (tb : Table) → Fin (tcTables nBuf tb) → BufTy
  | .hbm, ⟨0, _⟩ => ⟨S6144x2048, .f32⟩
  | .hbm, ⟨1, _⟩ => ⟨S2048x2048, .f32⟩
  | .hbm, ⟨2, _⟩ => ⟨S_, .f32⟩
  | .hbm, ⟨3, _⟩ => ⟨S2048x6144, .f32⟩
  | .hbm, ⟨4, _⟩ => ⟨S2048x2048, .f32⟩
  | .hbm, ⟨5, _⟩ => ⟨S2048x6144, .f32⟩
  | _, _ => ⟨S6144x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== UpGrad.lean ====
abbrev S2048x2048 : Shape := ⟨2, ![2048, 2048]⟩
abbrev S2048x6144 : Shape := ⟨2, ![2048, 6144]⟩
abbrev S8x2048x768 : Shape := ⟨3, ![8, 2048, 768]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 6
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x6144, .f32⟩
  | .hbm, ⟨2, _⟩ => ⟨S2048x2048, .bf16⟩
  | .hbm, ⟨3, _⟩ => ⟨S2048x6144, .bf16⟩
  | .hbm, ⟨4, _⟩ => ⟨S8x2048x768, .f32⟩
  | .hbm, ⟨5, _⟩ => ⟨S8x2048x768, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .f32⟩
  | .local _ .vmem, ⟨5, _⟩ => ⟨S1x1024x768, .f32⟩
  | .local _ .vmem, ⟨6, _⟩ => ⟨S1x1024x768, .bf16⟩
  | .local _ .vmem, ⟨7, _⟩ => ⟨S1x1024x768, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c768_i32 : BitVec 32 := 768#32
  let v0 : BitVec 32 := Scalar.muli arg1 c768_i32
  let c768_i32_0 : BitVec 32 := 768#32
  let v1 : BitVec 32 := Scalar.divsi v0 c768_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c768_i32_0 c0_i32_2
  let v8 : BitVec 32 := Scalar.extui v7
  let c0_i32_3 : BitVec 32 := 0#32
  let v9 : BitVec 1 := Scalar.cmpi .slt c768_i32_0 c0_i32_3
  let v10 : BitVec 32 := Scalar.extui v9
  let v11 : BitVec 32 := Scalar.subi v8 v10
  let v12 : BitVec 1 := Scalar.cmpi .ne v6 v11
  let v13 : BitVec 32 := Scalar.remsi v0 c768_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c768_i32_5 : BitVec 32 := 768#32
  let v18 : BitVec 32 := Scalar.muli arg1 c768_i32_5
  let c768_i32_6 : BitVec 32 := 768#32
  let c0_i32_7 : BitVec 32 := 0#32
  let v19 : BitVec 1 := Scalar.cmpi .eq c768_i32_6 c0_i32_7
  let c1_i32_8 : BitVec 32 := 1#32
  let v20 : BitVec 32 := Scalar.select v19 c1_i32_8 c768_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c768_i32_12 : BitVec 32 := 768#32
  let v29 : BitVec 32 := Scalar.divsi v28 c768_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c0_i32_15 : BitVec 32 := 0#32
  let v35 : BitVec 1 := Scalar.cmpi .sgt c768_i32_12 c0_i32_15
  let v36 : BitVec 32 := Scalar.extui v35
  let c0_i32_16 : BitVec 32 := 0#32
  let v37 : BitVec 1 := Scalar.cmpi .slt c768_i32_12 c0_i32_16
  let v38 : BitVec 32 := Scalar.extui v37
  let v39 : BitVec 32 := Scalar.subi v36 v38
  let v40 : BitVec 1 := Scalar.cmpi .ne v34 v39
  let v41 : BitVec 32 := Scalar.remsi v28 c768_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let c0_i32_19 : BitVec 32 := 0#32
  ![v17.toNat, arg0.toNat, v45.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c768_i32 : BitVec 32 := 768#32
  let v0 : BitVec 32 := Scalar.muli arg1 c768_i32
  let c768_i32_0 : BitVec 32 := 768#32
  let v1 : BitVec 32 := Scalar.divsi v0 c768_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c768_i32_0 c0_i32_2
  let v8 : BitVec 32 := Scalar.extui v7
  let c0_i32_3 : BitVec 32 := 0#32
  let v9 : BitVec 1 := Scalar.cmpi .slt c768_i32_0 c0_i32_3
  let v10 : BitVec 32 := Scalar.extui v9
  let v11 : BitVec 32 := Scalar.subi v8 v10
  let v12 : BitVec 1 := Scalar.cmpi .ne v6 v11
  let v13 : BitVec 32 := Scalar.remsi v0 c768_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c768_i32_5 : BitVec 32 := 768#32
  let v18 : BitVec 32 := Scalar.muli arg1 c768_i32_5
  let c768_i32_6 : BitVec 32 := 768#32
  let c0_i32_7 : BitVec 32 := 0#32
  let v19 : BitVec 1 := Scalar.cmpi .eq c768_i32_6 c0_i32_7
  let c1_i32_8 : BitVec 32 := 1#32
  let v20 : BitVec 32 := Scalar.select v19 c1_i32_8 c768_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c768_i32_12 : BitVec 32 := 768#32
  let v29 : BitVec 32 := Scalar.divsi v28 c768_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c0_i32_15 : BitVec 32 := 0#32
  let v35 : BitVec 1 := Scalar.cmpi .sgt c768_i32_12 c0_i32_15
  let v36 : BitVec 32 := Scalar.extui v35
  let c0_i32_16 : BitVec 32 := 0#32
  let v37 : BitVec 1 := Scalar.cmpi .slt c768_i32_12 c0_i32_16
  let v38 : BitVec 32 := Scalar.extui v37
  let v39 : BitVec 32 := Scalar.subi v36 v38
  let v40 : BitVec 1 := Scalar.cmpi .ne v34 v39
  let v41 : BitVec 32 := Scalar.remsi v28 c768_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let c0_i32_19 : BitVec 32 := 0#32
  ![v17.toNat, arg0.toNat, v45.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpGradReferenceIdeal.lean ====
abbrev S2048x2048 : Shape := ⟨2, ![2048, 2048]⟩
abbrev S2048x6144 : Shape := ⟨2, ![2048, 6144]⟩
abbrev S_ : Shape := ⟨0, ![]⟩
abbrev S6144x2048 : Shape := ⟨2, ![6144, 2048]⟩
abbrev S2048x8x768 : Shape := ⟨3, ![2048, 8, 768]⟩
abbrev S8x2048x768 : Shape := ⟨3, ![8, 2048, 768]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x6144, .f32⟩
  | .hbm, ⟨2, _⟩ => ⟨S_, .f32⟩
  | .hbm, ⟨3, _⟩ => ⟨S2048x6144, .f32⟩
  | .hbm, ⟨4, _⟩ => ⟨S2048x6144, .f32⟩
  | .hbm, ⟨5, _⟩ => ⟨S6144x2048, .f32⟩
  | .hbm, ⟨6, _⟩ => ⟨S2048x6144, .f32⟩
  | .hbm, ⟨7, _⟩ => ⟨S2048x6144, .bf16⟩
  | .hbm, ⟨8, _⟩ => ⟨S2048x8x768, .f32⟩
  | .hbm, ⟨9, _⟩ => ⟨S8x2048x768, .f32⟩
  | .hbm, ⟨10, _⟩ => ⟨S8x2048x768, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== AttnProjGrad.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .bf16⟩
  | .hbm, ⟨5, _⟩ => ⟨S2048x2048, .f32⟩
  | .hbm, ⟨6, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AttnProjGradReferenceIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InGrad.lean ====
abbrev S2048x1024 : Shape := ⟨2, ![2048, 1024]⟩
abbrev S2048x11776 : Shape := ⟨2, ![2048, 11776]⟩
abbrev S11776x1024 : Shape := ⟨2, ![11776, 1024]⟩
abbrev S2048x512 : Shape := ⟨2, ![2048, 512]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x11776, .f32⟩
  | .hbm, ⟨2, _⟩ => ⟨S2048x11776, .bf16⟩
  | .hbm, ⟨3, _⟩ => ⟨S2048x1024, .bf16⟩
  | .hbm, ⟨4, _⟩ => ⟨S11776x1024, .f32⟩
  | .hbm, ⟨5, _⟩ => ⟨S11776x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![23, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InGradReferenceIdeal.lean ====
abbrev S2048x1024 : Shape := ⟨2, ![2048, 1024]⟩
abbrev S2048x11776 : Shape := ⟨2, ![2048, 11776]⟩
abbrev S_ : Shape := ⟨0, ![]⟩
abbrev S1024x11776 : Shape := ⟨2, ![1024, 11776]⟩
abbrev S11776x1024 : Shape := ⟨2, ![11776, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x11776, .f32⟩
  | .hbm, ⟨2, _⟩ => ⟨S_, .f32⟩
  | .hbm, ⟨3, _⟩ => ⟨S1024x11776, .f32⟩
  | .hbm, ⟨4, _⟩ => ⟨S2048x11776, .f32⟩
  | .hbm, ⟨5, _⟩ => ⟨S11776x1024, .f32⟩
  | .hbm, ⟨6, _⟩ => ⟨S1024x11776, .f32⟩
  | .hbm, ⟨7, _⟩ => ⟨S1024x11776, .bf16⟩
  | .hbm, ⟨8, _⟩ => ⟨S11776x1024, .f32⟩
  | .hbm, ⟨9, _⟩ => ⟨S11776x1024, .f32⟩
  | .hbm, ⟨10, _⟩ => ⟨S11776x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== UpInGrad.lean ====
abbrev S2048x6144 : Shape := ⟨2, ![2048, 6144]⟩
abbrev S2048x8x768 : Shape := ⟨3, ![2048, 8, 768]⟩
abbrev S8x2048x768 : Shape := ⟨3, ![8, 2048, 768]⟩
abbrev S2048x2048 : Shape := ⟨2, ![2048, 2048]⟩
abbrev S1024x768 : Shape := ⟨2, ![1024, 768]⟩
abbrev S1x1024x768 : Shape := ⟨3, ![1, 1024, 768]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2048x6144, .f32⟩
  | .hbm, ⟨1, _⟩ => ⟨S2048x6144, .f32⟩
  | .hbm, ⟨2, _⟩ => ⟨S2048x6144, .bf16⟩
  | .hbm, ⟨3, _⟩ => ⟨S2048x6144, .bf16⟩
  | .hbm, ⟨4, _⟩ => ⟨S2048x8x768, .bf16⟩
  | .hbm, ⟨5, _⟩ => ⟨S8x2048x768, .bf16⟩
  | .hbm, ⟨6, _⟩ => ⟨S2048x2048, .f32⟩
  | .local _ .vmem, ⟨0, _⟩ => ⟨S1024x768, .bf16⟩
  | .local _ .vmem, ⟨1, _⟩ => ⟨S1024x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c768_i32 : BitVec 32 := 768#32
  let v0 : BitVec 32 := Scalar.muli arg2 c768_i32
  let c768_i32_0 : BitVec 32 := 768#32
  let v1 : BitVec 32 := Scalar.divsi v0 c768_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c768_i32_0 c0_i32_2
  let v8 : BitVec 32 := Scalar.extui v7
  let c0_i32_3 : BitVec 32 := 0#32
  let v9 : BitVec 1 := Scalar.cmpi .slt c768_i32_0 c0_i32_3
  let v10 : BitVec 32 := Scalar.extui v9
  let v11 : BitVec 32 := Scalar.subi v8 v10
  let v12 : BitVec 1 := Scalar.cmpi .ne v6 v11
  let v13 : BitVec 32 := Scalar.remsi v0 c768_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c768_i32_5 : BitVec 32 := 768#32
  let v18 : BitVec 32 := Scalar.muli arg2 c768_i32_5
  let c768_i32_6 : BitVec 32 := 768#32
  let c0_i32_7 : BitVec 32 := 0#32
  let v19 : BitVec 1 := Scalar.cmpi .eq c768_i32_6 c0_i32_7
  let c1_i32_8 : BitVec 32 := 1#32
  let v20 : BitVec 32 := Scalar.select v19 c1_i32_8 c768_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c768_i32_12 : BitVec 32 := 768#32
  let v29 : BitVec 32 := Scalar.divsi v28 c768_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c0_i32_15 : BitVec 32 := 0#32
  let v35 : BitVec 1 := Scalar.cmpi .sgt c768_i32_12 c0_i32_15
  let v36 : BitVec 32 := Scalar.extui v35
  let c0_i32_16 : BitVec 32 := 0#32
  let v37 : BitVec 1 := Scalar.cmpi .slt c768_i32_12 c0_i32_16
  let v38 : BitVec 32 := Scalar.extui v37
  let v39 : BitVec 32 := Scalar.subi v36 v38
  let v40 : BitVec 1 := Scalar.cmpi .ne v34 v39
  let v41 : BitVec 32 := Scalar.remsi v28 c768_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let c0_i32_19 : BitVec 32 := 0#32
  ![v17.toNat, arg1.toNat, v45.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpInGradReferenceIdeal.lean ====
abbrev S2048x6144 : Shape := ⟨2, ![2048, 6144]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S2048x6144, .f32⟩
  | .hbm, ⟨2, _⟩ => ⟨S_, .f32⟩
  | .hbm, ⟨3, _⟩ => ⟨S2048x2048, .f32⟩
  | .hbm, ⟨4, _⟩ => ⟨S2048x6144, .f32⟩
  | .hbm, ⟨5, _⟩ => ⟨S2048x2048, .f32⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== GateInGrad.lean ====
abbrev S2048x6144 : Shape := ⟨2, ![2048, 6144]⟩
abbrev S2048x2048 : Shape := ⟨2, ![2048, 2048]⟩
abbrev S2048x8x768 : Shape := ⟨3, ![2048, 8, 768]⟩
abbrev S8x2048x768 : Shape := ⟨3, ![8, 2048, 768]⟩
abbrev S1024x768 : Shape := ⟨2, ![1024, 768]⟩
abbrev S1x1024x768 : Shape := ⟨3, ![1, 1024, 768]⟩
abbrev S1024x1024 : Shape := ⟨2, ![1024, 1024]⟩

abbrev nBuf : Space → Nat
  | .hbm => 8
  | .vmem => 9
  | .smem => 0
  | _ => 0

abbrev bufTy : (tb : Table) → Fin (tcTables nBuf tb) → BufTy
  | .hbm, ⟨0, _⟩ => ⟨S2048x6144, .f32⟩
  | .hbm, ⟨1, _⟩ => ⟨S2048x6144, .f32⟩
  | .hbm, ⟨2, _⟩ => ⟨S2048x2048, .f32⟩
  | .hbm, ⟨3, _⟩ => ⟨S2048x6144, .bf16⟩
  | .hbm, ⟨4, _⟩ => ⟨S2048x6144, .bf16⟩
  | .hbm, ⟨5, _⟩ => ⟨S2048x8x768, .bf16⟩
  | .hbm, ⟨6, _⟩ => ⟨S8x2048x768, .bf16⟩
  | .hbm, ⟨7, _⟩ => ⟨S2048x2048, .f32⟩
  | .local _ .vmem, ⟨0, _⟩ => ⟨S1024x768, .bf16⟩
  | .local _ .vmem, ⟨1, _⟩ => ⟨S1024x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c768_i32 : BitVec 32 := 768#32
  let v0 : BitVec 32 := Scalar.muli arg2 c768_i32
  let c768_i32_0 : BitVec 32 := 768#32
  let v1 : BitVec 32 := Scalar.divsi v0 c768_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c768_i32_0 c0_i32_2
  let v8 : BitVec 32 := Scalar.extui v7
  let c0_i32_3 : BitVec 32 := 0#32
  let v9 : BitVec 1 := Scalar.cmpi .slt c768_i32_0 c0_i32_3
  let v10 : BitVec 32 := Scalar.extui v9
  let v11 : BitVec 32 := Scalar.subi v8 v10
  let v12 : BitVec 1 := Scalar.cmpi .ne v6 v11
  let v13 : BitVec 32 := Scalar.remsi v0 c768_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c768_i32_5 : BitVec 32 := 768#32
  let v18 : BitVec 32 := Scalar.muli arg2 c768_i32_5
  let c768_i32_6 : BitVec 32 := 768#32
  let c0_i32_7 : BitVec 32 := 0#32
  let v19 : BitVec 1 := Scalar.cmpi .eq c768_i32_6 c0_i32_7
  let c1_i32_8 : BitVec 32 := 1#32
  let v20 : BitVec 32 := Scalar.select v19 c1_i32_8 c768_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c768_i32_12 : BitVec 32 := 768#32
  let v29 : BitVec 32 := Scalar.divsi v28 c768_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c0_i32_15 : BitVec 32 := 0#32
  let v35 : BitVec 1 := Scalar.cmpi .sgt c768_i32_12 c0_i32_15
  let v36 : BitVec 32 := Scalar.extui v35
  let c0_i32_16 : BitVec 32 := 0#32
  let v37 : BitVec 1 := Scalar.cmpi .slt c768_i32_12 c0_i32_16
  let v38 : BitVec 32 := Scalar.extui v37
  let v39 : BitVec 32 := Scalar.subi v36 v38
  let v40 : BitVec 1 := Scalar.cmpi .ne v34 v39
  let v41 : BitVec 32 := Scalar.remsi v28 c768_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let c0_i32_19 : BitVec 32 := 0#32
  ![v17.toNat, arg1.toNat, v45.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GateInGradReferenceIdeal.lean ====
abbrev S2048x6144 : Shape := ⟨2, ![2048, 6144]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S2048x6144, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x6144, .f32⟩
  | .hbm, ⟨6, _⟩ => ⟨S2048x2048, .f32⟩
  | .hbm, ⟨7, _⟩ => ⟨S2048x2048, .f32⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== XGrad.lean ====
abbrev S2048x11776 : Shape := ⟨2, ![2048, 11776]⟩
abbrev S2048x2048 : Shape := ⟨2, ![2048, 2048]⟩
abbrev S11776x2048 : Shape := ⟨2, ![11776, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S2048x11776, .f32⟩
  | .hbm, ⟨1, _⟩ => ⟨S2048x11776, .f32⟩
  | .hbm, ⟨2, _⟩ => ⟨S2048x2048, .f32⟩
  | .hbm, ⟨3, _⟩ => ⟨S2048x11776, .bf16⟩
  | .hbm, ⟨4, _⟩ => ⟨S11776x2048, .f32⟩
  | .hbm, ⟨5, _⟩ => ⟨S11776x2048, .bf16⟩
  | .hbm, ⟨6, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x11776, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 23], ![false, false, false]⟩

def k0_cond2 (i : grid0.Coords) : BitVec 1 :=
  let arg2 : BitVec 32 := BitVec.ofNat 32 (i 2).val
  let c22_i32 : BitVec 32 := 22#32
  let v13 : BitVec 1 := Scalar.cmpi .eq arg2 c22_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== XGradReferenceIdeal.lean ====
abbrev S2048x11776 : Shape := ⟨2, ![2048, 11776]⟩
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x11776, .f32⟩
  | .hbm, ⟨1, _⟩ => ⟨S2048x11776, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x11776, .f32⟩
  | .hbm, ⟨9, _⟩ => ⟨S2048x2048, .f32⟩
  | .hbm, ⟨10, _⟩ => ⟨S2048x2048, .f32⟩
  | _, _ => ⟨S2048x11776, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== NormGrad.lean ====
abbrev S2048x2048 : Shape := ⟨2, ![2048, 2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S1 : Shape := ⟨1, ![1]⟩

abbrev nBuf : Space → Nat
  | .hbm => 10
  | .vmem => 15
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S1x1, .f32⟩
  | .hbm, ⟨6, _⟩ => ⟨S2048x2048, .f32⟩
  | .hbm, ⟨7, _⟩ => ⟨S2048x2048, .bf16⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S1x1, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S1x2048, .f32⟩
  | .local _ .vmem, ⟨14, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormGradReferenceIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S1x1 : Shape := ⟨2, ![1, 1]⟩

abbrev nBuf : Space → Nat
  | .hbm => 118
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S2048x2048, .f32⟩
  | .hbm, ⟨40, _⟩ => ⟨S2048x2048, .f32⟩
  | .hbm, ⟨41, _⟩ => ⟨S1x2048, .f32⟩
  | .hbm, ⟨42, _⟩ => ⟨S2048x2048, .f32⟩
  | .hbm, ⟨43, _⟩ => ⟨S2048x2048, .f32⟩
  | .hbm, ⟨44, _⟩ => ⟨S1x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S_, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S_, .f32⟩
  | .hbm, ⟨55, _⟩ => ⟨S2048, .f32⟩
  | .hbm, ⟨56, _⟩ => ⟨S2048, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S2048, .f32⟩
  | .hbm, ⟨65, _⟩ => ⟨S_, .f32⟩
  | .hbm, ⟨66, _⟩ => ⟨S2048, .f32⟩
  | .hbm, ⟨67, _⟩ => ⟨S2048, .f32⟩
  | .hbm, ⟨68, _⟩ => ⟨S2048x2048, .f32⟩
  | .hbm, ⟨69, _⟩ => ⟨S2048x2048, .f32⟩
  | .hbm, ⟨70, _⟩ => ⟨S_, .f32⟩
  | .hbm, ⟨71, _⟩ => ⟨S2048, .f32⟩
  | .hbm, ⟨72, _⟩ => ⟨S1x2048, .f32⟩
  | .hbm, ⟨73, _⟩ => ⟨S_, .f32⟩
  | .hbm, ⟨74, _⟩ => ⟨S2048, .f32⟩
  | .hbm, ⟨75, _⟩ => ⟨S2048x2048, .f32⟩
  | .hbm, ⟨76, _⟩ => ⟨S_, .f32⟩
  | .hbm, ⟨77, _⟩ => ⟨S2048, .f32⟩
  | .hbm, ⟨78, _⟩ => ⟨S1x2048, .f32⟩
  | .hbm, ⟨79, _⟩ => ⟨S2048x2048, .f32⟩
  | .hbm, ⟨80, _⟩ => ⟨S2048x2048, .f32⟩
  | .hbm, ⟨81, _⟩ => ⟨S_, .f32⟩
  | .hbm, ⟨82, _⟩ => ⟨S2048, .f32⟩
  | .hbm, ⟨83, _⟩ => ⟨S2048x2048, .f32⟩
  | .hbm, ⟨84, _⟩ => ⟨S_, .f32⟩
  | .hbm, ⟨85, _⟩ => ⟨S2048, .f32⟩
  | .hbm, ⟨86, _⟩ => ⟨S2048x1, .f32⟩
  | .hbm, ⟨87, _⟩ => ⟨S2048x2048, .f32⟩
  | .hbm, ⟨88, _⟩ => ⟨S2048x2048, .f32⟩
  | .hbm, ⟨89, _⟩ => ⟨S2048x1, .f32⟩
  | .hbm, ⟨90, _⟩ => ⟨S2048x2048, .f32⟩
  | .hbm, ⟨91, _⟩ => ⟨S_, .f32⟩
  | .hbm, ⟨92, _⟩ => ⟨S2048, .f32⟩
  | .hbm, ⟨93, _⟩ => ⟨S2048x1, .f32⟩
  | .hbm, ⟨94, _⟩ => ⟨S_, .f32⟩
  | .hbm, ⟨95, _⟩ => ⟨S2048x1, .f32⟩
  | .hbm, ⟨96, _⟩ => ⟨S2048x1, .f32⟩
  | .hbm, ⟨97, _⟩ => ⟨S_, .f32⟩
  | .hbm, ⟨98, _⟩ => ⟨S2048, .f32⟩
  | .hbm, ⟨99, _⟩ => ⟨S2048x2048, .f32⟩
  | .hbm, ⟨100, _⟩ => ⟨S2048x2048, .f32⟩
  | .hbm, ⟨101, _⟩ => ⟨S2048x2048, .f32⟩
  | .hbm, ⟨102, _⟩ => ⟨S_, .f32⟩
  | .hbm, ⟨103, _⟩ => ⟨S2048, .f32⟩
  | .hbm, ⟨104, _⟩ => ⟨S2048x1, .f32⟩
  | .hbm, ⟨105, _⟩ => ⟨S2048x2048, .f32⟩
  | .hbm, ⟨106, _⟩ => ⟨S2048x1, .f32⟩
  | .hbm, ⟨107, _⟩ => ⟨S_, .f32⟩
  | .hbm, ⟨108, _⟩ => ⟨S2048x1, .f32⟩
  | .hbm, ⟨109, _⟩ => ⟨S2048x1, .f32⟩
  | .hbm, ⟨110, _⟩ => ⟨S_, .f32⟩
  | .hbm, ⟨111, _⟩ => ⟨S2048, .f32⟩
  | .hbm, ⟨112, _⟩ => ⟨S2048x2048, .f32⟩
  | .hbm, ⟨113, _⟩ => ⟨S2048x2048, .f32⟩
  | .hbm, ⟨114, _⟩ => ⟨S1x2048, .f32⟩
  | .hbm, ⟨115, _⟩ => ⟨S1x2048, .f32⟩
  | .hbm, ⟨116, _⟩ => ⟨S1x1, .f32⟩
  | .hbm, ⟨117, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩
abbrev main_cst_12 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_cst_16 : Ref sig .tc := ⟨.hbm, 73, rfl⟩
abbrev main_v51 : Ref sig .tc := ⟨.hbm, 74, rfl⟩
abbrev main_v52 : Ref sig .tc := ⟨.hbm, 75, rfl⟩
abbrev main_cst_17 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_18 : Ref sig .tc := ⟨.hbm, 81, rfl⟩
abbrev main_v57 : Ref sig .tc := ⟨.hbm, 82, rfl⟩
abbrev main_v58 : Ref sig .tc := ⟨.hbm, 83, rfl⟩
abbrev main_cst_19 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_20 : Ref sig .tc := ⟨.hbm, 91, rfl⟩
abbrev main_v65 : Ref sig .tc := ⟨.hbm, 92, rfl⟩
abbrev main_v66 : Ref sig .tc := ⟨.hbm, 93, rfl⟩
abbrev main_cst_21 : Ref sig .tc := ⟨.hbm, 94, rfl⟩
abbrev main_v67 : Ref sig .tc := ⟨.hbm, 95, rfl⟩
abbrev main_v68 : Ref sig .tc := ⟨.hbm, 96, rfl⟩
abbrev main_cst_22 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_23 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_24 : Ref sig .tc := ⟨.hbm, 107, rfl⟩
abbrev main_v77 : Ref sig .tc := ⟨.hbm, 108, rfl⟩
abbrev main_v78 : Ref sig .tc := ⟨.hbm, 109, rfl⟩
abbrev main_cst_25 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩

abbrev nD : Nat := 1
abbrev τ : Topo := Topo.v7x

variable {F : FTy → Type} [FloatOps F]
-- ==== GateGrad.lean ====
abbrev S2048x2048 : Shape := ⟨2, ![2048, 2048]⟩
abbrev S2048x11776 : Shape := ⟨2, ![2048, 11776]⟩
abbrev S1x4096 : Shape := ⟨2, ![1, 4096]⟩
abbrev S1x2048 : Shape := ⟨2, ![1, 2048]⟩
abbrev S512x512 : Shape := ⟨2, ![512, 512]⟩
abbrev S1x512 : Shape := ⟨2, ![1, 512]⟩
abbrev S512 : Shape := ⟨1, ![512]⟩

abbrev nBuf : Space → Nat
  | .hbm => 11
  | .vmem => 26
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x11776, .f32⟩
  | .hbm, ⟨4, _⟩ => ⟨S1x4096, .f32⟩
  | .hbm, ⟨5, _⟩ => ⟨S2048x2048, .bf16⟩
  | .hbm, ⟨6, _⟩ => ⟨S2048x2048, .bf16⟩
  | .hbm, ⟨7, _⟩ => ⟨S2048x2048, .bf16⟩
  | .hbm, ⟨8, _⟩ => ⟨S2048x2048, .bf16⟩
  | .hbm, ⟨9, _⟩ => ⟨S1x2048, .f32⟩
  | .hbm, ⟨10, _⟩ => ⟨S1x2048, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.addi c19_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== GateGradReferenceIdeal.lean ====
abbrev S2048x2048 : Shape := ⟨2, ![2048, 2048]⟩
abbrev S2048x11776 : Shape := ⟨2, ![2048, 11776]⟩
abbrev S1x4096 : Shape := ⟨2, ![1, 4096]⟩
abbrev S2048x4096 : Shape := ⟨2, ![2048, 4096]⟩
abbrev S4096 : Shape := ⟨1, ![4096]⟩
abbrev S_ : Shape := ⟨0, ![]⟩
abbrev S1x2048 : Shape := ⟨2, ![1, 2048]⟩

abbrev nBuf : Space → Nat
  | .hbm => 48
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x11776, .f32⟩
  | .hbm, ⟨4, _⟩ => ⟨S1x4096, .f32⟩
  | .hbm, ⟨5, _⟩ => ⟨S2048x4096, .f32⟩
  | .hbm, ⟨6, _⟩ => ⟨S4096, .f32⟩
  | .hbm, ⟨7, _⟩ => ⟨S1x4096, .f32⟩
  | .hbm, ⟨8, _⟩ => ⟨S2048x4096, .f32⟩
  | .hbm, ⟨9, _⟩ => ⟨S2048x4096, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S_, .f32⟩
  | .hbm, ⟨16, _⟩ => ⟨S2048x4096, .f32⟩
  | .hbm, ⟨17, _⟩ => ⟨S2048x4096, .f32⟩
  | .hbm, ⟨18, _⟩ => ⟨S_, .f32⟩
  | .hbm, ⟨19, _⟩ => ⟨S2048x4096, .f32⟩
  | .hbm, ⟨20, _⟩ => ⟨S2048x4096, .f32⟩
  | .hbm, ⟨21, _⟩ => ⟨S2048x4096, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x4096, .f32⟩
  | .hbm, ⟨34, _⟩ => ⟨S2048x4096, .f32⟩
  | .hbm, ⟨35, _⟩ => ⟨S_, .f32⟩
  | .hbm, ⟨36, _⟩ => ⟨S4096, .f32⟩
  | .hbm, ⟨37, _⟩ => ⟨S1x4096, .f32⟩
  | .hbm, ⟨38, _⟩ => ⟨S_, .f32⟩
  | .hbm, ⟨39, _⟩ => ⟨S4096, .f32⟩
  | .hbm, ⟨40, _⟩ => ⟨S1x4096, .f32⟩
  | .hbm, ⟨41, _⟩ => ⟨S2048x4096, .bf16⟩
  | .hbm, ⟨42, _⟩ => ⟨S2048x2048, .bf16⟩
  | .hbm, ⟨43, _⟩ => ⟨S2048x2048, .bf16⟩
  | .hbm, ⟨44, _⟩ => ⟨S1x2048, .f32⟩
  | .hbm, ⟨45, _⟩ => ⟨S1x2048, .f32⟩
  | .hbm, ⟨46, _⟩ => ⟨S2048x2048, .bf16⟩
  | .hbm, ⟨47, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== NormFwd.lean ====
abbrev S2048x2048 : Shape := ⟨2, ![2048, 2048]⟩
abbrev S1x2048 : Shape := ⟨2, ![1, 2048]⟩
abbrev S2048x1 : Shape := ⟨2, ![2048, 1]⟩
abbrev S256x2048 : Shape := ⟨2, ![256, 2048]⟩
abbrev S256x1 : Shape := ⟨2, ![256, 1]⟩
abbrev S256 : Shape := ⟨1, ![256]⟩

abbrev nBuf : Space → Nat
  | .hbm => 8
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .hbm, ⟨6, _⟩ => ⟨S2048x2048, .f32⟩
  | .hbm, ⟨7, _⟩ => ⟨S2048x1, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S256x2048, .f32⟩
  | .local _ .vmem, ⟨11, _⟩ => ⟨S256x2048, .f32⟩
  | .local _ .vmem, ⟨12, _⟩ => ⟨S256x1, .f32⟩
  | .local _ .vmem, ⟨13, _⟩ => ⟨S256x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== NormFwdReferenceIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 63
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S2048, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S2048x1, .f32⟩
  | .hbm, ⟨50, _⟩ => ⟨S2048x2048, .f32⟩
  | .hbm, ⟨51, _⟩ => ⟨S2048x2048, .f32⟩
  | .hbm, ⟨52, _⟩ => ⟨S1x2048, .f32⟩
  | .hbm, ⟨53, _⟩ => ⟨S2048x2048, .f32⟩
  | .hbm, ⟨54, _⟩ => ⟨S2048x2048, .f32⟩
  | .hbm, ⟨55, _⟩ => ⟨S1x2048, .f32⟩
  | .hbm, ⟨56, _⟩ => ⟨S2048x2048, .f32⟩
  | .hbm, ⟨57, _⟩ => ⟨S2048x2048, .f32⟩
  | .hbm, ⟨58, _⟩ => ⟨S2048x2048, .bf16⟩
  | .hbm, ⟨59, _⟩ => ⟨S2048x2048, .f32⟩
  | .hbm, ⟨60, _⟩ => ⟨S2048x2048, .f32⟩
  | .hbm, ⟨61, _⟩ => ⟨S2048x2048, .f32⟩
  | .hbm, ⟨62, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== NormBwd.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S256x2048 : Shape := ⟨2, ![256, 2048]⟩
abbrev S256x1 : Shape := ⟨2, ![256, 1]⟩
abbrev S256 : Shape := ⟨1, ![256]⟩

abbrev nBuf : Space → Nat
  | .hbm => 35
  | .vmem => 15
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .bf16⟩
  | .hbm, ⟨33, _⟩ => ⟨S1x2048, .f32⟩
  | .hbm, ⟨34, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x1, .f32⟩
  | .local _ .vmem, ⟨7, _⟩ => ⟨S256x1, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S1x2048, .f32⟩
  | .local _ .vmem, ⟨14, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_v19_2 : Ref sig .tc := ⟨.hbm, 33, rfl⟩
abbrev main_v19_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormBwdReferenceIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 99
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S2048x1, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S2048x2048, .f32⟩
  | .hbm, ⟨41, _⟩ => ⟨S2048x2048, .f32⟩
  | .hbm, ⟨42, _⟩ => ⟨S1x2048, .f32⟩
  | .hbm, ⟨43, _⟩ => ⟨S2048x2048, .f32⟩
  | .hbm, ⟨44, _⟩ => ⟨S2048x2048, .f32⟩
  | .hbm, ⟨45, _⟩ => ⟨S1x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S_, .f32⟩
  | .hbm, ⟨56, _⟩ => ⟨S2048, .f32⟩
  | .hbm, ⟨57, _⟩ => ⟨S2048x2048, .f32⟩
  | .hbm, ⟨58, _⟩ => ⟨S_, .f32⟩
  | .hbm, ⟨59, _⟩ => ⟨S2048, .f32⟩
  | .hbm, ⟨60, _⟩ => ⟨S1x2048, .f32⟩
  | .hbm, ⟨61, _⟩ => ⟨S2048x2048, .f32⟩
  | .hbm, ⟨62, _⟩ => ⟨S2048x2048, .f32⟩
  | .hbm, ⟨63, _⟩ => ⟨S_, .f32⟩
  | .hbm, ⟨64, _⟩ => ⟨S2048, .f32⟩
  | .hbm, ⟨65, _⟩ => ⟨S2048x2048, .f32⟩
  | .hbm, ⟨66, _⟩ => ⟨S_, .f32⟩
  | .hbm, ⟨67, _⟩ => ⟨S2048, .f32⟩
  | .hbm, ⟨68, _⟩ => ⟨S2048x1, .f32⟩
  | .hbm, ⟨69, _⟩ => ⟨S2048x2048, .f32⟩
  | .hbm, ⟨70, _⟩ => ⟨S2048x2048, .f32⟩
  | .hbm, ⟨71, _⟩ => ⟨S2048x1, .f32⟩
  | .hbm, ⟨72, _⟩ => ⟨S2048x2048, .f32⟩
  | .hbm, ⟨73, _⟩ => ⟨S_, .f32⟩
  | .hbm, ⟨74, _⟩ => ⟨S2048, .f32⟩
  | .hbm, ⟨75, _⟩ => ⟨S2048x1, .f32⟩
  | .hbm, ⟨76, _⟩ => ⟨S_, .f32⟩
  | .hbm, ⟨77, _⟩ => ⟨S2048x1, .f32⟩
  | .hbm, ⟨78, _⟩ => ⟨S2048x1, .f32⟩
  | .hbm, ⟨79, _⟩ => ⟨S_, .f32⟩
  | .hbm, ⟨80, _⟩ => ⟨S2048, .f32⟩
  | .hbm, ⟨81, _⟩ => ⟨S2048x2048, .f32⟩
  | .hbm, ⟨82, _⟩ => ⟨S2048x2048, .f32⟩
  | .hbm, ⟨83, _⟩ => ⟨S2048x2048, .f32⟩
  | .hbm, ⟨84, _⟩ => ⟨S_, .f32⟩
  | .hbm, ⟨85, _⟩ => ⟨S2048, .f32⟩
  | .hbm, ⟨86, _⟩ => ⟨S2048x1, .f32⟩
  | .hbm, ⟨87, _⟩ => ⟨S2048x2048, .f32⟩
  | .hbm, ⟨88, _⟩ => ⟨S2048x1, .f32⟩
  | .hbm, ⟨89, _⟩ => ⟨S_, .f32⟩
  | .hbm, ⟨90, _⟩ => ⟨S2048x1, .f32⟩
  | .hbm, ⟨91, _⟩ => ⟨S2048x1, .f32⟩
  | .hbm, ⟨92, _⟩ => ⟨S_, .f32⟩
  | .hbm, ⟨93, _⟩ => ⟨S2048, .f32⟩
  | .hbm, ⟨94, _⟩ => ⟨S2048x2048, .f32⟩
  | .hbm, ⟨95, _⟩ => ⟨S2048x2048, .f32⟩
  | .hbm, ⟨96, _⟩ => ⟨S1x2048, .f32⟩
  | .hbm, ⟨97, _⟩ => ⟨S1x2048, .f32⟩
  | .hbm, ⟨98, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_11 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_13 : Ref sig .tc := ⟨.hbm, 73, rfl⟩
abbrev main_v53 : Ref sig .tc := ⟨.hbm, 74, rfl⟩
abbrev main_v54 : Ref sig .tc := ⟨.hbm, 75, rfl⟩
abbrev main_cst_14 : Ref sig .tc := ⟨.hbm, 76, rfl⟩
abbrev main_v55 : Ref sig .tc := ⟨.hbm, 77, rfl⟩
abbrev main_v56 : Ref sig .tc := ⟨.hbm, 78, rfl⟩
abbrev main_cst_15 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_16 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_17 : Ref sig .tc := ⟨.hbm, 89, rfl⟩
abbrev main_v65 : Ref sig .tc := ⟨.hbm, 90, rfl⟩
abbrev main_v66 : Ref sig .tc := ⟨.hbm, 91, rfl⟩
abbrev main_cst_18 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩

abbrev nD : Nat := 1
abbrev τ : Topo := Topo.v7x

variable {F : FTy → Type} [FloatOps F]
-- ==== GateFwd.lean ====
abbrev S2048x2048 : Shape := ⟨2, ![2048, 2048]⟩
abbrev S2048x11776 : Shape := ⟨2, ![2048, 11776]⟩
abbrev S1x4096 : Shape := ⟨2, ![1, 4096]⟩
abbrev S512x512 : Shape := ⟨2, ![512, 512]⟩
abbrev S1x512 : Shape := ⟨2, ![1, 512]⟩

abbrev nBuf : Space → Nat
  | .hbm => 5
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x11776, .f32⟩
  | .hbm, ⟨3, _⟩ => ⟨S1x4096, .f32⟩
  | .hbm, ⟨4, _⟩ => ⟨S2048x2048, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S512x512, .bf16⟩
  | .local _ .vmem, ⟨13, _⟩ => ⟨S512x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.addi c19_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== GateFwdReferenceIdeal.lean ====
abbrev S2048x2048 : Shape := ⟨2, ![2048, 2048]⟩
abbrev S2048x11776 : Shape := ⟨2, ![2048, 11776]⟩
abbrev S1x4096 : Shape := ⟨2, ![1, 4096]⟩
abbrev S2048x4096 : Shape := ⟨2, ![2048, 4096]⟩
abbrev S4096 : Shape := ⟨1, ![4096]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x11776, .f32⟩
  | .hbm, ⟨3, _⟩ => ⟨S1x4096, .f32⟩
  | .hbm, ⟨4, _⟩ => ⟨S2048x4096, .f32⟩
  | .hbm, ⟨5, _⟩ => ⟨S4096, .f32⟩
  | .hbm, ⟨6, _⟩ => ⟨S1x4096, .f32⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S2048x4096, .f32⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S_, .f32⟩
  | .hbm, ⟨15, _⟩ => ⟨S2048x4096, .f32⟩
  | .hbm, ⟨16, _⟩ => ⟨S2048x4096, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== GateXGrad.lean ====
abbrev S2048x2560 : Shape := ⟨2, ![2048, 2560]⟩
abbrev S4x640x640 : Shape := ⟨3, ![4, 640, 640]⟩
abbrev S512x640 : Shape := ⟨2, ![512, 640]⟩
abbrev S1x640x640 : Shape := ⟨3, ![1, 640, 640]⟩
abbrev S640x640 : Shape := ⟨2, ![640, 640]⟩

abbrev nBuf : Space → Nat
  | .hbm => 8
  | .vmem => 12
  | .smem => 0
  | _ => 0

abbrev bufTy : (tb : Table) → Fin (tcTables nBuf tb) → BufTy
  | .hbm, ⟨0, _⟩ => ⟨S2048x2560, .f32⟩
  | .hbm, ⟨1, _⟩ => ⟨S2048x2560, .f32⟩
  | .hbm, ⟨2, _⟩ => ⟨S4x640x640, .f32⟩
  | .hbm, ⟨3, _⟩ => ⟨S4x640x640, .f32⟩
  | .hbm, ⟨4, _⟩ => ⟨S2048x2560, .f32⟩
  | .hbm, ⟨5, _⟩ => ⟨S2048x2560, .bf16⟩
  | .hbm, ⟨6, _⟩ => ⟨S2048x2560, .bf16⟩
  | .hbm, ⟨7, _⟩ => ⟨S2048x2560, .f32⟩
  | .local _ .vmem, ⟨0, _⟩ => ⟨S512x640, .bf16⟩
  | .local _ .vmem, ⟨1, _⟩ => ⟨S512x640, .bf16⟩
  | .local _ .vmem, ⟨2, _⟩ => ⟨S512x640, .bf16⟩
  | .local _ .vmem, ⟨3, _⟩ => ⟨S512x640, .bf16⟩
  | .local _ .vmem, ⟨4, _⟩ => ⟨S1x640x640, .f32⟩
  | .local _ .vmem, ⟨5, _⟩ => ⟨S1x640x640, .f32⟩
  | .local _ .vmem, ⟨6, _⟩ => ⟨S1x640x640, .f32⟩
  | .local _ .vmem, ⟨7, _⟩ => ⟨S1x640x640, .f32⟩
  | .local _ .vmem, ⟨8, _⟩ => ⟨S512x640, .f32⟩
  | .local _ .vmem, ⟨9, _⟩ => ⟨S512x640, .f32⟩
  | .local _ .vmem, ⟨10, _⟩ => ⟨S512x640, .f32⟩
  | .local _ .vmem, ⟨11, _⟩ => ⟨S512x640, .f32⟩
  | _, _ => ⟨S2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x640x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x640x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateXGradReferenceIdeal.lean ====
abbrev S2048x2560 : Shape := ⟨2, ![2048, 2560]⟩
abbrev S4x640x640 : Shape := ⟨3, ![4, 640, 640]⟩
abbrev S2048x4x640 : Shape := ⟨3, ![2048, 4, 640]⟩
abbrev S4x640x2048 : Shape := ⟨3, ![4, 640, 2048]⟩
abbrev S4x2048x640 : Shape := ⟨3, ![4, 2048, 640]⟩

abbrev nBuf : Space → Nat
  | .hbm => 23
  | .vmem => 0
  | .smem => 0
  | _ => 0

abbrev bufTy : (tb : Table) → Fin (tcTables nBuf tb) → BufTy
  | .hbm, ⟨0, _⟩ => ⟨S2048x2560, .f32⟩
  | .hbm, ⟨1, _⟩ => ⟨S2048x2560, .f32⟩
  | .hbm, ⟨2, _⟩ => ⟨S4x640x640, .f32⟩
  | .hbm, ⟨3, _⟩ => ⟨S4x640x640, .f32⟩
  | .hbm, ⟨4, _⟩ => ⟨S2048x2560, .f32⟩
  | .hbm, ⟨5, _⟩ => ⟨S2048x4x640, .f32⟩
  | .hbm, ⟨6, _⟩ => ⟨S4x640x2048, .f32⟩
  | .hbm, ⟨7, _⟩ => ⟨S2048x4x640, .f32⟩
  | .hbm, ⟨8, _⟩ => ⟨S4x640x2048, .f32⟩
  | .hbm, ⟨9, _⟩ => ⟨S2048x4x640, .f32⟩
  | .hbm, ⟨10, _⟩ => ⟨S2048x2560, .f32⟩
  | .hbm, ⟨11, _⟩ => ⟨S2048x2560, .f32⟩
  | .hbm, ⟨12, _⟩ => ⟨S2048x4x640, .f32⟩
  | .hbm, ⟨13, _⟩ => ⟨S2048x4x640, .f32⟩
  | .hbm, ⟨14, _⟩ => ⟨S4x640x2048, .f32⟩
  | .hbm, ⟨15, _⟩ => ⟨S4x2048x640, .f32⟩
  | .hbm, ⟨16, _⟩ => ⟨S2048x4x640, .f32⟩
  | .hbm, ⟨17, _⟩ => ⟨S4x640x2048, .f32⟩
  | .hbm, ⟨18, _⟩ => ⟨S4x2048x640, .f32⟩
  | .hbm, ⟨19, _⟩ => ⟨S2048x4x640, .f32⟩
  | .hbm, ⟨20, _⟩ => ⟨S2048x4x640, .f32⟩
  | .hbm, ⟨21, _⟩ => ⟨S2048x2560, .f32⟩
  | .hbm, ⟨22, _⟩ => ⟨S2048x2560, .f32⟩
  | _, _ => ⟨S2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== LruGates.lean ====
abbrev S2048x2560 : Shape := ⟨2, ![2048, 2560]⟩
abbrev S4x640x640 : Shape := ⟨3, ![4, 640, 640]⟩
abbrev S1x2560 : Shape := ⟨2, ![1, 2560]⟩
abbrev S512x640 : Shape := ⟨2, ![512, 640]⟩
abbrev S1x640x640 : Shape := ⟨3, ![1, 640, 640]⟩
abbrev S1x640 : Shape := ⟨2, ![1, 640]⟩
abbrev S640x640 : Shape := ⟨2, ![640, 640]⟩

abbrev nBuf : Space → Nat
  | .hbm => 7
  | .vmem => 14
  | .smem => 0
  | _ => 0

abbrev bufTy : (tb : Table) → Fin (tcTables nBuf tb) → BufTy
  | .hbm, ⟨0, _⟩ => ⟨S2048x2560, .f32⟩
  | .hbm, ⟨1, _⟩ => ⟨S4x640x640, .f32⟩
  | .hbm, ⟨2, _⟩ => ⟨S4x640x640, .f32⟩
  | .hbm, ⟨3, _⟩ => ⟨S1x2560, .f32⟩
  | .hbm, ⟨4, _⟩ => ⟨S1x2560, .f32⟩
  | .hbm, ⟨5, _⟩ => ⟨S2048x2560, .f32⟩
  | .hbm, ⟨6, _⟩ => ⟨S2048x2560, .f32⟩
  | .local _ .vmem, ⟨0, _⟩ => ⟨S512x640, .f32⟩
  | .local _ .vmem, ⟨1, _⟩ => ⟨S512x640, .f32⟩
  | .local _ .vmem, ⟨2, _⟩ => ⟨S1x640x640, .f32⟩
  | .local _ .vmem, ⟨3, _⟩ => ⟨S1x640x640, .f32⟩
  | .local _ .vmem, ⟨4, _⟩ => ⟨S1x640x640, .f32⟩
  | .local _ .vmem, ⟨5, _⟩ => ⟨S1x640x640, .f32⟩
  | .local _ .vmem, ⟨6, _⟩ => ⟨S1x640, .f32⟩
  | .local _ .vmem, ⟨7, _⟩ => ⟨S1x640, .f32⟩
  | .local _ .vmem, ⟨8, _⟩ => ⟨S1x640, .f32⟩
  | .local _ .vmem, ⟨9, _⟩ => ⟨S1x640, .f32⟩
  | .local _ .vmem, ⟨10, _⟩ => ⟨S512x640, .f32⟩
  | .local _ .vmem, ⟨11, _⟩ => ⟨S512x640, .f32⟩
  | .local _ .vmem, ⟨12, _⟩ => ⟨S512x640, .f32⟩
  | .local _ .vmem, ⟨13, _⟩ => ⟨S512x640, .f32⟩
  | _, _ => ⟨S2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x640x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x640x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== LruGatesReferenceIdeal.lean ====
abbrev S2048x2560 : Shape := ⟨2, ![2048, 2560]⟩
abbrev S4x640x640 : Shape := ⟨3, ![4, 640, 640]⟩
abbrev S1x2560 : Shape := ⟨2, ![1, 2560]⟩
abbrev S2048x4x640 : Shape := ⟨3, ![2048, 4, 640]⟩
abbrev S4x640x2048 : Shape := ⟨3, ![4, 640, 2048]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S2048x2560, .f32⟩
  | .hbm, ⟨1, _⟩ => ⟨S4x640x640, .f32⟩
  | .hbm, ⟨2, _⟩ => ⟨S4x640x640, .f32⟩
  | .hbm, ⟨3, _⟩ => ⟨S1x2560, .f32⟩
  | .hbm, ⟨4, _⟩ => ⟨S1x2560, .f32⟩
  | .hbm, ⟨5, _⟩ => ⟨S2048x4x640, .f32⟩
  | .hbm, ⟨6, _⟩ => ⟨S4x640x2048, .f32⟩
  | .hbm, ⟨7, _⟩ => ⟨S2048x4x640, .f32⟩
  | .hbm, ⟨8, _⟩ => ⟨S4x640x2048, .f32⟩
  | .hbm, ⟨9, _⟩ => ⟨S2048x4x640, .f32⟩
  | .hbm, ⟨10, _⟩ => ⟨S2048x2560, .f32⟩
  | .hbm, ⟨11, _⟩ => ⟨S2048x2560, .f32⟩
  | .hbm, ⟨12, _⟩ => ⟨S2048x2560, .f32⟩
  | .hbm, ⟨13, _⟩ => ⟨S2048x2560, .f32⟩
  | .hbm, ⟨14, _⟩ => ⟨S2048x2560, .f32⟩
  | .hbm, ⟨15, _⟩ => ⟨S2048x2560, .f32⟩
  | .hbm, ⟨16, _⟩ => ⟨S_, .f32⟩
  | .hbm, ⟨17, _⟩ => ⟨S2048x2560, .f32⟩
  | .hbm, ⟨18, _⟩ => ⟨S2048x2560, .f32⟩
  | .hbm, ⟨19, _⟩ => ⟨S_, .f32⟩
  | .hbm, ⟨20, _⟩ => ⟨S2048x2560, .f32⟩
  | .hbm, ⟨21, _⟩ => ⟨S2048x2560, .f32⟩
  | .hbm, ⟨22, _⟩ => ⟨S2048x2560, .f32⟩
  | .hbm, ⟨23, _⟩ => ⟨S2048x2560, .f32⟩
  | .hbm, ⟨24, _⟩ => ⟨S2048x2560, .f32⟩
  | .hbm, ⟨25, _⟩ => ⟨S2048x2560, .f32⟩
  | .hbm, ⟨26, _⟩ => ⟨S_, .f32⟩
  | .hbm, ⟨27, _⟩ => ⟨S2048x2560, .f32⟩
  | .hbm, ⟨28, _⟩ => ⟨S2048x2560, .f32⟩
  | .hbm, ⟨29, _⟩ => ⟨S_, .f32⟩
  | .hbm, ⟨30, _⟩ => ⟨S2048x2560, .f32⟩
  | .hbm, ⟨31, _⟩ => ⟨S2048x2560, .f32⟩
  | _, _ => ⟨S2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== AdamW.lean ====
abbrev S1x16x160x160 : Shape := ⟨4, ![1, 16, 160, 160]⟩
abbrev S1x2x160x160 : Shape := ⟨4, ![1, 2, 160, 160]⟩

abbrev nBuf : Space → Nat
  | .hbm => 7
  | .vmem => 14
  | .smem => 0
  | _ => 0

abbrev bufTy : (tb : Table) → Fin (tcTables nBuf tb) → BufTy
  | .hbm, ⟨0, _⟩ => ⟨S1x16x160x160, .f32⟩
  | .hbm, ⟨1, _⟩ => ⟨S1x16x160x160, .f32⟩
  | .hbm, ⟨2, _⟩ => ⟨S1x16x160x160, .f32⟩
  | .hbm, ⟨3, _⟩ => ⟨S1x16x160x160, .f32⟩
  | .hbm, ⟨4, _⟩ => ⟨S1x16x160x160, .f32⟩
  | .hbm, ⟨5, _⟩ => ⟨S1x16x160x160, .f32⟩
  | .hbm, ⟨6, _⟩ => ⟨S1x16x160x160, .f32⟩
  | .local _ .vmem, ⟨0, _⟩ => ⟨S1x2x160x160, .f32⟩
  | .local _ .vmem, ⟨1, _⟩ => ⟨S1x2x160x160, .f32⟩
  | .local _ .vmem, ⟨2, _⟩ => ⟨S1x2x160x160, .f32⟩
  | .local _ .vmem, ⟨3, _⟩ => ⟨S1x2x160x160, .f32⟩
  | .local _ .vmem, ⟨4, _⟩ => ⟨S1x2x160x160, .f32⟩
  | .local _ .vmem, ⟨5, _⟩ => ⟨S1x2x160x160, .f32⟩
  | .local _ .vmem, ⟨6, _⟩ => ⟨S1x2x160x160, .f32⟩
  | .local _ .vmem, ⟨7, _⟩ => ⟨S1x2x160x160, .f32⟩
  | .local _ .vmem, ⟨8, _⟩ => ⟨S1x2x160x160, .f32⟩
  | .local _ .vmem, ⟨9, _⟩ => ⟨S1x2x160x160, .f32⟩
  | .local _ .vmem, ⟨10, _⟩ => ⟨S1x2x160x160, .f32⟩
  | .local _ .vmem, ⟨11, _⟩ => ⟨S1x2x160x160, .f32⟩
  | .local _ .vmem, ⟨12, _⟩ => ⟨S1x2x160x160, .f32⟩
  | .local _ .vmem, ⟨13, _⟩ => ⟨S1x2x160x160, .f32⟩
  | _, _ => ⟨S1x16x160x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x2x160x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x160x160 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x160x160 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x160x160 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x160x160 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x160x160 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x160x160 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWReferenceIdeal.lean ====
abbrev S1x16x160x160 : Shape := ⟨4, ![1, 16, 160, 160]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x16x160x160, .f32⟩
  | .hbm, ⟨1, _⟩ => ⟨S1x16x160x160, .f32⟩
  | .hbm, ⟨2, _⟩ => ⟨S1x16x160x160, .f32⟩
  | .hbm, ⟨3, _⟩ => ⟨S1x16x160x160, .f32⟩
  | .hbm, ⟨4, _⟩ => ⟨S_, .f32⟩
  | .hbm, ⟨5, _⟩ => ⟨S1x16x160x160, .f32⟩
  | .hbm, ⟨6, _⟩ => ⟨S1x16x160x160, .f32⟩
  | .hbm, ⟨7, _⟩ => ⟨S_, .f32⟩
  | .hbm, ⟨8, _⟩ => ⟨S1x16x160x160, .f32⟩
  | .hbm, ⟨9, _⟩ => ⟨S1x16x160x160, .f32⟩
  | .hbm, ⟨10, _⟩ => ⟨S1x16x160x160, .f32⟩
  | .hbm, ⟨11, _⟩ => ⟨S_, .f32⟩
  | .hbm, ⟨12, _⟩ => ⟨S1x16x160x160, .f32⟩
  | .hbm, ⟨13, _⟩ => ⟨S1x16x160x160, .f32⟩
  | .hbm, ⟨14, _⟩ => ⟨S1x16x160x160, .f32⟩
  | .hbm, ⟨15, _⟩ => ⟨S_, .f32⟩
  | .hbm, ⟨16, _⟩ => ⟨S1x16x160x160, .f32⟩
  | .hbm, ⟨17, _⟩ => ⟨S1x16x160x160, .f32⟩
  | .hbm, ⟨18, _⟩ => ⟨S1x16x160x160, .f32⟩
  | .hbm, ⟨19, _⟩ => ⟨S_, .f32⟩
  | .hbm, ⟨20, _⟩ => ⟨S1x16x160x160, .f32⟩
  | .hbm, ⟨21, _⟩ => ⟨S1x16x160x160, .f32⟩
  | .hbm, ⟨22, _⟩ => ⟨S_, .f32⟩
  | .hbm, ⟨23, _⟩ => ⟨S1x16x160x160, .f32⟩
  | .hbm, ⟨24, _⟩ => ⟨S1x16x160x160, .f32⟩
  | .hbm, ⟨25, _⟩ => ⟨S1x16x160x160, .f32⟩
  | .hbm, ⟨26, _⟩ => ⟨S_, .f32⟩
  | .hbm, ⟨27, _⟩ => ⟨S1x16x160x160, .f32⟩
  | .hbm, ⟨28, _⟩ => ⟨S1x16x160x160, .f32⟩
  | .hbm, ⟨29, _⟩ => ⟨S1x16x160x160, .f32⟩
  | .hbm, ⟨30, _⟩ => ⟨S_, .f32⟩
  | .hbm, ⟨31, _⟩ => ⟨S1x16x160x160, .f32⟩
  | .hbm, ⟨32, _⟩ => ⟨S1x16x160x160, .f32⟩
  | .hbm, ⟨33, _⟩ => ⟨S1x16x160x160, .f32⟩
  | .hbm, ⟨34, _⟩ => ⟨S_, .f32⟩
  | .hbm, ⟨35, _⟩ => ⟨S1x16x160x160, .f32⟩
  | .hbm, ⟨36, _⟩ => ⟨S1x16x160x160, .f32⟩
  | _, _ => ⟨S1x16x160x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.KernelFrame.lean ====
/-
  The frame of the program at words: on every input the kernel runs to the end, leaves its arguments as they were
  and every semaphore counter at zero.  What the outputs hold is not named here; `Run.lean` names it for the
  idealized program.
-/
module

public import proofs.«01_k».proof.Proof.Gen.Kernel.Frame.Runs
public import Idealize.ShloMosaic.Lib.Claim

@[expose] public section

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (6, 7, 8, 9) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S1x8x64x2048 .bf16) (harg1 : arg1.IsWhole) (arg2 : Memref sig .tc .vmem S1x2176x64 .bf16) (harg2 : arg2.IsWhole) (arg3 : Memref sig .tc .vmem S1x64x2176 .bf16) (harg3 : arg3.IsWhole) (arg4 : Memref sig .tc .vmem S1x2176x64 .bf16) (harg4 : arg4.IsWhole) (arg5 : Memref sig .tc .vmem S1x1x1024 .f32) (harg5 : arg5.IsWhole) (arg6 : Memref sig .tc .vmem S1x8x64x2048 .bf16) (harg6 : arg6.IsWhole) (arg7 : Memref sig .tc .vmem S1x8x64x2048 .bf16) (harg7 : arg7.IsWhole) (arg8 : Memref sig .tc .vmem S1x2176x64 .f32) (harg8 : arg8.IsWhole) (arg9 : Memref sig .tc .vmem S1x2176x64 .f32) (harg9 : arg9.IsWhole) (arg10 : Memref sig .tc .vmem S1x8x1 .f32) (harg10 : arg10.IsWhole) (arg11 : Memref sig .tc .vmem S2x256x1024 .f32) (harg11 : arg11.IsWhole)
    (x0 : Vec F S1x8x64x2048 .bf16) (x1 : Vec F S1x2176x64 .bf16) (x2 : Vec F S1x64x2176 .bf16) (x3 : Vec F S1x2176x64 .bf16) (x4 : Vec F S1x1x1024 .f32) (x5 : Vec F S1x8x64x2048 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11) K := by
    intro E K
    simp only [cc0_attn_bwd_eq_skeleton]; unfold cc0_attn_bwd_skel
    simp only [k0_part7_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact HS0
    ipureintro; rfl

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of_run (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The pipeline's proof data -/

/-- The output windows this certificate FORGETS (6, 7, 8, 9): nothing reads what the kernel leaves in them, so nothing
    of it is named (Lib/Pipeline/Dat.lean `Dat.toRForget`). -/
def forgets0 : Fin 10 → Bool := fun w => w.val == 6 || w.val == 7 || w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  iintro ⟨H0, H1, H2, H3, H4, H5, H6, H7, H8, H9, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7, 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of_run m ρ (fun c => (dats m 0 c).toRForget forgets0) (A_eq m) (run_main m ρ)

/-- THE FRAME: the arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Frame

end
-- ==== Proof.Trip.lean ====
/-
  One trip of the attention gradient's loop over query blocks, as plain functions of the arrays that it loads:
  the queries and the output gradients of a block with the eight heads side by side, the scores of the block
  against its band of 256 keys, the probabilities, and what the trip stores and carries on.
-/
module

public import proofs.«01_k».proof.Proof.Gen.KernelIdeal.Loops
public import Idealize.ShloMosaic.Lib.VecWindow
public import Idealize.ShloMosaic.Lib.Pipeline.ValueKit

@[expose] public section

set_option maxRecDepth 16384

noncomputable section

namespace Cert.KernelIdeal.Trip

open Cert.KernelIdeal Cert.KernelIdeal.Gen Idealize.ShloMosaic Idealize.ShloMosaic.TcCoe Idealize.SL.Sem

variable {F : FTy → Type} [FloatOps F] [Named F]

/-- Block `k`'s queries, the eight heads of the group side by side. -/
def queries (x : Vec F S1x8x64x2048 .bf16) (k : Fin k0_t1_loop.trips) : FVec F S64x1024 .bf16 :=
  k0_pay1 (View.ld x (Rect.unit (s := S1x8x64x2048) (k0_off1 k) S1x1x64x128.size (k0_off1_inb k))) (View.ld x (Rect.unit (s := S1x8x64x2048) (k0_off2 k) S1x1x64x128.size (k0_off2_inb k))) (View.ld x (Rect.unit (s := S1x8x64x2048) (k0_off3 k) S1x1x64x128.size (k0_off3_inb k))) (View.ld x (Rect.unit (s := S1x8x64x2048) (k0_off4 k) S1x1x64x128.size (k0_off4_inb k))) (View.ld x (Rect.unit (s := S1x8x64x2048) (k0_off5 k) S1x1x64x128.size (k0_off5_inb k))) (View.ld x (Rect.unit (s := S1x8x64x2048) (k0_off6 k) S1x1x64x128.size (k0_off6_inb k))) (View.ld x (Rect.unit (s := S1x8x64x2048) (k0_off7 k) S1x1x64x128.size (k0_off7_inb k))) (View.ld x (Rect.unit (s := S1x8x64x2048) (k0_off8 k) S1x1x64x128.size (k0_off8_inb k)))

/-- Block `k`'s output gradients, the eight heads of the group side by side. -/
def cotangents (x : Vec F S1x8x64x2048 .bf16) (k : Fin k0_t1_loop.trips) : FVec F S64x1024 .bf16 :=
  k0_pay3 (k0_pay2 (View.ld x (Rect.unit (s := S1x8x64x2048) (k0_off1 k) S1x1x64x128.size (k0_off1_inb k)))) (View.ld x (Rect.unit (s := S1x8x64x2048) (k0_off2 k) S1x1x64x128.size (k0_off2_inb k))) (View.ld x (Rect.unit (s := S1x8x64x2048) (k0_off3 k) S1x1x64x128.size (k0_off3_inb k))) (View.ld x (Rect.unit (s := S1x8x64x2048) (k0_off4 k) S1x1x64x128.size (k0_off4_inb k))) (View.ld x (Rect.unit (s := S1x8x64x2048) (k0_off5 k) S1x1x64x128.size (k0_off5_inb k))) (View.ld x (Rect.unit (s := S1x8x64x2048) (k0_off6 k) S1x1x64x128.size (k0_off6_inb k))) (View.ld x (Rect.unit (s := S1x8x64x2048) (k0_off7 k) S1x1x64x128.size (k0_off7_inb k))) (View.ld x (Rect.unit (s := S1x8x64x2048) (k0_off8 k) S1x1x64x128.size (k0_off8_inb k)))

/-- Block `k`'s band of 256 rows: the block before it and the block itself. -/
def band {φ : EltTy} (x : Vec F S1x2176x64 φ) (k : Fin k0_t1_loop.trips) : Vec F S1x256x64 φ :=
  (View.ld x (Rect.unit (s := S1x2176x64) (k0_off9 k) S1x256x64.size (k0_off9_inb k)))

/-- The same band of the transposed keys. -/
def bandT (x : Vec F S1x64x2176 .bf16) (k : Fin k0_t1_loop.trips) : Vec F S1x64x256 .bf16 :=
  (View.ld x (Rect.unit (s := S1x64x2176) (k0_off11 k) S1x64x256.size (k0_off11_inb k)))

/-- Block `k`'s scores: key by (head, query). -/
def scores (xq : Vec F S1x8x64x2048 .bf16) (xk : Vec F S1x2176x64 .bf16) (xb : Vec F S2x256x1024 .f32) (k : Fin k0_t1_loop.trips) :
    FVec F S256x1024 .f32 :=
  k0_pay4 (queries xq k) (band xk k) (View.ld xb (Rect.unit (s := S2x256x1024) (k0_off10 k) S1x256x1024.size (k0_off10_inb k)))

/-- What the trip carries on. -/
theorem carried (𝒱 : Variants) (c : Dev nD) (bd : Option 𝒱.V) (i : grid0.Coords) (arg1 : Memref sig .tc .vmem S1x8x64x2048 .bf16) (harg1 : arg1.IsWhole) (arg2 : Memref sig .tc .vmem S1x2176x64 .bf16) (harg2 : arg2.IsWhole) (arg3 : Memref sig .tc .vmem S1x64x2176 .bf16) (harg3 : arg3.IsWhole) (arg4 : Memref sig .tc .vmem S1x2176x64 .bf16) (harg4 : arg4.IsWhole) (arg5 : Memref sig .tc .vmem S1x1x1024 .f32) (harg5 : arg5.IsWhole) (arg6 : Memref sig .tc .vmem S1x8x64x2048 .bf16) (harg6 : arg6.IsWhole) (arg7 : Memref sig .tc .vmem S1x8x64x2048 .bf16) (harg7 : arg7.IsWhole) (arg8 : Memref sig .tc .vmem S1x2176x64 .f32) (harg8 : arg8.IsWhole) (arg9 : Memref sig .tc .vmem S1x2176x64 .f32) (harg9 : arg9.IsWhole) (arg10 : Memref sig .tc .vmem S1x8x1 .f32) (harg10 : arg10.IsWhole) (arg11 : Memref sig .tc .vmem S2x256x1024 .f32) (harg11 : arg11.IsWhole) (v39 : Vec F S1x1x1024 .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (X_arg11 : BufTy.Contents (Elt F) arg11.view.ty) (k : Fin k0_t1_loop.trips) (acc : FVec F S1x1024 .f32) (f7 : BufTy.Contents (Elt F) arg7.view.ty) (f8 : BufTy.Contents (Elt F) arg8.view.ty) (f9 : BufTy.Contents (Elt F) arg9.view.ty) :
    tripR_k0_t1 𝒱 c bd i arg1 harg1 arg2 harg2 arg3 harg3 arg4 harg4 arg5 harg5 arg6 harg6 arg7 harg7 arg8 harg8 arg9 harg9 arg10 harg10 arg11 harg11 v39 X_arg1 X_arg2 X_arg3 X_arg4 X_arg6 X_arg11 k acc f7 f8 f9
      = k0_pay34 acc (k0_pay10 (k0_pay27 v39) (scores (arg1.view.read (Elt F) X_arg1) (arg2.view.read (Elt F) X_arg2) (arg11.view.read (Elt F) X_arg11) k)) (k0_pay12 (k0_pay27 v39) (cotangents (arg6.view.read (Elt F) X_arg6) k) (scores (arg1.view.read (Elt F) X_arg1) (arg2.view.read (Elt F) X_arg2) (arg11.view.read (Elt F) X_arg11) k) (band (arg4.view.read (Elt F) X_arg4) k)) := by
  unfold tripR_k0_t1 trip_k0_t1
  rfl

/-- What the trip stores into the keys' gradient: its band, the old rows added. -/
theorem pieces8 (𝒱 : Variants) (c : Dev nD) (bd : Option 𝒱.V) (i : grid0.Coords) (arg1 : Memref sig .tc .vmem S1x8x64x2048 .bf16) (harg1 : arg1.IsWhole) (arg2 : Memref sig .tc .vmem S1x2176x64 .bf16) (harg2 : arg2.IsWhole) (arg3 : Memref sig .tc .vmem S1x64x2176 .bf16) (harg3 : arg3.IsWhole) (arg4 : Memref sig .tc .vmem S1x2176x64 .bf16) (harg4 : arg4.IsWhole) (arg5 : Memref sig .tc .vmem S1x1x1024 .f32) (harg5 : arg5.IsWhole) (arg6 : Memref sig .tc .vmem S1x8x64x2048 .bf16) (harg6 : arg6.IsWhole) (arg7 : Memref sig .tc .vmem S1x8x64x2048 .bf16) (harg7 : arg7.IsWhole) (arg8 : Memref sig .tc .vmem S1x2176x64 .f32) (harg8 : arg8.IsWhole) (arg9 : Memref sig .tc .vmem S1x2176x64 .f32) (harg9 : arg9.IsWhole) (arg10 : Memref sig .tc .vmem S1x8x1 .f32) (harg10 : arg10.IsWhole) (arg11 : Memref sig .tc .vmem S2x256x1024 .f32) (harg11 : arg11.IsWhole) (v39 : Vec F S1x1x1024 .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (X_arg11 : BufTy.Contents (Elt F) arg11.view.ty) (k : Fin k0_t1_loop.trips) (acc : FVec F S1x1024 .f32) (f7 : BufTy.Contents (Elt F) arg7.view.ty) (f8 : BufTy.Contents (Elt F) arg8.view.ty) (f9 : BufTy.Contents (Elt F) arg9.view.ty) :
    (tripL_k0_t1 𝒱 c bd i arg1 harg1 arg2 harg2 arg3 harg3 arg4 harg4 arg5 harg5 arg6 harg6 arg7 harg7 arg8 harg8 arg9 harg9 arg10 harg10 arg11 harg11 v39 X_arg1 X_arg2 X_arg3 X_arg4 X_arg6 X_arg11 k acc f7 f8 f9).2.1
      = [⟨Rect.unit (s := S1x2176x64) (k0_off9 k) S1x256x64.size (k0_off9_inb k),
          k0_pay32 (queries (arg1.view.read (Elt F) X_arg1) k) (k0_pay13 (k0_pay27 v39) (cotangents (arg6.view.read (Elt F) X_arg6) k) (scores (arg1.view.read (Elt F) X_arg1) (arg2.view.read (Elt F) X_arg2) (arg11.view.read (Elt F) X_arg11) k) (band (arg4.view.read (Elt F) X_arg4) k)) (band (arg8.view.read (Elt F) f8) k)⟩] := by
  unfold tripL_k0_t1 trip_k0_t1
  rfl

/-- What the trip stores into the values' gradient: its band, the old rows added. -/
theorem pieces9 (𝒱 : Variants) (c : Dev nD) (bd : Option 𝒱.V) (i : grid0.Coords) (arg1 : Memref sig .tc .vmem S1x8x64x2048 .bf16) (harg1 : arg1.IsWhole) (arg2 : Memref sig .tc .vmem S1x2176x64 .bf16) (harg2 : arg2.IsWhole) (arg3 : Memref sig .tc .vmem S1x64x2176 .bf16) (harg3 : arg3.IsWhole) (arg4 : Memref sig .tc .vmem S1x2176x64 .bf16) (harg4 : arg4.IsWhole) (arg5 : Memref sig .tc .vmem S1x1x1024 .f32) (harg5 : arg5.IsWhole) (arg6 : Memref sig .tc .vmem S1x8x64x2048 .bf16) (harg6 : arg6.IsWhole) (arg7 : Memref sig .tc .vmem S1x8x64x2048 .bf16) (harg7 : arg7.IsWhole) (arg8 : Memref sig .tc .vmem S1x2176x64 .f32) (harg8 : arg8.IsWhole) (arg9 : Memref sig .tc .vmem S1x2176x64 .f32) (harg9 : arg9.IsWhole) (arg10 : Memref sig .tc .vmem S1x8x1 .f32) (harg10 : arg10.IsWhole) (arg11 : Memref sig .tc .vmem S2x256x1024 .f32) (harg11 : arg11.IsWhole) (v39 : Vec F S1x1x1024 .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (X_arg11 : BufTy.Contents (Elt F) arg11.view.ty) (k : Fin k0_t1_loop.trips) (acc : FVec F S1x1024 .f32) (f7 : BufTy.Contents (Elt F) arg7.view.ty) (f8 : BufTy.Contents (Elt F) arg8.view.ty) (f9 : BufTy.Contents (Elt F) arg9.view.ty) :
    (tripL_k0_t1 𝒱 c bd i arg1 harg1 arg2 harg2 arg3 harg3 arg4 harg4 arg5 harg5 arg6 harg6 arg7 harg7 arg8 harg8 arg9 harg9 arg10 harg10 arg11 harg11 v39 X_arg1 X_arg2 X_arg3 X_arg4 X_arg6 X_arg11 k acc f7 f8 f9).2.2
      = [⟨Rect.unit (s := S1x2176x64) (k0_off9 k) S1x256x64.size (k0_off9_inb k),
          k0_pay33 (cotangents (arg6.view.read (Elt F) X_arg6) k) (k0_pay9 (k0_pay27 v39) (scores (arg1.view.read (Elt F) X_arg1) (arg2.view.read (Elt F) X_arg2) (arg11.view.read (Elt F) X_arg11) k)) (band (arg9.view.read (Elt F) f9) k)⟩] := by
  unfold tripL_k0_t1 trip_k0_t1
  rfl

/-- What the trip stores into the queries' gradient: one slab per head. -/
theorem pieces7 (𝒱 : Variants) (c : Dev nD) (bd : Option 𝒱.V) (i : grid0.Coords) (arg1 : Memref sig .tc .vmem S1x8x64x2048 .bf16) (harg1 : arg1.IsWhole) (arg2 : Memref sig .tc .vmem S1x2176x64 .bf16) (harg2 : arg2.IsWhole) (arg3 : Memref sig .tc .vmem S1x64x2176 .bf16) (harg3 : arg3.IsWhole) (arg4 : Memref sig .tc .vmem S1x2176x64 .bf16) (harg4 : arg4.IsWhole) (arg5 : Memref sig .tc .vmem S1x1x1024 .f32) (harg5 : arg5.IsWhole) (arg6 : Memref sig .tc .vmem S1x8x64x2048 .bf16) (harg6 : arg6.IsWhole) (arg7 : Memref sig .tc .vmem S1x8x64x2048 .bf16) (harg7 : arg7.IsWhole) (arg8 : Memref sig .tc .vmem S1x2176x64 .f32) (harg8 : arg8.IsWhole) (arg9 : Memref sig .tc .vmem S1x2176x64 .f32) (harg9 : arg9.IsWhole) (arg10 : Memref sig .tc .vmem S1x8x1 .f32) (harg10 : arg10.IsWhole) (arg11 : Memref sig .tc .vmem S2x256x1024 .f32) (harg11 : arg11.IsWhole) (v39 : Vec F S1x1x1024 .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (X_arg11 : BufTy.Contents (Elt F) arg11.view.ty) (k : Fin k0_t1_loop.trips) (acc : FVec F S1x1024 .f32) (f7 : BufTy.Contents (Elt F) arg7.view.ty) (f8 : BufTy.Contents (Elt F) arg8.view.ty) (f9 : BufTy.Contents (Elt F) arg9.view.ty) :
    (tripL_k0_t1 𝒱 c bd i arg1 harg1 arg2 harg2 arg3 harg3 arg4 harg4 arg5 harg5 arg6 harg6 arg7 harg7 arg8 harg8 arg9 harg9 arg10 harg10 arg11 harg11 v39 X_arg1 X_arg2 X_arg3 X_arg4 X_arg6 X_arg11 k acc f7 f8 f9).1
      = [⟨Rect.unit (s := S1x8x64x2048) (k0_off8 k) S1x1x64x128.size (k0_off8_inb k), k0_pay31 (k0_pay23 (k0_pay14 (k0_pay27 v39) (cotangents (arg6.view.read (Elt F) X_arg6) k) (scores (arg1.view.read (Elt F) X_arg1) (arg2.view.read (Elt F) X_arg2) (arg11.view.read (Elt F) X_arg11) k) (band (arg4.view.read (Elt F) X_arg4) k) (bandT (arg3.view.read (Elt F) X_arg3) k)))⟩,
         ⟨Rect.unit (s := S1x8x64x2048) (k0_off7 k) S1x1x64x128.size (k0_off7_inb k), k0_pay22 (k0_pay14 (k0_pay27 v39) (cotangents (arg6.view.read (Elt F) X_arg6) k) (scores (arg1.view.read (Elt F) X_arg1) (arg2.view.read (Elt F) X_arg2) (arg11.view.read (Elt F) X_arg11) k) (band (arg4.view.read (Elt F) X_arg4) k) (bandT (arg3.view.read (Elt F) X_arg3) k))⟩,
         ⟨Rect.unit (s := S1x8x64x2048) (k0_off6 k) S1x1x64x128.size (k0_off6_inb k), k0_pay21 (k0_pay14 (k0_pay27 v39) (cotangents (arg6.view.read (Elt F) X_arg6) k) (scores (arg1.view.read (Elt F) X_arg1) (arg2.view.read (Elt F) X_arg2) (arg11.view.read (Elt F) X_arg11) k) (band (arg4.view.read (Elt F) X_arg4) k) (bandT (arg3.view.read (Elt F) X_arg3) k))⟩,
         ⟨Rect.unit (s := S1x8x64x2048) (k0_off5 k) S1x1x64x128.size (k0_off5_inb k), k0_pay20 (k0_pay14 (k0_pay27 v39) (cotangents (arg6.view.read (Elt F) X_arg6) k) (scores (arg1.view.read (Elt F) X_arg1) (arg2.view.read (Elt F) X_arg2) (arg11.view.read (Elt F) X_arg11) k) (band (arg4.view.read (Elt F) X_arg4) k) (bandT (arg3.view.read (Elt F) X_arg3) k))⟩,
         ⟨Rect.unit (s := S1x8x64x2048) (k0_off4 k) S1x1x64x128.size (k0_off4_inb k), k0_pay19 (k0_pay14 (k0_pay27 v39) (cotangents (arg6.view.read (Elt F) X_arg6) k) (scores (arg1.view.read (Elt F) X_arg1) (arg2.view.read (Elt F) X_arg2) (arg11.view.read (Elt F) X_arg11) k) (band (arg4.view.read (Elt F) X_arg4) k) (bandT (arg3.view.read (Elt F) X_arg3) k))⟩,
         ⟨Rect.unit (s := S1x8x64x2048) (k0_off3 k) S1x1x64x128.size (k0_off3_inb k), k0_pay18 (k0_pay14 (k0_pay27 v39) (cotangents (arg6.view.read (Elt F) X_arg6) k) (scores (arg1.view.read (Elt F) X_arg1) (arg2.view.read (Elt F) X_arg2) (arg11.view.read (Elt F) X_arg11) k) (band (arg4.view.read (Elt F) X_arg4) k) (bandT (arg3.view.read (Elt F) X_arg3) k))⟩,
         ⟨Rect.unit (s := S1x8x64x2048) (k0_off2 k) S1x1x64x128.size (k0_off2_inb k), k0_pay17 (k0_pay16 (k0_pay27 v39) (cotangents (arg6.view.read (Elt F) X_arg6) k) (scores (arg1.view.read (Elt F) X_arg1) (arg2.view.read (Elt F) X_arg2) (arg11.view.read (Elt F) X_arg11) k) (band (arg4.view.read (Elt F) X_arg4) k) (bandT (arg3.view.read (Elt F) X_arg3) k))⟩,
         ⟨Rect.unit (s := S1x8x64x2048) (k0_off1 k) S1x1x64x128.size (k0_off1_inb k), k0_pay15 (k0_pay27 v39) (cotangents (arg6.view.read (Elt F) X_arg6) k) (scores (arg1.view.read (Elt F) X_arg1) (arg2.view.read (Elt F) X_arg2) (arg11.view.read (Elt F) X_arg11) k) (band (arg4.view.read (Elt F) X_arg4) k) (bandT (arg3.view.read (Elt F) X_arg3) k)⟩] := by
  unfold tripL_k0_t1 trip_k0_t1
  rfl

end Cert.KernelIdeal.Trip

end
-- ==== Proof.Block.lean ====
/-
  What the loop over query blocks leaves behind, without any memory in it: the carried row and the three gradient
  blocks as recursions over the trips, and the proof that the pieces which the trips store read back as these.
-/
module

public import proofs.«01_k».proof.Proof.Trip

@[expose] public section

set_option maxRecDepth 16384

noncomputable section

namespace Cert.KernelIdeal.Block

open Cert.KernelIdeal Cert.KernelIdeal.Gen Cert.KernelIdeal.Trip Idealize.ShloMosaic Idealize.ShloMosaic.TcCoe Idealize.SL.Sem

variable {F : FTy → Type} [FloatOps F] [Named F]

/-- The carried row (minus the sum of the sink's probability times the row's delta), one trip on. -/
def carryStep (x0 : Vec F S1x8x64x2048 .bf16) (x1 : Vec F S1x2176x64 .bf16) (x2 : Vec F S1x64x2176 .bf16) (x3 : Vec F S1x2176x64 .bf16) (x4 : Vec F S1x1x1024 .f32) (x5 : Vec F S1x8x64x2048 .bf16) (b : Vec F S2x256x1024 .f32) (k : Fin k0_t1_loop.trips)
    (acc : FVec F S1x1024 .f32) : FVec F S1x1024 .f32 :=
  k0_pay34 acc (k0_pay10 (k0_pay27 x4) (scores x0 x1 b k)) (k0_pay12 (k0_pay27 x4) (cotangents x5 k) (scores x0 x1 b k) (band x3 k))

/-- The queries' gradient, one trip on: block `k`'s columns of the eight heads. -/
def dqStep (x0 : Vec F S1x8x64x2048 .bf16) (x1 : Vec F S1x2176x64 .bf16) (x2 : Vec F S1x64x2176 .bf16) (x3 : Vec F S1x2176x64 .bf16) (x4 : Vec F S1x1x1024 .f32) (x5 : Vec F S1x8x64x2048 .bf16) (b : Vec F S2x256x1024 .f32) (k : Fin k0_t1_loop.trips)
    (d : Vec F S1x8x64x2048 .bf16) : Vec F S1x8x64x2048 .bf16 :=
  VecWindow.put (VecWindow.put (VecWindow.put (VecWindow.put (VecWindow.put (VecWindow.put (VecWindow.put (VecWindow.put (d)
    (k0_off1 k) S1x1x64x128.size (k0_pay15 (k0_pay27 x4) (cotangents x5 k) (scores x0 x1 b k) (band x3 k) (bandT x2 k)))
    (k0_off2 k) S1x1x64x128.size (k0_pay17 (k0_pay16 (k0_pay27 x4) (cotangents x5 k) (scores x0 x1 b k) (band x3 k) (bandT x2 k))))
    (k0_off3 k) S1x1x64x128.size (k0_pay18 (k0_pay14 (k0_pay27 x4) (cotangents x5 k) (scores x0 x1 b k) (band x3 k) (bandT x2 k))))
    (k0_off4 k) S1x1x64x128.size (k0_pay19 (k0_pay14 (k0_pay27 x4) (cotangents x5 k) (scores x0 x1 b k) (band x3 k) (bandT x2 k))))
    (k0_off5 k) S1x1x64x128.size (k0_pay20 (k0_pay14 (k0_pay27 x4) (cotangents x5 k) (scores x0 x1 b k) (band x3 k) (bandT x2 k))))
    (k0_off6 k) S1x1x64x128.size (k0_pay21 (k0_pay14 (k0_pay27 x4) (cotangents x5 k) (scores x0 x1 b k) (band x3 k) (bandT x2 k))))
    (k0_off7 k) S1x1x64x128.size (k0_pay22 (k0_pay14 (k0_pay27 x4) (cotangents x5 k) (scores x0 x1 b k) (band x3 k) (bandT x2 k))))
    (k0_off8 k) S1x1x64x128.size (k0_pay31 (k0_pay23 (k0_pay14 (k0_pay27 x4) (cotangents x5 k) (scores x0 x1 b k) (band x3 k) (bandT x2 k))))

/-- The keys' gradient, one trip on: block `k`'s band increased. -/
def dkStep (x0 : Vec F S1x8x64x2048 .bf16) (x1 : Vec F S1x2176x64 .bf16) (x2 : Vec F S1x64x2176 .bf16) (x3 : Vec F S1x2176x64 .bf16) (x4 : Vec F S1x1x1024 .f32) (x5 : Vec F S1x8x64x2048 .bf16) (b : Vec F S2x256x1024 .f32) (k : Fin k0_t1_loop.trips)
    (d : Vec F S1x2176x64 .f32) : Vec F S1x2176x64 .f32 :=
  VecWindow.put d (k0_off9 k) S1x256x64.size (k0_pay32 (queries x0 k) (k0_pay13 (k0_pay27 x4) (cotangents x5 k) (scores x0 x1 b k) (band x3 k)) (band d k))

/-- The values' gradient, one trip on: block `k`'s band increased. -/
def dvStep (x0 : Vec F S1x8x64x2048 .bf16) (x1 : Vec F S1x2176x64 .bf16) (x2 : Vec F S1x64x2176 .bf16) (x3 : Vec F S1x2176x64 .bf16) (x4 : Vec F S1x1x1024 .f32) (x5 : Vec F S1x8x64x2048 .bf16) (b : Vec F S2x256x1024 .f32) (k : Fin k0_t1_loop.trips)
    (d : Vec F S1x2176x64 .f32) : Vec F S1x2176x64 .f32 :=
  VecWindow.put d (k0_off9 k) S1x256x64.size (k0_pay33 (cotangents x5 k) (k0_pay9 (k0_pay27 x4) (scores x0 x1 b k)) (band d k))

/-- A step repeated for the trips before `k`. -/
def fold {α : Type} (step : Fin k0_t1_loop.trips → α → α) (a : α) : ℕ → α
  | 0 => a
  | k + 1 => if h : k < k0_t1_loop.trips then step ⟨k, h⟩ (fold step a k) else fold step a k

theorem fold_succ {α : Type} (step : Fin k0_t1_loop.trips → α → α) (a : α) (k : Fin k0_t1_loop.trips) :
    fold step a (k.val + 1) = step k (fold step a k.val) := by
  rw [fold, dif_pos k.isLt]

/-- The loop's state before trip `k`: the carried row, and what the stored pieces read back as. -/
theorem state_eq (𝒱 : Variants) (c : Dev nD) (bd : Option 𝒱.V) (i : grid0.Coords) (arg1 : Memref sig .tc .vmem S1x8x64x2048 .bf16) (harg1 : arg1.IsWhole) (arg2 : Memref sig .tc .vmem S1x2176x64 .bf16) (harg2 : arg2.IsWhole) (arg3 : Memref sig .tc .vmem S1x64x2176 .bf16) (harg3 : arg3.IsWhole) (arg4 : Memref sig .tc .vmem S1x2176x64 .bf16) (harg4 : arg4.IsWhole) (arg5 : Memref sig .tc .vmem S1x1x1024 .f32) (harg5 : arg5.IsWhole) (arg6 : Memref sig .tc .vmem S1x8x64x2048 .bf16) (harg6 : arg6.IsWhole) (arg7 : Memref sig .tc .vmem S1x8x64x2048 .bf16) (harg7 : arg7.IsWhole) (arg8 : Memref sig .tc .vmem S1x2176x64 .f32) (harg8 : arg8.IsWhole) (arg9 : Memref sig .tc .vmem S1x2176x64 .f32) (harg9 : arg9.IsWhole) (arg10 : Memref sig .tc .vmem S1x8x1 .f32) (harg10 : arg10.IsWhole) (arg11 : Memref sig .tc .vmem S2x256x1024 .f32) (harg11 : arg11.IsWhole) (v39 : Vec F S1x1x1024 .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (X_arg11 : BufTy.Contents (Elt F) arg11.view.ty)  (x0 : Vec F S1x8x64x2048 .bf16) (x1 : Vec F S1x2176x64 .bf16) (x2 : Vec F S1x64x2176 .bf16) (x3 : Vec F S1x2176x64 .bf16) (x4 : Vec F S1x1x1024 .f32) (x5 : Vec F S1x8x64x2048 .bf16) (b : Vec F S2x256x1024 .f32)
    (G7 : BufTy.Contents (Elt F) arg7.view.ty) (G8 : BufTy.Contents (Elt F) arg8.view.ty) (G9 : BufTy.Contents (Elt F) arg9.view.ty) (init : FVec F S1x1024 .f32)
    (h1 : arg1.view.read (Elt F) X_arg1 = x0) (h2 : arg2.view.read (Elt F) X_arg2 = x1) (h3 : arg3.view.read (Elt F) X_arg3 = x2)
    (h4 : arg4.view.read (Elt F) X_arg4 = x3) (h5 : v39 = x4) (h6 : arg6.view.read (Elt F) X_arg6 = x5) (h11 : arg11.view.read (Elt F) X_arg11 = b)
    (k : ℕ) (hk : k ≤ k0_t1_loop.trips) :
    (st_k0_t1 (F := F) 𝒱 c bd i arg1 harg1 arg2 harg2 arg3 harg3 arg4 harg4 arg5 harg5 arg6 harg6 arg7 harg7 arg8 harg8 arg9 harg9 arg10 harg10 arg11 harg11 v39 X_arg1 X_arg2 X_arg3 X_arg4 X_arg6 X_arg11 G7 G8 G9 init k).1 = fold (carryStep x0 x1 x2 x3 x4 x5 b) init k
    ∧ arg7.view.read (Elt F) (arg7.view.writes (Elt F) G7 (st_k0_t1 (F := F) 𝒱 c bd i arg1 harg1 arg2 harg2 arg3 harg3 arg4 harg4 arg5 harg5 arg6 harg6 arg7 harg7 arg8 harg8 arg9 harg9 arg10 harg10 arg11 harg11 v39 X_arg1 X_arg2 X_arg3 X_arg4 X_arg6 X_arg11 G7 G8 G9 init k).2.1) = fold (dqStep x0 x1 x2 x3 x4 x5 b) (arg7.view.read (Elt F) G7) k
    ∧ arg8.view.read (Elt F) (arg8.view.writes (Elt F) G8 (st_k0_t1 (F := F) 𝒱 c bd i arg1 harg1 arg2 harg2 arg3 harg3 arg4 harg4 arg5 harg5 arg6 harg6 arg7 harg7 arg8 harg8 arg9 harg9 arg10 harg10 arg11 harg11 v39 X_arg1 X_arg2 X_arg3 X_arg4 X_arg6 X_arg11 G7 G8 G9 init k).2.2.1) = fold (dkStep x0 x1 x2 x3 x4 x5 b) (arg8.view.read (Elt F) G8) k
    ∧ arg9.view.read (Elt F) (arg9.view.writes (Elt F) G9 (st_k0_t1 (F := F) 𝒱 c bd i arg1 harg1 arg2 harg2 arg3 harg3 arg4 harg4 arg5 harg5 arg6 harg6 arg7 harg7 arg8 harg8 arg9 harg9 arg10 harg10 arg11 harg11 v39 X_arg1 X_arg2 X_arg3 X_arg4 X_arg6 X_arg11 G7 G8 G9 init k).2.2.2) = fold (dvStep x0 x1 x2 x3 x4 x5 b) (arg9.view.read (Elt F) G9) k := by
  induction k with
  | zero => exact ⟨rfl, rfl, rfl, rfl⟩
  | succ k ih =>
    obtain ⟨i1, i7, i8, i9⟩ := ih (Nat.le_of_succ_le hk)
    have e : st_k0_t1 (F := F) 𝒱 c bd i arg1 harg1 arg2 harg2 arg3 harg3 arg4 harg4 arg5 harg5 arg6 harg6 arg7 harg7 arg8 harg8 arg9 harg9 arg10 harg10 arg11 harg11 v39 X_arg1 X_arg2 X_arg3 X_arg4 X_arg6 X_arg11 G7 G8 G9 init (k + 1) = _ := st_k0_t1_succ (F := F) 𝒱 c bd i arg1 harg1 arg2 harg2 arg3 harg3 arg4 harg4 arg5 harg5 arg6 harg6 arg7 harg7 arg8 harg8 arg9 harg9 arg10 harg10 arg11 harg11 v39 X_arg1 X_arg2 X_arg3 X_arg4 X_arg6 X_arg11 G7 G8 G9 init ⟨k, hk⟩
    rw [e, carried, pieces7, pieces8, pieces9]
    have f (α : Type) (g : Fin k0_t1_loop.trips → α → α) (a : α) : fold g a (k + 1) = g ⟨k, hk⟩ (fold g a k) := fold_succ g a ⟨k, hk⟩
    rw [f, f, f, f]
    rw [← i1, ← i7, ← i8, ← i9]
    simp only [List.cons_append, List.nil_append]
    repeat rw [View.read_writes_cons_put _ _ _ _ _ rfl]
    subst h1 h2 h3 h4 h5 h6 h11
    exact ⟨rfl, rfl, rfl, rfl⟩

end Cert.KernelIdeal.Block

end
-- ==== Proof.Cover.lean ====
/-
  The four blocks that one grid point leaves, as functions of its input blocks: the stores of the body cover each
  of them, so nothing of what the buffers held before remains.
-/
module

public import proofs.«01_k».proof.Proof.Block
public import Idealize.ShloMosaic.Lib.Pointwise

@[expose] public section

set_option maxRecDepth 16384

noncomputable section

namespace Cert.KernelIdeal.Block

open Cert.KernelIdeal Cert.KernelIdeal.Gen Cert.KernelIdeal.Trip Idealize.ShloMosaic Idealize.ShloMosaic.TcCoe Idealize.SL.Sem

variable {F : FTy → Type} [FloatOps F] [Named F]

theorem trips_eq : k0_t1_loop.trips = 16 := by decide +kernel

/-- The block of 128 queries that holds query `t`. -/
def blockOf (t : Fin 2048) : Fin k0_t1_loop.trips := ⟨t.val / 128, by rw [trips_eq]; omega⟩

/-- The slab of head `g` that trip `k` stores into the queries' gradient. -/
def dqSlab (x0 : Vec F S1x8x64x2048 .bf16) (x1 : Vec F S1x2176x64 .bf16) (x2 : Vec F S1x64x2176 .bf16) (x3 : Vec F S1x2176x64 .bf16) (x4 : Vec F S1x1x1024 .f32) (x5 : Vec F S1x8x64x2048 .bf16) (b : Vec F S2x256x1024 .f32) (k : Fin k0_t1_loop.trips) (g : Fin 8) : Vec F S1x1x64x128 .bf16 :=
  (![k0_pay15 (k0_pay27 x4) (cotangents x5 k) (scores x0 x1 b k) (band x3 k) (bandT x2 k),
     k0_pay17 (k0_pay16 (k0_pay27 x4) (cotangents x5 k) (scores x0 x1 b k) (band x3 k) (bandT x2 k)),
     k0_pay18 (k0_pay14 (k0_pay27 x4) (cotangents x5 k) (scores x0 x1 b k) (band x3 k) (bandT x2 k)),
     k0_pay19 (k0_pay14 (k0_pay27 x4) (cotangents x5 k) (scores x0 x1 b k) (band x3 k) (bandT x2 k)),
     k0_pay20 (k0_pay14 (k0_pay27 x4) (cotangents x5 k) (scores x0 x1 b k) (band x3 k) (bandT x2 k)),
     k0_pay21 (k0_pay14 (k0_pay27 x4) (cotangents x5 k) (scores x0 x1 b k) (band x3 k) (bandT x2 k)),
     k0_pay22 (k0_pay14 (k0_pay27 x4) (cotangents x5 k) (scores x0 x1 b k) (band x3 k) (bandT x2 k)),
     k0_pay31 (k0_pay23 (k0_pay14 (k0_pay27 x4) (cotangents x5 k) (scores x0 x1 b k) (band x3 k) (bandT x2 k)))] : Fin 8 → Vec F S1x1x64x128 .bf16) g

/-- The queries' gradient of one group: entry by entry, from the slab of its head and its block of queries. -/
def dqBlk (x0 : Vec F S1x8x64x2048 .bf16) (x1 : Vec F S1x2176x64 .bf16) (x2 : Vec F S1x64x2176 .bf16) (x3 : Vec F S1x2176x64 .bf16) (x4 : Vec F S1x1x1024 .f32) (x5 : Vec F S1x8x64x2048 .bf16) (b : Vec F S2x256x1024 .f32) : Vec F S1x8x64x2048 .bf16 :=
  fun y => dqSlab x0 x1 x2 x3 x4 x5 b (blockOf (y 3)) (y 1) (ix4 (0 : Fin 1) (0 : Fin 1) (y 2) (⟨(y 3).val % 128, Nat.mod_lt _ (by decide)⟩ : Fin 128))

/-- The keys' gradient of one group. -/
def dkBlk (x0 : Vec F S1x8x64x2048 .bf16) (x1 : Vec F S1x2176x64 .bf16) (x2 : Vec F S1x64x2176 .bf16) (x3 : Vec F S1x2176x64 .bf16) (x4 : Vec F S1x1x1024 .f32) (x5 : Vec F S1x8x64x2048 .bf16) (b : Vec F S2x256x1024 .f32) : Vec F S1x2176x64 .f32 := fold (dkStep x0 x1 x2 x3 x4 x5 b) k0_pay28 k0_t1_loop.trips

/-- The values' gradient of one group. -/
def dvBlk (x0 : Vec F S1x8x64x2048 .bf16) (x1 : Vec F S1x2176x64 .bf16) (x2 : Vec F S1x64x2176 .bf16) (x3 : Vec F S1x2176x64 .bf16) (x4 : Vec F S1x1x1024 .f32) (x5 : Vec F S1x8x64x2048 .bf16) (b : Vec F S2x256x1024 .f32) : Vec F S1x2176x64 .f32 := fold (dvStep x0 x1 x2 x3 x4 x5 b) k0_pay29 k0_t1_loop.trips

/-- The row that the loop carries out. -/
def carryOut (x0 : Vec F S1x8x64x2048 .bf16) (x1 : Vec F S1x2176x64 .bf16) (x2 : Vec F S1x64x2176 .bf16) (x3 : Vec F S1x2176x64 .bf16) (x4 : Vec F S1x1x1024 .f32) (x5 : Vec F S1x8x64x2048 .bf16) (b : Vec F S2x256x1024 .f32) : FVec F S1x1024 .f32 := fold (carryStep x0 x1 x2 x3 x4 x5 b) k0_pay30 k0_t1_loop.trips

/-- The sinks' gradient of one group from the row that the loop carries out: one entry per head. -/
def dsOf (r : FVec F S1x1024 .f32) : Vec F S1x8x1 .f32 :=
  fun y => (![k0_pay35 r, k0_pay36 r, k0_pay38 (k0_pay37 r), k0_pay39 r, k0_pay40 r, k0_pay41 r, k0_pay42 r, k0_pay43 r] : Fin 8 → FVec F S1x1x1 .f32) (y 1)
    (ix3 (0 : Fin 1) (0 : Fin 1) (0 : Fin 1))

/-- The table of what is added to the scores: row 0 for the first block of queries, row 1 for the others. -/
def biasOf (i : grid0.Coords) : Vec F S2x256x1024 .f32 :=
  fun y => (![k0_pay26 i, k0_pay25 i] : Fin 2 → FVec F S1x256x1024 .f32) (y 0) (ix3 (0 : Fin 1) (y 1) (y 2))

/-- A slab put at head `g` and block `k` read at an index. -/
theorem put_slab (d : Vec F S1x8x64x2048 .bf16) (off : Fin 4 → ℕ) (g k : ℕ) (hoff : off = ![0, g, 0, 128 * k]) (w : Vec F S1x1x64x128 .bf16) (y : S1x8x64x2048.Idx) :
    VecWindow.put (s := S1x8x64x2048) d off S1x1x64x128.size w y
      = if (y 1).val = g ∧ (y 3).val / 128 = k then w (ix4 (0 : Fin 1) (0 : Fin 1) (y 2) (⟨(y 3).val % 128, Nat.mod_lt _ (by decide)⟩ : Fin 128)) else d y := by
  subst hoff
  unfold VecWindow.put
  have h0 := (y 0).isLt
  have h2 := (y 2).isLt
  have h1 := (y 1).isLt
  have h3 := (y 3).isLt
  change (y 0).val < 1 at h0
  change (y 2).val < 64 at h2
  by_cases h : (y 1).val = g ∧ (y 3).val / 128 = k
  · rw [if_pos h]
    have hin : ∀ a : Fin 4, (![0, g, 0, 128 * k] : Fin 4 → ℕ) a ≤ (y a).val ∧ (y a).val < (![0, g, 0, 128 * k] : Fin 4 → ℕ) a + S1x1x64x128.size a := by
      intro a
      fin_cases a
      · show 0 ≤ (y 0).val ∧ (y 0).val < 0 + 1; omega
      · show g ≤ (y 1).val ∧ (y 1).val < g + 1; omega
      · show 0 ≤ (y 2).val ∧ (y 2).val < 0 + 64; omega
      · show 128 * k ≤ (y 3).val ∧ (y 3).val < 128 * k + 128; omega
    rw [dif_pos hin]
    refine congrArg w (funext fun a => Fin.ext ?_)
    fin_cases a
    · show (y 0).val - 0 = 0; omega
    · show (y 1).val - g = 0; omega
    · show (y 2).val - 0 = (y 2).val; omega
    · show (y 3).val - 128 * k = (y 3).val % 128; omega
  · rw [if_neg h, dif_neg]
    intro hin
    have a1 : g ≤ (y 1).val ∧ (y 1).val < g + 1 := hin 1
    have a3 : 128 * k ≤ (y 3).val ∧ (y 3).val < 128 * k + 128 := hin 3
    omega

/-- One trip's eight slabs read at an index. -/
theorem dqStep_apply (x0 : Vec F S1x8x64x2048 .bf16) (x1 : Vec F S1x2176x64 .bf16) (x2 : Vec F S1x64x2176 .bf16) (x3 : Vec F S1x2176x64 .bf16) (x4 : Vec F S1x1x1024 .f32) (x5 : Vec F S1x8x64x2048 .bf16) (b : Vec F S2x256x1024 .f32) (k : Fin k0_t1_loop.trips) (d : Vec F S1x8x64x2048 .bf16) (y : S1x8x64x2048.Idx) :
    dqStep x0 x1 x2 x3 x4 x5 b k d y = if (y 3).val / 128 = k.val then dqBlk x0 x1 x2 x3 x4 x5 b y else d y := by
  unfold dqStep
  rw [put_slab _ _ 7 k.val (k0_off8_eq k), put_slab _ _ 6 k.val (k0_off7_eq k), put_slab _ _ 5 k.val (k0_off6_eq k), put_slab _ _ 4 k.val (k0_off5_eq k),
    put_slab _ _ 3 k.val (k0_off4_eq k), put_slab _ _ 2 k.val (k0_off3_eq k), put_slab _ _ 1 k.val (k0_off2_eq k), put_slab _ _ 0 k.val (k0_off1_eq k)]
  by_cases hk : (y 3).val / 128 = k.val
  · rw [if_pos hk]
    have hb : blockOf (y 3) = k := Fin.ext hk
    unfold dqBlk
    rw [hb]
    unfold dqSlab
    obtain ⟨g, hg⟩ : ∃ g : Fin 8, y 1 = g := ⟨y 1, rfl⟩
    simp only [hk, and_true]
    rw [hg]
    fin_cases g <;> (repeat' first | exact if_pos rfl | refine (if_neg (by decide)).trans ?_)
  · simp only [hk, and_false, if_false]

theorem dq_fold (x0 : Vec F S1x8x64x2048 .bf16) (x1 : Vec F S1x2176x64 .bf16) (x2 : Vec F S1x64x2176 .bf16) (x3 : Vec F S1x2176x64 .bf16) (x4 : Vec F S1x1x1024 .f32) (x5 : Vec F S1x8x64x2048 .bf16) (b : Vec F S2x256x1024 .f32) (d : Vec F S1x8x64x2048 .bf16) (n : ℕ) (hn : n ≤ k0_t1_loop.trips) (y : S1x8x64x2048.Idx) :
    fold (dqStep x0 x1 x2 x3 x4 x5 b) d n y = if (y 3).val / 128 < n then dqBlk x0 x1 x2 x3 x4 x5 b y else d y := by
  induction n with
  | zero => rfl
  | succ n ih =>
    have e : fold (dqStep x0 x1 x2 x3 x4 x5 b) d (n + 1) = _ := fold_succ (dqStep x0 x1 x2 x3 x4 x5 b) d ⟨n, hn⟩
    rw [e, dqStep_apply, ih (Nat.le_of_succ_le hn)]
    by_cases h : (y 3).val / 128 = n
    · rw [if_pos h, if_pos (by omega)]
    · rw [if_neg h]
      by_cases h' : (y 3).val / 128 < n
      · rw [if_pos h', if_pos (by omega)]
      · rw [if_neg h', if_neg (by omega)]

/-- After the last trip every entry of the queries' gradient has been stored. -/
theorem dq_final (x0 : Vec F S1x8x64x2048 .bf16) (x1 : Vec F S1x2176x64 .bf16) (x2 : Vec F S1x64x2176 .bf16) (x3 : Vec F S1x2176x64 .bf16) (x4 : Vec F S1x1x1024 .f32) (x5 : Vec F S1x8x64x2048 .bf16) (b : Vec F S2x256x1024 .f32) (d : Vec F S1x8x64x2048 .bf16) : fold (dqStep x0 x1 x2 x3 x4 x5 b) d k0_t1_loop.trips = dqBlk x0 x1 x2 x3 x4 x5 b := by
  funext y
  have h3 := (y 3).isLt
  change (y 3).val < 2048 at h3
  rw [dq_fold x0 x1 x2 x3 x4 x5 b d _ le_rfl y, if_pos (by rw [trips_eq]; omega)]

/-- A row put into the table of biases read at an index. -/
theorem put_row (d : Vec F S2x256x1024 .f32) (r : ℕ) (w : FVec F S1x256x1024 .f32) (y : S2x256x1024.Idx) :
    VecWindow.put (s := S2x256x1024) d ![r, 0, 0] S1x256x1024.size w y = if (y 0).val = r then w (ix3 (0 : Fin 1) (y 1) (y 2)) else d y := by
  unfold VecWindow.put
  have h1 := (y 1).isLt
  have h2 := (y 2).isLt
  change (y 1).val < 256 at h1
  change (y 2).val < 1024 at h2
  by_cases h : (y 0).val = r
  · rw [if_pos h]
    have hin : ∀ a : Fin 3, (![r, 0, 0] : Fin 3 → ℕ) a ≤ (y a).val ∧ (y a).val < (![r, 0, 0] : Fin 3 → ℕ) a + S1x256x1024.size a := by
      intro a
      fin_cases a
      · show r ≤ (y 0).val ∧ (y 0).val < r + 1; omega
      · show 0 ≤ (y 1).val ∧ (y 1).val < 0 + 256; omega
      · show 0 ≤ (y 2).val ∧ (y 2).val < 0 + 1024; omega
    rw [dif_pos hin]
    refine congrArg w (funext fun a => Fin.ext ?_)
    fin_cases a
    · show (y 0).val - r = 0; omega
    · rfl
    · rfl
  · rw [if_neg h, dif_neg]
    intro hin
    have a0 : r ≤ (y 0).val ∧ (y 0).val < r + 1 := hin 0
    omega

/-- The two rows fill the table. -/
theorem bias_final (d : Vec F S2x256x1024 .f32) (i : grid0.Coords) :
    VecWindow.put (s := S2x256x1024) (VecWindow.put (s := S2x256x1024) d ![1, 0, 0] S1x256x1024.size (k0_pay25 i)) ![0, 0, 0] S1x256x1024.size (k0_pay26 i) = biasOf i := by
  funext y
  rw [put_row, put_row]
  unfold biasOf
  obtain ⟨r, hr⟩ : ∃ r : Fin 2, y 0 = r := ⟨y 0, rfl⟩
  rw [hr]
  fin_cases r
  · exact if_pos rfl
  · exact (if_neg (by decide)).trans (if_pos rfl)

/-- One entry put into the sinks' gradient read at an index. -/
theorem put_entry (d : Vec F S1x8x1 .f32) (g : ℕ) (w : FVec F S1x1x1 .f32) (y : S1x8x1.Idx) :
    VecWindow.put (s := S1x8x1) d ![0, g, 0] S1x1x1.size w y = if (y 1).val = g then w (ix3 (0 : Fin 1) (0 : Fin 1) (0 : Fin 1)) else d y := by
  unfold VecWindow.put
  have h0 := (y 0).isLt
  have h2 := (y 2).isLt
  change (y 0).val < 1 at h0
  change (y 2).val < 1 at h2
  by_cases h : (y 1).val = g
  · rw [if_pos h]
    have hin : ∀ a : Fin 3, (![0, g, 0] : Fin 3 → ℕ) a ≤ (y a).val ∧ (y a).val < (![0, g, 0] : Fin 3 → ℕ) a + S1x1x1.size a := by
      intro a
      fin_cases a
      · show 0 ≤ (y 0).val ∧ (y 0).val < 0 + 1; omega
      · show g ≤ (y 1).val ∧ (y 1).val < g + 1; omega
      · show 0 ≤ (y 2).val ∧ (y 2).val < 0 + 1; omega
    rw [dif_pos hin]
    exact congrArg w (funext fun a => by fin_cases a <;> exact Subsingleton.elim (α := Fin 1) _ _)
  · rw [if_neg h, dif_neg]
    intro hin
    have a1 : g ≤ (y 1).val ∧ (y 1).val < g + 1 := hin 1
    omega

/-- The eight entries fill the sinks' gradient. -/
theorem ds_final (d : Vec F S1x8x1 .f32) (r : FVec F S1x1024 .f32) :
    VecWindow.put (s := S1x8x1) (VecWindow.put (s := S1x8x1) (VecWindow.put (s := S1x8x1) (VecWindow.put (s := S1x8x1)
      (VecWindow.put (s := S1x8x1) (VecWindow.put (s := S1x8x1) (VecWindow.put (s := S1x8x1) (VecWindow.put (s := S1x8x1) d
        ![0, 0, 0] S1x1x1.size (k0_pay35 r)) ![0, 1, 0] S1x1x1.size (k0_pay36 r)) ![0, 2, 0] S1x1x1.size (k0_pay38 (k0_pay37 r)))
        ![0, 3, 0] S1x1x1.size (k0_pay39 r)) ![0, 4, 0] S1x1x1.size (k0_pay40 r)) ![0, 5, 0] S1x1x1.size (k0_pay41 r))
        ![0, 6, 0] S1x1x1.size (k0_pay42 r)) ![0, 7, 0] S1x1x1.size (k0_pay43 r) = dsOf r := by
  funext y
  rw [put_entry, put_entry, put_entry, put_entry, put_entry, put_entry, put_entry, put_entry]
  unfold dsOf
  obtain ⟨g, hg⟩ : ∃ g : Fin 8, y 1 = g := ⟨y 1, rfl⟩
  rw [hg]
  fin_cases g <;> (repeat' first | exact if_pos rfl | refine (if_neg (by decide)).trans ?_)

end Cert.KernelIdeal.Block

end
-- ==== Proof.Body.lean ====
/-
  The body of one grid point as a triple: from the six input blocks it leaves the four gradient blocks of
  `Cover.lean`, the inputs as they were.
-/
module

public import proofs.«01_k».proof.Proof.Cover
public import proofs.«01_k».proof.Proof.Gen.KernelIdeal.Frame.Runs

@[expose] public section

set_option maxRecDepth 16384

noncomputable section

namespace Cert.KernelIdeal.Body

open Cert.KernelIdeal Cert.KernelIdeal.Gen Cert.KernelIdeal.Block
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The two rows stored into the table of biases read back as the table. -/
theorem bias_read (i : grid0.Coords) (arg11 : Memref sig .tc .vmem S2x256x1024 .f32) (f : BufTy.Contents (Elt F) arg11.view.ty) :
    arg11.view.read (Elt F) (arg11.view.writes (Elt F) f
      [⟨Rect.unit (s := S2x256x1024) ![0, 0, 0] S1x256x1024.size inb_S2x256x1024_S1x256x1024_0_0_0, k0_pay26 (F := F) i⟩,
       ⟨Rect.unit (s := S2x256x1024) ![1, 0, 0] S1x256x1024.size inb_S2x256x1024_S1x256x1024_1_0_0, k0_pay25 (F := F) i⟩]) = biasOf i := by
  rw [View.read_writes_cons_put _ _ _ _ _ rfl, View.read_writes_cons_put _ _ _ _ _ rfl]
  exact bias_final _ i

/-- The eight entries stored into the sinks' gradient read back as that block. -/
theorem ds_read (r : FVec F S1x1024 .f32) (arg10 : Memref sig .tc .vmem S1x8x1 .f32) (f : BufTy.Contents (Elt F) arg10.view.ty) :
    arg10.view.read (Elt F) (arg10.view.writes (Elt F) f
      [⟨Rect.unit (s := S1x8x1) ![0, 7, 0] S1x1x1.size inb_S1x8x1_S1x1x1_0_7_0, k0_pay43 r⟩,
       ⟨Rect.unit (s := S1x8x1) ![0, 6, 0] S1x1x1.size inb_S1x8x1_S1x1x1_0_6_0, k0_pay42 r⟩,
       ⟨Rect.unit (s := S1x8x1) ![0, 5, 0] S1x1x1.size inb_S1x8x1_S1x1x1_0_5_0, k0_pay41 r⟩,
       ⟨Rect.unit (s := S1x8x1) ![0, 4, 0] S1x1x1.size inb_S1x8x1_S1x1x1_0_4_0, k0_pay40 r⟩,
       ⟨Rect.unit (s := S1x8x1) ![0, 3, 0] S1x1x1.size inb_S1x8x1_S1x1x1_0_3_0, k0_pay39 r⟩,
       ⟨Rect.unit (s := S1x8x1) ![0, 2, 0] S1x1x1.size inb_S1x8x1_S1x1x1_0_2_0, k0_pay38 (k0_pay37 r)⟩,
       ⟨Rect.unit (s := S1x8x1) ![0, 1, 0] S1x1x1.size inb_S1x8x1_S1x1x1_0_1_0, k0_pay36 r⟩,
       ⟨Rect.unit (s := S1x8x1) ![0, 0, 0] S1x1x1.size inb_S1x8x1_S1x1x1_0_0_0, k0_pay35 r⟩]) = dsOf r := by
  repeat rw [View.read_writes_cons_put _ _ _ _ _ rfl]
  exact ds_final _ r

set_option maxHeartbeats 1000000 in
/-- One grid point: the body runs from the input blocks to the four gradient blocks. -/
theorem triple (c : Dev nD) (i : grid0.Coords) (arg1 : Memref sig .tc .vmem S1x8x64x2048 .bf16) (harg1 : arg1.IsWhole) (arg2 : Memref sig .tc .vmem S1x2176x64 .bf16) (harg2 : arg2.IsWhole) (arg3 : Memref sig .tc .vmem S1x64x2176 .bf16) (harg3 : arg3.IsWhole) (arg4 : Memref sig .tc .vmem S1x2176x64 .bf16) (harg4 : arg4.IsWhole) (arg5 : Memref sig .tc .vmem S1x1x1024 .f32) (harg5 : arg5.IsWhole) (arg6 : Memref sig .tc .vmem S1x8x64x2048 .bf16) (harg6 : arg6.IsWhole) (arg7 : Memref sig .tc .vmem S1x8x64x2048 .bf16) (harg7 : arg7.IsWhole) (arg8 : Memref sig .tc .vmem S1x2176x64 .f32) (harg8 : arg8.IsWhole) (arg9 : Memref sig .tc .vmem S1x2176x64 .f32) (harg9 : arg9.IsWhole) (arg10 : Memref sig .tc .vmem S1x8x1 .f32) (harg10 : arg10.IsWhole) (arg11 : Memref sig .tc .vmem S2x256x1024 .f32) (harg11 : arg11.IsWhole)
    (x0 : Vec F S1x8x64x2048 .bf16) (x1 : Vec F S1x2176x64 .bf16) (x2 : Vec F S1x64x2176 .bf16) (x3 : Vec F S1x2176x64 .bf16) (x4 : Vec F S1x1x1024 .f32) (x5 : Vec F S1x8x64x2048 .bf16)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (dqBlk x0 x1 x2 x3 x4 x5 (biasOf i)) ∗ owns (c : Thread nD τ) arg8 fullShare (dkBlk x0 x1 x2 x3 x4 x5 (biasOf i)) ∗ owns (c : Thread nD τ) arg9 fullShare (dvBlk x0 x1 x2 x3 x4 x5 (biasOf i)) ∗ owns (c : Thread nD τ) arg10 fullShare (dsOf (carryOut x0 x1 x2 x3 x4 x5 (biasOf i))) ∗ (∃ d, owns (c : Thread nD τ) arg11 fullShare d)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11) K := by
  simp only [cc0_attn_bwd_eq_skeleton]; unfold cc0_attn_bwd_skel
  simp only [k0_part7_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  have hv : View.readAt (Elt F) arg5.view (Rect.unit (s := S1x1x1024) ![0, 0, 0] S1x1x1024.size inb_S1x1x1024_S1x1x1024_0_0_0).toLoadRect (harg5.unread x4) = x4 :=
    (View.readAt_full _ _ _).trans (harg5.read_unread x4)
  isplitl [H6]
  · iexists _; isplitr; swap; · iexact H6
    ipureintro
    exact (state_eq _ _ _ _ _ _ _ _ _ _ _ _ _ _ _ _ _ _ _ _ _ _ _ _ _ _ _ _ _ _ _ _ _ x0 x1 x2 x3 x4 x5 (biasOf i) _ _ _ _
      (harg1.read_unread _) (harg2.read_unread _) (harg3.read_unread _) (harg4.read_unread _) hv (harg6.read_unread _) (bias_read i arg11 _) _ le_rfl).2.1.trans
      (dq_final x0 x1 x2 x3 x4 x5 (biasOf i) _)
  isplitl [H7]
  · iexists _; isplitr; swap; · iexact H7
    ipureintro
    rw [View.writes_append]
    exact (state_eq _ _ _ _ _ _ _ _ _ _ _ _ _ _ _ _ _ _ _ _ _ _ _ _ _ _ _ _ _ _ _ _ _ x0 x1 x2 x3 x4 x5 (biasOf i) _ _ _ _
      (harg1.read_unread _) (harg2.read_unread _) (harg3.read_unread _) (harg4.read_unread _) hv (harg6.read_unread _) (bias_read i arg11 _) _ le_rfl).2.2.1.trans
      (congrArg (fun z => fold (dkStep x0 x1 x2 x3 x4 x5 (biasOf i)) z k0_t1_loop.trips) (View.read_writes_full _ _ _ _ []))
  isplitl [H8]
  · iexists _; isplitr; swap; · iexact H8
    ipureintro
    rw [View.writes_append]
    exact (state_eq _ _ _ _ _ _ _ _ _ _ _ _ _ _ _ _ _ _ _ _ _ _ _ _ _ _ _ _ _ _ _ _ _ x0 x1 x2 x3 x4 x5 (biasOf i) _ _ _ _
      (harg1.read_unread _) (harg2.read_unread _) (harg3.read_unread _) (harg4.read_unread _) hv (harg6.read_unread _) (bias_read i arg11 _) _ le_rfl).2.2.2.trans
      (congrArg (fun z => fold (dvStep x0 x1 x2 x3 x4 x5 (biasOf i)) z k0_t1_loop.trips) (View.read_writes_full _ _ _ _ []))
  isplitl [H9]
  · iexists _; isplitr; swap; · iexact H9
    ipureintro
    refine (ds_read _ arg10 _).trans (congrArg dsOf ?_)
    exact (state_eq _ _ _ _ _ _ _ _ _ _ _ _ _ _ _ _ _ _ _ _ _ _ _ _ _ _ _ _ _ _ _ _ _ x0 x1 x2 x3 x4 x5 (biasOf i) _ _ _ _
      (harg1.read_unread _) (harg2.read_unread _) (harg3.read_unread _) (harg4.read_unread _) hv (harg6.read_unread _) (bias_read i arg11 _) _ le_rfl).1
  iexists _, _; isplitr; swap; · iexact HS0
  ipureintro; rfl

end Cert.KernelIdeal.Body

end
-- ==== Proof.Run.lean ====
/-
  The launch of the idealized program: every grid point runs the triple of `Body.lean`, so after the run each
  output array is the blocks of `Cover.lean` written back, and the arguments are unchanged.
-/
module

public import proofs.«01_k».proof.Proof.Body
public import Idealize.ShloMosaic.Lib.Claim
public import Idealize.ShloMosaic.Lib.Pipeline.Value

@[expose] public section

set_option maxRecDepth 16384

noncomputable section

namespace Cert.KernelIdeal.Run

open Cert.KernelIdeal Cert.KernelIdeal.Gen Cert.KernelIdeal.Block Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqBlk (iblk m c 0 t) (iblk m c 1 t) (iblk m c 2 t) (iblk m c 3 t) (iblk m c 4 t) (iblk m c 5 t) (biasOf (grid0.coords t))
    | ⟨7, _⟩ => dkBlk (iblk m c 0 t) (iblk m c 1 t) (iblk m c 2 t) (iblk m c 3 t) (iblk m c 4 t) (iblk m c 5 t) (biasOf (grid0.coords t))
    | ⟨8, _⟩ => dvBlk (iblk m c 0 t) (iblk m c 1 t) (iblk m c 2 t) (iblk m c 3 t) (iblk m c 4 t) (iblk m c 5 t) (biasOf (grid0.coords t))
    | ⟨9, _⟩ => dsOf (carryOut (iblk m c 0 t) (iblk m c 1 t) (iblk m c 2 t) (iblk m c 3 t) (iblk m c 4 t) (iblk m c 5 t) (biasOf (grid0.coords t)))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = dqBlk (iblk m c 0 t) (iblk m c 1 t) (iblk m c 2 t) (iblk m c 3 t) (iblk m c 4 t) (iblk m c 5 t) (biasOf (grid0.coords t)) := by dsimp only [dats]
theorem after0_7 (c : Dev nD) (t : Fin cfg0.N) : (dats m 0 c).after 7 t = dkBlk (iblk m c 0 t) (iblk m c 1 t) (iblk m c 2 t) (iblk m c 3 t) (iblk m c 4 t) (iblk m c 5 t) (biasOf (grid0.coords t)) := by dsimp only [dats]
theorem after0_8 (c : Dev nD) (t : Fin cfg0.N) : (dats m 0 c).after 8 t = dvBlk (iblk m c 0 t) (iblk m c 1 t) (iblk m c 2 t) (iblk m c 3 t) (iblk m c 4 t) (iblk m c 5 t) (biasOf (grid0.coords t)) := by dsimp only [dats]
theorem after0_9 (c : Dev nD) (t : Fin cfg0.N) : (dats m 0 c).after 9 t = dsOf (carryOut (iblk m c 0 t) (iblk m c 1 t) (iblk m c 2 t) (iblk m c 3 t) (iblk m c 4 t) (iblk m c 5 t) (biasOf (grid0.coords t))) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (triple c (grid0.coords t) _ _ _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  iintro ⟨H0, H1, H2, H3, H4, H5, H6, H7, H8, H9, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: the arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v24_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v24_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v24_2) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v24_3) = (dats m 0 c).arrAt 9 cfg0.N :=
  (h c).1 9

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v24_0) = (dats m 0 c).arrAt 6 cfg0.N
      ∧ r.2.mem ((c : Thread nD τ).loc main_v24_1) = (dats m 0 c).arrAt 7 cfg0.N
      ∧ r.2.mem ((c : Thread nD τ).loc main_v24_2) = (dats m 0 c).arrAt 8 cfg0.N
      ∧ r.2.mem ((c : Thread nD τ).loc main_v24_3) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post6 m r h c,
      post7 m r h c,
      post8 m r h c,
      post9 m r h c,
      kept_main_arg0 m r h c,
      kept_main_arg1 m r h c,
      kept_main_arg2 m r h c,
      kept_main_arg3 m r h c,
      kept_main_arg4 m r h c⟩)
    (run_main m ρ)

end Cert.KernelIdeal.Run

end
-- ==== Proof.Consts.lean ====
/-
  The constants of the two programs as extended reals.
-/
module

public import proofs.«01_k».proof.KernelIdeal
public import proofs.«01_k».proof.ReferenceIdeal
public import Idealize.ShloMosaic.Lib.Pointwise
public import Idealize.ShloMosaic.Lib.Claim

@[expose] public section

noncomputable section

namespace Cert.Attn

open Idealize.ShloMosaic

/-- The word of 0.125. -/
theorem eighth : Ideal.ofBits FTy.f32 0x3E000000#32 = ((8⁻¹ : ℝ) : EReal) := by
  simp [Ideal.ofBits, Ideal.ieee, -EReal.coe_mul]
  norm_num

/-- The word of minus infinity. -/
theorem neg_inf : Ideal.ofBits FTy.f32 0xFF800000#32 = ⊥ := by
  simp [Ideal.ofBits, Ideal.ieee]

/-- The additive mask. -/
theorem mask : Named.named (F := Ideal) Cert.KernelIdeal.κ "mask" (φ := .f32) 0xF149F2CA#32 = ⊥ :=
  IdealRules.named_const.ideal_named_scalar _ _ _ _ rfl

theorem rate : Named.named (F := Ideal) Cert.KernelIdeal.κ "neg_quarter_log2" (φ := .f32) 0xBE317218#32 = (((-(4⁻¹)) * (Real.log 2) : ℝ) : EReal) :=
  IdealRules.named_const.ideal_named_scalar _ _ _ _ rfl

/-- The words of −8, 32, 2 and 1. -/
theorem w_neg8 : Ideal.ofBits FTy.f32 0xC1000000#32 = ((-8 : ℝ) : EReal) := by
  simp [Ideal.ofBits, Ideal.ieee, -EReal.coe_mul]
  norm_num

theorem w_32 : Ideal.ofBits FTy.f32 0x42000000#32 = ((32 : ℝ) : EReal) := by
  simp [Ideal.ofBits, Ideal.ieee, -EReal.coe_mul]
  norm_num

theorem w_2 : Ideal.ofBits FTy.f32 0x40000000#32 = ((2 : ℝ) : EReal) := by
  simp [Ideal.ofBits, Ideal.ieee, -EReal.coe_mul]
  norm_num

theorem w_1 : Ideal.ofBits FTy.f32 0x3F800000#32 = ((1 : ℝ) : EReal) := by
  simp [Ideal.ofBits, Ideal.ieee, -EReal.coe_mul]
  norm_num

end Cert.Attn

end
-- ==== Proof.Model.lean ====
/-
  Sliding-window attention with a sink and its gradient over the reals: for one query, over the 256 keys of its band.
-/
module

public import Idealize.ShloMosaic.Lib.Pointwise

@[expose] public section

noncomputable section

namespace Cert.Attn

open Idealize.ShloMosaic

/-- Key `j` of the band of block `n` takes part for query `i`: it is not after the query, it is less than 128
    before it, and it is not before the sequence. -/
abbrev live (n : ℕ) (i : Fin 128) (j : Fin 256) : Prop := j.val ≤ 128 + i.val ∧ i.val < j.val ∧ 128 ≤ 128 * n + j.val

/-- The rate at which a head's scores fall with the distance. -/
def slope (h : Fin 4) (g : Fin 8) : ℝ := Real.exp ((8 * (h.val : ℝ) + g.val + 1) * (-(4⁻¹) * Real.log 2))

/-! ## One query: `L` the keys that take part, `s` their scores, `σ` the sink's -/

variable (L : Fin 256 → Prop) [DecidablePred L] (s : Fin 256 → ℝ) (σ : ℝ)

/-- A score as it enters the maximum: a key that takes no part has minus infinity. -/
def masked (j : Fin 256) : EReal := if L j then ((s j : ℝ) : EReal) else ⊥

/-- The largest of the scores and the sink. -/
def top : EReal := max (Finset.univ.fold max ⊥ (masked L s)) (σ : EReal)

/-- The same as a real number. -/
def topR : ℝ := (top L s σ).toReal

theorem fold_ne_top : Finset.univ.fold max ⊥ (masked L s) ≠ ⊤ := by
  have : Finset.univ.fold max ⊥ (masked L s) < ⊤ := by
    rw [Finset.fold_max_lt]
    refine ⟨bot_lt_top, fun j _ => ?_⟩
    unfold masked
    split_ifs
    · exact EReal.coe_lt_top _
    · exact bot_lt_top
  exact this.ne

theorem top_eq : top L s σ = (topR L s σ : EReal) := by
  refine (EReal.coe_toReal ?_ ?_).symm
  · exact (max_lt (lt_top_iff_ne_top.mpr (fold_ne_top L s)) (EReal.coe_lt_top σ)).ne
  · exact (lt_of_lt_of_le (EReal.bot_lt_coe σ) (le_max_right _ _)).ne'

/-- A key's weight before it is divided by the sum. -/
def wt (j : Fin 256) : ℝ := if L j then Real.exp (s j - topR L s σ) else 0

/-- The sink's weight. -/
def wtSink : ℝ := Real.exp (σ - topR L s σ)

/-- The sum of the weights. -/
def den : ℝ := ∑ j, wt L s σ j + wtSink L s σ

theorem den_pos : 0 < den L s σ := by
  refine add_pos_of_nonneg_of_pos (Finset.sum_nonneg fun j _ => ?_) (Real.exp_pos _)
  unfold wt
  split_ifs
  · exact (Real.exp_pos _).le
  · exact le_rfl

/-- A key's probability. -/
def prob (j : Fin 256) : ℝ := wt L s σ j * (1 / den L s σ)

/-- The sink's probability. -/
def probSink : ℝ := wtSink L s σ * (1 / den L s σ)

/-- The mean of the probabilities' cotangents `dp`. -/
def mean (dp : Fin 256 → ℝ) : ℝ := ∑ j, prob L s σ j * dp j

/-- A score's cotangent, with the scale of the scores. -/
def dscore (dp : Fin 256 → ℝ) (j : Fin 256) : ℝ := prob L s σ j * (dp j - mean L s σ dp) * 8⁻¹

/-- The exponential of a masked score less the largest. -/
theorem exp_masked (j : Fin 256) : Ideal.exp (masked L s j - (topR L s σ : EReal)) = (wt L s σ j : EReal) := by
  unfold masked wt
  split_ifs
  · rw [← EReal.coe_sub]; rfl
  · rw [EReal.bot_sub]; rfl

theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

end Cert.Attn

end
-- ==== Proof.Words.lean ====
/-
  Comparisons of words and choices between two values by them.
-/
module

public import Idealize.ShloMosaic.Lib.Pointwise
public import Idealize.ShloMosaic.Lib.WordCmp

@[expose] public section

namespace Cert.Attn

open Idealize.ShloMosaic

theorem select_ofBool {α : Type} (p : Prop) [Decidable p] (x y : α) : Scalar.select (BitVec.ofBool (decide p)) x y = if p then x else y := by
  by_cases h : p
  · rw [if_pos h, decide_eq_true h]; rfl
  · rw [if_neg h, decide_eq_false h]; rfl

theorem andi_ofBool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- A choice by whether a word lies from `0` up to `128`. -/
theorem select_within {α : Type} (w : BitVec 32) (x y : α) :
    Scalar.select (IntOp.andi (IntOp.cmpi CmpIPredicate.sge w 0#32) (IntOp.cmpi CmpIPredicate.slt w 128#32)) x y
      = if 0 ≤ w.toInt ∧ w.toInt < 128 then x else y := by
  rw [WordCmp.cmpi_sge_eq, WordCmp.cmpi_slt_eq, andi_ofBool, select_ofBool]
  rfl

/-- A small number's word is the number. -/
theorem toInt_small (n : ℕ) (h : n < 2147483648) : (BitVec.ofNat 32 n).toInt = n := by
  rw [BitVec.toInt_eq_toNat_cond, BitVec.toNat_ofNat, Nat.mod_eq_of_lt (by omega), if_pos (by omega)]

theorem word_and : ∀ c : Fin 1024, IntOp.andi (BitVec.ofNat 32 c.val) 127#32 = BitVec.ofNat 32 (c.val % 128) := by decide +kernel

theorem word_shift : ∀ c : Fin 1024, IntOp.shrsi ArithUnit.vector (BitVec.ofNat 32 c.val) 7#32 = BitVec.ofNat 32 (c.val / 128) := by decide +kernel

/-- The head's number, counted from one, as a word. -/
theorem word_head : ∀ (h : Fin 4) (g : Fin 8), (IntOp.addi (IntOp.addi (Scalar.muli (BitVec.ofNat 32 h.val) 8#32) (BitVec.ofNat 32 g.val)) 1#32).toInt = 8 * (h.val : ℤ) + g.val + 1 := by
  decide +kernel

/-- The distance from a key to a query as a word. -/
theorem word_dist (i : Fin 128) (j : Fin 256) :
    (IntOp.subi (IntOp.addi (128#32) (BitVec.ofNat 32 i.val)) (BitVec.ofNat 32 j.val)).toInt = 128 + (i.val : ℤ) - j.val := by
  show (128#32 + BitVec.ofNat 32 i.val - BitVec.ofNat 32 j.val).toInt = _
  have hi := i.isLt
  have hj := j.isLt
  have e3 : (128#32).toInt = 128 := by decide
  rw [BitVec.toInt_sub, BitVec.toInt_add, toInt_small i.val (by omega), toInt_small j.val (by omega), e3,
    Int.bmod_eq_of_le (n := 128 + (i.val : ℤ)) (by omega) (by omega)]
  exact Int.bmod_eq_of_le (by omega) (by omega)

end Cert.Attn
-- ==== Proof.Entry.lean ====
/-
  What one trip of the loop reads, entry by entry: the heads of a group side by side, the band of keys, the table of
  biases.
-/
module

public import proofs.«01_k».proof.Proof.Cover
public import proofs.«01_k».proof.Proof.Consts
public import proofs.«01_k».proof.Proof.Model
public import proofs.«01_k».proof.Proof.Words
public import Idealize.ShloMosaic.Lib.Pointwise
public import Idealize.ShloMosaic.Lib.Pipeline.ValueKit

@[expose] public section

set_option maxRecDepth 16384

noncomputable section

namespace Cert.KernelIdeal.Block

open Cert.KernelIdeal Cert.KernelIdeal.Gen Cert.KernelIdeal.Trip Idealize.ShloMosaic Idealize.ShloMosaic.TcCoe Idealize.SL.Sem

/-- Query `i` of block `k`. -/
def pos (k : Fin k0_t1_loop.trips) (i : Fin 128) : Fin 2048 := ⟨128 * k.val + i.val, by have := k.isLt; have e := trips_eq; omega⟩

/-- Row `j` of the band of block `k`. -/
def row (k : Fin k0_t1_loop.trips) (j : Fin 256) : Fin 2176 := ⟨128 * k.val + j.val, by have := k.isLt; have e := trips_eq; omega⟩

/-- The head of a column. -/
def hd (c : Fin 1024) : Fin 8 := ⟨c.val / 128, by omega⟩

/-- The query of a column. -/
def qu (c : Fin 1024) : Fin 128 := ⟨c.val % 128, by omega⟩

theorem slab_apply (x : Vec Ideal S1x8x64x2048 .bf16) (off : Fin 4 → ℕ) (g : Fin 8) (k : Fin k0_t1_loop.trips) (hoff : off = ![0, g.val, 0, 128 * k.val])
    (inb) (a b : Fin 1) (d : Fin 64) (i : Fin 128) :
    View.ld x (Rect.unit (s := S1x8x64x2048) off S1x1x64x128.size inb) (ix4 a b d i) = x (ix4 (0 : Fin 1) g d (pos k i)) := by
  subst hoff
  refine congrArg x (funext fun z => Fin.ext ?_)
  fin_cases z
  · show 0 + 1 * a.val = 0; omega
  · show g.val + 1 * b.val = g.val; omega
  · show 0 + 1 * d.val = d.val; omega
  · exact congrArg (128 * k.val + ·) (Nat.one_mul i.val)

theorem side_by_side (w : Fin 8 → Vec Ideal S1x1x64x128 .bf16) (d : Fin 64) (c : Fin 1024) :
    k0_pay1 (w 0) (w 1) (w 2) (w 3) (w 4) (w 5) (w 6) (w 7) (ix2 d c) = w (hd c) (ix4 (0 : Fin 1) (0 : Fin 1) d (qu c)) := by
  unfold k0_pay1
  pointwise
  have hc := c.isLt
  have fin : ∀ (g : Fin 8) (n : ℕ) (hn : n < 128), c.val = 128 * g.val + n → w g (ix4 (0 : Fin 1) (0 : Fin 1) d (⟨n, hn⟩ : Fin 128)) = w (hd c) (ix4 (0 : Fin 1) (0 : Fin 1) d (qu c)) := by
    intro g n hn h
    have e1 : hd c = g := Fin.ext (by show c.val / 128 = g.val; omega)
    have e2 : qu c = ⟨n, hn⟩ := Fin.ext (by show c.val % 128 = n; omega)
    rw [e1, e2]
  by_cases h0 : c.val < 128
  · rw [dif_pos h0]; exact fin 0 _ _ (by simp)
  rw [dif_neg h0]
  by_cases h1 : c.val - 128 < 128
  · rw [dif_pos h1]; exact fin 1 _ _ (by simp; omega)
  rw [dif_neg h1]
  by_cases h2 : c.val - 128 - 128 < 128
  · rw [dif_pos h2]; exact fin 2 _ _ (by simp; omega)
  rw [dif_neg h2]
  by_cases h3 : c.val - 128 - 128 - 128 < 128
  · rw [dif_pos h3]; exact fin 3 _ _ (by simp; omega)
  rw [dif_neg h3]
  by_cases h4 : c.val - 128 - 128 - 128 - 128 < 128
  · rw [dif_pos h4]; exact fin 4 _ _ (by simp; omega)
  rw [dif_neg h4]
  by_cases h5 : c.val - 128 - 128 - 128 - 128 - 128 < 128
  · rw [dif_pos h5]; exact fin 5 _ _ (by simp; omega)
  rw [dif_neg h5]
  by_cases h6 : c.val - 128 - 128 - 128 - 128 - 128 - 128 < 128
  · rw [dif_pos h6]; exact fin 6 _ _ (by simp; omega)
  rw [dif_neg h6]
  exact fin 7 _ _ (by simp; omega)

theorem queries_apply (x : Vec Ideal S1x8x64x2048 .bf16) (k : Fin k0_t1_loop.trips) (d : Fin 64) (c : Fin 1024) :
    queries x k (ix2 d c) = x (ix4 (0 : Fin 1) (hd c) d (pos k (qu c))) := by
  have e : ∀ g : Fin 8, (![View.ld x (Rect.unit (s := S1x8x64x2048) (k0_off1 k) S1x1x64x128.size (k0_off1_inb k)), View.ld x (Rect.unit (s := S1x8x64x2048) (k0_off2 k) S1x1x64x128.size (k0_off2_inb k)),
      View.ld x (Rect.unit (s := S1x8x64x2048) (k0_off3 k) S1x1x64x128.size (k0_off3_inb k)), View.ld x (Rect.unit (s := S1x8x64x2048) (k0_off4 k) S1x1x64x128.size (k0_off4_inb k)),
      View.ld x (Rect.unit (s := S1x8x64x2048) (k0_off5 k) S1x1x64x128.size (k0_off5_inb k)), View.ld x (Rect.unit (s := S1x8x64x2048) (k0_off6 k) S1x1x64x128.size (k0_off6_inb k)),
      View.ld x (Rect.unit (s := S1x8x64x2048) (k0_off7 k) S1x1x64x128.size (k0_off7_inb k)), View.ld x (Rect.unit (s := S1x8x64x2048) (k0_off8 k) S1x1x64x128.size (k0_off8_inb k))] :
        Fin 8 → Vec Ideal S1x1x64x128 .bf16) g (ix4 (0 : Fin 1) (0 : Fin 1) d (qu c)) = x (ix4 (0 : Fin 1) g d (pos k (qu c))) := by
    intro g
    fin_cases g
    · exact slab_apply x _ 0 k (k0_off1_eq k) _ _ _ _ _
    · exact slab_apply x _ 1 k (k0_off2_eq k) _ _ _ _ _
    · exact slab_apply x _ 2 k (k0_off3_eq k) _ _ _ _ _
    · exact slab_apply x _ 3 k (k0_off4_eq k) _ _ _ _ _
    · exact slab_apply x _ 4 k (k0_off5_eq k) _ _ _ _ _
    · exact slab_apply x _ 5 k (k0_off6_eq k) _ _ _ _ _
    · exact slab_apply x _ 6 k (k0_off7_eq k) _ _ _ _ _
    · exact slab_apply x _ 7 k (k0_off8_eq k) _ _ _ _ _
  exact (side_by_side _ d c).trans (e (hd c))

/-- The output gradients are laid side by side in the same way. -/
theorem cotangents_eq (x : Vec Ideal S1x8x64x2048 .bf16) (k : Fin k0_t1_loop.trips) : cotangents x k = queries x k := rfl

theorem band_apply {φ : EltTy} (x : Vec Ideal S1x2176x64 φ) (k : Fin k0_t1_loop.trips) (a : Fin 1) (j : Fin 256) (d : Fin 64) :
    band x k (ix3 a j d) = x (ix3 (0 : Fin 1) (row k j) d) := by
  unfold band
  refine congrArg x (funext fun z => Fin.ext ?_)
  have e := k0_off9_eq k
  fin_cases z
  · show k0_off9 k 0 + 1 * a.val = 0; rw [e]; show 0 + 1 * a.val = 0; omega
  · exact (congrArg (· + 1 * j.val) (congrFun e 1)).trans (congrArg (128 * k.val + ·) (Nat.one_mul j.val))
  · show k0_off9 k 2 + 1 * d.val = d.val; rw [e]; show 0 + 1 * d.val = d.val; omega

theorem bandT_apply (x : Vec Ideal S1x64x2176 .bf16) (k : Fin k0_t1_loop.trips) (a : Fin 1) (d : Fin 64) (j : Fin 256) :
    bandT x k (ix3 a d j) = x (ix3 (0 : Fin 1) d (row k j)) := by
  unfold bandT
  refine congrArg x (funext fun z => Fin.ext ?_)
  have e := k0_off11_eq k
  fin_cases z
  · show k0_off11 k 0 + 1 * a.val = 0; rw [e]; show 0 + 1 * a.val = 0; omega
  · show k0_off11 k 1 + 1 * d.val = d.val; rw [e]; show 0 + 1 * d.val = d.val; omega
  · exact (congrArg (· + 1 * j.val) (congrFun e 2)).trans (congrArg (128 * k.val + ·) (Nat.one_mul j.val))

/-- Which row of the table of biases a trip reads. -/
def biasRow (k : Fin k0_t1_loop.trips) : Fin 2 := ⟨min k.val 1, by omega⟩

theorem scores_apply (xq : Vec Ideal S1x8x64x2048 .bf16) (xk : Vec Ideal S1x2176x64 .bf16) (xb : Vec Ideal S2x256x1024 .f32) (k : Fin k0_t1_loop.trips) (j : Fin 256) (c : Fin 1024) :
    scores xq xk xb k (ix2 j c) = (∑ d : Fin 64, xk (ix3 (0 : Fin 1) (row k j) d) * xq (ix4 (0 : Fin 1) (hd c) d (pos k (qu c)))) * ((8⁻¹ : ℝ) : EReal) + xb (ix3 (biasRow k) j c) := by
  unfold scores k0_pay4
  pointwise
  simp only [queries_apply, band_apply]
  have e := k0_off10_eq k
  rw [show Ideal.ofBits FTy.f32 0x3E000000#32 = ((8⁻¹ : ℝ) : EReal) from Cert.Attn.eighth]
  refine congrArg (_ + ·) (congrArg xb (funext fun z => Fin.ext ?_))
  fin_cases z
  · show k0_off10 k 0 = _; rw [e]; rfl
  · show k0_off10 k 1 + j.val = _; rw [e]; exact Nat.zero_add _
  · show k0_off10 k 2 + c.val = _; rw [e]; exact Nat.zero_add _

theorem bias_word (h : Fin 4) (c : Fin 1024) (j : Fin 256) :
    Scalar.select
        (IntOp.andi
          (IntOp.cmpi CmpIPredicate.sge
            (IntOp.subi (IntOp.addi (128#32) (IntOp.andi (BitVec.ofNat 32 c.val) 127#32)) (BitVec.ofNat 32 j.val)) 0#32)
          (IntOp.cmpi CmpIPredicate.slt
            (IntOp.subi (IntOp.addi (128#32) (IntOp.andi (BitVec.ofNat 32 c.val) 127#32)) (BitVec.ofNat 32 j.val)) 128#32))
        ((0 -
            Ideal.exp
              (FloatOps.sitofp (F := Ideal) FTy.f32
                  (IntOp.addi
                    (IntOp.addi (Scalar.muli (BitVec.ofNat 32 h.val) 8#32)
                      (IntOp.shrsi ArithUnit.vector (BitVec.ofNat 32 c.val) 7#32))
                    1#32) *
                Named.named (F := Ideal) κ "neg_quarter_log2" (φ := .f32) 3190911512#32)) *
          FloatOps.sitofp (F := Ideal) FTy.f32
            (IntOp.subi (IntOp.addi (128#32) (IntOp.andi (BitVec.ofNat 32 c.val) 127#32)) (BitVec.ofNat 32 j.val)))
        (Named.named (F := Ideal) κ "mask" (φ := .f32) 4048155338#32)
      = if j.val ≤ 128 + (qu c).val ∧ (qu c).val < j.val then ((-(Cert.Attn.slope h (hd c)) * (128 + (qu c).val - j.val) : ℝ) : EReal) else ⊥ := by
  have e1 := Cert.Attn.word_and c
  have e2 := Cert.Attn.word_shift c
  have e3 : (IntOp.addi (IntOp.addi (Scalar.muli (BitVec.ofNat 32 h.val) 8#32) (BitVec.ofNat 32 (c.val / 128))) 1#32).toInt = _ := Cert.Attn.word_head h (hd c)
  have e4 : (IntOp.subi (IntOp.addi (128#32) (BitVec.ofNat 32 (c.val % 128))) (BitVec.ofNat 32 j.val)).toInt = _ := Cert.Attn.word_dist (qu c) j
  rw [Cert.Attn.mask, Cert.Attn.rate, Cert.Attn.select_within, e1, e2, e4]
  refine if_congr (by omega) ?_ rfl
  show (0 - Ideal.exp ((((IntOp.addi (IntOp.addi (Scalar.muli (BitVec.ofNat 32 h.val) 8#32) (BitVec.ofNat 32 (c.val / 128))) 1#32).toInt : ℝ) : EReal) * _)) * ((((IntOp.subi (IntOp.addi (128#32) (BitVec.ofNat 32 (c.val % 128))) (BitVec.ofNat 32 j.val)).toInt : ℝ) : EReal)) = _
  rw [e3, e4, ← EReal.coe_mul]
  show (0 - ((Real.exp _ : ℝ) : EReal)) * _ = _
  rw [zero_sub, ← EReal.coe_neg, ← EReal.coe_mul]
  push_cast
  rfl

theorem bias_apply (i : grid0.Coords) (r : Fin 2) (j : Fin 256) (c : Fin 1024) :
    biasOf (F := Ideal) i (ix3 r j c) = if Cert.Attn.live r.val (qu c) j then ((-(Cert.Attn.slope (i 0) (hd c)) * (128 + (qu c).val - j.val) : ℝ) : EReal) else ⊥ := by
  have hj := j.isLt
  have e := bias_word (i 0) c j
  have hm : (Named.named (F := Ideal) κ "mask" (φ := .f32) 4048155338#32) = (⊥ : EReal) := Cert.Attn.mask
  unfold biasOf k0_pay26 k0_pay25 k0_pay24
  fin_cases r
  · pointwise
    refine (congrArg (Scalar.select _ _) e).trans ?_
    rw [WordCmp.cmpi_slt_eq, Cert.Attn.select_ofBool, Cert.Attn.toInt_small j.val (by omega), hm]
    show (if (j.val : ℤ) < 128 then (⊥ : EReal) else _) = _
    by_cases h : j.val < 128
    · rw [if_pos (by omega), if_neg (fun hh => by have := hh.2.2; simp at this; omega)]
    · rw [if_neg (by omega)]
      exact if_congr ⟨fun hh => ⟨hh.1, hh.2, by simp; omega⟩, fun hh => ⟨hh.1, hh.2.1⟩⟩ rfl rfl
  · pointwise
    refine e.trans ?_
    exact if_congr ⟨fun hh => ⟨hh.1, hh.2, by simp⟩, fun hh => ⟨hh.1, hh.2.1⟩⟩ rfl rfl

end Cert.KernelIdeal.Block

end
-- ==== Proof.Column.lean ====
/-
  One trip of the loop over the extended reals: the probabilities and the gradients of a block of queries, entry by
  entry, are the reals of `Model.lean`.
-/
module

public import proofs.«01_k».proof.Proof.Entry

@[expose] public section

set_option maxRecDepth 16384

noncomputable section

namespace Cert.KernelIdeal.Block

open Cert.KernelIdeal Cert.KernelIdeal.Gen Cert.KernelIdeal.Trip Cert.Attn Idealize.ShloMosaic Idealize.ShloMosaic.TcCoe Idealize.SL.Sem

variable (L : Fin 1024 → Fin 256 → Prop) [∀ c, DecidablePred (L c)] (s : Fin 1024 → Fin 256 → ℝ) (σ : Fin 1024 → ℝ)
variable (v40 : FVec Ideal S1x1024 .f32) (S : FVec Ideal S256x1024 .f32)
variable (hσ : ∀ a c, v40 (ix2 a c) = (σ c : EReal)) (hS : ∀ j c, S (ix2 j c) = masked (L c) (s c) j)

include hσ hS

theorem pay5_apply (a : Fin 1) (c : Fin 1024) : k0_pay5 v40 S (ix2 a c) = (topR (L c) (s c) (σ c) : EReal) := by
  rw [← top_eq]
  unfold k0_pay5 top
  pointwise
  simp only [hσ, hS]
  rw [neg_inf]

theorem pay6_apply (j : Fin 256) (c : Fin 1024) : k0_pay6 v40 S (ix2 j c) = (wt (L c) (s c) (σ c) j : EReal) := by
  rw [← exp_masked, ← hS, ← pay5_apply L s σ v40 S hσ hS 0 c]
  unfold k0_pay6
  pointwise

theorem pay7_apply (a : Fin 1) (c : Fin 1024) : k0_pay7 v40 S (ix2 a c) = (wtSink (L c) (s c) (σ c) : EReal) := by
  unfold k0_pay7
  pointwise
  rw [hσ, pay5_apply L s σ v40 S hσ hS, ← EReal.coe_sub]
  rfl

theorem pay8_apply (a : Fin 1) (c : Fin 1024) : k0_pay8 v40 S (ix2 a c) = ((1 / den (L c) (s c) (σ c) : ℝ) : EReal) := by
  unfold k0_pay8
  pointwise
  simp only [pay6_apply L s σ v40 S hσ hS, pay7_apply L s σ v40 S hσ hS]
  rw [← coe_sum, ← EReal.coe_add]
  show Ideal.div 1 ((den (L c) (s c) (σ c) : ℝ) : EReal) = _
  rw [Ideal.div_coe (den_pos (L c) (s c) (σ c)).ne', one_mul]

theorem pay9_apply (j : Fin 256) (c : Fin 1024) : k0_pay9 v40 S (ix2 j c) = (prob (L c) (s c) (σ c) j : EReal) := by
  unfold k0_pay9
  pointwise
  rw [pay6_apply L s σ v40 S hσ hS, pay8_apply L s σ v40 S hσ hS, ← EReal.coe_mul]
  rfl

theorem pay10_apply (a : Fin 1) (c : Fin 1024) : k0_pay10 v40 S (ix2 a c) = (probSink (L c) (s c) (σ c) : EReal) := by
  unfold k0_pay10
  pointwise
  rw [pay7_apply L s σ v40 S hσ hS, pay8_apply L s σ v40 S hσ hS, ← EReal.coe_mul]
  rfl

variable (D : FVec Ideal S64x1024 .bf16) (W : Vec Ideal S1x256x64 .bf16) (dp : Fin 1024 → Fin 256 → ℝ)
variable (hdp : ∀ j c, k0_pay11 D W (ix2 j c) = (dp c j : EReal))

include hdp

theorem pay12_apply (a : Fin 1) (c : Fin 1024) : k0_pay12 v40 D S W (ix2 a c) = (mean (L c) (s c) (σ c) (dp c) : EReal) := by
  unfold k0_pay12
  pointwise
  simp only [pay9_apply L s σ v40 S hσ hS, hdp, ← EReal.coe_mul]
  rw [← coe_sum]
  rfl

theorem pay13_apply (j : Fin 256) (c : Fin 1024) : k0_pay13 v40 D S W (ix2 j c) = (dscore (L c) (s c) (σ c) (dp c) j : EReal) := by
  unfold k0_pay13
  pointwise
  rw [pay9_apply L s σ v40 S hσ hS, hdp, pay12_apply L s σ v40 S hσ hS D W dp hdp, eighth, ← EReal.coe_sub, ← EReal.coe_mul, ← EReal.coe_mul]
  rfl

/-- The queries' gradient of a block. -/
theorem pay14_apply (T : Vec Ideal S1x64x256 .bf16) (kt : Fin 64 → Fin 256 → ℝ) (hT : ∀ a d j, T (ix3 a d j) = (kt d j : EReal)) (d : Fin 64) (c : Fin 1024) :
    k0_pay14 v40 D S W T (ix2 d c) = ((∑ j, kt d j * dscore (L c) (s c) (σ c) (dp c) j : ℝ) : EReal) := by
  unfold k0_pay14
  pointwise
  simp only [hT, pay13_apply L s σ v40 S hσ hS D W dp hdp, ← EReal.coe_mul]
  rw [coe_sum]

/-- The keys' gradient of a block, added to what the band held. -/
theorem pay32_apply (Q : FVec Ideal S64x1024 .bf16) (q : Fin 64 → Fin 1024 → ℝ) (hQ : ∀ d c, Q (ix2 d c) = (q d c : EReal))
    (B : Vec Ideal S1x256x64 .f32) (a : Fin 1) (j : Fin 256) (d : Fin 64) :
    k0_pay32 Q (k0_pay13 v40 D S W) B (ix3 a j d) = B (ix3 (0 : Fin 1) j d) + ((∑ c, dscore (L c) (s c) (σ c) (dp c) j * q d c : ℝ) : EReal) := by
  unfold k0_pay32
  pointwise
  simp only [hQ, pay13_apply L s σ v40 S hσ hS D W dp hdp, ← EReal.coe_mul]
  rw [coe_sum]

omit hdp in
/-- The values' gradient of a block, added to what the band held. -/
theorem pay33_apply (w : Fin 64 → Fin 1024 → ℝ) (hD : ∀ d c, D (ix2 d c) = (w d c : EReal))
    (B : Vec Ideal S1x256x64 .f32) (a : Fin 1) (j : Fin 256) (d : Fin 64) :
    k0_pay33 D (k0_pay9 v40 S) B (ix3 a j d) = B (ix3 (0 : Fin 1) j d) + ((∑ c, prob (L c) (s c) (σ c) j * w d c : ℝ) : EReal) := by
  unfold k0_pay33
  pointwise
  simp only [hD, pay9_apply L s σ v40 S hσ hS, ← EReal.coe_mul]
  rw [coe_sum]

/-- The row that the loop carries. -/
theorem pay34_apply (r : FVec Ideal S1x1024 .f32) (a : Fin 1) (c : Fin 1024) :
    k0_pay34 r (k0_pay10 v40 S) (k0_pay12 v40 D S W) (ix2 a c) = r (ix2 a c) - ((probSink (L c) (s c) (σ c) * mean (L c) (s c) (σ c) (dp c) : ℝ) : EReal) := by
  unfold k0_pay34
  pointwise
  rw [pay10_apply L s σ v40 S hσ hS, pay12_apply L s σ v40 S hσ hS D W dp hdp, ← EReal.coe_mul]

end Cert.KernelIdeal.Block

end
-- ==== Proof.Group.lean ====
/-
  The gradients of one group of eight heads that share their keys and values, over the reals: `q` the queries, `kp` and
  `vp` the keys and values behind 128 rows of padding, `sk` the sinks, `w` the output's gradient.
-/
module

public import proofs.«01_k».proof.Proof.Model

@[expose] public section

noncomputable section

namespace Cert.Attn

/-- Query `i` of block `n`. -/
def pos (n : Fin 16) (i : Fin 128) : Fin 2048 := ⟨128 * n.val + i.val, by omega⟩

/-- Row `j` of the band of block `n`. -/
def row (n : Fin 16) (j : Fin 256) : Fin 2176 := ⟨128 * n.val + j.val, by omega⟩

variable (h : Fin 4) (q : Fin 8 → Fin 64 → Fin 2048 → ℝ) (kp vp : Fin 2176 → Fin 64 → ℝ) (sk : Fin 8 → ℝ) (w : Fin 8 → Fin 64 → Fin 2048 → ℝ)

/-- The scores of one query. -/
def score (n : Fin 16) (g : Fin 8) (i : Fin 128) (j : Fin 256) : ℝ :=
  (∑ d, kp (row n j) d * q g d (pos n i)) * 8⁻¹ + -(slope h g) * (128 + (i.val : ℝ) - j.val)

/-- The probabilities' cotangents of one query. -/
def dprob (n : Fin 16) (g : Fin 8) (i : Fin 128) (j : Fin 256) : ℝ := ∑ d, vp (row n j) d * w g d (pos n i)

/-- The probabilities of one query. -/
def P (n : Fin 16) (g : Fin 8) (i : Fin 128) (j : Fin 256) : ℝ := prob (live n.val i) (score h q kp n g i) (sk g) j

/-- The scores' cotangents of one query. -/
def dS (n : Fin 16) (g : Fin 8) (i : Fin 128) (j : Fin 256) : ℝ := dscore (live n.val i) (score h q kp n g i) (sk g) (dprob vp w n g i) j

/-- A sink's cotangent from one query. -/
def dSink1 (n : Fin 16) (g : Fin 8) (i : Fin 128) : ℝ :=
  probSink (live n.val i) (score h q kp n g i) (sk g) * mean (live n.val i) (score h q kp n g i) (sk g) (dprob vp w n g i)

/-- The queries' gradient. -/
def dQ (n : Fin 16) (g : Fin 8) (i : Fin 128) (d : Fin 64) : ℝ := ∑ j, kp (row n j) d * dS h q kp vp sk w n g i j

/-- What block `n` adds to row `r` of the keys' gradient: zero outside the block's band. -/
def dK1 (n : Fin 16) (r : Fin 2176) (d : Fin 64) : ℝ :=
  if hr : 128 * n.val ≤ r.val ∧ r.val < 128 * n.val + 256 then ∑ g, ∑ i, dS h q kp vp sk w n g i ⟨r.val - 128 * n.val, by omega⟩ * q g d (pos n i) else 0

/-- What block `n` adds to row `r` of the values' gradient. -/
def dV1 (n : Fin 16) (r : Fin 2176) (d : Fin 64) : ℝ :=
  if hr : 128 * n.val ≤ r.val ∧ r.val < 128 * n.val + 256 then ∑ g, ∑ i, P h q kp sk n g i ⟨r.val - 128 * n.val, by omega⟩ * w g d (pos n i) else 0

/-- The keys' gradient. -/
def dK (r : Fin 2176) (d : Fin 64) : ℝ := ∑ n, dK1 h q kp vp sk w n r d

/-- The values' gradient. -/
def dV (r : Fin 2176) (d : Fin 64) : ℝ := ∑ n, dV1 h q kp sk w n r d

/-- A sink's gradient. -/
def dSinks (g : Fin 8) : ℝ := ∑ i, -∑ n, dSink1 h q kp vp sk w n g i

theorem dK1_in (n : Fin 16) (r : Fin 2176) (d : Fin 64) (hr : 128 * n.val ≤ r.val ∧ r.val < 128 * n.val + 256) :
    dK1 h q kp vp sk w n r d = ∑ g, ∑ i, dS h q kp vp sk w n g i ⟨r.val - 128 * n.val, by omega⟩ * q g d (pos n i) := by
  unfold dK1; rw [dif_pos hr]

theorem dK1_out (n : Fin 16) (r : Fin 2176) (d : Fin 64) (hr : ¬(128 * n.val ≤ r.val ∧ r.val < 128 * n.val + 256)) :
    dK1 h q kp vp sk w n r d = 0 := by
  unfold dK1; rw [dif_neg hr]

theorem dV1_in (n : Fin 16) (r : Fin 2176) (d : Fin 64) (hr : 128 * n.val ≤ r.val ∧ r.val < 128 * n.val + 256) :
    dV1 h q kp sk w n r d = ∑ g, ∑ i, P h q kp sk n g i ⟨r.val - 128 * n.val, by omega⟩ * w g d (pos n i) := by
  unfold dV1; rw [dif_pos hr]

theorem dV1_out (n : Fin 16) (r : Fin 2176) (d : Fin 64) (hr : ¬(128 * n.val ≤ r.val ∧ r.val < 128 * n.val + 256)) :
    dV1 h q kp sk w n r d = 0 := by
  unfold dV1; rw [dif_neg hr]

/-- The sum of the first terms of sixteen, and one more. -/
theorem sum_before_succ (f : Fin 16 → ℝ) (k : Fin 16) :
    (∑ n, if n.val < k.val + 1 then f n else 0) = (∑ n, if n.val < k.val then f n else 0) + f k := by
  have e : ∀ n : Fin 16, (if n.val < k.val + 1 then f n else 0) = (if n.val < k.val then f n else 0) + if n = k then f n else 0 := by
    intro n
    by_cases h1 : n = k
    · subst h1; simp
    · have h2 : n.val ≠ k.val := fun e => h1 (Fin.ext e)
      rw [if_neg h1, add_zero]
      exact if_congr (by omega) rfl rfl
  rw [Finset.sum_congr rfl fun n _ => e n, Finset.sum_add_distrib, Finset.sum_ite_eq' Finset.univ k f, if_pos (Finset.mem_univ k)]

theorem sum_before_all (f : Fin 16 → ℝ) : (∑ n, if n.val < 16 then f n else 0) = ∑ n, f n :=
  Finset.sum_congr rfl fun n _ => if_pos n.isLt

/-- A sum over the columns of eight heads side by side. -/
theorem sum_columns (f : Fin 8 → Fin 128 → ℝ) : (∑ c : Fin 1024, f ⟨c.val / 128, by omega⟩ ⟨c.val % 128, by omega⟩) = ∑ g, ∑ i, f g i := by
  rw [← Fintype.sum_prod_type']
  refine Fintype.sum_equiv (finProdFinEquiv (m := 8) (n := 128)).symm _ _ fun c => ?_
  rfl

end Cert.Attn

end
-- ==== Proof.Blocks.lean ====
/-
  The four blocks that one grid point leaves, over the extended reals: on real inputs they are the gradients of
  `Group.lean`.
-/
module

public import proofs.«01_k».proof.Proof.Column
public import proofs.«01_k».proof.Proof.Group

@[expose] public section

set_option maxRecDepth 16384

noncomputable section

namespace Cert.KernelIdeal.Block

open Cert.KernelIdeal Cert.KernelIdeal.Gen Cert.KernelIdeal.Trip Cert.Attn Idealize.ShloMosaic Idealize.ShloMosaic.TcCoe Idealize.SL.Sem

/-- The input blocks of a grid point hold real numbers. -/
structure Reals (x0 : Vec Ideal S1x8x64x2048 .bf16) (x1 : Vec Ideal S1x2176x64 .bf16) (x2 : Vec Ideal S1x64x2176 .bf16) (x3 : Vec Ideal S1x2176x64 .bf16) (x4 : Vec Ideal S1x1x1024 .f32) (x5 : Vec Ideal S1x8x64x2048 .bf16)
    (q : Fin 8 → Fin 64 → Fin 2048 → ℝ) (kp vp : Fin 2176 → Fin 64 → ℝ) (sk : Fin 8 → ℝ) (w : Fin 8 → Fin 64 → Fin 2048 → ℝ) : Prop where
  h0 : ∀ g d t, x0 (ix4 (0 : Fin 1) g d t) = (q g d t : EReal)
  h1 : ∀ r d, x1 (ix3 (0 : Fin 1) r d) = (kp r d : EReal)
  h2 : ∀ d r, x2 (ix3 (0 : Fin 1) d r) = (kp r d : EReal)
  h3 : ∀ r d, x3 (ix3 (0 : Fin 1) r d) = (vp r d : EReal)
  h4 : ∀ c : Fin 1024, x4 (ix3 (0 : Fin 1) (0 : Fin 1) c) = (sk (hd c) : EReal)
  h5 : ∀ g d t, x5 (ix4 (0 : Fin 1) g d t) = (w g d t : EReal)

variable {x0 : Vec Ideal S1x8x64x2048 .bf16} {x1 : Vec Ideal S1x2176x64 .bf16} {x2 : Vec Ideal S1x64x2176 .bf16} {x3 : Vec Ideal S1x2176x64 .bf16} {x4 : Vec Ideal S1x1x1024 .f32} {x5 : Vec Ideal S1x8x64x2048 .bf16}
variable {q : Fin 8 → Fin 64 → Fin 2048 → ℝ} {kp vp : Fin 2176 → Fin 64 → ℝ} {sk : Fin 8 → ℝ} {w : Fin 8 → Fin 64 → Fin 2048 → ℝ}

/-- The key-value head of a grid point. -/
def headOf (i : grid0.Coords) : Fin 4 := i 0

/-- A trip as a number below sixteen. -/
def num (k : Fin k0_t1_loop.trips) : Fin 16 := k.cast trips_eq

theorem sink_real (R : Reals x0 x1 x2 x3 x4 x5 q kp vp sk w) (a : Fin 1) (c : Fin 1024) : k0_pay27 x4 (ix2 a c) = (sk (hd c) : EReal) := by
  unfold k0_pay27
  pointwise
  exact R.h4 c

theorem scores_real (R : Reals x0 x1 x2 x3 x4 x5 q kp vp sk w) (i : grid0.Coords) (k : Fin k0_t1_loop.trips) (j : Fin 256) (c : Fin 1024) :
    scores x0 x1 (biasOf i) k (ix2 j c) = masked (live (num k).val (qu c)) (score (headOf i) q kp (num k) (hd c) (qu c)) j := by
  rw [scores_apply, bias_apply]
  simp only [R.h0, R.h1, ← EReal.coe_mul]
  rw [← coe_sum, ← EReal.coe_mul]
  unfold masked
  have hl : live (biasRow k).val (qu c) j ↔ live (num k).val (qu c) j := by
    show _ ∧ _ ∧ 128 ≤ 128 * min k.val 1 + j.val ↔ _ ∧ _ ∧ 128 ≤ 128 * k.val + j.val
    omega
  by_cases h : live (num k).val (qu c) j
  · rw [if_pos h, if_pos (hl.mpr h), ← EReal.coe_add]
    rfl
  · rw [if_neg h, if_neg (fun hh => h (hl.mp hh)), EReal.add_bot]

theorem queries_real (R : Reals x0 x1 x2 x3 x4 x5 q kp vp sk w) (k : Fin k0_t1_loop.trips) (d : Fin 64) (c : Fin 1024) :
    queries x0 k (ix2 d c) = (q (hd c) d (Attn.pos (num k) (qu c)) : EReal) := (queries_apply x0 k d c).trans (R.h0 _ _ _)

theorem cotangents_real (R : Reals x0 x1 x2 x3 x4 x5 q kp vp sk w) (k : Fin k0_t1_loop.trips) (d : Fin 64) (c : Fin 1024) :
    cotangents x5 k (ix2 d c) = (w (hd c) d (Attn.pos (num k) (qu c)) : EReal) := (queries_apply x5 k d c).trans (R.h5 _ _ _)

theorem dprob_real (R : Reals x0 x1 x2 x3 x4 x5 q kp vp sk w) (k : Fin k0_t1_loop.trips) (j : Fin 256) (c : Fin 1024) :
    k0_pay11 (cotangents x5 k) (band x3 k) (ix2 j c) = (dprob vp w (num k) (hd c) (qu c) j : EReal) := by
  unfold k0_pay11
  pointwise
  simp only [cotangents_real R, band_apply, R.h3, ← EReal.coe_mul]
  rw [← coe_sum]
  rfl

theorem slab_of (v40 : FVec Ideal S1x1024 .f32) (D : FVec Ideal S64x1024 .bf16) (S : FVec Ideal S256x1024 .f32) (W : Vec Ideal S1x256x64 .bf16) (T : Vec Ideal S1x64x256 .bf16)
    (g : Fin 8) (d : Fin 64) (i : Fin 128) :
    (![k0_pay15 v40 D S W T, k0_pay17 (k0_pay16 v40 D S W T), k0_pay18 (k0_pay14 v40 D S W T), k0_pay19 (k0_pay14 v40 D S W T), k0_pay20 (k0_pay14 v40 D S W T), k0_pay21 (k0_pay14 v40 D S W T), k0_pay22 (k0_pay14 v40 D S W T), k0_pay31 (k0_pay23 (k0_pay14 v40 D S W T))] : Fin 8 → Vec Ideal S1x1x64x128 .bf16) g (ix4 (0 : Fin 1) (0 : Fin 1) d i)
      = k0_pay14 v40 D S W T (ix2 d (⟨128 * g.val + i.val, by omega⟩ : Fin 1024)) := by
  fin_cases g
  · show k0_pay15 v40 D S W T (ix4 (0 : Fin 1) (0 : Fin 1) d i) = _
    unfold k0_pay15
    pointwise
  · show k0_pay17 (k0_pay16 v40 D S W T) (ix4 (0 : Fin 1) (0 : Fin 1) d i) = _
    unfold k0_pay17 k0_pay16
    pointwise
  · show k0_pay18 (k0_pay14 v40 D S W T) (ix4 (0 : Fin 1) (0 : Fin 1) d i) = _
    unfold k0_pay18
    pointwise
  · show k0_pay19 (k0_pay14 v40 D S W T) (ix4 (0 : Fin 1) (0 : Fin 1) d i) = _
    unfold k0_pay19
    pointwise
  · show k0_pay20 (k0_pay14 v40 D S W T) (ix4 (0 : Fin 1) (0 : Fin 1) d i) = _
    unfold k0_pay20
    pointwise
  · show k0_pay21 (k0_pay14 v40 D S W T) (ix4 (0 : Fin 1) (0 : Fin 1) d i) = _
    unfold k0_pay21
    pointwise
  · show k0_pay22 (k0_pay14 v40 D S W T) (ix4 (0 : Fin 1) (0 : Fin 1) d i) = _
    unfold k0_pay22
    pointwise
  · show k0_pay31 (k0_pay23 (k0_pay14 v40 D S W T)) (ix4 (0 : Fin 1) (0 : Fin 1) d i) = _
    unfold k0_pay31 k0_pay23
    pointwise

/-- The queries' gradient. -/
theorem dq_real (R : Reals x0 x1 x2 x3 x4 x5 q kp vp sk w) (i : grid0.Coords) (a : Fin 1) (g : Fin 8) (d : Fin 64) (t : Fin 2048) :
    dqBlk x0 x1 x2 x3 x4 x5 (biasOf i) (ix4 a g d t)
      = (dQ (headOf i) q kp vp sk w ⟨t.val / 128, by omega⟩ g ⟨t.val % 128, by omega⟩ d : EReal) := by
  unfold dqBlk dqSlab
  refine (slab_of _ _ _ _ _ g d ⟨t.val % 128, by omega⟩).trans ?_
  refine (pay14_apply _ _ _ _ _ (sink_real R) (scores_real R i (blockOf t)) _ _ _ (dprob_real R (blockOf t)) (bandT x2 (blockOf t))
    (fun d j => kp (Attn.row (num (blockOf t)) j) d) (fun a d j => (bandT_apply x2 _ a d j).trans (R.h2 _ _)) d _).trans ?_
  have e1 : hd ⟨128 * g.val + t.val % 128, by omega⟩ = g := Fin.ext (by show (128 * g.val + t.val % 128) / 128 = g.val; omega)
  have e2 : qu ⟨128 * g.val + t.val % 128, by omega⟩ = ⟨t.val % 128, by omega⟩ := Fin.ext (by show (128 * g.val + t.val % 128) % 128 = t.val % 128; omega)
  rw [e1, e2]
  rfl

/-- A band put at block `k` read at an index. -/
theorem put_band (d : Vec Ideal S1x2176x64 .f32) (k : Fin k0_t1_loop.trips) (v : Vec Ideal S1x256x64 .f32) (r : Fin 2176) (e : Fin 64) :
    VecWindow.put (s := S1x2176x64) d (k0_off9 k) S1x256x64.size v (ix3 (0 : Fin 1) r e)
      = if h : 128 * k.val ≤ r.val ∧ r.val < 128 * k.val + 256 then v (ix3 (0 : Fin 1) (⟨r.val - 128 * k.val, by omega⟩ : Fin 256) e) else d (ix3 (0 : Fin 1) r e) := by
  rw [k0_off9_eq]
  unfold VecWindow.put
  by_cases h : 128 * k.val ≤ r.val ∧ r.val < 128 * k.val + 256
  · rw [dif_pos h]
    have hin : ∀ a : Fin 3, (![0, 128 * k.val, 0] : Fin 3 → ℕ) a ≤ ((ix3 (0 : Fin 1) r e : S1x2176x64.Idx) a).val
        ∧ ((ix3 (0 : Fin 1) r e : S1x2176x64.Idx) a).val < (![0, 128 * k.val, 0] : Fin 3 → ℕ) a + S1x256x64.size a := by
      intro a
      fin_cases a
      · exact ⟨le_rfl, Nat.one_pos⟩
      · exact h
      · exact ⟨Nat.zero_le _, by show e.val < 0 + 64; omega⟩
    rw [dif_pos hin]
    refine congrArg v (funext fun a => Fin.ext ?_)
    fin_cases a
    · rfl
    · rfl
    · rfl
  · rw [dif_neg h, dif_neg]
    exact fun hin => h (hin 1)

theorem dk_fold (R : Reals x0 x1 x2 x3 x4 x5 q kp vp sk w) (i : grid0.Coords) (n : ℕ) (hn : n ≤ k0_t1_loop.trips) (r : Fin 2176) (e : Fin 64) :
    fold (dkStep x0 x1 x2 x3 x4 x5 (biasOf i)) (k0_pay28 (F := Ideal)) n (ix3 (0 : Fin 1) r e)
      = ((∑ k : Fin 16, if k.val < n then dK1 (headOf i) q kp vp sk w k r e else 0 : ℝ) : EReal) := by
  induction n with
  | zero =>
    show k0_pay28 (F := Ideal) (ix3 (0 : Fin 1) r e) = _
    unfold k0_pay28
    pointwise
    simp
  | succ n ih =>
    have ev : fold (dkStep x0 x1 x2 x3 x4 x5 (biasOf i)) (k0_pay28 (F := Ideal)) (n + 1) = _ := fold_succ (dkStep x0 x1 x2 x3 x4 x5 (biasOf i)) (k0_pay28 (F := Ideal)) ⟨n, hn⟩
    have hp := sum_before_succ (fun k => dK1 (headOf i) q kp vp sk w k r e) (num ⟨n, hn⟩)
    rw [ev, show n + 1 = (num ⟨n, hn⟩).val + 1 from rfl, hp, EReal.coe_add]
    have ih := ih (Nat.le_of_succ_le hn)
    unfold dkStep
    rw [put_band]
    by_cases hr : 128 * n ≤ r.val ∧ r.val < 128 * n + 256
    · rw [dif_pos hr]
      refine (pay32_apply _ _ _ _ _ (sink_real R) (scores_real R i ⟨n, hn⟩) _ _ _ (dprob_real R ⟨n, hn⟩) _ (fun d c => q (hd c) d (Attn.pos (num ⟨n, hn⟩) (qu c))) (queries_real R ⟨n, hn⟩) _ _ _ _).trans ?_
      rw [band_apply]
      have er : Block.row ⟨n, hn⟩ ⟨r.val - 128 * n, by omega⟩ = r := Fin.ext (by show 128 * n + (r.val - 128 * n) = r.val; omega)
      rw [er]
      refine congrArg₂ (· + ·) ih (congrArg _ ?_)
      exact (sum_columns (fun g i' => dS (headOf i) q kp vp sk w (num ⟨n, hn⟩) g i' ⟨r.val - 128 * n, by omega⟩ * q g e (Attn.pos (num ⟨n, hn⟩) i'))).trans (dK1_in _ _ _ _ _ _ (num ⟨n, hn⟩) r e hr).symm
    · rw [dif_neg hr]
      have e0 : dK1 (headOf i) q kp vp sk w (num ⟨n, hn⟩) r e = 0 := dK1_out _ _ _ _ _ _ (num ⟨n, hn⟩) r e hr
      rw [e0, EReal.coe_zero, add_zero]
      exact ih

/-- The keys' gradient. -/
theorem dk_real (R : Reals x0 x1 x2 x3 x4 x5 q kp vp sk w) (i : grid0.Coords) (r : Fin 2176) (e : Fin 64) :
    dkBlk x0 x1 x2 x3 x4 x5 (biasOf i) (ix3 (0 : Fin 1) r e) = (dK (headOf i) q kp vp sk w r e : EReal) := by
  unfold dkBlk
  rw [dk_fold R i _ le_rfl, trips_eq, sum_before_all (fun k => dK1 (headOf i) q kp vp sk w k r e)]
  rfl

theorem dv_fold (R : Reals x0 x1 x2 x3 x4 x5 q kp vp sk w) (i : grid0.Coords) (n : ℕ) (hn : n ≤ k0_t1_loop.trips) (r : Fin 2176) (e : Fin 64) :
    fold (dvStep x0 x1 x2 x3 x4 x5 (biasOf i)) (k0_pay29 (F := Ideal)) n (ix3 (0 : Fin 1) r e)
      = ((∑ k : Fin 16, if k.val < n then dV1 (headOf i) q kp sk w k r e else 0 : ℝ) : EReal) := by
  induction n with
  | zero =>
    show k0_pay29 (F := Ideal) (ix3 (0 : Fin 1) r e) = _
    unfold k0_pay29
    pointwise
    simp
  | succ n ih =>
    have ev : fold (dvStep x0 x1 x2 x3 x4 x5 (biasOf i)) (k0_pay29 (F := Ideal)) (n + 1) = _ := fold_succ (dvStep x0 x1 x2 x3 x4 x5 (biasOf i)) (k0_pay29 (F := Ideal)) ⟨n, hn⟩
    have hp := sum_before_succ (fun k => dV1 (headOf i) q kp sk w k r e) (num ⟨n, hn⟩)
    rw [ev, show n + 1 = (num ⟨n, hn⟩).val + 1 from rfl, hp, EReal.coe_add]
    have ih := ih (Nat.le_of_succ_le hn)
    unfold dvStep
    rw [put_band]
    by_cases hr : 128 * n ≤ r.val ∧ r.val < 128 * n + 256
    · rw [dif_pos hr]
      refine (pay33_apply _ _ _ _ _ (sink_real R) (scores_real R i ⟨n, hn⟩) _ (fun d c => w (hd c) d (Attn.pos (num ⟨n, hn⟩) (qu c))) (cotangents_real R ⟨n, hn⟩) _ _ _ _).trans ?_
      rw [band_apply]
      have er : Block.row ⟨n, hn⟩ ⟨r.val - 128 * n, by omega⟩ = r := Fin.ext (by show 128 * n + (r.val - 128 * n) = r.val; omega)
      rw [er]
      refine congrArg₂ (· + ·) ih (congrArg _ ?_)
      exact (sum_columns (fun g i' => P (headOf i) q kp sk (num ⟨n, hn⟩) g i' ⟨r.val - 128 * n, by omega⟩ * w g e (Attn.pos (num ⟨n, hn⟩) i'))).trans (dV1_in _ _ _ _ _ (num ⟨n, hn⟩) r e hr).symm
    · rw [dif_neg hr]
      have e0 : dV1 (headOf i) q kp sk w (num ⟨n, hn⟩) r e = 0 := dV1_out _ _ _ _ _ (num ⟨n, hn⟩) r e hr
      rw [e0, EReal.coe_zero, add_zero]
      exact ih

/-- The values' gradient. -/
theorem dv_real (R : Reals x0 x1 x2 x3 x4 x5 q kp vp sk w) (i : grid0.Coords) (r : Fin 2176) (e : Fin 64) :
    dvBlk x0 x1 x2 x3 x4 x5 (biasOf i) (ix3 (0 : Fin 1) r e) = (dV (headOf i) q kp sk w r e : EReal) := by
  unfold dvBlk
  rw [dv_fold R i _ le_rfl, trips_eq, sum_before_all (fun k => dV1 (headOf i) q kp sk w k r e)]
  rfl

theorem carry_fold (R : Reals x0 x1 x2 x3 x4 x5 q kp vp sk w) (i : grid0.Coords) (n : ℕ) (hn : n ≤ k0_t1_loop.trips) (a : Fin 1) (c : Fin 1024) :
    fold (carryStep x0 x1 x2 x3 x4 x5 (biasOf i)) (k0_pay30 (F := Ideal)) n (ix2 a c)
      = ((-∑ k : Fin 16, (if k.val < n then dSink1 (headOf i) q kp vp sk w k (hd c) (qu c) else 0) : ℝ) : EReal) := by
  induction n with
  | zero =>
    show k0_pay30 (F := Ideal) (ix2 a c) = _
    unfold k0_pay30
    pointwise
    simp
  | succ n ih =>
    have ev : fold (carryStep x0 x1 x2 x3 x4 x5 (biasOf i)) (k0_pay30 (F := Ideal)) (n + 1) = _ := fold_succ (carryStep x0 x1 x2 x3 x4 x5 (biasOf i)) (k0_pay30 (F := Ideal)) ⟨n, hn⟩
    have hp := sum_before_succ (fun k => dSink1 (headOf i) q kp vp sk w k (hd c) (qu c)) (num ⟨n, hn⟩)
    rw [ev, show n + 1 = (num ⟨n, hn⟩).val + 1 from rfl, hp]
    have ih := ih (Nat.le_of_succ_le hn)
    unfold carryStep
    refine (pay34_apply _ _ _ _ _ (sink_real R) (scores_real R i ⟨n, hn⟩) _ _ _ (dprob_real R ⟨n, hn⟩) _ a c).trans ?_
    rw [neg_add, ← sub_eq_add_neg, EReal.coe_sub]
    exact congrArg₂ (· - ·) ih rfl

theorem lanes (r : FVec Ideal S1x1024 .f32) (g : Fin 8) (a b : Fin 1) :
    dsOf r (ix3 a g b) = ∑ i : Fin 128, r (ix2 (0 : Fin 1) (⟨128 * g.val + i.val, by omega⟩ : Fin 1024)) := by
  unfold dsOf
  fin_cases g
  · show k0_pay35 r (ix3 (0 : Fin 1) (0 : Fin 1) (0 : Fin 1)) = _
    unfold k0_pay35
    pointwise
  · show k0_pay36 r (ix3 (0 : Fin 1) (0 : Fin 1) (0 : Fin 1)) = _
    unfold k0_pay36
    pointwise
  · show k0_pay38 (k0_pay37 r) (ix3 (0 : Fin 1) (0 : Fin 1) (0 : Fin 1)) = _
    unfold k0_pay38 k0_pay37
    pointwise
  · show k0_pay39 r (ix3 (0 : Fin 1) (0 : Fin 1) (0 : Fin 1)) = _
    unfold k0_pay39
    pointwise
  · show k0_pay40 r (ix3 (0 : Fin 1) (0 : Fin 1) (0 : Fin 1)) = _
    unfold k0_pay40
    pointwise
  · show k0_pay41 r (ix3 (0 : Fin 1) (0 : Fin 1) (0 : Fin 1)) = _
    unfold k0_pay41
    pointwise
  · show k0_pay42 r (ix3 (0 : Fin 1) (0 : Fin 1) (0 : Fin 1)) = _
    unfold k0_pay42
    pointwise
  · show k0_pay43 r (ix3 (0 : Fin 1) (0 : Fin 1) (0 : Fin 1)) = _
    unfold k0_pay43
    pointwise

/-- The sinks' gradient. -/
theorem ds_real (R : Reals x0 x1 x2 x3 x4 x5 q kp vp sk w) (i : grid0.Coords) (a b : Fin 1) (g : Fin 8) :
    dsOf (carryOut x0 x1 x2 x3 x4 x5 (biasOf i)) (ix3 a g b) = (dSinks (headOf i) q kp vp sk w g : EReal) := by
  rw [lanes]
  unfold dSinks carryOut
  rw [coe_sum]
  refine Finset.sum_congr rfl fun i' _ => ?_
  rw [carry_fold R i _ le_rfl, trips_eq]
  have e1 : hd ⟨128 * g.val + i'.val, by omega⟩ = g := Fin.ext (by show (128 * g.val + i'.val) / 128 = g.val; omega)
  have e2 : qu ⟨128 * g.val + i'.val, by omega⟩ = i' := Fin.ext (by show (128 * g.val + i'.val) % 128 = i'.val; omega)
  rw [e1, e2, sum_before_all (fun k => dSink1 (headOf i) q kp vp sk w k g i')]

end Cert.KernelIdeal.Block

end
-- ==== Proof.Args.lean ====
/-
  The step's arguments as real arrays, and the operands of one key-value head cut out of them.
-/
module

public import proofs.«01_k».proof.Proof.Group

@[expose] public section

set_option maxRecDepth 16384

noncomputable section

namespace Cert.Attn

open Idealize.ShloMosaic

/-- The queries (or the output's cotangent) of the heads of one group, heads before positions. -/
def heads (a : Fin 2048 → Fin 2048 → ℝ) (h : Fin 4) (g : Fin 8) (d : Fin 64) (t : Fin 2048) : ℝ := a t ⟨h.val * 512 + g.val * 64 + d.val, by omega⟩

/-- The keys (or values) of one head, with one block of zeros in front. -/
def padded (a : Fin 2048 → Fin 256 → ℝ) (h : Fin 4) (r : Fin 2176) (d : Fin 64) : ℝ :=
  if hr : 128 ≤ r.val then a ⟨r.val - 128, by omega⟩ ⟨h.val * 64 + d.val, by omega⟩ else 0

/-- The sinks of one group. -/
def sinksOf (a : Fin 32 → ℝ) (h : Fin 4) (g : Fin 8) : ℝ := a ⟨h.val * 8 + g.val, by omega⟩

variable (a0 : Fin 2048 → Fin 2048 → ℝ) (a1 a2 : Fin 2048 → Fin 256 → ℝ) (a3 : Fin 32 → ℝ) (a4 : Fin 2048 → Fin 2048 → ℝ)

/-- The queries' gradient, heads before positions. -/
def resQ (h : Fin 4) (g : Fin 8) (d : Fin 64) (t : Fin 2048) : ℝ :=
  dQ h (heads a0 h) (padded a1 h) (padded a2 h) (sinksOf a3 h) (heads a4 h) ⟨t.val / 128, by omega⟩ g ⟨t.val % 128, by omega⟩ d

/-- The keys' gradient, one block of zeros in front. -/
def resK (h : Fin 4) (r : Fin 2176) (d : Fin 64) : ℝ :=
  dK h (heads a0 h) (padded a1 h) (padded a2 h) (sinksOf a3 h) (heads a4 h) r d

/-- The values' gradient. -/
def resV (h : Fin 4) (r : Fin 2176) (d : Fin 64) : ℝ :=
  dV h (heads a0 h) (padded a1 h) (sinksOf a3 h) (heads a4 h) r d

/-- The sinks' gradient. -/
def resS (h : Fin 4) (g : Fin 8) : ℝ :=
  dSinks h (heads a0 h) (padded a1 h) (padded a2 h) (sinksOf a3 h) (heads a4 h) g

end Cert.Attn

end
-- ==== Proof.Prep.lean ====
/-
  What the host code before the launch leaves in the six operands: the arguments with heads before positions, and
  keys and values with one block of zeros in front.
-/
module

public import proofs.«01_k».proof.Proof.Run
public import proofs.«01_k».proof.Proof.Blocks
public import proofs.«01_k».proof.Proof.Args
public import Idealize.ShloMosaic.Lib.Pipeline.ValueKit
public import Idealize.ShloMosaic.Lib.StableHlo.ReadAt

@[expose] public section

set_option maxRecDepth 16384

noncomputable section

namespace Cert.KernelIdeal.Prep

open Cert.KernelIdeal Cert.KernelIdeal.Gen Cert.KernelIdeal.Block Cert.Attn Idealize.ShloMosaic Idealize.ShloMosaic.TcCoe Idealize.SL.Sem

variable (m : (ℓ : Loc nD τ sig) → Buf (Elt Ideal) ℓ) (c : Dev nD)

theorem head_val : ∀ t : Fin cfg0.N, (headOf (grid0.coords t)).val = t.val := by decide +kernel

/-! Block `t` of every array is its head `t`. -/
theorem index0 : ∀ t : Fin cfg0.N, win0_0.index t = ![t.val, 0, 0, 0] := by decide +kernel
theorem index1 : ∀ t : Fin cfg0.N, win0_1.index t = ![t.val, 0, 0] := by decide +kernel
theorem index2 : ∀ t : Fin cfg0.N, win0_2.index t = ![t.val, 0, 0] := by decide +kernel
theorem index3 : ∀ t : Fin cfg0.N, win0_3.index t = ![t.val, 0, 0] := by decide +kernel
theorem index4 : ∀ t : Fin cfg0.N, win0_4.index t = ![t.val, 0, 0] := by decide +kernel
theorem index5 : ∀ t : Fin cfg0.N, win0_5.index t = ![t.val, 0, 0, 0] := by decide +kernel
theorem index6 : ∀ t : Fin cfg0.N, win0_6.index t = ![t.val, 0, 0, 0] := by decide +kernel
theorem index7 : ∀ t : Fin cfg0.N, win0_7.index t = ![t.val, 0, 0] := by decide +kernel
theorem index8 : ∀ t : Fin cfg0.N, win0_8.index t = ![t.val, 0, 0] := by decide +kernel
theorem index9 : ∀ t : Fin cfg0.N, win0_9.index t = ![t.val, 0, 0] := by decide +kernel

/-- The arguments hold these real numbers. -/
structure Holds (a0 : Fin 2048 → Fin 2048 → ℝ) (a1 a2 : Fin 2048 → Fin 256 → ℝ) (a3 : Fin 32 → ℝ) (a4 : Fin 2048 → Fin 2048 → ℝ) : Prop where
  h0 : ∀ t e, m ((c : Thread nD τ).loc main_arg0) (ix3 (0 : Fin 1) t e) = (a0 t e : EReal)
  h1 : ∀ t e, m ((c : Thread nD τ).loc main_arg1) (ix3 (0 : Fin 1) t e) = (a1 t e : EReal)
  h2 : ∀ t e, m ((c : Thread nD τ).loc main_arg2) (ix3 (0 : Fin 1) t e) = (a2 t e : EReal)
  h3 : ∀ e, m ((c : Thread nD τ).loc main_arg3) (ix2 (0 : Fin 1) e) = (a3 e : EReal)
  h4 : ∀ t e, m ((c : Thread nD τ).loc main_arg4) (ix3 (0 : Fin 1) t e) = (a4 t e : EReal)

variable {m c} {a0 : Fin 2048 → Fin 2048 → ℝ} {a1 a2 : Fin 2048 → Fin 256 → ℝ} {a3 : Fin 32 → ℝ} {a4 : Fin 2048 → Fin 2048 → ℝ}
variable (H : Holds m c a0 a1 a2 a3 a4)
include H

set_option maxHeartbeats 1000000 in
theorem prep_q (h : Fin 4) (g : Fin 8) (d : Fin 64) (t : Fin 2048) : V m c main_v10 (ix4 h g d t) = (heads a0 h g d t : EReal) := by
  unfold V
  after_reads_at
  exact H.h0 _ _

set_option maxHeartbeats 1000000 in
theorem prep_do (h : Fin 4) (g : Fin 8) (d : Fin 64) (t : Fin 2048) : V m c main_v23 (ix4 h g d t) = (heads a4 h g d t : EReal) := by
  unfold V
  after_reads_at
  exact H.h4 _ _

set_option maxHeartbeats 1000000 in
theorem prep_k (h : Fin 4) (r : Fin 2176) (d : Fin 64) : V m c main_v13 (ix3 h r d) = (padded a1 h r d : EReal) := by
  unfold V
  after_reads_at
  unfold padded
  by_cases hr : 128 ≤ r.val
  · rw [dif_pos hr, dif_pos ⟨hr, by omega⟩]
    exact H.h1 _ _
  · rw [dif_neg hr, dif_neg (fun hh => hr hh.1)]
    show ((((0#32 : BitVec 32).toInt : ℝ)) : EReal) = _
    norm_num

set_option maxHeartbeats 1000000 in
theorem prep_kt (h : Fin 4) (r : Fin 2176) (d : Fin 64) : V m c main_v19 (ix3 h d r) = (padded a1 h r d : EReal) := by
  unfold V
  after_reads_at
  unfold padded
  by_cases hr : 128 ≤ r.val
  · rw [dif_pos hr, dif_pos ⟨hr, by omega⟩]
    exact H.h1 _ _
  · rw [dif_neg hr, dif_neg (fun hh => hr hh.1)]
    show ((((0#32 : BitVec 32).toInt : ℝ)) : EReal) = _
    norm_num

set_option maxHeartbeats 1000000 in
theorem prep_v (h : Fin 4) (r : Fin 2176) (d : Fin 64) : V m c main_v16 (ix3 h r d) = (padded a2 h r d : EReal) := by
  unfold V
  after_reads_at
  unfold padded
  by_cases hr : 128 ≤ r.val
  · rw [dif_pos hr, dif_pos ⟨hr, by omega⟩]
    exact H.h2 _ _
  · rw [dif_neg hr, dif_neg (fun hh => hr hh.1)]
    show ((((0#32 : BitVec 32).toInt : ℝ)) : EReal) = _
    norm_num

set_option maxHeartbeats 1000000 in
theorem prep_s (h : Fin 4) (x : Fin 1024) : V m c main_v22 (ix3 h (0 : Fin 1) x) = (sinksOf a3 h (hd x) : EReal) := by
  unfold V
  after_reads_at
  exact H.h3 _

set_option maxHeartbeats 1000000 in
theorem block0 (t : Fin cfg0.N) (g : Fin 8) (d : Fin 64) (t' : Fin 2048) :
    iblk m c 0 t (ix4 (0 : Fin 1) g d t') = (heads a0 (headOf (grid0.coords t)) g d t' : EReal) := by
  refine Eq.trans ?_ (prep_q H _ _ _ _)
  have eh := head_val t
  blk_ext [iblk, index0 t] <;> simp [index0 t, eh]

set_option maxHeartbeats 1000000 in
theorem block1 (t : Fin cfg0.N) (r : Fin 2176) (d : Fin 64) :
    iblk m c 1 t (ix3 (0 : Fin 1) r d) = (padded a1 (headOf (grid0.coords t)) r d : EReal) := by
  refine Eq.trans ?_ (prep_k H _ _ _)
  have eh := head_val t
  blk_ext [iblk, index1 t] <;> simp [index1 t, eh]

set_option maxHeartbeats 1000000 in
theorem block2 (t : Fin cfg0.N) (d : Fin 64) (r : Fin 2176) :
    iblk m c 2 t (ix3 (0 : Fin 1) d r) = (padded a1 (headOf (grid0.coords t)) r d : EReal) := by
  refine Eq.trans ?_ (prep_kt H _ _ _)
  have eh := head_val t
  blk_ext [iblk, index2 t] <;> simp [index2 t, eh]

set_option maxHeartbeats 1000000 in
theorem block3 (t : Fin cfg0.N) (r : Fin 2176) (d : Fin 64) :
    iblk m c 3 t (ix3 (0 : Fin 1) r d) = (padded a2 (headOf (grid0.coords t)) r d : EReal) := by
  refine Eq.trans ?_ (prep_v H _ _ _)
  have eh := head_val t
  blk_ext [iblk, index3 t] <;> simp [index3 t, eh]

set_option maxHeartbeats 1000000 in
theorem block4 (t : Fin cfg0.N) (x : Fin 1024) :
    iblk m c 4 t (ix3 (0 : Fin 1) (0 : Fin 1) x) = (sinksOf a3 (headOf (grid0.coords t)) (hd x) : EReal) := by
  refine Eq.trans ?_ (prep_s H _ _)
  have eh := head_val t
  blk_ext [iblk, index4 t] <;> simp [index4 t, eh]

set_option maxHeartbeats 1000000 in
theorem block5 (t : Fin cfg0.N) (g : Fin 8) (d : Fin 64) (t' : Fin 2048) :
    iblk m c 5 t (ix4 (0 : Fin 1) g d t') = (heads a4 (headOf (grid0.coords t)) g d t' : EReal) := by
  refine Eq.trans ?_ (prep_do H _ _ _ _)
  have eh := head_val t
  blk_ext [iblk, index5 t] <;> simp [index5 t, eh]

/-- The blocks of a grid point hold the operands of its head. -/
theorem reals (t : Fin cfg0.N) :
    Reals (iblk m c 0 t) (iblk m c 1 t) (iblk m c 2 t) (iblk m c 3 t) (iblk m c 4 t) (iblk m c 5 t)
      (heads a0 (headOf (grid0.coords t))) (padded a1 (headOf (grid0.coords t))) (padded a2 (headOf (grid0.coords t)))
      (sinksOf a3 (headOf (grid0.coords t))) (heads a4 (headOf (grid0.coords t))) :=
  ⟨block0 H t, block1 H t, block2 H t, block3 H t, block4 H t, block5 H t⟩

end Cert.KernelIdeal.Prep

end
-- ==== Proof.Arrays.lean ====
/-
  The four arrays of the idealized program after its run, written out: the blocks of the four heads put together.
-/
module

public import proofs.«01_k».proof.Proof.Prep

@[expose] public section

set_option maxRecDepth 16384

noncomputable section

namespace Cert.KernelIdeal.Arrays

open Cert.KernelIdeal Cert.KernelIdeal.Gen Cert.KernelIdeal.Block Cert.KernelIdeal.Prep Cert.KernelIdeal.Run Cert.Attn Idealize.ShloMosaic Idealize.ShloMosaic.TcCoe Idealize.SL.Sem

variable {m : (ℓ : Loc nD τ sig) → Buf (Elt Ideal) ℓ} {c : Dev nD}
variable {a0 : Fin 2048 → Fin 2048 → ℝ} {a1 a2 : Fin 2048 → Fin 256 → ℝ} {a3 : Fin 32 → ℝ} {a4 : Fin 2048 → Fin 2048 → ℝ}
variable (H : Holds m c a0 a1 a2 a3 a4)
include H

set_option maxHeartbeats 1000000 in
theorem array_q : (dats m 0 c).arrAt 6 cfg0.N = fun y => (resQ a0 a1 a2 a3 a4 (y 0) (y 1) (y 2) (y 3) : EReal) := by
  refine (dats m 0 c).arrAt_eq_of_covers 6 _ (by decide +kernel) fun t hf y => ?_
  rw [after0_6]
  obtain ⟨a, g, d, t', rfl⟩ : ∃ (a : Fin 1) (g : Fin 8) (d : Fin 64) (t' : Fin 2048), y = ix4 a g d t' := ⟨y 0, y 1, y 2, y 3, eq_ix4 y⟩
  obtain rfl : a = 0 := Subsingleton.elim _ _
  refine (dq_real (reals H t) _ 0 g d t').trans ?_
  have eh := head_val t
  have e : (win0_6.blk t).view.emb (ix4 (0 : Fin 1) g d t') = ix4 (headOf (grid0.coords t)) g d t' := by
    blk_ext [index6 t] <;> simp [index6 t, eh]
  blk_simp
  rw [e]
  rfl

set_option maxHeartbeats 1000000 in
theorem array_k : (dats m 0 c).arrAt 7 cfg0.N = fun y => (resK a0 a1 a2 a3 a4 (y 0) (y 1) (y 2) : EReal) := by
  refine (dats m 0 c).arrAt_eq_of_covers 7 _ (by decide +kernel) fun t hf y => ?_
  rw [after0_7]
  obtain ⟨a, r, d, rfl⟩ : ∃ (a : Fin 1) (r : Fin 2176) (d : Fin 64), y = ix3 a r d := ⟨y 0, y 1, y 2, eq_ix3 y⟩
  obtain rfl : a = 0 := Subsingleton.elim _ _
  refine (dk_real (reals H t) _ r d).trans ?_
  have eh := head_val t
  have e : (win0_7.blk t).view.emb (ix3 (0 : Fin 1) r d) = ix3 (headOf (grid0.coords t)) r d := by
    blk_ext [index7 t] <;> simp [index7 t, eh]
  blk_simp
  rw [e]
  rfl

set_option maxHeartbeats 1000000 in
theorem array_v : (dats m 0 c).arrAt 8 cfg0.N = fun y => (resV a0 a1 a3 a4 (y 0) (y 1) (y 2) : EReal) := by
  refine (dats m 0 c).arrAt_eq_of_covers 8 _ (by decide +kernel) fun t hf y => ?_
  rw [after0_8]
  obtain ⟨a, r, d, rfl⟩ : ∃ (a : Fin 1) (r : Fin 2176) (d : Fin 64), y = ix3 a r d := ⟨y 0, y 1, y 2, eq_ix3 y⟩
  obtain rfl : a = 0 := Subsingleton.elim _ _
  refine (dv_real (reals H t) _ r d).trans ?_
  have eh := head_val t
  have e : (win0_8.blk t).view.emb (ix3 (0 : Fin 1) r d) = ix3 (headOf (grid0.coords t)) r d := by
    blk_ext [index8 t] <;> simp [index8 t, eh]
  blk_simp
  rw [e]
  rfl

set_option maxHeartbeats 1000000 in
theorem array_s : (dats m 0 c).arrAt 9 cfg0.N = fun y => (resS a0 a1 a2 a3 a4 (y 0) (y 1) : EReal) := by
  refine (dats m 0 c).arrAt_eq_of_covers 9 _ (by decide +kernel) fun t hf y => ?_
  rw [after0_9]
  obtain ⟨a, g, b, rfl⟩ : ∃ (a : Fin 1) (g : Fin 8) (b : Fin 1), y = ix3 a g b := ⟨y 0, y 1, y 2, eq_ix3 y⟩
  obtain rfl : a = 0 := Subsingleton.elim _ _
  refine (ds_real (reals H t) _ 0 b g).trans ?_
  have eh := head_val t
  have e : (win0_9.blk t).view.emb (ix3 (0 : Fin 1) g b) = ix3 (headOf (grid0.coords t)) g b := by
    blk_ext [index9 t] <;> simp [index9 t, eh]
  blk_simp
  rw [e]
  rfl

end Cert.KernelIdeal.Arrays

end
-- ==== Proof.Bands.lean ====
/-
  The reference's operands: the queries and the cotangent by blocks, the two-block bands of keys and values, the
  mask, and the masked scores.
-/
module

public import proofs.«01_k».proof.Proof.Args
public import proofs.«01_k».proof.Proof.Consts
public import proofs.«01_k».proof.Proof.Words
public import proofs.«01_k».proof.Proof.Gen.ReferenceIdeal.Read
public import Idealize.ShloMosaic.Lib.Pipeline.ValueKit

@[expose] public section

set_option maxRecDepth 16384

noncomputable section

namespace Cert.ReferenceIdeal.Stage

open Cert.ReferenceIdeal Cert.ReferenceIdeal.Gen Cert.ReferenceIdeal.Read Cert.Attn Idealize.ShloMosaic Idealize.ShloMosaic.TcCoe Idealize.SL.Sem

/-- The arguments hold these real numbers. -/
structure Holds (x0 : (⟨S1x2048x2048, .f32⟩ : BufTy).Contents (Elt Ideal)) (x1 x2 : (⟨S1x2048x256, .f32⟩ : BufTy).Contents (Elt Ideal)) (x3 : (⟨S1x32, .f32⟩ : BufTy).Contents (Elt Ideal)) (x4 : (⟨S1x2048x2048, .f32⟩ : BufTy).Contents (Elt Ideal))
    (a0 : Fin 2048 → Fin 2048 → ℝ) (a1 a2 : Fin 2048 → Fin 256 → ℝ) (a3 : Fin 32 → ℝ) (a4 : Fin 2048 → Fin 2048 → ℝ) : Prop where
  h0 : ∀ t e, x0 (ix3 (0 : Fin 1) t e) = (a0 t e : EReal)
  h1 : ∀ t e, x1 (ix3 (0 : Fin 1) t e) = (a1 t e : EReal)
  h2 : ∀ t e, x2 (ix3 (0 : Fin 1) t e) = (a2 t e : EReal)
  h3 : ∀ e, x3 (ix2 (0 : Fin 1) e) = (a3 e : EReal)
  h4 : ∀ t e, x4 (ix3 (0 : Fin 1) t e) = (a4 t e : EReal)

variable {x0 : (⟨S1x2048x2048, .f32⟩ : BufTy).Contents (Elt Ideal)} {x1 x2 : (⟨S1x2048x256, .f32⟩ : BufTy).Contents (Elt Ideal)} {x3 : (⟨S1x32, .f32⟩ : BufTy).Contents (Elt Ideal)} {x4 : (⟨S1x2048x2048, .f32⟩ : BufTy).Contents (Elt Ideal)}
variable {a0 : Fin 2048 → Fin 2048 → ℝ} {a1 a2 : Fin 2048 → Fin 256 → ℝ} {a3 : Fin 32 → ℝ} {a4 : Fin 2048 → Fin 2048 → ℝ}

theorem queries (H : Holds x0 x1 x2 x3 x4 a0 a1 a2 a3 a4) (a : Fin 1) (n : Fin 16) (i : Fin 128) (h : Fin 4) (g : Fin 8) (d : Fin 64) :
    val_main_v4 (F := Ideal) x0 (ix6 a n i h g d) = (heads a0 h g d (pos n i) : EReal) := by
  unfold val_main_v4 val_main_v0
  pointwise
  refine (H.h0 _ _).trans ?_
  exact congrArg (fun t => ((a0 t _ : ℝ) : EReal)) (Fin.ext (Nat.add_right_cancel_iff.mpr (Nat.mul_comm _ _)))

theorem cotangents (H : Holds x0 x1 x2 x3 x4 a0 a1 a2 a3 a4) (a : Fin 1) (n : Fin 16) (h : Fin 4) (d : Fin 64) (g : Fin 8) (i : Fin 128) :
    val_main_v118 (F := Ideal) x4 (ix6 a n h d g i) = (heads a4 h g d (pos n i) : EReal) := by
  unfold val_main_v118 val_main_v117
  pointwise
  refine (H.h4 _ _).trans ?_
  exact congrArg (fun t => ((a4 t _ : ℝ) : EReal)) (Fin.ext (Nat.add_right_cancel_iff.mpr (Nat.mul_comm _ _)))

/-- A band row read out of the two blocks is the row of the padded array. -/
theorem band_row {b : Fin 2048 → Fin 256 → EReal} {r : Fin 2048 → Fin 256 → ℝ} (hb : ∀ t e, b t e = (r t e : EReal)) (n : Fin 16) (j : Fin 256) (h : Fin 4) (d : Fin 64) :
    (if h_1 : j.val < 128 then if h_2 : n.val < 1 then (0 : EReal) else b ⟨(n.val - 1) * 128 + j.val, by omega⟩ ⟨h.val * 64 + d.val, by omega⟩
      else b ⟨n.val * 128 + (j.val - 128), by omega⟩ ⟨h.val * 64 + d.val, by omega⟩) = (padded r h (row n j) d : EReal) := by
  have key : ∀ (t : ℕ) (ht : t < 2048) (hr : 128 ≤ (row n j).val), t = (row n j).val - 128 →
      b ⟨t, ht⟩ ⟨h.val * 64 + d.val, by omega⟩ = (r ⟨(row n j).val - 128, by omega⟩ ⟨h.val * 64 + d.val, by omega⟩ : EReal) := by
    rintro t ht hr rfl
    exact hb _ _
  have er : (row n j).val = 128 * n.val + j.val := rfl
  unfold padded
  by_cases h1 : j.val < 128
  · rw [dif_pos h1]
    by_cases h2 : n.val < 1
    · rw [dif_pos h2, dif_neg (by omega), EReal.coe_zero]
    · rw [dif_neg h2, dif_pos (by omega : 128 ≤ (row n j).val)]
      exact key _ _ (by omega) (by omega)
  · rw [dif_neg h1, dif_pos (by omega : 128 ≤ (row n j).val)]
    exact key _ _ (by omega) (by omega)

theorem keys (H : Holds x0 x1 x2 x3 x4 a0 a1 a2 a3 a4) (a : Fin 1) (n : Fin 16) (j : Fin 256) (h : Fin 4) (d : Fin 64) :
    val_main_v10 (F := Ideal) x1 (ix5 a n j h d) = (padded a1 h (row n j) d : EReal) := by
  unfold val_main_v10 val_main_v8 val_main_v7 val_main_v5 val_main_v1 val_main_v6 val_main_cst
  pointwise
  exact band_row H.h1 n j h d

theorem values (H : Holds x0 x1 x2 x3 x4 a0 a1 a2 a3 a4) (a : Fin 1) (n : Fin 16) (j : Fin 256) (h : Fin 4) (d : Fin 64) :
    val_main_v16 (F := Ideal) x2 (ix5 a n j h d) = (padded a2 h (row n j) d : EReal) := by
  unfold val_main_v16 val_main_v14 val_main_v13 val_main_v11 val_main_v2 val_main_v12 val_main_cst_1
  pointwise
  exact band_row H.h2 n j h d

/-- Whether a key of the band lies before the sequence. -/
theorem word_key : ∀ (n : Fin 16) (j : Fin 256),
    IntOp.cmpi CmpIPredicate.sge (IntOp.addi (IntOp.muli (IntOp.subi (BitVec.ofNat 32 n.val) 1#32) 128#32) (BitVec.ofNat 32 j.val)) 0#32
      = BitVec.ofBool (decide (128 ≤ 128 * n.val + j.val)) := by
  decide +kernel

theorem valid (n : Fin 16) (i : Fin 128) (j : Fin 256) :
    val_main_v50 (F := Ideal) (ix3 n i j) = if live n.val i j then 1#1 else 0#1 := by
  unfold val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_c_8 val_main_c_7 val_main_c_6 val_main_c_5 val_main_c_4 val_main_c
  pointwise
  rw [word_key, WordCmp.cmpi_sge_eq, WordCmp.cmpi_slt_eq, andi_ofBool, andi_ofBool, word_dist]
  have e : ((0#32 : BitVec 32).toInt ≤ 128 + (i.val : ℤ) - j.val ∧ 128 + (i.val : ℤ) - j.val < (128#32 : BitVec 32).toInt) ∧ 128 ≤ 128 * n.val + j.val ↔ live n.val i j := by
    show ((0 : ℤ) ≤ 128 + (i.val : ℤ) - j.val ∧ 128 + (i.val : ℤ) - j.val < 128) ∧ _ ↔ _ ∧ _ ∧ _
    omega
  by_cases hl : live n.val i j
  · rw [if_pos hl, decide_eq_true (e.mpr hl)]; rfl
  · rw [if_neg hl, decide_eq_false (fun hh => hl (e.mp hh))]; rfl

theorem bias (h : Fin 4) (g : Fin 8) (a : Fin 1) (i : Fin 128) (j : Fin 256) :
    val_main_v65 (F := Ideal) (ix5 h g a i j) = ((Attn.slope h g * (128 + (i.val : ℝ) - j.val) : ℝ) : EReal) := by
  unfold val_main_v65 val_main_v64 val_main_v63 val_main_v62 val_main_v61 val_main_v60 val_main_v59 val_main_v58 val_main_v57 val_main_v56 val_main_v55 val_main_v54 val_main_v53 val_main_v52 val_main_v51 val_main_v29 val_main_v28 val_main_v27 val_main_v26 val_main_v25 val_main_v24 val_main_v23 val_main_v22 val_main_v21 val_main_c val_main_cst_9 val_main_cst_10 val_main_cst_11 val_main_cst_12
  pointwise
  rw [w_neg8, w_32, w_2]
  rw [show (FloatOps.sitofp (F := Ideal) FTy.f32 (BitVec.ofNat 32 (h.val * 8 + g.val)) : EReal) = (((BitVec.ofNat 32 (h.val * 8 + g.val)).toInt : ℝ) : EReal) from rfl,
    show (FloatOps.sitofp (F := Ideal) FTy.f32 (IntOp.subi (IntOp.addi (128#32) (BitVec.ofNat 32 i.val)) (BitVec.ofNat 32 j.val)) : EReal) = (((IntOp.subi (IntOp.addi (128#32) (BitVec.ofNat 32 i.val)) (BitVec.ofNat 32 j.val)).toInt : ℝ) : EReal) from rfl,
    word_dist, toInt_small _ (by omega)]
  rw [show (1 : EReal) = ((1 : ℝ) : EReal) from rfl, ← EReal.coe_add, ← EReal.coe_mul, Ideal.div_coe (by norm_num), ← EReal.coe_mul,
    show Ideal.pow ((2 : ℝ) : EReal) ((-8 * (1 + (((h.val * 8 + g.val : ℕ) : ℤ) : ℝ)) * (1 / 32) : ℝ) : EReal) = ((Real.rpow 2 (-8 * (1 + (((h.val * 8 + g.val : ℕ) : ℤ) : ℝ)) * (1 / 32)) : ℝ) : EReal) from rfl,
    ← EReal.coe_mul]
  refine congrArg _ (congrArg₂ (· * ·) ?_ ?_)
  · show (2 : ℝ) ^ (_ : ℝ) = _
    unfold Attn.slope
    rw [Real.rpow_def_of_pos (by norm_num)]
    refine congrArg _ ?_
    push_cast
    ring
  · push_cast
    rfl

theorem raw (H : Holds x0 x1 x2 x3 x4 a0 a1 a2 a3 a4) (a : Fin 1) (h : Fin 4) (g : Fin 8) (n : Fin 16) (i : Fin 128) (j : Fin 256) :
    val_main_v68 (F := Ideal) x0 x1 (ix6 a h g n i j) = (score h (heads a0 h) (padded a1 h) n g i j : EReal) := by
  unfold val_main_v68 val_main_v67 val_main_v66 val_main_v20 val_main_v19 val_main_v18 val_main_v17 val_main_cst_3
  pointwise
  rw [bias]
  simp only [keys H, queries H, ← EReal.coe_mul]
  rw [← coe_sum, eighth, ← EReal.coe_mul, ← EReal.coe_sub]
  unfold score
  refine congrArg _ ?_
  ring

theorem scores (H : Holds x0 x1 x2 x3 x4 a0 a1 a2 a3 a4) (a : Fin 1) (h : Fin 4) (g : Fin 8) (n : Fin 16) (i : Fin 128) (j : Fin 256) :
    val_main_v69_0 (F := Ideal) x0 x1 (ix6 a h g n i j) = masked (live n.val i) (score h (heads a0 h) (padded a1 h) n g i) j := by
  unfold val_main_v69_0 val_main_v69_1 val_main_call0_v2 val_main_call0_v0 val_main_cst_13
  pointwise
  rw [valid, raw H, show id (constant (F := Ideal) S_ FTy.f32 4286578688#32) ix0 = Ideal.ofBits FTy.f32 0xFF800000#32 from rfl, neg_inf]
  unfold masked
  split_ifs <;> rfl

end Cert.ReferenceIdeal.Stage
end
-- ==== Proof.Fibers.lean ====
/-
  The reference's reductions over several axes, as sums over the reduced coordinates.
-/
module

public import proofs.«01_k».proof.Proof.Gen.ReferenceIdeal
public import Idealize.ShloMosaic.Lib.Pointwise

@[expose] public section

set_option maxRecDepth 16384

noncomputable section

namespace Cert.ReferenceIdeal.Stage

open Cert.ReferenceIdeal Cert.ReferenceIdeal.Gen Idealize.ShloMosaic

theorem fiber_d5 (a : Fin 1) (h : Fin 4) (g : Fin 8) (n : Fin 16) (i : Fin 128) (z : S1x4x8x16x128x256.Idx) :
    reducesTo_S1x4x8x16x128x256_S1x4x8x16x128_d5.drop z = ix5 a h g n i ↔ ∃ k : Fin 256, ix6 a h g n i k = z := by
  constructor
  · intro e
    refine ⟨z 5, ?_⟩
    funext b
    apply Fin.ext
    match b with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext b
    apply Fin.ext
    match b with
    | ⟨0, _⟩ => rfl
    | ⟨1, _⟩ => rfl
    | ⟨2, _⟩ => rfl
    | ⟨3, _⟩ => rfl
    | ⟨4, _⟩ => rfl

theorem fiber_d34 (a : Fin 1) (h : Fin 4) (g : Fin 8) (b : Fin 1) (z : S1x4x8x16x128x1.Idx) :
    reducesTo_S1x4x8x16x128x1_S1x4x8x1_d3_4.drop z = ix4 a h g b ↔ ∃ k : Fin 16 × Fin 128, ix6 a h g k.1 k.2 b = z := by
  constructor
  · intro e
    refine ⟨(z 3, z 4), ?_⟩
    funext c
    apply Fin.ext
    match c with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
    | ⟨4, _⟩ => rfl
    | ⟨5, _⟩ => exact (congrArg Fin.val (congrFun e 3)).symm
  · rintro ⟨k, rfl⟩
    funext c
    apply Fin.ext
    match c with
    | ⟨0, _⟩ => rfl
    | ⟨1, _⟩ => rfl
    | ⟨2, _⟩ => rfl
    | ⟨3, _⟩ => rfl

theorem fiber_d05 (h : Fin 4) (g : Fin 8) (n : Fin 16) (i : Fin 128) (z : S1x4x8x16x128x1.Idx) :
    reducesTo_S1x4x8x16x128x1_S4x8x16x128_d0_5.drop z = ix4 h g n i ↔ ∃ k : Fin 1, ix6 k h g n i (0 : Fin 1) = z := by
  constructor
  · intro e
    refine ⟨z 0, ?_⟩
    funext c
    apply Fin.ext
    match c with
    | ⟨0, _⟩ => rfl
    | ⟨1, _⟩ => exact (congrArg Fin.val (congrFun e 0)).symm
    | ⟨2, _⟩ => exact (congrArg Fin.val (congrFun e 1)).symm
    | ⟨3, _⟩ => exact (congrArg Fin.val (congrFun e 2)).symm
    | ⟨4, _⟩ => exact (congrArg Fin.val (congrFun e 3)).symm
    | ⟨5, _⟩ => exact (Nat.lt_one_iff.mp (z 5).isLt).symm
  · rintro ⟨k, rfl⟩
    funext c
    apply Fin.ext
    match c with
    | ⟨0, _⟩ => rfl
    | ⟨1, _⟩ => rfl
    | ⟨2, _⟩ => rfl
    | ⟨3, _⟩ => rfl

theorem fiber_d0345 (h : Fin 4) (g : Fin 8) (z : S1x4x8x1x1x1.Idx) :
    reducesTo_S1x4x8x1x1x1_S4x8_d0_3_4_5.drop z = ix2 h g ↔ ∃ k : Fin 1, ix6 k h g (0 : Fin 1) (0 : Fin 1) (0 : Fin 1) = z := by
  constructor
  · intro e
    refine ⟨z 0, ?_⟩
    funext c
    apply Fin.ext
    match c with
    | ⟨0, _⟩ => rfl
    | ⟨1, _⟩ => exact (congrArg Fin.val (congrFun e 0)).symm
    | ⟨2, _⟩ => exact (congrArg Fin.val (congrFun e 1)).symm
    | ⟨3, _⟩ => exact (Nat.lt_one_iff.mp (z 3).isLt).symm
    | ⟨4, _⟩ => exact (Nat.lt_one_iff.mp (z 4).isLt).symm
    | ⟨5, _⟩ => exact (Nat.lt_one_iff.mp (z 5).isLt).symm
  · rintro ⟨k, rfl⟩
    funext c
    apply Fin.ext
    match c with
    | ⟨0, _⟩ => rfl
    | ⟨1, _⟩ => rfl

/-- The sum over the keys of a band, from zero. -/
theorem total_d5 (x : S1x4x8x16x128x256.Idx → EReal) (a : Fin 1) (h : Fin 4) (g : Fin 8) (n : Fin 16) (i : Fin 128) :
    Ideal.hostReduceAdd reducesTo_S1x4x8x16x128x256_S1x4x8x16x128_d5 x 0 (ix5 a h g n i) = ∑ k : Fin 256, x (ix6 a h g n i k) := by
  refine (congrArg ((0 : EReal) + ·) (Finset.sum_filter_eq_sum_of_fiber _ (fun k : Fin 256 => ix6 a h g n i k) ?_ (fiber_d5 a h g n i) x)).trans (zero_add _)
  intro k k' e
  exact congrFun e 5

theorem sum_d5 (x : FVec Ideal S1x4x8x16x128x256 .f32) (a : Fin 1) (h : Fin 4) (g : Fin 8) (n : Fin 16) (i : Fin 128) :
    Host.reduceAdd x (constant S_ .f32 0x00000000#32) reducesTo_S1x4x8x16x128x256_S1x4x8x16x128_d5 h_S_ (ix5 a h g n i) = ∑ k : Fin 256, x (ix6 a h g n i k) :=
  (congrArg (fun z => Ideal.hostReduceAdd _ x z _) (Ideal.ofBits_zero FTy.f32)).trans (total_d5 x a h g n i)

/-- The largest over the keys of a band, from minus infinity. -/
theorem max_d5 (x : FVec Ideal S1x4x8x16x128x256 .f32) (y : FVec Ideal S_ .f32) (a : Fin 1) (h : Fin 4) (g : Fin 8) (n : Fin 16) (i : Fin 128) :
    Host.reduce (FloatOps.maximumf (F := Ideal) (φ := .f32)) x y reducesTo_S1x4x8x16x128x256_S1x4x8x16x128_d5 h_S_ (ix5 a h g n i) = Finset.univ.fold max (y (Shape.Idx.first h_S_)) (fun k : Fin 256 => x (ix6 a h g n i k)) := by
  pointwise
  refine Finset.fold_filter_eq_fold_of_fiber max _ (fun k : Fin 256 => ix6 a h g n i k) ?_ (fiber_d5 a h g n i) _ x
  intro k k' e
  exact congrFun e 5

/-- The sum over blocks and queries, from zero. -/
theorem total_d34 (x : S1x4x8x16x128x1.Idx → EReal) (a : Fin 1) (h : Fin 4) (g : Fin 8) (b : Fin 1) :
    Ideal.hostReduceAdd reducesTo_S1x4x8x16x128x1_S1x4x8x1_d3_4 x 0 (ix4 a h g b) = ∑ n : Fin 16, ∑ i : Fin 128, x (ix6 a h g n i b) := by
  refine (congrArg ((0 : EReal) + ·) (Finset.sum_filter_eq_sum_of_fiber _ (fun k : Fin 16 × Fin 128 => ix6 a h g k.1 k.2 b) ?_ (fiber_d34 a h g b) x)).trans ((zero_add _).trans (Fintype.sum_prod_type _))
  intro k k' e
  exact Prod.ext (congrFun e 3) (congrFun e 4)

/-- The sum over axes of one element, from zero. -/
theorem total_d05 (x : S1x4x8x16x128x1.Idx → EReal) (h : Fin 4) (g : Fin 8) (n : Fin 16) (i : Fin 128) :
    Ideal.hostReduceAdd reducesTo_S1x4x8x16x128x1_S4x8x16x128_d0_5 x 0 (ix4 h g n i) = x (ix6 (0 : Fin 1) h g n i (0 : Fin 1)) := by
  refine (congrArg ((0 : EReal) + ·) (Finset.sum_filter_eq_sum_of_fiber _ (fun k : Fin 1 => ix6 k h g n i (0 : Fin 1)) ?_ (fiber_d05 h g n i) x)).trans ((zero_add _).trans (Fintype.sum_unique _))
  intro k k' e
  exact Subsingleton.elim _ _

theorem total_d0345 (x : S1x4x8x1x1x1.Idx → EReal) (h : Fin 4) (g : Fin 8) :
    Ideal.hostReduceAdd reducesTo_S1x4x8x1x1x1_S4x8_d0_3_4_5 x 0 (ix2 h g) = x (ix6 (0 : Fin 1) h g (0 : Fin 1) (0 : Fin 1) (0 : Fin 1)) := by
  refine (congrArg ((0 : EReal) + ·) (Finset.sum_filter_eq_sum_of_fiber _ (fun k : Fin 1 => ix6 k h g (0 : Fin 1) (0 : Fin 1) (0 : Fin 1)) ?_ (fiber_d0345 h g) x)).trans ((zero_add _).trans (Fintype.sum_unique _))
  intro k k' e
  exact Subsingleton.elim _ _

theorem sum_d34 (x : FVec Ideal S1x4x8x16x128x1 .f32) (a : Fin 1) (h : Fin 4) (g : Fin 8) (b : Fin 1) :
    Host.reduceAdd x (constant S_ .f32 0x00000000#32) reducesTo_S1x4x8x16x128x1_S1x4x8x1_d3_4 h_S_ (ix4 a h g b) = ∑ n : Fin 16, ∑ i : Fin 128, x (ix6 a h g n i b) :=
  (congrArg (fun z => Ideal.hostReduceAdd _ x z _) (Ideal.ofBits_zero FTy.f32)).trans (total_d34 x a h g b)

theorem sum_d05 (x : FVec Ideal S1x4x8x16x128x1 .f32) (h : Fin 4) (g : Fin 8) (n : Fin 16) (i : Fin 128) :
    Host.reduceAdd x (constant S_ .f32 0x00000000#32) reducesTo_S1x4x8x16x128x1_S4x8x16x128_d0_5 h_S_ (ix4 h g n i) = x (ix6 (0 : Fin 1) h g n i (0 : Fin 1)) :=
  (congrArg (fun z => Ideal.hostReduceAdd _ x z _) (Ideal.ofBits_zero FTy.f32)).trans (total_d05 x h g n i)

theorem sum_d0345 (x : FVec Ideal S1x4x8x1x1x1 .f32) (h : Fin 4) (g : Fin 8) :
    Host.reduceAdd x (constant S_ .f32 0x00000000#32) reducesTo_S1x4x8x1x1x1_S4x8_d0_3_4_5 h_S_ (ix2 h g) = x (ix6 (0 : Fin 1) h g (0 : Fin 1) (0 : Fin 1) (0 : Fin 1)) :=
  (congrArg (fun z => Ideal.hostReduceAdd _ x z _) (Ideal.ofBits_zero FTy.f32)).trans (total_d0345 x h g)

end Cert.ReferenceIdeal.Stage
end
-- ==== Proof.Soft.lean ====
/-
  The reference's softmax with a sink: the largest score, the weights, their sum and the probabilities.
-/
module

public import proofs.«01_k».proof.Proof.Bands
public import proofs.«01_k».proof.Proof.Fibers

@[expose] public section

set_option maxRecDepth 16384

noncomputable section

namespace Cert.ReferenceIdeal.Stage

open Cert.ReferenceIdeal Cert.ReferenceIdeal.Gen Cert.ReferenceIdeal.Read Cert.Attn Idealize.ShloMosaic Idealize.ShloMosaic.TcCoe Idealize.SL.Sem

variable {x0 : (⟨S1x2048x2048, .f32⟩ : BufTy).Contents (Elt Ideal)} {x1 x2 : (⟨S1x2048x256, .f32⟩ : BufTy).Contents (Elt Ideal)} {x3 : (⟨S1x32, .f32⟩ : BufTy).Contents (Elt Ideal)} {x4 : (⟨S1x2048x2048, .f32⟩ : BufTy).Contents (Elt Ideal)}
variable {a0 : Fin 2048 → Fin 2048 → ℝ} {a1 a2 : Fin 2048 → Fin 256 → ℝ} {a3 : Fin 32 → ℝ} {a4 : Fin 2048 → Fin 2048 → ℝ}

theorem sink_value (H : Holds x0 x1 x2 x3 x4 a0 a1 a2 a3 a4) (h : Fin 4) (g : Fin 8) (a b c : Fin 1) :
    val_main_v70 (F := Ideal) x3 (ix5 h g a b c) = (sinksOf a3 h g : EReal) := by
  unfold val_main_v70 val_main_v3
  pointwise
  exact H.h3 _

theorem row_max (H : Holds x0 x1 x2 x3 x4 a0 a1 a2 a3 a4) (a : Fin 1) (h : Fin 4) (g : Fin 8) (n : Fin 16) (i : Fin 128) :
    val_main_v71 (F := Ideal) x0 x1 (ix5 a h g n i) = Finset.univ.fold max ⊥ (masked (live n.val i) (score h (heads a0 h) (padded a1 h) n g i)) := by
  unfold val_main_v71
  refine (max_d5 _ _ a h g n i).trans ?_
  exact congrArg₂ (fun b f => Finset.univ.fold max b f) neg_inf (funext fun k => scores H a h g n i k)

theorem larger (x y : FVec Ideal S1x4x8x16x128x1 .f32) (z : S1x4x8x16x128x1.Idx) : maximumf x y z = max (x z) (y z) := rfl

theorem top_value (H : Holds x0 x1 x2 x3 x4 a0 a1 a2 a3 a4) (a : Fin 1) (h : Fin 4) (g : Fin 8) (n : Fin 16) (i : Fin 128) (b : Fin 1) :
    val_main_v80 (F := Ideal) x0 x1 x3 (ix6 a h g n i b) = (topR (live n.val i) (score h (heads a0 h) (padded a1 h) n g i) (sinksOf a3 h g) : EReal) := by
  have e1 : val_main_v77 (F := Ideal) x0 x1 (ix6 a h g n i b) = _ := (by unfold val_main_v77; pointwise : _ = val_main_v71 (F := Ideal) x0 x1 (ix5 (0 : Fin 1) h g n i)).trans (row_max H (0 : Fin 1) h g n i)
  have e2 : val_main_v79 (F := Ideal) x3 (ix6 a h g n i b) = (sinksOf a3 h g : EReal) := by
    unfold val_main_v79 val_main_v78
    pointwise
    exact sink_value H _ _ _ _ _
  unfold val_main_v80
  rw [larger, e1, e2]
  exact top_eq _ _ _

theorem weight (H : Holds x0 x1 x2 x3 x4 a0 a1 a2 a3 a4) (a : Fin 1) (h : Fin 4) (g : Fin 8) (n : Fin 16) (i : Fin 128) (j : Fin 256) :
    val_main_v101 (F := Ideal) x0 x1 x3 (ix6 a h g n i j) = (wt (live n.val i) (score h (heads a0 h) (padded a1 h) n g i) (sinksOf a3 h g) j : EReal) := by
  unfold val_main_v101 val_main_v100 val_main_v99
  pointwise
  rw [scores H, top_value H]
  exact exp_masked _ _ _ j

theorem weight_sink (H : Holds x0 x1 x2 x3 x4 a0 a1 a2 a3 a4) (a : Fin 1) (h : Fin 4) (g : Fin 8) (n : Fin 16) (i : Fin 128) (b : Fin 1) :
    val_main_v107 (F := Ideal) x0 x1 x3 (ix6 a h g n i b) = (wtSink (live n.val i) (score h (heads a0 h) (padded a1 h) n g i) (sinksOf a3 h g) : EReal) := by
  unfold val_main_v107 val_main_v106 val_main_v105 val_main_v104
  pointwise
  rw [sink_value H, top_value H, ← EReal.coe_sub]
  rfl

theorem weight_sum (H : Holds x0 x1 x2 x3 x4 a0 a1 a2 a3 a4) (a : Fin 1) (h : Fin 4) (g : Fin 8) (n : Fin 16) (i : Fin 128) :
    val_main_v102 (F := Ideal) x0 x1 x3 (ix5 a h g n i) = ((∑ j, wt (live n.val i) (score h (heads a0 h) (padded a1 h) n g i) (sinksOf a3 h g) j : ℝ) : EReal) := by
  unfold val_main_v102 val_main_cst_22
  rw [sum_d5, coe_sum]
  exact Finset.sum_congr rfl fun j _ => weight H a h g n i j

theorem den_value (H : Holds x0 x1 x2 x3 x4 a0 a1 a2 a3 a4) (a : Fin 1) (h : Fin 4) (g : Fin 8) (n : Fin 16) (i : Fin 128) (b : Fin 1) :
    val_main_v108 (F := Ideal) x0 x1 x3 (ix6 a h g n i b) = (den (live n.val i) (score h (heads a0 h) (padded a1 h) n g i) (sinksOf a3 h g) : EReal) := by
  unfold val_main_v108 val_main_v103
  pointwise
  rw [weight_sum H, weight_sink H, ← EReal.coe_add]
  rfl

theorem prob_value (H : Holds x0 x1 x2 x3 x4 a0 a1 a2 a3 a4) (a : Fin 1) (h : Fin 4) (g : Fin 8) (n : Fin 16) (i : Fin 128) (j : Fin 256) :
    val_main_v110 (F := Ideal) x0 x1 x3 (ix6 a h g n i j) = (prob (live n.val i) (score h (heads a0 h) (padded a1 h) n g i) (sinksOf a3 h g) j : EReal) := by
  unfold val_main_v110 val_main_v109
  pointwise
  rw [weight H, den_value H, Ideal.div_coe (den_pos (live n.val i) (score h (heads a0 h) (padded a1 h) n g i) (sinksOf a3 h g)).ne', ← EReal.coe_mul]
  rfl

theorem inv_sq (H : Holds x0 x1 x2 x3 x4 a0 a1 a2 a3 a4) (a : Fin 1) (h : Fin 4) (g : Fin 8) (n : Fin 16) (i : Fin 128) (b : Fin 1) :
    val_main_v113 (F := Ideal) x0 x1 x3 (ix6 a h g n i b) = ((1 / (den (live n.val i) (score h (heads a0 h) (padded a1 h) n g i) (sinksOf a3 h g) * den (live n.val i) (score h (heads a0 h) (padded a1 h) n g i) (sinksOf a3 h g)) : ℝ) : EReal) := by
  unfold val_main_v113 val_main_v112 val_main_v111 val_main_cst_23
  pointwise
  rw [den_value H, ← EReal.coe_mul, Ideal.div_coe (mul_pos (den_pos (live n.val i) (score h (heads a0 h) (padded a1 h) n g i) (sinksOf a3 h g)) (den_pos (live n.val i) (score h (heads a0 h) (padded a1 h) n g i) (sinksOf a3 h g))).ne', one_mul]

theorem cotangent_prob (H : Holds x0 x1 x2 x3 x4 a0 a1 a2 a3 a4) (a : Fin 1) (h : Fin 4) (g : Fin 8) (n : Fin 16) (i : Fin 128) (j : Fin 256) :
    val_main_v120 (F := Ideal) x2 x4 (ix6 a h g n i j) = (dprob (padded a2 h) (heads a4 h) n g i j : EReal) := by
  unfold val_main_v120 val_main_v119
  pointwise
  simp only [values H, cotangents H, ← EReal.coe_mul]
  rw [← coe_sum]
  unfold dprob
  exact congrArg _ (Finset.sum_congr rfl fun d _ => mul_comm _ _)

end Cert.ReferenceIdeal.Stage
end
-- ==== Proof.Through.lean ====
/-
  The reference's gradient of the softmax: what flows through the maximum is zero, and what is left is the
  probability times the cotangent less its mean.
-/
module

public import proofs.«01_k».proof.Proof.Soft
public import proofs.«01_k».proof.Proof.Fibers

@[expose] public section

set_option maxRecDepth 16384

noncomputable section

namespace Cert.ReferenceIdeal.Stage

open Cert.ReferenceIdeal Cert.ReferenceIdeal.Gen Cert.ReferenceIdeal.Read Cert.Attn Idealize.ShloMosaic Idealize.ShloMosaic.TcCoe Idealize.SL.Sem

variable {x0 : (⟨S1x2048x2048, .f32⟩ : BufTy).Contents (Elt Ideal)} {x1 x2 : (⟨S1x2048x256, .f32⟩ : BufTy).Contents (Elt Ideal)} {x3 : (⟨S1x32, .f32⟩ : BufTy).Contents (Elt Ideal)} {x4 : (⟨S1x2048x2048, .f32⟩ : BufTy).Contents (Elt Ideal)}
variable {a0 : Fin 2048 → Fin 2048 → ℝ} {a1 a2 : Fin 2048 → Fin 256 → ℝ} {a3 : Fin 32 → ℝ} {a4 : Fin 2048 → Fin 2048 → ℝ}

section Reals

variable (L : Fin 256 → Prop) [DecidablePred L] (s : Fin 256 → ℝ) (σ : ℝ) (dp : Fin 256 → ℝ)

theorem mean_over_den : ∑ j, dp j * (1 / (den L s σ * den L s σ)) * wt L s σ j = mean L s σ dp * (1 / den L s σ) := by
  unfold mean prob
  rw [Finset.sum_mul]
  refine Finset.sum_congr rfl fun j _ => ?_
  rw [← one_div_mul_one_div]
  ring

theorem score_cotangent (j : Fin 256) : (dp j * (1 / den L s σ) + -(mean L s σ dp * (1 / den L s σ))) * wt L s σ j = prob L s σ j * (dp j - mean L s σ dp) := by
  unfold prob
  ring

/-- The probabilities and the sink's add up to one. -/
theorem prob_total : ∑ j, prob L s σ j + probSink L s σ = 1 := by
  unfold prob probSink
  rw [← Finset.sum_mul, ← add_mul]
  exact mul_one_div_cancel (den_pos L s σ).ne'

/-- What flows to the maximum. -/
theorem to_max : probSink L s σ * mean L s σ dp + ∑ j, -(prob L s σ j * (dp j - mean L s σ dp)) = 0 := by
  have e : ∑ j, -(prob L s σ j * (dp j - mean L s σ dp)) = (∑ j, prob L s σ j) * mean L s σ dp - mean L s σ dp := by
    rw [Finset.sum_mul]
    conv_rhs => rw [show mean L s σ dp = ∑ j, prob L s σ j * dp j from rfl]
    rw [← Finset.sum_sub_distrib]
    refine Finset.sum_congr rfl fun j _ => ?_
    unfold mean
    ring
  rw [e]
  have p := prob_total L s σ
  linear_combination mean L s σ dp * p

theorem prob_dead (j : Fin 256) (h : ¬L j) : prob L s σ j = 0 := by
  unfold prob wt
  rw [if_neg h, zero_mul]

end Reals

theorem mean_value (H : Holds x0 x1 x2 x3 x4 a0 a1 a2 a3 a4) (a : Fin 1) (h : Fin 4) (g : Fin 8) (n : Fin 16) (i : Fin 128) :
    val_main_v126 (F := Ideal) x0 x1 x2 x3 x4 (ix5 a h g n i) = ((mean (live n.val i) (score h (heads a0 h) (padded a1 h) n g i) (sinksOf a3 h g) (dprob (padded a2 h) (heads a4 h) n g i) * (1 / den (live n.val i) (score h (heads a0 h) (padded a1 h) n g i) (sinksOf a3 h g)) : ℝ) : EReal) := by
  unfold val_main_v126 val_main_cst_24
  rw [sum_d5, ← mean_over_den, coe_sum]
  refine Finset.sum_congr rfl fun j _ => ?_
  unfold val_main_v125 val_main_v124 val_main_v123
  pointwise
  rw [cotangent_prob H, inv_sq H, weight H, ← EReal.coe_mul, ← EReal.coe_mul]

theorem neg_mean (H : Holds x0 x1 x2 x3 x4 a0 a1 a2 a3 a4) (a : Fin 1) (h : Fin 4) (g : Fin 8) (n : Fin 16) (i : Fin 128) (b : Fin 1) :
    val_main_v128 (F := Ideal) x0 x1 x2 x3 x4 (ix6 a h g n i b) = ((-(mean (live n.val i) (score h (heads a0 h) (padded a1 h) n g i) (sinksOf a3 h g) (dprob (padded a2 h) (heads a4 h) n g i) * (1 / den (live n.val i) (score h (heads a0 h) (padded a1 h) n g i) (sinksOf a3 h g))) : ℝ) : EReal) := by
  unfold val_main_v128 val_main_v127
  pointwise
  rw [mean_value H, EReal.coe_neg]

theorem sink_query (H : Holds x0 x1 x2 x3 x4 a0 a1 a2 a3 a4) (a : Fin 1) (h : Fin 4) (g : Fin 8) (n : Fin 16) (i : Fin 128) (b : Fin 1) :
    val_main_v131 (F := Ideal) x0 x1 x2 x3 x4 (ix6 a h g n i b) = ((-(probSink (live n.val i) (score h (heads a0 h) (padded a1 h) n g i) (sinksOf a3 h g) * mean (live n.val i) (score h (heads a0 h) (padded a1 h) n g i) (sinksOf a3 h g) (dprob (padded a2 h) (heads a4 h) n g i)) : ℝ) : EReal) := by
  unfold val_main_v131
  pointwise
  rw [neg_mean H, weight_sink H, ← EReal.coe_mul]
  refine congrArg _ ?_
  unfold probSink
  ring

theorem grad_weight (H : Holds x0 x1 x2 x3 x4 a0 a1 a2 a3 a4) (a : Fin 1) (h : Fin 4) (g : Fin 8) (n : Fin 16) (i : Fin 128) (j : Fin 256) :
    val_main_v141 (F := Ideal) x0 x1 x2 x3 x4 (ix6 a h g n i j) = ((prob (live n.val i) (score h (heads a0 h) (padded a1 h) n g i) (sinksOf a3 h g) j * ((dprob (padded a2 h) (heads a4 h) n g i) j - mean (live n.val i) (score h (heads a0 h) (padded a1 h) n g i) (sinksOf a3 h g) (dprob (padded a2 h) (heads a4 h) n g i)) : ℝ) : EReal) := by
  unfold val_main_v141 val_main_v140 val_main_v130 val_main_v129 val_main_v139 val_main_v138 val_main_v137 val_main_cst_27
  pointwise
  rw [total_d05, cotangent_prob H, den_value H, neg_mean H, weight H, Ideal.div_coe (den_pos (live n.val i) (score h (heads a0 h) (padded a1 h) n g i) (sinksOf a3 h g)).ne', ← EReal.coe_mul, ← EReal.coe_add, ← EReal.coe_mul]
  exact congrArg _ (score_cotangent _ _ _ _ j)

/-- The cotangent of the maximum is zero. -/
theorem to_max_value (H : Holds x0 x1 x2 x3 x4 a0 a1 a2 a3 a4) (a : Fin 1) (h : Fin 4) (g : Fin 8) (n : Fin 16) (i : Fin 128) (b : Fin 1) :
    val_main_v145 (F := Ideal) x0 x1 x2 x3 x4 (ix6 a h g n i b) = 0 := by
  unfold val_main_v145 val_main_v134 val_main_v144 val_main_v143 val_main_cst_28
  pointwise
  rw [total_d5, sink_query H, ← EReal.coe_neg, neg_neg]
  have e : ∀ j, val_main_v142 (F := Ideal) x0 x1 x2 x3 x4 (ix6 (0 : Fin 1) h g n i j) = ((-(prob (live n.val i) (score h (heads a0 h) (padded a1 h) n g i) (sinksOf a3 h g) j * ((dprob (padded a2 h) (heads a4 h) n g i) j - mean (live n.val i) (score h (heads a0 h) (padded a1 h) n g i) (sinksOf a3 h g) (dprob (padded a2 h) (heads a4 h) n g i))) : ℝ) : EReal) := by
    intro j
    unfold val_main_v142
    pointwise
    rw [grad_weight H, EReal.coe_neg]
  simp only [e]
  rw [← coe_sum, ← EReal.coe_add, to_max, EReal.coe_zero]

/-- What the maximum hands to the scores is zero. -/
theorem through_max (H : Holds x0 x1 x2 x3 x4 a0 a1 a2 a3 a4) (a : Fin 1) (h : Fin 4) (g : Fin 8) (n : Fin 16) (i : Fin 128) (j : Fin 256) :
    val_main_v157 (F := Ideal) x0 x1 x2 x3 x4 (ix6 a h g n i j) = 0 := by
  obtain rfl : a = 0 := Subsingleton.elim _ _
  have ind : ∀ k, val_main_v75 (F := Ideal) x0 x1 (ix6 (0 : Fin 1) h g n i k) = (((val_main_v74 (F := Ideal) x0 x1 (ix6 (0 : Fin 1) h g n i k)).toNat : ℝ) : EReal) := fun _ => rfl
  have cnt : val_main_v76 (F := Ideal) x0 x1 (ix5 (0 : Fin 1) h g n i) = ((∑ k : Fin 256, ((val_main_v74 (F := Ideal) x0 x1 (ix6 (0 : Fin 1) h g n i k)).toNat : ℝ) : ℝ) : EReal) := by
    unfold val_main_v76 val_main_cst_15
    rw [sum_d5, coe_sum]
    exact Finset.sum_congr rfl fun k _ => ind k
  have num : val_main_v154 (F := Ideal) x0 x1 x2 x3 x4 (ix5 (0 : Fin 1) h g n i) = 0 := by
    unfold val_main_v154 val_main_v153 val_main_cst_31 val_main_v149
    pointwise
    rw [total_d05]
    pointwise
    rw [to_max_value H, zero_mul]
  unfold val_main_v157 val_main_v156 val_main_v155
  pointwise
  rw [num, cnt, ind j]
  by_cases hj : (val_main_v74 (F := Ideal) x0 x1 (ix6 (0 : Fin 1) h g n i j)).toNat = 0
  · rw [hj, Nat.cast_zero, EReal.coe_zero, mul_zero]
  · have pos : (0 : ℝ) < ∑ k : Fin 256, ((val_main_v74 (F := Ideal) x0 x1 (ix6 (0 : Fin 1) h g n i k)).toNat : ℝ) :=
      Finset.sum_pos' (fun k _ => Nat.cast_nonneg _) ⟨j, Finset.mem_univ j, Nat.cast_pos.mpr (Nat.pos_of_ne_zero hj)⟩
    rw [Ideal.div_coe pos.ne', zero_mul, zero_mul]

/-- The scores' cotangents. -/
theorem grad_score (H : Holds x0 x1 x2 x3 x4 a0 a1 a2 a3 a4) (a : Fin 1) (h : Fin 4) (g : Fin 8) (n : Fin 16) (i : Fin 128) (j : Fin 256) :
    val_main_v160 (F := Ideal) x0 x1 x2 x3 x4 (ix6 a h g n i j) = ((prob (live n.val i) (score h (heads a0 h) (padded a1 h) n g i) (sinksOf a3 h g) j * ((dprob (padded a2 h) (heads a4 h) n g i) j - mean (live n.val i) (score h (heads a0 h) (padded a1 h) n g i) (sinksOf a3 h g) (dprob (padded a2 h) (heads a4 h) n g i)) : ℝ) : EReal) := by
  unfold val_main_v160 val_main_v69_1 val_main_v158 val_main_call1_v0 val_main_call1_cst
  pointwise
  rw [valid, grad_weight H, through_max H, add_zero]
  by_cases hl : live n.val i j
  · rw [if_pos hl]
    rfl
  · rw [if_neg hl, prob_dead _ _ _ j hl, zero_mul, EReal.coe_zero]
    rfl

/-- The sinks' gradient. -/
theorem grad_sinks (H : Holds x0 x1 x2 x3 x4 a0 a1 a2 a3 a4) (h : Fin 4) (g : Fin 8) (a b c : Fin 1) :
    val_main_v152 (F := Ideal) x0 x1 x2 x3 x4 (ix5 h g a b c) = (resS a0 a1 a2 a3 a4 h g : EReal) := by
  unfold val_main_v152 val_main_v136 val_main_v135 val_main_cst_26 val_main_v133 val_main_v132 val_main_cst_25 val_main_v151 val_main_v150 val_main_cst_30 val_main_v148 val_main_v147 val_main_cst_29
  pointwise
  rw [total_d0345, total_d0345]
  pointwise
  rw [total_d34, total_d34]
  have e : ∀ (n : Fin 16) (i : Fin 128), val_main_v146 (F := Ideal) x0 x1 x2 x3 x4 (ix6 (0 : Fin 1) h g n i (0 : Fin 1)) = 0 := by
    intro n i
    unfold val_main_v146
    pointwise
    rw [to_max_value H, zero_mul]
  simp only [e, sink_query H, Finset.sum_const_zero, add_zero, ← coe_sum]
  refine congrArg _ ?_
  unfold resS dSinks dSink1
  rw [Finset.sum_comm]
  exact Finset.sum_congr rfl fun i _ => Finset.sum_neg_distrib _

end Cert.ReferenceIdeal.Stage
end
-- ==== Proof.Overlap.lean ====
/-
  Bands of two blocks that overlap by one: what a row receives.
-/
module

public import Idealize.ShloMosaic.Lib.Pointwise

@[expose] public section

noncomputable section

namespace Cert.Attn

/-- What row `r` receives from the bands that hold it. -/
def overlap (f : Fin 16 → Fin 256 → ℝ) (r : Fin 2176) : ℝ :=
  ∑ n : Fin 16, if hr : 128 * n.val ≤ r.val ∧ r.val < 128 * n.val + 256 then f n ⟨r.val - 128 * n.val, by omega⟩ else 0

/-- A row of the first block belongs to the first band alone. -/
theorem overlap_first (f : Fin 16 → Fin 256 → ℝ) (r : Fin 2176) (hr : r.val < 128) : overlap f r = f 0 ⟨r.val, by omega⟩ := by
  unfold overlap
  rw [Finset.sum_eq_single (0 : Fin 16)]
  · rw [dif_pos (by show 128 * 0 ≤ r.val ∧ r.val < 128 * 0 + 256; omega)]
    rfl
  · intro n _ hn
    have : n.val ≠ 0 := fun e => hn (Fin.ext e)
    rw [dif_neg (by omega)]
  · intro h
    exact absurd (Finset.mem_univ _) h

/-- Any other row is in the upper half of one band and in the lower half of the next. -/
theorem overlap_rest (f : Fin 16 → Fin 256 → ℝ) (n : Fin 16) (i : Fin 128) :
    overlap f ⟨128 * n.val + i.val + 128, by omega⟩ = f n ⟨128 + i.val, by omega⟩ + if h : n.val + 1 < 16 then f ⟨n.val + 1, h⟩ ⟨i.val, by omega⟩ else 0 := by
  unfold overlap
  have e : ∀ m : Fin 16, (if hr : 128 * m.val ≤ 128 * n.val + i.val + 128 ∧ 128 * n.val + i.val + 128 < 128 * m.val + 256 then f m ⟨128 * n.val + i.val + 128 - 128 * m.val, by omega⟩ else 0)
      = (if m = n then f m ⟨128 + i.val, by omega⟩ else 0) + (if m.val = n.val + 1 then f m ⟨i.val, by omega⟩ else 0) := by
    intro m
    by_cases h1 : m = n
    · subst h1
      rw [dif_pos (by omega), if_pos rfl, if_neg (by omega), add_zero]
      exact congrArg (f m) (Fin.ext (by show 128 * m.val + i.val + 128 - 128 * m.val = 128 + i.val; omega))
    · have h1' : m.val ≠ n.val := fun e => h1 (Fin.ext e)
      rw [if_neg h1, zero_add]
      by_cases h2 : m.val = n.val + 1
      · rw [dif_pos (by omega), if_pos h2]
        exact congrArg (f m) (Fin.ext (by show 128 * n.val + i.val + 128 - 128 * m.val = i.val; omega))
      · rw [dif_neg (by omega), if_neg h2]
  refine (Finset.sum_congr rfl fun m _ => e m).trans ?_
  rw [Finset.sum_add_distrib, Finset.sum_ite_eq' Finset.univ n, if_pos (Finset.mem_univ n)]
  refine congrArg (_ + ·) ?_
  by_cases h : n.val + 1 < 16
  · rw [dif_pos h, Finset.sum_eq_single (⟨n.val + 1, h⟩ : Fin 16)]
    · exact if_pos rfl
    · intro m _ hm
      exact if_neg fun e => hm (Fin.ext e)
    · intro hh
      exact absurd (Finset.mem_univ _) hh
  · rw [dif_neg h]
    exact Finset.sum_eq_zero fun m _ => if_neg (by omega)

end Cert.Attn

end
-- ==== Proof.Outs.lean ====
/-
  The reference's results: the gradients of the queries, the keys, the values and the sinks in the layout of the
  kernel's outputs.
-/
module

public import proofs.«01_k».proof.Proof.Through
public import proofs.«01_k».proof.Proof.Overlap

@[expose] public section

set_option maxRecDepth 16384

noncomputable section

namespace Cert.ReferenceIdeal.Stage

open Cert.ReferenceIdeal Cert.ReferenceIdeal.Gen Cert.ReferenceIdeal.Read Cert.Attn Idealize.ShloMosaic Idealize.ShloMosaic.TcCoe Idealize.SL.Sem

variable {x0 : (⟨S1x2048x2048, .f32⟩ : BufTy).Contents (Elt Ideal)} {x1 x2 : (⟨S1x2048x256, .f32⟩ : BufTy).Contents (Elt Ideal)} {x3 : (⟨S1x32, .f32⟩ : BufTy).Contents (Elt Ideal)} {x4 : (⟨S1x2048x2048, .f32⟩ : BufTy).Contents (Elt Ideal)}
variable {a0 : Fin 2048 → Fin 2048 → ℝ} {a1 a2 : Fin 2048 → Fin 256 → ℝ} {a3 : Fin 32 → ℝ} {a4 : Fin 2048 → Fin 2048 → ℝ}

/-- The scores' cotangents with the scale of the scores. -/
theorem scaled (H : Holds x0 x1 x2 x3 x4 a0 a1 a2 a3 a4) (a : Fin 1) (h : Fin 4) (g : Fin 8) (n : Fin 16) (i : Fin 128) (j : Fin 256) :
    val_main_v162 (F := Ideal) x0 x1 x2 x3 x4 (ix6 a h g n i j) = (dS h (heads a0 h) (padded a1 h) (padded a2 h) (sinksOf a3 h) (heads a4 h) n g i j : EReal) := by
  unfold val_main_v162 val_main_v161 val_main_cst_32
  pointwise
  rw [grad_score H, eighth, ← EReal.coe_mul]
  rfl

theorem grad_queries (H : Holds x0 x1 x2 x3 x4 a0 a1 a2 a3 a4) (a : Fin 1) (n : Fin 16) (i : Fin 128) (h : Fin 4) (g : Fin 8) (d : Fin 64) :
    val_main_v165 (F := Ideal) x0 x1 x2 x3 x4 (ix6 a n i h g d) = (dQ h (heads a0 h) (padded a1 h) (padded a2 h) (sinksOf a3 h) (heads a4 h) n g i d : EReal) := by
  unfold val_main_v165 val_main_v164 val_main_v163
  pointwise
  simp only [scaled H, keys H, ← EReal.coe_mul]
  rw [← coe_sum]
  unfold dQ
  exact congrArg _ (Finset.sum_congr rfl fun j _ => mul_comm _ _)

/-- What one block adds to the keys' gradient. -/
def bandK (a0 : Fin 2048 → Fin 2048 → ℝ) (a1 a2 : Fin 2048 → Fin 256 → ℝ) (a3 : Fin 32 → ℝ) (a4 : Fin 2048 → Fin 2048 → ℝ) (h : Fin 4) (d : Fin 64) (n : Fin 16) (j : Fin 256) : ℝ :=
  ∑ g, ∑ i, dS h (heads a0 h) (padded a1 h) (padded a2 h) (sinksOf a3 h) (heads a4 h) n g i j * heads a0 h g d (pos n i)

/-- What one block adds to the values' gradient. -/
def bandV (a0 : Fin 2048 → Fin 2048 → ℝ) (a1 : Fin 2048 → Fin 256 → ℝ) (a3 : Fin 32 → ℝ) (a4 : Fin 2048 → Fin 2048 → ℝ) (h : Fin 4) (d : Fin 64) (n : Fin 16) (j : Fin 256) : ℝ :=
  ∑ g, ∑ i, P h (heads a0 h) (padded a1 h) (sinksOf a3 h) n g i j * heads a4 h g d (pos n i)

theorem resK_eq (h : Fin 4) (r : Fin 2176) (d : Fin 64) : resK a0 a1 a2 a3 a4 h r d = overlap (bandK a0 a1 a2 a3 a4 h d) r := rfl

theorem resV_eq (h : Fin 4) (r : Fin 2176) (d : Fin 64) : resV a0 a1 a3 a4 h r d = overlap (bandV a0 a1 a3 a4 h d) r := rfl

/-- No key of the block before the sequence takes part. -/
theorem before (i : Fin 128) (j : Fin 256) (hj : j.val < 128) : ¬live (0 : Fin 16).val i j := by
  intro hl
  have := hl.2.2
  simp at this
  omega

theorem bandK_dead (h : Fin 4) (d : Fin 64) {j : Fin 256} (hj : j.val < 128) : bandK a0 a1 a2 a3 a4 h d 0 j = 0 := by
  unfold bandK dS dscore
  refine Finset.sum_eq_zero fun g _ => Finset.sum_eq_zero fun i _ => ?_
  rw [prob_dead _ _ _ j (before i j hj), zero_mul, zero_mul, zero_mul]

theorem bandV_dead (h : Fin 4) (d : Fin 64) {j : Fin 256} (hj : j.val < 128) : bandV a0 a1 a3 a4 h d 0 j = 0 := by
  unfold bandV P
  refine Finset.sum_eq_zero fun g _ => Finset.sum_eq_zero fun i _ => ?_
  rw [prob_dead _ _ _ j (before i j hj), zero_mul]

theorem bandK_value (H : Holds x0 x1 x2 x3 x4 a0 a1 a2 a3 a4) (a : Fin 1) (n : Fin 16) (j : Fin 256) (h : Fin 4) (d : Fin 64) :
    val_main_v167 (F := Ideal) x0 x1 x2 x3 x4 (ix5 a n j h d) = (bandK a0 a1 a2 a3 a4 h d n j : EReal) := by
  unfold val_main_v167 val_main_v166 val_main_v163
  pointwise
  simp only [scaled H, queries H, ← EReal.coe_mul, ← coe_sum]
  unfold bandK
  rw [Finset.sum_comm]

theorem bandV_value (H : Holds x0 x1 x2 x3 x4 a0 a1 a2 a3 a4) (a : Fin 1) (n : Fin 16) (j : Fin 256) (h : Fin 4) (d : Fin 64) :
    val_main_v122 (F := Ideal) x0 x1 x3 x4 (ix5 a n j h d) = (bandV a0 a1 a3 a4 h d n j : EReal) := by
  unfold val_main_v122 val_main_v121
  pointwise
  simp only [prob_value H, cotangents H, ← EReal.coe_mul, ← coe_sum]
  unfold bandV P
  exact congrArg _ (Finset.sum_congr rfl fun g _ => Finset.sum_congr rfl fun i _ => mul_comm _ _)

theorem sum_K (H : Holds x0 x1 x2 x3 x4 a0 a1 a2 a3 a4) (a : Fin 1) (n : Fin 16) (i : Fin 128) (h : Fin 4) (d : Fin 64) :
    val_main_v180 (F := Ideal) x0 x1 x2 x3 x4 (ix5 a n i h d) = (overlap (bandK a0 a1 a2 a3 a4 h d) ⟨128 * n.val + i.val + 128, by omega⟩ : EReal) := by
  unfold val_main_v180 val_main_v176 val_main_v179 val_main_v178 val_main_v175 val_main_cst_34
  pointwise
  rw [bandK_value H]
  rw [overlap_rest, EReal.coe_add]
  refine congrArg (_ + ·) ?_
  by_cases hn : n.val < 15
  · rw [dif_pos hn, dif_pos (by omega : n.val + 1 < 16), bandK_value H]
    exact congrArg (fun m => ((bandK a0 a1 a2 a3 a4 h d m ⟨i.val, by omega⟩ : ℝ) : EReal)) (Fin.ext (Nat.add_comm 1 n.val))
  · rw [dif_neg hn, dif_neg (by omega : ¬n.val + 1 < 16), EReal.coe_zero]

theorem sum_V (H : Holds x0 x1 x2 x3 x4 a0 a1 a2 a3 a4) (a : Fin 1) (n : Fin 16) (i : Fin 128) (h : Fin 4) (d : Fin 64) :
    val_main_v173 (F := Ideal) x0 x1 x3 x4 (ix5 a n i h d) = (overlap (bandV a0 a1 a3 a4 h d) ⟨128 * n.val + i.val + 128, by omega⟩ : EReal) := by
  unfold val_main_v173 val_main_v169 val_main_v172 val_main_v171 val_main_v168 val_main_cst_33
  pointwise
  rw [bandV_value H]
  rw [overlap_rest, EReal.coe_add]
  refine congrArg (_ + ·) ?_
  by_cases hn : n.val < 15
  · rw [dif_pos hn, dif_pos (by omega : n.val + 1 < 16), bandV_value H]
    exact congrArg (fun m => ((bandV a0 a1 a3 a4 h d m ⟨i.val, by omega⟩ : ℝ) : EReal)) (Fin.ext (Nat.add_comm 1 n.val))
  · rw [dif_neg hn, dif_neg (by omega : ¬n.val + 1 < 16), EReal.coe_zero]

theorem out_q (H : Holds x0 x1 x2 x3 x4 a0 a1 a2 a3 a4) (h : Fin 4) (g : Fin 8) (d : Fin 64) (t : Fin 2048) :
    val_main_v195 (F := Ideal) x0 x1 x2 x3 x4 (ix4 h g d t) = (resQ a0 a1 a2 a3 a4 h g d t : EReal) := by
  unfold val_main_v195 val_main_v188 val_main_v187 val_main_v186 val_main_v182
  pointwise
  exact grad_queries H _ _ _ _ _ _

theorem out_k (H : Holds x0 x1 x2 x3 x4 a0 a1 a2 a3 a4) (h : Fin 4) (r : Fin 2176) (d : Fin 64) :
    val_main_v191 (F := Ideal) x0 x1 x2 x3 x4 (ix3 h r d) = (resK a0 a1 a2 a3 a4 h r d : EReal) := by
  unfold val_main_v191 val_main_v190 val_main_v189 val_main_v185 val_main_v181 val_main_call2_v0 val_main_c_35
  pointwise
  rw [resK_eq]
  by_cases hr : 128 ≤ r.val
  · rw [dif_pos ⟨hr, by omega⟩, sum_K H]
    refine congrArg (fun q => ((overlap (bandK a0 a1 a2 a3 a4 h d) q : ℝ) : EReal)) (Fin.ext ?_)
    show 128 * ((r.val - 128) / 128) + (r.val - 128) % 128 + 128 = r.val
    omega
  · rw [dif_neg (fun hh => hr hh.1), overlap_first _ r (by omega), bandK_dead _ _ (by show r.val < 128; omega)]
    exact congrArg (fun z : ℝ => (z : EReal)) Int.cast_zero

theorem out_v (H : Holds x0 x1 x2 x3 x4 a0 a1 a2 a3 a4) (h : Fin 4) (r : Fin 2176) (d : Fin 64) :
    val_main_v194 (F := Ideal) x0 x1 x3 x4 (ix3 h r d) = (resV a0 a1 a3 a4 h r d : EReal) := by
  unfold val_main_v194 val_main_v193 val_main_v192 val_main_v184 val_main_v174 val_main_call3_v0 val_main_c_36
  pointwise
  rw [resV_eq]
  by_cases hr : 128 ≤ r.val
  · rw [dif_pos ⟨hr, by omega⟩, sum_V H]
    refine congrArg (fun q => ((overlap (bandV a0 a1 a3 a4 h d) q : ℝ) : EReal)) (Fin.ext ?_)
    show 128 * ((r.val - 128) / 128) + (r.val - 128) % 128 + 128 = r.val
    omega
  · rw [dif_neg (fun hh => hr hh.1), overlap_first _ r (by omega), bandV_dead _ _ (by show r.val < 128; omega)]
    exact congrArg (fun z : ℝ => (z : EReal)) Int.cast_zero

theorem out_s (H : Holds x0 x1 x2 x3 x4 a0 a1 a2 a3 a4) (h : Fin 4) (g : Fin 8) (a : Fin 1) :
    val_main_v196 (F := Ideal) x0 x1 x2 x3 x4 (ix3 h g a) = (resS a0 a1 a2 a3 a4 h g : EReal) := by
  unfold val_main_v196 val_main_v183 val_main_v159
  pointwise
  exact grad_sinks H _ _ _ _ _

end Cert.ReferenceIdeal.Stage
end
-- ==== Proof.RefRun.lean ====
/-
  The reference's run with its results named.
-/
module

public import proofs.«01_k».proof.Proof.Outs

@[expose] public section

set_option maxRecDepth 16384

noncomputable section

namespace Cert.ReferenceIdeal.Stage

open Cert.ReferenceIdeal Cert.ReferenceIdeal.Gen Cert.ReferenceIdeal.Read Cert.Attn Idealize.ShloMosaic Idealize.ShloMosaic.TcCoe Idealize.SL.Sem

variable {x0 : (⟨S1x2048x2048, .f32⟩ : BufTy).Contents (Elt Ideal)} {x1 x2 : (⟨S1x2048x256, .f32⟩ : BufTy).Contents (Elt Ideal)} {x3 : (⟨S1x32, .f32⟩ : BufTy).Contents (Elt Ideal)} {x4 : (⟨S1x2048x2048, .f32⟩ : BufTy).Contents (Elt Ideal)}
variable {a0 : Fin 2048 → Fin 2048 → ℝ} {a1 a2 : Fin 2048 → Fin 256 → ℝ} {a3 : Fin 32 → ℝ} {a4 : Fin 2048 → Fin 2048 → ℝ}

theorem result_q (H : Holds x0 x1 x2 x3 x4 a0 a1 a2 a3 a4) : val_main_v195 (F := Ideal) x0 x1 x2 x3 x4 = fun y => (resQ a0 a1 a2 a3 a4 (y 0) (y 1) (y 2) (y 3) : EReal) := by
  funext y
  obtain ⟨h, g, d, t, rfl⟩ : ∃ (h : Fin 4) (g : Fin 8) (d : Fin 64) (t : Fin 2048), y = ix4 h g d t := ⟨y 0, y 1, y 2, y 3, eq_ix4 y⟩
  exact out_q H h g d t

theorem result_k (H : Holds x0 x1 x2 x3 x4 a0 a1 a2 a3 a4) : val_main_v191 (F := Ideal) x0 x1 x2 x3 x4 = fun y => (resK a0 a1 a2 a3 a4 (y 0) (y 1) (y 2) : EReal) := by
  funext y
  obtain ⟨h, r, d, rfl⟩ : ∃ (h : Fin 4) (r : Fin 2176) (d : Fin 64), y = ix3 h r d := ⟨y 0, y 1, y 2, eq_ix3 y⟩
  exact out_k H h r d

theorem result_v (H : Holds x0 x1 x2 x3 x4 a0 a1 a2 a3 a4) : val_main_v194 (F := Ideal) x0 x1 x3 x4 = fun y => (resV a0 a1 a3 a4 (y 0) (y 1) (y 2) : EReal) := by
  funext y
  obtain ⟨h, r, d, rfl⟩ : ∃ (h : Fin 4) (r : Fin 2176) (d : Fin 64), y = ix3 h r d := ⟨y 0, y 1, y 2, eq_ix3 y⟩
  exact out_v H h r d

theorem result_s (H : Holds x0 x1 x2 x3 x4 a0 a1 a2 a3 a4) : val_main_v196 (F := Ideal) x0 x1 x2 x3 x4 = fun y => (resS a0 a1 a2 a3 a4 (y 0) (y 1) : EReal) := by
  funext y
  obtain ⟨h, g, b, rfl⟩ : ∃ (h : Fin 4) (g : Fin 8) (b : Fin 1), y = ix3 h g b := ⟨y 0, y 1, y 2, eq_ix3 y⟩
  exact out_s H h g b

theorem run_results (m : (ℓ : Loc nD τ sig) → Buf (Elt Ideal) ℓ) (ρ : Dev nD → PrngReg)
    (a0 : Dev nD → Fin 2048 → Fin 2048 → ℝ) (a1 a2 : Dev nD → Fin 2048 → Fin 256 → ℝ) (a3 : Dev nD → Fin 32 → ℝ) (a4 : Dev nD → Fin 2048 → Fin 2048 → ℝ)
    (H : ∀ c : Dev nD, Holds (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (a0 c) (a1 c) (a2 c) (a3 c) (a4 c)) :
    θ_run defs (onTc (τ := τ) (main (F := Ideal))) ⟨m, fun _ => 0, ρ⟩ fun r => ∀ c : Dev nD,
      r.2.mem ((c.tc : Thread nD τ).loc main_v195) = (fun y => (resQ (a0 c) (a1 c) (a2 c) (a3 c) (a4 c) (y 0) (y 1) (y 2) (y 3) : EReal))
      ∧ r.2.mem ((c.tc : Thread nD τ).loc main_v191) = (fun y => (resK (a0 c) (a1 c) (a2 c) (a3 c) (a4 c) (y 0) (y 1) (y 2) : EReal))
      ∧ r.2.mem ((c.tc : Thread nD τ).loc main_v194) = (fun y => (resV (a0 c) (a1 c) (a3 c) (a4 c) (y 0) (y 1) (y 2) : EReal))
      ∧ r.2.mem ((c.tc : Thread nD τ).loc main_v196) = (fun y => (resS (a0 c) (a1 c) (a2 c) (a3 c) (a4 c) (y 0) (y 1) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans ((val_main_v195_eq (StableHlo.launchContents m c)).trans (result_q (H c))),
      (h c).2.1.trans ((val_main_v191_eq (StableHlo.launchContents m c)).trans (result_k (H c))),
      (h c).2.2.1.trans ((val_main_v194_eq (StableHlo.launchContents m c)).trans (result_v (H c))),
      (h c).2.2.2.1.trans ((val_main_v196_eq (StableHlo.launchContents m c)).trans (result_s (H c))),
      (h c).2.2.2.2⟩)
    (Cert.ReferenceIdeal.Value.run (F := Ideal) m ρ)

end Cert.ReferenceIdeal.Stage
end
-- ==== Proof.Finite.lean ====
/-
  The precondition read back: where `finite` is true, every element of every argument is a real number.
-/
module

public import proofs.«01_k».proof.Pre_finite
public import proofs.«01_k».proof.Proof.Gen.Pre_finite
public import Idealize.ShloMosaic.Lib.Pointwise

@[expose] public section

set_option maxRecDepth 16384

noncomputable section

namespace Cert.Pre_finite.Read

open Cert.Pre_finite Cert.Pre_finite.Gen Idealize.ShloMosaic

theorem both : ∀ c d : BitVec 1, IntOp.andi c d = 1#1 → c = 1#1 ∧ d = 1#1 := by decide

theorem fold_all {ι : Type} (f : ι → BitVec 1) : ∀ (l : List ι) (b : BitVec 1), l.foldl (fun r n => IntOp.andi r (f n)) b = 1#1 → b = 1#1 ∧ ∀ n ∈ l, f n = 1#1
  | [], b, e => ⟨e, fun n hn => absurd hn List.not_mem_nil⟩
  | a :: l, b, e => by
    obtain ⟨h1, h2⟩ := fold_all f l _ e
    obtain ⟨h3, h4⟩ := both _ _ h1
    refine ⟨h3, fun n hn => ?_⟩
    rcases List.mem_cons.mp hn with rfl | hn
    · exact h4
    · exact h2 n hn

/-- A conjunction over all elements is true only if each is. -/
theorem reduce_all {s : Shape} {axes : List (Fin s.rank)} (x : IVec s 1) (y : IVec S_ 1) (h : s.ReducesTo axes S_) (hu : 0 < S_.numel) (j : S_.Idx)
    (e : Host.reduce IntOp.andi x y h hu j = 1#1) (i : s.Idx) : x i = 1#1 := by
  have k := (fold_all (fun n => x (s.rowMajor.symm n)) _ _ e).2 (s.rowMajor i)
    (List.mem_filter.mpr ⟨List.mem_finRange _, decide_eq_true (funext fun a => a.elim0)⟩)
  simpa using k

/-- An element whose magnitude is below infinity is a real number. -/
theorem real_of_lt (x : EReal) (e : Ideal.cmp .olt (max x (-x)) (Ideal.ofBits FTy.f32 0x7F800000#32) = 1#1) : x = (x.toReal : EReal) := by
  have hi : Ideal.ofBits FTy.f32 0x7F800000#32 = ⊤ := by simp [Ideal.ofBits, Ideal.ieee]
  rw [hi] at e
  have lt : max x (-x) < ⊤ := by
    by_contra hn
    have : Ideal.cmp .olt (max x (-x)) ⊤ = 0#1 := by
      simp [Ideal.cmp, hn]
    rw [this] at e
    exact absurd e (by decide)
  refine (EReal.coe_toReal (fun hx => ?_) (fun hx => ?_)).symm
  · rw [hx] at lt; simp at lt
  · rw [hx] at lt; simp at lt

variable (x0 : FVec Ideal S1x2048x2048 .f32) (x1 x2 : FVec Ideal S1x2048x256 .f32) (x3 : FVec Ideal S1x32 .f32) (x4 : FVec Ideal S1x2048x2048 .f32)

theorem reals (e : fn (F := Ideal) x0 x1 x2 x3 x4 ix0 = 1#1) :
    (∀ i, x0 i = ((x0 i).toReal : EReal)) ∧ (∀ i, x1 i = ((x1 i).toReal : EReal)) ∧ (∀ i, x2 i = ((x2 i).toReal : EReal)) ∧ (∀ i, x3 i = ((x3 i).toReal : EReal)) ∧ ∀ i, x4 i = ((x4 i).toReal : EReal) := by
  unfold fn fn_part1 at e
  obtain ⟨e, e4⟩ := both _ _ e
  obtain ⟨e, e3⟩ := both _ _ e
  obtain ⟨e, e2⟩ := both _ _ e
  obtain ⟨e0, e1⟩ := both _ _ e
  exact ⟨fun i => real_of_lt _ (reduce_all _ _ _ _ _ e0 i), fun i => real_of_lt _ (reduce_all _ _ _ _ _ e1 i), fun i => real_of_lt _ (reduce_all _ _ _ _ _ e2 i),
    fun i => real_of_lt _ (reduce_all _ _ _ _ _ e3 i), fun i => real_of_lt _ (reduce_all _ _ _ _ _ e4 i)⟩

end Cert.Pre_finite.Read

end
-- ==== Proof.Down.lean ====
/-
  The FFN's way down, `fin · w_down`: the contracted axis of 6144 is walked in three blocks of 2048; the first grid point
  of a result block clears the accumulator, each adds its partial product, and the third writes the accumulator out. The
  array is therefore the whole product, which is what the reference computes at once.
-/
module

public import proofs.«01_k».proof.Defs
public import proofs.«01_k».proof.Proof.Gen.DownIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.Down.Frame
public import Idealize.ShloMosaic.Lib.Pointwise
public import Idealize.ShloMosaic.Lib.Pipeline.ValueKit
public import Idealize.ShloMosaic.Lib.StableHlo.ReadAt
public import Idealize.ShloMosaic.Lib.Tactic

@[expose] public section

set_option maxRecDepth 16384

noncomputable section

/-! ## The kernel -/

namespace Cert.DownIdeal.Product

open Cert.DownIdeal Cert.DownIdeal.Gen Idealize.ShloMosaic Idealize.ShloMosaic.TcCoe Idealize.SL.Sem

/-- The result at row `i` and column `j`: the sum over the contracted axis. -/
def product (A : S2048x6144.Idx → EReal) (B : S6144x2048.Idx → EReal) (i : Fin 2048) (j : Fin 2048) : EReal :=
  ∑ k : Fin 6144, A (ix2 i k) * B (ix2 k j)

/-- Position `k` of block `q` of the contracted axis. -/
def deep (q : Fin 3) (k : Fin 2048) : Fin 6144 := ⟨q.val * 2048 + k.val, by omega⟩

/-- A sum over the contracted axis is the sum of its three blocks' sums. -/
theorem sum_blocks (f : Fin 6144 → EReal) : ∑ k, f k = ∑ q : Fin 3, ∑ k : Fin 2048, f (deep q k) := by
  rw [← Fintype.sum_prod_type' (fun q k => f (deep q k))]
  exact (Fintype.sum_equiv (finProdFinEquiv (m := 3) (n := 2048)) _ _ fun p => congrArg f (Fin.ext (by
    simp only [deep, finProdFinEquiv_apply_val]; omega))).symm

theorem pay1_apply (y : S1024x1024.Idx) : k0_pay1 (F := Ideal) y = 0 := by
  unfold k0_pay1
  pointwise

theorem pay2_apply (acc : Vec Ideal S1024x1024 .f32) (x : Vec Ideal S1024x2048 .bf16) (w : Vec Ideal S2048x1024 .bf16)
    (i j : Fin 1024) : k0_pay2 acc x w (ix2 i j) = acc (ix2 i j) + ∑ k : Fin 2048, x (ix2 i k) * w (ix2 k j) := by
  unfold k0_pay2
  pointwise

theorem hz : (![0, 0] : Fin 2 → ℕ) = fun _ => 0 := funext fun a => by fin_cases a <;> rfl

/-! ### What each kind of grid point leaves: the stores' payloads -/

section Cases

variable (c : Dev nD) (i : grid0.Coords) (a3 : Memref sig .tc .vmem S1024x2048 .bf16) (h3 : a3.IsWhole)
  (a4 : Memref sig .tc .vmem S2048x1024 .bf16) (h4 : a4.IsWhole) (a5 : Memref sig .tc .vmem S1024x1024 .f32) (h5 : a5.IsWhole)
  (a6 : Memref sig .tc .vmem S1024x1024 .f32) (h6 : a6.IsWhole)
  (x : Vec Ideal S1024x2048 .bf16) (w : Vec Ideal S2048x1024 .bf16) (acc : Vec Ideal S1024x1024 .f32)

/-- The first of the three clears the accumulator and adds its product. -/
theorem first (hc0 : cond0_0 i) (hc1 : ¬cond0_1 i) : sout0_A_0 c i a3 h3 a4 h4 a5 h5 a6 h6 hc0 hc1 x w = k0_pay2 k0_pay1 x w := by
  unfold sout0_A_0
  rw [View.read_writes_eq_canon _ _ _ (scover0_A_0 c i a3 h3 a4 h4 a5 h5 a6 h6 hc0 hc1 x w)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x2048) hz, View.ld_unit_zero (S := S2048x1024) hz]

/-- The second adds its product. -/
theorem second (hc0 : ¬cond0_0 i) (hc1 : ¬cond0_1 i) : sout0_B_0 c i a3 h3 a4 h4 a5 h5 a6 h6 hc0 hc1 x w acc = k0_pay2 acc x w := by
  unfold sout0_B_0
  rw [View.read_writes_eq_canon _ _ _ (scover0_B_0 c i a3 h3 a4 h4 a5 h5 a6 h6 hc0 hc1 x w acc)]
  unfold kernelRun0_B
  dsimp only
  rw [View.canon_unit_zero hz]
  simp only [View.readAt_eq_ld, h3.read_unread, h4.read_unread, h6.read_unread, View.ld_unit_zero (S := S1024x2048) hz, View.ld_unit_zero (S := S2048x1024) hz, View.ld_unit_zero (S := S1024x1024) hz]

/-- The third adds its product and writes the accumulator out. -/
theorem third (hc0 : ¬cond0_0 i) (hc1 : cond0_1 i) : out0_C_2 c i a3 h3 a4 h4 a5 h5 a6 h6 hc0 hc1 x w acc = k0_pay2 acc x w := by
  unfold out0_C_2
  rw [View.read_writes_eq_canon _ _ _ (cover0_C_2 c i a3 h3 a4 h4 a5 h5 a6 h6 hc0 hc1 x w acc)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x2048) hz, View.ld_unit_zero (S := S2048x1024) hz, View.ld_unit_zero (S := S1024x1024) hz]

end Cases

/-! ### The blocks -/

theorem index0 : ∀ t : Fin cfg0.N, win0_0.index t = ![t.val / 6, t.val % 3] := by decide +kernel
theorem index1 : ∀ t : Fin cfg0.N, win0_1.index t = ![t.val % 3, t.val / 3 % 2] := by decide +kernel
theorem index2 : ∀ t : Fin cfg0.N, win0_2.index t = ![t.val / 6, t.val / 3 % 2] := by decide +kernel
theorem flush2 : ∀ t : Fin cfg0.N, (cfg0.win 2).flush t = true → t.val % 3 = 2 := by decide +kernel

variable (m : (ℓ : Loc nD τ sig) → Buf (Elt Ideal) ℓ) (c : Dev nD)

/-- Row `i` of the block of rows of a grid point, in the whole array. -/
def rowOf (t : Fin cfg0.N) (i : Fin 1024) : Fin 2048 := ⟨t.val / 6 * 1024 + i.val, by have := t.isLt; have e : cfg0.N = 12 := N_0; omega⟩

/-- Column `j` of its block of columns. -/
def colOf (t : Fin cfg0.N) (j : Fin 1024) : Fin 2048 := ⟨t.val / 3 % 2 * 1024 + j.val, by omega⟩

/-- Its block of the contracted axis. -/
def stepOf (t : Fin cfg0.N) : Fin 3 := ⟨t.val % 3, by omega⟩

theorem left (i : S2048x6144.Idx) : V m c main_v0 i = m ((c : Thread nD τ).loc main_arg0) i := by
  unfold V
  after_reads_at

theorem right (i : S6144x2048.Idx) : V m c main_v1 i = m ((c : Thread nD τ).loc main_arg1) i := by
  unfold V
  after_reads_at

theorem block0 (t : Fin cfg0.N) (i : Fin 1024) (k : Fin 2048) : iblk m c 0 t (ix2 i k) = m ((c : Thread nD τ).loc main_arg0) (ix2 (rowOf t i) (deep (stepOf t) k)) := by
  refine Eq.trans ?_ (left m c _)
  blk_ext [iblk, index0 t] <;> simp [index0 t, rowOf, deep, stepOf]

theorem block1 (t : Fin cfg0.N) (k : Fin 2048) (j : Fin 1024) : iblk m c 1 t (ix2 k j) = m ((c : Thread nD τ).loc main_arg1) (ix2 (deep (stepOf t) k) (colOf t j)) := by
  refine Eq.trans ?_ (right m c _)
  blk_ext [iblk, index1 t] <;> simp [index1 t, colOf, deep, stepOf]

/-- One grid point's part of the sum. -/
def slab (A : S2048x6144.Idx → EReal) (B : S6144x2048.Idx → EReal) (q : Fin 3) (i j : Fin 2048) : EReal :=
  ∑ k : Fin 2048, A (ix2 i (deep q k)) * B (ix2 (deep q k) j)

/-- The same, of the two arguments. -/
abbrev part (q : Fin 3) (i j : Fin 2048) : EReal := slab (m ((c : Thread nD τ).loc main_arg0)) (m ((c : Thread nD τ).loc main_arg1)) q i j

theorem point (t : Fin cfg0.N) (acc : Vec Ideal S1024x1024 .f32) (i j : Fin 1024) :
    k0_pay2 acc (iblk m c 0 t) (iblk m c 1 t) (ix2 i j) = acc (ix2 i j) + part m c (stepOf t) (rowOf t i) (colOf t j) :=
  (pay2_apply _ _ _ i j).trans (congrArg (acc (ix2 i j) + ·) (Finset.sum_congr rfl fun k _ => congrArg₂ _ (block0 m c t i k) (block1 m c t k j)))

theorem after_first (t : Fin cfg0.N) (h : t.val % 3 = 0) (i j : Fin 1024) :
    (outsAt0 m c t.val t.isLt).2 (ix2 i j) = 0 + part m c (stepOf t) (rowOf t i) (colOf t j) := by
  rw [outsAt0_A m c t h (by omega)]
  dsimp only
  rw [first]
  refine (point m c t _ i j).trans ?_
  rw [pay1_apply]

theorem after_second (t : Fin cfg0.N) (h : t.val % 3 = 1) (i j : Fin 1024) :
    (outsAt0 m c t.val t.isLt).2 (ix2 i j) = (outsAt0 m c (t.val - 1) (Nat.lt_of_le_of_lt (Nat.sub_le _ _) t.isLt)).2 (ix2 i j) + part m c (stepOf t) (rowOf t i) (colOf t j) := by
  rw [outsAt0_B m c t (by omega) (by omega)]
  dsimp only
  rw [second]
  exact point m c t _ i j

theorem after_third (t : Fin cfg0.N) (h : t.val % 3 = 2) (i j : Fin 1024) :
    (outsAt0 m c t.val t.isLt).1 (ix2 i j) = (outsAt0 m c (t.val - 1) (Nat.lt_of_le_of_lt (Nat.sub_le _ _) t.isLt)).2 (ix2 i j) + part m c (stepOf t) (rowOf t i) (colOf t j) := by
  rw [outsAt0_C m c t (by omega) h]
  dsimp only
  rw [third]
  exact point m c t _ i j

/-- At a write-back the accumulator holds the whole sum. -/
theorem swept (t : Fin cfg0.N) (h : t.val % 3 = 2) (i j : Fin 1024) :
    (outsAt0 m c t.val t.isLt).1 (ix2 i j) = product (m ((c : Thread nD τ).loc main_arg0)) (m ((c : Thread nD τ).loc main_arg1)) (rowOf t i) (colOf t j) := by
  have b1 : t.val - 1 < cfg0.N := Nat.lt_of_le_of_lt (Nat.sub_le _ _) t.isLt
  have b0 : t.val - 1 - 1 < cfg0.N := Nat.lt_of_le_of_lt (Nat.sub_le _ _) b1
  have e2 := after_third m c t h i j
  have e1 := after_second m c ⟨t.val - 1, b1⟩ (by dsimp only; omega) i j
  have e0 := after_first m c ⟨t.val - 1 - 1, b0⟩ (by dsimp only; omega) i j
  have r1 : rowOf ⟨t.val - 1, b1⟩ i = rowOf t i := Fin.ext (by simp only [rowOf]; omega)
  have r0 : rowOf ⟨t.val - 1 - 1, b0⟩ i = rowOf t i := Fin.ext (by simp only [rowOf]; omega)
  have c1 : colOf ⟨t.val - 1, b1⟩ j = colOf t j := Fin.ext (by simp only [colOf]; omega)
  have c0 : colOf ⟨t.val - 1 - 1, b0⟩ j = colOf t j := Fin.ext (by simp only [colOf]; omega)
  have s2 : stepOf t = 2 := Fin.ext h
  have s1 : stepOf ⟨t.val - 1, b1⟩ = 1 := Fin.ext (by simp only [stepOf]; show _ = 1; omega)
  have s0 : stepOf ⟨t.val - 1 - 1, b0⟩ = 0 := Fin.ext (by simp only [stepOf]; show _ = 0; omega)
  rw [r1, c1, s1] at e1
  rw [r0, c0, s0] at e0
  rw [e2, s2]
  refine (congrArg (· + part m c 2 (rowOf t i) (colOf t j)) (e1.trans (congrArg (· + part m c 1 (rowOf t i) (colOf t j)) e0))).trans ?_
  unfold product
  rw [sum_blocks, Fin.sum_univ_three, zero_add]
  rfl

/-- The array after the run is the product of the two arguments. -/
theorem array2 : (dats m 0 c).arrAt 2 cfg0.N = fun y => product (m ((c : Thread nD τ).loc main_arg0)) (m ((c : Thread nD τ).loc main_arg1)) (y 0) (y 1) := by
  refine (dats m 0 c).arrAt_eq_of_covers 2 _ (by decide +kernel) fun t hf y => ?_
  rw [after0_2]
  obtain ⟨i, j, rfl⟩ : ∃ (i : Fin 1024) (j : Fin 1024), y = ix2 i j := ⟨y 0, y 1, eq_ix2 y⟩
  have e : (win0_2.blk t).view.emb (ix2 i j) = ix2 (rowOf t i) (colOf t j) := by
    blk_ext [index2 t] <;> simp [index2 t, rowOf, colOf]
  refine (swept m c t (flush2 t hf) i j).trans ?_
  blk_simp
  rw [e]
  rfl

end Cert.DownIdeal.Product

/-! ## The reference -/

namespace Cert.DownReferenceIdeal.Product

open Cert.DownReferenceIdeal Cert.DownReferenceIdeal.Gen Cert.DownReferenceIdeal.Read Idealize.ShloMosaic Idealize.ShloMosaic.TcCoe Idealize.SL.Sem

theorem main_v0_product (A : (⟨S2048x6144, .f32⟩ : BufTy).Contents (Elt Ideal)) (B : (⟨S6144x2048, .f32⟩ : BufTy).Contents (Elt Ideal)) :
    val_main_v0 (F := Ideal) A B = fun y => Cert.DownIdeal.Product.product A B (y 0) (y 1) := by
  funext y
  obtain ⟨i, j, rfl⟩ : ∃ (i : Fin 2048) (j : Fin 2048), y = ix2 i j := ⟨y 0, y 1, eq_ix2 y⟩
  rw [val_main_v0_apply]
  unfold Cert.DownIdeal.Product.product
  refine Finset.sum_congr rfl fun k _ => ?_
  exact congrArg₂ _ (congrArg A (funext fun a => by fin_cases a <;> rfl)) (congrArg B (funext fun a => by fin_cases a <;> rfl))

end Cert.DownReferenceIdeal.Product

/-! ## The claims -/

namespace Cert.Proof.Down

open Idealize.ShloMosaic Idealize.ShloMosaic.TcCoe Idealize.SL.Sem

/-- The reference runs, leaves its arguments as they were, and declares no semaphore. -/
theorem frame_reference : Cert.quiescent_DownReferenceIdeal := by
  intro m ρ _
  exact (θ_run Cert.DownReferenceIdeal.defs _ _).mono (fun r h => ⟨fun c => (h c).2,
      Idealize.ShloMosaic.sem_eq_zero_of_no_sems (by decide) r.2⟩)
    (Cert.DownReferenceIdeal.Value.run (F := Ideal) m ρ)

/-- The kernel and the reference compute the same product, of any arguments. -/
theorem algebraic : Cert.algebraic_DownIdeal_DownReferenceIdeal := by
  intro m ρ m' ρ' _ agree
  refine ⟨fun c y => Cert.DownIdeal.Product.product (m ((c.tc : Thread Cert.DownIdeal.nD Cert.DownIdeal.τ).loc Cert.DownIdeal.main_arg0)) (m ((c.tc : Thread Cert.DownIdeal.nD Cert.DownIdeal.τ).loc Cert.DownIdeal.main_arg1)) (y 0) (y 1), ?_, ?_⟩
  · exact (θ_run Cert.DownIdeal.defs _ _).mono (fun _ h c => ⟨(h c).1.trans (Cert.DownIdeal.Product.array2 m c), (h c).2⟩)
      (Cert.DownIdeal.Value.run_blocks m ρ)
  · exact (θ_run Cert.DownReferenceIdeal.defs _ _).mono (fun _ h c => ⟨(h c).1.trans ((Cert.DownReferenceIdeal.Read.val_main_v0_eq _ _).trans
        ((Cert.DownReferenceIdeal.Product.main_v0_product _ _).trans (by rw [(agree c).1, (agree c).2]; rfl))), (h c).2⟩)
      (Cert.DownReferenceIdeal.Value.run (F := Ideal) m' ρ')

end Cert.Proof.Down

end
-- ==== Proof.DownGrad.lean ====
/-
  The gradient of the FFN's way down, `finᵀ · dpre2`: a block of the result is the product of a block of rows by a block of columns over the
  whole contracted axis, so the array is the product of the two arguments; and the reference's gradient is the same sum.
-/
module

public import proofs.«01_k».proof.Defs
public import proofs.«01_k».proof.Proof.Gen.DownGradIdeal.Value
public import proofs.«01_k».proof.Proof.Gen.DownGradReferenceIdeal
public import proofs.«01_k».proof.Proof.Gen.DownGradReferenceIdeal.Run
public import proofs.«01_k».proof.Proof.Gen.DownGradReferenceIdeal.Read
public import proofs.«01_k».proof.Proof.Gen.DownGrad.Frame
public import Idealize.ShloMosaic.Lib.Pointwise
public import Idealize.ShloMosaic.Lib.Pipeline.ValueKit
public import Idealize.ShloMosaic.Lib.StableHlo.ReadAt

@[expose] public section

set_option maxRecDepth 16384

noncomputable section

/-! ## The kernel -/

namespace Cert.DownGradIdeal.Product

open Cert.DownGradIdeal Cert.DownGradIdeal.Gen Idealize.ShloMosaic Idealize.ShloMosaic.TcCoe Idealize.SL.Sem

/-- The result at row `i` and column `j`: the sum over the contracted axis. -/
def product (A : S2048x6144.Idx → EReal) (B : S2048x2048.Idx → EReal) (i : Fin 6144) (j : Fin 2048) : EReal :=
  ∑ k : Fin 2048, A (ix2 k i) * B (ix2 k j)

/-- What one grid point computes of its two blocks. -/
theorem k0_pay1_apply (x : Vec Ideal S2048x1024 .bf16) (y : Vec Ideal S2048x1024 .bf16) (i : Fin 1024) (j : Fin 1024) :
    k0_pay1 x y (ix2 i j) = ∑ k : Fin 2048, x (ix2 k i) * y (ix2 k j) := by
  unfold k0_pay1
  pointwise

/-- The one covering store leaves the payload of the two whole loads. -/
theorem out2_eq (x : Vec Ideal S2048x1024 .bf16) (y : Vec Ideal S2048x1024 .bf16) : out0_2 x y = k0_pay1 x y := by
  have hz : (![0, 0] : Fin 2 → ℕ) = fun _ => 0 := funext fun a => by fin_cases a <;> rfl
  unfold out0_2
  rw [View.canon_unit_zero hz, View.ld_unit_zero hz, View.ld_unit_zero hz]

/-- What one grid point computes of its two blocks. -/
theorem k0_pay2_apply (x : Vec Ideal S2048x1024 .bf16) (y : Vec Ideal S2048x1024 .bf16) (i : Fin 1024) (j : Fin 1024) :
    k0_pay2 x y (ix2 i j) = ∑ k : Fin 2048, x (ix2 k i) * y (ix2 k j) := by
  unfold k0_pay2 k0_pay1
  pointwise

/-- The one covering store leaves the payload of the two whole loads. -/
theorem out3_eq (x : Vec Ideal S2048x1024 .bf16) (y : Vec Ideal S2048x1024 .bf16) : out0_3 x y = k0_pay2 x y := by
  have hz : (![0, 0] : Fin 2 → ℕ) = fun _ => 0 := funext fun a => by fin_cases a <;> rfl
  unfold out0_3
  rw [View.canon_unit_zero hz, View.ld_unit_zero hz, View.ld_unit_zero hz]

theorem index0 : ∀ t : Fin cfg0.N, win0_0.index t = ![0, t.val / 2] := by decide +kernel
theorem index1 : ∀ t : Fin cfg0.N, win0_1.index t = ![0, t.val % 2] := by decide +kernel
theorem index2 : ∀ t : Fin cfg0.N, win0_2.index t = ![t.val / 2, t.val % 2] := by decide +kernel
theorem index3 : ∀ t : Fin cfg0.N, win0_3.index t = ![t.val / 2, t.val % 2] := by decide +kernel

variable (m : (ℓ : Loc nD τ sig) → Buf (Elt Ideal) ℓ) (c : Dev nD)

/-- Row `i` of the block of rows of a grid point, in the whole array. -/
def rowOf (t : Fin cfg0.N) (i : Fin 1024) : Fin 6144 := ⟨t.val / 2 * 1024 + i.val, by have := t.isLt; have e : cfg0.N = 12 := N_0; omega⟩

/-- Column `j` of its block of columns. -/
def colOf (t : Fin cfg0.N) (j : Fin 1024) : Fin 2048 := ⟨t.val % 2 * 1024 + j.val, by omega⟩

theorem left (i : S2048x6144.Idx) : V m c main_v0 i = m ((c : Thread nD τ).loc main_arg0) i := by
  unfold V
  after_reads_at

theorem right (i : S2048x2048.Idx) : V m c main_v1 i = m ((c : Thread nD τ).loc main_arg1) i := by
  unfold V
  after_reads_at

theorem block0 (t : Fin cfg0.N) (i : Fin 1024) (k : Fin 2048) : iblk m c 0 t (ix2 k i) = m ((c : Thread nD τ).loc main_arg0) (ix2 k (rowOf t i)) := by
  refine Eq.trans ?_ (left m c _)
  blk_ext [iblk, index0 t] <;> simp [index0 t, rowOf]

theorem block1 (t : Fin cfg0.N) (j : Fin 1024) (k : Fin 2048) : iblk m c 1 t (ix2 k j) = m ((c : Thread nD τ).loc main_arg1) (ix2 k (colOf t j)) := by
  refine Eq.trans ?_ (right m c _)
  blk_ext [iblk, index1 t] <;> simp [index1 t, colOf]

/-- The array after the run is the product of the two arguments. -/
theorem array2 : (dats m 0 c).arrAt 2 cfg0.N = fun y => product (m ((c : Thread nD τ).loc main_arg0)) (m ((c : Thread nD τ).loc main_arg1)) (y 0) (y 1) := by
  refine (dats m 0 c).arrAt_eq_of_covers 2 _ (by decide +kernel) fun t hf y => ?_
  rw [after0_2, out2_eq]
  obtain ⟨i, j, rfl⟩ : ∃ (i : Fin 1024) (j : Fin 1024), y = ix2 i j := ⟨y 0, y 1, eq_ix2 y⟩
  have e : (win0_2.blk t).view.emb (ix2 i j) = ix2 (rowOf t i) (colOf t j) := by
    blk_ext [index2 t] <;> simp [index2 t, rowOf, colOf]
  refine (k0_pay1_apply _ _ i j).trans ?_
  blk_simp
  rw [e]
  exact Finset.sum_congr rfl fun k _ => congrArg₂ _ (block0 m c t i k) (block1 m c t j k)

/-- The array after the run is the product of the two arguments. -/
theorem array3 : (dats m 0 c).arrAt 3 cfg0.N = fun y => product (m ((c : Thread nD τ).loc main_arg0)) (m ((c : Thread nD τ).loc main_arg1)) (y 0) (y 1) := by
  refine (dats m 0 c).arrAt_eq_of_covers 3 _ (by decide +kernel) fun t hf y => ?_
  rw [after0_3, out3_eq]
  obtain ⟨i, j, rfl⟩ : ∃ (i : Fin 1024) (j : Fin 1024), y = ix2 i j := ⟨y 0, y 1, eq_ix2 y⟩
  have e : (win0_3.blk t).view.emb (ix2 i j) = ix2 (rowOf t i) (colOf t j) := by
    blk_ext [index3 t] <;> simp [index3 t, rowOf, colOf]
  refine (k0_pay2_apply _ _ i j).trans ?_
  blk_simp
  rw [e]
  exact Finset.sum_congr rfl fun k _ => congrArg₂ _ (block0 m c t i k) (block1 m c t j k)

end Cert.DownGradIdeal.Product

/-! ## The reference -/

namespace Cert.DownGradReferenceIdeal.Product

open Cert.DownGradReferenceIdeal Cert.DownGradReferenceIdeal.Gen Cert.DownGradReferenceIdeal.Read Idealize.ShloMosaic Idealize.ShloMosaic.TcCoe Idealize.SL.Sem

theorem main_v3_product (A : (⟨S2048x6144, .f32⟩ : BufTy).Contents (Elt Ideal)) (B : (⟨S2048x2048, .f32⟩ : BufTy).Contents (Elt Ideal)) : val_main_v3 (F := Ideal) A B = fun y => Cert.DownGradIdeal.Product.product A B (y 0) (y 1) := by
  funext y
  obtain ⟨i, j, rfl⟩ : ∃ (i : Fin 6144) (j : Fin 2048), y = ix2 i j := ⟨y 0, y 1, eq_ix2 y⟩
  rw [val_main_v3_apply]
  rw [val_main_v2_apply]
  unfold Cert.DownGradIdeal.Product.product
  refine Finset.sum_congr rfl fun k _ => ?_
  rw [mul_comm]
  exact congrArg₂ _ (congrArg A (funext fun a => by fin_cases a <;> rfl)) (congrArg B (funext fun a => by fin_cases a <;> rfl))

theorem main_v4_product (A : (⟨S2048x6144, .f32⟩ : BufTy).Contents (Elt Ideal)) (B : (⟨S2048x2048, .f32⟩ : BufTy).Contents (Elt Ideal)) : val_main_v4 (F := Ideal) A B = fun y => Cert.DownGradIdeal.Product.product A B (y 0) (y 1) := by
  funext y
  obtain ⟨i, j, rfl⟩ : ∃ (i : Fin 6144) (j : Fin 2048), y = ix2 i j := ⟨y 0, y 1, eq_ix2 y⟩
  rw [val_main_v4_apply]
  show val_main_v3 (F := Ideal) A B _ = _
  rw [val_main_v3_apply]
  rw [val_main_v2_apply]
  unfold Cert.DownGradIdeal.Product.product
  refine Finset.sum_congr rfl fun k _ => ?_
  rw [mul_comm]
  exact congrArg₂ _ (congrArg A (funext fun a => by fin_cases a <;> rfl)) (congrArg B (funext fun a => by fin_cases a <;> rfl))

end Cert.DownGradReferenceIdeal.Product

/-! ## The claims -/

namespace Cert.Proof.DownGrad

open Idealize.ShloMosaic Idealize.ShloMosaic.TcCoe Idealize.SL.Sem

/-- The reference runs, leaves its arguments as they were, and declares no semaphore. -/
theorem frame_reference : Cert.quiescent_DownGradReferenceIdeal := by
  intro m ρ _
  exact (θ_run Cert.DownGradReferenceIdeal.defs _ _).mono (fun r h => ⟨fun c => (h c).2.2,
      Idealize.ShloMosaic.sem_eq_zero_of_no_sems (by decide) r.2⟩)
    (Cert.DownGradReferenceIdeal.Value.run (F := Ideal) m ρ)

/-- The kernel and the reference compute the same product, of any arguments. -/
theorem algebraic : Cert.algebraic_DownGradIdeal_DownGradReferenceIdeal := by
  intro m ρ m' ρ' _ agree
  refine ⟨fun c y => Cert.DownGradIdeal.Product.product (m ((c.tc : Thread Cert.DownGradIdeal.nD Cert.DownGradIdeal.τ).loc Cert.DownGradIdeal.main_arg0)) (m ((c.tc : Thread Cert.DownGradIdeal.nD Cert.DownGradIdeal.τ).loc Cert.DownGradIdeal.main_arg1)) (y 0) (y 1),
    fun c y => Cert.DownGradIdeal.Product.product (m ((c.tc : Thread Cert.DownGradIdeal.nD Cert.DownGradIdeal.τ).loc Cert.DownGradIdeal.main_arg0)) (m ((c.tc : Thread Cert.DownGradIdeal.nD Cert.DownGradIdeal.τ).loc Cert.DownGradIdeal.main_arg1)) (y 0) (y 1), ?_, ?_⟩
  · exact (θ_run Cert.DownGradIdeal.defs _ _).mono (fun _ h c => ⟨(h c).1.trans (Cert.DownGradIdeal.Product.array2 m c), (h c).2.1.trans (Cert.DownGradIdeal.Product.array3 m c), (h c).2.2⟩)
      (Cert.DownGradIdeal.Value.run_blocks m ρ)
  · exact (θ_run Cert.DownGradReferenceIdeal.defs _ _).mono (fun _ h c => ⟨(h c).1.trans ((Cert.DownGradReferenceIdeal.Read.val_main_v3_eq _ _).trans ((Cert.DownGradReferenceIdeal.Product.main_v3_product _ _).trans (by rw [(agree c).1, (agree c).2]; rfl))), (h c).2.1.trans ((Cert.DownGradReferenceIdeal.Read.val_main_v4_eq _ _).trans ((Cert.DownGradReferenceIdeal.Product.main_v4_product _ _).trans (by rw [(agree c).1, (agree c).2]; rfl))), (h c).2.2⟩)
      (Cert.DownGradReferenceIdeal.Value.run (F := Ideal) m' ρ')

end Cert.Proof.DownGrad

end
-- ==== Proof.OutGrad.lean ====
/-
  The gradient of the output projection, `mixinᵀ · dpre1`: a block of the result is the product of a block of rows by a block of columns over the
  whole contracted axis, so the array is the product of the two arguments; and the reference's gradient is the same sum.
-/
module

public import proofs.«01_k».proof.Defs
public import proofs.«01_k».proof.Proof.Gen.OutGradIdeal.Value
public import proofs.«01_k».proof.Proof.Gen.OutGradReferenceIdeal
public import proofs.«01_k».proof.Proof.Gen.OutGradReferenceIdeal.Run
public import proofs.«01_k».proof.Proof.Gen.OutGradReferenceIdeal.Read
public import proofs.«01_k».proof.Proof.Gen.OutGrad.Frame
public import Idealize.ShloMosaic.Lib.Pointwise
public import Idealize.ShloMosaic.Lib.Pipeline.ValueKit
public import Idealize.ShloMosaic.Lib.StableHlo.ReadAt

@[expose] public section

set_option maxRecDepth 16384

noncomputable section

/-! ## The kernel -/

namespace Cert.OutGradIdeal.Product

open Cert.OutGradIdeal Cert.OutGradIdeal.Gen Idealize.ShloMosaic Idealize.ShloMosaic.TcCoe Idealize.SL.Sem

/-- The result at row `i` and column `j`: the sum over the contracted axis. -/
def product (A : S2048x2048.Idx → EReal) (B : S2048x2048.Idx → EReal) (i : Fin 2048) (j : Fin 2048) : EReal :=
  ∑ k : Fin 2048, A (ix2 k i) * B (ix2 k j)

/-- What one grid point computes of its two blocks. -/
theorem k0_pay1_apply (x : Vec Ideal S2048x1024 .bf16) (y : Vec Ideal S2048x1024 .bf16) (i : Fin 1024) (j : Fin 1024) :
    k0_pay1 x y (ix2 i j) = ∑ k : Fin 2048, x (ix2 k i) * y (ix2 k j) := by
  unfold k0_pay1
  pointwise

/-- The one covering store leaves the payload of the two whole loads. -/
theorem out2_eq (x : Vec Ideal S2048x1024 .bf16) (y : Vec Ideal S2048x1024 .bf16) : out0_2 x y = k0_pay1 x y := by
  have hz : (![0, 0] : Fin 2 → ℕ) = fun _ => 0 := funext fun a => by fin_cases a <;> rfl
  unfold out0_2
  rw [View.canon_unit_zero hz, View.ld_unit_zero hz, View.ld_unit_zero hz]

/-- What one grid point computes of its two blocks. -/
theorem k0_pay2_apply (x : Vec Ideal S2048x1024 .bf16) (y : Vec Ideal S2048x1024 .bf16) (i : Fin 1024) (j : Fin 1024) :
    k0_pay2 x y (ix2 i j) = ∑ k : Fin 2048, x (ix2 k i) * y (ix2 k j) := by
  unfold k0_pay2 k0_pay1
  pointwise

/-- The one covering store leaves the payload of the two whole loads. -/
theorem out3_eq (x : Vec Ideal S2048x1024 .bf16) (y : Vec Ideal S2048x1024 .bf16) : out0_3 x y = k0_pay2 x y := by
  have hz : (![0, 0] : Fin 2 → ℕ) = fun _ => 0 := funext fun a => by fin_cases a <;> rfl
  unfold out0_3
  rw [View.canon_unit_zero hz, View.ld_unit_zero hz, View.ld_unit_zero hz]

theorem index0 : ∀ t : Fin cfg0.N, win0_0.index t = ![0, t.val / 2] := by decide +kernel
theorem index1 : ∀ t : Fin cfg0.N, win0_1.index t = ![0, t.val % 2] := by decide +kernel
theorem index2 : ∀ t : Fin cfg0.N, win0_2.index t = ![t.val / 2, t.val % 2] := by decide +kernel
theorem index3 : ∀ t : Fin cfg0.N, win0_3.index t = ![t.val / 2, t.val % 2] := by decide +kernel

variable (m : (ℓ : Loc nD τ sig) → Buf (Elt Ideal) ℓ) (c : Dev nD)

/-- Row `i` of the block of rows of a grid point, in the whole array. -/
def rowOf (t : Fin cfg0.N) (i : Fin 1024) : Fin 2048 := ⟨t.val / 2 * 1024 + i.val, by have := t.isLt; have e : cfg0.N = 4 := N_0; omega⟩

/-- Column `j` of its block of columns. -/
def colOf (t : Fin cfg0.N) (j : Fin 1024) : Fin 2048 := ⟨t.val % 2 * 1024 + j.val, by omega⟩

theorem left (i : S2048x2048.Idx) : V m c main_v0 i = m ((c : Thread nD τ).loc main_arg0) i := by
  unfold V
  after_reads_at

theorem right (i : S2048x2048.Idx) : V m c main_v1 i = m ((c : Thread nD τ).loc main_arg1) i := by
  unfold V
  after_reads_at

theorem block0 (t : Fin cfg0.N) (i : Fin 1024) (k : Fin 2048) : iblk m c 0 t (ix2 k i) = m ((c : Thread nD τ).loc main_arg0) (ix2 k (rowOf t i)) := by
  refine Eq.trans ?_ (left m c _)
  blk_ext [iblk, index0 t] <;> simp [index0 t, rowOf]

theorem block1 (t : Fin cfg0.N) (j : Fin 1024) (k : Fin 2048) : iblk m c 1 t (ix2 k j) = m ((c : Thread nD τ).loc main_arg1) (ix2 k (colOf t j)) := by
  refine Eq.trans ?_ (right m c _)
  blk_ext [iblk, index1 t] <;> simp [index1 t, colOf]

/-- The array after the run is the product of the two arguments. -/
theorem array2 : (dats m 0 c).arrAt 2 cfg0.N = fun y => product (m ((c : Thread nD τ).loc main_arg0)) (m ((c : Thread nD τ).loc main_arg1)) (y 0) (y 1) := by
  refine (dats m 0 c).arrAt_eq_of_covers 2 _ (by decide +kernel) fun t hf y => ?_
  rw [after0_2, out2_eq]
  obtain ⟨i, j, rfl⟩ : ∃ (i : Fin 1024) (j : Fin 1024), y = ix2 i j := ⟨y 0, y 1, eq_ix2 y⟩
  have e : (win0_2.blk t).view.emb (ix2 i j) = ix2 (rowOf t i) (colOf t j) := by
    blk_ext [index2 t] <;> simp [index2 t, rowOf, colOf]
  refine (k0_pay1_apply _ _ i j).trans ?_
  blk_simp
  rw [e]
  exact Finset.sum_congr rfl fun k _ => congrArg₂ _ (block0 m c t i k) (block1 m c t j k)

/-- The array after the run is the product of the two arguments. -/
theorem array3 : (dats m 0 c).arrAt 3 cfg0.N = fun y => product (m ((c : Thread nD τ).loc main_arg0)) (m ((c : Thread nD τ).loc main_arg1)) (y 0) (y 1) := by
  refine (dats m 0 c).arrAt_eq_of_covers 3 _ (by decide +kernel) fun t hf y => ?_
  rw [after0_3, out3_eq]
  obtain ⟨i, j, rfl⟩ : ∃ (i : Fin 1024) (j : Fin 1024), y = ix2 i j := ⟨y 0, y 1, eq_ix2 y⟩
  have e : (win0_3.blk t).view.emb (ix2 i j) = ix2 (rowOf t i) (colOf t j) := by
    blk_ext [index3 t] <;> simp [index3 t, rowOf, colOf]
  refine (k0_pay2_apply _ _ i j).trans ?_
  blk_simp
  rw [e]
  exact Finset.sum_congr rfl fun k _ => congrArg₂ _ (block0 m c t i k) (block1 m c t j k)

end Cert.OutGradIdeal.Product

/-! ## The reference -/

namespace Cert.OutGradReferenceIdeal.Product

open Cert.OutGradReferenceIdeal Cert.OutGradReferenceIdeal.Gen Cert.OutGradReferenceIdeal.Read Idealize.ShloMosaic Idealize.ShloMosaic.TcCoe Idealize.SL.Sem

theorem main_v3_product (A : (⟨S2048x2048, .f32⟩ : BufTy).Contents (Elt Ideal)) (B : (⟨S2048x2048, .f32⟩ : BufTy).Contents (Elt Ideal)) : val_main_v3 (F := Ideal) A B = fun y => Cert.OutGradIdeal.Product.product A B (y 0) (y 1) := by
  funext y
  obtain ⟨i, j, rfl⟩ : ∃ (i : Fin 2048) (j : Fin 2048), y = ix2 i j := ⟨y 0, y 1, eq_ix2 y⟩
  rw [val_main_v3_apply]
  rw [val_main_v2_apply]
  unfold Cert.OutGradIdeal.Product.product
  refine Finset.sum_congr rfl fun k _ => ?_
  rw [mul_comm]
  exact congrArg₂ _ (congrArg A (funext fun a => by fin_cases a <;> rfl)) (congrArg B (funext fun a => by fin_cases a <;> rfl))

theorem main_v4_product (A : (⟨S2048x2048, .f32⟩ : BufTy).Contents (Elt Ideal)) (B : (⟨S2048x2048, .f32⟩ : BufTy).Contents (Elt Ideal)) : val_main_v4 (F := Ideal) A B = fun y => Cert.OutGradIdeal.Product.product A B (y 0) (y 1) := by
  funext y
  obtain ⟨i, j, rfl⟩ : ∃ (i : Fin 2048) (j : Fin 2048), y = ix2 i j := ⟨y 0, y 1, eq_ix2 y⟩
  rw [val_main_v4_apply]
  show val_main_v3 (F := Ideal) A B _ = _
  rw [val_main_v3_apply]
  rw [val_main_v2_apply]
  unfold Cert.OutGradIdeal.Product.product
  refine Finset.sum_congr rfl fun k _ => ?_
  rw [mul_comm]
  exact congrArg₂ _ (congrArg A (funext fun a => by fin_cases a <;> rfl)) (congrArg B (funext fun a => by fin_cases a <;> rfl))

end Cert.OutGradReferenceIdeal.Product

/-! ## The claims -/

namespace Cert.Proof.OutGrad

open Idealize.ShloMosaic Idealize.ShloMosaic.TcCoe Idealize.SL.Sem

/-- The reference runs, leaves its arguments as they were, and declares no semaphore. -/
theorem frame_reference : Cert.quiescent_OutGradReferenceIdeal := by
  intro m ρ _
  exact (θ_run Cert.OutGradReferenceIdeal.defs _ _).mono (fun r h => ⟨fun c => (h c).2.2,
      Idealize.ShloMosaic.sem_eq_zero_of_no_sems (by decide) r.2⟩)
    (Cert.OutGradReferenceIdeal.Value.run (F := Ideal) m ρ)

/-- The kernel and the reference compute the same product, of any arguments. -/
theorem algebraic : Cert.algebraic_OutGradIdeal_OutGradReferenceIdeal := by
  intro m ρ m' ρ' _ agree
  refine ⟨fun c y => Cert.OutGradIdeal.Product.product (m ((c.tc : Thread Cert.OutGradIdeal.nD Cert.OutGradIdeal.τ).loc Cert.OutGradIdeal.main_arg0)) (m ((c.tc : Thread Cert.OutGradIdeal.nD Cert.OutGradIdeal.τ).loc Cert.OutGradIdeal.main_arg1)) (y 0) (y 1),
    fun c y => Cert.OutGradIdeal.Product.product (m ((c.tc : Thread Cert.OutGradIdeal.nD Cert.OutGradIdeal.τ).loc Cert.OutGradIdeal.main_arg0)) (m ((c.tc : Thread Cert.OutGradIdeal.nD Cert.OutGradIdeal.τ).loc Cert.OutGradIdeal.main_arg1)) (y 0) (y 1), ?_, ?_⟩
  · exact (θ_run Cert.OutGradIdeal.defs _ _).mono (fun _ h c => ⟨(h c).1.trans (Cert.OutGradIdeal.Product.array2 m c), (h c).2.1.trans (Cert.OutGradIdeal.Product.array3 m c), (h c).2.2⟩)
      (Cert.OutGradIdeal.Value.run_blocks m ρ)
  · exact (θ_run Cert.OutGradReferenceIdeal.defs _ _).mono (fun _ h c => ⟨(h c).1.trans ((Cert.OutGradReferenceIdeal.Read.val_main_v3_eq _ _).trans ((Cert.OutGradReferenceIdeal.Product.main_v3_product _ _).trans (by rw [(agree c).1, (agree c).2]; rfl))), (h c).2.1.trans ((Cert.OutGradReferenceIdeal.Read.val_main_v4_eq _ _).trans ((Cert.OutGradReferenceIdeal.Product.main_v4_product _ _).trans (by rw [(agree c).1, (agree c).2]; rfl))), (h c).2.2⟩)
      (Cert.OutGradReferenceIdeal.Value.run (F := Ideal) m' ρ')

end Cert.Proof.OutGrad

end
-- ==== Proof.MixGrad.lean ====
/-
  The gradient into the merged branches, `dpre1 · w_outᵀ`: a block of the result is the product of a block of rows by a block of columns over the
  whole contracted axis, so the array is the product of the two arguments; and the reference's gradient is the same sum.
-/
module

public import proofs.«01_k».proof.Defs
public import proofs.«01_k».proof.Proof.Gen.MixGradIdeal.Value
public import proofs.«01_k».proof.Proof.Gen.MixGradReferenceIdeal
public import proofs.«01_k».proof.Proof.Gen.MixGradReferenceIdeal.Run
public import proofs.«01_k».proof.Proof.Gen.MixGradReferenceIdeal.Read
public import proofs.«01_k».proof.Proof.Gen.MixGrad.Frame
public import Idealize.ShloMosaic.Lib.Pointwise
public import Idealize.ShloMosaic.Lib.Pipeline.ValueKit
public import Idealize.ShloMosaic.Lib.StableHlo.ReadAt

@[expose] public section

set_option maxRecDepth 16384

noncomputable section

/-! ## The kernel -/

namespace Cert.MixGradIdeal.Product

open Cert.MixGradIdeal Cert.MixGradIdeal.Gen Idealize.ShloMosaic Idealize.ShloMosaic.TcCoe Idealize.SL.Sem

/-- The result at row `i` and column `j`: the sum over the contracted axis. -/
def product (A : S2048x2048.Idx → EReal) (B : S2048x2048.Idx → EReal) (i : Fin 2048) (j : Fin 2048) : EReal :=
  ∑ k : Fin 2048, A (ix2 i k) * B (ix2 j k)

/-- What one grid point computes of its two blocks. -/
theorem k0_pay1_apply (x : Vec Ideal S1024x2048 .bf16) (y : Vec Ideal S1024x2048 .bf16) (i : Fin 1024) (j : Fin 1024) :
    k0_pay1 x y (ix2 i j) = ∑ k : Fin 2048, x (ix2 i k) * y (ix2 j k) := by
  unfold k0_pay1
  pointwise

/-- The one covering store leaves the payload of the two whole loads. -/
theorem out2_eq (x : Vec Ideal S1024x2048 .bf16) (y : Vec Ideal S1024x2048 .bf16) : out0_2 x y = k0_pay1 x y := by
  have hz : (![0, 0] : Fin 2 → ℕ) = fun _ => 0 := funext fun a => by fin_cases a <;> rfl
  unfold out0_2
  rw [View.canon_unit_zero hz, View.ld_unit_zero hz, View.ld_unit_zero hz]

theorem index0 : ∀ t : Fin cfg0.N, win0_0.index t = ![t.val / 2, 0] := by decide +kernel
theorem index1 : ∀ t : Fin cfg0.N, win0_1.index t = ![t.val % 2, 0] := by decide +kernel
theorem index2 : ∀ t : Fin cfg0.N, win0_2.index t = ![t.val / 2, t.val % 2] := by decide +kernel

variable (m : (ℓ : Loc nD τ sig) → Buf (Elt Ideal) ℓ) (c : Dev nD)

/-- Row `i` of the block of rows of a grid point, in the whole array. -/
def rowOf (t : Fin cfg0.N) (i : Fin 1024) : Fin 2048 := ⟨t.val / 2 * 1024 + i.val, by have := t.isLt; have e : cfg0.N = 4 := N_0; omega⟩

/-- Column `j` of its block of columns. -/
def colOf (t : Fin cfg0.N) (j : Fin 1024) : Fin 2048 := ⟨t.val % 2 * 1024 + j.val, by omega⟩

theorem left (i : S2048x2048.Idx) : V m c main_v0 i = m ((c : Thread nD τ).loc main_arg1) i := by
  unfold V
  after_reads_at

theorem right (i : S2048x2048.Idx) : V m c main_v1 i = m ((c : Thread nD τ).loc main_arg0) i := by
  unfold V
  after_reads_at

theorem block0 (t : Fin cfg0.N) (i : Fin 1024) (k : Fin 2048) : iblk m c 0 t (ix2 i k) = m ((c : Thread nD τ).loc main_arg1) (ix2 (rowOf t i) k) := by
  refine Eq.trans ?_ (left m c _)
  blk_ext [iblk, index0 t] <;> simp [index0 t, rowOf]

theorem block1 (t : Fin cfg0.N) (j : Fin 1024) (k : Fin 2048) : iblk m c 1 t (ix2 j k) = m ((c : Thread nD τ).loc main_arg0) (ix2 (colOf t j) k) := by
  refine Eq.trans ?_ (right m c _)
  blk_ext [iblk, index1 t] <;> simp [index1 t, colOf]

/-- The array after the run is the product of the two arguments. -/
theorem array2 : (dats m 0 c).arrAt 2 cfg0.N = fun y => product (m ((c : Thread nD τ).loc main_arg1)) (m ((c : Thread nD τ).loc main_arg0)) (y 0) (y 1) := by
  refine (dats m 0 c).arrAt_eq_of_covers 2 _ (by decide +kernel) fun t hf y => ?_
  rw [after0_2, out2_eq]
  obtain ⟨i, j, rfl⟩ : ∃ (i : Fin 1024) (j : Fin 1024), y = ix2 i j := ⟨y 0, y 1, eq_ix2 y⟩
  have e : (win0_2.blk t).view.emb (ix2 i j) = ix2 (rowOf t i) (colOf t j) := by
    blk_ext [index2 t] <;> simp [index2 t, rowOf, colOf]
  refine (k0_pay1_apply _ _ i j).trans ?_
  blk_simp
  rw [e]
  exact Finset.sum_congr rfl fun k _ => congrArg₂ _ (block0 m c t i k) (block1 m c t j k)

end Cert.MixGradIdeal.Product

/-! ## The reference -/

namespace Cert.MixGradReferenceIdeal.Product

open Cert.MixGradReferenceIdeal Cert.MixGradReferenceIdeal.Gen Cert.MixGradReferenceIdeal.Read Idealize.ShloMosaic Idealize.ShloMosaic.TcCoe Idealize.SL.Sem

theorem main_v2_product (B : (⟨S2048x2048, .f32⟩ : BufTy).Contents (Elt Ideal)) (A : (⟨S2048x2048, .f32⟩ : BufTy).Contents (Elt Ideal)) : val_main_v2 (F := Ideal) B A = fun y => Cert.MixGradIdeal.Product.product A B (y 0) (y 1) := by
  funext y
  obtain ⟨i, j, rfl⟩ : ∃ (i : Fin 2048) (j : Fin 2048), y = ix2 i j := ⟨y 0, y 1, eq_ix2 y⟩
  rw [val_main_v2_apply]
  unfold Cert.MixGradIdeal.Product.product
  refine Finset.sum_congr rfl fun k _ => ?_
  exact congrArg₂ _ (congrArg A (funext fun a => by fin_cases a <;> rfl)) (congrArg B (funext fun a => by fin_cases a <;> rfl))

end Cert.MixGradReferenceIdeal.Product

/-! ## The claims -/

namespace Cert.Proof.MixGrad

open Idealize.ShloMosaic Idealize.ShloMosaic.TcCoe Idealize.SL.Sem

/-- The reference runs, leaves its arguments as they were, and declares no semaphore. -/
theorem frame_reference : Cert.quiescent_MixGradReferenceIdeal := by
  intro m ρ _
  exact (θ_run Cert.MixGradReferenceIdeal.defs _ _).mono (fun r h => ⟨fun c => (h c).2,
      Idealize.ShloMosaic.sem_eq_zero_of_no_sems (by decide) r.2⟩)
    (Cert.MixGradReferenceIdeal.Value.run (F := Ideal) m ρ)

/-- The kernel and the reference compute the same product, of any arguments. -/
theorem algebraic : Cert.algebraic_MixGradIdeal_MixGradReferenceIdeal := by
  intro m ρ m' ρ' _ agree
  refine ⟨fun c y => Cert.MixGradIdeal.Product.product (m ((c.tc : Thread Cert.MixGradIdeal.nD Cert.MixGradIdeal.τ).loc Cert.MixGradIdeal.main_arg1)) (m ((c.tc : Thread Cert.MixGradIdeal.nD Cert.MixGradIdeal.τ).loc Cert.MixGradIdeal.main_arg0)) (y 0) (y 1), ?_, ?_⟩
  · exact (θ_run Cert.MixGradIdeal.defs _ _).mono (fun _ h c => ⟨(h c).1.trans (Cert.MixGradIdeal.Product.array2 m c), (h c).2⟩)
      (Cert.MixGradIdeal.Value.run_blocks m ρ)
  · exact (θ_run Cert.MixGradReferenceIdeal.defs _ _).mono (fun _ h c => ⟨(h c).1.trans ((Cert.MixGradReferenceIdeal.Read.val_main_v2_eq _ _).trans ((Cert.MixGradReferenceIdeal.Product.main_v2_product _ _).trans (by rw [(agree c).1, (agree c).2]; rfl))), (h c).2⟩)
      (Cert.MixGradReferenceIdeal.Value.run (F := Ideal) m' ρ')

end Cert.Proof.MixGrad

end
-- ==== Proof.RnnProjGrad.lean ====
/-
  The gradient of the RG-LRU's projection, `yrinᵀ · dyr`: a block of the result is the product of a block of rows by a block of columns over the
  whole contracted axis, so the array is the product of the two arguments; and the reference's gradient is the same sum.
-/
module

public import proofs.«01_k».proof.Defs
public import proofs.«01_k».proof.Proof.Gen.RnnProjGradIdeal.Value
public import proofs.«01_k».proof.Proof.Gen.RnnProjGradReferenceIdeal
public import proofs.«01_k».proof.Proof.Gen.RnnProjGradReferenceIdeal.Run
public import proofs.«01_k».proof.Proof.Gen.RnnProjGradReferenceIdeal.Read
public import proofs.«01_k».proof.Proof.Gen.RnnProjGrad.Frame
public import Idealize.ShloMosaic.Lib.Pointwise
public import Idealize.ShloMosaic.Lib.Pipeline.ValueKit
public import Idealize.ShloMosaic.Lib.StableHlo.ReadAt

@[expose] public section

set_option maxRecDepth 16384

noncomputable section

/-! ## The kernel -/

namespace Cert.RnnProjGradIdeal.Product

open Cert.RnnProjGradIdeal Cert.RnnProjGradIdeal.Gen Idealize.ShloMosaic Idealize.ShloMosaic.TcCoe Idealize.SL.Sem

/-- The result at row `i` and column `j`: the sum over the contracted axis. -/
def product (A : S2048x2560.Idx → EReal) (B : S2048x2048.Idx → EReal) (i : Fin 2560) (j : Fin 2048) : EReal :=
  ∑ k : Fin 2048, A (ix2 k i) * B (ix2 k j)

/-- What one grid point computes of its two blocks. -/
theorem k0_pay1_apply (x : Vec Ideal S2048x1280 .bf16) (y : Vec Ideal S2048x1024 .bf16) (i : Fin 1280) (j : Fin 1024) :
    k0_pay1 x y (ix2 i j) = ∑ k : Fin 2048, x (ix2 k i) * y (ix2 k j) := by
  unfold k0_pay1
  pointwise

/-- The one covering store leaves the payload of the two whole loads. -/
theorem out2_eq (x : Vec Ideal S2048x1280 .bf16) (y : Vec Ideal S2048x1024 .bf16) : out0_2 x y = k0_pay1 x y := by
  have hz : (![0, 0] : Fin 2 → ℕ) = fun _ => 0 := funext fun a => by fin_cases a <;> rfl
  unfold out0_2
  rw [View.canon_unit_zero hz, View.ld_unit_zero hz, View.ld_unit_zero hz]

/-- What one grid point computes of its two blocks. -/
theorem k0_pay2_apply (x : Vec Ideal S2048x1280 .bf16) (y : Vec Ideal S2048x1024 .bf16) (i : Fin 1280) (j : Fin 1024) :
    k0_pay2 x y (ix2 i j) = ∑ k : Fin 2048, x (ix2 k i) * y (ix2 k j) := by
  unfold k0_pay2 k0_pay1
  pointwise

/-- The one covering store leaves the payload of the two whole loads. -/
theorem out3_eq (x : Vec Ideal S2048x1280 .bf16) (y : Vec Ideal S2048x1024 .bf16) : out0_3 x y = k0_pay2 x y := by
  have hz : (![0, 0] : Fin 2 → ℕ) = fun _ => 0 := funext fun a => by fin_cases a <;> rfl
  unfold out0_3
  rw [View.canon_unit_zero hz, View.ld_unit_zero hz, View.ld_unit_zero hz]

theorem index0 : ∀ t : Fin cfg0.N, win0_0.index t = ![0, t.val / 2] := by decide +kernel
theorem index1 : ∀ t : Fin cfg0.N, win0_1.index t = ![0, t.val % 2] := by decide +kernel
theorem index2 : ∀ t : Fin cfg0.N, win0_2.index t = ![t.val / 2, t.val % 2] := by decide +kernel
theorem index3 : ∀ t : Fin cfg0.N, win0_3.index t = ![t.val / 2, t.val % 2] := by decide +kernel

variable (m : (ℓ : Loc nD τ sig) → Buf (Elt Ideal) ℓ) (c : Dev nD)

/-- Row `i` of the block of rows of a grid point, in the whole array. -/
def rowOf (t : Fin cfg0.N) (i : Fin 1280) : Fin 2560 := ⟨t.val / 2 * 1280 + i.val, by have := t.isLt; have e : cfg0.N = 4 := N_0; omega⟩

/-- Column `j` of its block of columns. -/
def colOf (t : Fin cfg0.N) (j : Fin 1024) : Fin 2048 := ⟨t.val % 2 * 1024 + j.val, by omega⟩

theorem left (i : S2048x2560.Idx) : V m c main_v0 i = m ((c : Thread nD τ).loc main_arg0) i := by
  unfold V
  after_reads_at

theorem right (i : S2048x2048.Idx) : V m c main_v1 i = m ((c : Thread nD τ).loc main_arg1) i := by
  unfold V
  after_reads_at

theorem block0 (t : Fin cfg0.N) (i : Fin 1280) (k : Fin 2048) : iblk m c 0 t (ix2 k i) = m ((c : Thread nD τ).loc main_arg0) (ix2 k (rowOf t i)) := by
  refine Eq.trans ?_ (left m c _)
  blk_ext [iblk, index0 t] <;> simp [index0 t, rowOf]

theorem block1 (t : Fin cfg0.N) (j : Fin 1024) (k : Fin 2048) : iblk m c 1 t (ix2 k j) = m ((c : Thread nD τ).loc main_arg1) (ix2 k (colOf t j)) := by
  refine Eq.trans ?_ (right m c _)
  blk_ext [iblk, index1 t] <;> simp [index1 t, colOf]

/-- The array after the run is the product of the two arguments. -/
theorem array2 : (dats m 0 c).arrAt 2 cfg0.N = fun y => product (m ((c : Thread nD τ).loc main_arg0)) (m ((c : Thread nD τ).loc main_arg1)) (y 0) (y 1) := by
  refine (dats m 0 c).arrAt_eq_of_covers 2 _ (by decide +kernel) fun t hf y => ?_
  rw [after0_2, out2_eq]
  obtain ⟨i, j, rfl⟩ : ∃ (i : Fin 1280) (j : Fin 1024), y = ix2 i j := ⟨y 0, y 1, eq_ix2 y⟩
  have e : (win0_2.blk t).view.emb (ix2 i j) = ix2 (rowOf t i) (colOf t j) := by
    blk_ext [index2 t] <;> simp [index2 t, rowOf, colOf]
  refine (k0_pay1_apply _ _ i j).trans ?_
  blk_simp
  rw [e]
  exact Finset.sum_congr rfl fun k _ => congrArg₂ _ (block0 m c t i k) (block1 m c t j k)

/-- The array after the run is the product of the two arguments. -/
theorem array3 : (dats m 0 c).arrAt 3 cfg0.N = fun y => product (m ((c : Thread nD τ).loc main_arg0)) (m ((c : Thread nD τ).loc main_arg1)) (y 0) (y 1) := by
  refine (dats m 0 c).arrAt_eq_of_covers 3 _ (by decide +kernel) fun t hf y => ?_
  rw [after0_3, out3_eq]
  obtain ⟨i, j, rfl⟩ : ∃ (i : Fin 1280) (j : Fin 1024), y = ix2 i j := ⟨y 0, y 1, eq_ix2 y⟩
  have e : (win0_3.blk t).view.emb (ix2 i j) = ix2 (rowOf t i) (colOf t j) := by
    blk_ext [index3 t] <;> simp [index3 t, rowOf, colOf]
  refine (k0_pay2_apply _ _ i j).trans ?_
  blk_simp
  rw [e]
  exact Finset.sum_congr rfl fun k _ => congrArg₂ _ (block0 m c t i k) (block1 m c t j k)

end Cert.RnnProjGradIdeal.Product

/-! ## The reference -/

namespace Cert.RnnProjGradReferenceIdeal.Product

open Cert.RnnProjGradReferenceIdeal Cert.RnnProjGradReferenceIdeal.Gen Cert.RnnProjGradReferenceIdeal.Read Idealize.ShloMosaic Idealize.ShloMosaic.TcCoe Idealize.SL.Sem

theorem main_v3_product (A : (⟨S2048x2560, .f32⟩ : BufTy).Contents (Elt Ideal)) (B : (⟨S2048x2048, .f32⟩ : BufTy).Contents (Elt Ideal)) : val_main_v3 (F := Ideal) A B = fun y => Cert.RnnProjGradIdeal.Product.product A B (y 0) (y 1) := by
  funext y
  obtain ⟨i, j, rfl⟩ : ∃ (i : Fin 2560) (j : Fin 2048), y = ix2 i j := ⟨y 0, y 1, eq_ix2 y⟩
  rw [val_main_v3_apply]
  rw [val_main_v2_apply]
  unfold Cert.RnnProjGradIdeal.Product.product
  refine Finset.sum_congr rfl fun k _ => ?_
  rw [mul_comm]
  exact congrArg₂ _ (congrArg A (funext fun a => by fin_cases a <;> rfl)) (congrArg B (funext fun a => by fin_cases a <;> rfl))

theorem main_v4_product (A : (⟨S2048x2560, .f32⟩ : BufTy).Contents (Elt Ideal)) (B : (⟨S2048x2048, .f32⟩ : BufTy).Contents (Elt Ideal)) : val_main_v4 (F := Ideal) A B = fun y => Cert.RnnProjGradIdeal.Product.product A B (y 0) (y 1) := by
  funext y
  obtain ⟨i, j, rfl⟩ : ∃ (i : Fin 2560) (j : Fin 2048), y = ix2 i j := ⟨y 0, y 1, eq_ix2 y⟩
  rw [val_main_v4_apply]
  show val_main_v3 (F := Ideal) A B _ = _
  rw [val_main_v3_apply]
  rw [val_main_v2_apply]
  unfold Cert.RnnProjGradIdeal.Product.product
  refine Finset.sum_congr rfl fun k _ => ?_
  rw [mul_comm]
  exact congrArg₂ _ (congrArg A (funext fun a => by fin_cases a <;> rfl)) (congrArg B (funext fun a => by fin_cases a <;> rfl))

end Cert.RnnProjGradReferenceIdeal.Product

/-! ## The claims -/

namespace Cert.Proof.RnnProjGrad

open Idealize.ShloMosaic Idealize.ShloMosaic.TcCoe Idealize.SL.Sem

/-- The reference runs, leaves its arguments as they were, and declares no semaphore. -/
theorem frame_reference : Cert.quiescent_RnnProjGradReferenceIdeal := by
  intro m ρ _
  exact (θ_run Cert.RnnProjGradReferenceIdeal.defs _ _).mono (fun r h => ⟨fun c => (h c).2.2,
      Idealize.ShloMosaic.sem_eq_zero_of_no_sems (by decide) r.2⟩)
    (Cert.RnnProjGradReferenceIdeal.Value.run (F := Ideal) m ρ)

/-- The kernel and the reference compute the same product, of any arguments. -/
theorem algebraic : Cert.algebraic_RnnProjGradIdeal_RnnProjGradReferenceIdeal := by
  intro m ρ m' ρ' _ agree
  refine ⟨fun c y => Cert.RnnProjGradIdeal.Product.product (m ((c.tc : Thread Cert.RnnProjGradIdeal.nD Cert.RnnProjGradIdeal.τ).loc Cert.RnnProjGradIdeal.main_arg0)) (m ((c.tc : Thread Cert.RnnProjGradIdeal.nD Cert.RnnProjGradIdeal.τ).loc Cert.RnnProjGradIdeal.main_arg1)) (y 0) (y 1),
    fun c y => Cert.RnnProjGradIdeal.Product.product (m ((c.tc : Thread Cert.RnnProjGradIdeal.nD Cert.RnnProjGradIdeal.τ).loc Cert.RnnProjGradIdeal.main_arg0)) (m ((c.tc : Thread Cert.RnnProjGradIdeal.nD Cert.RnnProjGradIdeal.τ).loc Cert.RnnProjGradIdeal.main_arg1)) (y 0) (y 1), ?_, ?_⟩
  · exact (θ_run Cert.RnnProjGradIdeal.defs _ _).mono (fun _ h c => ⟨(h c).1.trans (Cert.RnnProjGradIdeal.Product.array2 m c), (h c).2.1.trans (Cert.RnnProjGradIdeal.Product.array3 m c), (h c).2.2⟩)
      (Cert.RnnProjGradIdeal.Value.run_blocks m ρ)
  · exact (θ_run Cert.RnnProjGradReferenceIdeal.defs _ _).mono (fun _ h c => ⟨(h c).1.trans ((Cert.RnnProjGradReferenceIdeal.Read.val_main_v3_eq _ _).trans ((Cert.RnnProjGradReferenceIdeal.Product.main_v3_product _ _).trans (by rw [(agree c).1, (agree c).2]; rfl))), (h c).2.1.trans ((Cert.RnnProjGradReferenceIdeal.Read.val_main_v4_eq _ _).trans ((Cert.RnnProjGradReferenceIdeal.Product.main_v4_product _ _).trans (by rw [(agree c).1, (agree c).2]; rfl))), (h c).2.2⟩)
      (Cert.RnnProjGradReferenceIdeal.Value.run (F := Ideal) m' ρ')

end Cert.Proof.RnnProjGrad

end
-- ==== Proof.AttnOutGrad.lean ====
/-
  The gradient into the attention's output, features first: `w_attn_proj · dyaᵀ`: a block of the result is the product of a block of rows by a block of columns over the
  whole contracted axis, so the array is the product of the two arguments; and the reference's gradient is the same sum.
-/
module

public import proofs.«01_k».proof.Defs
public import proofs.«01_k».proof.Proof.Gen.AttnOutGradIdeal.Value
public import proofs.«01_k».proof.Proof.Gen.AttnOutGradReferenceIdeal
public import proofs.«01_k».proof.Proof.Gen.AttnOutGradReferenceIdeal.Run
public import proofs.«01_k».proof.Proof.Gen.AttnOutGradReferenceIdeal.Read
public import proofs.«01_k».proof.Proof.Gen.AttnOutGrad.Frame
public import Idealize.ShloMosaic.Lib.Pointwise
public import Idealize.ShloMosaic.Lib.Pipeline.ValueKit
public import Idealize.ShloMosaic.Lib.StableHlo.ReadAt

@[expose] public section

set_option maxRecDepth 16384

noncomputable section

/-! ## The kernel -/

namespace Cert.AttnOutGradIdeal.Product

open Cert.AttnOutGradIdeal Cert.AttnOutGradIdeal.Gen Idealize.ShloMosaic Idealize.ShloMosaic.TcCoe Idealize.SL.Sem

/-- The result at row `i` and column `j`: the sum over the contracted axis. -/
def product (A : S2048x2048.Idx → EReal) (B : S2048x2048.Idx → EReal) (i : Fin 2048) (j : Fin 2048) : EReal :=
  ∑ k : Fin 2048, A (ix2 i k) * B (ix2 j k)

/-- What one grid point computes of its two blocks. -/
theorem k0_pay1_apply (x : Vec Ideal S1024x2048 .bf16) (y : Vec Ideal S1024x2048 .bf16) (i : Fin 1024) (j : Fin 1024) :
    k0_pay1 x y (ix2 i j) = ∑ k : Fin 2048, x (ix2 i k) * y (ix2 j k) := by
  unfold k0_pay1
  pointwise

/-- The one covering store leaves the payload of the two whole loads. -/
theorem out2_eq (x : Vec Ideal S1024x2048 .bf16) (y : Vec Ideal S1024x2048 .bf16) : out0_2 x y = k0_pay1 x y := by
  have hz : (![0, 0] : Fin 2 → ℕ) = fun _ => 0 := funext fun a => by fin_cases a <;> rfl
  unfold out0_2
  rw [View.canon_unit_zero hz, View.ld_unit_zero hz, View.ld_unit_zero hz]

theorem index0 : ∀ t : Fin cfg0.N, win0_0.index t = ![t.val / 2, 0] := by decide +kernel
theorem index1 : ∀ t : Fin cfg0.N, win0_1.index t = ![t.val % 2, 0] := by decide +kernel
theorem index2 : ∀ t : Fin cfg0.N, win0_2.index t = ![t.val / 2, t.val % 2] := by decide +kernel

variable (m : (ℓ : Loc nD τ sig) → Buf (Elt Ideal) ℓ) (c : Dev nD)

/-- Row `i` of the block of rows of a grid point, in the whole array. -/
def rowOf (t : Fin cfg0.N) (i : Fin 1024) : Fin 2048 := ⟨t.val / 2 * 1024 + i.val, by have := t.isLt; have e : cfg0.N = 4 := N_0; omega⟩

/-- Column `j` of its block of columns. -/
def colOf (t : Fin cfg0.N) (j : Fin 1024) : Fin 2048 := ⟨t.val % 2 * 1024 + j.val, by omega⟩

theorem left (i : S2048x2048.Idx) : V m c main_v0 i = m ((c : Thread nD τ).loc main_arg0) i := by
  unfold V
  after_reads_at

theorem right (i : S2048x2048.Idx) : V m c main_v1 i = m ((c : Thread nD τ).loc main_arg1) i := by
  unfold V
  after_reads_at

theorem block0 (t : Fin cfg0.N) (i : Fin 1024) (k : Fin 2048) : iblk m c 0 t (ix2 i k) = m ((c : Thread nD τ).loc main_arg0) (ix2 (rowOf t i) k) := by
  refine Eq.trans ?_ (left m c _)
  blk_ext [iblk, index0 t] <;> simp [index0 t, rowOf]

theorem block1 (t : Fin cfg0.N) (j : Fin 1024) (k : Fin 2048) : iblk m c 1 t (ix2 j k) = m ((c : Thread nD τ).loc main_arg1) (ix2 (colOf t j) k) := by
  refine Eq.trans ?_ (right m c _)
  blk_ext [iblk, index1 t] <;> simp [index1 t, colOf]

/-- The array after the run is the product of the two arguments. -/
theorem array2 : (dats m 0 c).arrAt 2 cfg0.N = fun y => product (m ((c : Thread nD τ).loc main_arg0)) (m ((c : Thread nD τ).loc main_arg1)) (y 0) (y 1) := by
  refine (dats m 0 c).arrAt_eq_of_covers 2 _ (by decide +kernel) fun t hf y => ?_
  rw [after0_2, out2_eq]
  obtain ⟨i, j, rfl⟩ : ∃ (i : Fin 1024) (j : Fin 1024), y = ix2 i j := ⟨y 0, y 1, eq_ix2 y⟩
  have e : (win0_2.blk t).view.emb (ix2 i j) = ix2 (rowOf t i) (colOf t j) := by
    blk_ext [index2 t] <;> simp [index2 t, rowOf, colOf]
  refine (k0_pay1_apply _ _ i j).trans ?_
  blk_simp
  rw [e]
  exact Finset.sum_congr rfl fun k _ => congrArg₂ _ (block0 m c t i k) (block1 m c t j k)

end Cert.AttnOutGradIdeal.Product

/-! ## The reference -/

namespace Cert.AttnOutGradReferenceIdeal.Product

open Cert.AttnOutGradReferenceIdeal Cert.AttnOutGradReferenceIdeal.Gen Cert.AttnOutGradReferenceIdeal.Read Idealize.ShloMosaic Idealize.ShloMosaic.TcCoe Idealize.SL.Sem

theorem main_v4_product (A : (⟨S2048x2048, .f32⟩ : BufTy).Contents (Elt Ideal)) (B : (⟨S2048x2048, .f32⟩ : BufTy).Contents (Elt Ideal)) : val_main_v4 (F := Ideal) A B = fun y => Cert.AttnOutGradIdeal.Product.product A B (y 0) (y 1) := by
  funext y
  obtain ⟨i, j, rfl⟩ : ∃ (i : Fin 2048) (j : Fin 2048), y = ix2 i j := ⟨y 0, y 1, eq_ix2 y⟩
  rw [val_main_v4_apply]
  show val_main_v3 (F := Ideal) A B _ = _
  rw [val_main_v3_apply]
  rw [val_main_v2_apply]
  unfold Cert.AttnOutGradIdeal.Product.product
  refine Finset.sum_congr rfl fun k _ => ?_
  rw [mul_comm]
  exact congrArg₂ _ (congrArg A (funext fun a => by fin_cases a <;> rfl)) (congrArg B (funext fun a => by fin_cases a <;> rfl))

end Cert.AttnOutGradReferenceIdeal.Product

/-! ## The claims -/

namespace Cert.Proof.AttnOutGrad

open Idealize.ShloMosaic Idealize.ShloMosaic.TcCoe Idealize.SL.Sem

/-- The reference runs, leaves its arguments as they were, and declares no semaphore. -/
theorem frame_reference : Cert.quiescent_AttnOutGradReferenceIdeal := by
  intro m ρ _
  exact (θ_run Cert.AttnOutGradReferenceIdeal.defs _ _).mono (fun r h => ⟨fun c => (h c).2,
      Idealize.ShloMosaic.sem_eq_zero_of_no_sems (by decide) r.2⟩)
    (Cert.AttnOutGradReferenceIdeal.Value.run (F := Ideal) m ρ)

/-- The kernel and the reference compute the same product, of any arguments. -/
theorem algebraic : Cert.algebraic_AttnOutGradIdeal_AttnOutGradReferenceIdeal := by
  intro m ρ m' ρ' _ agree
  refine ⟨fun c y => Cert.AttnOutGradIdeal.Product.product (m ((c.tc : Thread Cert.AttnOutGradIdeal.nD Cert.AttnOutGradIdeal.τ).loc Cert.AttnOutGradIdeal.main_arg0)) (m ((c.tc : Thread Cert.AttnOutGradIdeal.nD Cert.AttnOutGradIdeal.τ).loc Cert.AttnOutGradIdeal.main_arg1)) (y 0) (y 1), ?_, ?_⟩
  · exact (θ_run Cert.AttnOutGradIdeal.defs _ _).mono (fun _ h c => ⟨(h c).1.trans (Cert.AttnOutGradIdeal.Product.array2 m c), (h c).2⟩)
      (Cert.AttnOutGradIdeal.Value.run_blocks m ρ)
  · exact (θ_run Cert.AttnOutGradReferenceIdeal.defs _ _).mono (fun _ h c => ⟨(h c).1.trans ((Cert.AttnOutGradReferenceIdeal.Read.val_main_v4_eq _ _).trans ((Cert.AttnOutGradReferenceIdeal.Product.main_v4_product _ _).trans (by rw [(agree c).1, (agree c).2]; rfl))), (h c).2⟩)
      (Cert.AttnOutGradReferenceIdeal.Value.run (F := Ideal) m' ρ')

end Cert.Proof.AttnOutGrad

end
-- ==== Proof.RnnOutGrad.lean ====
/-
  The gradient into the RG-LRU's output, `dyr · w_rnn_projᵀ`: a block of the result is the product of a block of rows by a block of columns over the
  whole contracted axis, so the array is the product of the two arguments; and the reference's gradient is the same sum.
-/
module

public import proofs.«01_k».proof.Defs
public import proofs.«01_k».proof.Proof.Gen.RnnOutGradIdeal.Value
public import proofs.«01_k».proof.Proof.Gen.RnnOutGradReferenceIdeal
public import proofs.«01_k».proof.Proof.Gen.RnnOutGradReferenceIdeal.Run
public import proofs.«01_k».proof.Proof.Gen.RnnOutGradReferenceIdeal.Read
public import proofs.«01_k».proof.Proof.Gen.RnnOutGrad.Frame
public import Idealize.ShloMosaic.Lib.Pointwise
public import Idealize.ShloMosaic.Lib.Pipeline.ValueKit
public import Idealize.ShloMosaic.Lib.StableHlo.ReadAt

@[expose] public section

set_option maxRecDepth 16384

noncomputable section

/-! ## The kernel -/

namespace Cert.RnnOutGradIdeal.Product

open Cert.RnnOutGradIdeal Cert.RnnOutGradIdeal.Gen Idealize.ShloMosaic Idealize.ShloMosaic.TcCoe Idealize.SL.Sem

/-- The result at row `i` and column `j`: the sum over the contracted axis. -/
def product (A : S2048x2048.Idx → EReal) (B : S2560x2048.Idx → EReal) (i : Fin 2048) (j : Fin 2560) : EReal :=
  ∑ k : Fin 2048, A (ix2 i k) * B (ix2 j k)

/-- What one grid point computes of its two blocks. -/
theorem k0_pay1_apply (x : Vec Ideal S1024x2048 .bf16) (y : Vec Ideal S1280x2048 .bf16) (i : Fin 1024) (j : Fin 1280) :
    k0_pay1 x y (ix2 i j) = ∑ k : Fin 2048, x (ix2 i k) * y (ix2 j k) := by
  unfold k0_pay1
  pointwise

/-- The one covering store leaves the payload of the two whole loads. -/
theorem out2_eq (x : Vec Ideal S1024x2048 .bf16) (y : Vec Ideal S1280x2048 .bf16) : out0_2 x y = k0_pay1 x y := by
  have hz : (![0, 0] : Fin 2 → ℕ) = fun _ => 0 := funext fun a => by fin_cases a <;> rfl
  unfold out0_2
  rw [View.canon_unit_zero hz, View.ld_unit_zero hz, View.ld_unit_zero hz]

theorem index0 : ∀ t : Fin cfg0.N, win0_0.index t = ![t.val / 2, 0] := by decide +kernel
theorem index1 : ∀ t : Fin cfg0.N, win0_1.index t = ![t.val % 2, 0] := by decide +kernel
theorem index2 : ∀ t : Fin cfg0.N, win0_2.index t = ![t.val / 2, t.val % 2] := by decide +kernel

variable (m : (ℓ : Loc nD τ sig) → Buf (Elt Ideal) ℓ) (c : Dev nD)

/-- Row `i` of the block of rows of a grid point, in the whole array. -/
def rowOf (t : Fin cfg0.N) (i : Fin 1024) : Fin 2048 := ⟨t.val / 2 * 1024 + i.val, by have := t.isLt; have e : cfg0.N = 4 := N_0; omega⟩

/-- Column `j` of its block of columns. -/
def colOf (t : Fin cfg0.N) (j : Fin 1280) : Fin 2560 := ⟨t.val % 2 * 1280 + j.val, by omega⟩

theorem left (i : S2048x2048.Idx) : V m c main_v0 i = m ((c : Thread nD τ).loc main_arg1) i := by
  unfold V
  after_reads_at

theorem right (i : S2560x2048.Idx) : V m c main_v1 i = m ((c : Thread nD τ).loc main_arg0) i := by
  unfold V
  after_reads_at

theorem block0 (t : Fin cfg0.N) (i : Fin 1024) (k : Fin 2048) : iblk m c 0 t (ix2 i k) = m ((c : Thread nD τ).loc main_arg1) (ix2 (rowOf t i) k) := by
  refine Eq.trans ?_ (left m c _)
  blk_ext [iblk, index0 t] <;> simp [index0 t, rowOf]

theorem block1 (t : Fin cfg0.N) (j : Fin 1280) (k : Fin 2048) : iblk m c 1 t (ix2 j k) = m ((c : Thread nD τ).loc main_arg0) (ix2 (colOf t j) k) := by
  refine Eq.trans ?_ (right m c _)
  blk_ext [iblk, index1 t] <;> simp [index1 t, colOf]

/-- The array after the run is the product of the two arguments. -/
theorem array2 : (dats m 0 c).arrAt 2 cfg0.N = fun y => product (m ((c : Thread nD τ).loc main_arg1)) (m ((c : Thread nD τ).loc main_arg0)) (y 0) (y 1) := by
  refine (dats m 0 c).arrAt_eq_of_covers 2 _ (by decide +kernel) fun t hf y => ?_
  rw [after0_2, out2_eq]
  obtain ⟨i, j, rfl⟩ : ∃ (i : Fin 1024) (j : Fin 1280), y = ix2 i j := ⟨y 0, y 1, eq_ix2 y⟩
  have e : (win0_2.blk t).view.emb (ix2 i j) = ix2 (rowOf t i) (colOf t j) := by
    blk_ext [index2 t] <;> simp [index2 t, rowOf, colOf]
  refine (k0_pay1_apply _ _ i j).trans ?_
  blk_simp
  rw [e]
  exact Finset.sum_congr rfl fun k _ => congrArg₂ _ (block0 m c t i k) (block1 m c t j k)

end Cert.RnnOutGradIdeal.Product

/-! ## The reference -/

namespace Cert.RnnOutGradReferenceIdeal.Product

open Cert.RnnOutGradReferenceIdeal Cert.RnnOutGradReferenceIdeal.Gen Cert.RnnOutGradReferenceIdeal.Read Idealize.ShloMosaic Idealize.ShloMosaic.TcCoe Idealize.SL.Sem

theorem main_v2_product (B : (⟨S2560x2048, .f32⟩ : BufTy).Contents (Elt Ideal)) (A : (⟨S2048x2048, .f32⟩ : BufTy).Contents (Elt Ideal)) : val_main_v2 (F := Ideal) B A = fun y => Cert.RnnOutGradIdeal.Product.product A B (y 0) (y 1) := by
  funext y
  obtain ⟨i, j, rfl⟩ : ∃ (i : Fin 2048) (j : Fin 2560), y = ix2 i j := ⟨y 0, y 1, eq_ix2 y⟩
  rw [val_main_v2_apply]
  unfold Cert.RnnOutGradIdeal.Product.product
  refine Finset.sum_congr rfl fun k _ => ?_
  exact congrArg₂ _ (congrArg A (funext fun a => by fin_cases a <;> rfl)) (congrArg B (funext fun a => by fin_cases a <;> rfl))

end Cert.RnnOutGradReferenceIdeal.Product

/-! ## The claims -/

namespace Cert.Proof.RnnOutGrad

open Idealize.ShloMosaic Idealize.ShloMosaic.TcCoe Idealize.SL.Sem

/-- The reference runs, leaves its arguments as they were, and declares no semaphore. -/
theorem frame_reference : Cert.quiescent_RnnOutGradReferenceIdeal := by
  intro m ρ _
  exact (θ_run Cert.RnnOutGradReferenceIdeal.defs _ _).mono (fun r h => ⟨fun c => (h c).2,
      Idealize.ShloMosaic.sem_eq_zero_of_no_sems (by decide) r.2⟩)
    (Cert.RnnOutGradReferenceIdeal.Value.run (F := Ideal) m ρ)

/-- The kernel and the reference compute the same product, of any arguments. -/
theorem algebraic : Cert.algebraic_RnnOutGradIdeal_RnnOutGradReferenceIdeal := by
  intro m ρ m' ρ' _ agree
  refine ⟨fun c y => Cert.RnnOutGradIdeal.Product.product (m ((c.tc : Thread Cert.RnnOutGradIdeal.nD Cert.RnnOutGradIdeal.τ).loc Cert.RnnOutGradIdeal.main_arg1)) (m ((c.tc : Thread Cert.RnnOutGradIdeal.nD Cert.RnnOutGradIdeal.τ).loc Cert.RnnOutGradIdeal.main_arg0)) (y 0) (y 1), ?_, ?_⟩
  · exact (θ_run Cert.RnnOutGradIdeal.defs _ _).mono (fun _ h c => ⟨(h c).1.trans (Cert.RnnOutGradIdeal.Product.array2 m c), (h c).2⟩)
      (Cert.RnnOutGradIdeal.Value.run_blocks m ρ)
  · exact (θ_run Cert.RnnOutGradReferenceIdeal.defs _ _).mono (fun _ h c => ⟨(h c).1.trans ((Cert.RnnOutGradReferenceIdeal.Read.val_main_v2_eq _ _).trans ((Cert.RnnOutGradReferenceIdeal.Product.main_v2_product _ _).trans (by rw [(agree c).1, (agree c).2]; rfl))), (h c).2⟩)
      (Cert.RnnOutGradReferenceIdeal.Value.run (F := Ideal) m' ρ')

end Cert.Proof.RnnOutGrad

end
-- ==== Proof.GateWGrad.lean ====
/-
  The gradient of the RG-LRU's block-diagonal gate weights: a grid point takes four neighbouring blocks at once, so it
  computes the product of a group of 640 channels by a group of 640; the host code then cuts out the four diagonal blocks
  of each group. What is cut out is, block by block, the sum over the positions that the reference states.
-/
module

public import proofs.«01_k».proof.Defs
public import proofs.«01_k».proof.Proof.Gen.GateWGradIdeal.Frame
public import proofs.«01_k».proof.Proof.Gen.GateWGradReferenceIdeal
public import proofs.«01_k».proof.Proof.Gen.GateWGradReferenceIdeal.Run
public import proofs.«01_k».proof.Proof.Gen.GateWGradReferenceIdeal.Read
public import proofs.«01_k».proof.Proof.Gen.GateWGrad.Frame
public import Idealize.ShloMosaic.Lib.Pointwise
public import Idealize.ShloMosaic.Lib.Pipeline.ValueKit
public import Idealize.ShloMosaic.Lib.StableHlo.ReadAt

@[expose] public section

set_option maxRecDepth 16384

noncomputable section

/-! ## The kernel -/

namespace Cert.GateWGradIdeal.Product

open Cert.GateWGradIdeal Cert.GateWGradIdeal.Gen Idealize.ShloMosaic Idealize.ShloMosaic.TcCoe Idealize.SL.Sem

/-- The gradient of gate block `n` at row `p` and column `q`: the sum over the positions. -/
def blockGrad (X D : S2048x2560.Idx → EReal) (n : Fin 16) (p q : Fin 160) : EReal :=
  ∑ s : Fin 2048, X (ix2 s (⟨n.val * 160 + p.val, by omega⟩ : Fin 2560)) * D (ix2 s (⟨n.val * 160 + q.val, by omega⟩ : Fin 2560))

/-- Channel `a` of group `g`. -/
def chan (g : Fin 4) (a : Fin 640) : Fin 2560 := ⟨g.val * 640 + a.val, by omega⟩

/-- The product of group `g` by itself: what one grid point computes. -/
def groupGrad (X D : S2048x2560.Idx → EReal) (g : Fin 4) (a b : Fin 640) : EReal :=
  ∑ s : Fin 2048, X (ix2 s (chan g a)) * D (ix2 s (chan g b))

theorem k0_pay2_apply (x : Vec Ideal S2048x640 .f32) (y : Vec Ideal S2048x640 .bf16) (a b : Fin 640) :
    k0_pay2 x y (ix3 (0 : Fin 1) a b) = ∑ s : Fin 2048, x (ix2 s a) * y (ix2 s b) := by
  unfold k0_pay2 k0_pay1
  pointwise

/-- The one covering store leaves the payload of the two whole loads. -/
theorem out3_eq (x : Vec Ideal S2048x640 .f32) (y z : Vec Ideal S2048x640 .bf16) : out0_3 x y z = k0_pay2 x y := by
  have hz : (![0, 0] : Fin 2 → ℕ) = fun _ => 0 := funext fun a => by fin_cases a <;> rfl
  have hz3 : (![0, 0, 0] : Fin 3 → ℕ) = fun _ => 0 := funext fun a => by fin_cases a <;> rfl
  unfold out0_3
  rw [View.canon_unit_zero hz3, View.ld_unit_zero hz, View.ld_unit_zero hz]

theorem k0_pay3_apply (x : Vec Ideal S2048x640 .f32) (y : Vec Ideal S2048x640 .bf16) (a b : Fin 640) :
    k0_pay3 x y (ix3 (0 : Fin 1) a b) = ∑ s : Fin 2048, x (ix2 s a) * y (ix2 s b) := by
  unfold k0_pay3 k0_pay1
  pointwise

/-- The one covering store leaves the payload of the two whole loads. -/
theorem out4_eq (x : Vec Ideal S2048x640 .f32) (y z : Vec Ideal S2048x640 .bf16) : out0_4 x y z = k0_pay3 x z := by
  have hz : (![0, 0] : Fin 2 → ℕ) = fun _ => 0 := funext fun a => by fin_cases a <;> rfl
  have hz3 : (![0, 0, 0] : Fin 3 → ℕ) = fun _ => 0 := funext fun a => by fin_cases a <;> rfl
  unfold out0_4
  rw [View.canon_unit_zero hz3, View.ld_unit_zero hz, View.ld_unit_zero hz]

theorem index0 : ∀ t : Fin cfg0.N, win0_0.index t = ![0, t.val] := by decide +kernel
theorem index1 : ∀ t : Fin cfg0.N, win0_1.index t = ![0, t.val] := by decide +kernel
theorem index2 : ∀ t : Fin cfg0.N, win0_2.index t = ![0, t.val] := by decide +kernel
theorem index3 : ∀ t : Fin cfg0.N, win0_3.index t = ![t.val, 0, 0] := by decide +kernel
theorem index4 : ∀ t : Fin cfg0.N, win0_4.index t = ![t.val, 0, 0] := by decide +kernel

variable (m : (ℓ : Loc nD τ sig) → Buf (Elt Ideal) ℓ) (c : Dev nD)

/-- The group of a grid point. -/
def groupOf (t : Fin cfg0.N) : Fin 4 := ⟨t.val, by have := t.isLt; have e : cfg0.N = 4 := N_0; omega⟩

theorem entry0 (i : S2048x2560.Idx) : V m c main_arg0 i = m ((c : Thread nD τ).loc main_arg0) i := by
  unfold V
  after_reads_at

theorem block0 (t : Fin cfg0.N) (s : Fin 2048) (a : Fin 640) : iblk m c 0 t (ix2 s a) = m ((c : Thread nD τ).loc main_arg0) (ix2 s (chan (groupOf t) a)) := by
  refine Eq.trans ?_ (entry0 m c _)
  blk_ext [iblk, index0 t] <;> simp [index0 t, chan, groupOf]

theorem entry1 (i : S2048x2560.Idx) : V m c main_v0 i = m ((c : Thread nD τ).loc main_arg1) i := by
  unfold V
  after_reads_at

theorem block1 (t : Fin cfg0.N) (s : Fin 2048) (a : Fin 640) : iblk m c 1 t (ix2 s a) = m ((c : Thread nD τ).loc main_arg1) (ix2 s (chan (groupOf t) a)) := by
  refine Eq.trans ?_ (entry1 m c _)
  blk_ext [iblk, index1 t] <;> simp [index1 t, chan, groupOf]

theorem entry2 (i : S2048x2560.Idx) : V m c main_v1 i = m ((c : Thread nD τ).loc main_arg2) i := by
  unfold V
  after_reads_at

theorem block2 (t : Fin cfg0.N) (s : Fin 2048) (a : Fin 640) : iblk m c 2 t (ix2 s a) = m ((c : Thread nD τ).loc main_arg2) (ix2 s (chan (groupOf t) a)) := by
  refine Eq.trans ?_ (entry2 m c _)
  blk_ext [iblk, index2 t] <;> simp [index2 t, chan, groupOf]

/-- The call's result, group by group. -/
theorem array3 : (dats m 0 c).arrAt 3 cfg0.N = fun y => groupGrad (m ((c : Thread nD τ).loc main_arg0)) (m ((c : Thread nD τ).loc main_arg1)) (y 0) (y 1) (y 2) := by
  refine (dats m 0 c).arrAt_eq_of_covers 3 _ (by decide +kernel) fun t hf y => ?_
  rw [after0_3, out3_eq]
  obtain ⟨z, a, b, rfl⟩ : ∃ (z : Fin 1) (a : Fin 640) (b : Fin 640), y = ix3 z a b := ⟨y 0, y 1, y 2, eq_ix3 y⟩
  obtain rfl : z = 0 := Subsingleton.elim _ _
  have e : (win0_3.blk t).view.emb (ix3 (0 : Fin 1) a b) = ix3 (groupOf t) a b := by
    blk_ext [index3 t] <;> simp [index3 t, groupOf]
  refine (k0_pay2_apply _ _ a b).trans ?_
  blk_simp
  rw [e]
  exact Finset.sum_congr rfl fun s _ => congrArg₂ _ (block0 m c t s a) (block1 m c t s b)

/-- The call's result, group by group. -/
theorem array4 : (dats m 0 c).arrAt 4 cfg0.N = fun y => groupGrad (m ((c : Thread nD τ).loc main_arg0)) (m ((c : Thread nD τ).loc main_arg2)) (y 0) (y 1) (y 2) := by
  refine (dats m 0 c).arrAt_eq_of_covers 4 _ (by decide +kernel) fun t hf y => ?_
  rw [after0_4, out4_eq]
  obtain ⟨z, a, b, rfl⟩ : ∃ (z : Fin 1) (a : Fin 640) (b : Fin 640), y = ix3 z a b := ⟨y 0, y 1, y 2, eq_ix3 y⟩
  obtain rfl : z = 0 := Subsingleton.elim _ _
  have e : (win0_4.blk t).view.emb (ix3 (0 : Fin 1) a b) = ix3 (groupOf t) a b := by
    blk_ext [index4 t] <;> simp [index4 t, groupOf]
  refine (k0_pay3_apply _ _ a b).trans ?_
  blk_simp
  rw [e]
  exact Finset.sum_congr rfl fun s _ => congrArg₂ _ (block0 m c t s a) (block2 m c t s b)

/-! ### The host code after the call -/

set_option maxHeartbeats 4000000 in
/-- It cuts out the diagonal blocks: block `n` lies in group `n / 4`, at place `n % 4` of its diagonal. -/
theorem tail0 (W : Valuation τ sig (Elt Ideal)) (n : Fin 16) (p q : Fin 160) :
    StableHlo.after hostOps1 W (Proc.devRef .tc main_v51) (ix3 n p q) = W (Proc.devRef .tc main_v2_0)
      (ix3 (⟨n.val / 4, by omega⟩ : Fin 4) (⟨n.val % 4 * 160 + p.val, by omega⟩ : Fin 640) (⟨n.val % 4 * 160 + q.val, by omega⟩ : Fin 640)) := by
  unfold hostOps1
  fin_cases n <;> dsimp only <;> (after_reads_at; after_reads_at)

set_option maxHeartbeats 4000000 in
/-- It cuts out the diagonal blocks: block `n` lies in group `n / 4`, at place `n % 4` of its diagonal. -/
theorem tail1 (W : Valuation τ sig (Elt Ideal)) (n : Fin 16) (p q : Fin 160) :
    StableHlo.after hostOps1 W (Proc.devRef .tc main_v100) (ix3 n p q) = W (Proc.devRef .tc main_v2_1)
      (ix3 (⟨n.val / 4, by omega⟩ : Fin 4) (⟨n.val % 4 * 160 + p.val, by omega⟩ : Fin 640) (⟨n.val % 4 * 160 + q.val, by omega⟩ : Fin 640)) := by
  unfold hostOps1
  fin_cases n <;> dsimp only <;> (after_reads_at; after_reads_at)

theorem distinct : Function.Injective (Pipeline.arrRef spec0) := by decide

/-- The diagonal block of a group's product is the block's gradient. -/
theorem cut (X D : S2048x2560.Idx → EReal) (n : Fin 16) (p q : Fin 160) :
    groupGrad X D ⟨n.val / 4, by omega⟩ ⟨n.val % 4 * 160 + p.val, by omega⟩ ⟨n.val % 4 * 160 + q.val, by omega⟩ = blockGrad X D n p q := by
  unfold groupGrad blockGrad
  have e (r : Fin 160) : chan ⟨n.val / 4, by omega⟩ ⟨n.val % 4 * 160 + r.val, by omega⟩ = ⟨n.val * 160 + r.val, by omega⟩ :=
    Fin.ext (by simp only [chan]; omega)
  rw [e p, e q]

theorem result0 : Pipeline.afterTail₀ cfgs (dats m) 0 (V0 m) [hostOps1] c main_v51
    = fun y => blockGrad (m ((c : Thread nD τ).loc main_arg0)) (m ((c : Thread nD τ).loc main_arg1)) (y 0) (y 1) (y 2) := by
  funext y
  obtain ⟨n, p, q, rfl⟩ : ∃ (n : Fin 16) (p : Fin 160) (q : Fin 160), y = ix3 n p q := ⟨y 0, y 1, y 2, eq_ix3 y⟩
  unfold Pipeline.afterTail₀
  rw [List.flatten_cons, List.flatten_nil, List.append_nil]
  refine (tail0 _ n p q).trans ?_
  refine (congrFun (Pipeline.withArrays_arr spec0 distinct c (V0 m c) (fun w => (dats m 0 c).arrAt w cfg0.N) 3) _).trans ?_
  rw [array3]
  exact cut _ _ n p q

theorem result1 : Pipeline.afterTail₀ cfgs (dats m) 0 (V0 m) [hostOps1] c main_v100
    = fun y => blockGrad (m ((c : Thread nD τ).loc main_arg0)) (m ((c : Thread nD τ).loc main_arg2)) (y 0) (y 1) (y 2) := by
  funext y
  obtain ⟨n, p, q, rfl⟩ : ∃ (n : Fin 16) (p : Fin 160) (q : Fin 160), y = ix3 n p q := ⟨y 0, y 1, y 2, eq_ix3 y⟩
  unfold Pipeline.afterTail₀
  rw [List.flatten_cons, List.flatten_nil, List.append_nil]
  refine (tail1 _ n p q).trans ?_
  refine (congrFun (Pipeline.withArrays_arr spec0 distinct c (V0 m c) (fun w => (dats m 0 c).arrAt w cfg0.N) 4) _).trans ?_
  rw [array4]
  exact cut _ _ n p q

theorem run (ρ : Dev nD → PrngReg) : θ_run defs (onTc (τ := τ) (main (F := Ideal))) ⟨m, fun _ => 0, ρ⟩ fun r => ∀ c : Dev nD,
    r.2.mem ((c : Thread nD τ).loc main_v51) = (fun y => blockGrad (m ((c : Thread nD τ).loc main_arg0)) (m ((c : Thread nD τ).loc main_arg1)) (y 0) (y 1) (y 2))
    ∧ r.2.mem ((c : Thread nD τ).loc main_v100) = (fun y => blockGrad (m ((c : Thread nD τ).loc main_arg0)) (m ((c : Thread nD τ).loc main_arg2)) (y 0) (y 1) (y 2))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun _ h c => ⟨
      ((h c).2 main_v51 (Pipeline.mem_restRefs_of main_v51 (by decide) (by decide))).trans (result0 m c),
      ((h c).2 main_v100 (Pipeline.mem_restRefs_of main_v100 (by decide) (by decide))).trans (result1 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.GateWGradIdeal.Product

/-! ## The reference -/

namespace Cert.GateWGradReferenceIdeal.Product

open Cert.GateWGradReferenceIdeal Cert.GateWGradReferenceIdeal.Gen Cert.GateWGradReferenceIdeal.Read Idealize.ShloMosaic Idealize.ShloMosaic.TcCoe Idealize.SL.Sem

theorem main_v8_grad (X D : (⟨S2048x2560, .f32⟩ : BufTy).Contents (Elt Ideal)) :
    val_main_v8 (F := Ideal) X D = fun y => Cert.GateWGradIdeal.Product.blockGrad X D (y 0) (y 1) (y 2) := by
  funext y
  obtain ⟨n, p, q, rfl⟩ : ∃ (n : Fin 16) (p : Fin 160) (q : Fin 160), y = ix3 n p q := ⟨y 0, y 1, y 2, eq_ix3 y⟩
  rw [val_main_v8_apply, val_main_v7_apply]
  unfold Cert.GateWGradIdeal.Product.blockGrad
  refine Finset.sum_congr rfl fun s _ => ?_
  rw [mul_comm, val_main_v6_apply, val_main_v5_apply, val_main_v1_apply]
  have hr (k : Fin 160) : ((s.val * 16 + n.val) * 160 + k.val) / 2560 = s.val := by omega
  have hc (k : Fin 160) : ((s.val * 16 + n.val) * 160 + k.val) % 2560 = n.val * 160 + k.val := by omega
  exact congrArg₂ _ (congrArg X (funext fun a => by fin_cases a; exacts [Fin.ext (hr p), Fin.ext (hc p)]))
    (congrArg D (funext fun a => by fin_cases a; exacts [Fin.ext (hr q), Fin.ext (hc q)]))

theorem main_v16_grad (X D : (⟨S2048x2560, .f32⟩ : BufTy).Contents (Elt Ideal)) :
    val_main_v16 (F := Ideal) X D = fun y => Cert.GateWGradIdeal.Product.blockGrad X D (y 0) (y 1) (y 2) := by
  funext y
  obtain ⟨n, p, q, rfl⟩ : ∃ (n : Fin 16) (p : Fin 160) (q : Fin 160), y = ix3 n p q := ⟨y 0, y 1, y 2, eq_ix3 y⟩
  rw [val_main_v16_apply, val_main_v15_apply]
  unfold Cert.GateWGradIdeal.Product.blockGrad
  refine Finset.sum_congr rfl fun s _ => ?_
  rw [mul_comm, val_main_v14_apply, val_main_v13_apply, val_main_v9_apply]
  have hr (k : Fin 160) : ((s.val * 16 + n.val) * 160 + k.val) / 2560 = s.val := by omega
  have hc (k : Fin 160) : ((s.val * 16 + n.val) * 160 + k.val) % 2560 = n.val * 160 + k.val := by omega
  exact congrArg₂ _ (congrArg X (funext fun a => by fin_cases a; exacts [Fin.ext (hr p), Fin.ext (hc p)]))
    (congrArg D (funext fun a => by fin_cases a; exacts [Fin.ext (hr q), Fin.ext (hc q)]))

end Cert.GateWGradReferenceIdeal.Product

/-! ## The claims -/

namespace Cert.Proof.GateWGrad

open Idealize.ShloMosaic Idealize.ShloMosaic.TcCoe Idealize.SL.Sem

/-- The reference runs, leaves its arguments as they were, and declares no semaphore. -/
theorem frame_reference : Cert.quiescent_GateWGradReferenceIdeal := by
  intro m ρ _
  exact (θ_run Cert.GateWGradReferenceIdeal.defs _ _).mono (fun r h => ⟨fun c => (h c).2.2,
      Idealize.ShloMosaic.sem_eq_zero_of_no_sems (by decide) r.2⟩)
    (Cert.GateWGradReferenceIdeal.Value.run (F := Ideal) m ρ)

/-- The kernel and the reference compute the same two gradients, of any arguments. -/
theorem algebraic : Cert.algebraic_GateWGradIdeal_GateWGradReferenceIdeal := by
  intro m ρ m' ρ' _ agree
  refine ⟨fun c y => Cert.GateWGradIdeal.Product.blockGrad (m ((c.tc : Thread Cert.GateWGradIdeal.nD Cert.GateWGradIdeal.τ).loc Cert.GateWGradIdeal.main_arg0)) (m ((c.tc : Thread Cert.GateWGradIdeal.nD Cert.GateWGradIdeal.τ).loc Cert.GateWGradIdeal.main_arg1)) (y 0) (y 1) (y 2),
    fun c y => Cert.GateWGradIdeal.Product.blockGrad (m ((c.tc : Thread Cert.GateWGradIdeal.nD Cert.GateWGradIdeal.τ).loc Cert.GateWGradIdeal.main_arg0)) (m ((c.tc : Thread Cert.GateWGradIdeal.nD Cert.GateWGradIdeal.τ).loc Cert.GateWGradIdeal.main_arg2)) (y 0) (y 1) (y 2), ?_, ?_⟩
  · exact Cert.GateWGradIdeal.Product.run m ρ
  · exact (θ_run Cert.GateWGradReferenceIdeal.defs _ _).mono (fun _ h c => ⟨
        (h c).1.trans ((Cert.GateWGradReferenceIdeal.Read.val_main_v8_eq _ _).trans ((Cert.GateWGradReferenceIdeal.Product.main_v8_grad _ _).trans (by rw [(agree c).1, (agree c).2.1]; rfl))),
        (h c).2.1.trans ((Cert.GateWGradReferenceIdeal.Read.val_main_v16_eq _ _).trans ((Cert.GateWGradReferenceIdeal.Product.main_v16_grad _ _).trans (by rw [(agree c).1, (agree c).2.2]; rfl))),
        (h c).2.2⟩)
      (Cert.GateWGradReferenceIdeal.Value.run (F := Ideal) m' ρ')

end Cert.Proof.GateWGrad

end
-- ==== Proof.Proj.lean ====
/-
  The layer's input projection, `x · w_in`: a block of the result is the product of a block of rows by a block of columns over the
  whole contracted axis, so the array is the product of the two arguments; and the reference computes the same sum.
-/
module

public import proofs.«01_k».proof.Defs
public import proofs.«01_k».proof.Proof.Gen.ProjIdeal.Value
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Gen.Proj.Frame
public import Idealize.ShloMosaic.Lib.Pointwise
public import Idealize.ShloMosaic.Lib.Pipeline.ValueKit
public import Idealize.ShloMosaic.Lib.StableHlo.ReadAt

@[expose] public section

set_option maxRecDepth 16384

noncomputable section

/-! ## The kernel -/

namespace Cert.ProjIdeal.Product

open Cert.ProjIdeal Cert.ProjIdeal.Gen Idealize.ShloMosaic Idealize.ShloMosaic.TcCoe Idealize.SL.Sem

/-- The result at row `i` and column `j`: the sum over the contracted axis. -/
def product (A : S2048x2048.Idx → EReal) (B : S2048x11776.Idx → EReal) (i : Fin 2048) (j : Fin 11776) : EReal :=
  ∑ k : Fin 2048, A (ix2 i k) * B (ix2 k j)

/-- What one grid point computes of its two blocks. -/
theorem k0_pay1_apply (x : Vec Ideal S2048x2048 .bf16) (y : Vec Ideal S512x2048 .bf16) (i : Fin 2048) (j : Fin 512) :
    k0_pay1 x y (ix2 i j) = ∑ k : Fin 2048, x (ix2 i k) * y (ix2 j k) := by
  unfold k0_pay1
  pointwise

/-- The one covering store leaves the payload of the two whole loads. -/
theorem out2_eq (x : Vec Ideal S2048x2048 .bf16) (y : Vec Ideal S512x2048 .bf16) : out0_2 x y = k0_pay1 x y := by
  have hz : (![0, 0] : Fin 2 → ℕ) = fun _ => 0 := funext fun a => by fin_cases a <;> rfl
  unfold out0_2
  rw [View.canon_unit_zero hz, View.ld_unit_zero hz, View.ld_unit_zero hz]

/-- What one grid point computes of its two blocks. -/
theorem k0_pay2_apply (x : Vec Ideal S2048x2048 .bf16) (y : Vec Ideal S512x2048 .bf16) (i : Fin 2048) (j : Fin 512) :
    k0_pay2 x y (ix2 i j) = ∑ k : Fin 2048, x (ix2 i k) * y (ix2 j k) := by
  unfold k0_pay2 k0_pay1
  pointwise

/-- The one covering store leaves the payload of the two whole loads. -/
theorem out3_eq (x : Vec Ideal S2048x2048 .bf16) (y : Vec Ideal S512x2048 .bf16) : out0_3 x y = k0_pay2 x y := by
  have hz : (![0, 0] : Fin 2 → ℕ) = fun _ => 0 := funext fun a => by fin_cases a <;> rfl
  unfold out0_3
  rw [View.canon_unit_zero hz, View.ld_unit_zero hz, View.ld_unit_zero hz]

theorem index0 : ∀ t : Fin cfg0.N, win0_0.index t = ![t.val / 23, 0] := by decide +kernel
theorem index1 : ∀ t : Fin cfg0.N, win0_1.index t = ![t.val % 23, 0] := by decide +kernel
theorem index2 : ∀ t : Fin cfg0.N, win0_2.index t = ![t.val / 23, t.val % 23] := by decide +kernel
theorem index3 : ∀ t : Fin cfg0.N, win0_3.index t = ![t.val / 23, t.val % 23] := by decide +kernel

variable (m : (ℓ : Loc nD τ sig) → Buf (Elt Ideal) ℓ) (c : Dev nD)

/-- Row `i` of the block of rows of a grid point, in the whole array. -/
def rowOf (t : Fin cfg0.N) (i : Fin 2048) : Fin 2048 := ⟨t.val / 23 * 2048 + i.val, by have := t.isLt; have e : cfg0.N = 23 := N_0; omega⟩

/-- Column `j` of its block of columns. -/
def colOf (t : Fin cfg0.N) (j : Fin 512) : Fin 11776 := ⟨t.val % 23 * 512 + j.val, by omega⟩

theorem left (i : Fin 2048) (k : Fin 2048) : V m c main_v0 (ix2 i k) = m ((c : Thread nD τ).loc main_arg0) (ix2 i k) := by
  unfold V
  after_reads_at

theorem right (j : Fin 11776) (k : Fin 2048) : V m c main_v2 (ix2 j k) = m ((c : Thread nD τ).loc main_arg1) (ix2 k j) := by
  unfold V
  after_reads_at

theorem block0 (t : Fin cfg0.N) (i : Fin 2048) (k : Fin 2048) : iblk m c 0 t (ix2 i k) = m ((c : Thread nD τ).loc main_arg0) (ix2 (rowOf t i) k) := by
  refine Eq.trans ?_ (left m c (rowOf t i) k)
  blk_ext [iblk, index0 t] <;> simp [index0 t, rowOf]

theorem block1 (t : Fin cfg0.N) (j : Fin 512) (k : Fin 2048) : iblk m c 1 t (ix2 j k) = m ((c : Thread nD τ).loc main_arg1) (ix2 k (colOf t j)) := by
  refine Eq.trans ?_ (right m c (colOf t j) k)
  blk_ext [iblk, index1 t] <;> simp [index1 t, colOf]

/-- The array after the run is the product of the two arguments. -/
theorem array2 : (dats m 0 c).arrAt 2 cfg0.N = fun y => product (m ((c : Thread nD τ).loc main_arg0)) (m ((c : Thread nD τ).loc main_arg1)) (y 0) (y 1) := by
  refine (dats m 0 c).arrAt_eq_of_covers 2 _ (by decide +kernel) fun t hf y => ?_
  rw [after0_2, out2_eq]
  obtain ⟨i, j, rfl⟩ : ∃ (i : Fin 2048) (j : Fin 512), y = ix2 i j := ⟨y 0, y 1, eq_ix2 y⟩
  have e : (win0_2.blk t).view.emb (ix2 i j) = ix2 (rowOf t i) (colOf t j) := by
    blk_ext [index2 t] <;> simp [index2 t, rowOf, colOf]
  refine (k0_pay1_apply _ _ i j).trans ?_
  blk_simp
  rw [e]
  exact Finset.sum_congr rfl fun k _ => congrArg₂ _ (block0 m c t i k) (block1 m c t j k)

/-- The array after the run is the product of the two arguments. -/
theorem array3 : (dats m 0 c).arrAt 3 cfg0.N = fun y => product (m ((c : Thread nD τ).loc main_arg0)) (m ((c : Thread nD τ).loc main_arg1)) (y 0) (y 1) := by
  refine (dats m 0 c).arrAt_eq_of_covers 3 _ (by decide +kernel) fun t hf y => ?_
  rw [after0_3, out3_eq]
  obtain ⟨i, j, rfl⟩ : ∃ (i : Fin 2048) (j : Fin 512), y = ix2 i j := ⟨y 0, y 1, eq_ix2 y⟩
  have e : (win0_3.blk t).view.emb (ix2 i j) = ix2 (rowOf t i) (colOf t j) := by
    blk_ext [index3 t] <;> simp [index3 t, rowOf, colOf]
  refine (k0_pay2_apply _ _ i j).trans ?_
  blk_simp
  rw [e]
  exact Finset.sum_congr rfl fun k _ => congrArg₂ _ (block0 m c t i k) (block1 m c t j k)

end Cert.ProjIdeal.Product

/-! ## The reference -/

namespace Cert.ProjReferenceIdeal.Product

open Cert.ProjReferenceIdeal Cert.ProjReferenceIdeal.Gen Cert.ProjReferenceIdeal.Read Idealize.ShloMosaic Idealize.ShloMosaic.TcCoe Idealize.SL.Sem

theorem main_v0_product (A : (⟨S2048x2048, .f32⟩ : BufTy).Contents (Elt Ideal)) (B : (⟨S2048x11776, .f32⟩ : BufTy).Contents (Elt Ideal)) : val_main_v0 (F := Ideal) A B = fun y => Cert.ProjIdeal.Product.product A B (y 0) (y 1) := by
  funext y
  obtain ⟨i, j, rfl⟩ : ∃ (i : Fin 2048) (j : Fin 11776), y = ix2 i j := ⟨y 0, y 1, eq_ix2 y⟩
  rw [val_main_v0_apply]
  unfold Cert.ProjIdeal.Product.product
  refine Finset.sum_congr rfl fun k _ => ?_
  exact congrArg₂ _ (congrArg A (funext fun a => by fin_cases a <;> rfl)) (congrArg B (funext fun a => by fin_cases a <;> rfl))

theorem main_v1_product (A : (⟨S2048x2048, .f32⟩ : BufTy).Contents (Elt Ideal)) (B : (⟨S2048x11776, .f32⟩ : BufTy).Contents (Elt Ideal)) : val_main_v1 (F := Ideal) A B = fun y => Cert.ProjIdeal.Product.product A B (y 0) (y 1) := by
  funext y
  obtain ⟨i, j, rfl⟩ : ∃ (i : Fin 2048) (j : Fin 11776), y = ix2 i j := ⟨y 0, y 1, eq_ix2 y⟩
  rw [val_main_v1_apply]
  show val_main_v0 (F := Ideal) A B _ = _
  rw [val_main_v0_apply]
  unfold Cert.ProjIdeal.Product.product
  refine Finset.sum_congr rfl fun k _ => ?_
  exact congrArg₂ _ (congrArg A (funext fun a => by fin_cases a <;> rfl)) (congrArg B (funext fun a => by fin_cases a <;> rfl))

end Cert.ProjReferenceIdeal.Product

/-! ## The claims -/

namespace Cert.Proof.Proj

open Idealize.ShloMosaic Idealize.ShloMosaic.TcCoe Idealize.SL.Sem

/-- The reference runs, leaves its arguments as they were, and declares no semaphore. -/
theorem frame_reference : Cert.quiescent_ProjReferenceIdeal := by
  intro m ρ _
  exact (θ_run Cert.ProjReferenceIdeal.defs _ _).mono (fun r h => ⟨fun c => (h c).2.2,
      Idealize.ShloMosaic.sem_eq_zero_of_no_sems (by decide) r.2⟩)
    (Cert.ProjReferenceIdeal.Value.run (F := Ideal) m ρ)

/-- The kernel and the reference compute the same product, of any arguments. -/
theorem algebraic : Cert.algebraic_ProjIdeal_ProjReferenceIdeal := by
  intro m ρ m' ρ' _ agree
  refine ⟨fun c y => Cert.ProjIdeal.Product.product (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (y 0) (y 1),
    fun c y => Cert.ProjIdeal.Product.product (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (y 0) (y 1), ?_, ?_⟩
  · exact (θ_run Cert.ProjIdeal.defs _ _).mono (fun _ h c => ⟨(h c).1.trans (Cert.ProjIdeal.Product.array2 m c), (h c).2.1.trans (Cert.ProjIdeal.Product.array3 m c), (h c).2.2⟩)
      (Cert.ProjIdeal.Value.run_blocks m ρ)
  · exact (θ_run Cert.ProjReferenceIdeal.defs _ _).mono (fun _ h c => ⟨(h c).1.trans ((Cert.ProjReferenceIdeal.Read.val_main_v0_eq _ _).trans ((Cert.ProjReferenceIdeal.Product.main_v0_product _ _).trans (by rw [(agree c).1, (agree c).2]; rfl))), (h c).2.1.trans ((Cert.ProjReferenceIdeal.Read.val_main_v1_eq _ _).trans ((Cert.ProjReferenceIdeal.Product.main_v1_product _ _).trans (by rw [(agree c).1, (agree c).2]; rfl))), (h c).2.2⟩)
      (Cert.ProjReferenceIdeal.Value.run (F := Ideal) m' ρ')

end Cert.Proof.Proj

end
-- ==== Proof.AttnOut.lean ====
/-
  The attention's projection, `o · w_attn_proj`: a block of the result is the product of a block of rows by a block of columns over the
  whole contracted axis, so the array is the product of the two arguments; and the reference computes the same sum.
-/
module

public import proofs.«01_k».proof.Defs
public import proofs.«01_k».proof.Proof.Gen.AttnOutIdeal.Value
public import proofs.«01_k».proof.Proof.Gen.AttnOutReferenceIdeal
public import proofs.«01_k».proof.Proof.Gen.AttnOutReferenceIdeal.Run
public import proofs.«01_k».proof.Proof.Gen.AttnOutReferenceIdeal.Read
public import proofs.«01_k».proof.Proof.Gen.AttnOut.Frame
public import Idealize.ShloMosaic.Lib.Pointwise
public import Idealize.ShloMosaic.Lib.Pipeline.ValueKit
public import Idealize.ShloMosaic.Lib.StableHlo.ReadAt

@[expose] public section

set_option maxRecDepth 16384

noncomputable section

/-! ## The kernel -/

namespace Cert.AttnOutIdeal.Product

open Cert.AttnOutIdeal Cert.AttnOutIdeal.Gen Idealize.ShloMosaic Idealize.ShloMosaic.TcCoe Idealize.SL.Sem

/-- The result at row `i` and column `j`: the sum over the contracted axis. -/
def product (A : S2048x2048.Idx → EReal) (B : S2048x2048.Idx → EReal) (i : Fin 2048) (j : Fin 2048) : EReal :=
  ∑ k : Fin 2048, A (ix2 i k) * B (ix2 k j)

/-- What one grid point computes of its two blocks. -/
theorem k0_pay1_apply (x : Vec Ideal S2048x1024 .bf16) (y : Vec Ideal S2048x1024 .bf16) (i : Fin 1024) (j : Fin 1024) :
    k0_pay1 x y (ix2 i j) = ∑ k : Fin 2048, x (ix2 k i) * y (ix2 k j) := by
  unfold k0_pay1
  pointwise

/-- The one covering store leaves the payload of the two whole loads. -/
theorem out2_eq (x : Vec Ideal S2048x1024 .bf16) (y : Vec Ideal S2048x1024 .bf16) : out0_2 x y = k0_pay1 x y := by
  have hz : (![0, 0] : Fin 2 → ℕ) = fun _ => 0 := funext fun a => by fin_cases a <;> rfl
  unfold out0_2
  rw [View.canon_unit_zero hz, View.ld_unit_zero hz, View.ld_unit_zero hz]

theorem index0 : ∀ t : Fin cfg0.N, win0_0.index t = ![0, t.val / 2] := by decide +kernel
theorem index1 : ∀ t : Fin cfg0.N, win0_1.index t = ![0, t.val % 2] := by decide +kernel
theorem index2 : ∀ t : Fin cfg0.N, win0_2.index t = ![t.val / 2, t.val % 2] := by decide +kernel

variable (m : (ℓ : Loc nD τ sig) → Buf (Elt Ideal) ℓ) (c : Dev nD)

/-- Row `i` of the block of rows of a grid point, in the whole array. -/
def rowOf (t : Fin cfg0.N) (i : Fin 1024) : Fin 2048 := ⟨t.val / 2 * 1024 + i.val, by have := t.isLt; have e : cfg0.N = 4 := N_0; omega⟩

/-- Column `j` of its block of columns. -/
def colOf (t : Fin cfg0.N) (j : Fin 1024) : Fin 2048 := ⟨t.val % 2 * 1024 + j.val, by omega⟩

theorem left (i : Fin 2048) (k : Fin 2048) : V m c main_v1 (ix2 k i) = m ((c : Thread nD τ).loc main_arg0) (ix2 i k) := by
  unfold V
  after_reads_at

theorem right (j : Fin 2048) (k : Fin 2048) : V m c main_v2 (ix2 k j) = m ((c : Thread nD τ).loc main_arg1) (ix2 k j) := by
  unfold V
  after_reads_at

theorem block0 (t : Fin cfg0.N) (i : Fin 1024) (k : Fin 2048) : iblk m c 0 t (ix2 k i) = m ((c : Thread nD τ).loc main_arg0) (ix2 (rowOf t i) k) := by
  refine Eq.trans ?_ (left m c (rowOf t i) k)
  blk_ext [iblk, index0 t] <;> simp [index0 t, rowOf]

theorem block1 (t : Fin cfg0.N) (j : Fin 1024) (k : Fin 2048) : iblk m c 1 t (ix2 k j) = m ((c : Thread nD τ).loc main_arg1) (ix2 k (colOf t j)) := by
  refine Eq.trans ?_ (right m c (colOf t j) k)
  blk_ext [iblk, index1 t] <;> simp [index1 t, colOf]

/-- The array after the run is the product of the two arguments. -/
theorem array2 : (dats m 0 c).arrAt 2 cfg0.N = fun y => product (m ((c : Thread nD τ).loc main_arg0)) (m ((c : Thread nD τ).loc main_arg1)) (y 0) (y 1) := by
  refine (dats m 0 c).arrAt_eq_of_covers 2 _ (by decide +kernel) fun t hf y => ?_
  rw [after0_2, out2_eq]
  obtain ⟨i, j, rfl⟩ : ∃ (i : Fin 1024) (j : Fin 1024), y = ix2 i j := ⟨y 0, y 1, eq_ix2 y⟩
  have e : (win0_2.blk t).view.emb (ix2 i j) = ix2 (rowOf t i) (colOf t j) := by
    blk_ext [index2 t] <;> simp [index2 t, rowOf, colOf]
  refine (k0_pay1_apply _ _ i j).trans ?_
  blk_simp
  rw [e]
  exact Finset.sum_congr rfl fun k _ => congrArg₂ _ (block0 m c t i k) (block1 m c t j k)

end Cert.AttnOutIdeal.Product

/-! ## The reference -/

namespace Cert.AttnOutReferenceIdeal.Product

open Cert.AttnOutReferenceIdeal Cert.AttnOutReferenceIdeal.Gen Cert.AttnOutReferenceIdeal.Read Idealize.ShloMosaic Idealize.ShloMosaic.TcCoe Idealize.SL.Sem

theorem main_v0_product (A B : (⟨S2048x2048, .f32⟩ : BufTy).Contents (Elt Ideal)) : val_main_v0 (F := Ideal) A B = fun y => Cert.AttnOutIdeal.Product.product A B (y 0) (y 1) := by
  funext y
  obtain ⟨i, j, rfl⟩ : ∃ (i : Fin 2048) (j : Fin 2048), y = ix2 i j := ⟨y 0, y 1, eq_ix2 y⟩
  rw [val_main_v0_apply]
  unfold Cert.AttnOutIdeal.Product.product
  refine Finset.sum_congr rfl fun k _ => ?_
  exact congrArg₂ _ (congrArg A (funext fun a => by fin_cases a <;> rfl)) (congrArg B (funext fun a => by fin_cases a <;> rfl))

end Cert.AttnOutReferenceIdeal.Product

/-! ## The claims -/

namespace Cert.Proof.AttnOut

open Idealize.ShloMosaic Idealize.ShloMosaic.TcCoe Idealize.SL.Sem

/-- The reference runs, leaves its arguments as they were, and declares no semaphore. -/
theorem frame_reference : Cert.quiescent_AttnOutReferenceIdeal := by
  intro m ρ _
  exact (θ_run Cert.AttnOutReferenceIdeal.defs _ _).mono (fun r h => ⟨fun c => (h c).2,
      Idealize.ShloMosaic.sem_eq_zero_of_no_sems (by decide) r.2⟩)
    (Cert.AttnOutReferenceIdeal.Value.run (F := Ideal) m ρ)

/-- The kernel and the reference compute the same product, of any arguments. -/
theorem algebraic : Cert.algebraic_AttnOutIdeal_AttnOutReferenceIdeal := by
  intro m ρ m' ρ' _ agree
  refine ⟨fun c y => Cert.AttnOutIdeal.Product.product (m ((c.tc : Thread Cert.AttnOutIdeal.nD Cert.AttnOutIdeal.τ).loc Cert.AttnOutIdeal.main_arg0)) (m ((c.tc : Thread Cert.AttnOutIdeal.nD Cert.AttnOutIdeal.τ).loc Cert.AttnOutIdeal.main_arg1)) (y 0) (y 1), ?_, ?_⟩
  · exact (θ_run Cert.AttnOutIdeal.defs _ _).mono (fun _ h c => ⟨(h c).1.trans (Cert.AttnOutIdeal.Product.array2 m c), (h c).2⟩)
      (Cert.AttnOutIdeal.Value.run_blocks m ρ)
  · exact (θ_run Cert.AttnOutReferenceIdeal.defs _ _).mono (fun _ h c => ⟨(h c).1.trans ((Cert.AttnOutReferenceIdeal.Read.val_main_v0_eq _ _).trans ((Cert.AttnOutReferenceIdeal.Product.main_v0_product _ _).trans (by rw [(agree c).1, (agree c).2]; rfl))), (h c).2⟩)
      (Cert.AttnOutReferenceIdeal.Value.run (F := Ideal) m' ρ')

end Cert.Proof.AttnOut

end
-- ==== Proof.RnnOut.lean ====
/-
  The RG-LRU's projection, `yrin · w_rnn_proj`: a block of the result is the product of a block of rows by a block of columns over the
  whole contracted axis, so the array is the product of the two arguments; and the reference computes the same sum.
-/
module

public import proofs.«01_k».proof.Defs
public import proofs.«01_k».proof.Proof.Gen.RnnOutIdeal.Value
public import proofs.«01_k».proof.Proof.Gen.RnnOutReferenceIdeal
public import proofs.«01_k».proof.Proof.Gen.RnnOutReferenceIdeal.Run
public import proofs.«01_k».proof.Proof.Gen.RnnOutReferenceIdeal.Read
public import proofs.«01_k».proof.Proof.Gen.RnnOut.Frame
public import Idealize.ShloMosaic.Lib.Pointwise
public import Idealize.ShloMosaic.Lib.Pipeline.ValueKit
public import Idealize.ShloMosaic.Lib.StableHlo.ReadAt

@[expose] public section

set_option maxRecDepth 16384

noncomputable section

/-! ## The kernel -/

namespace Cert.RnnOutIdeal.Product

open Cert.RnnOutIdeal Cert.RnnOutIdeal.Gen Idealize.ShloMosaic Idealize.ShloMosaic.TcCoe Idealize.SL.Sem

/-- The result at row `i` and column `j`: the sum over the contracted axis. -/
def product (A : S2048x2560.Idx → EReal) (B : S2560x2048.Idx → EReal) (i : Fin 2048) (j : Fin 2048) : EReal :=
  ∑ k : Fin 2560, A (ix2 i k) * B (ix2 k j)

/-- What one grid point computes of its two blocks. -/
theorem k0_pay1_apply (x : Vec Ideal S1024x2560 .bf16) (y : Vec Ideal S2560x1024 .bf16) (i : Fin 1024) (j : Fin 1024) :
    k0_pay1 x y (ix2 i j) = ∑ k : Fin 2560, x (ix2 i k) * y (ix2 k j) := by
  unfold k0_pay1
  pointwise

/-- The one covering store leaves the payload of the two whole loads. -/
theorem out2_eq (x : Vec Ideal S1024x2560 .bf16) (y : Vec Ideal S2560x1024 .bf16) : out0_2 x y = k0_pay1 x y := by
  have hz : (![0, 0] : Fin 2 → ℕ) = fun _ => 0 := funext fun a => by fin_cases a <;> rfl
  unfold out0_2
  rw [View.canon_unit_zero hz, View.ld_unit_zero hz, View.ld_unit_zero hz]

theorem index0 : ∀ t : Fin cfg0.N, win0_0.index t = ![t.val / 2, 0] := by decide +kernel
theorem index1 : ∀ t : Fin cfg0.N, win0_1.index t = ![0, t.val % 2] := by decide +kernel
theorem index2 : ∀ t : Fin cfg0.N, win0_2.index t = ![t.val / 2, t.val % 2] := by decide +kernel

variable (m : (ℓ : Loc nD τ sig) → Buf (Elt Ideal) ℓ) (c : Dev nD)

/-- Row `i` of the block of rows of a grid point, in the whole array. -/
def rowOf (t : Fin cfg0.N) (i : Fin 1024) : Fin 2048 := ⟨t.val / 2 * 1024 + i.val, by have := t.isLt; have e : cfg0.N = 4 := N_0; omega⟩

/-- Column `j` of its block of columns. -/
def colOf (t : Fin cfg0.N) (j : Fin 1024) : Fin 2048 := ⟨t.val % 2 * 1024 + j.val, by omega⟩

theorem left (i : Fin 2048) (k : Fin 2560) : V m c main_v0 (ix2 i k) = m ((c : Thread nD τ).loc main_arg0) (ix2 i k) := by
  unfold V
  after_reads_at

theorem right (j : Fin 2048) (k : Fin 2560) : V m c main_v1 (ix2 k j) = m ((c : Thread nD τ).loc main_arg1) (ix2 k j) := by
  unfold V
  after_reads_at

theorem block0 (t : Fin cfg0.N) (i : Fin 1024) (k : Fin 2560) : iblk m c 0 t (ix2 i k) = m ((c : Thread nD τ).loc main_arg0) (ix2 (rowOf t i) k) := by
  refine Eq.trans ?_ (left m c (rowOf t i) k)
  blk_ext [iblk, index0 t] <;> simp [index0 t, rowOf]

theorem block1 (t : Fin cfg0.N) (j : Fin 1024) (k : Fin 2560) : iblk m c 1 t (ix2 k j) = m ((c : Thread nD τ).loc main_arg1) (ix2 k (colOf t j)) := by
  refine Eq.trans ?_ (right m c (colOf t j) k)
  blk_ext [iblk, index1 t] <;> simp [index1 t, colOf]

/-- The array after the run is the product of the two arguments. -/
theorem array2 : (dats m 0 c).arrAt 2 cfg0.N = fun y => product (m ((c : Thread nD τ).loc main_arg0)) (m ((c : Thread nD τ).loc main_arg1)) (y 0) (y 1) := by
  refine (dats m 0 c).arrAt_eq_of_covers 2 _ (by decide +kernel) fun t hf y => ?_
  rw [after0_2, out2_eq]
  obtain ⟨i, j, rfl⟩ : ∃ (i : Fin 1024) (j : Fin 1024), y = ix2 i j := ⟨y 0, y 1, eq_ix2 y⟩
  have e : (win0_2.blk t).view.emb (ix2 i j) = ix2 (rowOf t i) (colOf t j) := by
    blk_ext [index2 t] <;> simp [index2 t, rowOf, colOf]
  refine (k0_pay1_apply _ _ i j).trans ?_
  blk_simp
  rw [e]
  exact Finset.sum_congr rfl fun k _ => congrArg₂ _ (block0 m c t i k) (block1 m c t j k)

end Cert.RnnOutIdeal.Product

/-! ## The reference -/

namespace Cert.RnnOutReferenceIdeal.Product

open Cert.RnnOutReferenceIdeal Cert.RnnOutReferenceIdeal.Gen Cert.RnnOutReferenceIdeal.Read Idealize.ShloMosaic Idealize.ShloMosaic.TcCoe Idealize.SL.Sem

theorem main_v0_product (A : (⟨S2048x2560, .f32⟩ : BufTy).Contents (Elt Ideal)) (B : (⟨S2560x2048, .f32⟩ : BufTy).Contents (Elt Ideal)) : val_main_v0 (F := Ideal) A B = fun y => Cert.RnnOutIdeal.Product.product A B (y 0) (y 1) := by
  funext y
  obtain ⟨i, j, rfl⟩ : ∃ (i : Fin 2048) (j : Fin 2048), y = ix2 i j := ⟨y 0, y 1, eq_ix2 y⟩
  rw [val_main_v0_apply]
  unfold Cert.RnnOutIdeal.Product.product
  refine Finset.sum_congr rfl fun k _ => ?_
  exact congrArg₂ _ (congrArg A (funext fun a => by fin_cases a <;> rfl)) (congrArg B (funext fun a => by fin_cases a <;> rfl))

end Cert.RnnOutReferenceIdeal.Product

/-! ## The claims -/

namespace Cert.Proof.RnnOut

open Idealize.ShloMosaic Idealize.ShloMosaic.TcCoe Idealize.SL.Sem

/-- The reference runs, leaves its arguments as they were, and declares no semaphore. -/
theorem frame_reference : Cert.quiescent_RnnOutReferenceIdeal := by
  intro m ρ _
  exact (θ_run Cert.RnnOutReferenceIdeal.defs _ _).mono (fun r h => ⟨fun c => (h c).2,
      Idealize.ShloMosaic.sem_eq_zero_of_no_sems (by decide) r.2⟩)
    (Cert.RnnOutReferenceIdeal.Value.run (F := Ideal) m ρ)

/-- The kernel and the reference compute the same product, of any arguments. -/
theorem algebraic : Cert.algebraic_RnnOutIdeal_RnnOutReferenceIdeal := by
  intro m ρ m' ρ' _ agree
  refine ⟨fun c y => Cert.RnnOutIdeal.Product.product (m ((c.tc : Thread Cert.RnnOutIdeal.nD Cert.RnnOutIdeal.τ).loc Cert.RnnOutIdeal.main_arg0)) (m ((c.tc : Thread Cert.RnnOutIdeal.nD Cert.RnnOutIdeal.τ).loc Cert.RnnOutIdeal.main_arg1)) (y 0) (y 1), ?_, ?_⟩
  · exact (θ_run Cert.RnnOutIdeal.defs _ _).mono (fun _ h c => ⟨(h c).1.trans (Cert.RnnOutIdeal.Product.array2 m c), (h c).2⟩)
      (Cert.RnnOutIdeal.Value.run_blocks m ρ)
  · exact (θ_run Cert.RnnOutReferenceIdeal.defs _ _).mono (fun _ h c => ⟨(h c).1.trans ((Cert.RnnOutReferenceIdeal.Read.val_main_v0_eq _ _).trans ((Cert.RnnOutReferenceIdeal.Product.main_v0_product _ _).trans (by rw [(agree c).1, (agree c).2]; rfl))), (h c).2⟩)
      (Cert.RnnOutReferenceIdeal.Value.run (F := Ideal) m' ρ')

end Cert.Proof.RnnOut

end
-- ==== Proof.MixOut.lean ====
/-
  The output projection, `mixin · w_out`: a block of the result is the product of a block of rows by a block of columns over the
  whole contracted axis, so the array is the product of the two arguments; and the reference computes the same sum.
-/
module

public import proofs.«01_k».proof.Defs
public import proofs.«01_k».proof.Proof.Gen.MixOutIdeal.Value
public import proofs.«01_k».proof.Proof.Gen.MixOutReferenceIdeal
public import proofs.«01_k».proof.Proof.Gen.MixOutReferenceIdeal.Run
public import proofs.«01_k».proof.Proof.Gen.MixOutReferenceIdeal.Read
public import proofs.«01_k».proof.Proof.Gen.MixOut.Frame
public import Idealize.ShloMosaic.Lib.Pointwise
public import Idealize.ShloMosaic.Lib.Pipeline.ValueKit
public import Idealize.ShloMosaic.Lib.StableHlo.ReadAt

@[expose] public section

set_option maxRecDepth 16384

noncomputable section

/-! ## The kernel -/

namespace Cert.MixOutIdeal.Product

open Cert.MixOutIdeal Cert.MixOutIdeal.Gen Idealize.ShloMosaic Idealize.ShloMosaic.TcCoe Idealize.SL.Sem

/-- The result at row `i` and column `j`: the sum over the contracted axis. -/
def product (A : S2048x2048.Idx → EReal) (B : S2048x2048.Idx → EReal) (i : Fin 2048) (j : Fin 2048) : EReal :=
  ∑ k : Fin 2048, A (ix2 i k) * B (ix2 k j)

/-- What one grid point computes of its two blocks. -/
theorem k0_pay1_apply (x : Vec Ideal S1024x2048 .bf16) (y : Vec Ideal S2048x1024 .bf16) (i : Fin 1024) (j : Fin 1024) :
    k0_pay1 x y (ix2 i j) = ∑ k : Fin 2048, x (ix2 i k) * y (ix2 k j) := by
  unfold k0_pay1
  pointwise

/-- The one covering store leaves the payload of the two whole loads. -/
theorem out2_eq (x : Vec Ideal S1024x2048 .bf16) (y : Vec Ideal S2048x1024 .bf16) : out0_2 x y = k0_pay1 x y := by
  have hz : (![0, 0] : Fin 2 → ℕ) = fun _ => 0 := funext fun a => by fin_cases a <;> rfl
  unfold out0_2
  rw [View.canon_unit_zero hz, View.ld_unit_zero hz, View.ld_unit_zero hz]

theorem index0 : ∀ t : Fin cfg0.N, win0_0.index t = ![t.val / 2, 0] := by decide +kernel
theorem index1 : ∀ t : Fin cfg0.N, win0_1.index t = ![0, t.val % 2] := by decide +kernel
theorem index2 : ∀ t : Fin cfg0.N, win0_2.index t = ![t.val / 2, t.val % 2] := by decide +kernel

variable (m : (ℓ : Loc nD τ sig) → Buf (Elt Ideal) ℓ) (c : Dev nD)

/-- Row `i` of the block of rows of a grid point, in the whole array. -/
def rowOf (t : Fin cfg0.N) (i : Fin 1024) : Fin 2048 := ⟨t.val / 2 * 1024 + i.val, by have := t.isLt; have e : cfg0.N = 4 := N_0; omega⟩

/-- Column `j` of its block of columns. -/
def colOf (t : Fin cfg0.N) (j : Fin 1024) : Fin 2048 := ⟨t.val % 2 * 1024 + j.val, by omega⟩

theorem left (i : Fin 2048) (k : Fin 2048) : V m c main_v0 (ix2 i k) = m ((c : Thread nD τ).loc main_arg0) (ix2 i k) := by
  unfold V
  after_reads_at

theorem right (j : Fin 2048) (k : Fin 2048) : V m c main_v1 (ix2 k j) = m ((c : Thread nD τ).loc main_arg1) (ix2 k j) := by
  unfold V
  after_reads_at

theorem block0 (t : Fin cfg0.N) (i : Fin 1024) (k : Fin 2048) : iblk m c 0 t (ix2 i k) = m ((c : Thread nD τ).loc main_arg0) (ix2 (rowOf t i) k) := by
  refine Eq.trans ?_ (left m c (rowOf t i) k)
  blk_ext [iblk, index0 t] <;> simp [index0 t, rowOf]

theorem block1 (t : Fin cfg0.N) (j : Fin 1024) (k : Fin 2048) : iblk m c 1 t (ix2 k j) = m ((c : Thread nD τ).loc main_arg1) (ix2 k (colOf t j)) := by
  refine Eq.trans ?_ (right m c (colOf t j) k)
  blk_ext [iblk, index1 t] <;> simp [index1 t, colOf]

/-- The array after the run is the product of the two arguments. -/
theorem array2 : (dats m 0 c).arrAt 2 cfg0.N = fun y => product (m ((c : Thread nD τ).loc main_arg0)) (m ((c : Thread nD τ).loc main_arg1)) (y 0) (y 1) := by
  refine (dats m 0 c).arrAt_eq_of_covers 2 _ (by decide +kernel) fun t hf y => ?_
  rw [after0_2, out2_eq]
  obtain ⟨i, j, rfl⟩ : ∃ (i : Fin 1024) (j : Fin 1024), y = ix2 i j := ⟨y 0, y 1, eq_ix2 y⟩
  have e : (win0_2.blk t).view.emb (ix2 i j) = ix2 (rowOf t i) (colOf t j) := by
    blk_ext [index2 t] <;> simp [index2 t, rowOf, colOf]
  refine (k0_pay1_apply _ _ i j).trans ?_
  blk_simp
  rw [e]
  exact Finset.sum_congr rfl fun k _ => congrArg₂ _ (block0 m c t i k) (block1 m c t j k)

end Cert.MixOutIdeal.Product

/-! ## The reference -/

namespace Cert.MixOutReferenceIdeal.Product

open Cert.MixOutReferenceIdeal Cert.MixOutReferenceIdeal.Gen Cert.MixOutReferenceIdeal.Read Idealize.ShloMosaic Idealize.ShloMosaic.TcCoe Idealize.SL.Sem

theorem main_v0_product (A B : (⟨S2048x2048, .f32⟩ : BufTy).Contents (Elt Ideal)) : val_main_v0 (F := Ideal) A B = fun y => Cert.MixOutIdeal.Product.product A B (y 0) (y 1) := by
  funext y
  obtain ⟨i, j, rfl⟩ : ∃ (i : Fin 2048) (j : Fin 2048), y = ix2 i j := ⟨y 0, y 1, eq_ix2 y⟩
  rw [val_main_v0_apply]
  unfold Cert.MixOutIdeal.Product.product
  refine Finset.sum_congr rfl fun k _ => ?_
  exact congrArg₂ _ (congrArg A (funext fun a => by fin_cases a <;> rfl)) (congrArg B (funext fun a => by fin_cases a <;> rfl))

end Cert.MixOutReferenceIdeal.Product

/-! ## The claims -/

namespace Cert.Proof.MixOut

open Idealize.ShloMosaic Idealize.ShloMosaic.TcCoe Idealize.SL.Sem

/-- The reference runs, leaves its arguments as they were, and declares no semaphore. -/
theorem frame_reference : Cert.quiescent_MixOutReferenceIdeal := by
  intro m ρ _
  exact (θ_run Cert.MixOutReferenceIdeal.defs _ _).mono (fun r h => ⟨fun c => (h c).2,
      Idealize.ShloMosaic.sem_eq_zero_of_no_sems (by decide) r.2⟩)
    (Cert.MixOutReferenceIdeal.Value.run (F := Ideal) m ρ)

/-- The kernel and the reference compute the same product, of any arguments. -/
theorem algebraic : Cert.algebraic_MixOutIdeal_MixOutReferenceIdeal := by
  intro m ρ m' ρ' _ agree
  refine ⟨fun c y => Cert.MixOutIdeal.Product.product (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (y 0) (y 1), ?_, ?_⟩
  · exact (θ_run Cert.MixOutIdeal.defs _ _).mono (fun _ h c => ⟨(h c).1.trans (Cert.MixOutIdeal.Product.array2 m c), (h c).2⟩)
      (Cert.MixOutIdeal.Value.run_blocks m ρ)
  · exact (θ_run Cert.MixOutReferenceIdeal.defs _ _).mono (fun _ h c => ⟨(h c).1.trans ((Cert.MixOutReferenceIdeal.Read.val_main_v0_eq _ _).trans ((Cert.MixOutReferenceIdeal.Product.main_v0_product _ _).trans (by rw [(agree c).1, (agree c).2]; rfl))), (h c).2⟩)
      (Cert.MixOutReferenceIdeal.Value.run (F := Ideal) m' ρ')

end Cert.Proof.MixOut

end
-- ==== Proof.Up.lean ====
/-
  The FFN's way up, `x1 · w_up`: a block of the result is the product of a block of rows by a block of columns over the
  whole contracted axis, so the array is the product of the two arguments; and the reference computes the same sum.
-/
module

public import proofs.«01_k».proof.Defs
public import proofs.«01_k».proof.Proof.Gen.UpIdeal.Value
public import proofs.«01_k».proof.Proof.Gen.UpReferenceIdeal
public import proofs.«01_k».proof.Proof.Gen.UpReferenceIdeal.Run
public import proofs.«01_k».proof.Proof.Gen.UpReferenceIdeal.Read
public import proofs.«01_k».proof.Proof.Gen.Up.Frame
public import Idealize.ShloMosaic.Lib.Pointwise
public import Idealize.ShloMosaic.Lib.Pipeline.ValueKit
public import Idealize.ShloMosaic.Lib.StableHlo.ReadAt

@[expose] public section

set_option maxRecDepth 16384

noncomputable section

/-! ## The kernel -/

namespace Cert.UpIdeal.Product

open Cert.UpIdeal Cert.UpIdeal.Gen Idealize.ShloMosaic Idealize.ShloMosaic.TcCoe Idealize.SL.Sem

/-- The result at row `i` and column `j`: the sum over the contracted axis. -/
def product (A : S2048x2048.Idx → EReal) (B : S2048x6144.Idx → EReal) (i : Fin 2048) (j : Fin 6144) : EReal :=
  ∑ k : Fin 2048, A (ix2 i k) * B (ix2 k j)

/-- What one grid point computes of its two blocks. -/
theorem k0_pay1_apply (x : Vec Ideal S2048x2048 .bf16) (y : Vec Ideal S1x2048x768 .bf16) (i : Fin 2048) (j : Fin 768) :
    k0_pay1 x y (ix2 i j) = ∑ k : Fin 2048, x (ix2 i k) * y (ix3 (0 : Fin 1) k j) := by
  unfold k0_pay1
  pointwise

/-- The one covering store leaves the payload of the two whole loads. -/
theorem out2_eq (x : Vec Ideal S2048x2048 .bf16) (y : Vec Ideal S1x2048x768 .bf16) : out0_2 x y = k0_pay1 x y := by
  have hz : (![0, 0] : Fin 2 → ℕ) = fun _ => 0 := funext fun a => by fin_cases a <;> rfl
  have hz3 : (![0, 0, 0] : Fin 3 → ℕ) = fun _ => 0 := funext fun a => by fin_cases a <;> rfl
  unfold out0_2
  rw [View.canon_unit_zero hz, View.ld_unit_zero hz, View.ld_unit_zero hz3]

theorem index0 : ∀ t : Fin cfg0.N, win0_0.index t = ![t.val / 8, 0] := by decide +kernel
theorem index1 : ∀ t : Fin cfg0.N, win0_1.index t = ![t.val % 8, 0, 0] := by decide +kernel
theorem index2 : ∀ t : Fin cfg0.N, win0_2.index t = ![t.val / 8, t.val % 8] := by decide +kernel

variable (m : (ℓ : Loc nD τ sig) → Buf (Elt Ideal) ℓ) (c : Dev nD)

/-- Row `i` of the block of rows of a grid point, in the whole array. -/
def rowOf (t : Fin cfg0.N) (i : Fin 2048) : Fin 2048 := ⟨t.val / 8 * 2048 + i.val, by have := t.isLt; have e : cfg0.N = 8 := N_0; omega⟩

/-- Column `j` of its block of columns. -/
def colOf (t : Fin cfg0.N) (j : Fin 768) : Fin 6144 := ⟨t.val % 8 * 768 + j.val, by omega⟩

theorem left (i : Fin 2048) (k : Fin 2048) : V m c main_v0 (ix2 i k) = m ((c : Thread nD τ).loc main_arg0) (ix2 i k) := by
  unfold V
  after_reads_at

theorem right (b : Fin 8) (k : Fin 2048) (j : Fin 768) : V m c main_v3 (ix3 b k j) = m ((c : Thread nD τ).loc main_arg1) (ix2 k ⟨b.val * 768 + j.val, by omega⟩) := by
  unfold V
  after_reads_at

theorem block0 (t : Fin cfg0.N) (i : Fin 2048) (k : Fin 2048) : iblk m c 0 t (ix2 i k) = m ((c : Thread nD τ).loc main_arg0) (ix2 (rowOf t i) k) := by
  refine Eq.trans ?_ (left m c (rowOf t i) k)
  blk_ext [iblk, index0 t] <;> simp [index0 t, rowOf]

theorem block1 (t : Fin cfg0.N) (j : Fin 768) (k : Fin 2048) : iblk m c 1 t (ix3 (0 : Fin 1) k j) = m ((c : Thread nD τ).loc main_arg1) (ix2 k (colOf t j)) := by
  refine Eq.trans ?_ (right m c ⟨t.val % 8, by omega⟩ k j)
  blk_ext [iblk, index1 t] <;> simp [index1 t, colOf]

/-- The array after the run is the product of the two arguments. -/
theorem array2 : (dats m 0 c).arrAt 2 cfg0.N = fun y => product (m ((c : Thread nD τ).loc main_arg0)) (m ((c : Thread nD τ).loc main_arg1)) (y 0) (y 1) := by
  refine (dats m 0 c).arrAt_eq_of_covers 2 _ (by decide +kernel) fun t hf y => ?_
  rw [after0_2, out2_eq]
  obtain ⟨i, j, rfl⟩ : ∃ (i : Fin 2048) (j : Fin 768), y = ix2 i j := ⟨y 0, y 1, eq_ix2 y⟩
  have e : (win0_2.blk t).view.emb (ix2 i j) = ix2 (rowOf t i) (colOf t j) := by
    blk_ext [index2 t] <;> simp [index2 t, rowOf, colOf]
  refine (k0_pay1_apply _ _ i j).trans ?_
  blk_simp
  rw [e]
  exact Finset.sum_congr rfl fun k _ => congrArg₂ _ (block0 m c t i k) (block1 m c t j k)

end Cert.UpIdeal.Product

/-! ## The reference -/

namespace Cert.UpReferenceIdeal.Product

open Cert.UpReferenceIdeal Cert.UpReferenceIdeal.Gen Cert.UpReferenceIdeal.Read Idealize.ShloMosaic Idealize.ShloMosaic.TcCoe Idealize.SL.Sem

theorem main_v0_product (A : (⟨S2048x2048, .f32⟩ : BufTy).Contents (Elt Ideal)) (B : (⟨S2048x6144, .f32⟩ : BufTy).Contents (Elt Ideal)) : val_main_v0 (F := Ideal) A B = fun y => Cert.UpIdeal.Product.product A B (y 0) (y 1) := by
  funext y
  obtain ⟨i, j, rfl⟩ : ∃ (i : Fin 2048) (j : Fin 6144), y = ix2 i j := ⟨y 0, y 1, eq_ix2 y⟩
  rw [val_main_v0_apply]
  unfold Cert.UpIdeal.Product.product
  refine Finset.sum_congr rfl fun k _ => ?_
  exact congrArg₂ _ (congrArg A (funext fun a => by fin_cases a <;> rfl)) (congrArg B (funext fun a => by fin_cases a <;> rfl))

end Cert.UpReferenceIdeal.Product

/-! ## The claims -/

namespace Cert.Proof.Up

open Idealize.ShloMosaic Idealize.ShloMosaic.TcCoe Idealize.SL.Sem

/-- The reference runs, leaves its arguments as they were, and declares no semaphore. -/
theorem frame_reference : Cert.quiescent_UpReferenceIdeal := by
  intro m ρ _
  exact (θ_run Cert.UpReferenceIdeal.defs _ _).mono (fun r h => ⟨fun c => (h c).2,
      Idealize.ShloMosaic.sem_eq_zero_of_no_sems (by decide) r.2⟩)
    (Cert.UpReferenceIdeal.Value.run (F := Ideal) m ρ)

/-- The kernel and the reference compute the same product, of any arguments. -/
theorem algebraic : Cert.algebraic_UpIdeal_UpReferenceIdeal := by
  intro m ρ m' ρ' _ agree
  refine ⟨fun c y => Cert.UpIdeal.Product.product (m ((c.tc : Thread Cert.UpIdeal.nD Cert.UpIdeal.τ).loc Cert.UpIdeal.main_arg0)) (m ((c.tc : Thread Cert.UpIdeal.nD Cert.UpIdeal.τ).loc Cert.UpIdeal.main_arg1)) (y 0) (y 1), ?_, ?_⟩
  · exact (θ_run Cert.UpIdeal.defs _ _).mono (fun _ h c => ⟨(h c).1.trans (Cert.UpIdeal.Product.array2 m c), (h c).2⟩)
      (Cert.UpIdeal.Value.run_blocks m ρ)
  · exact (θ_run Cert.UpReferenceIdeal.defs _ _).mono (fun _ h c => ⟨(h c).1.trans ((Cert.UpReferenceIdeal.Read.val_main_v0_eq _ _).trans ((Cert.UpReferenceIdeal.Product.main_v0_product _ _).trans (by rw [(agree c).1, (agree c).2]; rfl))), (h c).2⟩)
      (Cert.UpReferenceIdeal.Value.run (F := Ideal) m' ρ')

end Cert.Proof.Up

end
-- ==== Proof.FinGrad.lean ====
/-
  The gradient into the FFN's hidden layer, `dpre2 · w_downᵀ`: a block of the result is the product of a block of rows by a block of columns over the
  whole contracted axis, so the array is the product of the two arguments; and the reference computes the same sum.
-/
module

public import proofs.«01_k».proof.Defs
public import proofs.«01_k».proof.Proof.Gen.FinGradIdeal.Value
public import proofs.«01_k».proof.Proof.Gen.FinGradReferenceIdeal
public import proofs.«01_k».proof.Proof.Gen.FinGradReferenceIdeal.Run
public import proofs.«01_k».proof.Proof.Gen.FinGradReferenceIdeal.Read
public import proofs.«01_k».proof.Proof.Gen.FinGrad.Frame
public import Idealize.ShloMosaic.Lib.Pointwise
public import Idealize.ShloMosaic.Lib.Pipeline.ValueKit
public import Idealize.ShloMosaic.Lib.StableHlo.ReadAt

@[expose] public section

set_option maxRecDepth 16384

noncomputable section

/-! ## The kernel -/

namespace Cert.FinGradIdeal.Product

open Cert.FinGradIdeal Cert.FinGradIdeal.Gen Idealize.ShloMosaic Idealize.ShloMosaic.TcCoe Idealize.SL.Sem

/-- The result at row `i` and column `j`: the sum over the contracted axis. -/
def product (A : S2048x2048.Idx → EReal) (B : S6144x2048.Idx → EReal) (i : Fin 2048) (j : Fin 6144) : EReal :=
  ∑ k : Fin 2048, A (ix2 i k) * B (ix2 j k)

/-- What one grid point computes of its two blocks. -/
theorem k0_pay1_apply (x : Vec Ideal S2048x2048 .bf16) (y : Vec Ideal S512x2048 .bf16) (i : Fin 2048) (j : Fin 512) :
    k0_pay1 x y (ix2 i j) = ∑ k : Fin 2048, x (ix2 i k) * y (ix2 j k) := by
  unfold k0_pay1
  pointwise

/-- The one covering store leaves the payload of the two whole loads. -/
theorem out2_eq (x : Vec Ideal S2048x2048 .bf16) (y : Vec Ideal S512x2048 .bf16) : out0_2 x y = k0_pay1 x y := by
  have hz : (![0, 0] : Fin 2 → ℕ) = fun _ => 0 := funext fun a => by fin_cases a <;> rfl
  unfold out0_2
  rw [View.canon_unit_zero hz, View.ld_unit_zero hz, View.ld_unit_zero hz]

theorem index0 : ∀ t : Fin cfg0.N, win0_0.index t = ![t.val / 12, 0] := by decide +kernel
theorem index1 : ∀ t : Fin cfg0.N, win0_1.index t = ![t.val % 12, 0] := by decide +kernel
theorem index2 : ∀ t : Fin cfg0.N, win0_2.index t = ![t.val / 12, t.val % 12] := by decide +kernel

variable (m : (ℓ : Loc nD τ sig) → Buf (Elt Ideal) ℓ) (c : Dev nD)

/-- Row `i` of the block of rows of a grid point, in the whole array. -/
def rowOf (t : Fin cfg0.N) (i : Fin 2048) : Fin 2048 := ⟨t.val / 12 * 2048 + i.val, by have := t.isLt; have e : cfg0.N = 12 := N_0; omega⟩

/-- Column `j` of its block of columns. -/
def colOf (t : Fin cfg0.N) (j : Fin 512) : Fin 6144 := ⟨t.val % 12 * 512 + j.val, by omega⟩

theorem left (i : Fin 2048) (k : Fin 2048) : V m c main_v0 (ix2 i k) = m ((c : Thread nD τ).loc main_arg1) (ix2 i k) := by
  unfold V
  after_reads_at

theorem right (j : Fin 6144) (k : Fin 2048) : V m c main_v1 (ix2 j k) = m ((c : Thread nD τ).loc main_arg0) (ix2 j k) := by
  unfold V
  after_reads_at

theorem block0 (t : Fin cfg0.N) (i : Fin 2048) (k : Fin 2048) : iblk m c 0 t (ix2 i k) = m ((c : Thread nD τ).loc main_arg1) (ix2 (rowOf t i) k) := by
  refine Eq.trans ?_ (left m c (rowOf t i) k)
  blk_ext [iblk, index0 t] <;> simp [index0 t, rowOf]

theorem block1 (t : Fin cfg0.N) (j : Fin 512) (k : Fin 2048) : iblk m c 1 t (ix2 j k) = m ((c : Thread nD τ).loc main_arg0) (ix2 (colOf t j) k) := by
  refine Eq.trans ?_ (right m c (colOf t j) k)
  blk_ext [iblk, index1 t] <;> simp [index1 t, colOf]

/-- The array after the run is the product of the two arguments. -/
theorem array2 : (dats m 0 c).arrAt 2 cfg0.N = fun y => product (m ((c : Thread nD τ).loc main_arg1)) (m ((c : Thread nD τ).loc main_arg0)) (y 0) (y 1) := by
  refine (dats m 0 c).arrAt_eq_of_covers 2 _ (by decide +kernel) fun t hf y => ?_
  rw [after0_2, out2_eq]
  obtain ⟨i, j, rfl⟩ : ∃ (i : Fin 2048) (j : Fin 512), y = ix2 i j := ⟨y 0, y 1, eq_ix2 y⟩
  have e : (win0_2.blk t).view.emb (ix2 i j) = ix2 (rowOf t i) (colOf t j) := by
    blk_ext [index2 t] <;> simp [index2 t, rowOf, colOf]
  refine (k0_pay1_apply _ _ i j).trans ?_
  blk_simp
  rw [e]
  exact Finset.sum_congr rfl fun k _ => congrArg₂ _ (block0 m c t i k) (block1 m c t j k)

end Cert.FinGradIdeal.Product

/-! ## The reference -/

namespace Cert.FinGradReferenceIdeal.Product

open Cert.FinGradReferenceIdeal Cert.FinGradReferenceIdeal.Gen Cert.FinGradReferenceIdeal.Read Idealize.ShloMosaic Idealize.ShloMosaic.TcCoe Idealize.SL.Sem

theorem main_v2_product (B : (⟨S6144x2048, .f32⟩ : BufTy).Contents (Elt Ideal)) (A : (⟨S2048x2048, .f32⟩ : BufTy).Contents (Elt Ideal)) : val_main_v2 (F := Ideal) B A = fun y => Cert.FinGradIdeal.Product.product A B (y 0) (y 1) := by
  funext y
  obtain ⟨i, j, rfl⟩ : ∃ (i : Fin 2048) (j : Fin 6144), y = ix2 i j := ⟨y 0, y 1, eq_ix2 y⟩
  rw [val_main_v2_apply]
  unfold Cert.FinGradIdeal.Product.product
  refine Finset.sum_congr rfl fun k _ => ?_
  exact congrArg₂ _ (congrArg A (funext fun a => by fin_cases a <;> rfl)) (congrArg B (funext fun a => by fin_cases a <;> rfl))

end Cert.FinGradReferenceIdeal.Product

/-! ## The claims -/

namespace Cert.Proof.FinGrad

open Idealize.ShloMosaic Idealize.ShloMosaic.TcCoe Idealize.SL.Sem

/-- The reference runs, leaves its arguments as they were, and declares no semaphore. -/
theorem frame_reference : Cert.quiescent_FinGradReferenceIdeal := by
  intro m ρ _
  exact (θ_run Cert.FinGradReferenceIdeal.defs _ _).mono (fun r h => ⟨fun c => (h c).2,
      Idealize.ShloMosaic.sem_eq_zero_of_no_sems (by decide) r.2⟩)
    (Cert.FinGradReferenceIdeal.Value.run (F := Ideal) m ρ)

/-- The kernel and the reference compute the same product, of any arguments. -/
theorem algebraic : Cert.algebraic_FinGradIdeal_FinGradReferenceIdeal := by
  intro m ρ m' ρ' _ agree
  refine ⟨fun c y => Cert.FinGradIdeal.Product.product (m ((c.tc : Thread Cert.FinGradIdeal.nD Cert.FinGradIdeal.τ).loc Cert.FinGradIdeal.main_arg1)) (m ((c.tc : Thread Cert.FinGradIdeal.nD Cert.FinGradIdeal.τ).loc Cert.FinGradIdeal.main_arg0)) (y 0) (y 1), ?_, ?_⟩
  · exact (θ_run Cert.FinGradIdeal.defs _ _).mono (fun _ h c => ⟨(h c).1.trans (Cert.FinGradIdeal.Product.array2 m c), (h c).2⟩)
      (Cert.FinGradIdeal.Value.run_blocks m ρ)
  · exact (θ_run Cert.FinGradReferenceIdeal.defs _ _).mono (fun _ h c => ⟨(h c).1.trans ((Cert.FinGradReferenceIdeal.Read.val_main_v2_eq _ _).trans ((Cert.FinGradReferenceIdeal.Product.main_v2_product _ _).trans (by rw [(agree c).1, (agree c).2]; rfl))), (h c).2⟩)
      (Cert.FinGradReferenceIdeal.Value.run (F := Ideal) m' ρ')

end Cert.Proof.FinGrad

end
-- ==== Proof.UpGrad.lean ====
/-
  The gradient of the FFN's way up, `x1ᵀ · dup`, the columns of each device together: a block of the result is the product of a block of rows by a block of columns over the
  whole contracted axis, so the array is the product of the two arguments; and the reference computes the same sum.
-/
module

public import proofs.«01_k».proof.Defs
public import proofs.«01_k».proof.Proof.Gen.UpGradIdeal.Value
public import proofs.«01_k».proof.Proof.Gen.UpGradReferenceIdeal
public import proofs.«01_k».proof.Proof.Gen.UpGradReferenceIdeal.Run
public import proofs.«01_k».proof.Proof.Gen.UpGradReferenceIdeal.Read
public import proofs.«01_k».proof.Proof.Gen.UpGrad.Frame
public import Idealize.ShloMosaic.Lib.Pointwise
public import Idealize.ShloMosaic.Lib.Pipeline.ValueKit
public import Idealize.ShloMosaic.Lib.StableHlo.ReadAt

@[expose] public section

set_option maxRecDepth 16384

noncomputable section

/-! ## The kernel -/

namespace Cert.UpGradIdeal.Product

open Cert.UpGradIdeal Cert.UpGradIdeal.Gen Idealize.ShloMosaic Idealize.ShloMosaic.TcCoe Idealize.SL.Sem

/-- The result at row `i` and column `j`: the sum over the contracted axis. -/
def product (A : S2048x2048.Idx → EReal) (B : S2048x6144.Idx → EReal) (i : Fin 2048) (j : Fin 6144) : EReal :=
  ∑ k : Fin 2048, A (ix2 k i) * B (ix2 k j)

/-- What one grid point computes of its two blocks. -/
theorem k0_pay2_apply (x : Vec Ideal S2048x1024 .bf16) (y : Vec Ideal S2048x768 .bf16) (i : Fin 1024) (j : Fin 768) :
    k0_pay2 x y (ix3 (0 : Fin 1) i j) = ∑ k : Fin 2048, x (ix2 k i) * y (ix2 k j) := by
  unfold k0_pay2 k0_pay1
  pointwise

/-- The one covering store leaves the payload of the two whole loads. -/
theorem out2_eq (x : Vec Ideal S2048x1024 .bf16) (y : Vec Ideal S2048x768 .bf16) : out0_2 x y = k0_pay2 x y := by
  have hz : (![0, 0] : Fin 2 → ℕ) = fun _ => 0 := funext fun a => by fin_cases a <;> rfl
  have hz3 : (![0, 0, 0] : Fin 3 → ℕ) = fun _ => 0 := funext fun a => by fin_cases a <;> rfl
  unfold out0_2
  rw [View.canon_unit_zero hz3, View.ld_unit_zero hz, View.ld_unit_zero hz]

/-- What one grid point computes of its two blocks. -/
theorem k0_pay3_apply (x : Vec Ideal S2048x1024 .bf16) (y : Vec Ideal S2048x768 .bf16) (i : Fin 1024) (j : Fin 768) :
    k0_pay3 x y (ix3 (0 : Fin 1) i j) = ∑ k : Fin 2048, x (ix2 k i) * y (ix2 k j) := by
  unfold k0_pay3 k0_pay1
  pointwise

/-- The one covering store leaves the payload of the two whole loads. -/
theorem out3_eq (x : Vec Ideal S2048x1024 .bf16) (y : Vec Ideal S2048x768 .bf16) : out0_3 x y = k0_pay3 x y := by
  have hz : (![0, 0] : Fin 2 → ℕ) = fun _ => 0 := funext fun a => by fin_cases a <;> rfl
  have hz3 : (![0, 0, 0] : Fin 3 → ℕ) = fun _ => 0 := funext fun a => by fin_cases a <;> rfl
  unfold out0_3
  rw [View.canon_unit_zero hz3, View.ld_unit_zero hz, View.ld_unit_zero hz]

theorem index0 : ∀ t : Fin cfg0.N, win0_0.index t = ![0, t.val / 8] := by decide +kernel
theorem index1 : ∀ t : Fin cfg0.N, win0_1.index t = ![0, t.val % 8] := by decide +kernel
theorem index2 : ∀ t : Fin cfg0.N, win0_2.index t = ![t.val % 8, t.val / 8, 0] := by decide +kernel
theorem index3 : ∀ t : Fin cfg0.N, win0_3.index t = ![t.val % 8, t.val / 8, 0] := by decide +kernel

variable (m : (ℓ : Loc nD τ sig) → Buf (Elt Ideal) ℓ) (c : Dev nD)

/-- Row `i` of the block of rows of a grid point, in the whole array. -/
def rowOf (t : Fin cfg0.N) (i : Fin 1024) : Fin 2048 := ⟨t.val / 8 * 1024 + i.val, by have := t.isLt; have e : cfg0.N = 16 := N_0; omega⟩

/-- Column `j` of its block of columns. -/
def colOf (t : Fin cfg0.N) (j : Fin 768) : Fin 6144 := ⟨t.val % 8 * 768 + j.val, by omega⟩

theorem left (i : Fin 2048) (k : Fin 2048) : V m c main_v0 (ix2 k i) = m ((c : Thread nD τ).loc main_arg0) (ix2 k i) := by
  unfold V
  after_reads_at

theorem right (j : Fin 6144) (k : Fin 2048) : V m c main_v1 (ix2 k j) = m ((c : Thread nD τ).loc main_arg1) (ix2 k j) := by
  unfold V
  after_reads_at

theorem block0 (t : Fin cfg0.N) (i : Fin 1024) (k : Fin 2048) : iblk m c 0 t (ix2 k i) = m ((c : Thread nD τ).loc main_arg0) (ix2 k (rowOf t i)) := by
  refine Eq.trans ?_ (left m c (rowOf t i) k)
  blk_ext [iblk, index0 t] <;> simp [index0 t, rowOf]

theorem block1 (t : Fin cfg0.N) (j : Fin 768) (k : Fin 2048) : iblk m c 1 t (ix2 k j) = m ((c : Thread nD τ).loc main_arg1) (ix2 k (colOf t j)) := by
  refine Eq.trans ?_ (right m c (colOf t j) k)
  blk_ext [iblk, index1 t] <;> simp [index1 t, colOf]

/-- The product with the columns of each of the 8 groups together. -/
def grouped (A : S2048x2048.Idx → EReal) (B : S2048x6144.Idx → EReal) (y : S8x2048x768.Idx) : EReal :=
  product A B (y 1) ⟨(y 0).val * 768 + (y 2).val, by have h0 : (y 0).val < 8 := (y 0).isLt; have h2 : (y 2).val < 768 := (y 2).isLt; omega⟩

/-- The array after the run is the product of the two arguments. -/
theorem array2 : (dats m 0 c).arrAt 2 cfg0.N = fun y => grouped (m ((c : Thread nD τ).loc main_arg0)) (m ((c : Thread nD τ).loc main_arg1)) y := by
  refine (dats m 0 c).arrAt_eq_of_covers 2 _ (by decide +kernel) fun t hf y => ?_
  rw [after0_2, out2_eq]
  obtain ⟨z, i, j, rfl⟩ : ∃ (z : Fin 1) (i : Fin 1024) (j : Fin 768), y = ix3 z i j := ⟨y 0, y 1, y 2, eq_ix3 y⟩
  obtain rfl : z = 0 := Subsingleton.elim _ _
  have e : (win0_2.blk t).view.emb (ix3 (0 : Fin 1) i j) = ix3 (⟨t.val % 8, by omega⟩ : Fin 8) (rowOf t i) j := by
    blk_ext [index2 t] <;> simp [index2 t, rowOf]
  refine (k0_pay2_apply _ _ i j).trans ?_
  blk_simp
  rw [e]
  exact Finset.sum_congr rfl fun k _ => congrArg₂ _ (block0 m c t i k) (block1 m c t j k)

/-- The array after the run is the product of the two arguments. -/
theorem array3 : (dats m 0 c).arrAt 3 cfg0.N = fun y => grouped (m ((c : Thread nD τ).loc main_arg0)) (m ((c : Thread nD τ).loc main_arg1)) y := by
  refine (dats m 0 c).arrAt_eq_of_covers 3 _ (by decide +kernel) fun t hf y => ?_
  rw [after0_3, out3_eq]
  obtain ⟨z, i, j, rfl⟩ : ∃ (z : Fin 1) (i : Fin 1024) (j : Fin 768), y = ix3 z i j := ⟨y 0, y 1, y 2, eq_ix3 y⟩
  obtain rfl : z = 0 := Subsingleton.elim _ _
  have e : (win0_3.blk t).view.emb (ix3 (0 : Fin 1) i j) = ix3 (⟨t.val % 8, by omega⟩ : Fin 8) (rowOf t i) j := by
    blk_ext [index3 t] <;> simp [index3 t, rowOf]
  refine (k0_pay3_apply _ _ i j).trans ?_
  blk_simp
  rw [e]
  exact Finset.sum_congr rfl fun k _ => congrArg₂ _ (block0 m c t i k) (block1 m c t j k)

end Cert.UpGradIdeal.Product

/-! ## The reference -/

namespace Cert.UpGradReferenceIdeal.Product

open Cert.UpGradReferenceIdeal Cert.UpGradReferenceIdeal.Gen Cert.UpGradReferenceIdeal.Read Idealize.ShloMosaic Idealize.ShloMosaic.TcCoe Idealize.SL.Sem

theorem main_v6_product (A : (⟨S2048x2048, .f32⟩ : BufTy).Contents (Elt Ideal)) (B : (⟨S2048x6144, .f32⟩ : BufTy).Contents (Elt Ideal)) : val_main_v6 (F := Ideal) A B = fun y => Cert.UpGradIdeal.Product.grouped A B y := by
  funext y
  obtain ⟨b, i, j, rfl⟩ : ∃ (b : Fin 8) (i : Fin 2048) (j : Fin 768), y = ix3 b i j := ⟨y 0, y 1, y 2, eq_ix3 y⟩
  rw [val_main_v6_apply]
  rw [val_main_v5_apply]
  rw [val_main_v3_apply]
  rw [val_main_v2_apply]
  unfold Cert.UpGradIdeal.Product.grouped Cert.UpGradIdeal.Product.product
  refine Finset.sum_congr rfl fun k _ => ?_
  rw [mul_comm]
  have hb : (((i.val * 8 + b.val) * 768 + j.val) / 6144) = i.val := by omega
  have hj : (((i.val * 8 + b.val) * 768 + j.val) % 6144) = b.val * 768 + j.val := by omega
  exact congrArg₂ _ (congrArg A (funext fun a => by fin_cases a; exacts [rfl, Fin.ext hb]))
    (congrArg B (funext fun a => by fin_cases a; exacts [rfl, Fin.ext hj]))

theorem main_v7_product (A : (⟨S2048x2048, .f32⟩ : BufTy).Contents (Elt Ideal)) (B : (⟨S2048x6144, .f32⟩ : BufTy).Contents (Elt Ideal)) : val_main_v7 (F := Ideal) A B = fun y => Cert.UpGradIdeal.Product.grouped A B y := by
  funext y
  obtain ⟨b, i, j, rfl⟩ : ∃ (b : Fin 8) (i : Fin 2048) (j : Fin 768), y = ix3 b i j := ⟨y 0, y 1, y 2, eq_ix3 y⟩
  rw [val_main_v7_apply]
  show val_main_v6 (F := Ideal) A B _ = _
  rw [val_main_v6_apply]
  rw [val_main_v5_apply]
  rw [val_main_v3_apply]
  rw [val_main_v2_apply]
  unfold Cert.UpGradIdeal.Product.grouped Cert.UpGradIdeal.Product.product
  refine Finset.sum_congr rfl fun k _ => ?_
  rw [mul_comm]
  have hb : (((i.val * 8 + b.val) * 768 + j.val) / 6144) = i.val := by omega
  have hj : (((i.val * 8 + b.val) * 768 + j.val) % 6144) = b.val * 768 + j.val := by omega
  exact congrArg₂ _ (congrArg A (funext fun a => by fin_cases a; exacts [rfl, Fin.ext hb]))
    (congrArg B (funext fun a => by fin_cases a; exacts [rfl, Fin.ext hj]))

end Cert.UpGradReferenceIdeal.Product

/-! ## The claims -/

namespace Cert.Proof.UpGrad

open Idealize.ShloMosaic Idealize.ShloMosaic.TcCoe Idealize.SL.Sem

/-- The reference runs, leaves its arguments as they were, and declares no semaphore. -/
theorem frame_reference : Cert.quiescent_UpGradReferenceIdeal := by
  intro m ρ _
  exact (θ_run Cert.UpGradReferenceIdeal.defs _ _).mono (fun r h => ⟨fun c => (h c).2.2,
      Idealize.ShloMosaic.sem_eq_zero_of_no_sems (by decide) r.2⟩)
    (Cert.UpGradReferenceIdeal.Value.run (F := Ideal) m ρ)

/-- The kernel and the reference compute the same product, of any arguments. -/
theorem algebraic : Cert.algebraic_UpGradIdeal_UpGradReferenceIdeal := by
  intro m ρ m' ρ' _ agree
  refine ⟨fun c y => Cert.UpGradIdeal.Product.grouped (m ((c.tc : Thread Cert.UpGradIdeal.nD Cert.UpGradIdeal.τ).loc Cert.UpGradIdeal.main_arg0)) (m ((c.tc : Thread Cert.UpGradIdeal.nD Cert.UpGradIdeal.τ).loc Cert.UpGradIdeal.main_arg1)) y,
    fun c y => Cert.UpGradIdeal.Product.grouped (m ((c.tc : Thread Cert.UpGradIdeal.nD Cert.UpGradIdeal.τ).loc Cert.UpGradIdeal.main_arg0)) (m ((c.tc : Thread Cert.UpGradIdeal.nD Cert.UpGradIdeal.τ).loc Cert.UpGradIdeal.main_arg1)) y, ?_, ?_⟩
  · exact (θ_run Cert.UpGradIdeal.defs _ _).mono (fun _ h c => ⟨(h c).1.trans (Cert.UpGradIdeal.Product.array2 m c), (h c).2.1.trans (Cert.UpGradIdeal.Product.array3 m c), (h c).2.2⟩)
      (Cert.UpGradIdeal.Value.run_blocks m ρ)
  · exact (θ_run Cert.UpGradReferenceIdeal.defs _ _).mono (fun _ h c => ⟨(h c).1.trans ((Cert.UpGradReferenceIdeal.Read.val_main_v6_eq _ _).trans ((Cert.UpGradReferenceIdeal.Product.main_v6_product _ _).trans (by rw [(agree c).1, (agree c).2]; rfl))), (h c).2.1.trans ((Cert.UpGradReferenceIdeal.Read.val_main_v7_eq _ _).trans ((Cert.UpGradReferenceIdeal.Product.main_v7_product _ _).trans (by rw [(agree c).1, (agree c).2]; rfl))), (h c).2.2⟩)
      (Cert.UpGradReferenceIdeal.Value.run (F := Ideal) m' ρ')

end Cert.Proof.UpGrad

end
-- ==== Proof.AttnProjGrad.lean ====
/-
  The gradient of the attention's projection, `oᵀ · dya`: a block of the result is the product of a block of rows by a block of columns over the
  whole contracted axis, so the array is the product of the two arguments; and the reference computes the same sum.
-/
module

public import proofs.«01_k».proof.Defs
public import proofs.«01_k».proof.Proof.Gen.AttnProjGradIdeal.Value
public import proofs.«01_k».proof.Proof.Gen.AttnProjGradReferenceIdeal
public import proofs.«01_k».proof.Proof.Gen.AttnProjGradReferenceIdeal.Run
public import proofs.«01_k».proof.Proof.Gen.AttnProjGradReferenceIdeal.Read
public import proofs.«01_k».proof.Proof.Gen.AttnProjGrad.Frame
public import Idealize.ShloMosaic.Lib.Pointwise
public import Idealize.ShloMosaic.Lib.Pipeline.ValueKit
public import Idealize.ShloMosaic.Lib.StableHlo.ReadAt

@[expose] public section

set_option maxRecDepth 16384

noncomputable section

/-! ## The kernel -/

namespace Cert.AttnProjGradIdeal.Product

open Cert.AttnProjGradIdeal Cert.AttnProjGradIdeal.Gen Idealize.ShloMosaic Idealize.ShloMosaic.TcCoe Idealize.SL.Sem

/-- The result at row `i` and column `j`: the sum over the contracted axis. -/
def product (A : S2048x2048.Idx → EReal) (B : S2048x2048.Idx → EReal) (i : Fin 2048) (j : Fin 2048) : EReal :=
  ∑ k : Fin 2048, A (ix2 k i) * B (ix2 k j)

/-- What one grid point computes of its two blocks. -/
theorem k0_pay1_apply (x : Vec Ideal S1024x2048 .bf16) (y : Vec Ideal S2048x1024 .bf16) (i : Fin 1024) (j : Fin 1024) :
    k0_pay1 x y (ix2 i j) = ∑ k : Fin 2048, x (ix2 i k) * y (ix2 k j) := by
  unfold k0_pay1
  pointwise

/-- The one covering store leaves the payload of the two whole loads. -/
theorem out2_eq (x : Vec Ideal S1024x2048 .bf16) (y : Vec Ideal S2048x1024 .bf16) : out0_2 x y = k0_pay1 x y := by
  have hz : (![0, 0] : Fin 2 → ℕ) = fun _ => 0 := funext fun a => by fin_cases a <;> rfl
  unfold out0_2
  rw [View.canon_unit_zero hz, View.ld_unit_zero hz, View.ld_unit_zero hz]

/-- What one grid point computes of its two blocks. -/
theorem k0_pay2_apply (x : Vec Ideal S1024x2048 .bf16) (y : Vec Ideal S2048x1024 .bf16) (i : Fin 1024) (j : Fin 1024) :
    k0_pay2 x y (ix2 i j) = ∑ k : Fin 2048, x (ix2 i k) * y (ix2 k j) := by
  unfold k0_pay2 k0_pay1
  pointwise

/-- The one covering store leaves the payload of the two whole loads. -/
theorem out3_eq (x : Vec Ideal S1024x2048 .bf16) (y : Vec Ideal S2048x1024 .bf16) : out0_3 x y = k0_pay2 x y := by
  have hz : (![0, 0] : Fin 2 → ℕ) = fun _ => 0 := funext fun a => by fin_cases a <;> rfl
  unfold out0_3
  rw [View.canon_unit_zero hz, View.ld_unit_zero hz, View.ld_unit_zero hz]

theorem index0 : ∀ t : Fin cfg0.N, win0_0.index t = ![t.val / 2, 0] := by decide +kernel
theorem index1 : ∀ t : Fin cfg0.N, win0_1.index t = ![0, t.val % 2] := by decide +kernel
theorem index2 : ∀ t : Fin cfg0.N, win0_2.index t = ![t.val / 2, t.val % 2] := by decide +kernel
theorem index3 : ∀ t : Fin cfg0.N, win0_3.index t = ![t.val / 2, t.val % 2] := by decide +kernel

variable (m : (ℓ : Loc nD τ sig) → Buf (Elt Ideal) ℓ) (c : Dev nD)

/-- Row `i` of the block of rows of a grid point, in the whole array. -/
def rowOf (t : Fin cfg0.N) (i : Fin 1024) : Fin 2048 := ⟨t.val / 2 * 1024 + i.val, by have := t.isLt; have e : cfg0.N = 4 := N_0; omega⟩

/-- Column `j` of its block of columns. -/
def colOf (t : Fin cfg0.N) (j : Fin 1024) : Fin 2048 := ⟨t.val % 2 * 1024 + j.val, by omega⟩

theorem left (i : Fin 2048) (k : Fin 2048) : V m c main_v1 (ix2 i k) = m ((c : Thread nD τ).loc main_arg0) (ix2 k i) := by
  unfold V
  after_reads_at

theorem right (j : Fin 2048) (k : Fin 2048) : V m c main_v2 (ix2 k j) = m ((c : Thread nD τ).loc main_arg1) (ix2 k j) := by
  unfold V
  after_reads_at

theorem block0 (t : Fin cfg0.N) (i : Fin 1024) (k : Fin 2048) : iblk m c 0 t (ix2 i k) = m ((c : Thread nD τ).loc main_arg0) (ix2 k (rowOf t i)) := by
  refine Eq.trans ?_ (left m c (rowOf t i) k)
  blk_ext [iblk, index0 t] <;> simp [index0 t, rowOf]

theorem block1 (t : Fin cfg0.N) (j : Fin 1024) (k : Fin 2048) : iblk m c 1 t (ix2 k j) = m ((c : Thread nD τ).loc main_arg1) (ix2 k (colOf t j)) := by
  refine Eq.trans ?_ (right m c (colOf t j) k)
  blk_ext [iblk, index1 t] <;> simp [index1 t, colOf]

/-- The array after the run is the product of the two arguments. -/
theorem array2 : (dats m 0 c).arrAt 2 cfg0.N = fun y => product (m ((c : Thread nD τ).loc main_arg0)) (m ((c : Thread nD τ).loc main_arg1)) (y 0) (y 1) := by
  refine (dats m 0 c).arrAt_eq_of_covers 2 _ (by decide +kernel) fun t hf y => ?_
  rw [after0_2, out2_eq]
  obtain ⟨i, j, rfl⟩ : ∃ (i : Fin 1024) (j : Fin 1024), y = ix2 i j := ⟨y 0, y 1, eq_ix2 y⟩
  have e : (win0_2.blk t).view.emb (ix2 i j) = ix2 (rowOf t i) (colOf t j) := by
    blk_ext [index2 t] <;> simp [index2 t, rowOf, colOf]
  refine (k0_pay1_apply _ _ i j).trans ?_
  blk_simp
  rw [e]
  exact Finset.sum_congr rfl fun k _ => congrArg₂ _ (block0 m c t i k) (block1 m c t j k)

/-- The array after the run is the product of the two arguments. -/
theorem array3 : (dats m 0 c).arrAt 3 cfg0.N = fun y => product (m ((c : Thread nD τ).loc main_arg0)) (m ((c : Thread nD τ).loc main_arg1)) (y 0) (y 1) := by
  refine (dats m 0 c).arrAt_eq_of_covers 3 _ (by decide +kernel) fun t hf y => ?_
  rw [after0_3, out3_eq]
  obtain ⟨i, j, rfl⟩ : ∃ (i : Fin 1024) (j : Fin 1024), y = ix2 i j := ⟨y 0, y 1, eq_ix2 y⟩
  have e : (win0_3.blk t).view.emb (ix2 i j) = ix2 (rowOf t i) (colOf t j) := by
    blk_ext [index3 t] <;> simp [index3 t, rowOf, colOf]
  refine (k0_pay2_apply _ _ i j).trans ?_
  blk_simp
  rw [e]
  exact Finset.sum_congr rfl fun k _ => congrArg₂ _ (block0 m c t i k) (block1 m c t j k)

end Cert.AttnProjGradIdeal.Product

/-! ## The reference -/

namespace Cert.AttnProjGradReferenceIdeal.Product

open Cert.AttnProjGradReferenceIdeal Cert.AttnProjGradReferenceIdeal.Gen Cert.AttnProjGradReferenceIdeal.Read Idealize.ShloMosaic Idealize.ShloMosaic.TcCoe Idealize.SL.Sem

theorem main_v3_product (A B : (⟨S2048x2048, .f32⟩ : BufTy).Contents (Elt Ideal)) : val_main_v3 (F := Ideal) A B = fun y => Cert.AttnProjGradIdeal.Product.product A B (y 0) (y 1) := by
  funext y
  obtain ⟨i, j, rfl⟩ : ∃ (i : Fin 2048) (j : Fin 2048), y = ix2 i j := ⟨y 0, y 1, eq_ix2 y⟩
  rw [val_main_v3_apply]
  rw [val_main_v2_apply]
  unfold Cert.AttnProjGradIdeal.Product.product
  refine Finset.sum_congr rfl fun k _ => ?_
  rw [mul_comm]
  exact congrArg₂ _ (congrArg A (funext fun a => by fin_cases a <;> rfl)) (congrArg B (funext fun a => by fin_cases a <;> rfl))

theorem main_v4_product (A B : (⟨S2048x2048, .f32⟩ : BufTy).Contents (Elt Ideal)) : val_main_v4 (F := Ideal) A B = fun y => Cert.AttnProjGradIdeal.Product.product A B (y 0) (y 1) := by
  funext y
  obtain ⟨i, j, rfl⟩ : ∃ (i : Fin 2048) (j : Fin 2048), y = ix2 i j := ⟨y 0, y 1, eq_ix2 y⟩
  rw [val_main_v4_apply]
  show val_main_v3 (F := Ideal) A B _ = _
  rw [val_main_v3_apply]
  rw [val_main_v2_apply]
  unfold Cert.AttnProjGradIdeal.Product.product
  refine Finset.sum_congr rfl fun k _ => ?_
  rw [mul_comm]
  exact congrArg₂ _ (congrArg A (funext fun a => by fin_cases a <;> rfl)) (congrArg B (funext fun a => by fin_cases a <;> rfl))

end Cert.AttnProjGradReferenceIdeal.Product

/-! ## The claims -/

namespace Cert.Proof.AttnProjGrad

open Idealize.ShloMosaic Idealize.ShloMosaic.TcCoe Idealize.SL.Sem

/-- The reference runs, leaves its arguments as they were, and declares no semaphore. -/
theorem frame_reference : Cert.quiescent_AttnProjGradReferenceIdeal := by
  intro m ρ _
  exact (θ_run Cert.AttnProjGradReferenceIdeal.defs _ _).mono (fun r h => ⟨fun c => (h c).2.2,
      Idealize.ShloMosaic.sem_eq_zero_of_no_sems (by decide) r.2⟩)
    (Cert.AttnProjGradReferenceIdeal.Value.run (F := Ideal) m ρ)

/-- The kernel and the reference compute the same product, of any arguments. -/
theorem algebraic : Cert.algebraic_AttnProjGradIdeal_AttnProjGradReferenceIdeal := by
  intro m ρ m' ρ' _ agree
  refine ⟨fun c y => Cert.AttnProjGradIdeal.Product.product (m ((c.tc : Thread Cert.AttnProjGradIdeal.nD Cert.AttnProjGradIdeal.τ).loc Cert.AttnProjGradIdeal.main_arg0)) (m ((c.tc : Thread Cert.AttnProjGradIdeal.nD Cert.AttnProjGradIdeal.τ).loc Cert.AttnProjGradIdeal.main_arg1)) (y 0) (y 1),
    fun c y => Cert.AttnProjGradIdeal.Product.product (m ((c.tc : Thread Cert.AttnProjGradIdeal.nD Cert.AttnProjGradIdeal.τ).loc Cert.AttnProjGradIdeal.main_arg0)) (m ((c.tc : Thread Cert.AttnProjGradIdeal.nD Cert.AttnProjGradIdeal.τ).loc Cert.AttnProjGradIdeal.main_arg1)) (y 0) (y 1), ?_, ?_⟩
  · exact (θ_run Cert.AttnProjGradIdeal.defs _ _).mono (fun _ h c => ⟨(h c).1.trans (Cert.AttnProjGradIdeal.Product.array2 m c), (h c).2.1.trans (Cert.AttnProjGradIdeal.Product.array3 m c), (h c).2.2⟩)
      (Cert.AttnProjGradIdeal.Value.run_blocks m ρ)
  · exact (θ_run Cert.AttnProjGradReferenceIdeal.defs _ _).mono (fun _ h c => ⟨(h c).1.trans ((Cert.AttnProjGradReferenceIdeal.Read.val_main_v3_eq _ _).trans ((Cert.AttnProjGradReferenceIdeal.Product.main_v3_product _ _).trans (by rw [(agree c).1, (agree c).2]; rfl))), (h c).2.1.trans ((Cert.AttnProjGradReferenceIdeal.Read.val_main_v4_eq _ _).trans ((Cert.AttnProjGradReferenceIdeal.Product.main_v4_product _ _).trans (by rw [(agree c).1, (agree c).2]; rfl))), (h c).2.2⟩)
      (Cert.AttnProjGradReferenceIdeal.Value.run (F := Ideal) m' ρ')

end Cert.Proof.AttnProjGrad

end
-- ==== Proof.InGrad.lean ====
/-
  The gradient of the input projection, `dprojᵀ · x`, its columns first: a block of the result is the product of a block of rows by a block of columns over the
  whole contracted axis, so the array is the product of the two arguments; and the reference computes the same sum.
-/
module

public import proofs.«01_k».proof.Defs
public import proofs.«01_k».proof.Proof.Gen.InGradIdeal.Value
public import proofs.«01_k».proof.Proof.Gen.InGradReferenceIdeal
public import proofs.«01_k».proof.Proof.Gen.InGradReferenceIdeal.Run
public import proofs.«01_k».proof.Proof.Gen.InGradReferenceIdeal.Read
public import proofs.«01_k».proof.Proof.Gen.InGrad.Frame
public import Idealize.ShloMosaic.Lib.Pointwise
public import Idealize.ShloMosaic.Lib.Pipeline.ValueKit
public import Idealize.ShloMosaic.Lib.StableHlo.ReadAt

@[expose] public section

set_option maxRecDepth 16384

noncomputable section

/-! ## The kernel -/

namespace Cert.InGradIdeal.Product

open Cert.InGradIdeal Cert.InGradIdeal.Gen Idealize.ShloMosaic Idealize.ShloMosaic.TcCoe Idealize.SL.Sem

/-- The result at row `i` and column `j`: the sum over the contracted axis. -/
def product (A : S2048x11776.Idx → EReal) (B : S2048x1024.Idx → EReal) (i : Fin 11776) (j : Fin 1024) : EReal :=
  ∑ k : Fin 2048, A (ix2 k i) * B (ix2 k j)

/-- What one grid point computes of its two blocks. -/
theorem k0_pay1_apply (x : Vec Ideal S2048x512 .bf16) (y : Vec Ideal S2048x1024 .bf16) (i : Fin 512) (j : Fin 1024) :
    k0_pay1 x y (ix2 i j) = ∑ k : Fin 2048, x (ix2 k i) * y (ix2 k j) := by
  unfold k0_pay1
  pointwise

/-- The one covering store leaves the payload of the two whole loads. -/
theorem out2_eq (x : Vec Ideal S2048x512 .bf16) (y : Vec Ideal S2048x1024 .bf16) : out0_2 x y = k0_pay1 x y := by
  have hz : (![0, 0] : Fin 2 → ℕ) = fun _ => 0 := funext fun a => by fin_cases a <;> rfl
  unfold out0_2
  rw [View.canon_unit_zero hz, View.ld_unit_zero hz, View.ld_unit_zero hz]

/-- What one grid point computes of its two blocks. -/
theorem k0_pay2_apply (x : Vec Ideal S2048x512 .bf16) (y : Vec Ideal S2048x1024 .bf16) (i : Fin 512) (j : Fin 1024) :
    k0_pay2 x y (ix2 i j) = ∑ k : Fin 2048, x (ix2 k i) * y (ix2 k j) := by
  unfold k0_pay2 k0_pay1
  pointwise

/-- The one covering store leaves the payload of the two whole loads. -/
theorem out3_eq (x : Vec Ideal S2048x512 .bf16) (y : Vec Ideal S2048x1024 .bf16) : out0_3 x y = k0_pay2 x y := by
  have hz : (![0, 0] : Fin 2 → ℕ) = fun _ => 0 := funext fun a => by fin_cases a <;> rfl
  unfold out0_3
  rw [View.canon_unit_zero hz, View.ld_unit_zero hz, View.ld_unit_zero hz]

theorem index0 : ∀ t : Fin cfg0.N, win0_0.index t = ![0, t.val / 1] := by decide +kernel
theorem index1 : ∀ t : Fin cfg0.N, win0_1.index t = ![0, t.val % 1] := by decide +kernel
theorem index2 : ∀ t : Fin cfg0.N, win0_2.index t = ![t.val / 1, t.val % 1] := by decide +kernel
theorem index3 : ∀ t : Fin cfg0.N, win0_3.index t = ![t.val / 1, t.val % 1] := by decide +kernel

variable (m : (ℓ : Loc nD τ sig) → Buf (Elt Ideal) ℓ) (c : Dev nD)

/-- Row `i` of the block of rows of a grid point, in the whole array. -/
def rowOf (t : Fin cfg0.N) (i : Fin 512) : Fin 11776 := ⟨t.val / 1 * 512 + i.val, by have := t.isLt; have e : cfg0.N = 23 := N_0; omega⟩

/-- Column `j` of its block of columns. -/
def colOf (t : Fin cfg0.N) (j : Fin 1024) : Fin 1024 := ⟨t.val % 1 * 1024 + j.val, by omega⟩

theorem left (i : Fin 11776) (k : Fin 2048) : V m c main_v0 (ix2 k i) = m ((c : Thread nD τ).loc main_arg1) (ix2 k i) := by
  unfold V
  after_reads_at

theorem right (j : Fin 1024) (k : Fin 2048) : V m c main_v1 (ix2 k j) = m ((c : Thread nD τ).loc main_arg0) (ix2 k j) := by
  unfold V
  after_reads_at

theorem block0 (t : Fin cfg0.N) (i : Fin 512) (k : Fin 2048) : iblk m c 0 t (ix2 k i) = m ((c : Thread nD τ).loc main_arg1) (ix2 k (rowOf t i)) := by
  refine Eq.trans ?_ (left m c (rowOf t i) k)
  blk_ext [iblk, index0 t] <;> simp [index0 t, rowOf]

theorem block1 (t : Fin cfg0.N) (j : Fin 1024) (k : Fin 2048) : iblk m c 1 t (ix2 k j) = m ((c : Thread nD τ).loc main_arg0) (ix2 k (colOf t j)) := by
  refine Eq.trans ?_ (right m c (colOf t j) k)
  blk_ext [iblk, index1 t] <;> simp [index1 t, colOf]

/-- The array after the run is the product of the two arguments. -/
theorem array2 : (dats m 0 c).arrAt 2 cfg0.N = fun y => product (m ((c : Thread nD τ).loc main_arg1)) (m ((c : Thread nD τ).loc main_arg0)) (y 0) (y 1) := by
  refine (dats m 0 c).arrAt_eq_of_covers 2 _ (by decide +kernel) fun t hf y => ?_
  rw [after0_2, out2_eq]
  obtain ⟨i, j, rfl⟩ : ∃ (i : Fin 512) (j : Fin 1024), y = ix2 i j := ⟨y 0, y 1, eq_ix2 y⟩
  have e : (win0_2.blk t).view.emb (ix2 i j) = ix2 (rowOf t i) (colOf t j) := by
    blk_ext [index2 t] <;> simp [index2 t, rowOf, colOf]
  refine (k0_pay1_apply _ _ i j).trans ?_
  blk_simp
  rw [e]
  exact Finset.sum_congr rfl fun k _ => congrArg₂ _ (block0 m c t i k) (block1 m c t j k)

/-- The array after the run is the product of the two arguments. -/
theorem array3 : (dats m 0 c).arrAt 3 cfg0.N = fun y => product (m ((c : Thread nD τ).loc main_arg1)) (m ((c : Thread nD τ).loc main_arg0)) (y 0) (y 1) := by
  refine (dats m 0 c).arrAt_eq_of_covers 3 _ (by decide +kernel) fun t hf y => ?_
  rw [after0_3, out3_eq]
  obtain ⟨i, j, rfl⟩ : ∃ (i : Fin 512) (j : Fin 1024), y = ix2 i j := ⟨y 0, y 1, eq_ix2 y⟩
  have e : (win0_3.blk t).view.emb (ix2 i j) = ix2 (rowOf t i) (colOf t j) := by
    blk_ext [index3 t] <;> simp [index3 t, rowOf, colOf]
  refine (k0_pay2_apply _ _ i j).trans ?_
  blk_simp
  rw [e]
  exact Finset.sum_congr rfl fun k _ => congrArg₂ _ (block0 m c t i k) (block1 m c t j k)

end Cert.InGradIdeal.Product

/-! ## The reference -/

namespace Cert.InGradReferenceIdeal.Product

open Cert.InGradReferenceIdeal Cert.InGradReferenceIdeal.Gen Cert.InGradReferenceIdeal.Read Idealize.ShloMosaic Idealize.ShloMosaic.TcCoe Idealize.SL.Sem

theorem main_v5_product (B : (⟨S2048x1024, .f32⟩ : BufTy).Contents (Elt Ideal)) (A : (⟨S2048x11776, .f32⟩ : BufTy).Contents (Elt Ideal)) : val_main_v5 (F := Ideal) B A = fun y => Cert.InGradIdeal.Product.product A B (y 0) (y 1) := by
  funext y
  obtain ⟨i, j, rfl⟩ : ∃ (i : Fin 11776) (j : Fin 1024), y = ix2 i j := ⟨y 0, y 1, eq_ix2 y⟩
  rw [val_main_v5_apply]
  rw [val_main_v3_apply]
  rw [val_main_v2_apply]
  unfold Cert.InGradIdeal.Product.product
  refine Finset.sum_congr rfl fun k _ => ?_
  exact congrArg₂ _ (congrArg A (funext fun a => by fin_cases a <;> rfl)) (congrArg B (funext fun a => by fin_cases a <;> rfl))

theorem main_v7_product (B : (⟨S2048x1024, .f32⟩ : BufTy).Contents (Elt Ideal)) (A : (⟨S2048x11776, .f32⟩ : BufTy).Contents (Elt Ideal)) : val_main_v7 (F := Ideal) B A = fun y => Cert.InGradIdeal.Product.product A B (y 0) (y 1) := by
  funext y
  obtain ⟨i, j, rfl⟩ : ∃ (i : Fin 11776) (j : Fin 1024), y = ix2 i j := ⟨y 0, y 1, eq_ix2 y⟩
  rw [val_main_v7_apply]
  show val_main_v6 (F := Ideal) B A _ = _
  rw [val_main_v6_apply]
  rw [val_main_v3_apply]
  rw [val_main_v2_apply]
  unfold Cert.InGradIdeal.Product.product
  refine Finset.sum_congr rfl fun k _ => ?_
  exact congrArg₂ _ (congrArg A (funext fun a => by fin_cases a <;> rfl)) (congrArg B (funext fun a => by fin_cases a <;> rfl))

end Cert.InGradReferenceIdeal.Product

/-! ## The claims -/

namespace Cert.Proof.InGrad

open Idealize.ShloMosaic Idealize.ShloMosaic.TcCoe Idealize.SL.Sem

/-- The reference runs, leaves its arguments as they were, and declares no semaphore. -/
theorem frame_reference : Cert.quiescent_InGradReferenceIdeal := by
  intro m ρ _
  exact (θ_run Cert.InGradReferenceIdeal.defs _ _).mono (fun r h => ⟨fun c => (h c).2.2,
      Idealize.ShloMosaic.sem_eq_zero_of_no_sems (by decide) r.2⟩)
    (Cert.InGradReferenceIdeal.Value.run (F := Ideal) m ρ)

/-- The kernel and the reference compute the same product, of any arguments. -/
theorem algebraic : Cert.algebraic_InGradIdeal_InGradReferenceIdeal := by
  intro m ρ m' ρ' _ agree
  refine ⟨fun c y => Cert.InGradIdeal.Product.product (m ((c.tc : Thread Cert.InGradIdeal.nD Cert.InGradIdeal.τ).loc Cert.InGradIdeal.main_arg1)) (m ((c.tc : Thread Cert.InGradIdeal.nD Cert.InGradIdeal.τ).loc Cert.InGradIdeal.main_arg0)) (y 0) (y 1),
    fun c y => Cert.InGradIdeal.Product.product (m ((c.tc : Thread Cert.InGradIdeal.nD Cert.InGradIdeal.τ).loc Cert.InGradIdeal.main_arg1)) (m ((c.tc : Thread Cert.InGradIdeal.nD Cert.InGradIdeal.τ).loc Cert.InGradIdeal.main_arg0)) (y 0) (y 1), ?_, ?_⟩
  · exact (θ_run Cert.InGradIdeal.defs _ _).mono (fun _ h c => ⟨(h c).1.trans (Cert.InGradIdeal.Product.array2 m c), (h c).2.1.trans (Cert.InGradIdeal.Product.array3 m c), (h c).2.2⟩)
      (Cert.InGradIdeal.Value.run_blocks m ρ)
  · exact (θ_run Cert.InGradReferenceIdeal.defs _ _).mono (fun _ h c => ⟨(h c).1.trans ((Cert.InGradReferenceIdeal.Read.val_main_v5_eq _ _).trans ((Cert.InGradReferenceIdeal.Product.main_v5_product _ _).trans (by rw [(agree c).1, (agree c).2]; rfl))), (h c).2.1.trans ((Cert.InGradReferenceIdeal.Read.val_main_v7_eq _ _).trans ((Cert.InGradReferenceIdeal.Product.main_v7_product _ _).trans (by rw [(agree c).1, (agree c).2]; rfl))), (h c).2.2⟩)
      (Cert.InGradReferenceIdeal.Value.run (F := Ideal) m' ρ')

end Cert.Proof.InGrad

end
-- ==== Proof.UpInGrad.lean ====
/-
  The gradient into the FFN's input through its way up, `dup · w_upᵀ`: the contracted axis of 6144 is
  walked in eight blocks of 768; the first grid point of a result block clears the accumulator, each adds its partial
  product, and the last writes the accumulator out. The reference computes the product at once.
-/
module

public import proofs.«01_k».proof.Defs
public import proofs.«01_k».proof.Proof.Gen.UpInGradIdeal.Value
public import proofs.«01_k».proof.Proof.Gen.UpInGradReferenceIdeal
public import proofs.«01_k».proof.Proof.Gen.UpInGradReferenceIdeal.Run
public import proofs.«01_k».proof.Proof.Gen.UpInGradReferenceIdeal.Read
public import proofs.«01_k».proof.Proof.Gen.UpInGrad.Frame
public import Idealize.ShloMosaic.Lib.Pointwise
public import Idealize.ShloMosaic.Lib.Pipeline.ValueKit
public import Idealize.ShloMosaic.Lib.StableHlo.ReadAt
public import Idealize.ShloMosaic.Lib.Tactic

@[expose] public section

set_option maxRecDepth 16384

noncomputable section

/-! ## The kernel -/

namespace Cert.UpInGradIdeal.Product

open Cert.UpInGradIdeal Cert.UpInGradIdeal.Gen Idealize.ShloMosaic Idealize.ShloMosaic.TcCoe Idealize.SL.Sem

/-- The product at row `i` and column `j`: the sum over the contracted axis. -/
def product (A : S2048x6144.Idx → EReal) (B : S2048x6144.Idx → EReal) (i j : Fin 2048) : EReal :=
  ∑ k : Fin 6144, A (ix2 i k) * B (ix2 j k)

/-- Position `k` of block `q` of the contracted axis. -/
def deep (q : Fin 8) (k : Fin 768) : Fin 6144 := ⟨q.val * 768 + k.val, by omega⟩

/-- A sum over the contracted axis is the sum of its blocks' sums. -/
theorem sum_blocks (f : Fin 6144 → EReal) : ∑ k, f k = ∑ q : Fin 8, ∑ k : Fin 768, f (deep q k) := by
  rw [← Fintype.sum_prod_type' (fun q k => f (deep q k))]
  exact (Fintype.sum_equiv (finProdFinEquiv (m := 8) (n := 768)) _ _ fun p => congrArg f (Fin.ext (by
    simp only [deep, finProdFinEquiv_apply_val]; omega))).symm

theorem pay1_apply (y : S1024x1024.Idx) : k0_pay1 (F := Ideal) y = 0 := by
  unfold k0_pay1
  pointwise

theorem pay2_apply (acc : Vec Ideal S1024x1024 .f32) (x : Vec Ideal S1024x768 .bf16) (w : Vec Ideal S1x1024x768 .bf16)
    (i j : Fin 1024) : k0_pay2 acc x w (ix2 i j) = acc (ix2 i j) + ∑ k : Fin 768, x (ix2 i k) * w (ix3 (0 : Fin 1) j k) := by
  unfold k0_pay2
  pointwise

theorem hz : (![0, 0] : Fin 2 → ℕ) = fun _ => 0 := funext fun a => by fin_cases a <;> rfl
theorem hz3 : (![0, 0, 0] : Fin 3 → ℕ) = fun _ => 0 := funext fun a => by fin_cases a <;> rfl

/-! ### What each kind of grid point leaves: the stores' payloads -/

section Cases

variable (c : Dev nD) (i : grid0.Coords)
  (a3 : Memref sig .tc .vmem S1024x768 .bf16) (h3 : a3.IsWhole)
  (a4 : Memref sig .tc .vmem S1x1024x768 .bf16) (h4 : a4.IsWhole)
  (a5 : Memref sig .tc .vmem S1024x1024 .f32) (h5 : a5.IsWhole)
  (a6 : Memref sig .tc .vmem S1024x1024 .f32) (h6 : a6.IsWhole)
  (x : Vec Ideal S1024x768 .bf16) (w : Vec Ideal S1x1024x768 .bf16) (acc : Vec Ideal S1024x1024 .f32)

/-- The first clears the accumulator and adds its product. -/
theorem first (hc0 : cond0_0 i) (hc1 : ¬cond0_1 i) : sout0_A_0 c i a3 h3 a4 h4 a5 h5 a6 h6 hc0 hc1 x w = k0_pay2 k0_pay1 x w := by
  unfold sout0_A_0
  rw [View.read_writes_eq_canon _ _ _ (scover0_A_0 c i a3 h3 a4 h4 a5 h5 a6 h6 hc0 hc1 x w)]
  unfold kernelRun0_A
  dsimp only
  sl_unfold_words
  rw [View.canon_cons_unit_zero (S := S1024x1024) hz, View.readCov_unit_zero (S := S1024x1024) _ hz]
  simp only [View.readAt_eq_ld, h3.read_unread, h4.read_unread, h6.read_unread, View.ld_unit_zero (S := S1024x768) hz, View.ld_unit_zero (S := S1x1024x768) hz3, View.ld_unit_zero (S := S1024x1024) hz]

/-- One between the first and the last adds its product. -/
theorem middle (hc0 : ¬cond0_0 i) (hc1 : ¬cond0_1 i) : sout0_B_0 c i a3 h3 a4 h4 a5 h5 a6 h6 hc0 hc1 x w acc = k0_pay2 acc x w := by
  unfold sout0_B_0
  rw [View.read_writes_eq_canon _ _ _ (scover0_B_0 c i a3 h3 a4 h4 a5 h5 a6 h6 hc0 hc1 x w acc)]
  unfold kernelRun0_B
  dsimp only
  rw [View.canon_unit_zero hz]
  simp only [View.readAt_eq_ld, h3.read_unread, h4.read_unread, h6.read_unread, View.ld_unit_zero (S := S1024x768) hz, View.ld_unit_zero (S := S1x1024x768) hz3, View.ld_unit_zero (S := S1024x1024) hz]

/-- The last adds its product and writes the result out. -/
theorem last (hc0 : ¬cond0_0 i) (hc1 : cond0_1 i) : out0_C_2 c i a3 h3 a4 h4 a5 h5 a6 h6 hc0 hc1 x w acc = k0_pay2 acc x w := by
  unfold out0_C_2
  rw [View.read_writes_eq_canon _ _ _ (cover0_C_2 c i a3 h3 a4 h4 a5 h5 a6 h6 hc0 hc1 x w acc)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x768) hz, View.ld_unit_zero (S := S1x1024x768) hz3, View.ld_unit_zero (S := S1024x1024) hz]

end Cases

/-! ### The blocks -/

theorem index0 : ∀ t : Fin cfg0.N, win0_0.index t = ![t.val / 16, t.val % 8] := by decide +kernel
theorem index1 : ∀ t : Fin cfg0.N, win0_1.index t = ![t.val % 8, t.val / 8 % 2, 0] := by decide +kernel
theorem index2 : ∀ t : Fin cfg0.N, win0_2.index t = ![t.val / 16, t.val / 8 % 2] := by decide +kernel
theorem flush2 : ∀ t : Fin cfg0.N, (cfg0.win 2).flush t = true → t.val % 8 = 7 := by decide +kernel

variable (m : (ℓ : Loc nD τ sig) → Buf (Elt Ideal) ℓ) (c : Dev nD)

/-- Row `i` of the block of rows of a grid point, in the whole array. -/
def rowOf (t : Fin cfg0.N) (i : Fin 1024) : Fin 2048 := ⟨t.val / 16 * 1024 + i.val, by have := t.isLt; have e : cfg0.N = 32 := N_0; omega⟩

/-- Column `j` of its block of columns. -/
def colOf (t : Fin cfg0.N) (j : Fin 1024) : Fin 2048 := ⟨t.val / 8 % 2 * 1024 + j.val, by omega⟩

/-- Its block of the contracted axis. -/
def stepOf (t : Fin cfg0.N) : Fin 8 := ⟨t.val % 8, by omega⟩

theorem left (i : Fin 2048) (k : Fin 6144) : V m c main_v0 (ix2 i k) = m ((c : Thread nD τ).loc main_arg1) (ix2 i k) := by
  unfold V
  after_reads_at

theorem right (q : Fin 8) (j : Fin 2048) (k : Fin 768) : V m c main_v3 (ix3 q j k) = m ((c : Thread nD τ).loc main_arg0) (ix2 j (deep q k)) := by
  unfold V
  after_reads_at
  rfl

theorem block0 (t : Fin cfg0.N) (i : Fin 1024) (k : Fin 768) : iblk m c 0 t (ix2 i k) = m ((c : Thread nD τ).loc main_arg1) (ix2 (rowOf t i) (deep (stepOf t) k)) := by
  refine Eq.trans ?_ (left m c (rowOf t i) (deep (stepOf t) k))
  blk_ext [iblk, index0 t] <;> simp [index0 t, rowOf, deep, stepOf]

theorem block1 (t : Fin cfg0.N) (j : Fin 1024) (k : Fin 768) : iblk m c 1 t (ix3 (0 : Fin 1) j k) = m ((c : Thread nD τ).loc main_arg0) (ix2 (colOf t j) (deep (stepOf t) k)) := by
  refine Eq.trans ?_ (right m c (stepOf t) (colOf t j) k)
  blk_ext [iblk, index1 t] <;> simp [index1 t, colOf, deep, stepOf]

/-- One grid point's part of the sum. -/
def slab (A : S2048x6144.Idx → EReal) (B : S2048x6144.Idx → EReal) (q : Fin 8) (i j : Fin 2048) : EReal :=
  ∑ k : Fin 768, A (ix2 i (deep q k)) * B (ix2 j (deep q k))

/-- The same, of the two arguments, with the block given as a number. -/
def part (q : ℕ) (i j : Fin 2048) : EReal :=
  if h : q < 8 then slab (m ((c : Thread nD τ).loc main_arg1)) (m ((c : Thread nD τ).loc main_arg0)) ⟨q, h⟩ i j else 0

theorem point (t : Fin cfg0.N) (acc : Vec Ideal S1024x1024 .f32) (i j : Fin 1024) :
    k0_pay2 acc (iblk m c 0 t) (iblk m c 1 t) (ix2 i j) = acc (ix2 i j) + part m c (t.val % 8) (rowOf t i) (colOf t j) := by
  refine (pay2_apply _ _ _ i j).trans (congrArg (acc (ix2 i j) + ·) ?_)
  unfold part
  rw [dif_pos (by omega)]
  exact Finset.sum_congr rfl fun k _ => congrArg₂ _ (block0 m c t i k) (block1 m c t j k)

/-- Before the last, the accumulator holds the parts met so far. -/
theorem held (n : ℕ) : ∀ t : Fin cfg0.N, t.val % 8 = n → n < 7 → ∀ i j : Fin 1024,
    (outsAt0 m c t.val t.isLt).2 (ix2 i j) = ∑ q ∈ Finset.range (n + 1), part m c q (rowOf t i) (colOf t j) := by
  induction n with
  | zero =>
    intro t h _ i j
    rw [outsAt0_A m c t h (by omega)]
    dsimp only
    rw [first]
    refine (point m c t _ i j).trans ?_
    rw [pay1_apply, h, zero_add, zero_add, Finset.sum_range_one]
  | succ n ih =>
    intro t h hn i j
    have b : t.val - 1 < cfg0.N := Nat.lt_of_le_of_lt (Nat.sub_le _ _) t.isLt
    have e := ih ⟨t.val - 1, b⟩ (by dsimp only; omega) (by omega) i j
    have r : rowOf ⟨t.val - 1, b⟩ i = rowOf t i := Fin.ext (by simp only [rowOf]; omega)
    have s : colOf ⟨t.val - 1, b⟩ j = colOf t j := Fin.ext (by simp only [colOf]; omega)
    rw [r, s] at e
    rw [outsAt0_B m c t (by omega) (by omega)]
    dsimp only
    rw [middle]
    refine (point m c t _ i j).trans ?_
    rw [h, Finset.sum_range_succ _ (n + 1)]
    exact congrArg (· + part m c (n + 1) (rowOf t i) (colOf t j)) e

/-- The parts together are the product. -/
theorem parts (i j : Fin 2048) : ∑ q ∈ Finset.range 8, part m c q i j = product (m ((c : Thread nD τ).loc main_arg1)) (m ((c : Thread nD τ).loc main_arg0)) i j := by
  rw [Finset.sum_range]
  unfold product
  rw [sum_blocks]
  refine Finset.sum_congr rfl fun q _ => ?_
  unfold part
  rw [dif_pos q.isLt]
  rfl

/-- What is written back is the whole sum. -/
theorem swept (t : Fin cfg0.N) (h : t.val % 8 = 7) (i j : Fin 1024) :
    (outsAt0 m c t.val t.isLt).1 (ix2 i j) = product (m ((c : Thread nD τ).loc main_arg1)) (m ((c : Thread nD τ).loc main_arg0)) (rowOf t i) (colOf t j) := by
  have b : t.val - 1 < cfg0.N := Nat.lt_of_le_of_lt (Nat.sub_le _ _) t.isLt
  have e := held m c 6 ⟨t.val - 1, b⟩ (by dsimp only; omega) (by omega) i j
  have r : rowOf ⟨t.val - 1, b⟩ i = rowOf t i := Fin.ext (by simp only [rowOf]; omega)
  have s : colOf ⟨t.val - 1, b⟩ j = colOf t j := Fin.ext (by simp only [colOf]; omega)
  rw [r, s] at e
  rw [outsAt0_C m c t (by omega) h]
  dsimp only
  rw [last]
  refine (point m c t _ i j).trans ?_
  rw [← parts, h, Finset.sum_range_succ _ 7]
  exact congrArg (· + part m c 7 (rowOf t i) (colOf t j)) e

/-- The array after the run is that sum everywhere. -/
theorem array2 : (dats m 0 c).arrAt 2 cfg0.N = fun y => product (m ((c : Thread nD τ).loc main_arg1)) (m ((c : Thread nD τ).loc main_arg0)) (y 0) (y 1) := by
  refine (dats m 0 c).arrAt_eq_of_covers 2 _ (by decide +kernel) fun t hf y => ?_
  rw [after0_2]
  obtain ⟨i, j, rfl⟩ : ∃ (i : Fin 1024) (j : Fin 1024), y = ix2 i j := ⟨y 0, y 1, eq_ix2 y⟩
  have e : (win0_2.blk t).view.emb (ix2 i j) = ix2 (rowOf t i) (colOf t j) := by
    blk_ext [index2 t] <;> simp [index2 t, rowOf, colOf]
  refine (swept m c t (flush2 t hf) i j).trans ?_
  blk_simp
  rw [e]
  rfl

end Cert.UpInGradIdeal.Product

/-! ## The reference -/

namespace Cert.UpInGradReferenceIdeal.Product

open Cert.UpInGradReferenceIdeal Cert.UpInGradReferenceIdeal.Gen Cert.UpInGradReferenceIdeal.Read Idealize.ShloMosaic Idealize.ShloMosaic.TcCoe Idealize.SL.Sem

theorem main_v2_product (B A : (⟨S2048x6144, .f32⟩ : BufTy).Contents (Elt Ideal)) (i j : Fin 2048) :
    val_main_v2 (F := Ideal) B A (ix2 i j) = Cert.UpInGradIdeal.Product.product A B i j := by
  rw [val_main_v2_apply]
  unfold Cert.UpInGradIdeal.Product.product
  refine Finset.sum_congr rfl fun k _ => ?_
  exact congrArg₂ _ (congrArg A (funext fun a => by fin_cases a <;> rfl)) (congrArg B (funext fun a => by fin_cases a <;> rfl))

theorem result (B A : (⟨S2048x6144, .f32⟩ : BufTy).Contents (Elt Ideal)) :
    val_main_v2 (F := Ideal) B A = fun y => Cert.UpInGradIdeal.Product.product A B (y 0) (y 1) := by
  funext y
  obtain ⟨i, j, rfl⟩ : ∃ (i : Fin 2048) (j : Fin 2048), y = ix2 i j := ⟨y 0, y 1, eq_ix2 y⟩
  exact main_v2_product B A i j

end Cert.UpInGradReferenceIdeal.Product

/-! ## The claims -/

namespace Cert.Proof.UpInGrad

open Idealize.ShloMosaic Idealize.ShloMosaic.TcCoe Idealize.SL.Sem

/-- The reference runs, leaves its arguments as they were, and declares no semaphore. -/
theorem frame_reference : Cert.quiescent_UpInGradReferenceIdeal := by
  intro m ρ _
  exact (θ_run Cert.UpInGradReferenceIdeal.defs _ _).mono (fun r h => ⟨fun c => (h c).2,
      Idealize.ShloMosaic.sem_eq_zero_of_no_sems (by decide) r.2⟩)
    (Cert.UpInGradReferenceIdeal.Value.run (F := Ideal) m ρ)

/-- The kernel and the reference compute the same sum, of any arguments. -/
theorem algebraic : Cert.algebraic_UpInGradIdeal_UpInGradReferenceIdeal := by
  intro m ρ m' ρ' _ agree
  refine ⟨fun c y => Cert.UpInGradIdeal.Product.product (m ((c.tc : Thread Cert.UpInGradIdeal.nD Cert.UpInGradIdeal.τ).loc Cert.UpInGradIdeal.main_arg1)) (m ((c.tc : Thread Cert.UpInGradIdeal.nD Cert.UpInGradIdeal.τ).loc Cert.UpInGradIdeal.main_arg0)) (y 0) (y 1), ?_, ?_⟩
  · exact (θ_run Cert.UpInGradIdeal.defs _ _).mono (fun _ h c => ⟨(h c).1.trans (Cert.UpInGradIdeal.Product.array2 m c), (h c).2⟩)
      (Cert.UpInGradIdeal.Value.run_blocks m ρ)
  · exact (θ_run Cert.UpInGradReferenceIdeal.defs _ _).mono (fun _ h c => ⟨(h c).1.trans ((Cert.UpInGradReferenceIdeal.Read.val_main_v2_eq _ _).trans
        ((Cert.UpInGradReferenceIdeal.Product.result _ _).trans (by rw [(agree c).1, (agree c).2]; rfl))), (h c).2⟩)
      (Cert.UpInGradReferenceIdeal.Value.run (F := Ideal) m' ρ')

end Cert.Proof.UpInGrad

end
-- ==== Proof.GateInGrad.lean ====
/-
  The gradient into the FFN's input through its gate, `dgpre · w_gateᵀ`, added to the one through its way up: the contracted axis of 6144 is
  walked in eight blocks of 768; the first grid point of a result block clears the accumulator, each adds its partial
  product, and the last writes the accumulator out. The last also adds the array given with it. The reference computes the product at once.
-/
module

public import proofs.«01_k».proof.Defs
public import proofs.«01_k».proof.Proof.Gen.GateInGradIdeal.Value
public import proofs.«01_k».proof.Proof.Gen.GateInGradReferenceIdeal
public import proofs.«01_k».proof.Proof.Gen.GateInGradReferenceIdeal.Run
public import proofs.«01_k».proof.Proof.Gen.GateInGradReferenceIdeal.Read
public import proofs.«01_k».proof.Proof.Gen.GateInGrad.Frame
public import Idealize.ShloMosaic.Lib.Pointwise
public import Idealize.ShloMosaic.Lib.Pipeline.ValueKit
public import Idealize.ShloMosaic.Lib.StableHlo.ReadAt
public import Idealize.ShloMosaic.Lib.Tactic

@[expose] public section

set_option maxRecDepth 16384

noncomputable section

/-! ## The kernel -/

namespace Cert.GateInGradIdeal.Product

open Cert.GateInGradIdeal Cert.GateInGradIdeal.Gen Idealize.ShloMosaic Idealize.ShloMosaic.TcCoe Idealize.SL.Sem

/-- The product at row `i` and column `j`: the sum over the contracted axis. -/
def product (A : S2048x6144.Idx → EReal) (B : S2048x6144.Idx → EReal) (i j : Fin 2048) : EReal :=
  ∑ k : Fin 6144, A (ix2 i k) * B (ix2 j k)

/-- The result: the product and the array added to it. -/
def total (A : S2048x6144.Idx → EReal) (B : S2048x6144.Idx → EReal) (C : S2048x2048.Idx → EReal) (i j : Fin 2048) : EReal :=
  product A B i j + C (ix2 i j)

/-- Position `k` of block `q` of the contracted axis. -/
def deep (q : Fin 8) (k : Fin 768) : Fin 6144 := ⟨q.val * 768 + k.val, by omega⟩

/-- A sum over the contracted axis is the sum of its blocks' sums. -/
theorem sum_blocks (f : Fin 6144 → EReal) : ∑ k, f k = ∑ q : Fin 8, ∑ k : Fin 768, f (deep q k) := by
  rw [← Fintype.sum_prod_type' (fun q k => f (deep q k))]
  exact (Fintype.sum_equiv (finProdFinEquiv (m := 8) (n := 768)) _ _ fun p => congrArg f (Fin.ext (by
    simp only [deep, finProdFinEquiv_apply_val]; omega))).symm

theorem pay1_apply (y : S1024x1024.Idx) : k0_pay1 (F := Ideal) y = 0 := by
  unfold k0_pay1
  pointwise

theorem pay2_apply (acc : Vec Ideal S1024x1024 .f32) (x : Vec Ideal S1024x768 .bf16) (w : Vec Ideal S1x1024x768 .bf16)
    (i j : Fin 1024) : k0_pay2 acc x w (ix2 i j) = acc (ix2 i j) + ∑ k : Fin 768, x (ix2 i k) * w (ix3 (0 : Fin 1) j k) := by
  unfold k0_pay2
  pointwise

theorem pay3_apply (acc z : Vec Ideal S1024x1024 .f32) (i j : Fin 1024) :
    k0_pay3 acc z (ix2 i j) = acc (ix2 i j) + z (ix2 i j) := by
  unfold k0_pay3
  pointwise

theorem hz : (![0, 0] : Fin 2 → ℕ) = fun _ => 0 := funext fun a => by fin_cases a <;> rfl
theorem hz3 : (![0, 0, 0] : Fin 3 → ℕ) = fun _ => 0 := funext fun a => by fin_cases a <;> rfl

/-! ### What each kind of grid point leaves: the stores' payloads -/

section Cases

variable (c : Dev nD) (i : grid0.Coords)
  (a3 : Memref sig .tc .vmem S1024x768 .bf16) (h3 : a3.IsWhole)
  (a4 : Memref sig .tc .vmem S1x1024x768 .bf16) (h4 : a4.IsWhole)
  (a5 : Memref sig .tc .vmem S1024x1024 .f32) (h5 : a5.IsWhole)
  (a6 : Memref sig .tc .vmem S1024x1024 .f32) (h6 : a6.IsWhole)
  (a7 : Memref sig .tc .vmem S1024x1024 .f32) (h7 : a7.IsWhole)
  (x : Vec Ideal S1024x768 .bf16) (w : Vec Ideal S1x1024x768 .bf16) (z : Vec Ideal S1024x1024 .f32) (acc : Vec Ideal S1024x1024 .f32)

/-- The first clears the accumulator and adds its product. -/
theorem first (hc0 : cond0_0 i) (hc1 : ¬cond0_1 i) : sout0_A_0 c i a3 h3 a4 h4 a5 h5 a6 h6 a7 h7 hc0 hc1 x w z = k0_pay2 k0_pay1 x w := by
  unfold sout0_A_0
  rw [View.read_writes_eq_canon _ _ _ (scover0_A_0 c i a3 h3 a4 h4 a5 h5 a6 h6 a7 h7 hc0 hc1 x w z)]
  unfold kernelRun0_A
  dsimp only
  sl_unfold_words
  rw [View.canon_cons_unit_zero (S := S1024x1024) hz, View.readCov_unit_zero (S := S1024x1024) _ hz]
  simp only [View.readAt_eq_ld, h3.read_unread, h4.read_unread, h5.read_unread, h7.read_unread, View.ld_unit_zero (S := S1024x768) hz, View.ld_unit_zero (S := S1x1024x768) hz3, View.ld_unit_zero (S := S1024x1024) hz]

/-- One between the first and the last adds its product. -/
theorem middle (hc0 : ¬cond0_0 i) (hc1 : ¬cond0_1 i) : sout0_B_0 c i a3 h3 a4 h4 a5 h5 a6 h6 a7 h7 hc0 hc1 x w z acc = k0_pay2 acc x w := by
  unfold sout0_B_0
  rw [View.read_writes_eq_canon _ _ _ (scover0_B_0 c i a3 h3 a4 h4 a5 h5 a6 h6 a7 h7 hc0 hc1 x w z acc)]
  unfold kernelRun0_B
  dsimp only
  rw [View.canon_unit_zero hz]
  simp only [View.readAt_eq_ld, h3.read_unread, h4.read_unread, h5.read_unread, h7.read_unread, View.ld_unit_zero (S := S1024x768) hz, View.ld_unit_zero (S := S1x1024x768) hz3, View.ld_unit_zero (S := S1024x1024) hz]

/-- The last adds its product and writes the result out. -/
theorem last (hc0 : ¬cond0_0 i) (hc1 : cond0_1 i) : out0_C_3 c i a3 h3 a4 h4 a5 h5 a6 h6 a7 h7 hc0 hc1 x w z acc = k0_pay3 (k0_pay2 acc x w) z := by
  unfold out0_C_3
  rw [View.read_writes_eq_canon _ _ _ (cover0_C_3 c i a3 h3 a4 h4 a5 h5 a6 h6 a7 h7 hc0 hc1 x w z acc)]
  unfold kernelRun0_C
  dsimp only
  sl_unfold_words
  rw [View.canon_unit_zero hz, View.readCov_unit_zero (S := S1024x1024) _ hz]
  simp only [View.readAt_eq_ld, h3.read_unread, h4.read_unread, h5.read_unread, h7.read_unread, View.ld_unit_zero (S := S1024x768) hz, View.ld_unit_zero (S := S1x1024x768) hz3, View.ld_unit_zero (S := S1024x1024) hz]

end Cases

/-! ### The blocks -/

theorem index0 : ∀ t : Fin cfg0.N, win0_0.index t = ![t.val / 16, t.val % 8] := by decide +kernel
theorem index1 : ∀ t : Fin cfg0.N, win0_1.index t = ![t.val % 8, t.val / 8 % 2, 0] := by decide +kernel
theorem index2 : ∀ t : Fin cfg0.N, win0_2.index t = ![t.val / 16, t.val / 8 % 2] := by decide +kernel
theorem index3 : ∀ t : Fin cfg0.N, win0_3.index t = ![t.val / 16, t.val / 8 % 2] := by decide +kernel
theorem flush3 : ∀ t : Fin cfg0.N, (cfg0.win 3).flush t = true → t.val % 8 = 7 := by decide +kernel

variable (m : (ℓ : Loc nD τ sig) → Buf (Elt Ideal) ℓ) (c : Dev nD)

/-- Row `i` of the block of rows of a grid point, in the whole array. -/
def rowOf (t : Fin cfg0.N) (i : Fin 1024) : Fin 2048 := ⟨t.val / 16 * 1024 + i.val, by have := t.isLt; have e : cfg0.N = 32 := N_0; omega⟩

/-- Column `j` of its block of columns. -/
def colOf (t : Fin cfg0.N) (j : Fin 1024) : Fin 2048 := ⟨t.val / 8 % 2 * 1024 + j.val, by omega⟩

/-- Its block of the contracted axis. -/
def stepOf (t : Fin cfg0.N) : Fin 8 := ⟨t.val % 8, by omega⟩

theorem left (i : Fin 2048) (k : Fin 6144) : V m c main_v0 (ix2 i k) = m ((c : Thread nD τ).loc main_arg1) (ix2 i k) := by
  unfold V
  after_reads_at

theorem right (q : Fin 8) (j : Fin 2048) (k : Fin 768) : V m c main_v3 (ix3 q j k) = m ((c : Thread nD τ).loc main_arg0) (ix2 j (deep q k)) := by
  unfold V
  after_reads_at
  rfl

theorem block0 (t : Fin cfg0.N) (i : Fin 1024) (k : Fin 768) : iblk m c 0 t (ix2 i k) = m ((c : Thread nD τ).loc main_arg1) (ix2 (rowOf t i) (deep (stepOf t) k)) := by
  refine Eq.trans ?_ (left m c (rowOf t i) (deep (stepOf t) k))
  blk_ext [iblk, index0 t] <;> simp [index0 t, rowOf, deep, stepOf]

theorem block1 (t : Fin cfg0.N) (j : Fin 1024) (k : Fin 768) : iblk m c 1 t (ix3 (0 : Fin 1) j k) = m ((c : Thread nD τ).loc main_arg0) (ix2 (colOf t j) (deep (stepOf t) k)) := by
  refine Eq.trans ?_ (right m c (stepOf t) (colOf t j) k)
  blk_ext [iblk, index1 t] <;> simp [index1 t, colOf, deep, stepOf]

theorem block2 (t : Fin cfg0.N) (i j : Fin 1024) : iblk m c 2 t (ix2 i j) = m ((c : Thread nD τ).loc main_arg2) (ix2 (rowOf t i) (colOf t j)) := by
  have h : V m c main_arg2 (ix2 (rowOf t i) (colOf t j)) = m ((c : Thread nD τ).loc main_arg2) (ix2 (rowOf t i) (colOf t j)) := by
    unfold V
    after_reads_at
  refine Eq.trans ?_ h
  blk_ext [iblk, index2 t] <;> simp [index2 t, rowOf, colOf]

/-- One grid point's part of the sum. -/
def slab (A : S2048x6144.Idx → EReal) (B : S2048x6144.Idx → EReal) (q : Fin 8) (i j : Fin 2048) : EReal :=
  ∑ k : Fin 768, A (ix2 i (deep q k)) * B (ix2 j (deep q k))

/-- The same, of the two arguments, with the block given as a number. -/
def part (q : ℕ) (i j : Fin 2048) : EReal :=
  if h : q < 8 then slab (m ((c : Thread nD τ).loc main_arg1)) (m ((c : Thread nD τ).loc main_arg0)) ⟨q, h⟩ i j else 0

theorem point (t : Fin cfg0.N) (acc : Vec Ideal S1024x1024 .f32) (i j : Fin 1024) :
    k0_pay2 acc (iblk m c 0 t) (iblk m c 1 t) (ix2 i j) = acc (ix2 i j) + part m c (t.val % 8) (rowOf t i) (colOf t j) := by
  refine (pay2_apply _ _ _ i j).trans (congrArg (acc (ix2 i j) + ·) ?_)
  unfold part
  rw [dif_pos (by omega)]
  exact Finset.sum_congr rfl fun k _ => congrArg₂ _ (block0 m c t i k) (block1 m c t j k)

/-- Before the last, the accumulator holds the parts met so far. -/
theorem held (n : ℕ) : ∀ t : Fin cfg0.N, t.val % 8 = n → n < 7 → ∀ i j : Fin 1024,
    (outsAt0 m c t.val t.isLt).2 (ix2 i j) = ∑ q ∈ Finset.range (n + 1), part m c q (rowOf t i) (colOf t j) := by
  induction n with
  | zero =>
    intro t h _ i j
    rw [outsAt0_A m c t h (by omega)]
    dsimp only
    rw [first]
    refine (point m c t _ i j).trans ?_
    rw [pay1_apply, h, zero_add, zero_add, Finset.sum_range_one]
  | succ n ih =>
    intro t h hn i j
    have b : t.val - 1 < cfg0.N := Nat.lt_of_le_of_lt (Nat.sub_le _ _) t.isLt
    have e := ih ⟨t.val - 1, b⟩ (by dsimp only; omega) (by omega) i j
    have r : rowOf ⟨t.val - 1, b⟩ i = rowOf t i := Fin.ext (by simp only [rowOf]; omega)
    have s : colOf ⟨t.val - 1, b⟩ j = colOf t j := Fin.ext (by simp only [colOf]; omega)
    rw [r, s] at e
    rw [outsAt0_B m c t (by omega) (by omega)]
    dsimp only
    rw [middle]
    refine (point m c t _ i j).trans ?_
    rw [h, Finset.sum_range_succ _ (n + 1)]
    exact congrArg (· + part m c (n + 1) (rowOf t i) (colOf t j)) e

/-- The parts together are the product. -/
theorem parts (i j : Fin 2048) : ∑ q ∈ Finset.range 8, part m c q i j = product (m ((c : Thread nD τ).loc main_arg1)) (m ((c : Thread nD τ).loc main_arg0)) i j := by
  rw [Finset.sum_range]
  unfold product
  rw [sum_blocks]
  refine Finset.sum_congr rfl fun q _ => ?_
  unfold part
  rw [dif_pos q.isLt]
  rfl

/-- What is written back is the whole sum. -/
theorem swept (t : Fin cfg0.N) (h : t.val % 8 = 7) (i j : Fin 1024) :
    (outsAt0 m c t.val t.isLt).1 (ix2 i j) = total (m ((c : Thread nD τ).loc main_arg1)) (m ((c : Thread nD τ).loc main_arg0)) (m ((c : Thread nD τ).loc main_arg2)) (rowOf t i) (colOf t j) := by
  have b : t.val - 1 < cfg0.N := Nat.lt_of_le_of_lt (Nat.sub_le _ _) t.isLt
  have e := held m c 6 ⟨t.val - 1, b⟩ (by dsimp only; omega) (by omega) i j
  have r : rowOf ⟨t.val - 1, b⟩ i = rowOf t i := Fin.ext (by simp only [rowOf]; omega)
  have s : colOf ⟨t.val - 1, b⟩ j = colOf t j := Fin.ext (by simp only [colOf]; omega)
  rw [r, s] at e
  rw [outsAt0_C m c t (by omega) h]
  dsimp only
  rw [last]
  refine (pay3_apply _ _ i j).trans ?_
  unfold total
  refine congrArg₂ (· + ·) ?_ (block2 m c t i j)
  refine (point m c t _ i j).trans ?_
  rw [← parts, h, Finset.sum_range_succ _ 7]
  exact congrArg (· + part m c 7 (rowOf t i) (colOf t j)) e

/-- The array after the run is that sum everywhere. -/
theorem array3 : (dats m 0 c).arrAt 3 cfg0.N = fun y => total (m ((c : Thread nD τ).loc main_arg1)) (m ((c : Thread nD τ).loc main_arg0)) (m ((c : Thread nD τ).loc main_arg2)) (y 0) (y 1) := by
  refine (dats m 0 c).arrAt_eq_of_covers 3 _ (by decide +kernel) fun t hf y => ?_
  rw [after0_3]
  obtain ⟨i, j, rfl⟩ : ∃ (i : Fin 1024) (j : Fin 1024), y = ix2 i j := ⟨y 0, y 1, eq_ix2 y⟩
  have e : (win0_3.blk t).view.emb (ix2 i j) = ix2 (rowOf t i) (colOf t j) := by
    blk_ext [index3 t] <;> simp [index3 t, rowOf, colOf]
  refine (swept m c t (flush3 t hf) i j).trans ?_
  blk_simp
  rw [e]
  rfl

end Cert.GateInGradIdeal.Product

/-! ## The reference -/

namespace Cert.GateInGradReferenceIdeal.Product

open Cert.GateInGradReferenceIdeal Cert.GateInGradReferenceIdeal.Gen Cert.GateInGradReferenceIdeal.Read Idealize.ShloMosaic Idealize.ShloMosaic.TcCoe Idealize.SL.Sem

theorem main_v2_product (B A : (⟨S2048x6144, .f32⟩ : BufTy).Contents (Elt Ideal)) (i j : Fin 2048) :
    val_main_v2 (F := Ideal) B A (ix2 i j) = Cert.GateInGradIdeal.Product.product A B i j := by
  rw [val_main_v2_apply]
  unfold Cert.GateInGradIdeal.Product.product
  refine Finset.sum_congr rfl fun k _ => ?_
  exact congrArg₂ _ (congrArg A (funext fun a => by fin_cases a <;> rfl)) (congrArg B (funext fun a => by fin_cases a <;> rfl))

theorem result (B A : (⟨S2048x6144, .f32⟩ : BufTy).Contents (Elt Ideal)) (C : (⟨S2048x2048, .f32⟩ : BufTy).Contents (Elt Ideal)) :
    val_main_v3 (F := Ideal) B A C = fun y => Cert.GateInGradIdeal.Product.total A B C (y 0) (y 1) := by
  funext y
  obtain ⟨i, j, rfl⟩ : ∃ (i : Fin 2048) (j : Fin 2048), y = ix2 i j := ⟨y 0, y 1, eq_ix2 y⟩
  rw [val_main_v3_apply]
  show C (ix2 i j) + val_main_v2 (F := Ideal) B A (ix2 i j) = _
  rw [main_v2_product, add_comm]
  rfl

end Cert.GateInGradReferenceIdeal.Product

/-! ## The claims -/

namespace Cert.Proof.GateInGrad

open Idealize.ShloMosaic Idealize.ShloMosaic.TcCoe Idealize.SL.Sem

/-- The reference runs, leaves its arguments as they were, and declares no semaphore. -/
theorem frame_reference : Cert.quiescent_GateInGradReferenceIdeal := by
  intro m ρ _
  exact (θ_run Cert.GateInGradReferenceIdeal.defs _ _).mono (fun r h => ⟨fun c => (h c).2,
      Idealize.ShloMosaic.sem_eq_zero_of_no_sems (by decide) r.2⟩)
    (Cert.GateInGradReferenceIdeal.Value.run (F := Ideal) m ρ)

/-- The kernel and the reference compute the same sum, of any arguments. -/
theorem algebraic : Cert.algebraic_GateInGradIdeal_GateInGradReferenceIdeal := by
  intro m ρ m' ρ' _ agree
  refine ⟨fun c y => Cert.GateInGradIdeal.Product.total (m ((c.tc : Thread Cert.GateInGradIdeal.nD Cert.GateInGradIdeal.τ).loc Cert.GateInGradIdeal.main_arg1)) (m ((c.tc : Thread Cert.GateInGradIdeal.nD Cert.GateInGradIdeal.τ).loc Cert.GateInGradIdeal.main_arg0)) (m ((c.tc : Thread Cert.GateInGradIdeal.nD Cert.GateInGradIdeal.τ).loc Cert.GateInGradIdeal.main_arg2)) (y 0) (y 1), ?_, ?_⟩
  · exact (θ_run Cert.GateInGradIdeal.defs _ _).mono (fun _ h c => ⟨(h c).1.trans (Cert.GateInGradIdeal.Product.array3 m c), (h c).2⟩)
      (Cert.GateInGradIdeal.Value.run_blocks m ρ)
  · exact (θ_run Cert.GateInGradReferenceIdeal.defs _ _).mono (fun _ h c => ⟨(h c).1.trans ((Cert.GateInGradReferenceIdeal.Read.val_main_v3_eq _ _ _).trans
        ((Cert.GateInGradReferenceIdeal.Product.result _ _ _).trans (by rw [(agree c).1, (agree c).2.1, (agree c).2.2]; rfl))), (h c).2⟩)
      (Cert.GateInGradReferenceIdeal.Value.run (F := Ideal) m' ρ')

end Cert.Proof.GateInGrad

end
-- ==== Proof.XGrad.lean ====
/-
  The gradient into the layer's input, `dproj · w_inᵀ`, added to the scaled one that goes past the branches: the contracted axis of 11776 is
  walked in twenty-three blocks of 512; the first grid point of a result block clears the accumulator, each adds its partial
  product, and the last writes the accumulator out. The last also adds the array given with it, scaled. The reference computes the product at once.
-/
module

public import proofs.«01_k».proof.Defs
public import proofs.«01_k».proof.Proof.Gen.XGradIdeal.Value
public import proofs.«01_k».proof.Proof.Gen.XGradReferenceIdeal
public import proofs.«01_k».proof.Proof.Gen.XGradReferenceIdeal.Run
public import proofs.«01_k».proof.Proof.Gen.XGradReferenceIdeal.Read
public import proofs.«01_k».proof.Proof.Gen.XGrad.Frame
public import Idealize.ShloMosaic.Lib.Pointwise
public import Idealize.ShloMosaic.Lib.Pipeline.ValueKit
public import Idealize.ShloMosaic.Lib.StableHlo.ReadAt
public import Idealize.ShloMosaic.Lib.Tactic

@[expose] public section

set_option maxRecDepth 16384

noncomputable section

/-! ## The kernel -/

namespace Cert.XGradIdeal.Product

open Cert.XGradIdeal Cert.XGradIdeal.Gen Idealize.ShloMosaic Idealize.ShloMosaic.TcCoe Idealize.SL.Sem

/-- The product at row `i` and column `j`: the sum over the contracted axis. -/
def product (A : S2048x11776.Idx → EReal) (B : S2048x11776.Idx → EReal) (i j : Fin 2048) : EReal :=
  ∑ k : Fin 11776, A (ix2 i k) * B (ix2 j k)

/-- The scale of the way past the branches, `2 ^ (1/4)` as its float word has it. -/
def scale : EReal := FloatOps.ofBits (F := Ideal) (φ := .f32) 0x3F9837F0#32

/-- The result: the product and the scaled array added to it. -/
def total (A : S2048x11776.Idx → EReal) (B : S2048x11776.Idx → EReal) (C : S2048x2048.Idx → EReal) (i j : Fin 2048) : EReal :=
  product A B i j + scale * C (ix2 i j)

/-- Position `k` of block `q` of the contracted axis. -/
def deep (q : Fin 23) (k : Fin 512) : Fin 11776 := ⟨q.val * 512 + k.val, by omega⟩

/-- A sum over the contracted axis is the sum of its blocks' sums. -/
theorem sum_blocks (f : Fin 11776 → EReal) : ∑ k, f k = ∑ q : Fin 23, ∑ k : Fin 512, f (deep q k) := by
  rw [← Fintype.sum_prod_type' (fun q k => f (deep q k))]
  exact (Fintype.sum_equiv (finProdFinEquiv (m := 23) (n := 512)) _ _ fun p => congrArg f (Fin.ext (by
    simp only [deep, finProdFinEquiv_apply_val]; omega))).symm

theorem pay1_apply (y : S1024x1024.Idx) : k0_pay1 (F := Ideal) y = 0 := by
  unfold k0_pay1
  pointwise

theorem pay2_apply (acc : Vec Ideal S1024x1024 .f32) (x : Vec Ideal S1024x512 .bf16) (w : Vec Ideal S512x1024 .bf16)
    (i j : Fin 1024) : k0_pay2 acc x w (ix2 i j) = acc (ix2 i j) + ∑ k : Fin 512, x (ix2 i k) * w (ix2 k j) := by
  unfold k0_pay2
  pointwise

theorem pay3_apply (acc z : Vec Ideal S1024x1024 .f32) (i j : Fin 1024) :
    k0_pay3 acc z (ix2 i j) = acc (ix2 i j) + scale * z (ix2 i j) := rfl

theorem hz : (![0, 0] : Fin 2 → ℕ) = fun _ => 0 := funext fun a => by fin_cases a <;> rfl

/-! ### What each kind of grid point leaves: the stores' payloads -/

section Cases

variable (c : Dev nD) (i : grid0.Coords)
  (a3 : Memref sig .tc .vmem S1024x512 .bf16) (h3 : a3.IsWhole)
  (a4 : Memref sig .tc .vmem S512x1024 .bf16) (h4 : a4.IsWhole)
  (a5 : Memref sig .tc .vmem S1024x1024 .f32) (h5 : a5.IsWhole)
  (a6 : Memref sig .tc .vmem S1024x1024 .f32) (h6 : a6.IsWhole)
  (a7 : Memref sig .tc .vmem S1024x1024 .f32) (h7 : a7.IsWhole)
  (x : Vec Ideal S1024x512 .bf16) (w : Vec Ideal S512x1024 .bf16) (z : Vec Ideal S1024x1024 .f32) (acc : Vec Ideal S1024x1024 .f32)

/-- The first clears the accumulator and adds its product. -/
theorem first (hc0 : cond0_0 i) (hc1 : ¬cond0_1 i) : sout0_A_0 c i a3 h3 a4 h4 a5 h5 a6 h6 a7 h7 hc0 hc1 x w z = k0_pay2 k0_pay1 x w := by
  unfold sout0_A_0
  rw [View.read_writes_eq_canon _ _ _ (scover0_A_0 c i a3 h3 a4 h4 a5 h5 a6 h6 a7 h7 hc0 hc1 x w z)]
  unfold kernelRun0_A
  dsimp only
  sl_unfold_words
  rw [View.canon_cons_unit_zero (S := S1024x1024) hz, View.readCov_unit_zero (S := S1024x1024) _ hz]
  simp only [View.readAt_eq_ld, h3.read_unread, h4.read_unread, h5.read_unread, h7.read_unread, View.ld_unit_zero (S := S1024x512) hz, View.ld_unit_zero (S := S512x1024) hz, View.ld_unit_zero (S := S1024x1024) hz]

/-- One between the first and the last adds its product. -/
theorem middle (hc0 : ¬cond0_0 i) (hc1 : ¬cond0_1 i) : sout0_B_0 c i a3 h3 a4 h4 a5 h5 a6 h6 a7 h7 hc0 hc1 x w z acc = k0_pay2 acc x w := by
  unfold sout0_B_0
  rw [View.read_writes_eq_canon _ _ _ (scover0_B_0 c i a3 h3 a4 h4 a5 h5 a6 h6 a7 h7 hc0 hc1 x w z acc)]
  unfold kernelRun0_B
  dsimp only
  rw [View.canon_unit_zero hz]
  simp only [View.readAt_eq_ld, h3.read_unread, h4.read_unread, h5.read_unread, h7.read_unread, View.ld_unit_zero (S := S1024x512) hz, View.ld_unit_zero (S := S512x1024) hz, View.ld_unit_zero (S := S1024x1024) hz]

/-- The last adds its product and writes the result out. -/
theorem last (hc0 : ¬cond0_0 i) (hc1 : cond0_1 i) : out0_C_3 c i a3 h3 a4 h4 a5 h5 a6 h6 a7 h7 hc0 hc1 x w z acc = k0_pay3 (k0_pay2 acc x w) z := by
  unfold out0_C_3
  rw [View.read_writes_eq_canon _ _ _ (cover0_C_3 c i a3 h3 a4 h4 a5 h5 a6 h6 a7 h7 hc0 hc1 x w z acc)]
  unfold kernelRun0_C
  dsimp only
  sl_unfold_words
  rw [View.canon_unit_zero hz, View.readCov_unit_zero (S := S1024x1024) _ hz]
  simp only [View.readAt_eq_ld, h3.read_unread, h4.read_unread, h5.read_unread, h7.read_unread, View.ld_unit_zero (S := S1024x512) hz, View.ld_unit_zero (S := S512x1024) hz, View.ld_unit_zero (S := S1024x1024) hz]

end Cases

/-! ### The blocks -/

theorem index0 : ∀ t : Fin cfg0.N, win0_0.index t = ![t.val / 46, t.val % 23] := by decide +kernel
theorem index1 : ∀ t : Fin cfg0.N, win0_1.index t = ![t.val % 23, t.val / 23 % 2] := by decide +kernel
theorem index2 : ∀ t : Fin cfg0.N, win0_2.index t = ![t.val / 46, t.val / 23 % 2] := by decide +kernel
theorem index3 : ∀ t : Fin cfg0.N, win0_3.index t = ![t.val / 46, t.val / 23 % 2] := by decide +kernel
theorem flush3 : ∀ t : Fin cfg0.N, (cfg0.win 3).flush t = true → t.val % 23 = 22 := by decide +kernel

variable (m : (ℓ : Loc nD τ sig) → Buf (Elt Ideal) ℓ) (c : Dev nD)

/-- Row `i` of the block of rows of a grid point, in the whole array. -/
def rowOf (t : Fin cfg0.N) (i : Fin 1024) : Fin 2048 := ⟨t.val / 46 * 1024 + i.val, by have := t.isLt; have e : cfg0.N = 92 := N_0; omega⟩

/-- Column `j` of its block of columns. -/
def colOf (t : Fin cfg0.N) (j : Fin 1024) : Fin 2048 := ⟨t.val / 23 % 2 * 1024 + j.val, by omega⟩

/-- Its block of the contracted axis. -/
def stepOf (t : Fin cfg0.N) : Fin 23 := ⟨t.val % 23, by omega⟩

theorem left (i : Fin 2048) (k : Fin 11776) : V m c main_v0 (ix2 i k) = m ((c : Thread nD τ).loc main_arg1) (ix2 i k) := by
  unfold V
  after_reads_at

theorem right (j : Fin 2048) (k : Fin 11776) : V m c main_v2 (ix2 k j) = m ((c : Thread nD τ).loc main_arg0) (ix2 j k) := by
  unfold V
  after_reads_at

theorem block0 (t : Fin cfg0.N) (i : Fin 1024) (k : Fin 512) : iblk m c 0 t (ix2 i k) = m ((c : Thread nD τ).loc main_arg1) (ix2 (rowOf t i) (deep (stepOf t) k)) := by
  refine Eq.trans ?_ (left m c (rowOf t i) (deep (stepOf t) k))
  blk_ext [iblk, index0 t] <;> simp [index0 t, rowOf, deep, stepOf]

theorem block1 (t : Fin cfg0.N) (j : Fin 1024) (k : Fin 512) : iblk m c 1 t (ix2 k j) = m ((c : Thread nD τ).loc main_arg0) (ix2 (colOf t j) (deep (stepOf t) k)) := by
  refine Eq.trans ?_ (right m c (colOf t j) (deep (stepOf t) k))
  blk_ext [iblk, index1 t] <;> simp [index1 t, colOf, deep, stepOf]

theorem block2 (t : Fin cfg0.N) (i j : Fin 1024) : iblk m c 2 t (ix2 i j) = m ((c : Thread nD τ).loc main_arg2) (ix2 (rowOf t i) (colOf t j)) := by
  have h : V m c main_arg2 (ix2 (rowOf t i) (colOf t j)) = m ((c : Thread nD τ).loc main_arg2) (ix2 (rowOf t i) (colOf t j)) := by
    unfold V
    after_reads_at
  refine Eq.trans ?_ h
  blk_ext [iblk, index2 t] <;> simp [index2 t, rowOf, colOf]

/-- One grid point's part of the sum. -/
def slab (A : S2048x11776.Idx → EReal) (B : S2048x11776.Idx → EReal) (q : Fin 23) (i j : Fin 2048) : EReal :=
  ∑ k : Fin 512, A (ix2 i (deep q k)) * B (ix2 j (deep q k))

/-- The same, of the two arguments, with the block given as a number. -/
def part (q : ℕ) (i j : Fin 2048) : EReal :=
  if h : q < 23 then slab (m ((c : Thread nD τ).loc main_arg1)) (m ((c : Thread nD τ).loc main_arg0)) ⟨q, h⟩ i j else 0

theorem point (t : Fin cfg0.N) (acc : Vec Ideal S1024x1024 .f32) (i j : Fin 1024) :
    k0_pay2 acc (iblk m c 0 t) (iblk m c 1 t) (ix2 i j) = acc (ix2 i j) + part m c (t.val % 23) (rowOf t i) (colOf t j) := by
  refine (pay2_apply _ _ _ i j).trans (congrArg (acc (ix2 i j) + ·) ?_)
  unfold part
  rw [dif_pos (by omega)]
  exact Finset.sum_congr rfl fun k _ => congrArg₂ _ (block0 m c t i k) (block1 m c t j k)

/-- Before the last, the accumulator holds the parts met so far. -/
theorem held (n : ℕ) : ∀ t : Fin cfg0.N, t.val % 23 = n → n < 22 → ∀ i j : Fin 1024,
    (outsAt0 m c t.val t.isLt).2 (ix2 i j) = ∑ q ∈ Finset.range (n + 1), part m c q (rowOf t i) (colOf t j) := by
  induction n with
  | zero =>
    intro t h _ i j
    rw [outsAt0_A m c t h (by omega)]
    dsimp only
    rw [first]
    refine (point m c t _ i j).trans ?_
    rw [pay1_apply, h, zero_add, zero_add, Finset.sum_range_one]
  | succ n ih =>
    intro t h hn i j
    have b : t.val - 1 < cfg0.N := Nat.lt_of_le_of_lt (Nat.sub_le _ _) t.isLt
    have e := ih ⟨t.val - 1, b⟩ (by dsimp only; omega) (by omega) i j
    have r : rowOf ⟨t.val - 1, b⟩ i = rowOf t i := Fin.ext (by simp only [rowOf]; omega)
    have s : colOf ⟨t.val - 1, b⟩ j = colOf t j := Fin.ext (by simp only [colOf]; omega)
    rw [r, s] at e
    rw [outsAt0_B m c t (by omega) (by omega)]
    dsimp only
    rw [middle]
    refine (point m c t _ i j).trans ?_
    rw [h, Finset.sum_range_succ _ (n + 1)]
    exact congrArg (· + part m c (n + 1) (rowOf t i) (colOf t j)) e

/-- The parts together are the product. -/
theorem parts (i j : Fin 2048) : ∑ q ∈ Finset.range 23, part m c q i j = product (m ((c : Thread nD τ).loc main_arg1)) (m ((c : Thread nD τ).loc main_arg0)) i j := by
  rw [Finset.sum_range]
  unfold product
  rw [sum_blocks]
  refine Finset.sum_congr rfl fun q _ => ?_
  unfold part
  rw [dif_pos q.isLt]
  rfl

/-- What is written back is the whole sum. -/
theorem swept (t : Fin cfg0.N) (h : t.val % 23 = 22) (i j : Fin 1024) :
    (outsAt0 m c t.val t.isLt).1 (ix2 i j) = total (m ((c : Thread nD τ).loc main_arg1)) (m ((c : Thread nD τ).loc main_arg0)) (m ((c : Thread nD τ).loc main_arg2)) (rowOf t i) (colOf t j) := by
  have b : t.val - 1 < cfg0.N := Nat.lt_of_le_of_lt (Nat.sub_le _ _) t.isLt
  have e := held m c 21 ⟨t.val - 1, b⟩ (by dsimp only; omega) (by omega) i j
  have r : rowOf ⟨t.val - 1, b⟩ i = rowOf t i := Fin.ext (by simp only [rowOf]; omega)
  have s : colOf ⟨t.val - 1, b⟩ j = colOf t j := Fin.ext (by simp only [colOf]; omega)
  rw [r, s] at e
  rw [outsAt0_C m c t (by omega) h]
  dsimp only
  rw [last]
  refine (pay3_apply _ _ i j).trans ?_
  unfold total
  refine congrArg₂ (· + ·) ?_ (congrArg (scale * ·) (block2 m c t i j))
  refine (point m c t _ i j).trans ?_
  rw [← parts, h, Finset.sum_range_succ _ 22]
  exact congrArg (· + part m c 22 (rowOf t i) (colOf t j)) e

/-- The array after the run is that sum everywhere. -/
theorem array3 : (dats m 0 c).arrAt 3 cfg0.N = fun y => total (m ((c : Thread nD τ).loc main_arg1)) (m ((c : Thread nD τ).loc main_arg0)) (m ((c : Thread nD τ).loc main_arg2)) (y 0) (y 1) := by
  refine (dats m 0 c).arrAt_eq_of_covers 3 _ (by decide +kernel) fun t hf y => ?_
  rw [after0_3]
  obtain ⟨i, j, rfl⟩ : ∃ (i : Fin 1024) (j : Fin 1024), y = ix2 i j := ⟨y 0, y 1, eq_ix2 y⟩
  have e : (win0_3.blk t).view.emb (ix2 i j) = ix2 (rowOf t i) (colOf t j) := by
    blk_ext [index3 t] <;> simp [index3 t, rowOf, colOf]
  refine (swept m c t (flush3 t hf) i j).trans ?_
  blk_simp
  rw [e]
  rfl

end Cert.XGradIdeal.Product

/-! ## The reference -/

namespace Cert.XGradReferenceIdeal.Product

open Cert.XGradReferenceIdeal Cert.XGradReferenceIdeal.Gen Cert.XGradReferenceIdeal.Read Idealize.ShloMosaic Idealize.ShloMosaic.TcCoe Idealize.SL.Sem

theorem main_v4_product (B A : (⟨S2048x11776, .f32⟩ : BufTy).Contents (Elt Ideal)) (i j : Fin 2048) :
    val_main_v4 (F := Ideal) B A (ix2 i j) = Cert.XGradIdeal.Product.product A B i j := by
  rw [val_main_v4_apply]
  unfold Cert.XGradIdeal.Product.product
  refine Finset.sum_congr rfl fun k _ => ?_
  exact congrArg₂ _ (congrArg A (funext fun a => by fin_cases a <;> rfl)) (congrArg B (funext fun a => by fin_cases a <;> rfl))

theorem result (B A : (⟨S2048x11776, .f32⟩ : BufTy).Contents (Elt Ideal)) (C : (⟨S2048x2048, .f32⟩ : BufTy).Contents (Elt Ideal)) :
    val_main_v5 (F := Ideal) B A C = fun y => Cert.XGradIdeal.Product.total A B C (y 0) (y 1) := by
  funext y
  obtain ⟨i, j, rfl⟩ : ∃ (i : Fin 2048) (j : Fin 2048), y = ix2 i j := ⟨y 0, y 1, eq_ix2 y⟩
  rw [val_main_v5_apply]
  show val_main_v1 (F := Ideal) C (ix2 i j) + val_main_v4 (F := Ideal) B A (ix2 i j) = _
  rw [main_v4_product, add_comm, val_main_v1_apply, val_main_v0_apply]
  rfl

end Cert.XGradReferenceIdeal.Product

/-! ## The claims -/

namespace Cert.Proof.XGrad

open Idealize.ShloMosaic Idealize.ShloMosaic.TcCoe Idealize.SL.Sem

/-- The reference runs, leaves its arguments as they were, and declares no semaphore. -/
theorem frame_reference : Cert.quiescent_XGradReferenceIdeal := by
  intro m ρ _
  exact (θ_run Cert.XGradReferenceIdeal.defs _ _).mono (fun r h => ⟨fun c => (h c).2,
      Idealize.ShloMosaic.sem_eq_zero_of_no_sems (by decide) r.2⟩)
    (Cert.XGradReferenceIdeal.Value.run (F := Ideal) m ρ)

/-- The kernel and the reference compute the same sum, of any arguments. -/
theorem algebraic : Cert.algebraic_XGradIdeal_XGradReferenceIdeal := by
  intro m ρ m' ρ' _ agree
  refine ⟨fun c y => Cert.XGradIdeal.Product.total (m ((c.tc : Thread Cert.XGradIdeal.nD Cert.XGradIdeal.τ).loc Cert.XGradIdeal.main_arg1)) (m ((c.tc : Thread Cert.XGradIdeal.nD Cert.XGradIdeal.τ).loc Cert.XGradIdeal.main_arg0)) (m ((c.tc : Thread Cert.XGradIdeal.nD Cert.XGradIdeal.τ).loc Cert.XGradIdeal.main_arg2)) (y 0) (y 1), ?_, ?_⟩
  · exact (θ_run Cert.XGradIdeal.defs _ _).mono (fun _ h c => ⟨(h c).1.trans (Cert.XGradIdeal.Product.array3 m c), (h c).2⟩)
      (Cert.XGradIdeal.Value.run_blocks m ρ)
  · exact (θ_run Cert.XGradReferenceIdeal.defs _ _).mono (fun _ h c => ⟨(h c).1.trans ((Cert.XGradReferenceIdeal.Read.val_main_v5_eq _ _ _).trans
        ((Cert.XGradReferenceIdeal.Product.result _ _ _).trans (by rw [(agree c).1, (agree c).2.1, (agree c).2.2]; rfl))), (h c).2⟩)
      (Cert.XGradReferenceIdeal.Value.run (F := Ideal) m' ρ')

end Cert.Proof.XGrad

end
-- ==== Proof.NormReal.lean ====
/-
  Layer normalisation of one row and its gradient over the real numbers, and the constants of the two programs that speak of it.
  A row here is the residual sum `pre`; its gradient is given twice, as the closed form `back` and as the chain rule through mean and variance.
-/
module

public import proofs.«01_k».proof.Proof.Consts

@[expose] public section

noncomputable section

namespace Cert.Norm

open Idealize.ShloMosaic

/-- The weight of the residual and the number added to the variance, as their float words have them. -/
def alpha : ℝ := 9975792 / 8388608
def eps : ℝ := 10995116 / 1099511627776

theorem w_alpha : Ideal.ofBits FTy.f32 0x3F9837F0#32 = (alpha : EReal) := by
  unfold alpha
  simp [Ideal.ofBits, Ideal.ieee, -EReal.coe_mul]
  norm_num

theorem w_eps : Ideal.ofBits FTy.f32 0x3727C5AC#32 = (eps : EReal) := by
  unfold eps
  simp [Ideal.ofBits, Ideal.ieee, -EReal.coe_mul]
  norm_num

theorem w_2048 : Ideal.ofBits FTy.f32 0x45000000#32 = ((2048 : ℝ) : EReal) := by
  simp [Ideal.ofBits, Ideal.ieee, -EReal.coe_mul]
  norm_num

theorem w_per_2048 : Ideal.ofBits FTy.f32 0x3A000000#32 = ((1 / 2048 : ℝ) : EReal) := by
  simp [Ideal.ofBits, Ideal.ieee, -EReal.coe_mul]
  norm_num

theorem w_per_4096 : Ideal.ofBits FTy.f32 0x39800000#32 = ((1 / 4096 : ℝ) : EReal) := by
  simp [Ideal.ofBits, Ideal.ieee, -EReal.coe_mul]
  norm_num

theorem w_half : Ideal.ofBits FTy.f32 0x3F000000#32 = ((1 / 2 : ℝ) : EReal) := by
  simp [Ideal.ofBits, Ideal.ieee, -EReal.coe_mul]
  norm_num

theorem w_neg_half : Ideal.ofBits FTy.f32 0xBF000000#32 = ((-(1 / 2) : ℝ) : EReal) := by
  simp [Ideal.ofBits, Ideal.ieee, -EReal.coe_mul]
  norm_num

theorem coe_sum {ι : Type} [Fintype ι] (f : ι → ℝ) : ((∑ k, f k : ℝ) : EReal) = ∑ k, (f k : EReal) :=
  map_sum (⟨⟨Real.toEReal, EReal.coe_zero⟩, EReal.coe_add⟩ : ℝ →+ EReal) f Finset.univ

theorem div_2048 (r : ℝ) : Ideal.div (r : EReal) ((2048 : ℝ) : EReal) = ((r * (1 / 2048) : ℝ) : EReal) := by
  rw [Ideal.div_coe (by norm_num), ← EReal.coe_mul]

abbrev Row := Fin 2048 → ℝ

/-- The sum that is normalised. -/
def pre (u v : Row) : Row := fun d => alpha * u d + v d

def mean (p : Row) : ℝ := (∑ d, p d) * (1 / 2048)

def cen (p : Row) : Row := fun d => p d - mean p

def var (p : Row) : ℝ := (∑ d, cen p d * cen p d) * (1 / 2048)

/-- One over the square root of the variance. -/
def rstd (p : Row) : ℝ := (Real.sqrt (var p + eps))⁻¹

def hat (p : Row) : Row := fun d => cen p d * rstd p

/-- What the normalised row misses its target by. -/
def err (p g b y : Row) : Row := fun d => hat p d * g d + b d - y d

/-- The gradient of the loss with respect to the normalised row. -/
def slope (p g b y : Row) : Row := fun d => err p g b y d * (1 / 2048)

/-- The gradient through the scale. -/
def scaled (p g b y : Row) : Row := fun d => slope p g b y d * g d

/-- The gradient of a row from the gradient `q` of its normalised form. -/
def back (p q : Row) : Row := fun d => rstd p * (q d - mean q - hat p d * mean fun e => q e * hat p e)

theorem var_pos (p : Row) : 0 < var p + eps := by
  have h : 0 ≤ var p := mul_nonneg (Finset.sum_nonneg fun d _ => mul_self_nonneg _) (by norm_num)
  have e : 0 < eps := by unfold eps; norm_num
  linarith

theorem rsqrt_var (p : Row) : Ideal.rsqrt ((var p + eps : ℝ) : EReal) = (rstd p : EReal) := by
  have h := var_pos p
  rw [Ideal.rsqrt_coe, if_neg (by linarith), if_neg h.ne']
  rfl

theorem rstd_sq (p : Row) : 1 / (var p + eps) = rstd p * rstd p := by
  unfold rstd
  rw [← mul_inv, Real.mul_self_sqrt (var_pos p).le, one_div]

theorem sum_cen (p : Row) : ∑ d, cen p d = 0 := by
  unfold cen mean
  rw [Finset.sum_sub_distrib, Finset.sum_const, Finset.card_univ, Fintype.card_fin, nsmul_eq_mul]
  push_cast
  ring

/-- The part of the chain rule that goes through the variance. -/
def through (p q : Row) : ℝ := (∑ d, cen p d * q d) * (-(1 / 2) * (rstd p * (1 / (var p + eps)))) * (1 / 2048)

/-- The chain rule: directly, through the variance, and through the mean, which both of those depend on. -/
def chain (p q : Row) : Row := fun d =>
  q d * rstd p + through p q * (2 * cen p d) + (∑ e, -(q e * rstd p) + ∑ e, -(through p q * (2 * cen p e))) * (1 / 2048)

/-- The two gradients are one. -/
theorem chain_eq (p q : Row) (d : Fin 2048) : chain p q d = back p q d := by
  have e0 : ∑ e, -(through p q * (2 * cen p e)) = 0 := by
    rw [Finset.sum_neg_distrib, ← Finset.mul_sum, ← Finset.mul_sum, sum_cen]
    ring
  have e1 : ∑ e, -(q e * rstd p) = -((∑ e, q e) * rstd p) := by
    rw [Finset.sum_neg_distrib, ← Finset.sum_mul]
  have e2 : ∑ e, q e * hat p e = (∑ e, cen p e * q e) * rstd p := by
    rw [Finset.sum_mul]
    exact Finset.sum_congr rfl fun e _ => by unfold hat; ring
  unfold chain back
  rw [e0, e1]
  simp only [mean, e2, through, rstd_sq]
  unfold hat
  ring

end Cert.Norm

end
-- ==== Proof.NormKernel.lean ====
/-
  The loss and its gradient through the last normalisation: what the call leaves, block of rows by block of rows, and after its eight grid points.
-/
module

public import proofs.«01_k».proof.Proof.NormReal
public import proofs.«01_k».proof.Proof.Gen.NormGradIdeal
public import proofs.«01_k».proof.Proof.Gen.NormGradIdeal.Frame
public import proofs.«01_k».proof.Proof.Gen.NormGradIdeal.Value
public import Idealize.ShloMosaic.Lib.Pointwise
public import Idealize.ShloMosaic.Lib.Pipeline.ValueKit
public import Idealize.ShloMosaic.Lib.StableHlo.ReadAt
public import Idealize.ShloMosaic.Lib.Tactic

@[expose] public section

set_option maxRecDepth 16384

noncomputable section

namespace Cert.NormGradIdeal.Value

open Cert.Norm Cert.NormGradIdeal Cert.NormGradIdeal.Gen Idealize.ShloMosaic Idealize.ShloMosaic.TcCoe Idealize.SL.Sem

/-! ### The payloads, of blocks that hold real numbers -/

section Payloads

variable {X F : Vec Ideal S256x2048 .f32} {G B : Vec Ideal S1x2048 .f32} {Y : Vec Ideal S256x2048 .f32}
  {x f y : Fin 256 → Row} {g b : Row}
  (hx : ∀ i d, X (ix2 i d) = (x i d : EReal)) (hf : ∀ i d, F (ix2 i d) = (f i d : EReal))
  (hg : ∀ d, G (ix2 (0 : Fin 1) d) = (g d : EReal)) (hb : ∀ d, B (ix2 (0 : Fin 1) d) = (b d : EReal)) (hy : ∀ i d, Y (ix2 i d) = (y i d : EReal))

include hx hf

theorem pay5_apply (i : Fin 256) (d : Fin 2048) : k0_pay5 X F (ix2 i d) = (cen (pre (x i) (f i)) d : EReal) := by
  unfold k0_pay5
  pointwise
  simp only [hx, hf, w_alpha, w_2048, ← EReal.coe_mul, ← EReal.coe_add, ← coe_sum, div_2048, ← EReal.coe_sub]
  rfl

theorem pay6_apply (i : Fin 256) (z : Fin 1) : k0_pay6 X F (ix2 i z) = (rstd (pre (x i) (f i)) : EReal) := by
  unfold k0_pay6
  pointwise
  simp only [pay5_apply hx hf, w_eps, w_2048, ← EReal.coe_mul, ← coe_sum, div_2048, ← EReal.coe_add]
  exact rsqrt_var _

theorem pay7_apply (i : Fin 256) (d : Fin 2048) : k0_pay7 X F (ix2 i d) = (hat (pre (x i) (f i)) d : EReal) := by
  unfold k0_pay7
  pointwise
  rw [pay5_apply hx hf, pay6_apply hx hf, ← EReal.coe_mul]
  rfl

include hg hb hy

theorem pay8_apply (i : Fin 256) (d : Fin 2048) : k0_pay8 X F G B Y (ix2 i d) = (err (pre (x i) (f i)) g b (y i) d : EReal) := by
  unfold k0_pay8
  pointwise
  rw [pay7_apply hx hf, hg, hb, hy, ← EReal.coe_mul, ← EReal.coe_add, ← EReal.coe_sub]
  rfl

theorem pay12_apply (i : Fin 256) (d : Fin 2048) : k0_pay12 (k0_pay8 X F G B Y) (ix2 i d) = (slope (pre (x i) (f i)) g b (y i) d : EReal) := by
  unfold k0_pay12
  pointwise
  rw [pay8_apply hx hf hg hb hy, w_per_2048, ← EReal.coe_mul]
  rfl

theorem pay13_apply (i : Fin 256) (d : Fin 2048) :
    k0_pay13 (k0_pay6 X F) (k0_pay7 X F) G (k0_pay8 X F G B Y) (ix2 i d) = (back (pre (x i) (f i)) (scaled (pre (x i) (f i)) g b (y i)) d : EReal) := by
  unfold k0_pay13
  pointwise
  simp only [pay12_apply hx hf hg hb hy, pay6_apply hx hf, pay7_apply hx hf, hg, w_2048, ← EReal.coe_mul, ← coe_sum, div_2048, ← EReal.coe_sub]
  rfl

theorem pay14_apply (i : Fin 256) (d : Fin 2048) :
    k0_pay14 (k0_pay6 X F) (k0_pay7 X F) G (k0_pay8 X F G B Y) (ix2 i d) = (back (pre (x i) (f i)) (scaled (pre (x i) (f i)) g b (y i)) d : EReal) := by
  unfold k0_pay14
  pointwise
  exact pay13_apply hx hf hg hb hy i d

/-- The block's part of the loss. -/
theorem pay11_apply (acc : Vec Ideal S1x1 .f32) (p q : Fin 1) :
    k0_pay11 (k0_pay9 acc) (k0_pay10 X F G B Y) (ix2 p q)
      = acc (ix2 p q) + (((1 / 4096) * ∑ d, ∑ i, err (pre (x i) (f i)) g b (y i) d * err (pre (x i) (f i)) g b (y i) d : ℝ) : EReal) := by
  unfold k0_pay11 k0_pay10 k0_pay9
  pointwise
  simp only [pay8_apply hx hf hg hb hy, w_per_4096, ← EReal.coe_mul, ← coe_sum]

/-- The block's part of the gradient of the scale. -/
theorem pay15_apply (acc : Vec Ideal S1x2048 .f32) (z : Fin 1) (d : Fin 2048) :
    k0_pay15 (k0_pay7 X F) (k0_pay8 X F G B Y) acc (ix2 z d)
      = acc (ix2 z d) + ((∑ i, slope (pre (x i) (f i)) g b (y i) d * hat (pre (x i) (f i)) d : ℝ) : EReal) := by
  unfold k0_pay15
  pointwise
  simp only [pay12_apply hx hf hg hb hy, pay7_apply hx hf, ← EReal.coe_mul, ← coe_sum]

/-- The block's part of the gradient of the shift. -/
theorem pay1_apply (acc : Vec Ideal S1x2048 .f32) (z : Fin 1) (d : Fin 2048) :
    k0_pay1 (k0_pay12 (k0_pay8 X F G B Y)) acc (ix2 z d)
      = acc (ix2 z d) + ((∑ i, slope (pre (x i) (f i)) g b (y i) d : ℝ) : EReal) := by
  unfold k0_pay1
  pointwise
  simp only [pay12_apply hx hf hg hb hy, ← coe_sum]

end Payloads

theorem pay2_apply (y : S1x1.Idx) : k0_pay2 (F := Ideal) y = 0 := by
  unfold k0_pay2
  pointwise

theorem pay3_apply (y : S1x2048.Idx) : k0_pay3 (F := Ideal) y = 0 := by
  unfold k0_pay3
  pointwise

theorem pay4_apply (y : S1x2048.Idx) : k0_pay4 (F := Ideal) y = 0 := by
  unfold k0_pay4
  pointwise

theorem hz : (![0, 0] : Fin 2 → ℕ) = fun _ => 0 := funext fun a => by fin_cases a <;> rfl

/-! ### What each kind of grid point leaves: the stores' payloads -/

section Cases

variable (c : Dev nD) (i : grid0.Coords)
  (a1 : Memref sig .tc .vmem S256x2048 .f32) (h1 : a1.IsWhole)
  (a2 : Memref sig .tc .vmem S256x2048 .f32) (h2 : a2.IsWhole)
  (a3 : Memref sig .tc .vmem S1x2048 .f32) (h3 : a3.IsWhole)
  (a4 : Memref sig .tc .vmem S1x2048 .f32) (h4 : a4.IsWhole)
  (a5 : Memref sig .tc .vmem S256x2048 .f32) (h5 : a5.IsWhole)
  (a6 : Memref sig .tc .vmem S1x1 .f32) (h6 : a6.IsWhole)
  (a7 : Memref sig .tc .vmem S256x2048 .f32) (h7 : a7.IsWhole)
  (a8 : Memref sig .tc .vmem S256x2048 .bf16) (h8 : a8.IsWhole)
  (a9 : Memref sig .tc .vmem S1x2048 .f32) (h9 : a9.IsWhole)
  (a10 : Memref sig .tc .vmem S1x2048 .f32) (h10 : a10.IsWhole)
  (X F : Vec Ideal S256x2048 .f32) (G B : Vec Ideal S1x2048 .f32) (Y : Vec Ideal S256x2048 .f32)
  (l : Vec Ideal S1x1 .f32) (u w : Vec Ideal S1x2048 .f32)

theorem first5 (hc : cond0_0 i) : out0_A_5 c i a1 h1 a2 h2 a3 h3 a4 h4 a5 h5 a6 h6 a7 h7 a8 h8 a9 h9 a10 h10 hc X F G B Y = k0_pay11 (k0_pay9 (k0_pay2 (F := Ideal))) (k0_pay10 X F G B Y) := by
  unfold out0_A_5
  rw [View.read_writes_eq_canon _ _ _ (cover0_A_5 c i a1 h1 a2 h2 a3 h3 a4 h4 a5 h5 a6 h6 a7 h7 a8 h8 a9 h9 a10 h10 hc X F G B Y)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, h6.read_unread, h7.read_unread, h8.read_unread, h9.read_unread, h10.read_unread, View.ld_unit_zero (S := S256x2048) hz, View.ld_unit_zero (S := S1x2048) hz, View.ld_unit_zero (S := S1x1) hz]

theorem first6 (hc : cond0_0 i) : out0_A_6 c i a1 h1 a2 h2 a3 h3 a4 h4 a5 h5 a6 h6 a7 h7 a8 h8 a9 h9 a10 h10 hc X F G B Y = k0_pay13 (k0_pay6 X F) (k0_pay7 X F) G (k0_pay8 X F G B Y) := by
  unfold out0_A_6
  rw [View.read_writes_eq_canon _ _ _ (cover0_A_6 c i a1 h1 a2 h2 a3 h3 a4 h4 a5 h5 a6 h6 a7 h7 a8 h8 a9 h9 a10 h10 hc X F G B Y)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S256x2048) hz, View.ld_unit_zero (S := S1x2048) hz, View.ld_unit_zero (S := S1x1) hz]

theorem first7 (hc : cond0_0 i) : out0_A_7 c i a1 h1 a2 h2 a3 h3 a4 h4 a5 h5 a6 h6 a7 h7 a8 h8 a9 h9 a10 h10 hc X F G B Y = k0_pay14 (k0_pay6 X F) (k0_pay7 X F) G (k0_pay8 X F G B Y) := by
  unfold out0_A_7
  rw [View.read_writes_eq_canon _ _ _ (cover0_A_7 c i a1 h1 a2 h2 a3 h3 a4 h4 a5 h5 a6 h6 a7 h7 a8 h8 a9 h9 a10 h10 hc X F G B Y)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S256x2048) hz, View.ld_unit_zero (S := S1x2048) hz, View.ld_unit_zero (S := S1x1) hz]

theorem first8 (hc : cond0_0 i) : out0_A_8 c i a1 h1 a2 h2 a3 h3 a4 h4 a5 h5 a6 h6 a7 h7 a8 h8 a9 h9 a10 h10 hc X F G B Y = k0_pay15 (k0_pay7 X F) (k0_pay8 X F G B Y) (k0_pay3 (F := Ideal)) := by
  unfold out0_A_8
  rw [View.read_writes_eq_canon _ _ _ (cover0_A_8 c i a1 h1 a2 h2 a3 h3 a4 h4 a5 h5 a6 h6 a7 h7 a8 h8 a9 h9 a10 h10 hc X F G B Y)]
  unfold kernelRun0_A
  dsimp only
  sl_unfold_words
  rw [View.canon_cons_unit_zero (S := S1x2048) hz, View.readCov_unit_zero (S := S1x2048) _ hz]
  simp only [View.readAt_eq_ld, h1.read_unread, h2.read_unread, h3.read_unread, h4.read_unread, h5.read_unread, h6.read_unread, h7.read_unread, h8.read_unread, h9.read_unread, h10.read_unread, View.ld_unit_zero (S := S256x2048) hz, View.ld_unit_zero (S := S1x2048) hz, View.ld_unit_zero (S := S1x1) hz]

theorem first9 (hc : cond0_0 i) : out0_A_9 c i a1 h1 a2 h2 a3 h3 a4 h4 a5 h5 a6 h6 a7 h7 a8 h8 a9 h9 a10 h10 hc X F G B Y = k0_pay1 (k0_pay12 (k0_pay8 X F G B Y)) (k0_pay4 (F := Ideal)) := by
  unfold out0_A_9
  rw [View.read_writes_eq_canon _ _ _ (cover0_A_9 c i a1 h1 a2 h2 a3 h3 a4 h4 a5 h5 a6 h6 a7 h7 a8 h8 a9 h9 a10 h10 hc X F G B Y)]
  unfold kernelRun0_A
  dsimp only
  sl_unfold_words
  rw [View.canon_cons_unit_zero (S := S1x2048) hz, View.readCov_unit_zero (S := S1x2048) _ hz]
  simp only [View.readAt_eq_ld, h1.read_unread, h2.read_unread, h3.read_unread, h4.read_unread, h5.read_unread, h6.read_unread, h7.read_unread, h8.read_unread, h9.read_unread, h10.read_unread, View.ld_unit_zero (S := S256x2048) hz, View.ld_unit_zero (S := S1x2048) hz, View.ld_unit_zero (S := S1x1) hz]

theorem later5 (hc : ¬cond0_0 i) : out0_B_5 c i a1 h1 a2 h2 a3 h3 a4 h4 a5 h5 a6 h6 a7 h7 a8 h8 a9 h9 a10 h10 hc X F G B Y l u w = k0_pay11 (k0_pay9 l) (k0_pay10 X F G B Y) := by
  unfold out0_B_5
  rw [View.read_writes_eq_canon _ _ _ (cover0_B_5 c i a1 h1 a2 h2 a3 h3 a4 h4 a5 h5 a6 h6 a7 h7 a8 h8 a9 h9 a10 h10 hc X F G B Y l u w)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S256x2048) hz, View.ld_unit_zero (S := S1x2048) hz, View.ld_unit_zero (S := S1x1) hz]

theorem later6 (hc : ¬cond0_0 i) : out0_B_6 c i a1 h1 a2 h2 a3 h3 a4 h4 a5 h5 a6 h6 a7 h7 a8 h8 a9 h9 a10 h10 hc X F G B Y l u w = k0_pay13 (k0_pay6 X F) (k0_pay7 X F) G (k0_pay8 X F G B Y) := by
  unfold out0_B_6
  rw [View.read_writes_eq_canon _ _ _ (cover0_B_6 c i a1 h1 a2 h2 a3 h3 a4 h4 a5 h5 a6 h6 a7 h7 a8 h8 a9 h9 a10 h10 hc X F G B Y l u w)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S256x2048) hz, View.ld_unit_zero (S := S1x2048) hz, View.ld_unit_zero (S := S1x1) hz]

theorem later7 (hc : ¬cond0_0 i) : out0_B_7 c i a1 h1 a2 h2 a3 h3 a4 h4 a5 h5 a6 h6 a7 h7 a8 h8 a9 h9 a10 h10 hc X F G B Y l u w = k0_pay14 (k0_pay6 X F) (k0_pay7 X F) G (k0_pay8 X F G B Y) := by
  unfold out0_B_7
  rw [View.read_writes_eq_canon _ _ _ (cover0_B_7 c i a1 h1 a2 h2 a3 h3 a4 h4 a5 h5 a6 h6 a7 h7 a8 h8 a9 h9 a10 h10 hc X F G B Y l u w)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S256x2048) hz, View.ld_unit_zero (S := S1x2048) hz, View.ld_unit_zero (S := S1x1) hz]

theorem later8 (hc : ¬cond0_0 i) : out0_B_8 c i a1 h1 a2 h2 a3 h3 a4 h4 a5 h5 a6 h6 a7 h7 a8 h8 a9 h9 a10 h10 hc X F G B Y l u w = k0_pay15 (k0_pay7 X F) (k0_pay8 X F G B Y) u := by
  unfold out0_B_8
  rw [View.read_writes_eq_canon _ _ _ (cover0_B_8 c i a1 h1 a2 h2 a3 h3 a4 h4 a5 h5 a6 h6 a7 h7 a8 h8 a9 h9 a10 h10 hc X F G B Y l u w)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S256x2048) hz, View.ld_unit_zero (S := S1x2048) hz, View.ld_unit_zero (S := S1x1) hz]

theorem later9 (hc : ¬cond0_0 i) : out0_B_9 c i a1 h1 a2 h2 a3 h3 a4 h4 a5 h5 a6 h6 a7 h7 a8 h8 a9 h9 a10 h10 hc X F G B Y l u w = k0_pay1 (k0_pay12 (k0_pay8 X F G B Y)) w := by
  unfold out0_B_9
  rw [View.read_writes_eq_canon _ _ _ (cover0_B_9 c i a1 h1 a2 h2 a3 h3 a4 h4 a5 h5 a6 h6 a7 h7 a8 h8 a9 h9 a10 h10 hc X F G B Y l u w)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S256x2048) hz, View.ld_unit_zero (S := S1x2048) hz, View.ld_unit_zero (S := S1x1) hz]

end Cases

/-! ### The blocks -/

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![t.val, 0] := by decide +kernel
theorem index5 : ∀ t : Fin cfg0.N, win0_5.index t = ![0, 0] := by decide +kernel
theorem index6 : ∀ t : Fin cfg0.N, win0_6.index t = ![t.val, 0] := by decide +kernel
theorem index7 : ∀ t : Fin cfg0.N, win0_7.index t = ![t.val, 0] := by decide +kernel
theorem index8 : ∀ t : Fin cfg0.N, win0_8.index t = ![0, 0] := by decide +kernel
theorem index9 : ∀ t : Fin cfg0.N, win0_9.index t = ![0, 0] := by decide +kernel
theorem flush5 : ∀ t : Fin cfg0.N, (cfg0.win 5).flush t = true → t.val % 8 = 7 := by decide +kernel
theorem flush8 : ∀ t : Fin cfg0.N, (cfg0.win 8).flush t = true → t.val % 8 = 7 := by decide +kernel
theorem flush9 : ∀ t : Fin cfg0.N, (cfg0.win 9).flush t = true → t.val % 8 = 7 := by decide +kernel

variable (m : (ℓ : Loc nD τ sig) → Buf (Elt Ideal) ℓ) (c : Dev nD)

/-- Row `i` of block `q` of rows, in the whole array. -/
def rowOf (q : Fin 8) (i : Fin 256) : Fin 2048 := ⟨q.val * 256 + i.val, by omega⟩

/-- A sum over the rows is the sum of its blocks' sums. -/
theorem sum_blocks (f : Fin 2048 → ℝ) : ∑ s, f s = ∑ q : Fin 8, ∑ i : Fin 256, f (rowOf q i) := by
  rw [← Fintype.sum_prod_type' (fun q i => f (rowOf q i))]
  exact (Fintype.sum_equiv (finProdFinEquiv (m := 8) (n := 256)) _ _ fun p => congrArg f (Fin.ext (by
    simp only [rowOf, finProdFinEquiv_apply_val]; omega))).symm

/-- The block of a grid point. -/
def blockOf (t : Fin cfg0.N) : Fin 8 := ⟨t.val, by have := t.isLt; have e : cfg0.N = 8 := N_0; omega⟩

theorem block0 (t : Fin cfg0.N) (i : Fin 256) (d : Fin 2048) : iblk m c 0 t (ix2 i d) = m ((c : Thread nD τ).loc main_arg0) (ix2 (rowOf (blockOf t) i) d) := by
  have h : V m c main_arg0 (ix2 (rowOf (blockOf t) i) d) = m ((c : Thread nD τ).loc main_arg0) (ix2 (rowOf (blockOf t) i) d) := by
    unfold V
    after_reads_at
  refine Eq.trans ?_ h
  blk_ext [iblk, index0 t] <;> simp [index0 t, rowOf, blockOf]

theorem block1 (t : Fin cfg0.N) (i : Fin 256) (d : Fin 2048) : iblk m c 1 t (ix2 i d) = m ((c : Thread nD τ).loc main_arg1) (ix2 (rowOf (blockOf t) i) d) := by
  have h : V m c main_arg1 (ix2 (rowOf (blockOf t) i) d) = m ((c : Thread nD τ).loc main_arg1) (ix2 (rowOf (blockOf t) i) d) := by
    unfold V
    after_reads_at
  refine Eq.trans ?_ h
  blk_ext [iblk, index1 t] <;> simp [index1 t, rowOf, blockOf]

theorem block4 (t : Fin cfg0.N) (i : Fin 256) (d : Fin 2048) : iblk m c 4 t (ix2 i d) = m ((c : Thread nD τ).loc main_arg4) (ix2 (rowOf (blockOf t) i) d) := by
  have h : V m c main_arg4 (ix2 (rowOf (blockOf t) i) d) = m ((c : Thread nD τ).loc main_arg4) (ix2 (rowOf (blockOf t) i) d) := by
    unfold V
    after_reads_at
  refine Eq.trans ?_ h
  blk_ext [iblk, index4 t] <;> simp [index4 t, rowOf, blockOf]

theorem block2 (t : Fin cfg0.N) (d : Fin 2048) : iblk m c 2 t (ix2 (0 : Fin 1) d) = m ((c : Thread nD τ).loc main_arg2) (ix2 (0 : Fin 1) d) := by
  have h : V m c main_arg2 (ix2 (0 : Fin 1) d) = m ((c : Thread nD τ).loc main_arg2) (ix2 (0 : Fin 1) d) := by
    unfold V
    after_reads_at
  refine Eq.trans ?_ h
  blk_ext [iblk, index2 t] <;> simp [index2 t]

theorem block3 (t : Fin cfg0.N) (d : Fin 2048) : iblk m c 3 t (ix2 (0 : Fin 1) d) = m ((c : Thread nD τ).loc main_arg3) (ix2 (0 : Fin 1) d) := by
  have h : V m c main_arg3 (ix2 (0 : Fin 1) d) = m ((c : Thread nD τ).loc main_arg3) (ix2 (0 : Fin 1) d) := by
    unfold V
    after_reads_at
  refine Eq.trans ?_ h
  blk_ext [iblk, index3 t] <;> simp [index3 t]

/-- The arguments in memory are the real arrays `x`, `f`, `g`, `b` and `y`. -/
structure Holds (x f : Fin 2048 → Row) (g b : Row) (y : Fin 2048 → Row) : Prop where
  h0 : ∀ s d, m ((c : Thread nD τ).loc main_arg0) (ix2 s d) = (x s d : EReal)
  h1 : ∀ s d, m ((c : Thread nD τ).loc main_arg1) (ix2 s d) = (f s d : EReal)
  h2 : ∀ d, m ((c : Thread nD τ).loc main_arg2) (ix2 (0 : Fin 1) d) = (g d : EReal)
  h3 : ∀ d, m ((c : Thread nD τ).loc main_arg3) (ix2 (0 : Fin 1) d) = (b d : EReal)
  h4 : ∀ s d, m ((c : Thread nD τ).loc main_arg4) (ix2 s d) = (y s d : EReal)

variable {m c} {x f : Fin 2048 → Row} {g b : Row} {y : Fin 2048 → Row} (H : Holds m c x f g b y)

/-- A block's part of the loss, of the scale's gradient and of the shift's. -/
def lossPart (x f : Fin 2048 → Row) (g b : Row) (y : Fin 2048 → Row) (n : ℕ) : ℝ :=
  if h : n < 8 then (1 / 4096) * ∑ d, ∑ i : Fin 256, err (pre (x (rowOf ⟨n, h⟩ i)) (f (rowOf ⟨n, h⟩ i))) g b (y (rowOf ⟨n, h⟩ i)) d * err (pre (x (rowOf ⟨n, h⟩ i)) (f (rowOf ⟨n, h⟩ i))) g b (y (rowOf ⟨n, h⟩ i)) d else 0

def scalePart (x f : Fin 2048 → Row) (g b : Row) (y : Fin 2048 → Row) (n : ℕ) (d : Fin 2048) : ℝ :=
  if h : n < 8 then ∑ i : Fin 256, slope (pre (x (rowOf ⟨n, h⟩ i)) (f (rowOf ⟨n, h⟩ i))) g b (y (rowOf ⟨n, h⟩ i)) d * hat (pre (x (rowOf ⟨n, h⟩ i)) (f (rowOf ⟨n, h⟩ i))) d else 0

def shiftPart (x f : Fin 2048 → Row) (g b : Row) (y : Fin 2048 → Row) (n : ℕ) (d : Fin 2048) : ℝ :=
  if h : n < 8 then ∑ i : Fin 256, slope (pre (x (rowOf ⟨n, h⟩ i)) (f (rowOf ⟨n, h⟩ i))) g b (y (rowOf ⟨n, h⟩ i)) d else 0

include H

theorem value6 (t : Fin cfg0.N) (i : Fin 256) (d : Fin 2048) :
    (outsAt0 m c t.val t.isLt).2.1 (ix2 i d) = (back (pre (x (rowOf (blockOf t) i)) (f (rowOf (blockOf t) i))) (scaled (pre (x (rowOf (blockOf t) i)) (f (rowOf (blockOf t) i))) g b (y (rowOf (blockOf t) i))) d : EReal) := by
  have p := pay13_apply (X := iblk m c 0 t) (F := iblk m c 1 t) (G := iblk m c 2 t) (B := iblk m c 3 t) (Y := iblk m c 4 t)
    (fun i d => (block0 m c t i d).trans (H.h0 _ d)) (fun i d => (block1 m c t i d).trans (H.h1 _ d)) (fun d => (block2 m c t d).trans (H.h2 d)) (fun d => (block3 m c t d).trans (H.h3 d))
    (fun i d => (block4 m c t i d).trans (H.h4 _ d)) i d
  by_cases h : t.val % 8 = 0
  · rw [outsAt0_A m c t h]
    dsimp only
    rw [first6]
    exact p
  · rw [outsAt0_B m c t h]
    dsimp only
    rw [later6]
    exact p

theorem value7 (t : Fin cfg0.N) (i : Fin 256) (d : Fin 2048) :
    (outsAt0 m c t.val t.isLt).2.2.1 (ix2 i d) = (back (pre (x (rowOf (blockOf t) i)) (f (rowOf (blockOf t) i))) (scaled (pre (x (rowOf (blockOf t) i)) (f (rowOf (blockOf t) i))) g b (y (rowOf (blockOf t) i))) d : EReal) := by
  have p := pay14_apply (X := iblk m c 0 t) (F := iblk m c 1 t) (G := iblk m c 2 t) (B := iblk m c 3 t) (Y := iblk m c 4 t)
    (fun i d => (block0 m c t i d).trans (H.h0 _ d)) (fun i d => (block1 m c t i d).trans (H.h1 _ d)) (fun d => (block2 m c t d).trans (H.h2 d)) (fun d => (block3 m c t d).trans (H.h3 d))
    (fun i d => (block4 m c t i d).trans (H.h4 _ d)) i d
  by_cases h : t.val % 8 = 0
  · rw [outsAt0_A m c t h]
    dsimp only
    rw [first7]
    exact p
  · rw [outsAt0_B m c t h]
    dsimp only
    rw [later7]
    exact p

theorem point5 (t : Fin cfg0.N) (n : ℕ) (hn : t.val % 8 = n) (acc : Vec Ideal S1x1 .f32) (p q : Fin 1) :
    k0_pay11 (k0_pay9 acc) (k0_pay10 (iblk m c 0 t) (iblk m c 1 t) (iblk m c 2 t) (iblk m c 3 t) (iblk m c 4 t)) (ix2 p q) = acc (ix2 p q) + (lossPart x f g b y n : EReal) := by
  have ht : t.val = n := by have := t.isLt; have e : cfg0.N = 8 := N_0; omega
  have h8 : n < 8 := by omega
  have hb : blockOf t = ⟨n, h8⟩ := Fin.ext ht
  have p := pay11_apply (X := iblk m c 0 t) (F := iblk m c 1 t) (G := iblk m c 2 t) (B := iblk m c 3 t) (Y := iblk m c 4 t)
    (fun i d => (block0 m c t i d).trans (H.h0 _ d)) (fun i d => (block1 m c t i d).trans (H.h1 _ d)) (fun d => (block2 m c t d).trans (H.h2 d)) (fun d => (block3 m c t d).trans (H.h3 d))
    (fun i d => (block4 m c t i d).trans (H.h4 _ d)) acc p q
  refine p.trans ?_
  unfold lossPart
  rw [dif_pos h8, hb]

/-- After grid point `n` the array holds the parts met so far. -/
theorem held5 (n : ℕ) : ∀ t : Fin cfg0.N, t.val % 8 = n → ∀ (p q : Fin 1),
    (outsAt0 m c t.val t.isLt).1 (ix2 p q) = ((∑ k ∈ Finset.range (n + 1), lossPart x f g b y k : ℝ) : EReal) := by
  induction n with
  | zero =>
    intro t h p q
    rw [outsAt0_A m c t h]
    dsimp only
    rw [first5]
    refine (point5 H t 0 h _ p q).trans ?_
    rw [pay2_apply, zero_add, zero_add, Finset.sum_range_one]
  | succ n ih =>
    intro t h p q
    have bd : t.val - 1 < cfg0.N := Nat.lt_of_le_of_lt (Nat.sub_le _ _) t.isLt
    have e := ih ⟨t.val - 1, bd⟩ (by dsimp only; omega) p q
    rw [outsAt0_B m c t (by omega)]
    dsimp only
    rw [later5]
    refine (point5 H t (n + 1) h _ p q).trans ?_
    rw [Finset.sum_range_succ _ (n + 1), EReal.coe_add]
    exact congrArg (· + (lossPart x f g b y (n + 1) : EReal)) e

theorem point8 (t : Fin cfg0.N) (n : ℕ) (hn : t.val % 8 = n) (acc : Vec Ideal S1x2048 .f32) (z : Fin 1) (d : Fin 2048) :
    k0_pay15 (k0_pay7 (iblk m c 0 t) (iblk m c 1 t)) (k0_pay8 (iblk m c 0 t) (iblk m c 1 t) (iblk m c 2 t) (iblk m c 3 t) (iblk m c 4 t)) acc (ix2 z d) = acc (ix2 z d) + (scalePart x f g b y n d : EReal) := by
  have ht : t.val = n := by have := t.isLt; have e : cfg0.N = 8 := N_0; omega
  have h8 : n < 8 := by omega
  have hb : blockOf t = ⟨n, h8⟩ := Fin.ext ht
  have p := pay15_apply (X := iblk m c 0 t) (F := iblk m c 1 t) (G := iblk m c 2 t) (B := iblk m c 3 t) (Y := iblk m c 4 t)
    (fun i d => (block0 m c t i d).trans (H.h0 _ d)) (fun i d => (block1 m c t i d).trans (H.h1 _ d)) (fun d => (block2 m c t d).trans (H.h2 d)) (fun d => (block3 m c t d).trans (H.h3 d))
    (fun i d => (block4 m c t i d).trans (H.h4 _ d)) acc z d
  refine p.trans ?_
  unfold scalePart
  rw [dif_pos h8, hb]

/-- After grid point `n` the array holds the parts met so far. -/
theorem held8 (n : ℕ) : ∀ t : Fin cfg0.N, t.val % 8 = n → ∀ (z : Fin 1) (d : Fin 2048),
    (outsAt0 m c t.val t.isLt).2.2.2.1 (ix2 z d) = ((∑ k ∈ Finset.range (n + 1), scalePart x f g b y k d : ℝ) : EReal) := by
  induction n with
  | zero =>
    intro t h z d
    rw [outsAt0_A m c t h]
    dsimp only
    rw [first8]
    refine (point8 H t 0 h _ z d).trans ?_
    rw [pay3_apply, zero_add, zero_add, Finset.sum_range_one]
  | succ n ih =>
    intro t h z d
    have bd : t.val - 1 < cfg0.N := Nat.lt_of_le_of_lt (Nat.sub_le _ _) t.isLt
    have e := ih ⟨t.val - 1, bd⟩ (by dsimp only; omega) z d
    rw [outsAt0_B m c t (by omega)]
    dsimp only
    rw [later8]
    refine (point8 H t (n + 1) h _ z d).trans ?_
    rw [Finset.sum_range_succ _ (n + 1), EReal.coe_add]
    exact congrArg (· + (scalePart x f g b y (n + 1) d : EReal)) e

theorem point9 (t : Fin cfg0.N) (n : ℕ) (hn : t.val % 8 = n) (acc : Vec Ideal S1x2048 .f32) (z : Fin 1) (d : Fin 2048) :
    k0_pay1 (k0_pay12 (k0_pay8 (iblk m c 0 t) (iblk m c 1 t) (iblk m c 2 t) (iblk m c 3 t) (iblk m c 4 t))) acc (ix2 z d) = acc (ix2 z d) + (shiftPart x f g b y n d : EReal) := by
  have ht : t.val = n := by have := t.isLt; have e : cfg0.N = 8 := N_0; omega
  have h8 : n < 8 := by omega
  have hb : blockOf t = ⟨n, h8⟩ := Fin.ext ht
  have p := pay1_apply (X := iblk m c 0 t) (F := iblk m c 1 t) (G := iblk m c 2 t) (B := iblk m c 3 t) (Y := iblk m c 4 t)
    (fun i d => (block0 m c t i d).trans (H.h0 _ d)) (fun i d => (block1 m c t i d).trans (H.h1 _ d)) (fun d => (block2 m c t d).trans (H.h2 d)) (fun d => (block3 m c t d).trans (H.h3 d))
    (fun i d => (block4 m c t i d).trans (H.h4 _ d)) acc z d
  refine p.trans ?_
  unfold shiftPart
  rw [dif_pos h8, hb]

/-- After grid point `n` the array holds the parts met so far. -/
theorem held9 (n : ℕ) : ∀ t : Fin cfg0.N, t.val % 8 = n → ∀ (z : Fin 1) (d : Fin 2048),
    (outsAt0 m c t.val t.isLt).2.2.2.2 (ix2 z d) = ((∑ k ∈ Finset.range (n + 1), shiftPart x f g b y k d : ℝ) : EReal) := by
  induction n with
  | zero =>
    intro t h z d
    rw [outsAt0_A m c t h]
    dsimp only
    rw [first9]
    refine (point9 H t 0 h _ z d).trans ?_
    rw [pay4_apply, zero_add, zero_add, Finset.sum_range_one]
  | succ n ih =>
    intro t h z d
    have bd : t.val - 1 < cfg0.N := Nat.lt_of_le_of_lt (Nat.sub_le _ _) t.isLt
    have e := ih ⟨t.val - 1, bd⟩ (by dsimp only; omega) z d
    rw [outsAt0_B m c t (by omega)]
    dsimp only
    rw [later9]
    refine (point9 H t (n + 1) h _ z d).trans ?_
    rw [Finset.sum_range_succ _ (n + 1), EReal.coe_add]
    exact congrArg (· + (shiftPart x f g b y (n + 1) d : EReal)) e

omit H in
theorem parts5 : ∑ k ∈ Finset.range 8, lossPart x f g b y k = (1 / 4096) * ∑ s, ∑ d, err (pre (x s) (f s)) g b (y s) d * err (pre (x s) (f s)) g b (y s) d := by
  rw [Finset.sum_range, sum_blocks, Finset.mul_sum]
  refine Finset.sum_congr rfl fun q _ => ?_
  unfold lossPart
  rw [dif_pos q.isLt, Finset.sum_comm]

omit H in
theorem parts8 (d : Fin 2048) : ∑ k ∈ Finset.range 8, scalePart x f g b y k d = ∑ s, slope (pre (x s) (f s)) g b (y s) d * hat (pre (x s) (f s)) d := by
  rw [Finset.sum_range, sum_blocks]
  refine Finset.sum_congr rfl fun q _ => ?_
  unfold scalePart
  rw [dif_pos q.isLt]

omit H in
theorem parts9 (d : Fin 2048) : ∑ k ∈ Finset.range 8, shiftPart x f g b y k d = ∑ s, slope (pre (x s) (f s)) g b (y s) d := by
  rw [Finset.sum_range, sum_blocks]
  refine Finset.sum_congr rfl fun q _ => ?_
  unfold shiftPart
  rw [dif_pos q.isLt]

/-! ### The arrays after the run -/

theorem array5 : (dats m 0 c).arrAt 5 cfg0.N = fun _ => (((1 / 4096) * ∑ s, ∑ d, err (pre (x s) (f s)) g b (y s) d * err (pre (x s) (f s)) g b (y s) d : ℝ) : EReal) := by
  refine (dats m 0 c).arrAt_eq_of_covers 5 _ (by decide +kernel) fun t hf z => ?_
  rw [after0_5]
  obtain ⟨p, q, rfl⟩ : ∃ (p : Fin 1) (q : Fin 1), z = ix2 p q := ⟨z 0, z 1, eq_ix2 z⟩
  refine (held5 H 7 t (flush5 t hf) p q).trans ?_
  rw [parts5]

theorem array8 : (dats m 0 c).arrAt 8 cfg0.N = fun z => ((∑ s, slope (pre (x s) (f s)) g b (y s) (z 1) * hat (pre (x s) (f s)) (z 1) : ℝ) : EReal) := by
  refine (dats m 0 c).arrAt_eq_of_covers 8 _ (by decide +kernel) fun t hf z => ?_
  rw [after0_8]
  obtain ⟨p, q, rfl⟩ : ∃ (p : Fin 1) (q : Fin 2048), z = ix2 p q := ⟨z 0, z 1, eq_ix2 z⟩
  have e : (win0_8.blk t).view.emb (ix2 p q) = ix2 p q := by
    blk_ext [index8 t] <;> simp [index8 t]
  refine (held8 H 7 t (flush8 t hf) p q).trans ?_
  rw [parts8 q]
  blk_simp
  rw [e]
  rfl

theorem array9 : (dats m 0 c).arrAt 9 cfg0.N = fun z => ((∑ s, slope (pre (x s) (f s)) g b (y s) (z 1) : ℝ) : EReal) := by
  refine (dats m 0 c).arrAt_eq_of_covers 9 _ (by decide +kernel) fun t hf z => ?_
  rw [after0_9]
  obtain ⟨p, q, rfl⟩ : ∃ (p : Fin 1) (q : Fin 2048), z = ix2 p q := ⟨z 0, z 1, eq_ix2 z⟩
  have e : (win0_9.blk t).view.emb (ix2 p q) = ix2 p q := by
    blk_ext [index9 t] <;> simp [index9 t]
  refine (held9 H 7 t (flush9 t hf) p q).trans ?_
  rw [parts9 q]
  blk_simp
  rw [e]
  rfl

theorem array6 : (dats m 0 c).arrAt 6 cfg0.N = fun z => ((back (pre (x (z 0)) (f (z 0))) (scaled (pre (x (z 0)) (f (z 0))) g b (y (z 0))) (z 1) : ℝ) : EReal) := by
  refine (dats m 0 c).arrAt_eq_of_covers 6 _ (by decide +kernel) fun t hf z => ?_
  rw [after0_6]
  obtain ⟨i, d, rfl⟩ : ∃ (i : Fin 256) (d : Fin 2048), z = ix2 i d := ⟨z 0, z 1, eq_ix2 z⟩
  have e : (win0_6.blk t).view.emb (ix2 i d) = ix2 (rowOf (blockOf t) i) d := by
    blk_ext [index6 t] <;> simp [index6 t, rowOf, blockOf]
  refine (value6 H t i d).trans ?_
  blk_simp
  rw [e]
  rfl

theorem array7 : (dats m 0 c).arrAt 7 cfg0.N = fun z => ((back (pre (x (z 0)) (f (z 0))) (scaled (pre (x (z 0)) (f (z 0))) g b (y (z 0))) (z 1) : ℝ) : EReal) := by
  refine (dats m 0 c).arrAt_eq_of_covers 7 _ (by decide +kernel) fun t hf z => ?_
  rw [after0_7]
  obtain ⟨i, d, rfl⟩ : ∃ (i : Fin 256) (d : Fin 2048), z = ix2 i d := ⟨z 0, z 1, eq_ix2 z⟩
  have e : (win0_7.blk t).view.emb (ix2 i d) = ix2 (rowOf (blockOf t) i) d := by
    blk_ext [index7 t] <;> simp [index7 t, rowOf, blockOf]
  refine (value7 H t i d).trans ?_
  blk_simp
  rw [e]
  rfl

end Cert.NormGradIdeal.Value

end
-- ==== Proof.NormRef.lean ====
/-
  The reference's loss and gradient through the last normalisation, stage by stage, as real numbers.
-/
module

public import proofs.«01_k».proof.Proof.NormReal
public import proofs.«01_k».proof.Proof.Gen.NormGradReferenceIdeal
public import proofs.«01_k».proof.Proof.Gen.NormGradReferenceIdeal.Run
public import proofs.«01_k».proof.Proof.Gen.NormGradReferenceIdeal.Read
public import Idealize.ShloMosaic.Lib.Pointwise
public import Idealize.ShloMosaic.Lib.Tactic

@[expose] public section

set_option maxRecDepth 16384

noncomputable section

namespace Cert.NormGradReferenceIdeal.Stage

open Cert.Norm Cert.NormGradReferenceIdeal Cert.NormGradReferenceIdeal.Gen Cert.NormGradReferenceIdeal.Read Idealize.ShloMosaic

variable {x0 x1 : FVec Ideal S2048x2048 .f32} {x2 x3 : FVec Ideal S1x2048 .f32} {x4 : FVec Ideal S2048x2048 .f32}
  {x f y : Fin 2048 → Row} {g b : Row}
  (hx : ∀ s d, x0 (ix2 s d) = (x s d : EReal)) (hf : ∀ s d, x1 (ix2 s d) = (f s d : EReal))
  (hg : ∀ d, x2 (ix2 (0 : Fin 1) d) = (g d : EReal)) (hb : ∀ d, x3 (ix2 (0 : Fin 1) d) = (b d : EReal)) (hy : ∀ s d, x4 (ix2 s d) = (y s d : EReal))

include hx hf

theorem pre_value (s d : Fin 2048) : val_main_v2 (F := Ideal) x0 x1 (ix2 s d) = (pre (x s) (f s) d : EReal) := by
  unfold val_main_v2 val_main_v1 val_main_v0 val_main_cst
  pointwise
  rw [hx, hf, w_alpha, ← EReal.coe_mul, ← EReal.coe_add]
  rfl

theorem mean_value (s : Fin 2048) (z : Fin 1) : val_main_v8 (F := Ideal) x0 x1 (ix2 s z) = (mean (pre (x s) (f s)) : EReal) := by
  unfold val_main_v8 val_main_v7 val_main_v6 val_main_v5 val_main_cst_0 val_main_cst_1
  pointwise
  simp only [pre_value hx hf, w_2048, ← coe_sum, div_2048]
  rfl

theorem cen_value (s d : Fin 2048) : val_main_v10 (F := Ideal) x0 x1 (ix2 s d) = (cen (pre (x s) (f s)) d : EReal) := by
  unfold val_main_v10 val_main_v9
  pointwise
  rw [pre_value hx hf, mean_value hx hf, ← EReal.coe_sub]
  rfl

theorem cen_again (s d : Fin 2048) : val_main_v19 (F := Ideal) x0 x1 (ix2 s d) = (cen (pre (x s) (f s)) d : EReal) := by
  unfold val_main_v19 val_main_v18
  pointwise
  rw [pre_value hx hf, mean_value hx hf, ← EReal.coe_sub]
  rfl

theorem twice_cen (s d : Fin 2048) : val_main_v13 (F := Ideal) x0 x1 (ix2 s d) = ((2 * cen (pre (x s) (f s)) d : ℝ) : EReal) := by
  unfold val_main_v13 val_main_v12 val_main_cst_2
  pointwise
  rw [cen_value hx hf, Cert.Attn.w_2, ← EReal.coe_mul]

theorem var_value (s : Fin 2048) (z : Fin 1) : val_main_v21 (F := Ideal) x0 x1 (ix2 s z) = ((var (pre (x s) (f s)) + eps : ℝ) : EReal) := by
  unfold val_main_v21 val_main_v20 val_main_v17 val_main_v16 val_main_v15 val_main_v14 val_main_v11 val_main_cst_3 val_main_cst_4 val_main_cst_5
  pointwise
  simp only [cen_value hx hf, w_2048, w_eps, ← EReal.coe_mul, ← coe_sum, div_2048, ← EReal.coe_add]
  rfl

theorem rstd_value (s : Fin 2048) (z : Fin 1) : val_main_v22 (F := Ideal) x0 x1 (ix2 s z) = (rstd (pre (x s) (f s)) : EReal) := by
  unfold val_main_v22
  pointwise
  rw [var_value hx hf]
  exact rsqrt_var _

theorem slope_var (s : Fin 2048) (z : Fin 1) :
    val_main_v25 (F := Ideal) x0 x1 (ix2 s z) = ((-(1 / 2) * (rstd (pre (x s) (f s)) * (1 / (var (pre (x s) (f s)) + eps))) : ℝ) : EReal) := by
  unfold val_main_v25 val_main_v24 val_main_v23 val_main_cst_6
  pointwise
  rw [rstd_value hx hf, var_value hx hf, w_neg_half, Ideal.div_coe (var_pos _).ne', ← EReal.coe_mul, ← EReal.coe_mul]

theorem hat_value (s d : Fin 2048) : val_main_v27 (F := Ideal) x0 x1 (ix2 s d) = (hat (pre (x s) (f s)) d : EReal) := by
  unfold val_main_v27 val_main_v26
  pointwise
  rw [cen_again hx hf, rstd_value hx hf, ← EReal.coe_mul]
  rfl

omit hx hf in
theorem row2 (s d : Fin 2048) : val_main_v29 (F := Ideal) x2 (ix2 s d) = x2 (ix2 (0 : Fin 1) d) := by
  unfold val_main_v29 val_main_v28 val_main_v3
  pointwise

omit hx hf in
theorem row2_again (s d : Fin 2048) : val_main_v55 (F := Ideal) x2 (ix2 s d) = x2 (ix2 (0 : Fin 1) d) := by
  unfold val_main_v55 val_main_v28 val_main_v3
  pointwise

omit hx hf in
theorem row3 (s d : Fin 2048) : val_main_v32 (F := Ideal) x3 (ix2 s d) = x3 (ix2 (0 : Fin 1) d) := by
  unfold val_main_v32 val_main_v31 val_main_v4
  pointwise

omit hx hf in
theorem seed (s d : Fin 2048) : val_main_v47 (F := Ideal) (ix2 s d) = ((1 / 4096 : ℝ) : EReal) := by
  unfold val_main_v47 val_main_v46 val_main_v45 val_main_v44 val_main_v43 val_main_cst_12 val_main_cst_13 val_main_cst_14
  pointwise
  rw [w_half, w_2048, div_2048]
  norm_num

include hg hb hy

theorem err_value (s d : Fin 2048) : val_main_v34 (F := Ideal) x0 x1 x2 x3 x4 (ix2 s d) = (err (pre (x s) (f s)) g b (y s) d : EReal) := by
  unfold val_main_v34 val_main_v33 val_main_v30
  pointwise
  rw [hat_value hx hf, row2, row3, hg, hb, hy, ← EReal.coe_mul, ← EReal.coe_add, ← EReal.coe_sub]
  rfl

theorem loss_value (p q : Fin 1) :
    val_main_v84 (F := Ideal) x0 x1 x2 x3 x4 (ix2 p q) = (((1 / 4096) * ∑ s, ∑ d, err (pre (x s) (f s)) g b (y s) d * err (pre (x s) (f s)) g b (y s) d : ℝ) : EReal) := by
  unfold val_main_v84 val_main_v42 val_main_v41 val_main_v40 val_main_v39 val_main_v38 val_main_v35 val_main_cst_8 val_main_cst_9 val_main_cst_10 val_main_cst_11
  pointwise
  simp only [err_value hx hf hg hb hy, w_half, w_2048, ← EReal.coe_mul, ← coe_sum, div_2048]
  rw [← Finset.sum_mul]
  exact congrArg _ (by ring)

theorem slope_value (s d : Fin 2048) : val_main_v48 (F := Ideal) x0 x1 x2 x3 x4 (ix2 s d) = (slope (pre (x s) (f s)) g b (y s) d : EReal) := by
  unfold val_main_v48 val_main_v37 val_main_v36 val_main_cst_7
  pointwise
  rw [seed, err_value hx hf hg hb hy, Cert.Attn.w_2, ← EReal.coe_mul, ← EReal.coe_mul]
  exact congrArg _ (by unfold Cert.Norm.slope; ring)

theorem shift_value (z : Fin 1) (d : Fin 2048) : val_main_v82 (F := Ideal) x0 x1 x2 x3 x4 (ix2 z d) = ((∑ s, slope (pre (x s) (f s)) g b (y s) d : ℝ) : EReal) := by
  unfold val_main_v82 val_main_v51 val_main_v50 val_main_v49 val_main_cst_15 val_main_cst_16
  pointwise
  simp only [slope_value hx hf hg hb hy, ← coe_sum, Fin.sum_univ_one]

theorem scale_value (z : Fin 1) (d : Fin 2048) :
    val_main_v83 (F := Ideal) x0 x1 x2 x3 x4 (ix2 z d) = ((∑ s, slope (pre (x s) (f s)) g b (y s) d * hat (pre (x s) (f s)) d : ℝ) : EReal) := by
  unfold val_main_v83 val_main_v57 val_main_v54 val_main_v53 val_main_v52 val_main_cst_17 val_main_cst_18
  pointwise
  simp only [hat_value hx hf, slope_value hx hf hg hb hy, ← EReal.coe_mul, ← coe_sum, Fin.sum_univ_one]
  exact congrArg _ (Finset.sum_congr rfl fun s _ => mul_comm _ _)

theorem scaled_value (s d : Fin 2048) : val_main_v56 (F := Ideal) x0 x1 x2 x3 x4 (ix2 s d) = (scaled (pre (x s) (f s)) g b (y s) d : EReal) := by
  unfold val_main_v56
  pointwise
  rw [slope_value hx hf hg hb hy, row2_again, hg, ← EReal.coe_mul]
  rfl

/-- The direct part of the gradient. -/
theorem direct_value (s d : Fin 2048) :
    val_main_v62 (F := Ideal) x0 x1 x2 x3 x4 (ix2 s d) = ((scaled (pre (x s) (f s)) g b (y s) d * rstd (pre (x s) (f s)) : ℝ) : EReal) := by
  unfold val_main_v62 val_main_v61
  pointwise
  rw [scaled_value hx hf hg hb hy, rstd_value hx hf, ← EReal.coe_mul]

/-- The part through the variance. -/
theorem through_value (s : Fin 2048) :
    val_main_v69 (F := Ideal) x0 x1 x2 x3 x4 (ix1 s) = (through (pre (x s) (f s)) (scaled (pre (x s) (f s)) g b (y s)) : EReal) := by
  unfold val_main_v69 val_main_v68 val_main_v67 val_main_v63 val_main_v60 val_main_v59 val_main_v58 val_main_cst_19 val_main_cst_21 val_main_cst_22
  pointwise
  simp only [cen_again hx hf, scaled_value hx hf hg hb hy, slope_var hx hf, w_2048, ← EReal.coe_mul, ← coe_sum, div_2048, Fin.sum_univ_one]
  rfl

theorem spread_value (s d : Fin 2048) :
    val_main_v71 (F := Ideal) x0 x1 x2 x3 x4 (ix2 s d) = ((through (pre (x s) (f s)) (scaled (pre (x s) (f s)) g b (y s)) * (2 * cen (pre (x s) (f s)) d) : ℝ) : EReal) := by
  unfold val_main_v71 val_main_v70
  pointwise
  rw [through_value hx hf hg hb hy, twice_cen hx hf, ← EReal.coe_mul]

/-- The part through the mean. -/
theorem level_value (s : Fin 2048) :
    val_main_v79 (F := Ideal) x0 x1 x2 x3 x4 (ix1 s) = (((∑ e, -(scaled (pre (x s) (f s)) g b (y s) e * rstd (pre (x s) (f s)))
      + ∑ e, -(through (pre (x s) (f s)) (scaled (pre (x s) (f s)) g b (y s)) * (2 * cen (pre (x s) (f s)) e))) * (1 / 2048) : ℝ) : EReal) := by
  unfold val_main_v79 val_main_v78 val_main_v77 val_main_v76 val_main_v74 val_main_v73 val_main_v72 val_main_v66 val_main_v65 val_main_v64 val_main_cst_20 val_main_cst_23 val_main_cst_24 val_main_cst_25
  pointwise
  simp only [direct_value hx hf hg hb hy, spread_value hx hf hg hb hy, w_2048, ← EReal.coe_neg, ← coe_sum, ← EReal.coe_add, div_2048, Fin.sum_univ_one]

/-- The gradient of the sum that is normalised. -/
theorem grad_value (s d : Fin 2048) :
    val_main_v81 (F := Ideal) x0 x1 x2 x3 x4 (ix2 s d) = (back (pre (x s) (f s)) (scaled (pre (x s) (f s)) g b (y s)) d : EReal) := by
  unfold val_main_v81 val_main_v80 val_main_v75
  pointwise
  rw [direct_value hx hf hg hb hy, spread_value hx hf hg hb hy, level_value hx hf hg hb hy, ← EReal.coe_add, ← EReal.coe_add, ← chain_eq]
  rfl

theorem grad_rounded (s d : Fin 2048) :
    val_main_v85 (F := Ideal) x0 x1 x2 x3 x4 (ix2 s d) = (back (pre (x s) (f s)) (scaled (pre (x s) (f s)) g b (y s)) d : EReal) := by
  unfold val_main_v85
  pointwise
  exact grad_value hx hf hg hb hy s d

end Cert.NormGradReferenceIdeal.Stage

end
-- ==== Proof.NormGrad.lean ====
/-
  The claims about the loss and its gradient through the last normalisation: of finite arguments the call and the reference leave the same five arrays.
-/
module

public import proofs.«01_k».proof.Defs
public import proofs.«01_k».proof.Proof.Finite
public import proofs.«01_k».proof.Proof.Gen.Pre_finite_norm
public import proofs.«01_k».proof.Proof.NormKernel
public import proofs.«01_k».proof.Proof.NormRef

@[expose] public section

set_option maxRecDepth 16384

noncomputable section

namespace Cert.Pre_finite_norm.Read

open Cert.Pre_finite_norm Cert.Pre_finite_norm.Gen Cert.Pre_finite.Read Idealize.ShloMosaic

variable (x0 x1 : FVec Ideal S2048x2048 .f32) (x2 x3 : FVec Ideal S1x2048 .f32) (x4 : FVec Ideal S2048x2048 .f32)

/-- Where the precondition is true, every element of every argument is a real number. -/
theorem reals (e : fn (F := Ideal) x0 x1 x2 x3 x4 ix0 = 1#1) :
    (∀ i, x0 i = ((x0 i).toReal : EReal)) ∧ (∀ i, x1 i = ((x1 i).toReal : EReal)) ∧ (∀ i, x2 i = ((x2 i).toReal : EReal)) ∧ (∀ i, x3 i = ((x3 i).toReal : EReal)) ∧ ∀ i, x4 i = ((x4 i).toReal : EReal) := by
  unfold fn fn_part1 at e
  obtain ⟨e, e4⟩ := both _ _ e
  obtain ⟨e, e3⟩ := both _ _ e
  obtain ⟨e, e2⟩ := both _ _ e
  obtain ⟨e0, e1⟩ := both _ _ e
  exact ⟨fun i => real_of_lt _ (reduce_all _ _ _ _ _ e0 i), fun i => real_of_lt _ (reduce_all _ _ _ _ _ e1 i), fun i => real_of_lt _ (reduce_all _ _ _ _ _ e2 i),
    fun i => real_of_lt _ (reduce_all _ _ _ _ _ e3 i), fun i => real_of_lt _ (reduce_all _ _ _ _ _ e4 i)⟩

end Cert.Pre_finite_norm.Read

namespace Cert.Proof.NormGrad

open Cert.Norm Idealize.ShloMosaic Idealize.ShloMosaic.TcCoe Idealize.SL.Sem

/-- The reference runs, leaves its arguments as they were, and declares no semaphore. -/
theorem frame_reference : Cert.quiescent_NormGradReferenceIdeal := by
  intro m ρ _
  exact (θ_run Cert.NormGradReferenceIdeal.defs _ _).mono (fun r h => ⟨fun c => (h c).2.2.2.2.2,
      Idealize.ShloMosaic.sem_eq_zero_of_no_sems (by decide) r.2⟩)
    (Cert.NormGradReferenceIdeal.Value.run (F := Ideal) m ρ)

set_option maxHeartbeats 1000000 in
/-- Of finite arguments the kernel and the reference compute the same loss and the same gradients. -/
theorem algebraic : Cert.algebraic_NormGradIdeal_NormGradReferenceIdeal_pre_finite_norm := by
  intro m ρ m' ρ' pre0 agree
  let x : Dev Cert.NormGradIdeal.nD → Fin 2048 → Row := fun c s d => EReal.toReal (m ((c.tc : Thread Cert.NormGradIdeal.nD Cert.NormGradIdeal.τ).loc Cert.NormGradIdeal.main_arg0) (ix2 s d))
  let f : Dev Cert.NormGradIdeal.nD → Fin 2048 → Row := fun c s d => EReal.toReal (m ((c.tc : Thread Cert.NormGradIdeal.nD Cert.NormGradIdeal.τ).loc Cert.NormGradIdeal.main_arg1) (ix2 s d))
  let y : Dev Cert.NormGradIdeal.nD → Fin 2048 → Row := fun c s d => EReal.toReal (m ((c.tc : Thread Cert.NormGradIdeal.nD Cert.NormGradIdeal.τ).loc Cert.NormGradIdeal.main_arg4) (ix2 s d))
  let g : Dev Cert.NormGradIdeal.nD → Row := fun c d => EReal.toReal (m ((c.tc : Thread Cert.NormGradIdeal.nD Cert.NormGradIdeal.τ).loc Cert.NormGradIdeal.main_arg2) (ix2 (0 : Fin 1) d))
  let b : Dev Cert.NormGradIdeal.nD → Row := fun c d => EReal.toReal (m ((c.tc : Thread Cert.NormGradIdeal.nD Cert.NormGradIdeal.τ).loc Cert.NormGradIdeal.main_arg3) (ix2 (0 : Fin 1) d))
  have H : ∀ c : Dev Cert.NormGradIdeal.nD, Cert.NormGradIdeal.Value.Holds m c (x c) (f c) (g c) (b c) (y c) := by
    intro c
    obtain ⟨h0, h1, h2, h3, h4⟩ := Cert.Pre_finite_norm.Read.reals _ _ _ _ _ (congrFun (pre0 c) ix0)
    exact ⟨fun s d => h0 _, fun s d => h1 _, fun d => h2 _, fun d => h3 _, fun s d => h4 _⟩
  refine ⟨fun c => fun _ => (((1 / 4096) * ∑ s, ∑ d, err (pre (x c s) (f c s)) (g c) (b c) (y c s) d * err (pre (x c s) (f c s)) (g c) (b c) (y c s) d : ℝ) : EReal),
    fun c => fun z => ((back (pre (x c (z 0)) (f c (z 0))) (scaled (pre (x c (z 0)) (f c (z 0))) (g c) (b c) (y c (z 0))) (z 1) : ℝ) : EReal),
    fun c => fun z => ((back (pre (x c (z 0)) (f c (z 0))) (scaled (pre (x c (z 0)) (f c (z 0))) (g c) (b c) (y c (z 0))) (z 1) : ℝ) : EReal),
    fun c => fun z => ((∑ s, Cert.Norm.slope (pre (x c s) (f c s)) (g c) (b c) (y c s) (z 1) * hat (pre (x c s) (f c s)) (z 1) : ℝ) : EReal),
    fun c => fun z => ((∑ s, Cert.Norm.slope (pre (x c s) (f c s)) (g c) (b c) (y c s) (z 1) : ℝ) : EReal), ?_, ?_⟩
  · exact (θ_run Cert.NormGradIdeal.defs _ _).mono (fun _ h c => ⟨(h c).1.trans (Cert.NormGradIdeal.Value.array5 (H c)),
      (h c).2.1.trans (Cert.NormGradIdeal.Value.array6 (H c)),
      (h c).2.2.1.trans (Cert.NormGradIdeal.Value.array7 (H c)),
      (h c).2.2.2.1.trans (Cert.NormGradIdeal.Value.array8 (H c)),
      (h c).2.2.2.2.1.trans (Cert.NormGradIdeal.Value.array9 (H c)),
      (h c).2.2.2.2.2⟩) (Cert.NormGradIdeal.Value.run_blocks m ρ)
  · refine (θ_run Cert.NormGradReferenceIdeal.defs _ _).mono (fun _ h c => ?_) (Cert.NormGradReferenceIdeal.Value.run (F := Ideal) m' ρ')
    obtain ⟨e0, e1, e2, e3, e4⟩ := agree c
    have k0 (s d : Fin 2048) := (congrFun e0 (ix2 s d)).trans ((H c).h0 s d)
    have k1 (s d : Fin 2048) := (congrFun e1 (ix2 s d)).trans ((H c).h1 s d)
    have k2 (d : Fin 2048) := (congrFun e2 (ix2 (0 : Fin 1) d)).trans ((H c).h2 d)
    have k3 (d : Fin 2048) := (congrFun e3 (ix2 (0 : Fin 1) d)).trans ((H c).h3 d)
    have k4 (s d : Fin 2048) := (congrFun e4 (ix2 s d)).trans ((H c).h4 s d)
    refine ⟨(h c).1.trans ((Cert.NormGradReferenceIdeal.Read.val_main_v84_eq m' c).trans (funext fun z => ?_)),
      (h c).2.1.trans ((Cert.NormGradReferenceIdeal.Read.val_main_v81_eq m' c).trans (funext fun z => ?_)),
      (h c).2.2.1.trans ((Cert.NormGradReferenceIdeal.Read.val_main_v85_eq m' c).trans (funext fun z => ?_)),
      (h c).2.2.2.1.trans ((Cert.NormGradReferenceIdeal.Read.val_main_v83_eq m' c).trans (funext fun z => ?_)),
      (h c).2.2.2.2.1.trans ((Cert.NormGradReferenceIdeal.Read.val_main_v82_eq _ _ _ _ _).trans (funext fun z => ?_)),
      (h c).2.2.2.2.2⟩
    · rw [eq_ix2 z]
      exact Cert.NormGradReferenceIdeal.Stage.loss_value k0 k1 k2 k3 k4 (z 0) (z 1)
    · rw [eq_ix2 z]
      exact Cert.NormGradReferenceIdeal.Stage.grad_value k0 k1 k2 k3 k4 (z 0) (z 1)
    · rw [eq_ix2 z]
      exact Cert.NormGradReferenceIdeal.Stage.grad_rounded k0 k1 k2 k3 k4 (z 0) (z 1)
    · rw [eq_ix2 z]
      exact Cert.NormGradReferenceIdeal.Stage.scale_value k0 k1 k2 k3 k4 (z 0) (z 1)
    · rw [eq_ix2 z]
      exact Cert.NormGradReferenceIdeal.Stage.shift_value k0 k1 k2 k3 k4 (z 0) (z 1)

end Cert.Proof.NormGrad

end
-- ==== Proof.Gate.lean ====
/-
  The gated merge of two branches: the logistic gate, and the slope of a merge in its gate's argument.
-/
module

public import Idealize.ShloMosaic.Lib.Pointwise
public import Idealize.ShloMosaic.Lib.Pipeline.ValueKit

@[expose] public section

noncomputable section

namespace Cert.Gate

open Idealize.ShloMosaic

/-- The logistic function. -/
def gate (z : EReal) : EReal := Ideal.div 1 (1 + Ideal.exp (-z))

/-- The slope of `gate z * y` in `z`, times the gradient `c` that reaches the merge. -/
def argGrad (c y z : EReal) : EReal := c * y * gate z * (1 - gate z)

/-- Column `d` of the first and of the second branch's gate, among the gates. -/
def first (d : Fin 2048) : Fin 4096 := ⟨d.val, by omega⟩
def second (d : Fin 2048) : Fin 4096 := ⟨2048 + d.val, by omega⟩

/-- Column `e` of the gates, among the columns of the projection. -/
def among (e : Fin 4096) : Fin 11776 := ⟨7680 + e.val, by omega⟩

/-- A gate's argument: an element of the projection and a bias. -/
def arg (p : Fin 2048 → Fin 11776 → EReal) (b : Fin 4096 → EReal) (s : Fin 2048) (e : Fin 4096) : EReal := p s (among e) + b e

end Cert.Gate

end
-- ==== Proof.GateKernel.lean ====
/-
  The gradients of the gated merge: what the call leaves, tile by tile, and after the four tiles of a block of columns.
-/
module

public import proofs.«01_k».proof.Proof.Gate
public import proofs.«01_k».proof.Proof.Gen.GateGradIdeal
public import proofs.«01_k».proof.Proof.Gen.GateGradIdeal.Frame
public import proofs.«01_k».proof.Proof.Gen.GateGradIdeal.Value
public import Idealize.ShloMosaic.Lib.Pointwise
public import Idealize.ShloMosaic.Lib.Pipeline.ValueKit
public import Idealize.ShloMosaic.Lib.StableHlo.ReadAt
public import Idealize.ShloMosaic.Lib.Tactic

@[expose] public section

set_option maxRecDepth 16384

noncomputable section

namespace Cert.GateGradIdeal.Value

open Cert.Gate Cert.GateGradIdeal Cert.GateGradIdeal.Gen Idealize.ShloMosaic Idealize.ShloMosaic.TcCoe Idealize.SL.Sem

/-! ### The payloads -/

section Payloads

variable (C Y P : Vec Ideal S512x512 .f32) (B : Vec Ideal S1x512 .f32)

theorem pay9_apply (i d : Fin 512) : k0_pay9 P B (ix2 i d) = gate (P (ix2 i d) + B (ix2 (0 : Fin 1) d)) := by
  unfold k0_pay9 gate
  pointwise
  simp only [zero_sub]

theorem pay10_apply (i d : Fin 512) : k0_pay10 P B (ix2 i d) = gate (P (ix2 i d) + B (ix2 (0 : Fin 1) d)) := by
  unfold k0_pay10 gate
  pointwise
  simp only [zero_sub]

theorem pay1_apply (i d : Fin 512) :
    k0_pay1 C (k0_pay9 P B) Y (ix2 i d) = argGrad (C (ix2 i d)) (Y (ix2 i d)) (P (ix2 i d) + B (ix2 (0 : Fin 1) d)) := by
  unfold k0_pay1 argGrad
  pointwise
  rw [pay9_apply]

theorem pay2_apply (i d : Fin 512) :
    k0_pay2 C (k0_pay10 P B) Y (ix2 i d) = argGrad (C (ix2 i d)) (Y (ix2 i d)) (P (ix2 i d) + B (ix2 (0 : Fin 1) d)) := by
  unfold k0_pay2 argGrad
  pointwise
  rw [pay10_apply]

theorem pay3_apply (i d : Fin 512) :
    k0_pay3 C (k0_pay9 P B) Y (ix2 i d) = argGrad (C (ix2 i d)) (Y (ix2 i d)) (P (ix2 i d) + B (ix2 (0 : Fin 1) d)) := by
  unfold k0_pay3
  pointwise
  exact pay1_apply C Y P B i d

theorem pay4_apply (i d : Fin 512) :
    k0_pay4 C (k0_pay10 P B) Y (ix2 i d) = argGrad (C (ix2 i d)) (Y (ix2 i d)) (P (ix2 i d) + B (ix2 (0 : Fin 1) d)) := by
  unfold k0_pay4
  pointwise
  exact pay2_apply C Y P B i d

theorem pay11_apply (i d : Fin 512) : k0_pay11 C P B (ix2 i d) = C (ix2 i d) * gate (P (ix2 i d) + B (ix2 (0 : Fin 1) d)) := by
  unfold k0_pay11
  pointwise
  rw [pay9_apply]

theorem pay12_apply (i d : Fin 512) : k0_pay12 C P B (ix2 i d) = C (ix2 i d) * gate (P (ix2 i d) + B (ix2 (0 : Fin 1) d)) := by
  unfold k0_pay12
  pointwise
  rw [pay10_apply]

/-- A tile's part of the gradient of a bias. -/
theorem pay5_apply (acc : Vec Ideal S1x512 .f32) (z : Fin 1) (d : Fin 512) :
    k0_pay5 C (k0_pay9 P B) Y acc (ix2 z d)
      = acc (ix2 z d) + ∑ i : Fin 512, argGrad (C (ix2 i d)) (Y (ix2 i d)) (P (ix2 i d) + B (ix2 (0 : Fin 1) d)) := by
  unfold k0_pay5
  pointwise
  simp only [pay1_apply]

/-- A tile's part of the gradient of a bias. -/
theorem pay6_apply (acc : Vec Ideal S1x512 .f32) (z : Fin 1) (d : Fin 512) :
    k0_pay6 C (k0_pay10 P B) Y acc (ix2 z d)
      = acc (ix2 z d) + ∑ i : Fin 512, argGrad (C (ix2 i d)) (Y (ix2 i d)) (P (ix2 i d) + B (ix2 (0 : Fin 1) d)) := by
  unfold k0_pay6
  pointwise
  simp only [pay2_apply]

end Payloads

theorem pay7_apply (y : S1x512.Idx) : k0_pay7 (F := Ideal) y = 0 := by
  unfold k0_pay7
  pointwise

theorem pay8_apply (y : S1x512.Idx) : k0_pay8 (F := Ideal) y = 0 := by
  unfold k0_pay8
  pointwise

theorem hz : (![0, 0] : Fin 2 → ℕ) = fun _ => 0 := funext fun a => by fin_cases a <;> rfl

/-! ### What each kind of grid point leaves: the stores' payloads -/

section Cases

variable (c : Dev nD) (i : grid0.Coords)
  (a2 : Memref sig .tc .vmem S512x512 .f32) (h2 : a2.IsWhole)
  (a3 : Memref sig .tc .vmem S512x512 .f32) (h3 : a3.IsWhole)
  (a4 : Memref sig .tc .vmem S512x512 .f32) (h4 : a4.IsWhole)
  (a5 : Memref sig .tc .vmem S512x512 .f32) (h5 : a5.IsWhole)
  (a6 : Memref sig .tc .vmem S512x512 .f32) (h6 : a6.IsWhole)
  (a7 : Memref sig .tc .vmem S1x512 .f32) (h7 : a7.IsWhole)
  (a8 : Memref sig .tc .vmem S1x512 .f32) (h8 : a8.IsWhole)
  (a9 : Memref sig .tc .vmem S512x512 .bf16) (h9 : a9.IsWhole)
  (a10 : Memref sig .tc .vmem S512x512 .bf16) (h10 : a10.IsWhole)
  (a11 : Memref sig .tc .vmem S512x512 .bf16) (h11 : a11.IsWhole)
  (a12 : Memref sig .tc .vmem S512x512 .bf16) (h12 : a12.IsWhole)
  (a13 : Memref sig .tc .vmem S1x512 .f32) (h13 : a13.IsWhole)
  (a14 : Memref sig .tc .vmem S1x512 .f32) (h14 : a14.IsWhole)
  (C Y Z P Q : Vec Ideal S512x512 .f32) (B E : Vec Ideal S1x512 .f32) (u w : Vec Ideal S1x512 .f32)

theorem first7 (hc : cond0_0 i) : out0_A_7 c i a2 h2 a3 h3 a4 h4 a5 h5 a6 h6 a7 h7 a8 h8 a9 h9 a10 h10 a11 h11 a12 h12 a13 h13 a14 h14 hc C Y Z P Q B E = k0_pay3 C (k0_pay9 P B) Y := by
  unfold out0_A_7
  rw [View.read_writes_eq_canon _ _ _ (cover0_A_7 c i a2 h2 a3 h3 a4 h4 a5 h5 a6 h6 a7 h7 a8 h8 a9 h9 a10 h10 a11 h11 a12 h12 a13 h13 a14 h14 hc C Y Z P Q B E)]
  unfold kernelRun0_A
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S512x512) hz, View.ld_unit_zero (S := S1x512) hz]

theorem first8 (hc : cond0_0 i) : out0_A_8 c i a2 h2 a3 h3 a4 h4 a5 h5 a6 h6 a7 h7 a8 h8 a9 h9 a10 h10 a11 h11 a12 h12 a13 h13 a14 h14 hc C Y Z P Q B E = k0_pay11 C P B := by
  unfold out0_A_8
  rw [View.read_writes_eq_canon _ _ _ (cover0_A_8 c i a2 h2 a3 h3 a4 h4 a5 h5 a6 h6 a7 h7 a8 h8 a9 h9 a10 h10 a11 h11 a12 h12 a13 h13 a14 h14 hc C Y Z P Q B E)]
  unfold kernelRun0_A
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S512x512) hz, View.ld_unit_zero (S := S1x512) hz]

theorem first9 (hc : cond0_0 i) : out0_A_9 c i a2 h2 a3 h3 a4 h4 a5 h5 a6 h6 a7 h7 a8 h8 a9 h9 a10 h10 a11 h11 a12 h12 a13 h13 a14 h14 hc C Y Z P Q B E = k0_pay12 C Q E := by
  unfold out0_A_9
  rw [View.read_writes_eq_canon _ _ _ (cover0_A_9 c i a2 h2 a3 h3 a4 h4 a5 h5 a6 h6 a7 h7 a8 h8 a9 h9 a10 h10 a11 h11 a12 h12 a13 h13 a14 h14 hc C Y Z P Q B E)]
  unfold kernelRun0_A
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S512x512) hz, View.ld_unit_zero (S := S1x512) hz]

theorem first10 (hc : cond0_0 i) : out0_A_10 c i a2 h2 a3 h3 a4 h4 a5 h5 a6 h6 a7 h7 a8 h8 a9 h9 a10 h10 a11 h11 a12 h12 a13 h13 a14 h14 hc C Y Z P Q B E = k0_pay4 C (k0_pay10 Q E) Z := by
  unfold out0_A_10
  rw [View.read_writes_eq_canon _ _ _ (cover0_A_10 c i a2 h2 a3 h3 a4 h4 a5 h5 a6 h6 a7 h7 a8 h8 a9 h9 a10 h10 a11 h11 a12 h12 a13 h13 a14 h14 hc C Y Z P Q B E)]
  unfold kernelRun0_A
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S512x512) hz, View.ld_unit_zero (S := S1x512) hz]

theorem first11 (hc : cond0_0 i) : out0_A_11 c i a2 h2 a3 h3 a4 h4 a5 h5 a6 h6 a7 h7 a8 h8 a9 h9 a10 h10 a11 h11 a12 h12 a13 h13 a14 h14 hc C Y Z P Q B E = k0_pay5 C (k0_pay9 P B) Y (k0_pay7 (F := Ideal)) := by
  unfold out0_A_11
  rw [View.read_writes_eq_canon _ _ _ (cover0_A_11 c i a2 h2 a3 h3 a4 h4 a5 h5 a6 h6 a7 h7 a8 h8 a9 h9 a10 h10 a11 h11 a12 h12 a13 h13 a14 h14 hc C Y Z P Q B E)]
  unfold kernelRun0_A
  dsimp only
  sl_unfold_words
  rw [View.canon_cons_unit_zero (S := S1x512) hz, View.readCov_unit_zero (S := S1x512) _ hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S512x512) hz, View.ld_unit_zero (S := S1x512) hz]

theorem first12 (hc : cond0_0 i) : out0_A_12 c i a2 h2 a3 h3 a4 h4 a5 h5 a6 h6 a7 h7 a8 h8 a9 h9 a10 h10 a11 h11 a12 h12 a13 h13 a14 h14 hc C Y Z P Q B E = k0_pay6 C (k0_pay10 Q E) Z (k0_pay8 (F := Ideal)) := by
  unfold out0_A_12
  rw [View.read_writes_eq_canon _ _ _ (cover0_A_12 c i a2 h2 a3 h3 a4 h4 a5 h5 a6 h6 a7 h7 a8 h8 a9 h9 a10 h10 a11 h11 a12 h12 a13 h13 a14 h14 hc C Y Z P Q B E)]
  unfold kernelRun0_A
  dsimp only
  sl_unfold_words
  rw [View.canon_cons_unit_zero (S := S1x512) hz, View.readCov_unit_zero (S := S1x512) _ hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S512x512) hz, View.ld_unit_zero (S := S1x512) hz]

theorem later7 (hc : ¬cond0_0 i) : out0_B_7 c i a2 h2 a3 h3 a4 h4 a5 h5 a6 h6 a7 h7 a8 h8 a9 h9 a10 h10 a11 h11 a12 h12 a13 h13 a14 h14 hc C Y Z P Q B E u w = k0_pay3 C (k0_pay9 P B) Y := by
  unfold out0_B_7
  rw [View.read_writes_eq_canon _ _ _ (cover0_B_7 c i a2 h2 a3 h3 a4 h4 a5 h5 a6 h6 a7 h7 a8 h8 a9 h9 a10 h10 a11 h11 a12 h12 a13 h13 a14 h14 hc C Y Z P Q B E u w)]
  unfold kernelRun0_B
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S512x512) hz, View.ld_unit_zero (S := S1x512) hz]

theorem later8 (hc : ¬cond0_0 i) : out0_B_8 c i a2 h2 a3 h3 a4 h4 a5 h5 a6 h6 a7 h7 a8 h8 a9 h9 a10 h10 a11 h11 a12 h12 a13 h13 a14 h14 hc C Y Z P Q B E u w = k0_pay11 C P B := by
  unfold out0_B_8
  rw [View.read_writes_eq_canon _ _ _ (cover0_B_8 c i a2 h2 a3 h3 a4 h4 a5 h5 a6 h6 a7 h7 a8 h8 a9 h9 a10 h10 a11 h11 a12 h12 a13 h13 a14 h14 hc C Y Z P Q B E u w)]
  unfold kernelRun0_B
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S512x512) hz, View.ld_unit_zero (S := S1x512) hz]

theorem later9 (hc : ¬cond0_0 i) : out0_B_9 c i a2 h2 a3 h3 a4 h4 a5 h5 a6 h6 a7 h7 a8 h8 a9 h9 a10 h10 a11 h11 a12 h12 a13 h13 a14 h14 hc C Y Z P Q B E u w = k0_pay12 C Q E := by
  unfold out0_B_9
  rw [View.read_writes_eq_canon _ _ _ (cover0_B_9 c i a2 h2 a3 h3 a4 h4 a5 h5 a6 h6 a7 h7 a8 h8 a9 h9 a10 h10 a11 h11 a12 h12 a13 h13 a14 h14 hc C Y Z P Q B E u w)]
  unfold kernelRun0_B
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S512x512) hz, View.ld_unit_zero (S := S1x512) hz]

theorem later10 (hc : ¬cond0_0 i) : out0_B_10 c i a2 h2 a3 h3 a4 h4 a5 h5 a6 h6 a7 h7 a8 h8 a9 h9 a10 h10 a11 h11 a12 h12 a13 h13 a14 h14 hc C Y Z P Q B E u w = k0_pay4 C (k0_pay10 Q E) Z := by
  unfold out0_B_10
  rw [View.read_writes_eq_canon _ _ _ (cover0_B_10 c i a2 h2 a3 h3 a4 h4 a5 h5 a6 h6 a7 h7 a8 h8 a9 h9 a10 h10 a11 h11 a12 h12 a13 h13 a14 h14 hc C Y Z P Q B E u w)]
  unfold kernelRun0_B
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S512x512) hz, View.ld_unit_zero (S := S1x512) hz]

theorem later11 (hc : ¬cond0_0 i) : out0_B_11 c i a2 h2 a3 h3 a4 h4 a5 h5 a6 h6 a7 h7 a8 h8 a9 h9 a10 h10 a11 h11 a12 h12 a13 h13 a14 h14 hc C Y Z P Q B E u w = k0_pay5 C (k0_pay9 P B) Y u := by
  unfold out0_B_11
  rw [View.read_writes_eq_canon _ _ _ (cover0_B_11 c i a2 h2 a3 h3 a4 h4 a5 h5 a6 h6 a7 h7 a8 h8 a9 h9 a10 h10 a11 h11 a12 h12 a13 h13 a14 h14 hc C Y Z P Q B E u w)]
  unfold kernelRun0_B
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S512x512) hz, View.ld_unit_zero (S := S1x512) hz]

theorem later12 (hc : ¬cond0_0 i) : out0_B_12 c i a2 h2 a3 h3 a4 h4 a5 h5 a6 h6 a7 h7 a8 h8 a9 h9 a10 h10 a11 h11 a12 h12 a13 h13 a14 h14 hc C Y Z P Q B E u w = k0_pay6 C (k0_pay10 Q E) Z w := by
  unfold out0_B_12
  rw [View.read_writes_eq_canon _ _ _ (cover0_B_12 c i a2 h2 a3 h3 a4 h4 a5 h5 a6 h6 a7 h7 a8 h8 a9 h9 a10 h10 a11 h11 a12 h12 a13 h13 a14 h14 hc C Y Z P Q B E u w)]
  unfold kernelRun0_B
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, View.ld_unit_zero (S := S512x512) hz, View.ld_unit_zero (S := S1x512) hz]

end Cases

/-! ### The blocks -/

theorem index0 : ∀ t : Fin cfg0.N, win0_0.index t = ![t.val % 4, t.val / 4] := by decide +kernel
theorem index1 : ∀ t : Fin cfg0.N, win0_1.index t = ![t.val % 4, t.val / 4] := by decide +kernel
theorem index2 : ∀ t : Fin cfg0.N, win0_2.index t = ![t.val % 4, t.val / 4] := by decide +kernel
theorem index3 : ∀ t : Fin cfg0.N, win0_3.index t = ![t.val % 4, 15 + t.val / 4] := by decide +kernel
theorem index4 : ∀ t : Fin cfg0.N, win0_4.index t = ![t.val % 4, 19 + t.val / 4] := by decide +kernel
theorem index5 : ∀ t : Fin cfg0.N, win0_5.index t = ![0, t.val / 4] := by decide +kernel
theorem index6 : ∀ t : Fin cfg0.N, win0_6.index t = ![0, 4 + t.val / 4] := by decide +kernel
theorem index7 : ∀ t : Fin cfg0.N, win0_7.index t = ![t.val % 4, t.val / 4] := by decide +kernel
theorem index8 : ∀ t : Fin cfg0.N, win0_8.index t = ![t.val % 4, t.val / 4] := by decide +kernel
theorem index9 : ∀ t : Fin cfg0.N, win0_9.index t = ![t.val % 4, t.val / 4] := by decide +kernel
theorem index10 : ∀ t : Fin cfg0.N, win0_10.index t = ![t.val % 4, t.val / 4] := by decide +kernel
theorem index11 : ∀ t : Fin cfg0.N, win0_11.index t = ![0, t.val / 4] := by decide +kernel
theorem index12 : ∀ t : Fin cfg0.N, win0_12.index t = ![0, t.val / 4] := by decide +kernel
theorem flush11 : ∀ t : Fin cfg0.N, (cfg0.win 11).flush t = true → t.val % 4 = 3 := by decide +kernel
theorem flush12 : ∀ t : Fin cfg0.N, (cfg0.win 12).flush t = true → t.val % 4 = 3 := by decide +kernel

variable (m : (ℓ : Loc nD τ sig) → Buf (Elt Ideal) ℓ) (c : Dev nD)

/-- Row, or column, `i` of block `q`, in the whole array. -/
def at512 (q : Fin 4) (i : Fin 512) : Fin 2048 := ⟨q.val * 512 + i.val, by omega⟩

/-- A sum over the rows is the sum of its blocks' sums. -/
theorem sum_blocks (f : Fin 2048 → EReal) : ∑ s, f s = ∑ q : Fin 4, ∑ i : Fin 512, f (at512 q i) := by
  rw [← Fintype.sum_prod_type' (fun q i => f (at512 q i))]
  exact (Fintype.sum_equiv (finProdFinEquiv (m := 4) (n := 512)) _ _ fun p => congrArg f (Fin.ext (by
    simp only [at512, finProdFinEquiv_apply_val]; omega))).symm

/-- The block of rows and the block of columns of a grid point. -/
def rows (t : Fin cfg0.N) : Fin 4 := ⟨t.val % 4, by omega⟩
def cols (t : Fin cfg0.N) : Fin 4 := ⟨t.val / 4, by have := t.isLt; have e : cfg0.N = 16 := N_0; omega⟩

theorem block0 (t : Fin cfg0.N) (i d : Fin 512) : iblk m c 0 t (ix2 i d) = m ((c : Thread nD τ).loc main_arg0) (ix2 (at512 (rows t) i) (at512 (cols t) d)) := by
  have h : V m c main_arg0 (ix2 (at512 (rows t) i) (at512 (cols t) d)) = m ((c : Thread nD τ).loc main_arg0) (ix2 (at512 (rows t) i) (at512 (cols t) d)) := by
    unfold V
    after_reads_at
  refine Eq.trans ?_ h
  blk_ext [iblk, index0 t] <;> simp [index0 t, at512, rows, cols]

theorem block1 (t : Fin cfg0.N) (i d : Fin 512) : iblk m c 1 t (ix2 i d) = m ((c : Thread nD τ).loc main_arg1) (ix2 (at512 (rows t) i) (at512 (cols t) d)) := by
  have h : V m c main_arg1 (ix2 (at512 (rows t) i) (at512 (cols t) d)) = m ((c : Thread nD τ).loc main_arg1) (ix2 (at512 (rows t) i) (at512 (cols t) d)) := by
    unfold V
    after_reads_at
  refine Eq.trans ?_ h
  blk_ext [iblk, index1 t] <;> simp [index1 t, at512, rows, cols]

theorem block2 (t : Fin cfg0.N) (i d : Fin 512) : iblk m c 2 t (ix2 i d) = m ((c : Thread nD τ).loc main_arg2) (ix2 (at512 (rows t) i) (at512 (cols t) d)) := by
  have h : V m c main_arg2 (ix2 (at512 (rows t) i) (at512 (cols t) d)) = m ((c : Thread nD τ).loc main_arg2) (ix2 (at512 (rows t) i) (at512 (cols t) d)) := by
    unfold V
    after_reads_at
  refine Eq.trans ?_ h
  blk_ext [iblk, index2 t] <;> simp [index2 t, at512, rows, cols]

theorem block3 (t : Fin cfg0.N) (i d : Fin 512) : iblk m c 3 t (ix2 i d) = m ((c : Thread nD τ).loc main_arg3) (ix2 (at512 (rows t) i) (among (first (at512 (cols t) d)))) := by
  have h : V m c main_arg3 (ix2 (at512 (rows t) i) (among (first (at512 (cols t) d)))) = m ((c : Thread nD τ).loc main_arg3) (ix2 (at512 (rows t) i) (among (first (at512 (cols t) d)))) := by
    unfold V
    after_reads_at
  refine Eq.trans ?_ h
  blk_ext [iblk, index3 t] <;> simp [index3 t, at512, rows, cols, among, first]
  all_goals omega

theorem block4 (t : Fin cfg0.N) (i d : Fin 512) : iblk m c 4 t (ix2 i d) = m ((c : Thread nD τ).loc main_arg3) (ix2 (at512 (rows t) i) (among (second (at512 (cols t) d)))) := by
  have h : V m c main_arg3 (ix2 (at512 (rows t) i) (among (second (at512 (cols t) d)))) = m ((c : Thread nD τ).loc main_arg3) (ix2 (at512 (rows t) i) (among (second (at512 (cols t) d)))) := by
    unfold V
    after_reads_at
  refine Eq.trans ?_ h
  blk_ext [iblk, index4 t] <;> simp [index4 t, at512, rows, cols, among, second]
  all_goals omega

theorem block5 (t : Fin cfg0.N) (d : Fin 512) : iblk m c 5 t (ix2 (0 : Fin 1) d) = m ((c : Thread nD τ).loc main_arg4) (ix2 (0 : Fin 1) (first (at512 (cols t) d))) := by
  have h : V m c main_arg4 (ix2 (0 : Fin 1) (first (at512 (cols t) d))) = m ((c : Thread nD τ).loc main_arg4) (ix2 (0 : Fin 1) (first (at512 (cols t) d))) := by
    unfold V
    after_reads_at
  refine Eq.trans ?_ h
  blk_ext [iblk, index5 t] <;> simp [index5 t, at512, cols, first]
  all_goals omega

theorem block6 (t : Fin cfg0.N) (d : Fin 512) : iblk m c 6 t (ix2 (0 : Fin 1) d) = m ((c : Thread nD τ).loc main_arg4) (ix2 (0 : Fin 1) (second (at512 (cols t) d))) := by
  have h : V m c main_arg4 (ix2 (0 : Fin 1) (second (at512 (cols t) d))) = m ((c : Thread nD τ).loc main_arg4) (ix2 (0 : Fin 1) (second (at512 (cols t) d))) := by
    unfold V
    after_reads_at
  refine Eq.trans ?_ h
  blk_ext [iblk, index6 t] <;> simp [index6 t, at512, cols, second]
  all_goals omega

/-- The gradient that reaches the merge, the two branches, and the gates' arguments. -/
def ct (s d : Fin 2048) : EReal := m ((c : Thread nD τ).loc main_arg0) (ix2 s d)
def one (s d : Fin 2048) : EReal := m ((c : Thread nD τ).loc main_arg1) (ix2 s d)
def two (s d : Fin 2048) : EReal := m ((c : Thread nD τ).loc main_arg2) (ix2 s d)
def z (s : Fin 2048) (e : Fin 4096) : EReal :=
  arg (fun s e => m ((c : Thread nD τ).loc main_arg3) (ix2 s e)) (fun e => m ((c : Thread nD τ).loc main_arg4) (ix2 (0 : Fin 1) e)) s e

/-- The gradients of a gate's argument and of a branch, at one element. -/
def oneSlope (s d : Fin 2048) : EReal := argGrad (ct m c s d) (one m c s d) (z m c s (first d))
def twoSlope (s d : Fin 2048) : EReal := argGrad (ct m c s d) (two m c s d) (z m c s (second d))
def oneGrad (s d : Fin 2048) : EReal := ct m c s d * gate (z m c s (first d))
def twoGrad (s d : Fin 2048) : EReal := ct m c s d * gate (z m c s (second d))

/-- The gradients of the two biases, at one element. -/
def oneBias (d : Fin 2048) : EReal := ∑ s, oneSlope m c s d
def twoBias (d : Fin 2048) : EReal := ∑ s, twoSlope m c s d

/-- A block of rows' part of the gradient of a bias. -/
def onePart (n : ℕ) (d : Fin 2048) : EReal := if h : n < 4 then ∑ i : Fin 512, oneSlope m c (at512 ⟨n, h⟩ i) d else 0
def twoPart (n : ℕ) (d : Fin 2048) : EReal := if h : n < 4 then ∑ i : Fin 512, twoSlope m c (at512 ⟨n, h⟩ i) d else 0

theorem value7 (t : Fin cfg0.N) (i d : Fin 512) : (outsAt0 m c t.val t.isLt).1 (ix2 i d) = oneSlope m c (at512 (rows t) i) (at512 (cols t) d) := by
  have p := pay3_apply (iblk m c 0 t) (iblk m c 1 t) (iblk m c 3 t) (iblk m c 5 t) i d
  rw [block0, block1, block3, block5] at p
  by_cases h : t.val % 4 = 0
  · rw [outsAt0_A m c t h]
    dsimp only
    rw [first7]
    exact p
  · rw [outsAt0_B m c t h]
    dsimp only
    rw [later7]
    exact p

theorem value8 (t : Fin cfg0.N) (i d : Fin 512) : (outsAt0 m c t.val t.isLt).2.1 (ix2 i d) = oneGrad m c (at512 (rows t) i) (at512 (cols t) d) := by
  have p := pay11_apply (iblk m c 0 t) (iblk m c 3 t) (iblk m c 5 t) i d
  rw [block0, block3, block5] at p
  by_cases h : t.val % 4 = 0
  · rw [outsAt0_A m c t h]
    dsimp only
    rw [first8]
    exact p
  · rw [outsAt0_B m c t h]
    dsimp only
    rw [later8]
    exact p

theorem value9 (t : Fin cfg0.N) (i d : Fin 512) : (outsAt0 m c t.val t.isLt).2.2.1 (ix2 i d) = twoGrad m c (at512 (rows t) i) (at512 (cols t) d) := by
  have p := pay12_apply (iblk m c 0 t) (iblk m c 4 t) (iblk m c 6 t) i d
  rw [block0, block4, block6] at p
  by_cases h : t.val % 4 = 0
  · rw [outsAt0_A m c t h]
    dsimp only
    rw [first9]
    exact p
  · rw [outsAt0_B m c t h]
    dsimp only
    rw [later9]
    exact p

theorem value10 (t : Fin cfg0.N) (i d : Fin 512) : (outsAt0 m c t.val t.isLt).2.2.2.1 (ix2 i d) = twoSlope m c (at512 (rows t) i) (at512 (cols t) d) := by
  have p := pay4_apply (iblk m c 0 t) (iblk m c 2 t) (iblk m c 4 t) (iblk m c 6 t) i d
  rw [block0, block2, block4, block6] at p
  by_cases h : t.val % 4 = 0
  · rw [outsAt0_A m c t h]
    dsimp only
    rw [first10]
    exact p
  · rw [outsAt0_B m c t h]
    dsimp only
    rw [later10]
    exact p

theorem point11 (t : Fin cfg0.N) (n : ℕ) (hn : t.val % 4 = n) (acc : Vec Ideal S1x512 .f32) (o : Fin 1) (d : Fin 512) :
    k0_pay5 (iblk m c 0 t) (k0_pay9 (iblk m c 3 t) (iblk m c 5 t)) (iblk m c 1 t) acc (ix2 o d) = acc (ix2 o d) + onePart m c n (at512 (cols t) d) := by
  have h4 : n < 4 := by omega
  have hb : rows t = ⟨n, h4⟩ := Fin.ext hn
  refine (pay5_apply (iblk m c 0 t) (iblk m c 1 t) (iblk m c 3 t) (iblk m c 5 t) acc o d).trans ?_
  unfold onePart
  rw [dif_pos h4, ← hb]
  simp only [block0, block1, block3, block5]
  rfl

/-- After the tile of block `n` of rows the array holds the parts met so far. -/
theorem held11 (n : ℕ) : ∀ t : Fin cfg0.N, t.val % 4 = n → ∀ (o : Fin 1) (d : Fin 512),
    (outsAt0 m c t.val t.isLt).2.2.2.2.1 (ix2 o d) = ∑ k ∈ Finset.range (n + 1), onePart m c k (at512 (cols t) d) := by
  induction n with
  | zero =>
    intro t h o d
    rw [outsAt0_A m c t h]
    dsimp only
    rw [first11]
    refine (point11 m c t 0 h _ o d).trans ?_
    rw [pay7_apply, zero_add, zero_add, Finset.sum_range_one]
  | succ n ih =>
    intro t h o d
    have bd : t.val - 1 < cfg0.N := Nat.lt_of_le_of_lt (Nat.sub_le _ _) t.isLt
    have e := ih ⟨t.val - 1, bd⟩ (by dsimp only; omega) o d
    have k : cols ⟨t.val - 1, bd⟩ = cols t := Fin.ext (by simp only [cols]; omega)
    rw [k] at e
    rw [outsAt0_B m c t (by omega)]
    dsimp only
    rw [later11]
    refine (point11 m c t (n + 1) h _ o d).trans ?_
    rw [Finset.sum_range_succ _ (n + 1)]
    exact congrArg (· + onePart m c (n + 1) (at512 (cols t) d)) e

theorem parts11 (d : Fin 2048) : ∑ k ∈ Finset.range 4, onePart m c k d = ∑ s, oneSlope m c s d := by
  rw [Finset.sum_range, sum_blocks]
  refine Finset.sum_congr rfl fun q _ => ?_
  unfold onePart
  rw [dif_pos q.isLt]

theorem point12 (t : Fin cfg0.N) (n : ℕ) (hn : t.val % 4 = n) (acc : Vec Ideal S1x512 .f32) (o : Fin 1) (d : Fin 512) :
    k0_pay6 (iblk m c 0 t) (k0_pay10 (iblk m c 4 t) (iblk m c 6 t)) (iblk m c 2 t) acc (ix2 o d) = acc (ix2 o d) + twoPart m c n (at512 (cols t) d) := by
  have h4 : n < 4 := by omega
  have hb : rows t = ⟨n, h4⟩ := Fin.ext hn
  refine (pay6_apply (iblk m c 0 t) (iblk m c 2 t) (iblk m c 4 t) (iblk m c 6 t) acc o d).trans ?_
  unfold twoPart
  rw [dif_pos h4, ← hb]
  simp only [block0, block2, block4, block6]
  rfl

/-- After the tile of block `n` of rows the array holds the parts met so far. -/
theorem held12 (n : ℕ) : ∀ t : Fin cfg0.N, t.val % 4 = n → ∀ (o : Fin 1) (d : Fin 512),
    (outsAt0 m c t.val t.isLt).2.2.2.2.2 (ix2 o d) = ∑ k ∈ Finset.range (n + 1), twoPart m c k (at512 (cols t) d) := by
  induction n with
  | zero =>
    intro t h o d
    rw [outsAt0_A m c t h]
    dsimp only
    rw [first12]
    refine (point12 m c t 0 h _ o d).trans ?_
    rw [pay8_apply, zero_add, zero_add, Finset.sum_range_one]
  | succ n ih =>
    intro t h o d
    have bd : t.val - 1 < cfg0.N := Nat.lt_of_le_of_lt (Nat.sub_le _ _) t.isLt
    have e := ih ⟨t.val - 1, bd⟩ (by dsimp only; omega) o d
    have k : cols ⟨t.val - 1, bd⟩ = cols t := Fin.ext (by simp only [cols]; omega)
    rw [k] at e
    rw [outsAt0_B m c t (by omega)]
    dsimp only
    rw [later12]
    refine (point12 m c t (n + 1) h _ o d).trans ?_
    rw [Finset.sum_range_succ _ (n + 1)]
    exact congrArg (· + twoPart m c (n + 1) (at512 (cols t) d)) e

theorem parts12 (d : Fin 2048) : ∑ k ∈ Finset.range 4, twoPart m c k d = ∑ s, twoSlope m c s d := by
  rw [Finset.sum_range, sum_blocks]
  refine Finset.sum_congr rfl fun q _ => ?_
  unfold twoPart
  rw [dif_pos q.isLt]

/-! ### The arrays after the run -/

theorem array7 : (dats m 0 c).arrAt 7 cfg0.N = fun y => oneSlope m c (y 0) (y 1) := by
  refine (dats m 0 c).arrAt_eq_of_covers 7 _ (by decide +kernel) fun t hf y => ?_
  rw [after0_7]
  obtain ⟨i, d, rfl⟩ : ∃ (i d : Fin 512), y = ix2 i d := ⟨y 0, y 1, eq_ix2 y⟩
  have e : (win0_7.blk t).view.emb (ix2 i d) = ix2 (at512 (rows t) i) (at512 (cols t) d) := by
    blk_ext [index7 t] <;> simp [index7 t, at512, rows, cols]
  refine (value7 m c t i d).trans ?_
  blk_simp
  rw [e]
  rfl

theorem array8 : (dats m 0 c).arrAt 8 cfg0.N = fun y => oneGrad m c (y 0) (y 1) := by
  refine (dats m 0 c).arrAt_eq_of_covers 8 _ (by decide +kernel) fun t hf y => ?_
  rw [after0_8]
  obtain ⟨i, d, rfl⟩ : ∃ (i d : Fin 512), y = ix2 i d := ⟨y 0, y 1, eq_ix2 y⟩
  have e : (win0_8.blk t).view.emb (ix2 i d) = ix2 (at512 (rows t) i) (at512 (cols t) d) := by
    blk_ext [index8 t] <;> simp [index8 t, at512, rows, cols]
  refine (value8 m c t i d).trans ?_
  blk_simp
  rw [e]
  rfl

theorem array9 : (dats m 0 c).arrAt 9 cfg0.N = fun y => twoGrad m c (y 0) (y 1) := by
  refine (dats m 0 c).arrAt_eq_of_covers 9 _ (by decide +kernel) fun t hf y => ?_
  rw [after0_9]
  obtain ⟨i, d, rfl⟩ : ∃ (i d : Fin 512), y = ix2 i d := ⟨y 0, y 1, eq_ix2 y⟩
  have e : (win0_9.blk t).view.emb (ix2 i d) = ix2 (at512 (rows t) i) (at512 (cols t) d) := by
    blk_ext [index9 t] <;> simp [index9 t, at512, rows, cols]
  refine (value9 m c t i d).trans ?_
  blk_simp
  rw [e]
  rfl

theorem array10 : (dats m 0 c).arrAt 10 cfg0.N = fun y => twoSlope m c (y 0) (y 1) := by
  refine (dats m 0 c).arrAt_eq_of_covers 10 _ (by decide +kernel) fun t hf y => ?_
  rw [after0_10]
  obtain ⟨i, d, rfl⟩ : ∃ (i d : Fin 512), y = ix2 i d := ⟨y 0, y 1, eq_ix2 y⟩
  have e : (win0_10.blk t).view.emb (ix2 i d) = ix2 (at512 (rows t) i) (at512 (cols t) d) := by
    blk_ext [index10 t] <;> simp [index10 t, at512, rows, cols]
  refine (value10 m c t i d).trans ?_
  blk_simp
  rw [e]
  rfl

theorem array11 : (dats m 0 c).arrAt 11 cfg0.N = fun y => oneBias m c (y 1) := by
  refine (dats m 0 c).arrAt_eq_of_covers 11 _ (by decide +kernel) fun t hf y => ?_
  rw [after0_11]
  obtain ⟨o, d, rfl⟩ : ∃ (o : Fin 1) (d : Fin 512), y = ix2 o d := ⟨y 0, y 1, eq_ix2 y⟩
  have e : (win0_11.blk t).view.emb (ix2 o d) = ix2 o (at512 (cols t) d) := by
    blk_ext [index11 t] <;> simp [index11 t, at512, cols]
  refine (held11 m c 3 t (flush11 t hf) o d).trans ?_
  rw [parts11]
  blk_simp
  rw [e]
  rfl

theorem array12 : (dats m 0 c).arrAt 12 cfg0.N = fun y => twoBias m c (y 1) := by
  refine (dats m 0 c).arrAt_eq_of_covers 12 _ (by decide +kernel) fun t hf y => ?_
  rw [after0_12]
  obtain ⟨o, d, rfl⟩ : ∃ (o : Fin 1) (d : Fin 512), y = ix2 o d := ⟨y 0, y 1, eq_ix2 y⟩
  have e : (win0_12.blk t).view.emb (ix2 o d) = ix2 o (at512 (cols t) d) := by
    blk_ext [index12 t] <;> simp [index12 t, at512, cols]
  refine (held12 m c 3 t (flush12 t hf) o d).trans ?_
  rw [parts12]
  blk_simp
  rw [e]
  rfl

end Cert.GateGradIdeal.Value

end
-- ==== Proof.GateRef.lean ====
/-
  The reference's gradients of the gated merge, stage by stage.
-/
module

public import proofs.«01_k».proof.Proof.Gate
public import proofs.«01_k».proof.Proof.Gen.GateGradReferenceIdeal
public import proofs.«01_k».proof.Proof.Gen.GateGradReferenceIdeal.Run
public import proofs.«01_k».proof.Proof.Gen.GateGradReferenceIdeal.Read
public import Idealize.ShloMosaic.Lib.Pointwise
public import Idealize.ShloMosaic.Lib.Pipeline.ValueKit
public import Idealize.ShloMosaic.Lib.Tactic

@[expose] public section

set_option maxRecDepth 16384

noncomputable section

namespace Cert.GateGradReferenceIdeal.Stage

open Cert.Gate Cert.GateGradReferenceIdeal Cert.GateGradReferenceIdeal.Gen Cert.GateGradReferenceIdeal.Read Idealize.ShloMosaic

variable (x0 x1 x2 : FVec Ideal S2048x2048 .f32) (x3 : FVec Ideal S2048x11776 .f32) (x4 : FVec Ideal S1x4096 .f32)

/-- A gate's argument. -/
def z (s : Fin 2048) (e : Fin 4096) : EReal := arg (fun s e => x3 (ix2 s e)) (fun e => x4 (ix2 (0 : Fin 1) e)) s e

theorem gate_value (s : Fin 2048) (e : Fin 4096) : val_main_v10 (F := Ideal) x3 x4 (ix2 s e) = gate (z x3 x4 s e) := by
  unfold val_main_v10 val_main_v9 val_main_v8 val_main_v7 val_main_v6 val_main_v5 val_main_v4 val_main_v3 val_main_v2 val_main_v1 val_main_v0 val_main_cst val_main_cst_0
  pointwise
  rfl

theorem rise_value (s : Fin 2048) (e : Fin 4096) : val_main_v13 (F := Ideal) x3 x4 (ix2 s e) = gate (z x3 x4 s e) * (1 - gate (z x3 x4 s e)) := by
  unfold val_main_v13 val_main_v12 val_main_v11 val_main_cst_1
  pointwise
  rw [gate_value]

theorem one_value (s d : Fin 2048) : val_main_v36 (F := Ideal) x0 x3 x4 (ix2 s d) = x0 (ix2 s d) * gate (z x3 x4 s (first d)) := by
  unfold val_main_v36 val_main_v23 val_main_v19 val_main_v14
  pointwise
  rw [mul_comm]
  exact congrArg (x0 (ix2 s d) * ·) (gate_value x3 x4 s (first d))

theorem two_value (s d : Fin 2048) : val_main_v37 (F := Ideal) x0 x3 x4 (ix2 s d) = x0 (ix2 s d) * gate (z x3 x4 s (second d)) := by
  unfold val_main_v37 val_main_v21 val_main_v20 val_main_v15
  pointwise
  rw [mul_comm]
  exact congrArg (x0 (ix2 s d) * ·) (gate_value x3 x4 s (second d))

theorem first_half (s d : Fin 2048) : val_main_v25 (F := Ideal) x0 x1 x2 (ix2 s (first d)) = x0 (ix2 s d) * x1 (ix2 s d) := by
  unfold val_main_v25 val_main_v24 val_main_v19
  pointwise
  exact dif_pos d.isLt

theorem second_half (s d : Fin 2048) : val_main_v25 (F := Ideal) x0 x1 x2 (ix2 s (second d)) = x0 (ix2 s d) * x2 (ix2 s d) := by
  unfold val_main_v25 val_main_v22 val_main_v20
  pointwise
  have e : (⟨(second d).val - 2048, by simp only [second]; omega⟩ : Fin 2048) = d := Fin.ext (by simp only [second]; omega)
  refine (dif_neg (by simp only [second]; omega)).trans ?_
  rw [e]

theorem first_slope (s d : Fin 2048) :
    val_main_v26 (F := Ideal) x0 x1 x2 x3 x4 (ix2 s (first d)) = argGrad (x0 (ix2 s d)) (x1 (ix2 s d)) (z x3 x4 s (first d)) := by
  unfold val_main_v26 argGrad
  pointwise
  rw [first_half, rise_value, mul_assoc (x0 (ix2 s d) * x1 (ix2 s d))]

theorem second_slope (s d : Fin 2048) :
    val_main_v26 (F := Ideal) x0 x1 x2 x3 x4 (ix2 s (second d)) = argGrad (x0 (ix2 s d)) (x2 (ix2 s d)) (z x3 x4 s (second d)) := by
  unfold val_main_v26 argGrad
  pointwise
  rw [second_half, rise_value, mul_assoc (x0 (ix2 s d) * x2 (ix2 s d))]

theorem first_value (s d : Fin 2048) :
    val_main_v32 (F := Ideal) x0 x1 x2 x3 x4 (ix2 s d) = argGrad (x0 (ix2 s d)) (x1 (ix2 s d)) (z x3 x4 s (first d)) := by
  refine Eq.trans ?_ (first_slope x0 x1 x2 x3 x4 s d)
  unfold val_main_v32 val_main_v31
  pointwise
  rfl

theorem second_value (s d : Fin 2048) :
    val_main_v33 (F := Ideal) x0 x1 x2 x3 x4 (ix2 s d) = argGrad (x0 (ix2 s d)) (x2 (ix2 s d)) (z x3 x4 s (second d)) := by
  refine Eq.trans ?_ (second_slope x0 x1 x2 x3 x4 s d)
  unfold val_main_v33 val_main_v31
  pointwise
  rfl

theorem bias_value (e : Fin 4096) (o : Fin 1) : val_main_v30 (F := Ideal) x0 x1 x2 x3 x4 (ix2 o e) = ∑ s : Fin 2048, val_main_v26 (F := Ideal) x0 x1 x2 x3 x4 (ix2 s e) := by
  unfold val_main_v30 val_main_v29 val_main_v28 val_main_v27 val_main_cst_2 val_main_cst_3
  pointwise
  simp only [Fin.sum_univ_one]

theorem first_bias (o : Fin 1) (d : Fin 2048) :
    val_main_v34 (F := Ideal) x0 x1 x2 x3 x4 (ix2 o d) = ∑ s, argGrad (x0 (ix2 s d)) (x1 (ix2 s d)) (z x3 x4 s (first d)) := by
  refine Eq.trans ?_ ((bias_value x0 x1 x2 x3 x4 (first d) 0).trans (Finset.sum_congr rfl fun s _ => first_slope x0 x1 x2 x3 x4 s d))
  unfold val_main_v34
  pointwise
  rfl

theorem second_bias (o : Fin 1) (d : Fin 2048) :
    val_main_v35 (F := Ideal) x0 x1 x2 x3 x4 (ix2 o d) = ∑ s, argGrad (x0 (ix2 s d)) (x2 (ix2 s d)) (z x3 x4 s (second d)) := by
  refine Eq.trans ?_ ((bias_value x0 x1 x2 x3 x4 (second d) 0).trans (Finset.sum_congr rfl fun s _ => second_slope x0 x1 x2 x3 x4 s d))
  unfold val_main_v35
  pointwise
  rfl

end Cert.GateGradReferenceIdeal.Stage

end
-- ==== Proof.GateGrad.lean ====
/-
  The claims about the gradients of the gated merge: the call and the reference leave the same six arrays.
-/
module

public import proofs.«01_k».proof.Defs
public import proofs.«01_k».proof.Proof.GateKernel
public import proofs.«01_k».proof.Proof.GateRef

@[expose] public section

set_option maxRecDepth 16384

noncomputable section

namespace Cert.Proof.GateGrad

open Cert.Gate Idealize.ShloMosaic Idealize.ShloMosaic.TcCoe Idealize.SL.Sem

/-- The reference runs, leaves its arguments as they were, and declares no semaphore. -/
theorem frame_reference : Cert.quiescent_GateGradReferenceIdeal := by
  intro m ρ _
  exact (θ_run Cert.GateGradReferenceIdeal.defs _ _).mono (fun r h => ⟨fun c => (h c).2.2.2.2.2.2,
      Idealize.ShloMosaic.sem_eq_zero_of_no_sems (by decide) r.2⟩)
    (Cert.GateGradReferenceIdeal.Value.run (F := Ideal) m ρ)

set_option maxHeartbeats 1000000 in
/-- The kernel and the reference compute the same gradients. -/
theorem algebraic : Cert.algebraic_GateGradIdeal_GateGradReferenceIdeal := by
  intro m ρ m' ρ' _ agree
  open Cert.GateGradIdeal.Value in
  refine ⟨fun c => fun y => oneSlope m c (y 0) (y 1), fun c => fun y => oneGrad m c (y 0) (y 1), fun c => fun y => twoGrad m c (y 0) (y 1),
    fun c => fun y => twoSlope m c (y 0) (y 1), fun c => fun y => oneBias m c (y 1), fun c => fun y => twoBias m c (y 1), ?_, ?_⟩
  · exact (θ_run Cert.GateGradIdeal.defs _ _).mono (fun _ h c => ⟨(h c).1.trans (Cert.GateGradIdeal.Value.array7 m c),
      (h c).2.1.trans (Cert.GateGradIdeal.Value.array8 m c),
      (h c).2.2.1.trans (Cert.GateGradIdeal.Value.array9 m c),
      (h c).2.2.2.1.trans (Cert.GateGradIdeal.Value.array10 m c),
      (h c).2.2.2.2.1.trans (Cert.GateGradIdeal.Value.array11 m c),
      (h c).2.2.2.2.2.1.trans (Cert.GateGradIdeal.Value.array12 m c),
      (h c).2.2.2.2.2.2⟩) (Cert.GateGradIdeal.Value.run_blocks m ρ)
  · refine (θ_run Cert.GateGradReferenceIdeal.defs _ _).mono (fun _ h c => ?_) (Cert.GateGradReferenceIdeal.Value.run (F := Ideal) m' ρ')
    obtain ⟨e0, e1, e2, e3, e4⟩ := agree c
    refine ⟨(h c).1.trans ((Cert.GateGradReferenceIdeal.Read.val_main_v32_eq _ _ _ _ _).trans (funext fun y => ?_)),
      (h c).2.1.trans ((Cert.GateGradReferenceIdeal.Read.val_main_v36_eq _ _ _).trans (funext fun y => ?_)),
      (h c).2.2.1.trans ((Cert.GateGradReferenceIdeal.Read.val_main_v37_eq _ _ _).trans (funext fun y => ?_)),
      (h c).2.2.2.1.trans ((Cert.GateGradReferenceIdeal.Read.val_main_v33_eq _ _ _ _ _).trans (funext fun y => ?_)),
      (h c).2.2.2.2.1.trans ((Cert.GateGradReferenceIdeal.Read.val_main_v34_eq _ _ _ _ _).trans (funext fun y => ?_)),
      (h c).2.2.2.2.2.1.trans ((Cert.GateGradReferenceIdeal.Read.val_main_v35_eq _ _ _ _ _).trans (funext fun y => ?_)),
      (h c).2.2.2.2.2.2⟩
    · rw [eq_ix2 y, e0, e1, e2, e3, e4]
      exact Cert.GateGradReferenceIdeal.Stage.first_value _ _ _ _ _ (y 0) (y 1)
    · rw [eq_ix2 y, e0, e3, e4]
      exact Cert.GateGradReferenceIdeal.Stage.one_value _ _ _ (y 0) (y 1)
    · rw [eq_ix2 y, e0, e3, e4]
      exact Cert.GateGradReferenceIdeal.Stage.two_value _ _ _ (y 0) (y 1)
    · rw [eq_ix2 y, e0, e1, e2, e3, e4]
      exact Cert.GateGradReferenceIdeal.Stage.second_value _ _ _ _ _ (y 0) (y 1)
    · rw [eq_ix2 y, e0, e1, e2, e3, e4]
      exact Cert.GateGradReferenceIdeal.Stage.first_bias _ _ _ _ _ (y 0) (y 1)
    · rw [eq_ix2 y, e0, e1, e2, e3, e4]
      exact Cert.GateGradReferenceIdeal.Stage.second_bias _ _ _ _ _ (y 0) (y 1)

end Cert.Proof.GateGrad

end
-- ==== Proof.NormInner.lean ====
/-
  Layer normalisation of one row over the extended reals, and the gradient that reaches the first normalisation.
-/
module

public import proofs.«01_k».proof.Proof.NormReal

@[expose] public section

noncomputable section

namespace Cert.Norm

open Idealize.ShloMosaic

/-- A row of numbers that need not be finite. -/
abbrev Line := Fin 2048 → EReal

/-- The sum that is normalised, its mean, what is left of it, one over its deviation, and its normalised form. -/
def linePre (u v : Line) : Line := fun d => (alpha : EReal) * u d + v d

def lineMean (p : Line) : EReal := Ideal.div (∑ d, p d) ((2048 : ℝ) : EReal)

def lineCen (p : Line) : Line := fun d => p d - lineMean p

def lineRstd (p : Line) : EReal := Ideal.rsqrt (Ideal.div (∑ d, lineCen p d * lineCen p d) ((2048 : ℝ) : EReal) + (eps : EReal))

def lineHat (p : Line) : Line := fun d => lineCen p d * lineRstd p

/-- The gradient that reaches the normalised row. -/
def reach (a e : Row) : Row := fun d => a d + alpha * e d

/-- The gradient through the scale. -/
def weighted (r g : Row) : Row := fun d => r d * g d

end Cert.Norm

end
-- ==== Proof.NormFwd.lean ====
/-
  The claims about the first normalisation: the call and the reference leave the same four arrays, of all arguments.
-/
module

public import proofs.«01_k».proof.Defs
public import proofs.«01_k».proof.Proof.NormInner
public import proofs.«01_k».proof.Proof.Gen.NormFwdIdeal
public import proofs.«01_k».proof.Proof.Gen.NormFwdIdeal.Frame
public import proofs.«01_k».proof.Proof.Gen.NormFwdIdeal.Value
public import proofs.«01_k».proof.Proof.Gen.NormFwdReferenceIdeal
public import proofs.«01_k».proof.Proof.Gen.NormFwdReferenceIdeal.Run
public import proofs.«01_k».proof.Proof.Gen.NormFwdReferenceIdeal.Read
public import Idealize.ShloMosaic.Lib.Pointwise
public import Idealize.ShloMosaic.Lib.Pipeline.ValueKit
public import Idealize.ShloMosaic.Lib.StableHlo.ReadAt
public import Idealize.ShloMosaic.Lib.Tactic

@[expose] public section

set_option maxRecDepth 16384

noncomputable section

namespace Cert.NormFwdIdeal.Value

open Cert.Norm Cert.NormFwdIdeal Cert.NormFwdIdeal.Gen Idealize.ShloMosaic Idealize.ShloMosaic.TcCoe Idealize.SL.Sem

/-! ### The payloads -/

section Payloads

variable (X F : Vec Ideal S256x2048 .f32) (G B : Vec Ideal S1x2048 .f32)

/-- Row `i` of a block's sum. -/
def sumRow (i : Fin 256) : Line := linePre (fun d => X (ix2 i d)) (fun d => F (ix2 i d))

theorem pay1_apply (i : Fin 256) (d : Fin 2048) : k0_pay1 X F (ix2 i d) = lineCen (sumRow X F i) d := by
  unfold k0_pay1
  pointwise
  simp only [w_alpha, w_2048]
  rfl

theorem pay2_apply (i : Fin 256) (z : Fin 1) : k0_pay2 X F (ix2 i z) = lineRstd (sumRow X F i) := by
  unfold k0_pay2
  pointwise
  simp only [pay1_apply, w_2048, w_eps]
  rfl

theorem pay3_apply (i : Fin 256) (d : Fin 2048) : k0_pay3 X F (ix2 i d) = lineHat (sumRow X F i) d := by
  unfold k0_pay3
  pointwise
  rw [pay1_apply, pay2_apply]
  rfl

theorem pay4_apply (i : Fin 256) (d : Fin 2048) :
    k0_pay4 X F G B (ix2 i d) = lineHat (sumRow X F i) d * G (ix2 (0 : Fin 1) d) + B (ix2 (0 : Fin 1) d) := by
  unfold k0_pay4
  pointwise
  rw [pay3_apply]

theorem pay5_apply (i : Fin 256) (d : Fin 2048) :
    k0_pay5 X F G B (ix2 i d) = lineHat (sumRow X F i) d * G (ix2 (0 : Fin 1) d) + B (ix2 (0 : Fin 1) d) := by
  unfold k0_pay5
  pointwise
  exact pay4_apply X F G B i d

end Payloads

/-! ### The blocks -/

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![t.val, 0] := by decide +kernel
theorem index5 : ∀ t : Fin cfg0.N, win0_5.index t = ![t.val, 0] := by decide +kernel
theorem index6 : ∀ t : Fin cfg0.N, win0_6.index t = ![t.val, 0] := by decide +kernel
theorem index7 : ∀ t : Fin cfg0.N, win0_7.index t = ![t.val, 0] := by decide +kernel

theorem hz : (![0, 0] : Fin 2 → ℕ) = fun _ => 0 := funext fun a => by fin_cases a <;> rfl

variable (m : (ℓ : Loc nD τ sig) → Buf (Elt Ideal) ℓ) (c : Dev nD)

/-- Row `i` of block `q` of rows, in the whole array. -/
def rowOf (q : Fin 8) (i : Fin 256) : Fin 2048 := ⟨q.val * 256 + i.val, by omega⟩

/-- The block of a grid point. -/
def blockOf (t : Fin cfg0.N) : Fin 8 := ⟨t.val, by have := t.isLt; have e : cfg0.N = 8 := N_0; omega⟩

theorem block0 (t : Fin cfg0.N) (i : Fin 256) (d : Fin 2048) : iblk m c 0 t (ix2 i d) = m ((c : Thread nD τ).loc main_arg0) (ix2 (rowOf (blockOf t) i) d) := by
  have h : V m c main_arg0 (ix2 (rowOf (blockOf t) i) d) = m ((c : Thread nD τ).loc main_arg0) (ix2 (rowOf (blockOf t) i) d) := by
    unfold V
    after_reads_at
  refine Eq.trans ?_ h
  blk_ext [iblk, index0 t] <;> simp [index0 t, rowOf, blockOf]

theorem block1 (t : Fin cfg0.N) (i : Fin 256) (d : Fin 2048) : iblk m c 1 t (ix2 i d) = m ((c : Thread nD τ).loc main_arg1) (ix2 (rowOf (blockOf t) i) d) := by
  have h : V m c main_arg1 (ix2 (rowOf (blockOf t) i) d) = m ((c : Thread nD τ).loc main_arg1) (ix2 (rowOf (blockOf t) i) d) := by
    unfold V
    after_reads_at
  refine Eq.trans ?_ h
  blk_ext [iblk, index1 t] <;> simp [index1 t, rowOf, blockOf]

theorem block2 (t : Fin cfg0.N) (d : Fin 2048) : iblk m c 2 t (ix2 (0 : Fin 1) d) = m ((c : Thread nD τ).loc main_arg2) (ix2 (0 : Fin 1) d) := by
  have h : V m c main_arg2 (ix2 (0 : Fin 1) d) = m ((c : Thread nD τ).loc main_arg2) (ix2 (0 : Fin 1) d) := by
    unfold V
    after_reads_at
  refine Eq.trans ?_ h
  blk_ext [iblk, index2 t] <;> simp [index2 t]

theorem block3 (t : Fin cfg0.N) (d : Fin 2048) : iblk m c 3 t (ix2 (0 : Fin 1) d) = m ((c : Thread nD τ).loc main_arg3) (ix2 (0 : Fin 1) d) := by
  have h : V m c main_arg3 (ix2 (0 : Fin 1) d) = m ((c : Thread nD τ).loc main_arg3) (ix2 (0 : Fin 1) d) := by
    unfold V
    after_reads_at
  refine Eq.trans ?_ h
  blk_ext [iblk, index3 t] <;> simp [index3 t]

/-- Row `s` of the whole sum, its normalised form scaled and shifted. -/
def sumLine (s : Fin 2048) : Line :=
  linePre (fun d => m ((c : Thread nD τ).loc main_arg0) (ix2 s d)) (fun d => m ((c : Thread nD τ).loc main_arg1) (ix2 s d))

@[irreducible] def result (s d : Fin 2048) : EReal :=
  lineHat (sumLine m c s) d * (show EReal from m ((c : Thread nD τ).loc main_arg2) (ix2 (0 : Fin 1) d)) + (show EReal from m ((c : Thread nD τ).loc main_arg3) (ix2 (0 : Fin 1) d))

@[irreducible] def hatAt (s d : Fin 2048) : EReal := lineHat (sumLine m c s) d

@[irreducible] def rstdAt (s : Fin 2048) : EReal := lineRstd (sumLine m c s)

theorem row_eq (t : Fin cfg0.N) (i : Fin 256) : sumRow (iblk m c 0 t) (iblk m c 1 t) i = sumLine m c (rowOf (blockOf t) i) := by
  unfold sumRow sumLine
  simp only [block0, block1]

/-! ### The arrays after the run -/

theorem left4 (X F : Vec Ideal S256x2048 .f32) (G B : Vec Ideal S1x2048 .f32) : out0_4 X F G B = k0_pay4 X F G B := by
  unfold out0_4
  rw [View.canon_unit_zero hz]
  simp only [View.ld_unit_zero (S := S256x2048) hz, View.ld_unit_zero (S := S1x2048) hz]

theorem value4 (t : Fin cfg0.N) (i : Fin 256) (d : Fin 2048) :
    k0_pay4 (iblk m c 0 t) (iblk m c 1 t) (iblk m c 2 t) (iblk m c 3 t) (ix2 i d) = result m c (rowOf (blockOf t) i) d := by
  have p := pay4_apply (iblk m c 0 t) (iblk m c 1 t) (iblk m c 2 t) (iblk m c 3 t) i d
  rw [row_eq, block2, block3] at p
  rw [p]
  unfold result
  rfl

theorem array4 : (dats m 0 c).arrAt 4 cfg0.N = fun y => result m c (y 0) (y 1) := by
  refine (dats m 0 c).arrAt_eq_of_covers 4 _ (by decide +kernel) fun t hf y => ?_
  rw [after0_4, left4]
  obtain ⟨i, d, rfl⟩ : ∃ (i : Fin 256) (d : Fin 2048), y = ix2 i d := ⟨y 0, y 1, eq_ix2 y⟩
  have e : (win0_4.blk t).view.emb (ix2 i d) = ix2 (rowOf (blockOf t) i) d := by
    blk_ext [index4 t] <;> simp [index4 t, rowOf, blockOf]
  refine (value4 m c t i d).trans ?_
  blk_simp
  rw [e]
  rfl

theorem left5 (X F : Vec Ideal S256x2048 .f32) (G B : Vec Ideal S1x2048 .f32) : out0_5 X F G B = k0_pay5 X F G B := by
  unfold out0_5
  rw [View.canon_unit_zero hz]
  simp only [View.ld_unit_zero (S := S256x2048) hz, View.ld_unit_zero (S := S1x2048) hz]

theorem value5 (t : Fin cfg0.N) (i : Fin 256) (d : Fin 2048) :
    k0_pay5 (iblk m c 0 t) (iblk m c 1 t) (iblk m c 2 t) (iblk m c 3 t) (ix2 i d) = result m c (rowOf (blockOf t) i) d := by
  have p := pay5_apply (iblk m c 0 t) (iblk m c 1 t) (iblk m c 2 t) (iblk m c 3 t) i d
  rw [row_eq, block2, block3] at p
  rw [p]
  unfold result
  rfl

theorem array5 : (dats m 0 c).arrAt 5 cfg0.N = fun y => result m c (y 0) (y 1) := by
  refine (dats m 0 c).arrAt_eq_of_covers 5 _ (by decide +kernel) fun t hf y => ?_
  rw [after0_5, left5]
  obtain ⟨i, d, rfl⟩ : ∃ (i : Fin 256) (d : Fin 2048), y = ix2 i d := ⟨y 0, y 1, eq_ix2 y⟩
  have e : (win0_5.blk t).view.emb (ix2 i d) = ix2 (rowOf (blockOf t) i) d := by
    blk_ext [index5 t] <;> simp [index5 t, rowOf, blockOf]
  refine (value5 m c t i d).trans ?_
  blk_simp
  rw [e]
  rfl

theorem left6 (X F : Vec Ideal S256x2048 .f32) (G B : Vec Ideal S1x2048 .f32) : out0_6 X F G B = k0_pay3 X F := by
  unfold out0_6
  rw [View.canon_unit_zero hz]
  simp only [View.ld_unit_zero (S := S256x2048) hz, View.ld_unit_zero (S := S1x2048) hz]

theorem value6 (t : Fin cfg0.N) (i : Fin 256) (d : Fin 2048) :
    k0_pay3 (iblk m c 0 t) (iblk m c 1 t) (ix2 i d) = hatAt m c (rowOf (blockOf t) i) d := by
  have p := pay3_apply (iblk m c 0 t) (iblk m c 1 t) i d
  rw [row_eq] at p
  rw [p]
  unfold hatAt
  rfl

theorem array6 : (dats m 0 c).arrAt 6 cfg0.N = fun y => hatAt m c (y 0) (y 1) := by
  refine (dats m 0 c).arrAt_eq_of_covers 6 _ (by decide +kernel) fun t hf y => ?_
  rw [after0_6, left6]
  obtain ⟨i, d, rfl⟩ : ∃ (i : Fin 256) (d : Fin 2048), y = ix2 i d := ⟨y 0, y 1, eq_ix2 y⟩
  have e : (win0_6.blk t).view.emb (ix2 i d) = ix2 (rowOf (blockOf t) i) d := by
    blk_ext [index6 t] <;> simp [index6 t, rowOf, blockOf]
  refine (value6 m c t i d).trans ?_
  blk_simp
  rw [e]
  rfl

theorem left7 (X F : Vec Ideal S256x2048 .f32) (G B : Vec Ideal S1x2048 .f32) : out0_7 X F G B = k0_pay2 X F := by
  unfold out0_7
  rw [View.canon_unit_zero hz]
  simp only [View.ld_unit_zero (S := S256x2048) hz, View.ld_unit_zero (S := S1x2048) hz]

theorem value7 (t : Fin cfg0.N) (i : Fin 256) (d : Fin 1) :
    k0_pay2 (iblk m c 0 t) (iblk m c 1 t) (ix2 i d) = rstdAt m c (rowOf (blockOf t) i) := by
  have p := pay2_apply (iblk m c 0 t) (iblk m c 1 t) i d
  rw [row_eq] at p
  rw [p]
  unfold rstdAt
  rfl

theorem array7 : (dats m 0 c).arrAt 7 cfg0.N = fun y => rstdAt m c (y 0) := by
  refine (dats m 0 c).arrAt_eq_of_covers 7 _ (by decide +kernel) fun t hf y => ?_
  rw [after0_7, left7]
  obtain ⟨i, d, rfl⟩ : ∃ (i : Fin 256) (d : Fin 1), y = ix2 i d := ⟨y 0, y 1, eq_ix2 y⟩
  have e : (win0_7.blk t).view.emb (ix2 i d) = ix2 (rowOf (blockOf t) i) d := by
    blk_ext [index7 t] <;> simp [index7 t, rowOf, blockOf]
  refine (value7 m c t i d).trans ?_
  blk_simp
  rw [e]
  rfl

end Cert.NormFwdIdeal.Value

namespace Cert.NormFwdReferenceIdeal.Stage

open Cert.Norm Cert.NormFwdReferenceIdeal Cert.NormFwdReferenceIdeal.Gen Cert.NormFwdReferenceIdeal.Read Idealize.ShloMosaic

variable (x0 x1 : FVec Ideal S2048x2048 .f32) (x2 x3 : FVec Ideal S1x2048 .f32)

/-- Row `s` of the sum. -/
def sumLine (s : Fin 2048) : Line := linePre (fun d => x0 (ix2 s d)) (fun d => x1 (ix2 s d))

theorem pre_value (s d : Fin 2048) : val_main_v2 (F := Ideal) x0 x1 (ix2 s d) = sumLine x0 x1 s d := by
  unfold val_main_v2 val_main_v1 val_main_v0 val_main_cst
  pointwise
  simp only [w_alpha]
  rfl

theorem cen_value (s d : Fin 2048) : val_main_v8 (F := Ideal) x0 x1 (ix2 s d) = lineCen (sumLine x0 x1 s) d := by
  unfold val_main_v8 val_main_v7 val_main_v6 val_main_v5 val_main_v4 val_main_v3 val_main_cst_0 val_main_cst_1
  pointwise
  simp only [pre_value, w_2048]
  rfl

theorem cen_in (s d : Fin 2048) : val_main_v24 (F := Ideal) x0 x1 (ix2 s d) = lineCen (sumLine x0 x1 s) d := by
  unfold val_main_v24 val_main_v23 val_main_v22 val_main_v21 val_main_v20 val_main_v19 val_main_cst_5 val_main_cst_6
  pointwise
  simp only [pre_value, w_2048]
  rfl

theorem cen_again (s d : Fin 2048) : val_main_v31 (F := Ideal) x0 x1 (ix2 s d) = lineCen (sumLine x0 x1 s) d := by
  unfold val_main_v31 val_main_v30 val_main_v22 val_main_v21 val_main_v20 val_main_v19 val_main_cst_5 val_main_cst_6
  pointwise
  simp only [pre_value, w_2048]
  rfl

theorem cen_out (s d : Fin 2048) : val_main_v45 (F := Ideal) x0 x1 (ix2 s d) = lineCen (sumLine x0 x1 s) d := by
  unfold val_main_v45 val_main_v44 val_main_v6 val_main_v5 val_main_v4 val_main_v3 val_main_cst_0 val_main_cst_1
  pointwise
  simp only [pre_value, w_2048]
  rfl

theorem rstd_value (s : Fin 2048) (z : Fin 1) : val_main_v16 (F := Ideal) x0 x1 (ix2 s z) = lineRstd (sumLine x0 x1 s) := by
  unfold val_main_v16 val_main_v15 val_main_v14 val_main_v13 val_main_v12 val_main_v11 val_main_v10 val_main_v9 val_main_cst_2 val_main_cst_3 val_main_cst_4
  pointwise
  simp only [cen_value, w_2048, w_eps]
  rfl

theorem rstd_in (s : Fin 2048) (z : Fin 1) : val_main_v34 (F := Ideal) x0 x1 (ix2 s z) = lineRstd (sumLine x0 x1 s) := by
  unfold val_main_v34 val_main_v33 val_main_v32 val_main_v29 val_main_v28 val_main_v27 val_main_v26 val_main_v25 val_main_cst_7 val_main_cst_8 val_main_cst_9
  pointwise
  simp only [cen_in, w_2048, w_eps]
  rfl

theorem hat_value (s d : Fin 2048) : val_main_v47 (F := Ideal) x0 x1 (ix2 s d) = lineHat (sumLine x0 x1 s) d := by
  unfold val_main_v47 val_main_v46
  pointwise
  rw [cen_out, rstd_value]
  rfl

theorem result_value (s d : Fin 2048) :
    val_main_v42 (F := Ideal) x0 x1 x2 x3 (ix2 s d) = lineHat (sumLine x0 x1 s) d * x2 (ix2 (0 : Fin 1) d) + x3 (ix2 (0 : Fin 1) d) := by
  unfold val_main_v42 val_main_v41 val_main_v40 val_main_v39 val_main_v38 val_main_v37 val_main_v36 val_main_v35 val_main_v18 val_main_v17
  pointwise
  rw [cen_again, rstd_in]
  rfl

theorem result_rounded (s d : Fin 2048) :
    val_main_v43 (F := Ideal) x0 x1 x2 x3 (ix2 s d) = lineHat (sumLine x0 x1 s) d * x2 (ix2 (0 : Fin 1) d) + x3 (ix2 (0 : Fin 1) d) := by
  unfold val_main_v43
  pointwise
  exact result_value x0 x1 x2 x3 s d

end Cert.NormFwdReferenceIdeal.Stage

namespace Cert.Proof.NormFwd

open Cert.Norm Idealize.ShloMosaic Idealize.ShloMosaic.TcCoe Idealize.SL.Sem

/-- The reference runs, leaves its arguments as they were, and declares no semaphore. -/
theorem frame_reference : Cert.quiescent_NormFwdReferenceIdeal := by
  intro m ρ _
  exact (θ_run Cert.NormFwdReferenceIdeal.defs _ _).mono (fun r h => ⟨fun c => (h c).2.2.2.2,
      Idealize.ShloMosaic.sem_eq_zero_of_no_sems (by decide) r.2⟩)
    (Cert.NormFwdReferenceIdeal.Value.run (F := Ideal) m ρ)

set_option maxHeartbeats 1000000 in
/-- The kernel and the reference compute the same normalised rows, and the same numbers kept for the gradient. -/
theorem algebraic : Cert.algebraic_NormFwdIdeal_NormFwdReferenceIdeal := by
  intro m ρ m' ρ' _ agree
  open Cert.NormFwdIdeal.Value in
  refine ⟨fun c => fun y => result m c (y 0) (y 1), fun c => fun y => result m c (y 0) (y 1), fun c => fun y => hatAt m c (y 0) (y 1),
    fun c => fun y => rstdAt m c (y 0), ?_, ?_⟩
  · exact (θ_run Cert.NormFwdIdeal.defs _ _).mono (fun _ h c => ⟨(h c).1.trans (Cert.NormFwdIdeal.Value.array4 m c),
      (h c).2.1.trans (Cert.NormFwdIdeal.Value.array5 m c),
      (h c).2.2.1.trans (Cert.NormFwdIdeal.Value.array6 m c),
      (h c).2.2.2.1.trans (Cert.NormFwdIdeal.Value.array7 m c),
      (h c).2.2.2.2⟩) (Cert.NormFwdIdeal.Value.run_blocks m ρ)
  · refine (θ_run Cert.NormFwdReferenceIdeal.defs _ _).mono (fun _ h c => ?_) (Cert.NormFwdReferenceIdeal.Value.run (F := Ideal) m' ρ')
    obtain ⟨e0, e1, e2, e3⟩ := agree c
    refine ⟨(h c).1.trans ((Cert.NormFwdReferenceIdeal.Read.val_main_v42_eq _ _ _ _).trans (funext fun y => ?_)),
      (h c).2.1.trans ((Cert.NormFwdReferenceIdeal.Read.val_main_v43_eq _ _ _ _).trans (funext fun y => ?_)),
      (h c).2.2.1.trans ((Cert.NormFwdReferenceIdeal.Read.val_main_v47_eq _ _).trans (funext fun y => ?_)),
      (h c).2.2.2.1.trans ((Cert.NormFwdReferenceIdeal.Read.val_main_v16_eq _ _).trans (funext fun y => ?_)),
      (h c).2.2.2.2⟩
    · rw [eq_ix2 y, e0, e1, e2, e3]
      refine (Cert.NormFwdReferenceIdeal.Stage.result_value _ _ _ _ (y 0) (y 1)).trans ?_
      unfold Cert.NormFwdIdeal.Value.result
      rfl
    · rw [eq_ix2 y, e0, e1, e2, e3]
      refine (Cert.NormFwdReferenceIdeal.Stage.result_rounded _ _ _ _ (y 0) (y 1)).trans ?_
      unfold Cert.NormFwdIdeal.Value.result
      rfl
    · rw [eq_ix2 y, e0, e1]
      refine (Cert.NormFwdReferenceIdeal.Stage.hat_value _ _ (y 0) (y 1)).trans ?_
      unfold Cert.NormFwdIdeal.Value.hatAt
      rfl
    · rw [eq_ix2 y, e0, e1]
      refine (Cert.NormFwdReferenceIdeal.Stage.rstd_value _ _ (y 0) (y 1)).trans ?_
      unfold Cert.NormFwdIdeal.Value.rstdAt
      rfl

end Cert.Proof.NormFwd

end
-- ==== Proof.NormBwdKernel.lean ====
/-
  The gradient through the first normalisation: what the call leaves, block of rows by block of rows, and after its eight grid points.
-/
module

public import proofs.«01_k».proof.Proof.NormInner
public import proofs.«01_k».proof.Proof.Gen.NormBwdIdeal
public import proofs.«01_k».proof.Proof.Gen.NormBwdIdeal.Frame
public import proofs.«01_k».proof.Proof.Gen.NormBwdIdeal.Value
public import Idealize.ShloMosaic.Lib.Pointwise
public import Idealize.ShloMosaic.Lib.Pipeline.ValueKit
public import Idealize.ShloMosaic.Lib.StableHlo.ReadAt
public import Idealize.ShloMosaic.Lib.Tactic

@[expose] public section

set_option maxRecDepth 16384

noncomputable section

namespace Cert.NormBwdIdeal.Value

open Cert.Norm Cert.NormBwdIdeal Cert.NormBwdIdeal.Gen Idealize.ShloMosaic Idealize.ShloMosaic.TcCoe Idealize.SL.Sem

/-! ### The payloads, of blocks that hold real numbers -/

section Payloads

variable {A E X : Vec Ideal S256x2048 .f32} {R : Vec Ideal S256x1 .f32} {G : Vec Ideal S1x2048 .f32}
  {a e p : Fin 256 → Row} {g : Row}
  (ha : ∀ i d, A (ix2 i d) = (a i d : EReal)) (he : ∀ i d, E (ix2 i d) = (e i d : EReal))
  (hX : ∀ i d, X (ix2 i d) = (hat (p i) d : EReal)) (hR : ∀ i z, R (ix2 i z) = (rstd (p i) : EReal))
  (hg : ∀ d, G (ix2 (0 : Fin 1) d) = (g d : EReal))

include hX in
theorem pay6_apply (i : Fin 256) (d : Fin 2048) : k0_pay6 X (ix2 i d) = (hat (p i) d : EReal) := by
  unfold k0_pay6
  pointwise
  exact hX i d

include ha he

theorem pay5_apply (i : Fin 256) (d : Fin 2048) : k0_pay5 A E (ix2 i d) = (reach (a i) (e i) d : EReal) := by
  unfold k0_pay5
  pointwise
  simp only [ha, he, w_alpha, ← EReal.coe_mul, ← EReal.coe_add]
  rfl

/-- The block's part of the gradient of the shift. -/
theorem pay2_apply (acc : Vec Ideal S1x2048 .f32) (z : Fin 1) (d : Fin 2048) :
    k0_pay2 (k0_pay5 A E) acc (ix2 z d) = acc (ix2 z d) + ((∑ i, reach (a i) (e i) d : ℝ) : EReal) := by
  unfold k0_pay2
  pointwise
  simp only [pay5_apply ha he, ← coe_sum]

include hX

/-- The block's part of the gradient of the scale. -/
theorem pay1_apply (acc : Vec Ideal S1x2048 .f32) (z : Fin 1) (d : Fin 2048) :
    k0_pay1 (k0_pay5 A E) (k0_pay6 X) acc (ix2 z d) = acc (ix2 z d) + ((∑ i, reach (a i) (e i) d * hat (p i) d : ℝ) : EReal) := by
  unfold k0_pay1
  pointwise
  simp only [pay5_apply ha he, pay6_apply hX, ← EReal.coe_mul, ← coe_sum]

include hR hg

theorem pay7_apply (i : Fin 256) (d : Fin 2048) :
    k0_pay7 A E X R G (ix2 i d) = (back (p i) (weighted (reach (a i) (e i)) g) d : EReal) := by
  unfold k0_pay7
  pointwise
  simp only [pay5_apply ha he, pay6_apply hX, hR, hg, w_2048, ← EReal.coe_mul, ← coe_sum, div_2048, ← EReal.coe_sub]
  rfl

theorem pay8_apply (i : Fin 256) (d : Fin 2048) :
    k0_pay8 A E X R G (ix2 i d) = (back (p i) (weighted (reach (a i) (e i)) g) d : EReal) := by
  unfold k0_pay8
  pointwise
  exact pay7_apply ha he hX hR hg i d

end Payloads

theorem pay3_apply (y : S1x2048.Idx) : k0_pay3 (F := Ideal) y = 0 := by
  unfold k0_pay3
  pointwise

theorem pay4_apply (y : S1x2048.Idx) : k0_pay4 (F := Ideal) y = 0 := by
  unfold k0_pay4
  pointwise

theorem hz : (![0, 0] : Fin 2 → ℕ) = fun _ => 0 := funext fun a => by fin_cases a <;> rfl

/-! ### What each kind of grid point leaves: the stores' payloads -/

section Cases

variable (c : Dev nD) (i : grid0.Coords)
  (a1 : Memref sig .tc .vmem S256x2048 .f32) (h1 : a1.IsWhole)
  (a2 : Memref sig .tc .vmem S256x2048 .f32) (h2 : a2.IsWhole)
  (a3 : Memref sig .tc .vmem S256x2048 .f32) (h3 : a3.IsWhole)
  (a4 : Memref sig .tc .vmem S256x1 .f32) (h4 : a4.IsWhole)
  (a5 : Memref sig .tc .vmem S1x2048 .f32) (h5 : a5.IsWhole)
  (a6 : Memref sig .tc .vmem S256x2048 .f32) (h6 : a6.IsWhole)
  (a7 : Memref sig .tc .vmem S256x2048 .bf16) (h7 : a7.IsWhole)
  (a8 : Memref sig .tc .vmem S1x2048 .f32) (h8 : a8.IsWhole)
  (a9 : Memref sig .tc .vmem S1x2048 .f32) (h9 : a9.IsWhole)
  (A E X : Vec Ideal S256x2048 .f32) (R : Vec Ideal S256x1 .f32) (G : Vec Ideal S1x2048 .f32) (u w : Vec Ideal S1x2048 .f32)

theorem first5 (hc : cond0_0 i) : out0_A_5 c i a1 h1 a2 h2 a3 h3 a4 h4 a5 h5 a6 h6 a7 h7 a8 h8 a9 h9 hc A E X R G = k0_pay7 A E X R G := by
  unfold out0_A_5
  rw [View.read_writes_eq_canon _ _ _ (cover0_A_5 c i a1 h1 a2 h2 a3 h3 a4 h4 a5 h5 a6 h6 a7 h7 a8 h8 a9 h9 hc A E X R G)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S256x2048) hz, View.ld_unit_zero (S := S1x2048) hz, View.ld_unit_zero (S := S256x1) hz]

theorem first6 (hc : cond0_0 i) : out0_A_6 c i a1 h1 a2 h2 a3 h3 a4 h4 a5 h5 a6 h6 a7 h7 a8 h8 a9 h9 hc A E X R G = k0_pay8 A E X R G := by
  unfold out0_A_6
  rw [View.read_writes_eq_canon _ _ _ (cover0_A_6 c i a1 h1 a2 h2 a3 h3 a4 h4 a5 h5 a6 h6 a7 h7 a8 h8 a9 h9 hc A E X R G)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S256x2048) hz, View.ld_unit_zero (S := S1x2048) hz, View.ld_unit_zero (S := S256x1) hz]

theorem first7 (hc : cond0_0 i) : out0_A_7 c i a1 h1 a2 h2 a3 h3 a4 h4 a5 h5 a6 h6 a7 h7 a8 h8 a9 h9 hc A E X R G = k0_pay1 (k0_pay5 A E) (k0_pay6 X) (k0_pay3 (F := Ideal)) := by
  unfold out0_A_7
  rw [View.read_writes_eq_canon _ _ _ (cover0_A_7 c i a1 h1 a2 h2 a3 h3 a4 h4 a5 h5 a6 h6 a7 h7 a8 h8 a9 h9 hc A E X R G)]
  unfold kernelRun0_A
  dsimp only
  sl_unfold_words
  rw [View.canon_cons_unit_zero (S := S1x2048) hz, View.readCov_unit_zero (S := S1x2048) _ hz]
  simp only [View.readAt_eq_ld, h1.read_unread, h2.read_unread, h3.read_unread, h4.read_unread, h5.read_unread, h6.read_unread, h7.read_unread, h8.read_unread, h9.read_unread, View.ld_unit_zero (S := S256x2048) hz, View.ld_unit_zero (S := S1x2048) hz, View.ld_unit_zero (S := S256x1) hz]

theorem first8 (hc : cond0_0 i) : out0_A_8 c i a1 h1 a2 h2 a3 h3 a4 h4 a5 h5 a6 h6 a7 h7 a8 h8 a9 h9 hc A E X R G = k0_pay2 (k0_pay5 A E) (k0_pay4 (F := Ideal)) := by
  unfold out0_A_8
  rw [View.read_writes_eq_canon _ _ _ (cover0_A_8 c i a1 h1 a2 h2 a3 h3 a4 h4 a5 h5 a6 h6 a7 h7 a8 h8 a9 h9 hc A E X R G)]
  unfold kernelRun0_A
  dsimp only
  sl_unfold_words
  rw [View.canon_cons_unit_zero (S := S1x2048) hz, View.readCov_unit_zero (S := S1x2048) _ hz]
  simp only [View.readAt_eq_ld, h1.read_unread, h2.read_unread, h3.read_unread, h4.read_unread, h5.read_unread, h6.read_unread, h7.read_unread, h8.read_unread, h9.read_unread, View.ld_unit_zero (S := S256x2048) hz, View.ld_unit_zero (S := S1x2048) hz, View.ld_unit_zero (S := S256x1) hz]

theorem later5 (hc : ¬cond0_0 i) : out0_B_5 c i a1 h1 a2 h2 a3 h3 a4 h4 a5 h5 a6 h6 a7 h7 a8 h8 a9 h9 hc A E X R G u w = k0_pay7 A E X R G := by
  unfold out0_B_5
  rw [View.read_writes_eq_canon _ _ _ (cover0_B_5 c i a1 h1 a2 h2 a3 h3 a4 h4 a5 h5 a6 h6 a7 h7 a8 h8 a9 h9 hc A E X R G u w)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S256x2048) hz, View.ld_unit_zero (S := S1x2048) hz, View.ld_unit_zero (S := S256x1) hz]

theorem later6 (hc : ¬cond0_0 i) : out0_B_6 c i a1 h1 a2 h2 a3 h3 a4 h4 a5 h5 a6 h6 a7 h7 a8 h8 a9 h9 hc A E X R G u w = k0_pay8 A E X R G := by
  unfold out0_B_6
  rw [View.read_writes_eq_canon _ _ _ (cover0_B_6 c i a1 h1 a2 h2 a3 h3 a4 h4 a5 h5 a6 h6 a7 h7 a8 h8 a9 h9 hc A E X R G u w)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S256x2048) hz, View.ld_unit_zero (S := S1x2048) hz, View.ld_unit_zero (S := S256x1) hz]

theorem later7 (hc : ¬cond0_0 i) : out0_B_7 c i a1 h1 a2 h2 a3 h3 a4 h4 a5 h5 a6 h6 a7 h7 a8 h8 a9 h9 hc A E X R G u w = k0_pay1 (k0_pay5 A E) (k0_pay6 X) u := by
  unfold out0_B_7
  rw [View.read_writes_eq_canon _ _ _ (cover0_B_7 c i a1 h1 a2 h2 a3 h3 a4 h4 a5 h5 a6 h6 a7 h7 a8 h8 a9 h9 hc A E X R G u w)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S256x2048) hz, View.ld_unit_zero (S := S1x2048) hz, View.ld_unit_zero (S := S256x1) hz]

theorem later8 (hc : ¬cond0_0 i) : out0_B_8 c i a1 h1 a2 h2 a3 h3 a4 h4 a5 h5 a6 h6 a7 h7 a8 h8 a9 h9 hc A E X R G u w = k0_pay2 (k0_pay5 A E) w := by
  unfold out0_B_8
  rw [View.read_writes_eq_canon _ _ _ (cover0_B_8 c i a1 h1 a2 h2 a3 h3 a4 h4 a5 h5 a6 h6 a7 h7 a8 h8 a9 h9 hc A E X R G u w)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S256x2048) hz, View.ld_unit_zero (S := S1x2048) hz, View.ld_unit_zero (S := S256x1) hz]

end Cases

/-! ### The blocks -/

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![t.val, 0] := by decide +kernel
theorem index3 : ∀ t : Fin cfg0.N, win0_3.index t = ![t.val, 0] := by decide +kernel
theorem index4 : ∀ t : Fin cfg0.N, win0_4.index t = ![0, 0] := by decide +kernel
theorem index5 : ∀ t : Fin cfg0.N, win0_5.index t = ![t.val, 0] := by decide +kernel
theorem index6 : ∀ t : Fin cfg0.N, win0_6.index t = ![t.val, 0] := by decide +kernel
theorem index7 : ∀ t : Fin cfg0.N, win0_7.index t = ![0, 0] := by decide +kernel
theorem index8 : ∀ t : Fin cfg0.N, win0_8.index t = ![0, 0] := by decide +kernel
theorem flush7 : ∀ t : Fin cfg0.N, (cfg0.win 7).flush t = true → t.val % 8 = 7 := by decide +kernel
theorem flush8 : ∀ t : Fin cfg0.N, (cfg0.win 8).flush t = true → t.val % 8 = 7 := by decide +kernel

variable (m : (ℓ : Loc nD τ sig) → Buf (Elt Ideal) ℓ) (c : Dev nD)

/-- Row `i` of block `q` of rows, in the whole array. -/
def rowOf (q : Fin 8) (i : Fin 256) : Fin 2048 := ⟨q.val * 256 + i.val, by omega⟩

/-- A sum over the rows is the sum of its blocks' sums. -/
theorem sum_blocks (f : Fin 2048 → ℝ) : ∑ s, f s = ∑ q : Fin 8, ∑ i : Fin 256, f (rowOf q i) := by
  rw [← Fintype.sum_prod_type' (fun q i => f (rowOf q i))]
  exact (Fintype.sum_equiv (finProdFinEquiv (m := 8) (n := 256)) _ _ fun p => congrArg f (Fin.ext (by
    simp only [rowOf, finProdFinEquiv_apply_val]; omega))).symm

/-- The block of a grid point. -/
def blockOf (t : Fin cfg0.N) : Fin 8 := ⟨t.val, by have := t.isLt; have e : cfg0.N = 8 := N_0; omega⟩

theorem block0 (t : Fin cfg0.N) (i : Fin 256) (d : Fin 2048) : iblk m c 0 t (ix2 i d) = m ((c : Thread nD τ).loc main_arg4) (ix2 (rowOf (blockOf t) i) d) := by
  have h : V m c main_arg4 (ix2 (rowOf (blockOf t) i) d) = m ((c : Thread nD τ).loc main_arg4) (ix2 (rowOf (blockOf t) i) d) := by
    unfold V
    after_reads_at
  refine Eq.trans ?_ h
  blk_ext [iblk, index0 t] <;> simp [index0 t, rowOf, blockOf]

theorem block1 (t : Fin cfg0.N) (i : Fin 256) (d : Fin 2048) : iblk m c 1 t (ix2 i d) = m ((c : Thread nD τ).loc main_arg5) (ix2 (rowOf (blockOf t) i) d) := by
  have h : V m c main_arg5 (ix2 (rowOf (blockOf t) i) d) = m ((c : Thread nD τ).loc main_arg5) (ix2 (rowOf (blockOf t) i) d) := by
    unfold V
    after_reads_at
  refine Eq.trans ?_ h
  blk_ext [iblk, index1 t] <;> simp [index1 t, rowOf, blockOf]

theorem block2 (t : Fin cfg0.N) (i : Fin 256) (d : Fin 2048) : iblk m c 2 t (ix2 i d) = V m c main_v18 (ix2 (rowOf (blockOf t) i) d) := by
  blk_ext [iblk, index2 t] <;> simp [index2 t, rowOf, blockOf]

theorem block3 (t : Fin cfg0.N) (i : Fin 256) (z : Fin 1) : iblk m c 3 t (ix2 i z) = V m c main_v16 (ix2 (rowOf (blockOf t) i) z) := by
  blk_ext [iblk, index3 t] <;> simp [index3 t, rowOf, blockOf]

theorem block4 (t : Fin cfg0.N) (d : Fin 2048) : iblk m c 4 t (ix2 (0 : Fin 1) d) = m ((c : Thread nD τ).loc main_arg2) (ix2 (0 : Fin 1) d) := by
  have h : V m c main_arg2 (ix2 (0 : Fin 1) d) = m ((c : Thread nD τ).loc main_arg2) (ix2 (0 : Fin 1) d) := by
    unfold V
    after_reads_at
  refine Eq.trans ?_ h
  blk_ext [iblk, index4 t] <;> simp [index4 t]

/-- The arguments in memory are the real arrays `x`, `f`, `g`, `a` and `e`. -/
structure Holds (x f : Fin 2048 → Row) (g : Row) (a e : Fin 2048 → Row) : Prop where
  h0 : ∀ s d, m ((c : Thread nD τ).loc main_arg0) (ix2 s d) = (x s d : EReal)
  h1 : ∀ s d, m ((c : Thread nD τ).loc main_arg1) (ix2 s d) = (f s d : EReal)
  h2 : ∀ d, m ((c : Thread nD τ).loc main_arg2) (ix2 (0 : Fin 1) d) = (g d : EReal)
  h4 : ∀ s d, m ((c : Thread nD τ).loc main_arg4) (ix2 s d) = (a s d : EReal)
  h5 : ∀ s d, m ((c : Thread nD τ).loc main_arg5) (ix2 s d) = (e s d : EReal)

variable {m c} {x f : Fin 2048 → Row} {g : Row} {a e : Fin 2048 → Row} (H : Holds m c x f g a e)

/-- A block's part of the scale's gradient and of the shift's. -/
def scalePart (x f a e : Fin 2048 → Row) (n : ℕ) (d : Fin 2048) : ℝ :=
  if h : n < 8 then ∑ i : Fin 256, reach (a (rowOf ⟨n, h⟩ i)) (e (rowOf ⟨n, h⟩ i)) d * hat (pre (x (rowOf ⟨n, h⟩ i)) (f (rowOf ⟨n, h⟩ i))) d else 0

def shiftPart (a e : Fin 2048 → Row) (n : ℕ) (d : Fin 2048) : ℝ :=
  if h : n < 8 then ∑ i : Fin 256, reach (a (rowOf ⟨n, h⟩ i)) (e (rowOf ⟨n, h⟩ i)) d else 0

include H

/-- The deviations the host prepares. -/
theorem host_rstd (s : Fin 2048) (z : Fin 1) : V m c main_v16 (ix2 s z) = (rstd (pre (x s) (f s)) : EReal) := by
  unfold V
  after_reads_at
  pointwise
  simp only [H.h0, H.h1, w_alpha, w_2048, w_eps, ← EReal.coe_mul, ← EReal.coe_add, ← coe_sum, div_2048, ← EReal.coe_sub]
  exact rsqrt_var (pre (x s) (f s))

/-- The normalised rows the host prepares. -/
theorem host_hat (s d : Fin 2048) : V m c main_v18 (ix2 s d) = (hat (pre (x s) (f s)) d : EReal) := by
  unfold V
  after_reads_at
  pointwise
  simp only [H.h0, H.h1, w_alpha, w_2048, w_eps, ← EReal.coe_mul, ← EReal.coe_add, ← coe_sum, div_2048, ← EReal.coe_sub]
  refine (congrArg (_ * ·) (rsqrt_var (pre (x s) (f s)))).trans ?_
  rw [← EReal.coe_mul]
  rfl

theorem value5 (t : Fin cfg0.N) (i : Fin 256) (d : Fin 2048) :
    (outsAt0 m c t.val t.isLt).1 (ix2 i d) = (back (pre (x (rowOf (blockOf t) i)) (f (rowOf (blockOf t) i))) (weighted (reach (a (rowOf (blockOf t) i)) (e (rowOf (blockOf t) i))) g) d : EReal) := by
  have p := pay7_apply (A := iblk m c 0 t) (E := iblk m c 1 t) (X := iblk m c 2 t) (R := iblk m c 3 t) (G := iblk m c 4 t)
    (p := fun i => pre (x (rowOf (blockOf t) i)) (f (rowOf (blockOf t) i)))
    (fun i d => (block0 m c t i d).trans (H.h4 _ d)) (fun i d => (block1 m c t i d).trans (H.h5 _ d))
    (fun i d => (block2 m c t i d).trans (host_hat H _ d)) (fun i z => (block3 m c t i z).trans (host_rstd H _ z)) (fun d => (block4 m c t d).trans (H.h2 d)) i d
  by_cases h : t.val % 8 = 0
  · rw [outsAt0_A m c t h]
    dsimp only
    rw [first5]
    exact p
  · rw [outsAt0_B m c t h]
    dsimp only
    rw [later5]
    exact p

theorem value6 (t : Fin cfg0.N) (i : Fin 256) (d : Fin 2048) :
    (outsAt0 m c t.val t.isLt).2.1 (ix2 i d) = (back (pre (x (rowOf (blockOf t) i)) (f (rowOf (blockOf t) i))) (weighted (reach (a (rowOf (blockOf t) i)) (e (rowOf (blockOf t) i))) g) d : EReal) := by
  have p := pay8_apply (A := iblk m c 0 t) (E := iblk m c 1 t) (X := iblk m c 2 t) (R := iblk m c 3 t) (G := iblk m c 4 t)
    (p := fun i => pre (x (rowOf (blockOf t) i)) (f (rowOf (blockOf t) i)))
    (fun i d => (block0 m c t i d).trans (H.h4 _ d)) (fun i d => (block1 m c t i d).trans (H.h5 _ d))
    (fun i d => (block2 m c t i d).trans (host_hat H _ d)) (fun i z => (block3 m c t i z).trans (host_rstd H _ z)) (fun d => (block4 m c t d).trans (H.h2 d)) i d
  by_cases h : t.val % 8 = 0
  · rw [outsAt0_A m c t h]
    dsimp only
    rw [first6]
    exact p
  · rw [outsAt0_B m c t h]
    dsimp only
    rw [later6]
    exact p

theorem point7 (t : Fin cfg0.N) (n : ℕ) (hn : t.val % 8 = n) (acc : Vec Ideal S1x2048 .f32) (z : Fin 1) (d : Fin 2048) :
    k0_pay1 (k0_pay5 (iblk m c 0 t) (iblk m c 1 t)) (k0_pay6 (iblk m c 2 t)) acc (ix2 z d) = acc (ix2 z d) + (scalePart x f a e n d : EReal) := by
  have ht : t.val = n := by have := t.isLt; have e : cfg0.N = 8 := N_0; omega
  have h8 : n < 8 := by omega
  have hb : blockOf t = ⟨n, h8⟩ := Fin.ext ht
  have p := pay1_apply (A := iblk m c 0 t) (E := iblk m c 1 t) (X := iblk m c 2 t) (p := fun i => pre (x (rowOf (blockOf t) i)) (f (rowOf (blockOf t) i)))
    (fun i d => (block0 m c t i d).trans (H.h4 _ d)) (fun i d => (block1 m c t i d).trans (H.h5 _ d)) (fun i d => (block2 m c t i d).trans (host_hat H _ d)) acc z d
  refine p.trans ?_
  unfold scalePart
  rw [dif_pos h8, hb]

/-- After grid point `n` the array holds the parts met so far. -/
theorem held7 (n : ℕ) : ∀ t : Fin cfg0.N, t.val % 8 = n → ∀ (z : Fin 1) (d : Fin 2048),
    (outsAt0 m c t.val t.isLt).2.2.1 (ix2 z d) = ((∑ k ∈ Finset.range (n + 1), scalePart x f a e k d : ℝ) : EReal) := by
  induction n with
  | zero =>
    intro t h z d
    rw [outsAt0_A m c t h]
    dsimp only
    rw [first7]
    refine (point7 H t 0 h _ z d).trans ?_
    rw [pay3_apply, zero_add, zero_add, Finset.sum_range_one]
  | succ n ih =>
    intro t h z d
    have bd : t.val - 1 < cfg0.N := Nat.lt_of_le_of_lt (Nat.sub_le _ _) t.isLt
    have q := ih ⟨t.val - 1, bd⟩ (by dsimp only; omega) z d
    rw [outsAt0_B m c t (by omega)]
    dsimp only
    rw [later7]
    refine (point7 H t (n + 1) h _ z d).trans ?_
    rw [Finset.sum_range_succ _ (n + 1), EReal.coe_add]
    exact congrArg (· + (scalePart x f a e (n + 1) d : EReal)) q

theorem point8 (t : Fin cfg0.N) (n : ℕ) (hn : t.val % 8 = n) (acc : Vec Ideal S1x2048 .f32) (z : Fin 1) (d : Fin 2048) :
    k0_pay2 (k0_pay5 (iblk m c 0 t) (iblk m c 1 t)) acc (ix2 z d) = acc (ix2 z d) + (shiftPart a e n d : EReal) := by
  have ht : t.val = n := by have := t.isLt; have e : cfg0.N = 8 := N_0; omega
  have h8 : n < 8 := by omega
  have hb : blockOf t = ⟨n, h8⟩ := Fin.ext ht
  have p := pay2_apply (A := iblk m c 0 t) (E := iblk m c 1 t)
    (fun i d => (block0 m c t i d).trans (H.h4 _ d)) (fun i d => (block1 m c t i d).trans (H.h5 _ d)) acc z d
  refine p.trans ?_
  unfold shiftPart
  rw [dif_pos h8, hb]

/-- After grid point `n` the array holds the parts met so far. -/
theorem held8 (n : ℕ) : ∀ t : Fin cfg0.N, t.val % 8 = n → ∀ (z : Fin 1) (d : Fin 2048),
    (outsAt0 m c t.val t.isLt).2.2.2 (ix2 z d) = ((∑ k ∈ Finset.range (n + 1), shiftPart a e k d : ℝ) : EReal) := by
  induction n with
  | zero =>
    intro t h z d
    rw [outsAt0_A m c t h]
    dsimp only
    rw [first8]
    refine (point8 H t 0 h _ z d).trans ?_
    rw [pay4_apply, zero_add, zero_add, Finset.sum_range_one]
  | succ n ih =>
    intro t h z d
    have bd : t.val - 1 < cfg0.N := Nat.lt_of_le_of_lt (Nat.sub_le _ _) t.isLt
    have q := ih ⟨t.val - 1, bd⟩ (by dsimp only; omega) z d
    rw [outsAt0_B m c t (by omega)]
    dsimp only
    rw [later8]
    refine (point8 H t (n + 1) h _ z d).trans ?_
    rw [Finset.sum_range_succ _ (n + 1), EReal.coe_add]
    exact congrArg (· + (shiftPart a e (n + 1) d : EReal)) q

omit H in
theorem parts7 (d : Fin 2048) : ∑ k ∈ Finset.range 8, scalePart x f a e k d = ∑ s, reach (a s) (e s) d * hat (pre (x s) (f s)) d := by
  rw [Finset.sum_range, sum_blocks]
  refine Finset.sum_congr rfl fun q _ => ?_
  unfold scalePart
  rw [dif_pos q.isLt]

omit H in
theorem parts8 (d : Fin 2048) : ∑ k ∈ Finset.range 8, shiftPart a e k d = ∑ s, reach (a s) (e s) d := by
  rw [Finset.sum_range, sum_blocks]
  refine Finset.sum_congr rfl fun q _ => ?_
  unfold shiftPart
  rw [dif_pos q.isLt]

/-! ### The arrays after the run -/

theorem array7 : (dats m 0 c).arrAt 7 cfg0.N = fun z => ((∑ s, reach (a s) (e s) (z 1) * hat (pre (x s) (f s)) (z 1) : ℝ) : EReal) := by
  refine (dats m 0 c).arrAt_eq_of_covers 7 _ (by decide +kernel) fun t hf z => ?_
  rw [after0_7]
  obtain ⟨p, q, rfl⟩ : ∃ (p : Fin 1) (q : Fin 2048), z = ix2 p q := ⟨z 0, z 1, eq_ix2 z⟩
  have e : (win0_7.blk t).view.emb (ix2 p q) = ix2 p q := by
    blk_ext [index7 t] <;> simp [index7 t]
  refine (held7 H 7 t (flush7 t hf) p q).trans ?_
  rw [parts7 q]
  blk_simp
  rw [e]
  rfl

theorem array8 : (dats m 0 c).arrAt 8 cfg0.N = fun z => ((∑ s, reach (a s) (e s) (z 1) : ℝ) : EReal) := by
  refine (dats m 0 c).arrAt_eq_of_covers 8 _ (by decide +kernel) fun t hf z => ?_
  rw [after0_8]
  obtain ⟨p, q, rfl⟩ : ∃ (p : Fin 1) (q : Fin 2048), z = ix2 p q := ⟨z 0, z 1, eq_ix2 z⟩
  have e : (win0_8.blk t).view.emb (ix2 p q) = ix2 p q := by
    blk_ext [index8 t] <;> simp [index8 t]
  refine (held8 H 7 t (flush8 t hf) p q).trans ?_
  rw [parts8 q]
  blk_simp
  rw [e]
  rfl

theorem array5 : (dats m 0 c).arrAt 5 cfg0.N = fun z => ((back (pre (x (z 0)) (f (z 0))) (weighted (reach (a (z 0)) (e (z 0))) g) (z 1) : ℝ) : EReal) := by
  refine (dats m 0 c).arrAt_eq_of_covers 5 _ (by decide +kernel) fun t hf z => ?_
  rw [after0_5]
  obtain ⟨i, d, rfl⟩ : ∃ (i : Fin 256) (d : Fin 2048), z = ix2 i d := ⟨z 0, z 1, eq_ix2 z⟩
  have e : (win0_5.blk t).view.emb (ix2 i d) = ix2 (rowOf (blockOf t) i) d := by
    blk_ext [index5 t] <;> simp [index5 t, rowOf, blockOf]
  refine (value5 H t i d).trans ?_
  blk_simp
  rw [e]
  rfl

theorem array6 : (dats m 0 c).arrAt 6 cfg0.N = fun z => ((back (pre (x (z 0)) (f (z 0))) (weighted (reach (a (z 0)) (e (z 0))) g) (z 1) : ℝ) : EReal) := by
  refine (dats m 0 c).arrAt_eq_of_covers 6 _ (by decide +kernel) fun t hf z => ?_
  rw [after0_6]
  obtain ⟨i, d, rfl⟩ : ∃ (i : Fin 256) (d : Fin 2048), z = ix2 i d := ⟨z 0, z 1, eq_ix2 z⟩
  have e : (win0_6.blk t).view.emb (ix2 i d) = ix2 (rowOf (blockOf t) i) d := by
    blk_ext [index6 t] <;> simp [index6 t, rowOf, blockOf]
  refine (value6 H t i d).trans ?_
  blk_simp
  rw [e]
  rfl

end Cert.NormBwdIdeal.Value

end
-- ==== Proof.NormBwdRef.lean ====
/-
  The reference's gradient through the first normalisation, stage by stage, as real numbers.
-/
module

public import proofs.«01_k».proof.Proof.NormInner
public import proofs.«01_k».proof.Proof.Gen.NormBwdReferenceIdeal
public import proofs.«01_k».proof.Proof.Gen.NormBwdReferenceIdeal.Run
public import proofs.«01_k».proof.Proof.Gen.NormBwdReferenceIdeal.Read
public import Idealize.ShloMosaic.Lib.Pointwise
public import Idealize.ShloMosaic.Lib.Tactic

@[expose] public section

set_option maxRecDepth 16384

noncomputable section

namespace Cert.NormBwdReferenceIdeal.Stage

open Cert.Norm Cert.NormBwdReferenceIdeal Cert.NormBwdReferenceIdeal.Gen Cert.NormBwdReferenceIdeal.Read Idealize.ShloMosaic

variable {x0 x1 x4 x5 : FVec Ideal S2048x2048 .f32} {x2 : FVec Ideal S1x2048 .f32}
  {x f a e : Fin 2048 → Row} {g : Row}
  (hx : ∀ s d, x0 (ix2 s d) = (x s d : EReal)) (hf : ∀ s d, x1 (ix2 s d) = (f s d : EReal)) (hg : ∀ d, x2 (ix2 (0 : Fin 1) d) = (g d : EReal))
  (ha : ∀ s d, x4 (ix2 s d) = (a s d : EReal)) (he : ∀ s d, x5 (ix2 s d) = (e s d : EReal))

include hx hf

theorem pre_value (s d : Fin 2048) : val_main_v2 (F := Ideal) x0 x1 (ix2 s d) = (pre (x s) (f s) d : EReal) := by
  unfold val_main_v2 val_main_v1 val_main_v0 val_main_cst
  pointwise
  rw [hx, hf, w_alpha, ← EReal.coe_mul, ← EReal.coe_add]
  rfl

theorem mean_value (s : Fin 2048) (z : Fin 1) : val_main_v8 (F := Ideal) x0 x1 (ix2 s z) = (mean (pre (x s) (f s)) : EReal) := by
  unfold val_main_v8 val_main_v7 val_main_v6 val_main_v5 val_main_cst_0 val_main_cst_1
  pointwise
  simp only [pre_value hx hf, w_2048, ← coe_sum, div_2048]
  rfl

theorem cen_value (s d : Fin 2048) : val_main_v10 (F := Ideal) x0 x1 (ix2 s d) = (cen (pre (x s) (f s)) d : EReal) := by
  unfold val_main_v10 val_main_v9
  pointwise
  rw [pre_value hx hf, mean_value hx hf, ← EReal.coe_sub]
  rfl

theorem cen_again (s d : Fin 2048) : val_main_v19 (F := Ideal) x0 x1 (ix2 s d) = (cen (pre (x s) (f s)) d : EReal) := by
  unfold val_main_v19 val_main_v18
  pointwise
  rw [pre_value hx hf, mean_value hx hf, ← EReal.coe_sub]
  rfl

theorem twice_cen (s d : Fin 2048) : val_main_v13 (F := Ideal) x0 x1 (ix2 s d) = ((2 * cen (pre (x s) (f s)) d : ℝ) : EReal) := by
  unfold val_main_v13 val_main_v12 val_main_cst_2
  pointwise
  rw [cen_value hx hf, Cert.Attn.w_2, ← EReal.coe_mul]

theorem var_value (s : Fin 2048) (z : Fin 1) : val_main_v21 (F := Ideal) x0 x1 (ix2 s z) = ((var (pre (x s) (f s)) + eps : ℝ) : EReal) := by
  unfold val_main_v21 val_main_v20 val_main_v17 val_main_v16 val_main_v15 val_main_v14 val_main_v11 val_main_cst_3 val_main_cst_4 val_main_cst_5
  pointwise
  simp only [cen_value hx hf, w_2048, w_eps, ← EReal.coe_mul, ← coe_sum, div_2048, ← EReal.coe_add]
  rfl

theorem rstd_value (s : Fin 2048) (z : Fin 1) : val_main_v22 (F := Ideal) x0 x1 (ix2 s z) = (rstd (pre (x s) (f s)) : EReal) := by
  unfold val_main_v22
  pointwise
  rw [var_value hx hf]
  exact rsqrt_var _

theorem slope_var (s : Fin 2048) (z : Fin 1) :
    val_main_v25 (F := Ideal) x0 x1 (ix2 s z) = ((-(1 / 2) * (rstd (pre (x s) (f s)) * (1 / (var (pre (x s) (f s)) + eps))) : ℝ) : EReal) := by
  unfold val_main_v25 val_main_v24 val_main_v23 val_main_cst_6
  pointwise
  rw [rstd_value hx hf, var_value hx hf, w_neg_half, Ideal.div_coe (var_pos _).ne', ← EReal.coe_mul, ← EReal.coe_mul]

theorem hat_value (s d : Fin 2048) : val_main_v27 (F := Ideal) x0 x1 (ix2 s d) = (hat (pre (x s) (f s)) d : EReal) := by
  unfold val_main_v27 val_main_v26
  pointwise
  rw [cen_again hx hf, rstd_value hx hf, ← EReal.coe_mul]
  rfl

omit hx hf in
theorem row2 (s d : Fin 2048) : val_main_v43 (F := Ideal) x2 (ix2 s d) = x2 (ix2 (0 : Fin 1) d) := by
  unfold val_main_v43 val_main_v28 val_main_v3
  pointwise

include ha he

omit hx hf in
theorem reach_value (s d : Fin 2048) : val_main_v36 (F := Ideal) x4 x5 (ix2 s d) = (reach (a s) (e s) d : EReal) := by
  unfold val_main_v36 val_main_v35 val_main_v34 val_main_cst_7
  pointwise
  rw [ha, he, w_alpha, ← EReal.coe_mul, ← EReal.coe_add]
  rfl

omit hx hf in
theorem shift_value (z : Fin 1) (d : Fin 2048) : val_main_v70 (F := Ideal) x4 x5 (ix2 z d) = ((∑ s, reach (a s) (e s) d : ℝ) : EReal) := by
  unfold val_main_v70 val_main_v39 val_main_v38 val_main_v37 val_main_cst_8 val_main_cst_9
  pointwise
  simp only [reach_value ha he, ← coe_sum, Fin.sum_univ_one]

theorem scale_value (z : Fin 1) (d : Fin 2048) :
    val_main_v71 (F := Ideal) x0 x1 x4 x5 (ix2 z d) = ((∑ s, reach (a s) (e s) d * hat (pre (x s) (f s)) d : ℝ) : EReal) := by
  unfold val_main_v71 val_main_v45 val_main_v42 val_main_v41 val_main_v40 val_main_cst_10 val_main_cst_11
  pointwise
  simp only [hat_value hx hf, reach_value ha he, ← EReal.coe_mul, ← coe_sum, Fin.sum_univ_one]
  exact congrArg _ (Finset.sum_congr rfl fun s _ => mul_comm _ _)

include hg

omit hx hf in
theorem weighted_value (s d : Fin 2048) : val_main_v44 (F := Ideal) x2 x4 x5 (ix2 s d) = ((weighted (reach (a s) (e s)) g) d : EReal) := by
  unfold val_main_v44
  pointwise
  rw [reach_value ha he, row2, hg, ← EReal.coe_mul]
  rfl

/-- The direct part of the gradient. -/
theorem direct_value (s d : Fin 2048) :
    val_main_v50 (F := Ideal) x0 x1 x2 x4 x5 (ix2 s d) = (((weighted (reach (a s) (e s)) g) d * rstd (pre (x s) (f s)) : ℝ) : EReal) := by
  unfold val_main_v50 val_main_v49
  pointwise
  rw [weighted_value hg ha he, rstd_value hx hf, ← EReal.coe_mul]

/-- The part through the variance. -/
theorem through_value (s : Fin 2048) :
    val_main_v57 (F := Ideal) x0 x1 x2 x4 x5 (ix1 s) = (through (pre (x s) (f s)) (weighted (reach (a s) (e s)) g) : EReal) := by
  unfold val_main_v57 val_main_v56 val_main_v55 val_main_v51 val_main_v48 val_main_v47 val_main_v46 val_main_cst_12 val_main_cst_14 val_main_cst_15
  pointwise
  simp only [cen_again hx hf, weighted_value hg ha he, slope_var hx hf, w_2048, ← EReal.coe_mul, ← coe_sum, div_2048, Fin.sum_univ_one]
  rfl

theorem spread_value (s d : Fin 2048) :
    val_main_v59 (F := Ideal) x0 x1 x2 x4 x5 (ix2 s d) = ((through (pre (x s) (f s)) (weighted (reach (a s) (e s)) g) * (2 * cen (pre (x s) (f s)) d) : ℝ) : EReal) := by
  unfold val_main_v59 val_main_v58
  pointwise
  rw [through_value hx hf hg ha he, twice_cen hx hf, ← EReal.coe_mul]

/-- The part through the mean. -/
theorem level_value (s : Fin 2048) :
    val_main_v67 (F := Ideal) x0 x1 x2 x4 x5 (ix1 s) = (((∑ k, -((weighted (reach (a s) (e s)) g) k * rstd (pre (x s) (f s)))
      + ∑ k, -(through (pre (x s) (f s)) (weighted (reach (a s) (e s)) g) * (2 * cen (pre (x s) (f s)) k))) * (1 / 2048) : ℝ) : EReal) := by
  unfold val_main_v67 val_main_v66 val_main_v65 val_main_v64 val_main_v62 val_main_v61 val_main_v60 val_main_v54 val_main_v53 val_main_v52 val_main_cst_13 val_main_cst_16 val_main_cst_17 val_main_cst_18
  pointwise
  simp only [direct_value hx hf hg ha he, spread_value hx hf hg ha he, w_2048, ← EReal.coe_neg, ← coe_sum, ← EReal.coe_add, div_2048, Fin.sum_univ_one]

/-- The gradient of the sum that is normalised. -/
theorem grad_value (s d : Fin 2048) :
    val_main_v69 (F := Ideal) x0 x1 x2 x4 x5 (ix2 s d) = (back (pre (x s) (f s)) (weighted (reach (a s) (e s)) g) d : EReal) := by
  unfold val_main_v69 val_main_v68 val_main_v63
  pointwise
  rw [direct_value hx hf hg ha he, spread_value hx hf hg ha he, level_value hx hf hg ha he, ← EReal.coe_add, ← EReal.coe_add, ← chain_eq]
  rfl

theorem grad_rounded (s d : Fin 2048) :
    val_main_v72 (F := Ideal) x0 x1 x2 x4 x5 (ix2 s d) = (back (pre (x s) (f s)) (weighted (reach (a s) (e s)) g) d : EReal) := by
  unfold val_main_v72
  pointwise
  exact grad_value hx hf hg ha he s d

end Cert.NormBwdReferenceIdeal.Stage

end
-- ==== Proof.NormBwd.lean ====
/-
  The claims about the gradient through the first normalisation: of finite arguments the call and the reference leave the same four arrays.
-/
module

public import proofs.«01_k».proof.Defs
public import proofs.«01_k».proof.Proof.Finite
public import proofs.«01_k».proof.Proof.Gen.Pre_finite_inner
public import proofs.«01_k».proof.Proof.NormBwdKernel
public import proofs.«01_k».proof.Proof.NormBwdRef

@[expose] public section

set_option maxRecDepth 16384

noncomputable section

namespace Cert.Pre_finite_inner.Read

open Cert.Pre_finite_inner Cert.Pre_finite_inner.Gen Cert.Pre_finite.Read Idealize.ShloMosaic

variable (x0 x1 : FVec Ideal S2048x2048 .f32) (x2 x3 : FVec Ideal S1x2048 .f32) (x4 x5 : FVec Ideal S2048x2048 .f32)

/-- Where the precondition is true, every element of every argument it reads is a real number. -/
theorem reals (t : fn (F := Ideal) x0 x1 x2 x3 x4 x5 ix0 = 1#1) :
    (∀ i, x0 i = ((x0 i).toReal : EReal)) ∧ (∀ i, x1 i = ((x1 i).toReal : EReal)) ∧ (∀ i, x2 i = ((x2 i).toReal : EReal)) ∧ (∀ i, x4 i = ((x4 i).toReal : EReal)) ∧ ∀ i, x5 i = ((x5 i).toReal : EReal) := by
  unfold fn fn_part1 at t
  obtain ⟨t, t5⟩ := both _ _ t
  obtain ⟨t, t4⟩ := both _ _ t
  obtain ⟨t, t2⟩ := both _ _ t
  obtain ⟨t0, t1⟩ := both _ _ t
  exact ⟨fun i => real_of_lt _ (reduce_all _ _ _ _ _ t0 i), fun i => real_of_lt _ (reduce_all _ _ _ _ _ t1 i), fun i => real_of_lt _ (reduce_all _ _ _ _ _ t2 i),
    fun i => real_of_lt _ (reduce_all _ _ _ _ _ t4 i), fun i => real_of_lt _ (reduce_all _ _ _ _ _ t5 i)⟩
end Cert.Pre_finite_inner.Read

namespace Cert.Proof.NormBwd

open Cert.Norm Idealize.ShloMosaic Idealize.ShloMosaic.TcCoe Idealize.SL.Sem

/-- The reference runs, leaves its arguments as they were, and declares no semaphore. -/
theorem frame_reference : Cert.quiescent_NormBwdReferenceIdeal := by
  intro m ρ _
  exact (θ_run Cert.NormBwdReferenceIdeal.defs _ _).mono (fun r h => ⟨fun c => (h c).2.2.2.2,
      Idealize.ShloMosaic.sem_eq_zero_of_no_sems (by decide) r.2⟩)
    (Cert.NormBwdReferenceIdeal.Value.run (F := Ideal) m ρ)

set_option maxHeartbeats 1000000 in
/-- Of finite arguments the kernel and the reference compute the same gradients. -/
theorem algebraic : Cert.algebraic_NormBwdIdeal_NormBwdReferenceIdeal_pre_finite_inner := by
  intro m ρ m' ρ' pre0 agree
  let x : Dev Cert.NormBwdIdeal.nD → Fin 2048 → Row := fun c s d => EReal.toReal (m ((c.tc : Thread Cert.NormBwdIdeal.nD Cert.NormBwdIdeal.τ).loc Cert.NormBwdIdeal.main_arg0) (ix2 s d))
  let f : Dev Cert.NormBwdIdeal.nD → Fin 2048 → Row := fun c s d => EReal.toReal (m ((c.tc : Thread Cert.NormBwdIdeal.nD Cert.NormBwdIdeal.τ).loc Cert.NormBwdIdeal.main_arg1) (ix2 s d))
  let a : Dev Cert.NormBwdIdeal.nD → Fin 2048 → Row := fun c s d => EReal.toReal (m ((c.tc : Thread Cert.NormBwdIdeal.nD Cert.NormBwdIdeal.τ).loc Cert.NormBwdIdeal.main_arg4) (ix2 s d))
  let e : Dev Cert.NormBwdIdeal.nD → Fin 2048 → Row := fun c s d => EReal.toReal (m ((c.tc : Thread Cert.NormBwdIdeal.nD Cert.NormBwdIdeal.τ).loc Cert.NormBwdIdeal.main_arg5) (ix2 s d))
  let g : Dev Cert.NormBwdIdeal.nD → Row := fun c d => EReal.toReal (m ((c.tc : Thread Cert.NormBwdIdeal.nD Cert.NormBwdIdeal.τ).loc Cert.NormBwdIdeal.main_arg2) (ix2 (0 : Fin 1) d))
  have H : ∀ c : Dev Cert.NormBwdIdeal.nD, Cert.NormBwdIdeal.Value.Holds m c (x c) (f c) (g c) (a c) (e c) := by
    intro c
    obtain ⟨h0, h1, h2, h4, h5⟩ := Cert.Pre_finite_inner.Read.reals _ _ _ _ _ _ (congrFun (pre0 c) ix0)
    exact ⟨fun s d => h0 _, fun s d => h1 _, fun d => h2 _, fun s d => h4 _, fun s d => h5 _⟩
  refine ⟨fun c => fun z => ((back (pre (x c (z 0)) (f c (z 0))) (weighted (reach (a c (z 0)) (e c (z 0))) (g c)) (z 1) : ℝ) : EReal),
    fun c => fun z => ((back (pre (x c (z 0)) (f c (z 0))) (weighted (reach (a c (z 0)) (e c (z 0))) (g c)) (z 1) : ℝ) : EReal),
    fun c => fun z => ((∑ s, reach (a c s) (e c s) (z 1) * hat (pre (x c s) (f c s)) (z 1) : ℝ) : EReal),
    fun c => fun z => ((∑ s, reach (a c s) (e c s) (z 1) : ℝ) : EReal), ?_, ?_⟩
  · exact (θ_run Cert.NormBwdIdeal.defs _ _).mono (fun _ h c => ⟨(h c).1.trans (Cert.NormBwdIdeal.Value.array5 (H c)),
      (h c).2.1.trans (Cert.NormBwdIdeal.Value.array6 (H c)),
      (h c).2.2.1.trans (Cert.NormBwdIdeal.Value.array7 (H c)),
      (h c).2.2.2.1.trans (Cert.NormBwdIdeal.Value.array8 (H c)),
      (h c).2.2.2.2⟩) (Cert.NormBwdIdeal.Value.run_blocks m ρ)
  · refine (θ_run Cert.NormBwdReferenceIdeal.defs _ _).mono (fun _ h c => ?_) (Cert.NormBwdReferenceIdeal.Value.run (F := Ideal) m' ρ')
    obtain ⟨e0, e1, e2, e3, e4, e5⟩ := agree c
    have k0 (s d : Fin 2048) := (congrFun e0 (ix2 s d)).trans ((H c).h0 s d)
    have k1 (s d : Fin 2048) := (congrFun e1 (ix2 s d)).trans ((H c).h1 s d)
    have k2 (d : Fin 2048) := (congrFun e2 (ix2 (0 : Fin 1) d)).trans ((H c).h2 d)
    have k4 (s d : Fin 2048) := (congrFun e4 (ix2 s d)).trans ((H c).h4 s d)
    have k5 (s d : Fin 2048) := (congrFun e5 (ix2 s d)).trans ((H c).h5 s d)
    refine ⟨(h c).1.trans ((Cert.NormBwdReferenceIdeal.Read.val_main_v69_eq m' c).trans (funext fun z => ?_)),
      (h c).2.1.trans ((Cert.NormBwdReferenceIdeal.Read.val_main_v72_eq m' c).trans (funext fun z => ?_)),
      (h c).2.2.1.trans ((Cert.NormBwdReferenceIdeal.Read.val_main_v71_eq _ _ _ _).trans (funext fun z => ?_)),
      (h c).2.2.2.1.trans ((Cert.NormBwdReferenceIdeal.Read.val_main_v70_eq _ _).trans (funext fun z => ?_)),
      (h c).2.2.2.2⟩
    · rw [eq_ix2 z]
      exact Cert.NormBwdReferenceIdeal.Stage.grad_value k0 k1 k2 k4 k5 (z 0) (z 1)
    · rw [eq_ix2 z]
      exact Cert.NormBwdReferenceIdeal.Stage.grad_rounded k0 k1 k2 k4 k5 (z 0) (z 1)
    · rw [eq_ix2 z]
      exact Cert.NormBwdReferenceIdeal.Stage.scale_value k0 k1 k4 k5 (z 0) (z 1)
    · rw [eq_ix2 z]
      exact Cert.NormBwdReferenceIdeal.Stage.shift_value k4 k5 (z 0) (z 1)

end Cert.Proof.NormBwd

end
-- ==== Proof.GateFwd.lean ====
/-
  The claims about the gated merge of the two branches: the call and the reference leave the same array, of all arguments.
-/
module

public import proofs.«01_k».proof.Defs
public import proofs.«01_k».proof.Proof.Gate
public import proofs.«01_k».proof.Proof.Gen.GateFwdIdeal
public import proofs.«01_k».proof.Proof.Gen.GateFwdIdeal.Frame
public import proofs.«01_k».proof.Proof.Gen.GateFwdIdeal.Value
public import proofs.«01_k».proof.Proof.Gen.GateFwdReferenceIdeal
public import proofs.«01_k».proof.Proof.Gen.GateFwdReferenceIdeal.Run
public import proofs.«01_k».proof.Proof.Gen.GateFwdReferenceIdeal.Read
public import Idealize.ShloMosaic.Lib.Pointwise
public import Idealize.ShloMosaic.Lib.Pipeline.ValueKit
public import Idealize.ShloMosaic.Lib.StableHlo.ReadAt
public import Idealize.ShloMosaic.Lib.Tactic

@[expose] public section

set_option maxRecDepth 16384

noncomputable section

namespace Cert.GateFwdIdeal.Value

open Cert.Gate Cert.GateFwdIdeal Cert.GateFwdIdeal.Gen Idealize.ShloMosaic Idealize.ShloMosaic.TcCoe Idealize.SL.Sem

/-- A tile's payload: each branch times its gate, added. -/
theorem pay1_apply (P : Vec Ideal S512x512 .f32) (B : Vec Ideal S1x512 .f32) (Y Q : Vec Ideal S512x512 .f32) (E : Vec Ideal S1x512 .f32) (Z : Vec Ideal S512x512 .f32) (i d : Fin 512) :
    k0_pay1 P B Y Q E Z (ix2 i d)
      = gate (P (ix2 i d) + B (ix2 (0 : Fin 1) d)) * Y (ix2 i d) + gate (Q (ix2 i d) + E (ix2 (0 : Fin 1) d)) * Z (ix2 i d) := by
  unfold k0_pay1 gate
  pointwise
  simp only [zero_sub]

theorem hz : (![0, 0] : Fin 2 → ℕ) = fun _ => 0 := funext fun a => by fin_cases a <;> rfl

theorem left6 (Y Z P Q : Vec Ideal S512x512 .f32) (B E : Vec Ideal S1x512 .f32) : out0_6 Y Z P Q B E = k0_pay1 P B Y Q E Z := by
  unfold out0_6
  rw [View.canon_unit_zero hz]
  simp only [View.ld_unit_zero (S := S512x512) hz, View.ld_unit_zero (S := S1x512) hz]

/-! ### The blocks -/

theorem index0 : ∀ t : Fin cfg0.N, win0_0.index t = ![t.val / 4, t.val % 4] := by decide +kernel
theorem index1 : ∀ t : Fin cfg0.N, win0_1.index t = ![t.val / 4, t.val % 4] := by decide +kernel
theorem index2 : ∀ t : Fin cfg0.N, win0_2.index t = ![t.val / 4, 15 + t.val % 4] := by decide +kernel
theorem index3 : ∀ t : Fin cfg0.N, win0_3.index t = ![t.val / 4, 19 + t.val % 4] := by decide +kernel
theorem index4 : ∀ t : Fin cfg0.N, win0_4.index t = ![0, t.val % 4] := by decide +kernel
theorem index5 : ∀ t : Fin cfg0.N, win0_5.index t = ![0, 4 + t.val % 4] := by decide +kernel
theorem index6 : ∀ t : Fin cfg0.N, win0_6.index t = ![t.val / 4, t.val % 4] := by decide +kernel

variable (m : (ℓ : Loc nD τ sig) → Buf (Elt Ideal) ℓ) (c : Dev nD)

/-- Row, or column, `i` of block `q`, in the whole array. -/
def at512 (q : Fin 4) (i : Fin 512) : Fin 2048 := ⟨q.val * 512 + i.val, by omega⟩

/-- The block of rows and the block of columns of a grid point. -/
def rows (t : Fin cfg0.N) : Fin 4 := ⟨t.val / 4, by have := t.isLt; have e : cfg0.N = 16 := N_0; omega⟩
def cols (t : Fin cfg0.N) : Fin 4 := ⟨t.val % 4, by omega⟩

theorem block0 (t : Fin cfg0.N) (i d : Fin 512) : iblk m c 0 t (ix2 i d) = m ((c : Thread nD τ).loc main_arg0) (ix2 (at512 (rows t) i) (at512 (cols t) d)) := by
  have h : V m c main_arg0 (ix2 (at512 (rows t) i) (at512 (cols t) d)) = m ((c : Thread nD τ).loc main_arg0) (ix2 (at512 (rows t) i) (at512 (cols t) d)) := by
    unfold V
    after_reads_at
  refine Eq.trans ?_ h
  blk_ext [iblk, index0 t] <;> simp [index0 t, at512, rows, cols]

theorem block1 (t : Fin cfg0.N) (i d : Fin 512) : iblk m c 1 t (ix2 i d) = m ((c : Thread nD τ).loc main_arg1) (ix2 (at512 (rows t) i) (at512 (cols t) d)) := by
  have h : V m c main_arg1 (ix2 (at512 (rows t) i) (at512 (cols t) d)) = m ((c : Thread nD τ).loc main_arg1) (ix2 (at512 (rows t) i) (at512 (cols t) d)) := by
    unfold V
    after_reads_at
  refine Eq.trans ?_ h
  blk_ext [iblk, index1 t] <;> simp [index1 t, at512, rows, cols]

theorem block2 (t : Fin cfg0.N) (i d : Fin 512) : iblk m c 2 t (ix2 i d) = m ((c : Thread nD τ).loc main_arg2) (ix2 (at512 (rows t) i) (among (first (at512 (cols t) d)))) := by
  have h : V m c main_arg2 (ix2 (at512 (rows t) i) (among (first (at512 (cols t) d)))) = m ((c : Thread nD τ).loc main_arg2) (ix2 (at512 (rows t) i) (among (first (at512 (cols t) d)))) := by
    unfold V
    after_reads_at
  refine Eq.trans ?_ h
  blk_ext [iblk, index2 t] <;> simp [index2 t, at512, rows, cols, among, first]
  all_goals omega

theorem block3 (t : Fin cfg0.N) (i d : Fin 512) : iblk m c 3 t (ix2 i d) = m ((c : Thread nD τ).loc main_arg2) (ix2 (at512 (rows t) i) (among (second (at512 (cols t) d)))) := by
  have h : V m c main_arg2 (ix2 (at512 (rows t) i) (among (second (at512 (cols t) d)))) = m ((c : Thread nD τ).loc main_arg2) (ix2 (at512 (rows t) i) (among (second (at512 (cols t) d)))) := by
    unfold V
    after_reads_at
  refine Eq.trans ?_ h
  blk_ext [iblk, index3 t] <;> simp [index3 t, at512, rows, cols, among, second]
  all_goals omega

theorem block4 (t : Fin cfg0.N) (d : Fin 512) : iblk m c 4 t (ix2 (0 : Fin 1) d) = m ((c : Thread nD τ).loc main_arg3) (ix2 (0 : Fin 1) (first (at512 (cols t) d))) := by
  have h : V m c main_arg3 (ix2 (0 : Fin 1) (first (at512 (cols t) d))) = m ((c : Thread nD τ).loc main_arg3) (ix2 (0 : Fin 1) (first (at512 (cols t) d))) := by
    unfold V
    after_reads_at
  refine Eq.trans ?_ h
  blk_ext [iblk, index4 t] <;> simp [index4 t, at512, rows, cols, first]
  all_goals omega

theorem block5 (t : Fin cfg0.N) (d : Fin 512) : iblk m c 5 t (ix2 (0 : Fin 1) d) = m ((c : Thread nD τ).loc main_arg3) (ix2 (0 : Fin 1) (second (at512 (cols t) d))) := by
  have h : V m c main_arg3 (ix2 (0 : Fin 1) (second (at512 (cols t) d))) = m ((c : Thread nD τ).loc main_arg3) (ix2 (0 : Fin 1) (second (at512 (cols t) d))) := by
    unfold V
    after_reads_at
  refine Eq.trans ?_ h
  blk_ext [iblk, index5 t] <;> simp [index5 t, at512, rows, cols, second]
  all_goals omega

/-- A gate's argument, and the merged element. -/
def z (s : Fin 2048) (e : Fin 4096) : EReal :=
  arg (fun s e => m ((c : Thread nD τ).loc main_arg2) (ix2 s e)) (fun e => m ((c : Thread nD τ).loc main_arg3) (ix2 (0 : Fin 1) e)) s e

def one (s d : Fin 2048) : EReal := m ((c : Thread nD τ).loc main_arg0) (ix2 s d)
def two (s d : Fin 2048) : EReal := m ((c : Thread nD τ).loc main_arg1) (ix2 s d)

def merged (s d : Fin 2048) : EReal := gate (z m c s (first d)) * one m c s d + gate (z m c s (second d)) * two m c s d

theorem value6 (t : Fin cfg0.N) (i d : Fin 512) :
    k0_pay1 (iblk m c 2 t) (iblk m c 4 t) (iblk m c 0 t) (iblk m c 3 t) (iblk m c 5 t) (iblk m c 1 t) (ix2 i d)
      = merged m c (at512 (rows t) i) (at512 (cols t) d) := by
  have p := pay1_apply (iblk m c 2 t) (iblk m c 4 t) (iblk m c 0 t) (iblk m c 3 t) (iblk m c 5 t) (iblk m c 1 t) i d
  rw [block0, block1, block2, block3, block4, block5] at p
  exact p

/-- The array after the run. -/
theorem array6 : (dats m 0 c).arrAt 6 cfg0.N = fun y => merged m c (y 0) (y 1) := by
  refine (dats m 0 c).arrAt_eq_of_covers 6 _ (by decide +kernel) fun t hf y => ?_
  rw [after0_6, left6]
  obtain ⟨i, d, rfl⟩ : ∃ (i : Fin 512) (d : Fin 512), y = ix2 i d := ⟨y 0, y 1, eq_ix2 y⟩
  have e : (win0_6.blk t).view.emb (ix2 i d) = ix2 (at512 (rows t) i) (at512 (cols t) d) := by
    blk_ext [index6 t] <;> simp [index6 t, at512, rows, cols]
  refine (value6 m c t i d).trans ?_
  blk_simp
  rw [e]
  rfl

end Cert.GateFwdIdeal.Value

namespace Cert.GateFwdReferenceIdeal.Stage

open Cert.Gate Cert.GateFwdReferenceIdeal Cert.GateFwdReferenceIdeal.Gen Cert.GateFwdReferenceIdeal.Read Idealize.ShloMosaic

variable (x0 x1 : FVec Ideal S2048x2048 .f32) (x2 : FVec Ideal S2048x11776 .f32) (x3 : FVec Ideal S1x4096 .f32)

/-- A gate's argument. -/
def z (s : Fin 2048) (e : Fin 4096) : EReal := arg (fun s e => x2 (ix2 s e)) (fun e => x3 (ix2 (0 : Fin 1) e)) s e

theorem gate_value (s : Fin 2048) (e : Fin 4096) : val_main_v10 (F := Ideal) x2 x3 (ix2 s e) = gate (z x2 x3 s e) := by
  unfold val_main_v10 val_main_v9 val_main_v8 val_main_v7 val_main_v6 val_main_v5 val_main_v4 val_main_v3 val_main_v2 val_main_v1 val_main_v0 val_main_cst val_main_cst_0
  pointwise
  rfl

theorem merged_value (s d : Fin 2048) :
    val_main_v16 (F := Ideal) x0 x1 x2 x3 (ix2 s d) = gate (z x2 x3 s (first d)) * x0 (ix2 s d) + gate (z x2 x3 s (second d)) * x1 (ix2 s d) := by
  unfold val_main_v16 val_main_v15 val_main_v14 val_main_v13 val_main_v12 val_main_v11
  pointwise
  exact congrArg₂ (fun a b : EReal => a * x0 (ix2 s d) + b * x1 (ix2 s d)) (gate_value x2 x3 s (first d)) (gate_value x2 x3 s (second d))

end Cert.GateFwdReferenceIdeal.Stage

namespace Cert.Proof.GateFwd

open Cert.Gate Idealize.ShloMosaic Idealize.ShloMosaic.TcCoe Idealize.SL.Sem

/-- The reference runs, leaves its arguments as they were, and declares no semaphore. -/
theorem frame_reference : Cert.quiescent_GateFwdReferenceIdeal := by
  intro m ρ _
  exact (θ_run Cert.GateFwdReferenceIdeal.defs _ _).mono (fun r h => ⟨fun c => (h c).2,
      Idealize.ShloMosaic.sem_eq_zero_of_no_sems (by decide) r.2⟩)
    (Cert.GateFwdReferenceIdeal.Value.run (F := Ideal) m ρ)

/-- The kernel and the reference merge the branches alike. -/
theorem algebraic : Cert.algebraic_GateFwdIdeal_GateFwdReferenceIdeal := by
  intro m ρ m' ρ' _ agree
  refine ⟨fun c => fun y => Cert.GateFwdIdeal.Value.merged m c (y 0) (y 1), ?_, ?_⟩
  · exact (θ_run Cert.GateFwdIdeal.defs _ _).mono (fun _ h c => ⟨(h c).1.trans (Cert.GateFwdIdeal.Value.array6 m c), (h c).2⟩)
      (Cert.GateFwdIdeal.Value.run_blocks m ρ)
  · refine (θ_run Cert.GateFwdReferenceIdeal.defs _ _).mono (fun _ h c => ?_) (Cert.GateFwdReferenceIdeal.Value.run (F := Ideal) m' ρ')
    obtain ⟨e0, e1, e2, e3⟩ := agree c
    refine ⟨(h c).1.trans ((Cert.GateFwdReferenceIdeal.Read.val_main_v16_eq _ _ _ _).trans (funext fun y => ?_)), (h c).2⟩
    rw [eq_ix2 y, e0, e1, e2, e3]
    exact Cert.GateFwdReferenceIdeal.Stage.merged_value _ _ _ _ (y 0) (y 1)

end Cert.Proof.GateFwd

end
-- ==== Proof.GateXGrad.lean ====
/-
  The gradient of the RG-LRU's gates with respect to their input, added to the gradient that is already there: a grid point
  multiplies a tile of 512 rows of one group of 640 channels by the group's two weights, each read with its rows and columns
  exchanged. Channel by channel it is the sum that the reference states.
-/
module

public import proofs.«01_k».proof.Defs
public import proofs.«01_k».proof.Proof.Gen.GateXGradIdeal
public import proofs.«01_k».proof.Proof.Gen.GateXGradIdeal.Frame
public import proofs.«01_k».proof.Proof.Gen.GateXGradIdeal.Value
public import proofs.«01_k».proof.Proof.Gen.GateXGradReferenceIdeal
public import proofs.«01_k».proof.Proof.Gen.GateXGradReferenceIdeal.Run
public import proofs.«01_k».proof.Proof.Gen.GateXGradReferenceIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.GateXGradIdeal.Value

open Cert.GateXGradIdeal Cert.GateXGradIdeal.Gen Idealize.ShloMosaic Idealize.ShloMosaic.TcCoe Idealize.SL.Sem

/-- Channel `a` of group `g`. -/
def chan (g : Fin 4) (a : Fin 640) : Fin 2560 := ⟨g.val * 640 + a.val, by omega⟩

/-- A channel's group, and its place in the group. -/
def group (e : Fin 2560) : Fin 4 := ⟨e.val / 640, by omega⟩
def place (e : Fin 2560) : Fin 640 := ⟨e.val % 640, by omega⟩

theorem group_chan (g : Fin 4) (a : Fin 640) : group (chan g a) = g := Fin.ext (by simp only [group, chan]; omega)
theorem place_chan (g : Fin 4) (a : Fin 640) : place (chan g a) = a := Fin.ext (by simp only [place, chan]; omega)

/-- What one gate sends back to channel `e` at position `s`: the sum over the channels of the group. -/
def back (D : S2048x2560.Idx → EReal) (W : S4x640x640.Idx → EReal) (s : Fin 2048) (e : Fin 2560) : EReal :=
  ∑ k : Fin 640, D (ix2 s (chan (group e) k)) * W (ix3 (group e) (place e) k)

/-- The gradient of the input: what was there, and what the two gates send back. -/
def total (D E : S2048x2560.Idx → EReal) (W Y : S4x640x640.Idx → EReal) (X : S2048x2560.Idx → EReal) (s : Fin 2048) (e : Fin 2560) : EReal :=
  X (ix2 s e) + back D W s e + back E Y s e

theorem pay1_apply (X : Vec Ideal S512x640 .f32) (D : Vec Ideal S512x640 .bf16) (W : Vec Ideal S1x640x640 .f32) (E : Vec Ideal S512x640 .bf16) (Y : Vec Ideal S1x640x640 .f32)
    (i : Fin 512) (a : Fin 640) :
    k0_pay1 X D W E Y (ix2 i a)
      = X (ix2 i a) + (∑ k : Fin 640, D (ix2 i k) * W (ix3 (0 : Fin 1) a k)) + ∑ k : Fin 640, E (ix2 i k) * Y (ix3 (0 : Fin 1) a k) := by
  unfold k0_pay1
  pointwise

theorem hz : (![0, 0] : Fin 2 → ℕ) = fun _ => 0 := funext fun a => by fin_cases a <;> rfl
theorem hz3 : (![0, 0, 0] : Fin 3 → ℕ) = fun _ => 0 := funext fun a => by fin_cases a <;> rfl

/-- The one covering store leaves the payload of the five whole loads. -/
theorem left5 (D E : Vec Ideal S512x640 .bf16) (W Y : Vec Ideal S1x640x640 .f32) (X : Vec Ideal S512x640 .f32) : out0_5 D E W Y X = k0_pay1 X D W E Y := by
  unfold out0_5
  rw [View.canon_unit_zero hz]
  simp only [View.ld_unit_zero (S := S512x640) hz, View.ld_unit_zero (S := S1x640x640) hz3]

/-! ### The blocks -/

theorem index0 : ∀ t : Fin cfg0.N, win0_0.index t = ![t.val % 4, t.val / 4] := by decide +kernel
theorem index1 : ∀ t : Fin cfg0.N, win0_1.index t = ![t.val % 4, t.val / 4] := by decide +kernel
theorem index4 : ∀ t : Fin cfg0.N, win0_4.index t = ![t.val % 4, t.val / 4] := by decide +kernel
theorem index5 : ∀ t : Fin cfg0.N, win0_5.index t = ![t.val % 4, t.val / 4] := by decide +kernel
theorem index2 : ∀ t : Fin cfg0.N, win0_2.index t = ![t.val / 4, 0, 0] := by decide +kernel
theorem index3 : ∀ t : Fin cfg0.N, win0_3.index t = ![t.val / 4, 0, 0] := by decide +kernel

variable (m : (ℓ : Loc nD τ sig) → Buf (Elt Ideal) ℓ) (c : Dev nD)

/-- The group and the rows of a grid point. -/
def groupOf (t : Fin cfg0.N) : Fin 4 := ⟨t.val / 4, by have := t.isLt; have e : cfg0.N = 16 := N_0; omega⟩
def row (t : Fin cfg0.N) (i : Fin 512) : Fin 2048 := ⟨t.val % 4 * 512 + i.val, by omega⟩

theorem block0 (t : Fin cfg0.N) (i : Fin 512) (a : Fin 640) : iblk m c 0 t (ix2 i a) = m ((c : Thread nD τ).loc main_arg0) (ix2 (row t i) (chan (groupOf t) a)) := by
  have h : V m c main_v0 (ix2 (row t i) (chan (groupOf t) a)) = m ((c : Thread nD τ).loc main_arg0) (ix2 (row t i) (chan (groupOf t) a)) := by
    unfold V
    after_reads_at
  refine Eq.trans ?_ h
  blk_ext [iblk, index0 t] <;> simp [index0 t, chan, groupOf, row]

theorem block1 (t : Fin cfg0.N) (i : Fin 512) (a : Fin 640) : iblk m c 1 t (ix2 i a) = m ((c : Thread nD τ).loc main_arg1) (ix2 (row t i) (chan (groupOf t) a)) := by
  have h : V m c main_v1 (ix2 (row t i) (chan (groupOf t) a)) = m ((c : Thread nD τ).loc main_arg1) (ix2 (row t i) (chan (groupOf t) a)) := by
    unfold V
    after_reads_at
  refine Eq.trans ?_ h
  blk_ext [iblk, index1 t] <;> simp [index1 t, chan, groupOf, row]

theorem block4 (t : Fin cfg0.N) (i : Fin 512) (a : Fin 640) : iblk m c 4 t (ix2 i a) = m ((c : Thread nD τ).loc main_arg4) (ix2 (row t i) (chan (groupOf t) a)) := by
  have h : V m c main_arg4 (ix2 (row t i) (chan (groupOf t) a)) = m ((c : Thread nD τ).loc main_arg4) (ix2 (row t i) (chan (groupOf t) a)) := by
    unfold V
    after_reads_at
  refine Eq.trans ?_ h
  blk_ext [iblk, index4 t] <;> simp [index4 t, chan, groupOf, row]

theorem block2 (t : Fin cfg0.N) (a k : Fin 640) : iblk m c 2 t (ix3 (0 : Fin 1) a k) = m ((c : Thread nD τ).loc main_arg2) (ix3 (groupOf t) a k) := by
  have h : V m c main_arg2 (ix3 (groupOf t) a k) = m ((c : Thread nD τ).loc main_arg2) (ix3 (groupOf t) a k) := by
    unfold V
    after_reads_at
  refine Eq.trans ?_ h
  blk_ext [iblk, index2 t] <;> simp [index2 t, groupOf]

theorem block3 (t : Fin cfg0.N) (a k : Fin 640) : iblk m c 3 t (ix3 (0 : Fin 1) a k) = m ((c : Thread nD τ).loc main_arg3) (ix3 (groupOf t) a k) := by
  have h : V m c main_arg3 (ix3 (groupOf t) a k) = m ((c : Thread nD τ).loc main_arg3) (ix3 (groupOf t) a k) := by
    unfold V
    after_reads_at
  refine Eq.trans ?_ h
  blk_ext [iblk, index3 t] <;> simp [index3 t, groupOf]

/-- The array's value at position `s` and channel `e`. -/
def grad (s : Fin 2048) (e : Fin 2560) : EReal :=
  total (m ((c : Thread nD τ).loc main_arg0)) (m ((c : Thread nD τ).loc main_arg1)) (m ((c : Thread nD τ).loc main_arg2)) (m ((c : Thread nD τ).loc main_arg3)) (m ((c : Thread nD τ).loc main_arg4)) s e

theorem value5 (t : Fin cfg0.N) (i : Fin 512) (a : Fin 640) :
    k0_pay1 (iblk m c 4 t) (iblk m c 0 t) (iblk m c 2 t) (iblk m c 1 t) (iblk m c 3 t) (ix2 i a) = grad m c (row t i) (chan (groupOf t) a) := by
  refine (pay1_apply (iblk m c 4 t) (iblk m c 0 t) (iblk m c 2 t) (iblk m c 1 t) (iblk m c 3 t) i a).trans ?_
  unfold grad total back
  rw [group_chan, place_chan]
  exact congrArg₂ (fun p q : EReal => p + q)
    (congrArg₂ (fun p q : EReal => p + q) (block4 m c t i a) (Finset.sum_congr rfl fun k _ => congrArg₂ (fun p q : EReal => p * q) (block0 m c t i k) (block2 m c t a k)))
    (Finset.sum_congr rfl fun k _ => congrArg₂ (fun p q : EReal => p * q) (block1 m c t i k) (block3 m c t a k))

/-- The array after the run. -/
theorem array5 : (dats m 0 c).arrAt 5 cfg0.N = fun y => grad m c (y 0) (y 1) := by
  refine (dats m 0 c).arrAt_eq_of_covers 5 _ (by decide +kernel) fun t hf y => ?_
  rw [after0_5, left5]
  obtain ⟨i, a, rfl⟩ : ∃ (i : Fin 512) (a : Fin 640), y = ix2 i a := ⟨y 0, y 1, eq_ix2 y⟩
  have e : (win0_5.blk t).view.emb (ix2 i a) = ix2 (row t i) (chan (groupOf t) a) := by
    blk_ext [index5 t] <;> simp [index5 t, chan, groupOf, row]
  refine (value5 m c t i a).trans ?_
  blk_simp
  rw [e]
  rfl

end Cert.GateXGradIdeal.Value

namespace Cert.GateXGradReferenceIdeal.Stage

open Cert.GateXGradIdeal.Value Cert.GateXGradReferenceIdeal Cert.GateXGradReferenceIdeal.Gen Cert.GateXGradReferenceIdeal.Read Idealize.ShloMosaic

theorem at_row (s : Fin 2048) (e : Fin 2560) : (s.val * 2560 + e.val) / 2560 = s.val := by omega
theorem at_group (s : Fin 2048) (e : Fin 2560) : (s.val * 2560 + e.val) / 640 % 4 = e.val / 640 := by omega
theorem at_place (s : Fin 2048) (e : Fin 2560) : (s.val * 2560 + e.val) % 640 = e.val % 640 := by omega
theorem of_row (s : Fin 2048) (g : Fin 4) (k : Fin 640) : ((s.val * 4 + g.val) * 640 + k.val) / 2560 = s.val := by omega
theorem of_chan (s : Fin 2048) (g : Fin 4) (k : Fin 640) : ((s.val * 4 + g.val) * 640 + k.val) % 2560 = g.val * 640 + k.val := by omega

/-- An element of the wide array, as an element of the array by groups. -/
theorem split (s : Fin 2048) (e : Fin 2560) : idx_main_v16 (ix2 s e) = ix3 s (group e) (place e) :=
  funext fun a => by fin_cases a; exacts [Fin.ext (at_row s e), Fin.ext (at_group s e), Fin.ext (at_place s e)]

theorem back11 (x1 : (⟨S2048x2560, .f32⟩ : BufTy).Contents (Elt Ideal)) (x3 : (⟨S4x640x640, .f32⟩ : BufTy).Contents (Elt Ideal)) (s : Fin 2048) (e : Fin 2560) :
    val_main_v11 (F := Ideal) x1 x3 (ix3 s (group e) (place e)) = back x1 x3 s e := by
  rw [val_main_v11_apply, val_main_v10_apply]
  unfold back
  refine Finset.sum_congr rfl fun k _ => ?_
  rw [val_main_v9_apply, val_main_v7_apply]
  exact congrArg₂ (fun p q : EReal => p * q)
    (congrArg x1 (funext fun a => by fin_cases a; exacts [Fin.ext (of_row s (group e) k), Fin.ext (of_chan s (group e) k)]))
    (congrArg x3 (funext fun a => by fin_cases a <;> rfl))

theorem back14 (x0 : (⟨S2048x2560, .f32⟩ : BufTy).Contents (Elt Ideal)) (x2 : (⟨S4x640x640, .f32⟩ : BufTy).Contents (Elt Ideal)) (s : Fin 2048) (e : Fin 2560) :
    val_main_v14 (F := Ideal) x0 x2 (ix3 s (group e) (place e)) = back x0 x2 s e := by
  rw [val_main_v14_apply, val_main_v13_apply]
  unfold back
  refine Finset.sum_congr rfl fun k _ => ?_
  rw [val_main_v12_apply, val_main_v8_apply]
  exact congrArg₂ (fun p q : EReal => p * q)
    (congrArg x0 (funext fun a => by fin_cases a; exacts [Fin.ext (of_row s (group e) k), Fin.ext (of_chan s (group e) k)]))
    (congrArg x2 (funext fun a => by fin_cases a <;> rfl))

/-- The reference adds the second gate's share first. -/
theorem total_value (x0 x1 : (⟨S2048x2560, .f32⟩ : BufTy).Contents (Elt Ideal)) (x2 x3 : (⟨S4x640x640, .f32⟩ : BufTy).Contents (Elt Ideal))
    (x4 : (⟨S2048x2560, .f32⟩ : BufTy).Contents (Elt Ideal)) (s : Fin 2048) (e : Fin 2560) :
    val_main_v17 (F := Ideal) x0 x1 x2 x3 x4 (ix2 s e) = total x0 x1 x2 x3 x4 s e := by
  rw [val_main_v17_apply, val_main_v16_apply, split, val_main_v15_apply, back11, back14]
  unfold total
  rw [add_assoc, add_comm (back x0 x2 s e)]
  rfl

end Cert.GateXGradReferenceIdeal.Stage

namespace Cert.Proof.GateXGrad

open Idealize.ShloMosaic Idealize.ShloMosaic.TcCoe Idealize.SL.Sem

/-- The reference runs, leaves its arguments as they were, and declares no semaphore. -/
theorem frame_reference : Cert.quiescent_GateXGradReferenceIdeal := by
  intro m ρ _
  exact (θ_run Cert.GateXGradReferenceIdeal.defs _ _).mono (fun r h => ⟨fun c => (h c).2,
      Idealize.ShloMosaic.sem_eq_zero_of_no_sems (by decide) r.2⟩)
    (Cert.GateXGradReferenceIdeal.Value.run (F := Ideal) m ρ)

/-- The kernel and the reference compute the same gradient, of any arguments. -/
theorem algebraic : Cert.algebraic_GateXGradIdeal_GateXGradReferenceIdeal := by
  intro m ρ m' ρ' _ agree
  refine ⟨fun c => fun y => Cert.GateXGradIdeal.Value.grad m c (y 0) (y 1), ?_, ?_⟩
  · exact (θ_run Cert.GateXGradIdeal.defs _ _).mono (fun _ h c => ⟨(h c).1.trans (Cert.GateXGradIdeal.Value.array5 m c), (h c).2⟩)
      (Cert.GateXGradIdeal.Value.run_blocks m ρ)
  · refine (θ_run Cert.GateXGradReferenceIdeal.defs _ _).mono (fun _ h c => ?_) (Cert.GateXGradReferenceIdeal.Value.run (F := Ideal) m' ρ')
    obtain ⟨e0, e1, e2, e3, e4⟩ := agree c
    refine ⟨(h c).1.trans ((Cert.GateXGradReferenceIdeal.Read.val_main_v17_eq _ _ _ _ _).trans (funext fun y => ?_)), (h c).2⟩
    rw [eq_ix2 y, e0, e1, e2, e3, e4]
    exact Cert.GateXGradReferenceIdeal.Stage.total_value _ _ _ _ _ (y 0) (y 1)

end Cert.Proof.GateXGrad

end
-- ==== Proof.LruGates.lean ====
/-
  The RG-LRU's gates: a grid point multiplies a tile of 512 rows of one group of 640 channels by the group's two weights,
  adds the biases and takes the logistic function. Channel by channel it is what the reference states.
-/
module

public import proofs.«01_k».proof.Defs
public import proofs.«01_k».proof.Proof.Gate
public import proofs.«01_k».proof.Proof.Gen.LruGatesIdeal
public import proofs.«01_k».proof.Proof.Gen.LruGatesIdeal.Frame
public import proofs.«01_k».proof.Proof.Gen.LruGatesIdeal.Value
public import proofs.«01_k».proof.Proof.Gen.LruGatesReferenceIdeal
public import proofs.«01_k».proof.Proof.Gen.LruGatesReferenceIdeal.Run
public import proofs.«01_k».proof.Proof.Gen.LruGatesReferenceIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.LruGatesIdeal.Value

open Cert.Gate Cert.LruGatesIdeal Cert.LruGatesIdeal.Gen Idealize.ShloMosaic Idealize.ShloMosaic.TcCoe Idealize.SL.Sem

/-- Channel `a` of group `g`. -/
def chan (g : Fin 4) (a : Fin 640) : Fin 2560 := ⟨g.val * 640 + a.val, by omega⟩

/-- A channel's group, and its place in the group. -/
def group (e : Fin 2560) : Fin 4 := ⟨e.val / 640, by omega⟩
def place (e : Fin 2560) : Fin 640 := ⟨e.val % 640, by omega⟩

theorem group_chan (g : Fin 4) (a : Fin 640) : group (chan g a) = g := Fin.ext (by simp only [group, chan]; omega)
theorem place_chan (g : Fin 4) (a : Fin 640) : place (chan g a) = a := Fin.ext (by simp only [place, chan]; omega)

/-- A gate at position `s` and channel `e`: the logistic function of the product within the group, and the bias. -/
def opened (X : S2048x2560.Idx → EReal) (W : S4x640x640.Idx → EReal) (B : S1x2560.Idx → EReal) (s : Fin 2048) (e : Fin 2560) : EReal :=
  gate ((∑ k : Fin 640, X (ix2 s (chan (group e) k)) * W (ix3 (group e) k (place e))) + B (ix2 (0 : Fin 1) e))

theorem pay2_apply (X : Vec Ideal S512x640 .f32) (W : Vec Ideal S1x640x640 .f32) (B : Vec Ideal S1x640 .f32) (i : Fin 512) (a : Fin 640) :
    k0_pay2 X W B (ix2 i a) = gate ((∑ k : Fin 640, X (ix2 i k) * W (ix3 (0 : Fin 1) k a)) + B (ix2 (0 : Fin 1) a)) := by
  unfold k0_pay2 k0_pay1 gate
  pointwise
  simp only [zero_sub]

theorem pay3_apply (X : Vec Ideal S512x640 .f32) (W : Vec Ideal S1x640x640 .f32) (B : Vec Ideal S1x640 .f32) (i : Fin 512) (a : Fin 640) :
    k0_pay3 X W B (ix2 i a) = gate ((∑ k : Fin 640, X (ix2 i k) * W (ix3 (0 : Fin 1) k a)) + B (ix2 (0 : Fin 1) a)) := by
  unfold k0_pay3 k0_pay1 gate
  pointwise
  simp only [zero_sub]

theorem hz : (![0, 0] : Fin 2 → ℕ) = fun _ => 0 := funext fun a => by fin_cases a <;> rfl
theorem hz3 : (![0, 0, 0] : Fin 3 → ℕ) = fun _ => 0 := funext fun a => by fin_cases a <;> rfl

/-- The one covering store leaves the payload of the three whole loads. -/
theorem left5 (X : Vec Ideal S512x640 .f32) (W Y : Vec Ideal S1x640x640 .f32) (B E : Vec Ideal S1x640 .f32) : out0_5 X W Y B E = k0_pay2 X W B := by
  unfold out0_5
  rw [View.canon_unit_zero hz]
  simp only [View.ld_unit_zero (S := S512x640) hz, View.ld_unit_zero (S := S1x640x640) hz3, View.ld_unit_zero (S := S1x640) hz]

/-- The one covering store leaves the payload of the three whole loads. -/
theorem left6 (X : Vec Ideal S512x640 .f32) (W Y : Vec Ideal S1x640x640 .f32) (B E : Vec Ideal S1x640 .f32) : out0_6 X W Y B E = k0_pay3 X Y E := by
  unfold out0_6
  rw [View.canon_unit_zero hz]
  simp only [View.ld_unit_zero (S := S512x640) hz, View.ld_unit_zero (S := S1x640x640) hz3, View.ld_unit_zero (S := S1x640) hz]

/-! ### The blocks -/

theorem index0 : ∀ t : Fin cfg0.N, win0_0.index t = ![t.val % 4, t.val / 4] := by decide +kernel
theorem index5 : ∀ t : Fin cfg0.N, win0_5.index t = ![t.val % 4, t.val / 4] := by decide +kernel
theorem index6 : ∀ t : Fin cfg0.N, win0_6.index t = ![t.val % 4, t.val / 4] := by decide +kernel
theorem index1 : ∀ t : Fin cfg0.N, win0_1.index t = ![t.val / 4, 0, 0] := by decide +kernel
theorem index2 : ∀ t : Fin cfg0.N, win0_2.index t = ![t.val / 4, 0, 0] := by decide +kernel
theorem index3 : ∀ t : Fin cfg0.N, win0_3.index t = ![0, t.val / 4] := by decide +kernel
theorem index4 : ∀ t : Fin cfg0.N, win0_4.index t = ![0, t.val / 4] := by decide +kernel

variable (m : (ℓ : Loc nD τ sig) → Buf (Elt Ideal) ℓ) (c : Dev nD)

/-- The group and the rows of a grid point. -/
def groupOf (t : Fin cfg0.N) : Fin 4 := ⟨t.val / 4, by have := t.isLt; have e : cfg0.N = 16 := N_0; omega⟩
def row (t : Fin cfg0.N) (i : Fin 512) : Fin 2048 := ⟨t.val % 4 * 512 + i.val, by omega⟩

theorem block0 (t : Fin cfg0.N) (i : Fin 512) (a : Fin 640) : iblk m c 0 t (ix2 i a) = m ((c : Thread nD τ).loc main_arg0) (ix2 (row t i) (chan (groupOf t) a)) := by
  have h : V m c main_arg0 (ix2 (row t i) (chan (groupOf t) a)) = m ((c : Thread nD τ).loc main_arg0) (ix2 (row t i) (chan (groupOf t) a)) := by
    unfold V
    after_reads_at
  refine Eq.trans ?_ h
  blk_ext [iblk, index0 t] <;> simp [index0 t, chan, groupOf, row]

theorem block1 (t : Fin cfg0.N) (a k : Fin 640) : iblk m c 1 t (ix3 (0 : Fin 1) a k) = m ((c : Thread nD τ).loc main_arg1) (ix3 (groupOf t) a k) := by
  have h : V m c main_arg1 (ix3 (groupOf t) a k) = m ((c : Thread nD τ).loc main_arg1) (ix3 (groupOf t) a k) := by
    unfold V
    after_reads_at
  refine Eq.trans ?_ h
  blk_ext [iblk, index1 t] <;> simp [index1 t, groupOf]

theorem block2 (t : Fin cfg0.N) (a k : Fin 640) : iblk m c 2 t (ix3 (0 : Fin 1) a k) = m ((c : Thread nD τ).loc main_arg2) (ix3 (groupOf t) a k) := by
  have h : V m c main_arg2 (ix3 (groupOf t) a k) = m ((c : Thread nD τ).loc main_arg2) (ix3 (groupOf t) a k) := by
    unfold V
    after_reads_at
  refine Eq.trans ?_ h
  blk_ext [iblk, index2 t] <;> simp [index2 t, groupOf]

theorem block3 (t : Fin cfg0.N) (a : Fin 640) : iblk m c 3 t (ix2 (0 : Fin 1) a) = m ((c : Thread nD τ).loc main_arg3) (ix2 (0 : Fin 1) (chan (groupOf t) a)) := by
  have h : V m c main_arg3 (ix2 (0 : Fin 1) (chan (groupOf t) a)) = m ((c : Thread nD τ).loc main_arg3) (ix2 (0 : Fin 1) (chan (groupOf t) a)) := by
    unfold V
    after_reads_at
  refine Eq.trans ?_ h
  blk_ext [iblk, index3 t] <;> simp [index3 t, chan, groupOf]

theorem block4 (t : Fin cfg0.N) (a : Fin 640) : iblk m c 4 t (ix2 (0 : Fin 1) a) = m ((c : Thread nD τ).loc main_arg4) (ix2 (0 : Fin 1) (chan (groupOf t) a)) := by
  have h : V m c main_arg4 (ix2 (0 : Fin 1) (chan (groupOf t) a)) = m ((c : Thread nD τ).loc main_arg4) (ix2 (0 : Fin 1) (chan (groupOf t) a)) := by
    unfold V
    after_reads_at
  refine Eq.trans ?_ h
  blk_ext [iblk, index4 t] <;> simp [index4 t, chan, groupOf]

/-- The gate of the recurrence, at position `s` and channel `e`. -/
def recur (s : Fin 2048) (e : Fin 2560) : EReal := opened (m ((c : Thread nD τ).loc main_arg0)) (m ((c : Thread nD τ).loc main_arg1)) (m ((c : Thread nD τ).loc main_arg3)) s e

theorem value5 (t : Fin cfg0.N) (i : Fin 512) (a : Fin 640) :
    k0_pay2 (iblk m c 0 t) (iblk m c 1 t) (iblk m c 3 t) (ix2 i a) = recur m c (row t i) (chan (groupOf t) a) := by
  refine (pay2_apply (iblk m c 0 t) (iblk m c 1 t) (iblk m c 3 t) i a).trans ?_
  unfold recur opened
  rw [group_chan, place_chan]
  exact congrArg gate (congrArg₂ (fun p q : EReal => p + q)
    (Finset.sum_congr rfl fun k _ => congrArg₂ (fun p q : EReal => p * q) (block0 m c t i k) (block1 m c t k a)) (block3 m c t a))

/-- The array after the run. -/
theorem array5 : (dats m 0 c).arrAt 5 cfg0.N = fun y => recur m c (y 0) (y 1) := by
  refine (dats m 0 c).arrAt_eq_of_covers 5 _ (by decide +kernel) fun t hf y => ?_
  rw [after0_5, left5]
  obtain ⟨i, a, rfl⟩ : ∃ (i : Fin 512) (a : Fin 640), y = ix2 i a := ⟨y 0, y 1, eq_ix2 y⟩
  have e : (win0_5.blk t).view.emb (ix2 i a) = ix2 (row t i) (chan (groupOf t) a) := by
    blk_ext [index5 t] <;> simp [index5 t, chan, groupOf, row]
  refine (value5 m c t i a).trans ?_
  blk_simp
  rw [e]
  rfl

/-- The gate of the input, at position `s` and channel `e`. -/
def input (s : Fin 2048) (e : Fin 2560) : EReal := opened (m ((c : Thread nD τ).loc main_arg0)) (m ((c : Thread nD τ).loc main_arg2)) (m ((c : Thread nD τ).loc main_arg4)) s e

theorem value6 (t : Fin cfg0.N) (i : Fin 512) (a : Fin 640) :
    k0_pay3 (iblk m c 0 t) (iblk m c 2 t) (iblk m c 4 t) (ix2 i a) = input m c (row t i) (chan (groupOf t) a) := by
  refine (pay3_apply (iblk m c 0 t) (iblk m c 2 t) (iblk m c 4 t) i a).trans ?_
  unfold input opened
  rw [group_chan, place_chan]
  exact congrArg gate (congrArg₂ (fun p q : EReal => p + q)
    (Finset.sum_congr rfl fun k _ => congrArg₂ (fun p q : EReal => p * q) (block0 m c t i k) (block2 m c t k a)) (block4 m c t a))

/-- The array after the run. -/
theorem array6 : (dats m 0 c).arrAt 6 cfg0.N = fun y => input m c (y 0) (y 1) := by
  refine (dats m 0 c).arrAt_eq_of_covers 6 _ (by decide +kernel) fun t hf y => ?_
  rw [after0_6, left6]
  obtain ⟨i, a, rfl⟩ : ∃ (i : Fin 512) (a : Fin 640), y = ix2 i a := ⟨y 0, y 1, eq_ix2 y⟩
  have e : (win0_6.blk t).view.emb (ix2 i a) = ix2 (row t i) (chan (groupOf t) a) := by
    blk_ext [index6 t] <;> simp [index6 t, chan, groupOf, row]
  refine (value6 m c t i a).trans ?_
  blk_simp
  rw [e]
  rfl

end Cert.LruGatesIdeal.Value

namespace Cert.LruGatesReferenceIdeal.Stage

open Cert.Gate Cert.LruGatesIdeal.Value Cert.LruGatesReferenceIdeal Cert.LruGatesReferenceIdeal.Gen Cert.LruGatesReferenceIdeal.Read Idealize.ShloMosaic

theorem at_row (s : Fin 2048) (e : Fin 2560) : (s.val * 2560 + e.val) / 2560 = s.val := by omega
theorem at_group (s : Fin 2048) (e : Fin 2560) : (s.val * 2560 + e.val) / 640 % 4 = e.val / 640 := by omega
theorem at_place (s : Fin 2048) (e : Fin 2560) : (s.val * 2560 + e.val) % 640 = e.val % 640 := by omega
theorem of_row (s : Fin 2048) (g : Fin 4) (k : Fin 640) : ((s.val * 4 + g.val) * 640 + k.val) / 2560 = s.val := by omega
theorem of_chan (s : Fin 2048) (g : Fin 4) (k : Fin 640) : ((s.val * 4 + g.val) * 640 + k.val) % 2560 = g.val * 640 + k.val := by omega

theorem product5 (x0 : (⟨S2048x2560, .f32⟩ : BufTy).Contents (Elt Ideal)) (x1 : (⟨S4x640x640, .f32⟩ : BufTy).Contents (Elt Ideal)) (s : Fin 2048) (e : Fin 2560) :
    val_main_v5 (F := Ideal) x0 x1 (ix2 s e) = ∑ k : Fin 640, x0 (ix2 s (chan (group e) k)) * x1 (ix3 (group e) k (place e)) := by
  have split : idx_main_v5 (ix2 s e) = ix3 s (group e) (place e) :=
    funext fun a => by fin_cases a; exacts [Fin.ext (at_row s e), Fin.ext (at_group s e), Fin.ext (at_place s e)]
  rw [val_main_v5_apply, split, val_main_v2_apply, val_main_v1_apply]
  refine Finset.sum_congr rfl fun k _ => ?_
  rw [mul_comm, val_main_v0_apply]
  exact congrArg₂ (fun p q : EReal => p * q)
    (congrArg x0 (funext fun a => by fin_cases a; exacts [Fin.ext (of_row s (group e) k), Fin.ext (of_chan s (group e) k)]))
    (congrArg x1 (funext fun a => by fin_cases a <;> rfl))

theorem gate14 (x0 : (⟨S2048x2560, .f32⟩ : BufTy).Contents (Elt Ideal)) (x1 : (⟨S4x640x640, .f32⟩ : BufTy).Contents (Elt Ideal)) (x3 : (⟨S1x2560, .f32⟩ : BufTy).Contents (Elt Ideal)) (s : Fin 2048) (e : Fin 2560) :
    val_main_v14 (F := Ideal) x0 x1 x3 (ix2 s e) = opened x0 x1 x3 s e := by
  unfold opened
  rw [← product5]
  generalize hp : val_main_v5 (F := Ideal) x0 x1 = P
  unfold val_main_v14 val_main_v13 val_main_v12 val_main_v11 val_main_v10 val_main_v9 val_main_v8 val_main_v7 val_main_cst val_main_cst_0 gate
  rw [hp]
  pointwise

theorem product6 (x0 : (⟨S2048x2560, .f32⟩ : BufTy).Contents (Elt Ideal)) (x2 : (⟨S4x640x640, .f32⟩ : BufTy).Contents (Elt Ideal)) (s : Fin 2048) (e : Fin 2560) :
    val_main_v6 (F := Ideal) x0 x2 (ix2 s e) = ∑ k : Fin 640, x0 (ix2 s (chan (group e) k)) * x2 (ix3 (group e) k (place e)) := by
  have split : idx_main_v6 (ix2 s e) = ix3 s (group e) (place e) :=
    funext fun a => by fin_cases a; exacts [Fin.ext (at_row s e), Fin.ext (at_group s e), Fin.ext (at_place s e)]
  rw [val_main_v6_apply, split, val_main_v4_apply, val_main_v3_apply]
  refine Finset.sum_congr rfl fun k _ => ?_
  rw [mul_comm, val_main_v0_apply]
  exact congrArg₂ (fun p q : EReal => p * q)
    (congrArg x0 (funext fun a => by fin_cases a; exacts [Fin.ext (of_row s (group e) k), Fin.ext (of_chan s (group e) k)]))
    (congrArg x2 (funext fun a => by fin_cases a <;> rfl))

theorem gate22 (x0 : (⟨S2048x2560, .f32⟩ : BufTy).Contents (Elt Ideal)) (x2 : (⟨S4x640x640, .f32⟩ : BufTy).Contents (Elt Ideal)) (x4 : (⟨S1x2560, .f32⟩ : BufTy).Contents (Elt Ideal)) (s : Fin 2048) (e : Fin 2560) :
    val_main_v22 (F := Ideal) x0 x2 x4 (ix2 s e) = opened x0 x2 x4 s e := by
  unfold opened
  rw [← product6]
  generalize hp : val_main_v6 (F := Ideal) x0 x2 = P
  unfold val_main_v22 val_main_v21 val_main_v20 val_main_v19 val_main_v18 val_main_v17 val_main_v16 val_main_v15 val_main_cst_1 val_main_cst_2 gate
  rw [hp]
  pointwise

end Cert.LruGatesReferenceIdeal.Stage

namespace Cert.Proof.LruGates

open Idealize.ShloMosaic Idealize.ShloMosaic.TcCoe Idealize.SL.Sem

/-- The reference runs, leaves its arguments as they were, and declares no semaphore. -/
theorem frame_reference : Cert.quiescent_LruGatesReferenceIdeal := by
  intro m ρ _
  exact (θ_run Cert.LruGatesReferenceIdeal.defs _ _).mono (fun r h => ⟨fun c => (h c).2.2,
      Idealize.ShloMosaic.sem_eq_zero_of_no_sems (by decide) r.2⟩)
    (Cert.LruGatesReferenceIdeal.Value.run (F := Ideal) m ρ)

/-- The kernel and the reference compute the same two gates, of any arguments. -/
theorem algebraic : Cert.algebraic_LruGatesIdeal_LruGatesReferenceIdeal := by
  intro m ρ m' ρ' _ agree
  refine ⟨fun c => fun y => Cert.LruGatesIdeal.Value.recur m c (y 0) (y 1), fun c => fun y => Cert.LruGatesIdeal.Value.input m c (y 0) (y 1), ?_, ?_⟩
  · exact (θ_run Cert.LruGatesIdeal.defs _ _).mono (fun _ h c => ⟨(h c).1.trans (Cert.LruGatesIdeal.Value.array5 m c),
        (h c).2.1.trans (Cert.LruGatesIdeal.Value.array6 m c), (h c).2.2⟩)
      (Cert.LruGatesIdeal.Value.run_blocks m ρ)
  · refine (θ_run Cert.LruGatesReferenceIdeal.defs _ _).mono (fun _ h c => ?_) (Cert.LruGatesReferenceIdeal.Value.run (F := Ideal) m' ρ')
    obtain ⟨e0, e1, e2, e3, e4⟩ := agree c
    refine ⟨(h c).1.trans ((Cert.LruGatesReferenceIdeal.Read.val_main_v14_eq _ _ _).trans (funext fun y => ?_)),
      (h c).2.1.trans ((Cert.LruGatesReferenceIdeal.Read.val_main_v22_eq _ _ _).trans (funext fun y => ?_)), (h c).2.2⟩
    · rw [eq_ix2 y, e0, e1, e3]
      exact Cert.LruGatesReferenceIdeal.Stage.gate14 _ _ _ (y 0) (y 1)
    · rw [eq_ix2 y, e0, e2, e4]
      exact Cert.LruGatesReferenceIdeal.Stage.gate22 _ _ _ (y 0) (y 1)

end Cert.Proof.LruGates

end
-- ==== Proof.AdamW.lean ====
/-
  The AdamW step of the RG-LRU's gate weights: a grid point updates two blocks of 160 by 160, element by element, and each
  element is updated as the reference says.
-/
module

public import proofs.«01_k».proof.Defs
public import proofs.«01_k».proof.Proof.Gen.AdamWIdeal
public import proofs.«01_k».proof.Proof.Gen.AdamWIdeal.Frame
public import proofs.«01_k».proof.Proof.Gen.AdamWIdeal.Value
public import proofs.«01_k».proof.Proof.Gen.AdamWReferenceIdeal
public import proofs.«01_k».proof.Proof.Gen.AdamWReferenceIdeal.Run
public import proofs.«01_k».proof.Proof.Gen.AdamWReferenceIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.AdamWIdeal.Value

open Cert.AdamWIdeal Cert.AdamWIdeal.Gen Idealize.ShloMosaic Idealize.ShloMosaic.TcCoe Idealize.SL.Sem

/-- A constant of the step, as the f32 number that it is. -/
def lit (b : BitVec 32) : EReal := Scalar.ofBits (F := Ideal) .f32 b

/-- The first moment: 0.9 of the old one and 0.1 of the gradient. -/
def first (m g : EReal) : EReal := lit 0x3F666666#32 * m + lit 0x3DCCCCCD#32 * g

/-- The second moment: 0.999 of the old one and 0.001 of the gradient's square. -/
def second (v g : EReal) : EReal := lit 0x3F7FBE77#32 * v + lit 0x3A83126F#32 * (g * g)

/-- The change of the weight, from the two moments without their bias, and the decay. -/
def change (w m v g : EReal) : EReal :=
  lit 0xBA83126F#32 * (Ideal.div (Ideal.div (first m g) (lit 0x3F26BD02#32)) (Ideal.sqrt (Ideal.div (second v g) (lit 0x3C231ACC#32)) + lit 0x322BCC77#32)
    + lit 0x3C23D70A#32 * w)

theorem pay1_apply (G M : Vec Ideal S1x2x160x160 .f32) (y : S1x2x160x160.Idx) : k0_pay1 G M y = first (M y) (G y) := rfl

theorem pay2_apply (G V : Vec Ideal S1x2x160x160 .f32) (y : S1x2x160x160.Idx) : k0_pay2 G V y = second (V y) (G y) := rfl

theorem pay3_apply (W G M V : Vec Ideal S1x2x160x160 .f32) (y : S1x2x160x160.Idx) : k0_pay3 W G M V y = change (W y) (M y) (V y) (G y) := rfl

theorem hz : (![0, 0, 0, 0] : Fin 4 → ℕ) = fun _ => 0 := funext fun a => by fin_cases a <;> rfl

theorem left4 (W M V G : Vec Ideal S1x2x160x160 .f32) : out0_4 W M V G = k0_pay3 W G M V := by
  unfold out0_4
  rw [View.canon_unit_zero hz]
  simp only [View.ld_unit_zero (S := S1x2x160x160) hz]

theorem left5 (W M V G : Vec Ideal S1x2x160x160 .f32) : out0_5 W M V G = k0_pay1 G M := by
  unfold out0_5
  rw [View.canon_unit_zero hz]
  simp only [View.ld_unit_zero (S := S1x2x160x160) hz]

theorem left6 (W M V G : Vec Ideal S1x2x160x160 .f32) : out0_6 W M V G = k0_pay2 G V := by
  unfold out0_6
  rw [View.canon_unit_zero hz]
  simp only [View.ld_unit_zero (S := S1x2x160x160) hz]

/-! ### The blocks -/

theorem index0 : ∀ t : Fin cfg0.N, win0_0.index t = ![0, t.val, 0, 0] := by decide +kernel
theorem index1 : ∀ t : Fin cfg0.N, win0_1.index t = ![0, t.val, 0, 0] := by decide +kernel
theorem index2 : ∀ t : Fin cfg0.N, win0_2.index t = ![0, t.val, 0, 0] := by decide +kernel
theorem index3 : ∀ t : Fin cfg0.N, win0_3.index t = ![0, t.val, 0, 0] := by decide +kernel
theorem index4 : ∀ t : Fin cfg0.N, win0_4.index t = ![0, t.val, 0, 0] := by decide +kernel
theorem index5 : ∀ t : Fin cfg0.N, win0_5.index t = ![0, t.val, 0, 0] := by decide +kernel
theorem index6 : ∀ t : Fin cfg0.N, win0_6.index t = ![0, t.val, 0, 0] := by decide +kernel

variable (m : (ℓ : Loc nD τ sig) → Buf (Elt Ideal) ℓ) (c : Dev nD)

/-- Block `n` of the two of a grid point, among the sixteen. -/
def blockOf (t : Fin cfg0.N) (n : Fin 2) : Fin 16 := ⟨t.val * 2 + n.val, by have := t.isLt; have e : cfg0.N = 8 := N_0; omega⟩

theorem block0 (t : Fin cfg0.N) (n : Fin 2) (p q : Fin 160) : iblk m c 0 t (ix4 (0 : Fin 1) n p q) = m ((c : Thread nD τ).loc main_arg0) (ix4 (0 : Fin 1) (blockOf t n) p q) := by
  have h : V m c main_arg0 (ix4 (0 : Fin 1) (blockOf t n) p q) = m ((c : Thread nD τ).loc main_arg0) (ix4 (0 : Fin 1) (blockOf t n) p q) := by
    unfold V
    after_reads_at
  refine Eq.trans ?_ h
  blk_ext [iblk, index0 t] <;> simp [index0 t, blockOf]

theorem block1 (t : Fin cfg0.N) (n : Fin 2) (p q : Fin 160) : iblk m c 1 t (ix4 (0 : Fin 1) n p q) = m ((c : Thread nD τ).loc main_arg1) (ix4 (0 : Fin 1) (blockOf t n) p q) := by
  have h : V m c main_arg1 (ix4 (0 : Fin 1) (blockOf t n) p q) = m ((c : Thread nD τ).loc main_arg1) (ix4 (0 : Fin 1) (blockOf t n) p q) := by
    unfold V
    after_reads_at
  refine Eq.trans ?_ h
  blk_ext [iblk, index1 t] <;> simp [index1 t, blockOf]

theorem block2 (t : Fin cfg0.N) (n : Fin 2) (p q : Fin 160) : iblk m c 2 t (ix4 (0 : Fin 1) n p q) = m ((c : Thread nD τ).loc main_arg2) (ix4 (0 : Fin 1) (blockOf t n) p q) := by
  have h : V m c main_arg2 (ix4 (0 : Fin 1) (blockOf t n) p q) = m ((c : Thread nD τ).loc main_arg2) (ix4 (0 : Fin 1) (blockOf t n) p q) := by
    unfold V
    after_reads_at
  refine Eq.trans ?_ h
  blk_ext [iblk, index2 t] <;> simp [index2 t, blockOf]

theorem block3 (t : Fin cfg0.N) (n : Fin 2) (p q : Fin 160) : iblk m c 3 t (ix4 (0 : Fin 1) n p q) = m ((c : Thread nD τ).loc main_arg3) (ix4 (0 : Fin 1) (blockOf t n) p q) := by
  have h : V m c main_arg3 (ix4 (0 : Fin 1) (blockOf t n) p q) = m ((c : Thread nD τ).loc main_arg3) (ix4 (0 : Fin 1) (blockOf t n) p q) := by
    unfold V
    after_reads_at
  refine Eq.trans ?_ h
  blk_ext [iblk, index3 t] <;> simp [index3 t, blockOf]

/-- The change of the weights, element by element. -/
def delta (y : S1x16x160x160.Idx) : EReal := change (m ((c : Thread nD τ).loc main_arg0) y) (m ((c : Thread nD τ).loc main_arg1) y) (m ((c : Thread nD τ).loc main_arg2) y) (m ((c : Thread nD τ).loc main_arg3) y)

theorem array4 : (dats m 0 c).arrAt 4 cfg0.N = delta m c := by
  refine (dats m 0 c).arrAt_eq_of_covers 4 _ (by decide +kernel) fun t hf y => ?_
  rw [after0_4, left4]
  obtain ⟨z, n, p, q, rfl⟩ : ∃ (z : Fin 1) (n : Fin 2) (p q : Fin 160), y = ix4 z n p q := ⟨y 0, y 1, y 2, y 3, eq_ix4 y⟩
  obtain rfl : z = 0 := Subsingleton.elim _ _
  have e : (win0_4.blk t).view.emb (ix4 (0 : Fin 1) n p q) = ix4 (0 : Fin 1) (blockOf t n) p q := by
    blk_ext [index4 t] <;> simp [index4 t, blockOf]
  refine (pay3_apply (iblk m c 0 t) (iblk m c 3 t) (iblk m c 1 t) (iblk m c 2 t) (ix4 (0 : Fin 1) n p q)).trans ?_
  rw [block0, block1, block2, block3]
  blk_simp
  rw [e]
  rfl

/-- The new first moment, element by element. -/
def moment1 (y : S1x16x160x160.Idx) : EReal := first (m ((c : Thread nD τ).loc main_arg1) y) (m ((c : Thread nD τ).loc main_arg3) y)

theorem array5 : (dats m 0 c).arrAt 5 cfg0.N = moment1 m c := by
  refine (dats m 0 c).arrAt_eq_of_covers 5 _ (by decide +kernel) fun t hf y => ?_
  rw [after0_5, left5]
  obtain ⟨z, n, p, q, rfl⟩ : ∃ (z : Fin 1) (n : Fin 2) (p q : Fin 160), y = ix4 z n p q := ⟨y 0, y 1, y 2, y 3, eq_ix4 y⟩
  obtain rfl : z = 0 := Subsingleton.elim _ _
  have e : (win0_5.blk t).view.emb (ix4 (0 : Fin 1) n p q) = ix4 (0 : Fin 1) (blockOf t n) p q := by
    blk_ext [index5 t] <;> simp [index5 t, blockOf]
  refine (pay1_apply (iblk m c 3 t) (iblk m c 1 t) (ix4 (0 : Fin 1) n p q)).trans ?_
  rw [block1, block3]
  blk_simp
  rw [e]
  rfl

/-- The new second moment, element by element. -/
def moment2 (y : S1x16x160x160.Idx) : EReal := second (m ((c : Thread nD τ).loc main_arg2) y) (m ((c : Thread nD τ).loc main_arg3) y)

theorem array6 : (dats m 0 c).arrAt 6 cfg0.N = moment2 m c := by
  refine (dats m 0 c).arrAt_eq_of_covers 6 _ (by decide +kernel) fun t hf y => ?_
  rw [after0_6, left6]
  obtain ⟨z, n, p, q, rfl⟩ : ∃ (z : Fin 1) (n : Fin 2) (p q : Fin 160), y = ix4 z n p q := ⟨y 0, y 1, y 2, y 3, eq_ix4 y⟩
  obtain rfl : z = 0 := Subsingleton.elim _ _
  have e : (win0_6.blk t).view.emb (ix4 (0 : Fin 1) n p q) = ix4 (0 : Fin 1) (blockOf t n) p q := by
    blk_ext [index6 t] <;> simp [index6 t, blockOf]
  refine (pay2_apply (iblk m c 3 t) (iblk m c 2 t) (ix4 (0 : Fin 1) n p q)).trans ?_
  rw [block2, block3]
  blk_simp
  rw [e]
  rfl

end Cert.AdamWIdeal.Value

namespace Cert.AdamWReferenceIdeal.Stage

open Cert.AdamWIdeal.Value Cert.AdamWReferenceIdeal Cert.AdamWReferenceIdeal.Gen Cert.AdamWReferenceIdeal.Read Idealize.ShloMosaic

variable (x0 x1 x2 x3 : (⟨S1x16x160x160, .f32⟩ : BufTy).Contents (Elt Ideal)) (y : S1x16x160x160.Idx)

theorem first_value : val_main_v4 (F := Ideal) x1 x3 y = first (x1 y) (x3 y) := rfl

theorem second_value : val_main_v10 (F := Ideal) x2 x3 y = second (x2 y) (x3 y) := rfl

theorem change_value : val_main_v23 (F := Ideal) x0 x1 x2 x3 y = change (x0 y) (x1 y) (x2 y) (x3 y) := rfl

end Cert.AdamWReferenceIdeal.Stage

namespace Cert.Proof.AdamW

open Idealize.ShloMosaic Idealize.ShloMosaic.TcCoe Idealize.SL.Sem

/-- The reference runs, leaves its arguments as they were, and declares no semaphore. -/
theorem frame_reference : Cert.quiescent_AdamWReferenceIdeal := by
  intro m ρ _
  exact (θ_run Cert.AdamWReferenceIdeal.defs _ _).mono (fun r h => ⟨fun c => (h c).2.2.2,
      Idealize.ShloMosaic.sem_eq_zero_of_no_sems (by decide) r.2⟩)
    (Cert.AdamWReferenceIdeal.Value.run (F := Ideal) m ρ)

/-- The kernel and the reference leave the same change and the same two moments, of any arguments. -/
theorem algebraic : Cert.algebraic_AdamWIdeal_AdamWReferenceIdeal := by
  intro m ρ m' ρ' _ agree
  refine ⟨fun c => Cert.AdamWIdeal.Value.delta m c, fun c => Cert.AdamWIdeal.Value.moment1 m c, fun c => Cert.AdamWIdeal.Value.moment2 m c, ?_, ?_⟩
  · exact (θ_run Cert.AdamWIdeal.defs _ _).mono (fun _ h c => ⟨(h c).1.trans (Cert.AdamWIdeal.Value.array4 m c),
        (h c).2.1.trans (Cert.AdamWIdeal.Value.array5 m c), (h c).2.2.1.trans (Cert.AdamWIdeal.Value.array6 m c), (h c).2.2.2⟩)
      (Cert.AdamWIdeal.Value.run_blocks m ρ)
  · refine (θ_run Cert.AdamWReferenceIdeal.defs _ _).mono (fun _ h c => ?_) (Cert.AdamWReferenceIdeal.Value.run (F := Ideal) m' ρ')
    obtain ⟨e0, e1, e2, e3⟩ := agree c
    refine ⟨(h c).1.trans ((Cert.AdamWReferenceIdeal.Read.val_main_v23_eq _ _ _ _).trans (funext fun y => ?_)),
      (h c).2.1.trans ((Cert.AdamWReferenceIdeal.Read.val_main_v4_eq _ _).trans (funext fun y => ?_)),
      (h c).2.2.1.trans ((Cert.AdamWReferenceIdeal.Read.val_main_v10_eq _ _).trans (funext fun y => ?_)), (h c).2.2.2⟩
    · rw [e0, e1, e2, e3]
      exact Cert.AdamWReferenceIdeal.Stage.change_value _ _ _ _ y
    · rw [e1, e3]
      exact Cert.AdamWReferenceIdeal.Stage.first_value _ _ y
    · rw [e2, e3]
      exact Cert.AdamWReferenceIdeal.Stage.second_value _ _ y

end Cert.Proof.AdamW

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame.Runs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame.Runs
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.KernelFrame
public import proofs.«01_k».proof.Proof.Arrays
public import proofs.«01_k».proof.Proof.RefRun
public import proofs.«01_k».proof.Proof.Finite
public import proofs.«01_k».proof.Proof.Down
public import proofs.«01_k».proof.Proof.DownGrad
public import proofs.«01_k».proof.Proof.OutGrad
public import proofs.«01_k».proof.Proof.MixGrad
public import proofs.«01_k».proof.Proof.RnnProjGrad
public import proofs.«01_k».proof.Proof.AttnOutGrad
public import proofs.«01_k».proof.Proof.RnnOutGrad
public import proofs.«01_k».proof.Proof.GateWGrad
public import proofs.«01_k».proof.Proof.Proj
public import proofs.«01_k».proof.Proof.AttnOut
public import proofs.«01_k».proof.Proof.RnnOut
public import proofs.«01_k».proof.Proof.MixOut
public import proofs.«01_k».proof.Proof.Up
public import proofs.«01_k».proof.Proof.FinGrad
public import proofs.«01_k».proof.Proof.UpGrad
public import proofs.«01_k».proof.Proof.AttnProjGrad
public import proofs.«01_k».proof.Proof.InGrad
public import proofs.«01_k».proof.Proof.UpInGrad
public import proofs.«01_k».proof.Proof.GateInGrad
public import proofs.«01_k».proof.Proof.XGrad
public import proofs.«01_k».proof.Proof.Gen.NormGrad
public import proofs.«01_k».proof.Proof.Gen.NormGrad.Frame
public import proofs.«01_k».proof.Proof.Gen.NormGrad.Value
public import proofs.«01_k».proof.Proof.Gen.NormGradIdeal
public import proofs.«01_k».proof.Proof.Gen.NormGradIdeal.Frame
public import proofs.«01_k».proof.Proof.Gen.NormGradIdeal.Value
public import proofs.«01_k».proof.Proof.Gen.NormGradReferenceIdeal
public import proofs.«01_k».proof.Proof.Gen.NormGradReferenceIdeal.Run
public import proofs.«01_k».proof.Proof.Gen.NormGradReferenceIdeal.Read
public import proofs.«01_k».proof.Proof.Gen.Pre_finite_norm
public import proofs.«01_k».proof.Proof.Gen.GateGrad
public import proofs.«01_k».proof.Proof.Gen.GateGrad.Frame
public import proofs.«01_k».proof.Proof.Gen.GateGrad.Value
public import proofs.«01_k».proof.Proof.Gen.GateGradIdeal
public import proofs.«01_k».proof.Proof.Gen.GateGradIdeal.Frame
public import proofs.«01_k».proof.Proof.Gen.GateGradIdeal.Value
public import proofs.«01_k».proof.Proof.Gen.GateGradReferenceIdeal
public import proofs.«01_k».proof.Proof.Gen.GateGradReferenceIdeal.Run
public import proofs.«01_k».proof.Proof.Gen.GateGradReferenceIdeal.Read
public import proofs.«01_k».proof.Proof.Gen.AdamW
public import proofs.«01_k».proof.Proof.Gen.AdamW.Frame
public import proofs.«01_k».proof.Proof.Gen.AdamW.Value
public import proofs.«01_k».proof.Proof.Gen.AdamWIdeal
public import proofs.«01_k».proof.Proof.Gen.AdamWIdeal.Frame
public import proofs.«01_k».proof.Proof.Gen.AdamWIdeal.Value
public import proofs.«01_k».proof.Proof.Gen.AdamWReferenceIdeal
public import proofs.«01_k».proof.Proof.Gen.AdamWReferenceIdeal.Run
public import proofs.«01_k».proof.Proof.Gen.AdamWReferenceIdeal.Read
public import proofs.«01_k».proof.Proof.Gen.LruGates
public import proofs.«01_k».proof.Proof.Gen.LruGates.Frame
public import proofs.«01_k».proof.Proof.Gen.LruGates.Value
public import proofs.«01_k».proof.Proof.Gen.LruGatesIdeal
public import proofs.«01_k».proof.Proof.Gen.LruGatesIdeal.Frame
public import proofs.«01_k».proof.Proof.Gen.LruGatesIdeal.Value
public import proofs.«01_k».proof.Proof.Gen.LruGatesReferenceIdeal
public import proofs.«01_k».proof.Proof.Gen.LruGatesReferenceIdeal.Run
public import proofs.«01_k».proof.Proof.Gen.LruGatesReferenceIdeal.Read
public import proofs.«01_k».proof.Proof.Gen.GateXGrad
public import proofs.«01_k».proof.Proof.Gen.GateXGrad.Frame
public import proofs.«01_k».proof.Proof.Gen.GateXGrad.Value
public import proofs.«01_k».proof.Proof.Gen.GateXGradIdeal
public import proofs.«01_k».proof.Proof.Gen.GateXGradIdeal.Frame
public import proofs.«01_k».proof.Proof.Gen.GateXGradIdeal.Value
public import proofs.«01_k».proof.Proof.Gen.GateXGradReferenceIdeal
public import proofs.«01_k».proof.Proof.Gen.GateXGradReferenceIdeal.Run
public import proofs.«01_k».proof.Proof.Gen.GateXGradReferenceIdeal.Read
public import proofs.«01_k».proof.Proof.Gen.GateFwd
public import proofs.«01_k».proof.Proof.Gen.GateFwd.Frame
public import proofs.«01_k».proof.Proof.Gen.GateFwd.Value
public import proofs.«01_k».proof.Proof.Gen.GateFwdIdeal
public import proofs.«01_k».proof.Proof.Gen.GateFwdIdeal.Frame
public import proofs.«01_k».proof.Proof.Gen.GateFwdIdeal.Value
public import proofs.«01_k».proof.Proof.Gen.GateFwdReferenceIdeal
public import proofs.«01_k».proof.Proof.Gen.GateFwdReferenceIdeal.Run
public import proofs.«01_k».proof.Proof.Gen.GateFwdReferenceIdeal.Read
public import proofs.«01_k».proof.Proof.Gen.NormFwd
public import proofs.«01_k».proof.Proof.Gen.NormFwd.Frame
public import proofs.«01_k».proof.Proof.Gen.NormFwd.Value
public import proofs.«01_k».proof.Proof.Gen.NormFwdIdeal
public import proofs.«01_k».proof.Proof.Gen.NormFwdIdeal.Frame
public import proofs.«01_k».proof.Proof.Gen.NormFwdIdeal.Value
public import proofs.«01_k».proof.Proof.Gen.NormFwdReferenceIdeal
public import proofs.«01_k».proof.Proof.Gen.NormFwdReferenceIdeal.Run
public import proofs.«01_k».proof.Proof.Gen.NormFwdReferenceIdeal.Read
public import proofs.«01_k».proof.Proof.Gen.NormBwd
public import proofs.«01_k».proof.Proof.Gen.NormBwd.Frame
public import proofs.«01_k».proof.Proof.Gen.NormBwd.Value
public import proofs.«01_k».proof.Proof.Gen.NormBwdIdeal
public import proofs.«01_k».proof.Proof.Gen.NormBwdIdeal.Frame
public import proofs.«01_k».proof.Proof.Gen.NormBwdIdeal.Value
public import proofs.«01_k».proof.Proof.Gen.NormBwdReferenceIdeal
public import proofs.«01_k».proof.Proof.Gen.NormBwdReferenceIdeal.Run
public import proofs.«01_k».proof.Proof.Gen.NormBwdReferenceIdeal.Read
public import proofs.«01_k».proof.Proof.Gen.Pre_finite_inner
public import proofs.«01_k».proof.Proof.NormGrad
public import proofs.«01_k».proof.Proof.GateGrad
public import proofs.«01_k».proof.Proof.NormFwd
public import proofs.«01_k».proof.Proof.NormBwd
public import proofs.«01_k».proof.Proof.GateFwd
public import proofs.«01_k».proof.Proof.GateXGrad
public import proofs.«01_k».proof.Proof.LruGates
public import proofs.«01_k».proof.Proof.AdamW
public import proofs.«01_k».proof.Proof.Gen.Down
public import proofs.«01_k».proof.Proof.Gen.Down.Frame
public import proofs.«01_k».proof.Proof.Gen.Down.Value
public import proofs.«01_k».proof.Proof.Gen.DownIdeal
public import proofs.«01_k».proof.Proof.Gen.DownIdeal.Frame
public import proofs.«01_k».proof.Proof.Gen.DownIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.DownGrad
public import proofs.«01_k».proof.Proof.Gen.DownGrad.Frame
public import proofs.«01_k».proof.Proof.Gen.DownGrad.Value
public import proofs.«01_k».proof.Proof.Gen.DownGradIdeal
public import proofs.«01_k».proof.Proof.Gen.DownGradIdeal.Frame
public import proofs.«01_k».proof.Proof.Gen.DownGradIdeal.Value
public import proofs.«01_k».proof.Proof.Gen.DownGradReferenceIdeal
public import proofs.«01_k».proof.Proof.Gen.DownGradReferenceIdeal.Run
public import proofs.«01_k».proof.Proof.Gen.DownGradReferenceIdeal.Read
public import proofs.«01_k».proof.Proof.Gen.OutGrad
public import proofs.«01_k».proof.Proof.Gen.OutGrad.Frame
public import proofs.«01_k».proof.Proof.Gen.OutGrad.Value
public import proofs.«01_k».proof.Proof.Gen.OutGradIdeal
public import proofs.«01_k».proof.Proof.Gen.OutGradIdeal.Frame
public import proofs.«01_k».proof.Proof.Gen.OutGradIdeal.Value
public import proofs.«01_k».proof.Proof.Gen.OutGradReferenceIdeal
public import proofs.«01_k».proof.Proof.Gen.OutGradReferenceIdeal.Run
public import proofs.«01_k».proof.Proof.Gen.OutGradReferenceIdeal.Read
public import proofs.«01_k».proof.Proof.Gen.MixGrad
public import proofs.«01_k».proof.Proof.Gen.MixGrad.Frame
public import proofs.«01_k».proof.Proof.Gen.MixGrad.Value
public import proofs.«01_k».proof.Proof.Gen.MixGradIdeal
public import proofs.«01_k».proof.Proof.Gen.MixGradIdeal.Frame
public import proofs.«01_k».proof.Proof.Gen.MixGradIdeal.Value
public import proofs.«01_k».proof.Proof.Gen.MixGradReferenceIdeal
public import proofs.«01_k».proof.Proof.Gen.MixGradReferenceIdeal.Run
public import proofs.«01_k».proof.Proof.Gen.MixGradReferenceIdeal.Read
public import proofs.«01_k».proof.Proof.Gen.RnnProjGrad
public import proofs.«01_k».proof.Proof.Gen.RnnProjGrad.Frame
public import proofs.«01_k».proof.Proof.Gen.RnnProjGrad.Value
public import proofs.«01_k».proof.Proof.Gen.RnnProjGradIdeal
public import proofs.«01_k».proof.Proof.Gen.RnnProjGradIdeal.Frame
public import proofs.«01_k».proof.Proof.Gen.RnnProjGradIdeal.Value
public import proofs.«01_k».proof.Proof.Gen.RnnProjGradReferenceIdeal
public import proofs.«01_k».proof.Proof.Gen.RnnProjGradReferenceIdeal.Run
public import proofs.«01_k».proof.Proof.Gen.RnnProjGradReferenceIdeal.Read
public import proofs.«01_k».proof.Proof.Gen.AttnOutGrad
public import proofs.«01_k».proof.Proof.Gen.AttnOutGrad.Frame
public import proofs.«01_k».proof.Proof.Gen.AttnOutGrad.Value
public import proofs.«01_k».proof.Proof.Gen.AttnOutGradIdeal
public import proofs.«01_k».proof.Proof.Gen.AttnOutGradIdeal.Frame
public import proofs.«01_k».proof.Proof.Gen.AttnOutGradIdeal.Value
public import proofs.«01_k».proof.Proof.Gen.AttnOutGradReferenceIdeal
public import proofs.«01_k».proof.Proof.Gen.AttnOutGradReferenceIdeal.Run
public import proofs.«01_k».proof.Proof.Gen.AttnOutGradReferenceIdeal.Read
public import proofs.«01_k».proof.Proof.Gen.RnnOutGrad
public import proofs.«01_k».proof.Proof.Gen.RnnOutGrad.Frame
public import proofs.«01_k».proof.Proof.Gen.RnnOutGrad.Value
public import proofs.«01_k».proof.Proof.Gen.RnnOutGradIdeal
public import proofs.«01_k».proof.Proof.Gen.RnnOutGradIdeal.Frame
public import proofs.«01_k».proof.Proof.Gen.RnnOutGradIdeal.Value
public import proofs.«01_k».proof.Proof.Gen.RnnOutGradReferenceIdeal
public import proofs.«01_k».proof.Proof.Gen.RnnOutGradReferenceIdeal.Run
public import proofs.«01_k».proof.Proof.Gen.RnnOutGradReferenceIdeal.Read
public import proofs.«01_k».proof.Proof.Gen.GateWGrad
public import proofs.«01_k».proof.Proof.Gen.GateWGrad.Frame
public import proofs.«01_k».proof.Proof.Gen.GateWGradIdeal
public import proofs.«01_k».proof.Proof.Gen.GateWGradIdeal.Frame
public import proofs.«01_k».proof.Proof.Gen.GateWGradReferenceIdeal
public import proofs.«01_k».proof.Proof.Gen.GateWGradReferenceIdeal.Run
public import proofs.«01_k».proof.Proof.Gen.GateWGradReferenceIdeal.Read
public import proofs.«01_k».proof.Proof.Gen.Proj
public import proofs.«01_k».proof.Proof.Gen.Proj.Frame
public import proofs.«01_k».proof.Proof.Gen.Proj.Value
public import proofs.«01_k».proof.Proof.Gen.ProjIdeal
public import proofs.«01_k».proof.Proof.Gen.ProjIdeal.Frame
public import proofs.«01_k».proof.Proof.Gen.ProjIdeal.Value
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Gen.AttnOut
public import proofs.«01_k».proof.Proof.Gen.AttnOut.Frame
public import proofs.«01_k».proof.Proof.Gen.AttnOut.Value
public import proofs.«01_k».proof.Proof.Gen.AttnOutIdeal
public import proofs.«01_k».proof.Proof.Gen.AttnOutIdeal.Frame
public import proofs.«01_k».proof.Proof.Gen.AttnOutIdeal.Value
public import proofs.«01_k».proof.Proof.Gen.AttnOutReferenceIdeal
public import proofs.«01_k».proof.Proof.Gen.AttnOutReferenceIdeal.Run
public import proofs.«01_k».proof.Proof.Gen.AttnOutReferenceIdeal.Read
public import proofs.«01_k».proof.Proof.Gen.RnnOut
public import proofs.«01_k».proof.Proof.Gen.RnnOut.Frame
public import proofs.«01_k».proof.Proof.Gen.RnnOut.Value
public import proofs.«01_k».proof.Proof.Gen.RnnOutIdeal
public import proofs.«01_k».proof.Proof.Gen.RnnOutIdeal.Frame
public import proofs.«01_k».proof.Proof.Gen.RnnOutIdeal.Value
public import proofs.«01_k».proof.Proof.Gen.RnnOutReferenceIdeal
public import proofs.«01_k».proof.Proof.Gen.RnnOutReferenceIdeal.Run
public import proofs.«01_k».proof.Proof.Gen.RnnOutReferenceIdeal.Read
public import proofs.«01_k».proof.Proof.Gen.MixOut
public import proofs.«01_k».proof.Proof.Gen.MixOut.Frame
public import proofs.«01_k».proof.Proof.Gen.MixOut.Value
public import proofs.«01_k».proof.Proof.Gen.MixOutIdeal
public import proofs.«01_k».proof.Proof.Gen.MixOutIdeal.Frame
public import proofs.«01_k».proof.Proof.Gen.MixOutIdeal.Value
public import proofs.«01_k».proof.Proof.Gen.MixOutReferenceIdeal
public import proofs.«01_k».proof.Proof.Gen.MixOutReferenceIdeal.Run
public import proofs.«01_k».proof.Proof.Gen.MixOutReferenceIdeal.Read
public import proofs.«01_k».proof.Proof.Gen.Up
public import proofs.«01_k».proof.Proof.Gen.Up.Frame
public import proofs.«01_k».proof.Proof.Gen.Up.Value
public import proofs.«01_k».proof.Proof.Gen.UpIdeal
public import proofs.«01_k».proof.Proof.Gen.UpIdeal.Frame
public import proofs.«01_k».proof.Proof.Gen.UpIdeal.Value
public import proofs.«01_k».proof.Proof.Gen.UpReferenceIdeal
public import proofs.«01_k».proof.Proof.Gen.UpReferenceIdeal.Run
public import proofs.«01_k».proof.Proof.Gen.UpReferenceIdeal.Read
public import proofs.«01_k».proof.Proof.Gen.FinGrad
public import proofs.«01_k».proof.Proof.Gen.FinGrad.Frame
public import proofs.«01_k».proof.Proof.Gen.FinGrad.Value
public import proofs.«01_k».proof.Proof.Gen.FinGradIdeal
public import proofs.«01_k».proof.Proof.Gen.FinGradIdeal.Frame
public import proofs.«01_k».proof.Proof.Gen.FinGradIdeal.Value
public import proofs.«01_k».proof.Proof.Gen.FinGradReferenceIdeal
public import proofs.«01_k».proof.Proof.Gen.FinGradReferenceIdeal.Run
public import proofs.«01_k».proof.Proof.Gen.FinGradReferenceIdeal.Read
public import proofs.«01_k».proof.Proof.Gen.UpGrad
public import proofs.«01_k».proof.Proof.Gen.UpGrad.Frame
public import proofs.«01_k».proof.Proof.Gen.UpGrad.Value
public import proofs.«01_k».proof.Proof.Gen.UpGradIdeal
public import proofs.«01_k».proof.Proof.Gen.UpGradIdeal.Frame
public import proofs.«01_k».proof.Proof.Gen.UpGradIdeal.Value
public import proofs.«01_k».proof.Proof.Gen.UpGradReferenceIdeal
public import proofs.«01_k».proof.Proof.Gen.UpGradReferenceIdeal.Run
public import proofs.«01_k».proof.Proof.Gen.UpGradReferenceIdeal.Read
public import proofs.«01_k».proof.Proof.Gen.AttnProjGrad
public import proofs.«01_k».proof.Proof.Gen.AttnProjGrad.Frame
public import proofs.«01_k».proof.Proof.Gen.AttnProjGrad.Value
public import proofs.«01_k».proof.Proof.Gen.AttnProjGradIdeal
public import proofs.«01_k».proof.Proof.Gen.AttnProjGradIdeal.Frame
public import proofs.«01_k».proof.Proof.Gen.AttnProjGradIdeal.Value
public import proofs.«01_k».proof.Proof.Gen.AttnProjGradReferenceIdeal
public import proofs.«01_k».proof.Proof.Gen.AttnProjGradReferenceIdeal.Run
public import proofs.«01_k».proof.Proof.Gen.AttnProjGradReferenceIdeal.Read
public import proofs.«01_k».proof.Proof.Gen.InGrad
public import proofs.«01_k».proof.Proof.Gen.InGrad.Frame
public import proofs.«01_k».proof.Proof.Gen.InGrad.Value
public import proofs.«01_k».proof.Proof.Gen.InGradIdeal
public import proofs.«01_k».proof.Proof.Gen.InGradIdeal.Frame
public import proofs.«01_k».proof.Proof.Gen.InGradIdeal.Value
public import proofs.«01_k».proof.Proof.Gen.InGradReferenceIdeal
public import proofs.«01_k».proof.Proof.Gen.InGradReferenceIdeal.Run
public import proofs.«01_k».proof.Proof.Gen.InGradReferenceIdeal.Read
public import proofs.«01_k».proof.Proof.Gen.UpInGrad
public import proofs.«01_k».proof.Proof.Gen.UpInGrad.Frame
public import proofs.«01_k».proof.Proof.Gen.UpInGrad.Value
public import proofs.«01_k».proof.Proof.Gen.UpInGradIdeal
public import proofs.«01_k».proof.Proof.Gen.UpInGradIdeal.Frame
public import proofs.«01_k».proof.Proof.Gen.UpInGradIdeal.Value
public import proofs.«01_k».proof.Proof.Gen.UpInGradReferenceIdeal
public import proofs.«01_k».proof.Proof.Gen.UpInGradReferenceIdeal.Run
public import proofs.«01_k».proof.Proof.Gen.UpInGradReferenceIdeal.Read
public import proofs.«01_k».proof.Proof.Gen.GateInGrad
public import proofs.«01_k».proof.Proof.Gen.GateInGrad.Frame
public import proofs.«01_k».proof.Proof.Gen.GateInGrad.Value
public import proofs.«01_k».proof.Proof.Gen.GateInGradIdeal
public import proofs.«01_k».proof.Proof.Gen.GateInGradIdeal.Frame
public import proofs.«01_k».proof.Proof.Gen.GateInGradIdeal.Value
public import proofs.«01_k».proof.Proof.Gen.GateInGradReferenceIdeal
public import proofs.«01_k».proof.Proof.Gen.GateInGradReferenceIdeal.Run
public import proofs.«01_k».proof.Proof.Gen.GateInGradReferenceIdeal.Read
public import proofs.«01_k».proof.Proof.Gen.XGrad
public import proofs.«01_k».proof.Proof.Gen.XGrad.Frame
public import proofs.«01_k».proof.Proof.Gen.XGrad.Value
public import proofs.«01_k».proof.Proof.Gen.XGradIdeal
public import proofs.«01_k».proof.Proof.Gen.XGradIdeal.Frame
public import proofs.«01_k».proof.Proof.Gen.XGradIdeal.Value
public import proofs.«01_k».proof.Proof.Gen.XGradReferenceIdeal
public import proofs.«01_k».proof.Proof.Gen.XGradReferenceIdeal.Run
public import proofs.«01_k».proof.Proof.Gen.XGradReferenceIdeal.Read
public import Idealize.ShloMosaic.Adequacy
public import Idealize.ShloMosaic.Init

@[expose] public section

noncomputable section

namespace Cert.Proof

open Idealize.ShloMosaic Idealize.SL.Sem Cert.Kernel

theorem preserves : Cert.preserves_Kernel_KernelIdeal :=
  ⟨IdealRules.named_const.statement Cert.KernelIdeal.κ "neg_quarter_log2" .f32 0xBE317218#32 (((-(4⁻¹)) * (Real.log 2) : ℝ) : EReal) rfl,
   IdealRules.named_const.statement Cert.KernelIdeal.κ "mask" .f32 0xF149F2CA#32 ⊥ rfl⟩

/-- The reference runs, leaves its arguments as they were, and declares no semaphore. -/
theorem frame_reference : Cert.quiescent_ReferenceIdeal := by
  intro m ρ _
  exact (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- Of finite arguments the kernel and the reference compute the same four gradients. -/
theorem algebraic : Cert.algebraic_KernelIdeal_ReferenceIdeal_pre_finite := by
  intro m ρ m' ρ' pre agree
  let a0 : Dev Cert.KernelIdeal.nD → Fin 2048 → Fin 2048 → ℝ := fun c t e => EReal.toReal (m ((c.tc : Thread Cert.KernelIdeal.nD Cert.KernelIdeal.τ).loc Cert.KernelIdeal.main_arg0) (ix3 (0 : Fin 1) t e))
  let a1 : Dev Cert.KernelIdeal.nD → Fin 2048 → Fin 256 → ℝ := fun c t e => EReal.toReal (m ((c.tc : Thread Cert.KernelIdeal.nD Cert.KernelIdeal.τ).loc Cert.KernelIdeal.main_arg1) (ix3 (0 : Fin 1) t e))
  let a2 : Dev Cert.KernelIdeal.nD → Fin 2048 → Fin 256 → ℝ := fun c t e => EReal.toReal (m ((c.tc : Thread Cert.KernelIdeal.nD Cert.KernelIdeal.τ).loc Cert.KernelIdeal.main_arg2) (ix3 (0 : Fin 1) t e))
  let a3 : Dev Cert.KernelIdeal.nD → Fin 32 → ℝ := fun c e => EReal.toReal (m ((c.tc : Thread Cert.KernelIdeal.nD Cert.KernelIdeal.τ).loc Cert.KernelIdeal.main_arg3) (ix2 (0 : Fin 1) e))
  let a4 : Dev Cert.KernelIdeal.nD → Fin 2048 → Fin 2048 → ℝ := fun c t e => EReal.toReal (m ((c.tc : Thread Cert.KernelIdeal.nD Cert.KernelIdeal.τ).loc Cert.KernelIdeal.main_arg4) (ix3 (0 : Fin 1) t e))
  have H : ∀ c : Dev Cert.KernelIdeal.nD, Cert.KernelIdeal.Prep.Holds m c (a0 c) (a1 c) (a2 c) (a3 c) (a4 c) := by
    intro c
    obtain ⟨h0, h1, h2, h3, h4⟩ := Cert.Pre_finite.Read.reals _ _ _ _ _ (congrFun (pre c) ix0)
    exact ⟨fun t e => h0 _, fun t e => h1 _, fun t e => h2 _, fun e => h3 _, fun t e => h4 _⟩
  have H' : ∀ c : Dev Cert.ReferenceIdeal.nD, Cert.ReferenceIdeal.Stage.Holds (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (a0 c) (a1 c) (a2 c) (a3 c) (a4 c) := by
    intro c
    obtain ⟨e0, e1, e2, e3, e4⟩ := agree c
    exact ⟨fun t e => (congrFun e0 _).trans ((H c).h0 t e), fun t e => (congrFun e1 _).trans ((H c).h1 t e), fun t e => (congrFun e2 _).trans ((H c).h2 t e), fun e => (congrFun e3 _).trans ((H c).h3 e), fun t e => (congrFun e4 _).trans ((H c).h4 t e)⟩
  refine ⟨fun c => fun y => (Cert.Attn.resQ (a0 c) (a1 c) (a2 c) (a3 c) (a4 c) (y 0) (y 1) (y 2) (y 3) : EReal),
    fun c => fun y => (Cert.Attn.resK (a0 c) (a1 c) (a2 c) (a3 c) (a4 c) (y 0) (y 1) (y 2) : EReal),
    fun c => fun y => (Cert.Attn.resV (a0 c) (a1 c) (a3 c) (a4 c) (y 0) (y 1) (y 2) : EReal),
    fun c => fun y => (Cert.Attn.resS (a0 c) (a1 c) (a2 c) (a3 c) (a4 c) (y 0) (y 1) : EReal), ?_, ?_⟩
  · exact (θ_run Cert.KernelIdeal.defs _ _).mono (fun _ h c => ⟨(h c).1.trans (Cert.KernelIdeal.Arrays.array_q (H c)),
      (h c).2.1.trans (Cert.KernelIdeal.Arrays.array_k (H c)),
      (h c).2.2.1.trans (Cert.KernelIdeal.Arrays.array_v (H c)),
      (h c).2.2.2.1.trans (Cert.KernelIdeal.Arrays.array_s (H c)),
      (h c).2.2.2.2⟩) (Cert.KernelIdeal.Run.run_blocks m ρ)
  · exact Cert.ReferenceIdeal.Stage.run_results m' ρ' a0 a1 a2 a3 a4 H'

theorem claim : Cert.Claim := ⟨Cert.Kernel.Gen.facts, Cert.KernelIdeal.Gen.facts, Cert.ReferenceIdeal.Gen.facts,
  Cert.Down.Gen.facts, Cert.DownIdeal.Gen.facts, Cert.DownReferenceIdeal.Gen.facts,
  Cert.DownGrad.Gen.facts, Cert.DownGradIdeal.Gen.facts, Cert.DownGradReferenceIdeal.Gen.facts,
  Cert.OutGrad.Gen.facts, Cert.OutGradIdeal.Gen.facts, Cert.OutGradReferenceIdeal.Gen.facts,
  Cert.MixGrad.Gen.facts, Cert.MixGradIdeal.Gen.facts, Cert.MixGradReferenceIdeal.Gen.facts,
  Cert.RnnProjGrad.Gen.facts, Cert.RnnProjGradIdeal.Gen.facts, Cert.RnnProjGradReferenceIdeal.Gen.facts,
  Cert.AttnOutGrad.Gen.facts, Cert.AttnOutGradIdeal.Gen.facts, Cert.AttnOutGradReferenceIdeal.Gen.facts,
  Cert.RnnOutGrad.Gen.facts, Cert.RnnOutGradIdeal.Gen.facts, Cert.RnnOutGradReferenceIdeal.Gen.facts,
  Cert.GateWGrad.Gen.facts, Cert.GateWGradIdeal.Gen.facts, Cert.GateWGradReferenceIdeal.Gen.facts,
  Cert.Proj.Gen.facts, Cert.ProjIdeal.Gen.facts, Cert.ProjReferenceIdeal.Gen.facts,
  Cert.AttnOut.Gen.facts, Cert.AttnOutIdeal.Gen.facts, Cert.AttnOutReferenceIdeal.Gen.facts,
  Cert.RnnOut.Gen.facts, Cert.RnnOutIdeal.Gen.facts, Cert.RnnOutReferenceIdeal.Gen.facts,
  Cert.MixOut.Gen.facts, Cert.MixOutIdeal.Gen.facts, Cert.MixOutReferenceIdeal.Gen.facts,
  Cert.Up.Gen.facts, Cert.UpIdeal.Gen.facts, Cert.UpReferenceIdeal.Gen.facts,
  Cert.FinGrad.Gen.facts, Cert.FinGradIdeal.Gen.facts, Cert.FinGradReferenceIdeal.Gen.facts,
  Cert.UpGrad.Gen.facts, Cert.UpGradIdeal.Gen.facts, Cert.UpGradReferenceIdeal.Gen.facts,
  Cert.AttnProjGrad.Gen.facts, Cert.AttnProjGradIdeal.Gen.facts, Cert.AttnProjGradReferenceIdeal.Gen.facts,
  Cert.InGrad.Gen.facts, Cert.InGradIdeal.Gen.facts, Cert.InGradReferenceIdeal.Gen.facts,
  Cert.UpInGrad.Gen.facts, Cert.UpInGradIdeal.Gen.facts, Cert.UpInGradReferenceIdeal.Gen.facts,
  Cert.GateInGrad.Gen.facts, Cert.GateInGradIdeal.Gen.facts, Cert.GateInGradReferenceIdeal.Gen.facts,
  Cert.XGrad.Gen.facts, Cert.XGradIdeal.Gen.facts, Cert.XGradReferenceIdeal.Gen.facts,
  Cert.NormGrad.Gen.facts, Cert.NormGradIdeal.Gen.facts, Cert.NormGradReferenceIdeal.Gen.facts,
  Cert.GateGrad.Gen.facts, Cert.GateGradIdeal.Gen.facts, Cert.GateGradReferenceIdeal.Gen.facts,
  Cert.NormFwd.Gen.facts, Cert.NormFwdIdeal.Gen.facts, Cert.NormFwdReferenceIdeal.Gen.facts,
  Cert.NormBwd.Gen.facts, Cert.NormBwdIdeal.Gen.facts, Cert.NormBwdReferenceIdeal.Gen.facts,
  Cert.GateFwd.Gen.facts, Cert.GateFwdIdeal.Gen.facts, Cert.GateFwdReferenceIdeal.Gen.facts,
  Cert.GateXGrad.Gen.facts, Cert.GateXGradIdeal.Gen.facts, Cert.GateXGradReferenceIdeal.Gen.facts,
  Cert.LruGates.Gen.facts, Cert.LruGatesIdeal.Gen.facts, Cert.LruGatesReferenceIdeal.Gen.facts,
  Cert.AdamW.Gen.facts, Cert.AdamWIdeal.Gen.facts, Cert.AdamWReferenceIdeal.Gen.facts,
  Cert.Pre_finite.Gen.facts,
  Cert.Pre_finite_norm.Gen.facts,
  Cert.Pre_finite_inner.Gen.facts,
  fun m ρ _ => Cert.Kernel.Frame.frame m ρ, fun m ρ _ => Cert.KernelIdeal.Run.frame m ρ, fun m ρ _ => Cert.KernelIdeal.Run.frame m ρ,
  frame_reference, fun m ρ _ => frame_reference m ρ trivial,
  fun m ρ _ => Cert.Down.Gen.frame m ρ, fun m ρ _ => Cert.DownIdeal.Gen.frame m ρ, Cert.Proof.Down.frame_reference,
  fun m ρ _ => Cert.DownGrad.Gen.frame m ρ, fun m ρ _ => Cert.DownGradIdeal.Gen.frame m ρ, Cert.Proof.DownGrad.frame_reference,
  fun m ρ _ => Cert.OutGrad.Gen.frame m ρ, fun m ρ _ => Cert.OutGradIdeal.Gen.frame m ρ, Cert.Proof.OutGrad.frame_reference,
  fun m ρ _ => Cert.MixGrad.Gen.frame m ρ, fun m ρ _ => Cert.MixGradIdeal.Gen.frame m ρ, Cert.Proof.MixGrad.frame_reference,
  fun m ρ _ => Cert.RnnProjGrad.Gen.frame m ρ, fun m ρ _ => Cert.RnnProjGradIdeal.Gen.frame m ρ, Cert.Proof.RnnProjGrad.frame_reference,
  fun m ρ _ => Cert.AttnOutGrad.Gen.frame m ρ, fun m ρ _ => Cert.AttnOutGradIdeal.Gen.frame m ρ, Cert.Proof.AttnOutGrad.frame_reference,
  fun m ρ _ => Cert.RnnOutGrad.Gen.frame m ρ, fun m ρ _ => Cert.RnnOutGradIdeal.Gen.frame m ρ, Cert.Proof.RnnOutGrad.frame_reference,
  fun m ρ _ => Cert.GateWGrad.Gen.frame m ρ, fun m ρ _ => Cert.GateWGradIdeal.Gen.frame m ρ, Cert.Proof.GateWGrad.frame_reference,
  fun m ρ _ => Cert.Proj.Gen.frame m ρ, fun m ρ _ => Cert.ProjIdeal.Gen.frame m ρ, Cert.Proof.Proj.frame_reference,
  fun m ρ _ => Cert.AttnOut.Gen.frame m ρ, fun m ρ _ => Cert.AttnOutIdeal.Gen.frame m ρ, Cert.Proof.AttnOut.frame_reference,
  fun m ρ _ => Cert.RnnOut.Gen.frame m ρ, fun m ρ _ => Cert.RnnOutIdeal.Gen.frame m ρ, Cert.Proof.RnnOut.frame_reference,
  fun m ρ _ => Cert.MixOut.Gen.frame m ρ, fun m ρ _ => Cert.MixOutIdeal.Gen.frame m ρ, Cert.Proof.MixOut.frame_reference,
  fun m ρ _ => Cert.Up.Gen.frame m ρ, fun m ρ _ => Cert.UpIdeal.Gen.frame m ρ, Cert.Proof.Up.frame_reference,
  fun m ρ _ => Cert.FinGrad.Gen.frame m ρ, fun m ρ _ => Cert.FinGradIdeal.Gen.frame m ρ, Cert.Proof.FinGrad.frame_reference,
  fun m ρ _ => Cert.UpGrad.Gen.frame m ρ, fun m ρ _ => Cert.UpGradIdeal.Gen.frame m ρ, Cert.Proof.UpGrad.frame_reference,
  fun m ρ _ => Cert.AttnProjGrad.Gen.frame m ρ, fun m ρ _ => Cert.AttnProjGradIdeal.Gen.frame m ρ, Cert.Proof.AttnProjGrad.frame_reference,
  fun m ρ _ => Cert.InGrad.Gen.frame m ρ, fun m ρ _ => Cert.InGradIdeal.Gen.frame m ρ, Cert.Proof.InGrad.frame_reference,
  fun m ρ _ => Cert.UpInGrad.Gen.frame m ρ, fun m ρ _ => Cert.UpInGradIdeal.Gen.frame m ρ, Cert.Proof.UpInGrad.frame_reference,
  fun m ρ _ => Cert.GateInGrad.Gen.frame m ρ, fun m ρ _ => Cert.GateInGradIdeal.Gen.frame m ρ, Cert.Proof.GateInGrad.frame_reference,
  fun m ρ _ => Cert.XGrad.Gen.frame m ρ, fun m ρ _ => Cert.XGradIdeal.Gen.frame m ρ, Cert.Proof.XGrad.frame_reference,
  fun m ρ _ => Cert.NormGrad.Gen.frame m ρ, fun m ρ _ => Cert.NormGradIdeal.Gen.frame m ρ, fun m ρ _ => Cert.NormGradIdeal.Gen.frame m ρ, Cert.Proof.NormGrad.frame_reference, fun m ρ _ => Cert.Proof.NormGrad.frame_reference m ρ trivial,
  fun m ρ _ => Cert.GateGrad.Gen.frame m ρ, fun m ρ _ => Cert.GateGradIdeal.Gen.frame m ρ, Cert.Proof.GateGrad.frame_reference,
  fun m ρ _ => Cert.NormFwd.Gen.frame m ρ, fun m ρ _ => Cert.NormFwdIdeal.Gen.frame m ρ, Cert.Proof.NormFwd.frame_reference,
  fun m ρ _ => Cert.NormBwd.Gen.frame m ρ, fun m ρ _ => Cert.NormBwdIdeal.Gen.frame m ρ, fun m ρ _ => Cert.NormBwdIdeal.Gen.frame m ρ, Cert.Proof.NormBwd.frame_reference, fun m ρ _ => Cert.Proof.NormBwd.frame_reference m ρ trivial,
  fun m ρ _ => Cert.GateFwd.Gen.frame m ρ, fun m ρ _ => Cert.GateFwdIdeal.Gen.frame m ρ, Cert.Proof.GateFwd.frame_reference,
  fun m ρ _ => Cert.GateXGrad.Gen.frame m ρ, fun m ρ _ => Cert.GateXGradIdeal.Gen.frame m ρ, Cert.Proof.GateXGrad.frame_reference,
  fun m ρ _ => Cert.LruGates.Gen.frame m ρ, fun m ρ _ => Cert.LruGatesIdeal.Gen.frame m ρ, Cert.Proof.LruGates.frame_reference,
  fun m ρ _ => Cert.AdamW.Gen.frame m ρ, fun m ρ _ => Cert.AdamWIdeal.Gen.frame m ρ, Cert.Proof.AdamW.frame_reference,
  preserves, algebraic,
  trivial, Cert.Proof.Down.algebraic,
  trivial, Cert.Proof.DownGrad.algebraic,
  trivial, Cert.Proof.OutGrad.algebraic,
  trivial, Cert.Proof.MixGrad.algebraic,
  trivial, Cert.Proof.RnnProjGrad.algebraic,
  trivial, Cert.Proof.AttnOutGrad.algebraic,
  trivial, Cert.Proof.RnnOutGrad.algebraic,
  trivial, Cert.Proof.GateWGrad.algebraic,
  trivial, Cert.Proof.Proj.algebraic,
  trivial, Cert.Proof.AttnOut.algebraic,
  trivial, Cert.Proof.RnnOut.algebraic,
  trivial, Cert.Proof.MixOut.algebraic,
  trivial, Cert.Proof.Up.algebraic,
  trivial, Cert.Proof.FinGrad.algebraic,
  trivial, Cert.Proof.UpGrad.algebraic,
  trivial, Cert.Proof.AttnProjGrad.algebraic,
  trivial, Cert.Proof.InGrad.algebraic,
  trivial, Cert.Proof.UpInGrad.algebraic,
  trivial, Cert.Proof.GateInGrad.algebraic,
  trivial, Cert.Proof.XGrad.algebraic,
  trivial, Cert.Proof.NormGrad.algebraic,
  trivial, Cert.Proof.GateGrad.algebraic,
  trivial, Cert.Proof.NormFwd.algebraic,
  trivial, Cert.Proof.NormBwd.algebraic,
  trivial, Cert.Proof.GateFwd.algebraic,
  trivial, Cert.Proof.GateXGrad.algebraic,
  trivial, Cert.Proof.LruGates.algebraic,
  trivial, Cert.Proof.AdamW.algebraic⟩

end Cert.Proof

end
